-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_Ffn3RefIdeal (m : (ℓ : Loc Cert.Ffn3RefIdeal.nD Cert.Ffn3RefIdeal.τ Cert.Ffn3RefIdeal.sig) → Buf (Elt Ideal) ℓ) : Prop :=
  True

def Pre_Fwd0 (m : (ℓ : Loc Cert.Fwd0.nD Cert.Fwd0.τ Cert.Fwd0.sig) → Buf (Elt Bits) ℓ) : Prop :=
  True

def Pre_Fwd0Ideal (m : (ℓ : Loc Cert.Fwd0Ideal.nD Cert.Fwd0Ideal.τ Cert.Fwd0Ideal.sig) → Buf (Elt Ideal) ℓ) : Prop :=
  True

def Pre_Fwd0RefIdeal (m : (ℓ : Loc Cert.Fwd0RefIdeal.nD Cert.Fwd0RefIdeal.τ Cert.Fwd0RefIdeal.sig) → Buf (Elt Ideal) ℓ) : Prop :=
  True

def Pre_Fwd1 (m : (ℓ : Loc Cert.Fwd1.nD Cert.Fwd1.τ Cert.Fwd1.sig) → Buf (Elt Bits) ℓ) : Prop :=
  True

def Pre_Fwd1Ideal (m : (ℓ : Loc Cert.Fwd1Ideal.nD Cert.Fwd1Ideal.τ Cert.Fwd1Ideal.sig) → Buf (Elt Ideal) ℓ) : Prop :=
  True

def Pre_Fwd1RefIdeal (m : (ℓ : Loc Cert.Fwd1RefIdeal.nD Cert.Fwd1RefIdeal.τ Cert.Fwd1RefIdeal.sig) → Buf (Elt Ideal) ℓ) : Prop :=
  True

def Pre_Fwd2 (m : (ℓ : Loc Cert.Fwd2.nD Cert.Fwd2.τ Cert.Fwd2.sig) → Buf (Elt Bits) ℓ) : Prop :=
  True

def Pre_Fwd2Ideal (m : (ℓ : Loc Cert.Fwd2Ideal.nD Cert.Fwd2Ideal.τ Cert.Fwd2Ideal.sig) → Buf (Elt Ideal) ℓ) : Prop :=
  True

def Pre_Fwd2RefIdeal (m : (ℓ : Loc Cert.Fwd2RefIdeal.nD Cert.Fwd2RefIdeal.τ Cert.Fwd2RefIdeal.sig) → Buf (Elt Ideal) ℓ) : Prop :=
  True

def Pre_Fwd3 (m : (ℓ : Loc Cert.Fwd3.nD Cert.Fwd3.τ Cert.Fwd3.sig) → Buf (Elt Bits) ℓ) : Prop :=
  True

def Pre_Fwd3Ideal (m : (ℓ : Loc Cert.Fwd3Ideal.nD Cert.Fwd3Ideal.τ Cert.Fwd3Ideal.sig) → Buf (Elt Ideal) ℓ) : Prop :=
  True

def Pre_Fwd3RefIdeal (m : (ℓ : Loc Cert.Fwd3RefIdeal.nD Cert.Fwd3RefIdeal.τ Cert.Fwd3RefIdeal.sig) → Buf (Elt Ideal) ℓ) : Prop :=
  True

def Pre_Conv0 (m : (ℓ : Loc Cert.Conv0.nD Cert.Conv0.τ Cert.Conv0.sig) → Buf (Elt Bits) ℓ) : Prop :=
  True

def Pre_Conv0Ideal (m : (ℓ : Loc Cert.Conv0Ideal.nD Cert.Conv0Ideal.τ Cert.Conv0Ideal.sig) → Buf (Elt Ideal) ℓ) : Prop :=
  True

def Pre_Conv0RefIdeal (m : (ℓ : Loc Cert.Conv0RefIdeal.nD Cert.Conv0RefIdeal.τ Cert.Conv0RefIdeal.sig) → Buf (Elt Ideal) ℓ) : Prop :=
  True

def Pre_Mix0 (m : (ℓ : Loc Cert.Mix0.nD Cert.Mix0.τ Cert.Mix0.sig) → Buf (Elt Bits) ℓ) : Prop :=
  True

def Pre_Mix0Ideal (m : (ℓ : Loc Cert.Mix0Ideal.nD Cert.Mix0Ideal.τ Cert.Mix0Ideal.sig) → Buf (Elt Ideal) ℓ) : Prop :=
  True

def Pre_Mix0RefIdeal (m : (ℓ : Loc Cert.Mix0RefIdeal.nD Cert.Mix0RefIdeal.τ Cert.Mix0RefIdeal.sig) → Buf (Elt Ideal) ℓ) : Prop :=
  True

def Pre_Mix3 (m : (ℓ : Loc Cert.Mix3.nD Cert.Mix3.τ Cert.Mix3.sig) → Buf (Elt Bits) ℓ) : Prop :=
  True

def Pre_Mix3Ideal (m : (ℓ : Loc Cert.Mix3Ideal.nD Cert.Mix3Ideal.τ Cert.Mix3Ideal.sig) → Buf (Elt Ideal) ℓ) : Prop :=
  True

def Pre_Mix3RefIdeal (m : (ℓ : Loc Cert.Mix3RefIdeal.nD Cert.Mix3RefIdeal.τ Cert.Mix3RefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1)
      ∧ r.2.mem ((c.tc : Thread Cert.GateIn.nD Cert.GateIn.τ).loc Cert.GateIn.main_arg2) = m ((c.tc : Thread Cert.GateIn.nD Cert.GateIn.τ).loc Cert.GateIn.main_arg2))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
      ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1)
      ∧ r.2.mem ((c.tc : Thread Cert.GateInRefIdeal.nD Cert.GateInRefIdeal.τ).loc Cert.GateInRefIdeal.main_arg2) = m ((c.tc : Thread Cert.GateInRefIdeal.nD Cert.GateInRefIdeal.τ).loc Cert.GateInRefIdeal.main_arg2))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1)
      ∧ r.2.mem ((c.tc : Thread Cert.Square.nD Cert.Square.τ).loc Cert.Square.main_arg2) = m ((c.tc : Thread Cert.Square.nD Cert.Square.τ).loc Cert.Square.main_arg2))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
      ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1)
      ∧ r.2.mem ((c.tc : Thread Cert.SquareRefIdeal.nD Cert.SquareRefIdeal.τ).loc Cert.SquareRefIdeal.main_arg2) = m ((c.tc : Thread Cert.SquareRefIdeal.nD Cert.SquareRefIdeal.τ).loc Cert.SquareRefIdeal.main_arg2))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5)
      ∧ r.2.mem ((c.tc : Thread Cert.Ffn0RefIdeal.nD Cert.Ffn0RefIdeal.τ).loc Cert.Ffn0RefIdeal.main_arg6) = m ((c.tc : Thread Cert.Ffn0RefIdeal.nD Cert.Ffn0RefIdeal.τ).loc Cert.Ffn0RefIdeal.main_arg6))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3)
      ∧ r.2.mem ((c.tc : Thread Cert.Ffn3.nD Cert.Ffn3.τ).loc Cert.Ffn3.main_arg4) = m ((c.tc : Thread Cert.Ffn3.nD Cert.Ffn3.τ).loc Cert.Ffn3.main_arg4)
      ∧ r.2.mem ((c.tc : Thread Cert.Ffn3.nD Cert.Ffn3.τ).loc Cert.Ffn3.main_arg5) = m ((c.tc : Thread Cert.Ffn3.nD Cert.Ffn3.τ).loc Cert.Ffn3.main_arg5)
      ∧ r.2.mem ((c.tc : Thread Cert.Ffn3.nD Cert.Ffn3.τ).loc Cert.Ffn3.main_arg6) = m ((c.tc : Thread Cert.Ffn3.nD Cert.Ffn3.τ).loc Cert.Ffn3.main_arg6))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
      ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
      ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
      ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6))
      ∧ r.2.sem = fun _ => 0)

def quiescent_Ffn3RefIdeal [hFfn3RefIdeal : Cert.Ffn3RefIdeal.Facts] : Prop :=
  ∀ (m : (ℓ : Loc Cert.Ffn3RefIdeal.nD Cert.Ffn3RefIdeal.τ Cert.Ffn3RefIdeal.sig) → Buf (Elt Ideal) ℓ) (g : Dev Cert.Ffn3RefIdeal.nD → PrngReg), Pre_Ffn3RefIdeal m →
    θ_run (Cert.Ffn3RefIdeal.defs (F := Ideal)) (onTc (τ := Cert.Ffn3RefIdeal.τ) (Cert.Ffn3RefIdeal.main (F := Ideal))) ⟨m, fun _ => 0, g⟩ (fun r => (∀ c : Dev Cert.Ffn3RefIdeal.nD,
      r.2.mem ((c.tc : Thread Cert.Ffn3RefIdeal.nD Cert.Ffn3RefIdeal.τ).loc Cert.Ffn3RefIdeal.main_arg0) = m ((c.tc : Thread Cert.Ffn3RefIdeal.nD Cert.Ffn3RefIdeal.τ).loc Cert.Ffn3RefIdeal.main_arg0)
      ∧ r.2.mem ((c.tc : Thread Cert.Ffn3RefIdeal.nD Cert.Ffn3RefIdeal.τ).loc Cert.Ffn3RefIdeal.main_arg1) = m ((c.tc : Thread Cert.Ffn3RefIdeal.nD Cert.Ffn3RefIdeal.τ).loc Cert.Ffn3RefIdeal.main_arg1)
      ∧ r.2.mem ((c.tc : Thread Cert.Ffn3RefIdeal.nD Cert.Ffn3RefIdeal.τ).loc Cert.Ffn3RefIdeal.main_arg2) = m ((c.tc : Thread Cert.Ffn3RefIdeal.nD Cert.Ffn3RefIdeal.τ).loc Cert.Ffn3RefIdeal.main_arg2)
      ∧ r.2.mem ((c.tc : Thread Cert.Ffn3RefIdeal.nD Cert.Ffn3RefIdeal.τ).loc Cert.Ffn3RefIdeal.main_arg3) = m ((c.tc : Thread Cert.Ffn3RefIdeal.nD Cert.Ffn3RefIdeal.τ).loc Cert.Ffn3RefIdeal.main_arg3)
      ∧ r.2.mem ((c.tc : Thread Cert.Ffn3RefIdeal.nD Cert.Ffn3RefIdeal.τ).loc Cert.Ffn3RefIdeal.main_arg4) = m ((c.tc : Thread Cert.Ffn3RefIdeal.nD Cert.Ffn3RefIdeal.τ).loc Cert.Ffn3RefIdeal.main_arg4)
      ∧ r.2.mem ((c.tc : Thread Cert.Ffn3RefIdeal.nD Cert.Ffn3RefIdeal.τ).loc Cert.Ffn3RefIdeal.main_arg5) = m ((c.tc : Thread Cert.Ffn3RefIdeal.nD Cert.Ffn3RefIdeal.τ).loc Cert.Ffn3RefIdeal.main_arg5)
      ∧ r.2.mem ((c.tc : Thread Cert.Ffn3RefIdeal.nD Cert.Ffn3RefIdeal.τ).loc Cert.Ffn3RefIdeal.main_arg6) = m ((c.tc : Thread Cert.Ffn3RefIdeal.nD Cert.Ffn3RefIdeal.τ).loc Cert.Ffn3RefIdeal.main_arg6))
      ∧ r.2.sem = fun _ => 0)

def quiescent_Fwd0 [hFwd0 : Cert.Fwd0.Facts] : Prop :=
  ∀ (m : (ℓ : Loc Cert.Fwd0.nD Cert.Fwd0.τ Cert.Fwd0.sig) → Buf (Elt Bits) ℓ) (g : Dev Cert.Fwd0.nD → PrngReg), Pre_Fwd0 m →
    θ_run (Cert.Fwd0.defs (F := Bits)) (onTc (τ := Cert.Fwd0.τ) (Cert.Fwd0.main (F := Bits))) ⟨m, fun _ => 0, g⟩ (fun r => (∀ c : Dev Cert.Fwd0.nD,
      r.2.mem ((c.tc : Thread Cert.Fwd0.nD Cert.Fwd0.τ).loc Cert.Fwd0.main_arg0) = m ((c.tc : Thread Cert.Fwd0.nD Cert.Fwd0.τ).loc Cert.Fwd0.main_arg0)
      ∧ r.2.mem ((c.tc : Thread Cert.Fwd0.nD Cert.Fwd0.τ).loc Cert.Fwd0.main_arg1) = m ((c.tc : Thread Cert.Fwd0.nD Cert.Fwd0.τ).loc Cert.Fwd0.main_arg1)
      ∧ r.2.mem ((c.tc : Thread Cert.Fwd0.nD Cert.Fwd0.τ).loc Cert.Fwd0.main_arg2) = m ((c.tc : Thread Cert.Fwd0.nD Cert.Fwd0.τ).loc Cert.Fwd0.main_arg2)
      ∧ r.2.mem ((c.tc : Thread Cert.Fwd0.nD Cert.Fwd0.τ).loc Cert.Fwd0.main_arg3) = m ((c.tc : Thread Cert.Fwd0.nD Cert.Fwd0.τ).loc Cert.Fwd0.main_arg3)
      ∧ r.2.mem ((c.tc : Thread Cert.Fwd0.nD Cert.Fwd0.τ).loc Cert.Fwd0.main_arg4) = m ((c.tc : Thread Cert.Fwd0.nD Cert.Fwd0.τ).loc Cert.Fwd0.main_arg4)
      ∧ r.2.mem ((c.tc : Thread Cert.Fwd0.nD Cert.Fwd0.τ).loc Cert.Fwd0.main_arg5) = m ((c.tc : Thread Cert.Fwd0.nD Cert.Fwd0.τ).loc Cert.Fwd0.main_arg5))
      ∧ r.2.sem = fun _ => 0)

def quiescent_Fwd0Ideal [hFwd0Ideal : Cert.Fwd0Ideal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg), Pre_Fwd0Ideal m →
    θ_run (Cert.Fwd0Ideal.defs (F := Ideal)) (onTc (τ := Cert.Fwd0Ideal.τ) (Cert.Fwd0Ideal.main (F := Ideal))) ⟨m, fun _ => 0, g⟩ (fun r => (∀ c : Dev Cert.Fwd0Ideal.nD,
      r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
      ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
      ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
      ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3)
      ∧ r.2.mem ((c.tc : Thread Cert.Fwd0Ideal.nD Cert.Fwd0Ideal.τ).loc Cert.Fwd0Ideal.main_arg4) = m ((c.tc : Thread Cert.Fwd0Ideal.nD Cert.Fwd0Ideal.τ).loc Cert.Fwd0Ideal.main_arg4)
      ∧ r.2.mem ((c.tc : Thread Cert.Fwd0Ideal.nD Cert.Fwd0Ideal.τ).loc Cert.Fwd0Ideal.main_arg5) = m ((c.tc : Thread Cert.Fwd0Ideal.nD Cert.Fwd0Ideal.τ).loc Cert.Fwd0Ideal.main_arg5))
      ∧ r.2.sem = fun _ => 0)

def quiescent_Fwd0RefIdeal [hFwd0RefIdeal : Cert.Fwd0RefIdeal.Facts] : Prop :=
  ∀ (m : (ℓ : Loc Cert.Fwd0RefIdeal.nD Cert.Fwd0RefIdeal.τ Cert.Fwd0RefIdeal.sig) → Buf (Elt Ideal) ℓ) (g : Dev Cert.Fwd0RefIdeal.nD → PrngReg), Pre_Fwd0RefIdeal m →
    θ_run (Cert.Fwd0RefIdeal.defs (F := Ideal)) (onTc (τ := Cert.Fwd0RefIdeal.τ) (Cert.Fwd0RefIdeal.main (F := Ideal))) ⟨m, fun _ => 0, g⟩ (fun r => (∀ c : Dev Cert.Fwd0RefIdeal.nD,
      r.2.mem ((c.tc : Thread Cert.Fwd0RefIdeal.nD Cert.Fwd0RefIdeal.τ).loc Cert.Fwd0RefIdeal.main_arg0) = m ((c.tc : Thread Cert.Fwd0RefIdeal.nD Cert.Fwd0RefIdeal.τ).loc Cert.Fwd0RefIdeal.main_arg0)
      ∧ r.2.mem ((c.tc : Thread Cert.Fwd0RefIdeal.nD Cert.Fwd0RefIdeal.τ).loc Cert.Fwd0RefIdeal.main_arg1) = m ((c.tc : Thread Cert.Fwd0RefIdeal.nD Cert.Fwd0RefIdeal.τ).loc Cert.Fwd0RefIdeal.main_arg1)
      ∧ r.2.mem ((c.tc : Thread Cert.Fwd0RefIdeal.nD Cert.Fwd0RefIdeal.τ).loc Cert.Fwd0RefIdeal.main_arg2) = m ((c.tc : Thread Cert.Fwd0RefIdeal.nD Cert.Fwd0RefIdeal.τ).loc Cert.Fwd0RefIdeal.main_arg2)
      ∧ r.2.mem ((c.tc : Thread Cert.Fwd0RefIdeal.nD Cert.Fwd0RefIdeal.τ).loc Cert.Fwd0RefIdeal.main_arg3) = m ((c.tc : Thread Cert.Fwd0RefIdeal.nD Cert.Fwd0RefIdeal.τ).loc Cert.Fwd0RefIdeal.main_arg3)
      ∧ r.2.mem ((c.tc : Thread Cert.Fwd0RefIdeal.nD Cert.Fwd0RefIdeal.τ).loc Cert.Fwd0RefIdeal.main_arg4) = m ((c.tc : Thread Cert.Fwd0RefIdeal.nD Cert.Fwd0RefIdeal.τ).loc Cert.Fwd0RefIdeal.main_arg4)
      ∧ r.2.mem ((c.tc : Thread Cert.Fwd0RefIdeal.nD Cert.Fwd0RefIdeal.τ).loc Cert.Fwd0RefIdeal.main_arg5) = m ((c.tc : Thread Cert.Fwd0RefIdeal.nD Cert.Fwd0RefIdeal.τ).loc Cert.Fwd0RefIdeal.main_arg5))
      ∧ r.2.sem = fun _ => 0)

def quiescent_Fwd1 [hFwd1 : Cert.Fwd1.Facts] : Prop :=
  ∀ (m : (ℓ : Loc Cert.Fwd1.nD Cert.Fwd1.τ Cert.Fwd1.sig) → Buf (Elt Bits) ℓ) (g : Dev Cert.Fwd1.nD → PrngReg), Pre_Fwd1 m →
    θ_run (Cert.Fwd1.defs (F := Bits)) (onTc (τ := Cert.Fwd1.τ) (Cert.Fwd1.main (F := Bits))) ⟨m, fun _ => 0, g⟩ (fun r => (∀ c : Dev Cert.Fwd1.nD,
      r.2.mem ((c.tc : Thread Cert.Fwd1.nD Cert.Fwd1.τ).loc Cert.Fwd1.main_arg0) = m ((c.tc : Thread Cert.Fwd1.nD Cert.Fwd1.τ).loc Cert.Fwd1.main_arg0)
      ∧ r.2.mem ((c.tc : Thread Cert.Fwd1.nD Cert.Fwd1.τ).loc Cert.Fwd1.main_arg1) = m ((c.tc : Thread Cert.Fwd1.nD Cert.Fwd1.τ).loc Cert.Fwd1.main_arg1)
      ∧ r.2.mem ((c.tc : Thread Cert.Fwd1.nD Cert.Fwd1.τ).loc Cert.Fwd1.main_arg2) = m ((c.tc : Thread Cert.Fwd1.nD Cert.Fwd1.τ).loc Cert.Fwd1.main_arg2)
      ∧ r.2.mem ((c.tc : Thread Cert.Fwd1.nD Cert.Fwd1.τ).loc Cert.Fwd1.main_arg3) = m ((c.tc : Thread Cert.Fwd1.nD Cert.Fwd1.τ).loc Cert.Fwd1.main_arg3)
      ∧ r.2.mem ((c.tc : Thread Cert.Fwd1.nD Cert.Fwd1.τ).loc Cert.Fwd1.main_arg4) = m ((c.tc : Thread Cert.Fwd1.nD Cert.Fwd1.τ).loc Cert.Fwd1.main_arg4)
      ∧ r.2.mem ((c.tc : Thread Cert.Fwd1.nD Cert.Fwd1.τ).loc Cert.Fwd1.main_arg5) = m ((c.tc : Thread Cert.Fwd1.nD Cert.Fwd1.τ).loc Cert.Fwd1.main_arg5))
      ∧ r.2.sem = fun _ => 0)

def quiescent_Fwd1Ideal [hFwd1Ideal : Cert.Fwd1Ideal.Facts] : Prop :=
  ∀ (m : (ℓ : Loc Cert.Fwd1Ideal.nD Cert.Fwd1Ideal.τ Cert.Fwd1Ideal.sig) → Buf (Elt Ideal) ℓ) (g : Dev Cert.Fwd1Ideal.nD → PrngReg), Pre_Fwd1Ideal m →
    θ_run (Cert.Fwd1Ideal.defs (F := Ideal)) (onTc (τ := Cert.Fwd1Ideal.τ) (Cert.Fwd1Ideal.main (F := Ideal))) ⟨m, fun _ => 0, g⟩ (fun r => (∀ c : Dev Cert.Fwd1Ideal.nD,
      r.2.mem ((c.tc : Thread Cert.Fwd1Ideal.nD Cert.Fwd1Ideal.τ).loc Cert.Fwd1Ideal.main_arg0) = m ((c.tc : Thread Cert.Fwd1Ideal.nD Cert.Fwd1Ideal.τ).loc Cert.Fwd1Ideal.main_arg0)
      ∧ r.2.mem ((c.tc : Thread Cert.Fwd1Ideal.nD Cert.Fwd1Ideal.τ).loc Cert.Fwd1Ideal.main_arg1) = m ((c.tc : Thread Cert.Fwd1Ideal.nD Cert.Fwd1Ideal.τ).loc Cert.Fwd1Ideal.main_arg1)
      ∧ r.2.mem ((c.tc : Thread Cert.Fwd1Ideal.nD Cert.Fwd1Ideal.τ).loc Cert.Fwd1Ideal.main_arg2) = m ((c.tc : Thread Cert.Fwd1Ideal.nD Cert.Fwd1Ideal.τ).loc Cert.Fwd1Ideal.main_arg2)
      ∧ r.2.mem ((c.tc : Thread Cert.Fwd1Ideal.nD Cert.Fwd1Ideal.τ).loc Cert.Fwd1Ideal.main_arg3) = m ((c.tc : Thread Cert.Fwd1Ideal.nD Cert.Fwd1Ideal.τ).loc Cert.Fwd1Ideal.main_arg3)
      ∧ r.2.mem ((c.tc : Thread Cert.Fwd1Ideal.nD Cert.Fwd1Ideal.τ).loc Cert.Fwd1Ideal.main_arg4) = m ((c.tc : Thread Cert.Fwd1Ideal.nD Cert.Fwd1Ideal.τ).loc Cert.Fwd1Ideal.main_arg4)
      ∧ r.2.mem ((c.tc : Thread Cert.Fwd1Ideal.nD Cert.Fwd1Ideal.τ).loc Cert.Fwd1Ideal.main_arg5) = m ((c.tc : Thread Cert.Fwd1Ideal.nD Cert.Fwd1Ideal.τ).loc Cert.Fwd1Ideal.main_arg5))
      ∧ r.2.sem = fun _ => 0)

def quiescent_Fwd1RefIdeal [hFwd1RefIdeal : Cert.Fwd1RefIdeal.Facts] : Prop :=
  ∀ (m : (ℓ : Loc Cert.Fwd1RefIdeal.nD Cert.Fwd1RefIdeal.τ Cert.Fwd1RefIdeal.sig) → Buf (Elt Ideal) ℓ) (g : Dev Cert.Fwd1RefIdeal.nD → PrngReg), Pre_Fwd1RefIdeal m →
    θ_run (Cert.Fwd1RefIdeal.defs (F := Ideal)) (onTc (τ := Cert.Fwd1RefIdeal.τ) (Cert.Fwd1RefIdeal.main (F := Ideal))) ⟨m, fun _ => 0, g⟩ (fun r => (∀ c : Dev Cert.Fwd1RefIdeal.nD,
      r.2.mem ((c.tc : Thread Cert.Fwd1RefIdeal.nD Cert.Fwd1RefIdeal.τ).loc Cert.Fwd1RefIdeal.main_arg0) = m ((c.tc : Thread Cert.Fwd1RefIdeal.nD Cert.Fwd1RefIdeal.τ).loc Cert.Fwd1RefIdeal.main_arg0)
      ∧ r.2.mem ((c.tc : Thread Cert.Fwd1RefIdeal.nD Cert.Fwd1RefIdeal.τ).loc Cert.Fwd1RefIdeal.main_arg1) = m ((c.tc : Thread Cert.Fwd1RefIdeal.nD Cert.Fwd1RefIdeal.τ).loc Cert.Fwd1RefIdeal.main_arg1)
      ∧ r.2.mem ((c.tc : Thread Cert.Fwd1RefIdeal.nD Cert.Fwd1RefIdeal.τ).loc Cert.Fwd1RefIdeal.main_arg2) = m ((c.tc : Thread Cert.Fwd1RefIdeal.nD Cert.Fwd1RefIdeal.τ).loc Cert.Fwd1RefIdeal.main_arg2)
      ∧ r.2.mem ((c.tc : Thread Cert.Fwd1RefIdeal.nD Cert.Fwd1RefIdeal.τ).loc Cert.Fwd1RefIdeal.main_arg3) = m ((c.tc : Thread Cert.Fwd1RefIdeal.nD Cert.Fwd1RefIdeal.τ).loc Cert.Fwd1RefIdeal.main_arg3)
      ∧ r.2.mem ((c.tc : Thread Cert.Fwd1RefIdeal.nD Cert.Fwd1RefIdeal.τ).loc Cert.Fwd1RefIdeal.main_arg4) = m ((c.tc : Thread Cert.Fwd1RefIdeal.nD Cert.Fwd1RefIdeal.τ).loc Cert.Fwd1RefIdeal.main_arg4)
      ∧ r.2.mem ((c.tc : Thread Cert.Fwd1RefIdeal.nD Cert.Fwd1RefIdeal.τ).loc Cert.Fwd1RefIdeal.main_arg5) = m ((c.tc : Thread Cert.Fwd1RefIdeal.nD Cert.Fwd1RefIdeal.τ).loc Cert.Fwd1RefIdeal.main_arg5))
      ∧ r.2.sem = fun _ => 0)

def quiescent_Fwd2 [hFwd2 : Cert.Fwd2.Facts] : Prop :=
  ∀ (m : (ℓ : Loc Cert.Fwd2.nD Cert.Fwd2.τ Cert.Fwd2.sig) → Buf (Elt Bits) ℓ) (g : Dev Cert.Fwd2.nD → PrngReg), Pre_Fwd2 m →
    θ_run (Cert.Fwd2.defs (F := Bits)) (onTc (τ := Cert.Fwd2.τ) (Cert.Fwd2.main (F := Bits))) ⟨m, fun _ => 0, g⟩ (fun r => (∀ c : Dev Cert.Fwd2.nD,
      r.2.mem ((c.tc : Thread Cert.Fwd2.nD Cert.Fwd2.τ).loc Cert.Fwd2.main_arg0) = m ((c.tc : Thread Cert.Fwd2.nD Cert.Fwd2.τ).loc Cert.Fwd2.main_arg0)
      ∧ r.2.mem ((c.tc : Thread Cert.Fwd2.nD Cert.Fwd2.τ).loc Cert.Fwd2.main_arg1) = m ((c.tc : Thread Cert.Fwd2.nD Cert.Fwd2.τ).loc Cert.Fwd2.main_arg1)
      ∧ r.2.mem ((c.tc : Thread Cert.Fwd2.nD Cert.Fwd2.τ).loc Cert.Fwd2.main_arg2) = m ((c.tc : Thread Cert.Fwd2.nD Cert.Fwd2.τ).loc Cert.Fwd2.main_arg2)
      ∧ r.2.mem ((c.tc : Thread Cert.Fwd2.nD Cert.Fwd2.τ).loc Cert.Fwd2.main_arg3) = m ((c.tc : Thread Cert.Fwd2.nD Cert.Fwd2.τ).loc Cert.Fwd2.main_arg3)
      ∧ r.2.mem ((c.tc : Thread Cert.Fwd2.nD Cert.Fwd2.τ).loc Cert.Fwd2.main_arg4) = m ((c.tc : Thread Cert.Fwd2.nD Cert.Fwd2.τ).loc Cert.Fwd2.main_arg4)
      ∧ r.2.mem ((c.tc : Thread Cert.Fwd2.nD Cert.Fwd2.τ).loc Cert.Fwd2.main_arg5) = m ((c.tc : Thread Cert.Fwd2.nD Cert.Fwd2.τ).loc Cert.Fwd2.main_arg5))
      ∧ r.2.sem = fun _ => 0)

def quiescent_Fwd2Ideal [hFwd2Ideal : Cert.Fwd2Ideal.Facts] : Prop :=
  ∀ (m : (ℓ : Loc Cert.Fwd2Ideal.nD Cert.Fwd2Ideal.τ Cert.Fwd2Ideal.sig) → Buf (Elt Ideal) ℓ) (g : Dev Cert.Fwd2Ideal.nD → PrngReg), Pre_Fwd2Ideal m →
    θ_run (Cert.Fwd2Ideal.defs (F := Ideal)) (onTc (τ := Cert.Fwd2Ideal.τ) (Cert.Fwd2Ideal.main (F := Ideal))) ⟨m, fun _ => 0, g⟩ (fun r => (∀ c : Dev Cert.Fwd2Ideal.nD,
      r.2.mem ((c.tc : Thread Cert.Fwd2Ideal.nD Cert.Fwd2Ideal.τ).loc Cert.Fwd2Ideal.main_arg0) = m ((c.tc : Thread Cert.Fwd2Ideal.nD Cert.Fwd2Ideal.τ).loc Cert.Fwd2Ideal.main_arg0)
      ∧ r.2.mem ((c.tc : Thread Cert.Fwd2Ideal.nD Cert.Fwd2Ideal.τ).loc Cert.Fwd2Ideal.main_arg1) = m ((c.tc : Thread Cert.Fwd2Ideal.nD Cert.Fwd2Ideal.τ).loc Cert.Fwd2Ideal.main_arg1)
      ∧ r.2.mem ((c.tc : Thread Cert.Fwd2Ideal.nD Cert.Fwd2Ideal.τ).loc Cert.Fwd2Ideal.main_arg2) = m ((c.tc : Thread Cert.Fwd2Ideal.nD Cert.Fwd2Ideal.τ).loc Cert.Fwd2Ideal.main_arg2)
      ∧ r.2.mem ((c.tc : Thread Cert.Fwd2Ideal.nD Cert.Fwd2Ideal.τ).loc Cert.Fwd2Ideal.main_arg3) = m ((c.tc : Thread Cert.Fwd2Ideal.nD Cert.Fwd2Ideal.τ).loc Cert.Fwd2Ideal.main_arg3)
      ∧ r.2.mem ((c.tc : Thread Cert.Fwd2Ideal.nD Cert.Fwd2Ideal.τ).loc Cert.Fwd2Ideal.main_arg4) = m ((c.tc : Thread Cert.Fwd2Ideal.nD Cert.Fwd2Ideal.τ).loc Cert.Fwd2Ideal.main_arg4)
      ∧ r.2.mem ((c.tc : Thread Cert.Fwd2Ideal.nD Cert.Fwd2Ideal.τ).loc Cert.Fwd2Ideal.main_arg5) = m ((c.tc : Thread Cert.Fwd2Ideal.nD Cert.Fwd2Ideal.τ).loc Cert.Fwd2Ideal.main_arg5))
      ∧ r.2.sem = fun _ => 0)

def quiescent_Fwd2RefIdeal [hFwd2RefIdeal : Cert.Fwd2RefIdeal.Facts] : Prop :=
  ∀ (m : (ℓ : Loc Cert.Fwd2RefIdeal.nD Cert.Fwd2RefIdeal.τ Cert.Fwd2RefIdeal.sig) → Buf (Elt Ideal) ℓ) (g : Dev Cert.Fwd2RefIdeal.nD → PrngReg), Pre_Fwd2RefIdeal m →
    θ_run (Cert.Fwd2RefIdeal.defs (F := Ideal)) (onTc (τ := Cert.Fwd2RefIdeal.τ) (Cert.Fwd2RefIdeal.main (F := Ideal))) ⟨m, fun _ => 0, g⟩ (fun r => (∀ c : Dev Cert.Fwd2RefIdeal.nD,
      r.2.mem ((c.tc : Thread Cert.Fwd2RefIdeal.nD Cert.Fwd2RefIdeal.τ).loc Cert.Fwd2RefIdeal.main_arg0) = m ((c.tc : Thread Cert.Fwd2RefIdeal.nD Cert.Fwd2RefIdeal.τ).loc Cert.Fwd2RefIdeal.main_arg0)
      ∧ r.2.mem ((c.tc : Thread Cert.Fwd2RefIdeal.nD Cert.Fwd2RefIdeal.τ).loc Cert.Fwd2RefIdeal.main_arg1) = m ((c.tc : Thread Cert.Fwd2RefIdeal.nD Cert.Fwd2RefIdeal.τ).loc Cert.Fwd2RefIdeal.main_arg1)
      ∧ r.2.mem ((c.tc : Thread Cert.Fwd2RefIdeal.nD Cert.Fwd2RefIdeal.τ).loc Cert.Fwd2RefIdeal.main_arg2) = m ((c.tc : Thread Cert.Fwd2RefIdeal.nD Cert.Fwd2RefIdeal.τ).loc Cert.Fwd2RefIdeal.main_arg2)
      ∧ r.2.mem ((c.tc : Thread Cert.Fwd2RefIdeal.nD Cert.Fwd2RefIdeal.τ).loc Cert.Fwd2RefIdeal.main_arg3) = m ((c.tc : Thread Cert.Fwd2RefIdeal.nD Cert.Fwd2RefIdeal.τ).loc Cert.Fwd2RefIdeal.main_arg3)
      ∧ r.2.mem ((c.tc : Thread Cert.Fwd2RefIdeal.nD Cert.Fwd2RefIdeal.τ).loc Cert.Fwd2RefIdeal.main_arg4) = m ((c.tc : Thread Cert.Fwd2RefIdeal.nD Cert.Fwd2RefIdeal.τ).loc Cert.Fwd2RefIdeal.main_arg4)
      ∧ r.2.mem ((c.tc : Thread Cert.Fwd2RefIdeal.nD Cert.Fwd2RefIdeal.τ).loc Cert.Fwd2RefIdeal.main_arg5) = m ((c.tc : Thread Cert.Fwd2RefIdeal.nD Cert.Fwd2RefIdeal.τ).loc Cert.Fwd2RefIdeal.main_arg5))
      ∧ r.2.sem = fun _ => 0)

def quiescent_Fwd3 [hFwd3 : Cert.Fwd3.Facts] : Prop :=
  ∀ (m : (ℓ : Loc Cert.Fwd3.nD Cert.Fwd3.τ Cert.Fwd3.sig) → Buf (Elt Bits) ℓ) (g : Dev Cert.Fwd3.nD → PrngReg), Pre_Fwd3 m →
    θ_run (Cert.Fwd3.defs (F := Bits)) (onTc (τ := Cert.Fwd3.τ) (Cert.Fwd3.main (F := Bits))) ⟨m, fun _ => 0, g⟩ (fun r => (∀ c : Dev Cert.Fwd3.nD,
      r.2.mem ((c.tc : Thread Cert.Fwd3.nD Cert.Fwd3.τ).loc Cert.Fwd3.main_arg0) = m ((c.tc : Thread Cert.Fwd3.nD Cert.Fwd3.τ).loc Cert.Fwd3.main_arg0)
      ∧ r.2.mem ((c.tc : Thread Cert.Fwd3.nD Cert.Fwd3.τ).loc Cert.Fwd3.main_arg1) = m ((c.tc : Thread Cert.Fwd3.nD Cert.Fwd3.τ).loc Cert.Fwd3.main_arg1)
      ∧ r.2.mem ((c.tc : Thread Cert.Fwd3.nD Cert.Fwd3.τ).loc Cert.Fwd3.main_arg2) = m ((c.tc : Thread Cert.Fwd3.nD Cert.Fwd3.τ).loc Cert.Fwd3.main_arg2)
      ∧ r.2.mem ((c.tc : Thread Cert.Fwd3.nD Cert.Fwd3.τ).loc Cert.Fwd3.main_arg3) = m ((c.tc : Thread Cert.Fwd3.nD Cert.Fwd3.τ).loc Cert.Fwd3.main_arg3)
      ∧ r.2.mem ((c.tc : Thread Cert.Fwd3.nD Cert.Fwd3.τ).loc Cert.Fwd3.main_arg4) = m ((c.tc : Thread Cert.Fwd3.nD Cert.Fwd3.τ).loc Cert.Fwd3.main_arg4)
      ∧ r.2.mem ((c.tc : Thread Cert.Fwd3.nD Cert.Fwd3.τ).loc Cert.Fwd3.main_arg5) = m ((c.tc : Thread Cert.Fwd3.nD Cert.Fwd3.τ).loc Cert.Fwd3.main_arg5))
      ∧ r.2.sem = fun _ => 0)

def quiescent_Fwd3Ideal [hFwd3Ideal : Cert.Fwd3Ideal.Facts] : Prop :=
  ∀ (m : (ℓ : Loc Cert.Fwd3Ideal.nD Cert.Fwd3Ideal.τ Cert.Fwd3Ideal.sig) → Buf (Elt Ideal) ℓ) (g : Dev Cert.Fwd3Ideal.nD → PrngReg), Pre_Fwd3Ideal m →
    θ_run (Cert.Fwd3Ideal.defs (F := Ideal)) (onTc (τ := Cert.Fwd3Ideal.τ) (Cert.Fwd3Ideal.main (F := Ideal))) ⟨m, fun _ => 0, g⟩ (fun r => (∀ c : Dev Cert.Fwd3Ideal.nD,
      r.2.mem ((c.tc : Thread Cert.Fwd3Ideal.nD Cert.Fwd3Ideal.τ).loc Cert.Fwd3Ideal.main_arg0) = m ((c.tc : Thread Cert.Fwd3Ideal.nD Cert.Fwd3Ideal.τ).loc Cert.Fwd3Ideal.main_arg0)
      ∧ r.2.mem ((c.tc : Thread Cert.Fwd3Ideal.nD Cert.Fwd3Ideal.τ).loc Cert.Fwd3Ideal.main_arg1) = m ((c.tc : Thread Cert.Fwd3Ideal.nD Cert.Fwd3Ideal.τ).loc Cert.Fwd3Ideal.main_arg1)
      ∧ r.2.mem ((c.tc : Thread Cert.Fwd3Ideal.nD Cert.Fwd3Ideal.τ).loc Cert.Fwd3Ideal.main_arg2) = m ((c.tc : Thread Cert.Fwd3Ideal.nD Cert.Fwd3Ideal.τ).loc Cert.Fwd3Ideal.main_arg2)
      ∧ r.2.mem ((c.tc : Thread Cert.Fwd3Ideal.nD Cert.Fwd3Ideal.τ).loc Cert.Fwd3Ideal.main_arg3) = m ((c.tc : Thread Cert.Fwd3Ideal.nD Cert.Fwd3Ideal.τ).loc Cert.Fwd3Ideal.main_arg3)
      ∧ r.2.mem ((c.tc : Thread Cert.Fwd3Ideal.nD Cert.Fwd3Ideal.τ).loc Cert.Fwd3Ideal.main_arg4) = m ((c.tc : Thread Cert.Fwd3Ideal.nD Cert.Fwd3Ideal.τ).loc Cert.Fwd3Ideal.main_arg4)
      ∧ r.2.mem ((c.tc : Thread Cert.Fwd3Ideal.nD Cert.Fwd3Ideal.τ).loc Cert.Fwd3Ideal.main_arg5) = m ((c.tc : Thread Cert.Fwd3Ideal.nD Cert.Fwd3Ideal.τ).loc Cert.Fwd3Ideal.main_arg5))
      ∧ r.2.sem = fun _ => 0)

def quiescent_Fwd3RefIdeal [hFwd3RefIdeal : Cert.Fwd3RefIdeal.Facts] : Prop :=
  ∀ (m : (ℓ : Loc Cert.Fwd3RefIdeal.nD Cert.Fwd3RefIdeal.τ Cert.Fwd3RefIdeal.sig) → Buf (Elt Ideal) ℓ) (g : Dev Cert.Fwd3RefIdeal.nD → PrngReg), Pre_Fwd3RefIdeal m →
    θ_run (Cert.Fwd3RefIdeal.defs (F := Ideal)) (onTc (τ := Cert.Fwd3RefIdeal.τ) (Cert.Fwd3RefIdeal.main (F := Ideal))) ⟨m, fun _ => 0, g⟩ (fun r => (∀ c : Dev Cert.Fwd3RefIdeal.nD,
      r.2.mem ((c.tc : Thread Cert.Fwd3RefIdeal.nD Cert.Fwd3RefIdeal.τ).loc Cert.Fwd3RefIdeal.main_arg0) = m ((c.tc : Thread Cert.Fwd3RefIdeal.nD Cert.Fwd3RefIdeal.τ).loc Cert.Fwd3RefIdeal.main_arg0)
      ∧ r.2.mem ((c.tc : Thread Cert.Fwd3RefIdeal.nD Cert.Fwd3RefIdeal.τ).loc Cert.Fwd3RefIdeal.main_arg1) = m ((c.tc : Thread Cert.Fwd3RefIdeal.nD Cert.Fwd3RefIdeal.τ).loc Cert.Fwd3RefIdeal.main_arg1)
      ∧ r.2.mem ((c.tc : Thread Cert.Fwd3RefIdeal.nD Cert.Fwd3RefIdeal.τ).loc Cert.Fwd3RefIdeal.main_arg2) = m ((c.tc : Thread Cert.Fwd3RefIdeal.nD Cert.Fwd3RefIdeal.τ).loc Cert.Fwd3RefIdeal.main_arg2)
      ∧ r.2.mem ((c.tc : Thread Cert.Fwd3RefIdeal.nD Cert.Fwd3RefIdeal.τ).loc Cert.Fwd3RefIdeal.main_arg3) = m ((c.tc : Thread Cert.Fwd3RefIdeal.nD Cert.Fwd3RefIdeal.τ).loc Cert.Fwd3RefIdeal.main_arg3)
      ∧ r.2.mem ((c.tc : Thread Cert.Fwd3RefIdeal.nD Cert.Fwd3RefIdeal.τ).loc Cert.Fwd3RefIdeal.main_arg4) = m ((c.tc : Thread Cert.Fwd3RefIdeal.nD Cert.Fwd3RefIdeal.τ).loc Cert.Fwd3RefIdeal.main_arg4)
      ∧ r.2.mem ((c.tc : Thread Cert.Fwd3RefIdeal.nD Cert.Fwd3RefIdeal.τ).loc Cert.Fwd3RefIdeal.main_arg5) = m ((c.tc : Thread Cert.Fwd3RefIdeal.nD Cert.Fwd3RefIdeal.τ).loc Cert.Fwd3RefIdeal.main_arg5))
      ∧ r.2.sem = fun _ => 0)

def quiescent_Conv0 [hConv0 : Cert.Conv0.Facts] : Prop :=
  ∀ (m : (ℓ : Loc Cert.Conv0.nD Cert.Conv0.τ Cert.Conv0.sig) → Buf (Elt Bits) ℓ) (g : Dev Cert.Conv0.nD → PrngReg), Pre_Conv0 m →
    θ_run (Cert.Conv0.defs (F := Bits)) (onTc (τ := Cert.Conv0.τ) (Cert.Conv0.main (F := Bits))) ⟨m, fun _ => 0, g⟩ (fun r => (∀ c : Dev Cert.Conv0.nD,
      r.2.mem ((c.tc : Thread Cert.Conv0.nD Cert.Conv0.τ).loc Cert.Conv0.main_arg0) = m ((c.tc : Thread Cert.Conv0.nD Cert.Conv0.τ).loc Cert.Conv0.main_arg0)
      ∧ r.2.mem ((c.tc : Thread Cert.Conv0.nD Cert.Conv0.τ).loc Cert.Conv0.main_arg1) = m ((c.tc : Thread Cert.Conv0.nD Cert.Conv0.τ).loc Cert.Conv0.main_arg1)
      ∧ r.2.mem ((c.tc : Thread Cert.Conv0.nD Cert.Conv0.τ).loc Cert.Conv0.main_arg2) = m ((c.tc : Thread Cert.Conv0.nD Cert.Conv0.τ).loc Cert.Conv0.main_arg2)
      ∧ r.2.mem ((c.tc : Thread Cert.Conv0.nD Cert.Conv0.τ).loc Cert.Conv0.main_arg3) = m ((c.tc : Thread Cert.Conv0.nD Cert.Conv0.τ).loc Cert.Conv0.main_arg3)
      ∧ r.2.mem ((c.tc : Thread Cert.Conv0.nD Cert.Conv0.τ).loc Cert.Conv0.main_arg4) = m ((c.tc : Thread Cert.Conv0.nD Cert.Conv0.τ).loc Cert.Conv0.main_arg4)
      ∧ r.2.mem ((c.tc : Thread Cert.Conv0.nD Cert.Conv0.τ).loc Cert.Conv0.main_arg5) = m ((c.tc : Thread Cert.Conv0.nD Cert.Conv0.τ).loc Cert.Conv0.main_arg5)
      ∧ r.2.mem ((c.tc : Thread Cert.Conv0.nD Cert.Conv0.τ).loc Cert.Conv0.main_arg6) = m ((c.tc : Thread Cert.Conv0.nD Cert.Conv0.τ).loc Cert.Conv0.main_arg6)
      ∧ r.2.mem ((c.tc : Thread Cert.Conv0.nD Cert.Conv0.τ).loc Cert.Conv0.main_arg7) = m ((c.tc : Thread Cert.Conv0.nD Cert.Conv0.τ).loc Cert.Conv0.main_arg7)
      ∧ r.2.mem ((c.tc : Thread Cert.Conv0.nD Cert.Conv0.τ).loc Cert.Conv0.main_arg8) = m ((c.tc : Thread Cert.Conv0.nD Cert.Conv0.τ).loc Cert.Conv0.main_arg8))
      ∧ r.2.sem = fun _ => 0)

def quiescent_Conv0Ideal [hConv0Ideal : Cert.Conv0Ideal.Facts] : Prop :=
  ∀ (m : (ℓ : Loc Cert.Conv0Ideal.nD Cert.Conv0Ideal.τ Cert.Conv0Ideal.sig) → Buf (Elt Ideal) ℓ) (g : Dev Cert.Conv0Ideal.nD → PrngReg), Pre_Conv0Ideal m →
    θ_run (Cert.Conv0Ideal.defs (F := Ideal)) (onTc (τ := Cert.Conv0Ideal.τ) (Cert.Conv0Ideal.main (F := Ideal))) ⟨m, fun _ => 0, g⟩ (fun r => (∀ c : Dev Cert.Conv0Ideal.nD,
      r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
      ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1)
      ∧ r.2.mem ((c.tc : Thread Cert.Conv0Ideal.nD Cert.Conv0Ideal.τ).loc Cert.Conv0Ideal.main_arg2) = m ((c.tc : Thread Cert.Conv0Ideal.nD Cert.Conv0Ideal.τ).loc Cert.Conv0Ideal.main_arg2)
      ∧ r.2.mem ((c.tc : Thread Cert.Conv0Ideal.nD Cert.Conv0Ideal.τ).loc Cert.Conv0Ideal.main_arg3) = m ((c.tc : Thread Cert.Conv0Ideal.nD Cert.Conv0Ideal.τ).loc Cert.Conv0Ideal.main_arg3)
      ∧ r.2.mem ((c.tc : Thread Cert.Conv0Ideal.nD Cert.Conv0Ideal.τ).loc Cert.Conv0Ideal.main_arg4) = m ((c.tc : Thread Cert.Conv0Ideal.nD Cert.Conv0Ideal.τ).loc Cert.Conv0Ideal.main_arg4)
      ∧ r.2.mem ((c.tc : Thread Cert.Conv0Ideal.nD Cert.Conv0Ideal.τ).loc Cert.Conv0Ideal.main_arg5) = m ((c.tc : Thread Cert.Conv0Ideal.nD Cert.Conv0Ideal.τ).loc Cert.Conv0Ideal.main_arg5)
      ∧ r.2.mem ((c.tc : Thread Cert.Conv0Ideal.nD Cert.Conv0Ideal.τ).loc Cert.Conv0Ideal.main_arg6) = m ((c.tc : Thread Cert.Conv0Ideal.nD Cert.Conv0Ideal.τ).loc Cert.Conv0Ideal.main_arg6)
      ∧ r.2.mem ((c.tc : Thread Cert.Conv0Ideal.nD Cert.Conv0Ideal.τ).loc Cert.Conv0Ideal.main_arg7) = m ((c.tc : Thread Cert.Conv0Ideal.nD Cert.Conv0Ideal.τ).loc Cert.Conv0Ideal.main_arg7)
      ∧ r.2.mem ((c.tc : Thread Cert.Conv0Ideal.nD Cert.Conv0Ideal.τ).loc Cert.Conv0Ideal.main_arg8) = m ((c.tc : Thread Cert.Conv0Ideal.nD Cert.Conv0Ideal.τ).loc Cert.Conv0Ideal.main_arg8))
      ∧ r.2.sem = fun _ => 0)

def quiescent_Conv0RefIdeal [hConv0RefIdeal : Cert.Conv0RefIdeal.Facts] : Prop :=
  ∀ (m : (ℓ : Loc Cert.Conv0RefIdeal.nD Cert.Conv0RefIdeal.τ Cert.Conv0RefIdeal.sig) → Buf (Elt Ideal) ℓ) (g : Dev Cert.Conv0RefIdeal.nD → PrngReg), Pre_Conv0RefIdeal m →
    θ_run (Cert.Conv0RefIdeal.defs (F := Ideal)) (onTc (τ := Cert.Conv0RefIdeal.τ) (Cert.Conv0RefIdeal.main (F := Ideal))) ⟨m, fun _ => 0, g⟩ (fun r => (∀ c : Dev Cert.Conv0RefIdeal.nD,
      r.2.mem ((c.tc : Thread Cert.Conv0RefIdeal.nD Cert.Conv0RefIdeal.τ).loc Cert.Conv0RefIdeal.main_arg0) = m ((c.tc : Thread Cert.Conv0RefIdeal.nD Cert.Conv0RefIdeal.τ).loc Cert.Conv0RefIdeal.main_arg0)
      ∧ r.2.mem ((c.tc : Thread Cert.Conv0RefIdeal.nD Cert.Conv0RefIdeal.τ).loc Cert.Conv0RefIdeal.main_arg1) = m ((c.tc : Thread Cert.Conv0RefIdeal.nD Cert.Conv0RefIdeal.τ).loc Cert.Conv0RefIdeal.main_arg1)
      ∧ r.2.mem ((c.tc : Thread Cert.Conv0RefIdeal.nD Cert.Conv0RefIdeal.τ).loc Cert.Conv0RefIdeal.main_arg2) = m ((c.tc : Thread Cert.Conv0RefIdeal.nD Cert.Conv0RefIdeal.τ).loc Cert.Conv0RefIdeal.main_arg2)
      ∧ r.2.mem ((c.tc : Thread Cert.Conv0RefIdeal.nD Cert.Conv0RefIdeal.τ).loc Cert.Conv0RefIdeal.main_arg3) = m ((c.tc : Thread Cert.Conv0RefIdeal.nD Cert.Conv0RefIdeal.τ).loc Cert.Conv0RefIdeal.main_arg3)
      ∧ r.2.mem ((c.tc : Thread Cert.Conv0RefIdeal.nD Cert.Conv0RefIdeal.τ).loc Cert.Conv0RefIdeal.main_arg4) = m ((c.tc : Thread Cert.Conv0RefIdeal.nD Cert.Conv0RefIdeal.τ).loc Cert.Conv0RefIdeal.main_arg4)
      ∧ r.2.mem ((c.tc : Thread Cert.Conv0RefIdeal.nD Cert.Conv0RefIdeal.τ).loc Cert.Conv0RefIdeal.main_arg5) = m ((c.tc : Thread Cert.Conv0RefIdeal.nD Cert.Conv0RefIdeal.τ).loc Cert.Conv0RefIdeal.main_arg5)
      ∧ r.2.mem ((c.tc : Thread Cert.Conv0RefIdeal.nD Cert.Conv0RefIdeal.τ).loc Cert.Conv0RefIdeal.main_arg6) = m ((c.tc : Thread Cert.Conv0RefIdeal.nD Cert.Conv0RefIdeal.τ).loc Cert.Conv0RefIdeal.main_arg6)
      ∧ r.2.mem ((c.tc : Thread Cert.Conv0RefIdeal.nD Cert.Conv0RefIdeal.τ).loc Cert.Conv0RefIdeal.main_arg7) = m ((c.tc : Thread Cert.Conv0RefIdeal.nD Cert.Conv0RefIdeal.τ).loc Cert.Conv0RefIdeal.main_arg7)
      ∧ r.2.mem ((c.tc : Thread Cert.Conv0RefIdeal.nD Cert.Conv0RefIdeal.τ).loc Cert.Conv0RefIdeal.main_arg8) = m ((c.tc : Thread Cert.Conv0RefIdeal.nD Cert.Conv0RefIdeal.τ).loc Cert.Conv0RefIdeal.main_arg8))
      ∧ r.2.sem = fun _ => 0)

def quiescent_Mix0 [hMix0 : Cert.Mix0.Facts] : Prop :=
  ∀ (m : (ℓ : Loc Cert.Mix0.nD Cert.Mix0.τ Cert.Mix0.sig) → Buf (Elt Bits) ℓ) (g : Dev Cert.Mix0.nD → PrngReg), Pre_Mix0 m →
    θ_run (Cert.Mix0.defs (F := Bits)) (onTc (τ := Cert.Mix0.τ) (Cert.Mix0.main (F := Bits))) ⟨m, fun _ => 0, g⟩ (fun r => (∀ c : Dev Cert.Mix0.nD,
      r.2.mem ((c.tc : Thread Cert.Mix0.nD Cert.Mix0.τ).loc Cert.Mix0.main_arg0) = m ((c.tc : Thread Cert.Mix0.nD Cert.Mix0.τ).loc Cert.Mix0.main_arg0)
      ∧ r.2.mem ((c.tc : Thread Cert.Mix0.nD Cert.Mix0.τ).loc Cert.Mix0.main_arg1) = m ((c.tc : Thread Cert.Mix0.nD Cert.Mix0.τ).loc Cert.Mix0.main_arg1)
      ∧ r.2.mem ((c.tc : Thread Cert.Mix0.nD Cert.Mix0.τ).loc Cert.Mix0.main_arg2) = m ((c.tc : Thread Cert.Mix0.nD Cert.Mix0.τ).loc Cert.Mix0.main_arg2)
      ∧ r.2.mem ((c.tc : Thread Cert.Mix0.nD Cert.Mix0.τ).loc Cert.Mix0.main_arg3) = m ((c.tc : Thread Cert.Mix0.nD Cert.Mix0.τ).loc Cert.Mix0.main_arg3)
      ∧ r.2.mem ((c.tc : Thread Cert.Mix0.nD Cert.Mix0.τ).loc Cert.Mix0.main_arg4) = m ((c.tc : Thread Cert.Mix0.nD Cert.Mix0.τ).loc Cert.Mix0.main_arg4)
      ∧ r.2.mem ((c.tc : Thread Cert.Mix0.nD Cert.Mix0.τ).loc Cert.Mix0.main_arg5) = m ((c.tc : Thread Cert.Mix0.nD Cert.Mix0.τ).loc Cert.Mix0.main_arg5)
      ∧ r.2.mem ((c.tc : Thread Cert.Mix0.nD Cert.Mix0.τ).loc Cert.Mix0.main_arg6) = m ((c.tc : Thread Cert.Mix0.nD Cert.Mix0.τ).loc Cert.Mix0.main_arg6)
      ∧ r.2.mem ((c.tc : Thread Cert.Mix0.nD Cert.Mix0.τ).loc Cert.Mix0.main_arg7) = m ((c.tc : Thread Cert.Mix0.nD Cert.Mix0.τ).loc Cert.Mix0.main_arg7))
      ∧ r.2.sem = fun _ => 0)

def quiescent_Mix0Ideal [hMix0Ideal : Cert.Mix0Ideal.Facts] : Prop :=
  ∀ (m : (ℓ : Loc Cert.Mix0Ideal.nD Cert.Mix0Ideal.τ Cert.Mix0Ideal.sig) → Buf (Elt Ideal) ℓ) (g : Dev Cert.Mix0Ideal.nD → PrngReg), Pre_Mix0Ideal m →
    θ_run (Cert.Mix0Ideal.defs (F := Ideal)) (onTc (τ := Cert.Mix0Ideal.τ) (Cert.Mix0Ideal.main (F := Ideal))) ⟨m, fun _ => 0, g⟩ (fun r => (∀ c : Dev Cert.Mix0Ideal.nD,
      r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
      ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
      ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
      ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
      ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
      ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
      ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
      ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7))
      ∧ r.2.sem = fun _ => 0)

def quiescent_Mix0RefIdeal [hMix0RefIdeal : Cert.Mix0RefIdeal.Facts] : Prop :=
  ∀ (m : (ℓ : Loc Cert.Mix0RefIdeal.nD Cert.Mix0RefIdeal.τ Cert.Mix0RefIdeal.sig) → Buf (Elt Ideal) ℓ) (g : Dev Cert.Mix0RefIdeal.nD → PrngReg), Pre_Mix0RefIdeal m →
    θ_run (Cert.Mix0RefIdeal.defs (F := Ideal)) (onTc (τ := Cert.Mix0RefIdeal.τ) (Cert.Mix0RefIdeal.main (F := Ideal))) ⟨m, fun _ => 0, g⟩ (fun r => (∀ c : Dev Cert.Mix0RefIdeal.nD,
      r.2.mem ((c.tc : Thread Cert.Mix0RefIdeal.nD Cert.Mix0RefIdeal.τ).loc Cert.Mix0RefIdeal.main_arg0) = m ((c.tc : Thread Cert.Mix0RefIdeal.nD Cert.Mix0RefIdeal.τ).loc Cert.Mix0RefIdeal.main_arg0)
      ∧ r.2.mem ((c.tc : Thread Cert.Mix0RefIdeal.nD Cert.Mix0RefIdeal.τ).loc Cert.Mix0RefIdeal.main_arg1) = m ((c.tc : Thread Cert.Mix0RefIdeal.nD Cert.Mix0RefIdeal.τ).loc Cert.Mix0RefIdeal.main_arg1)
      ∧ r.2.mem ((c.tc : Thread Cert.Mix0RefIdeal.nD Cert.Mix0RefIdeal.τ).loc Cert.Mix0RefIdeal.main_arg2) = m ((c.tc : Thread Cert.Mix0RefIdeal.nD Cert.Mix0RefIdeal.τ).loc Cert.Mix0RefIdeal.main_arg2)
      ∧ r.2.mem ((c.tc : Thread Cert.Mix0RefIdeal.nD Cert.Mix0RefIdeal.τ).loc Cert.Mix0RefIdeal.main_arg3) = m ((c.tc : Thread Cert.Mix0RefIdeal.nD Cert.Mix0RefIdeal.τ).loc Cert.Mix0RefIdeal.main_arg3)
      ∧ r.2.mem ((c.tc : Thread Cert.Mix0RefIdeal.nD Cert.Mix0RefIdeal.τ).loc Cert.Mix0RefIdeal.main_arg4) = m ((c.tc : Thread Cert.Mix0RefIdeal.nD Cert.Mix0RefIdeal.τ).loc Cert.Mix0RefIdeal.main_arg4)
      ∧ r.2.mem ((c.tc : Thread Cert.Mix0RefIdeal.nD Cert.Mix0RefIdeal.τ).loc Cert.Mix0RefIdeal.main_arg5) = m ((c.tc : Thread Cert.Mix0RefIdeal.nD Cert.Mix0RefIdeal.τ).loc Cert.Mix0RefIdeal.main_arg5)
      ∧ r.2.mem ((c.tc : Thread Cert.Mix0RefIdeal.nD Cert.Mix0RefIdeal.τ).loc Cert.Mix0RefIdeal.main_arg6) = m ((c.tc : Thread Cert.Mix0RefIdeal.nD Cert.Mix0RefIdeal.τ).loc Cert.Mix0RefIdeal.main_arg6)
      ∧ r.2.mem ((c.tc : Thread Cert.Mix0RefIdeal.nD Cert.Mix0RefIdeal.τ).loc Cert.Mix0RefIdeal.main_arg7) = m ((c.tc : Thread Cert.Mix0RefIdeal.nD Cert.Mix0RefIdeal.τ).loc Cert.Mix0RefIdeal.main_arg7))
      ∧ r.2.sem = fun _ => 0)

def quiescent_Mix3 [hMix3 : Cert.Mix3.Facts] : Prop :=
  ∀ (m : (ℓ : Loc Cert.Mix3.nD Cert.Mix3.τ Cert.Mix3.sig) → Buf (Elt Bits) ℓ) (g : Dev Cert.Mix3.nD → PrngReg), Pre_Mix3 m →
    θ_run (Cert.Mix3.defs (F := Bits)) (onTc (τ := Cert.Mix3.τ) (Cert.Mix3.main (F := Bits))) ⟨m, fun _ => 0, g⟩ (fun r => (∀ c : Dev Cert.Mix3.nD,
      r.2.mem ((c.tc : Thread Cert.Mix3.nD Cert.Mix3.τ).loc Cert.Mix3.main_arg0) = m ((c.tc : Thread Cert.Mix3.nD Cert.Mix3.τ).loc Cert.Mix3.main_arg0)
      ∧ r.2.mem ((c.tc : Thread Cert.Mix3.nD Cert.Mix3.τ).loc Cert.Mix3.main_arg1) = m ((c.tc : Thread Cert.Mix3.nD Cert.Mix3.τ).loc Cert.Mix3.main_arg1)
      ∧ r.2.mem ((c.tc : Thread Cert.Mix3.nD Cert.Mix3.τ).loc Cert.Mix3.main_arg2) = m ((c.tc : Thread Cert.Mix3.nD Cert.Mix3.τ).loc Cert.Mix3.main_arg2)
      ∧ r.2.mem ((c.tc : Thread Cert.Mix3.nD Cert.Mix3.τ).loc Cert.Mix3.main_arg3) = m ((c.tc : Thread Cert.Mix3.nD Cert.Mix3.τ).loc Cert.Mix3.main_arg3)
      ∧ r.2.mem ((c.tc : Thread Cert.Mix3.nD Cert.Mix3.τ).loc Cert.Mix3.main_arg4) = m ((c.tc : Thread Cert.Mix3.nD Cert.Mix3.τ).loc Cert.Mix3.main_arg4)
      ∧ r.2.mem ((c.tc : Thread Cert.Mix3.nD Cert.Mix3.τ).loc Cert.Mix3.main_arg5) = m ((c.tc : Thread Cert.Mix3.nD Cert.Mix3.τ).loc Cert.Mix3.main_arg5)
      ∧ r.2.mem ((c.tc : Thread Cert.Mix3.nD Cert.Mix3.τ).loc Cert.Mix3.main_arg6) = m ((c.tc : Thread Cert.Mix3.nD Cert.Mix3.τ).loc Cert.Mix3.main_arg6)
      ∧ r.2.mem ((c.tc : Thread Cert.Mix3.nD Cert.Mix3.τ).loc Cert.Mix3.main_arg7) = m ((c.tc : Thread Cert.Mix3.nD Cert.Mix3.τ).loc Cert.Mix3.main_arg7))
      ∧ r.2.sem = fun _ => 0)

def quiescent_Mix3Ideal [hMix3Ideal : Cert.Mix3Ideal.Facts] : Prop :=
  ∀ (m : (ℓ : Loc Cert.Mix3Ideal.nD Cert.Mix3Ideal.τ Cert.Mix3Ideal.sig) → Buf (Elt Ideal) ℓ) (g : Dev Cert.Mix3Ideal.nD → PrngReg), Pre_Mix3Ideal m →
    θ_run (Cert.Mix3Ideal.defs (F := Ideal)) (onTc (τ := Cert.Mix3Ideal.τ) (Cert.Mix3Ideal.main (F := Ideal))) ⟨m, fun _ => 0, g⟩ (fun r => (∀ c : Dev Cert.Mix3Ideal.nD,
      r.2.mem ((c.tc : Thread Cert.Mix3Ideal.nD Cert.Mix3Ideal.τ).loc Cert.Mix3Ideal.main_arg0) = m ((c.tc : Thread Cert.Mix3Ideal.nD Cert.Mix3Ideal.τ).loc Cert.Mix3Ideal.main_arg0)
      ∧ r.2.mem ((c.tc : Thread Cert.Mix3Ideal.nD Cert.Mix3Ideal.τ).loc Cert.Mix3Ideal.main_arg1) = m ((c.tc : Thread Cert.Mix3Ideal.nD Cert.Mix3Ideal.τ).loc Cert.Mix3Ideal.main_arg1)
      ∧ r.2.mem ((c.tc : Thread Cert.Mix3Ideal.nD Cert.Mix3Ideal.τ).loc Cert.Mix3Ideal.main_arg2) = m ((c.tc : Thread Cert.Mix3Ideal.nD Cert.Mix3Ideal.τ).loc Cert.Mix3Ideal.main_arg2)
      ∧ r.2.mem ((c.tc : Thread Cert.Mix3Ideal.nD Cert.Mix3Ideal.τ).loc Cert.Mix3Ideal.main_arg3) = m ((c.tc : Thread Cert.Mix3Ideal.nD Cert.Mix3Ideal.τ).loc Cert.Mix3Ideal.main_arg3)
      ∧ r.2.mem ((c.tc : Thread Cert.Mix3Ideal.nD Cert.Mix3Ideal.τ).loc Cert.Mix3Ideal.main_arg4) = m ((c.tc : Thread Cert.Mix3Ideal.nD Cert.Mix3Ideal.τ).loc Cert.Mix3Ideal.main_arg4)
      ∧ r.2.mem ((c.tc : Thread Cert.Mix3Ideal.nD Cert.Mix3Ideal.τ).loc Cert.Mix3Ideal.main_arg5) = m ((c.tc : Thread Cert.Mix3Ideal.nD Cert.Mix3Ideal.τ).loc Cert.Mix3Ideal.main_arg5)
      ∧ r.2.mem ((c.tc : Thread Cert.Mix3Ideal.nD Cert.Mix3Ideal.τ).loc Cert.Mix3Ideal.main_arg6) = m ((c.tc : Thread Cert.Mix3Ideal.nD Cert.Mix3Ideal.τ).loc Cert.Mix3Ideal.main_arg6)
      ∧ r.2.mem ((c.tc : Thread Cert.Mix3Ideal.nD Cert.Mix3Ideal.τ).loc Cert.Mix3Ideal.main_arg7) = m ((c.tc : Thread Cert.Mix3Ideal.nD Cert.Mix3Ideal.τ).loc Cert.Mix3Ideal.main_arg7))
      ∧ r.2.sem = fun _ => 0)

def quiescent_Mix3RefIdeal [hMix3RefIdeal : Cert.Mix3RefIdeal.Facts] : Prop :=
  ∀ (m : (ℓ : Loc Cert.Mix3RefIdeal.nD Cert.Mix3RefIdeal.τ Cert.Mix3RefIdeal.sig) → Buf (Elt Ideal) ℓ) (g : Dev Cert.Mix3RefIdeal.nD → PrngReg), Pre_Mix3RefIdeal m →
    θ_run (Cert.Mix3RefIdeal.defs (F := Ideal)) (onTc (τ := Cert.Mix3RefIdeal.τ) (Cert.Mix3RefIdeal.main (F := Ideal))) ⟨m, fun _ => 0, g⟩ (fun r => (∀ c : Dev Cert.Mix3RefIdeal.nD,
      r.2.mem ((c.tc : Thread Cert.Mix3RefIdeal.nD Cert.Mix3RefIdeal.τ).loc Cert.Mix3RefIdeal.main_arg0) = m ((c.tc : Thread Cert.Mix3RefIdeal.nD Cert.Mix3RefIdeal.τ).loc Cert.Mix3RefIdeal.main_arg0)
      ∧ r.2.mem ((c.tc : Thread Cert.Mix3RefIdeal.nD Cert.Mix3RefIdeal.τ).loc Cert.Mix3RefIdeal.main_arg1) = m ((c.tc : Thread Cert.Mix3RefIdeal.nD Cert.Mix3RefIdeal.τ).loc Cert.Mix3RefIdeal.main_arg1)
      ∧ r.2.mem ((c.tc : Thread Cert.Mix3RefIdeal.nD Cert.Mix3RefIdeal.τ).loc Cert.Mix3RefIdeal.main_arg2) = m ((c.tc : Thread Cert.Mix3RefIdeal.nD Cert.Mix3RefIdeal.τ).loc Cert.Mix3RefIdeal.main_arg2)
      ∧ r.2.mem ((c.tc : Thread Cert.Mix3RefIdeal.nD Cert.Mix3RefIdeal.τ).loc Cert.Mix3RefIdeal.main_arg3) = m ((c.tc : Thread Cert.Mix3RefIdeal.nD Cert.Mix3RefIdeal.τ).loc Cert.Mix3RefIdeal.main_arg3)
      ∧ r.2.mem ((c.tc : Thread Cert.Mix3RefIdeal.nD Cert.Mix3RefIdeal.τ).loc Cert.Mix3RefIdeal.main_arg4) = m ((c.tc : Thread Cert.Mix3RefIdeal.nD Cert.Mix3RefIdeal.τ).loc Cert.Mix3RefIdeal.main_arg4)
      ∧ r.2.mem ((c.tc : Thread Cert.Mix3RefIdeal.nD Cert.Mix3RefIdeal.τ).loc Cert.Mix3RefIdeal.main_arg5) = m ((c.tc : Thread Cert.Mix3RefIdeal.nD Cert.Mix3RefIdeal.τ).loc Cert.Mix3RefIdeal.main_arg5)
      ∧ r.2.mem ((c.tc : Thread Cert.Mix3RefIdeal.nD Cert.Mix3RefIdeal.τ).loc Cert.Mix3RefIdeal.main_arg6) = m ((c.tc : Thread Cert.Mix3RefIdeal.nD Cert.Mix3RefIdeal.τ).loc Cert.Mix3RefIdeal.main_arg6)
      ∧ r.2.mem ((c.tc : Thread Cert.Mix3RefIdeal.nD Cert.Mix3RefIdeal.τ).loc Cert.Mix3RefIdeal.main_arg7) = m ((c.tc : Thread Cert.Mix3RefIdeal.nD Cert.Mix3RefIdeal.τ).loc Cert.Mix3RefIdeal.main_arg7))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6)
      ∧ r.2.mem ((c.tc : Thread Cert.Gating.nD Cert.Gating.τ).loc Cert.Gating.main_arg7) = m ((c.tc : Thread Cert.Gating.nD Cert.Gating.τ).loc Cert.Gating.main_arg7)
      ∧ r.2.mem ((c.tc : Thread Cert.Gating.nD Cert.Gating.τ).loc Cert.Gating.main_arg8) = m ((c.tc : Thread Cert.Gating.nD Cert.Gating.τ).loc Cert.Gating.main_arg8))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
      ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
      ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4)
      ∧ r.2.mem ((c.tc : Thread Cert.GatingRefIdeal.nD Cert.GatingRefIdeal.τ).loc Cert.GatingRefIdeal.main_arg5) = m ((c.tc : Thread Cert.GatingRefIdeal.nD Cert.GatingRefIdeal.τ).loc Cert.GatingRefIdeal.main_arg5)
      ∧ r.2.mem ((c.tc : Thread Cert.GatingRefIdeal.nD Cert.GatingRefIdeal.τ).loc Cert.GatingRefIdeal.main_arg6) = m ((c.tc : Thread Cert.GatingRefIdeal.nD Cert.GatingRefIdeal.τ).loc Cert.GatingRefIdeal.main_arg6)
      ∧ r.2.mem ((c.tc : Thread Cert.GatingRefIdeal.nD Cert.GatingRefIdeal.τ).loc Cert.GatingRefIdeal.main_arg7) = m ((c.tc : Thread Cert.GatingRefIdeal.nD Cert.GatingRefIdeal.τ).loc Cert.GatingRefIdeal.main_arg7)
      ∧ r.2.mem ((c.tc : Thread Cert.GatingRefIdeal.nD Cert.GatingRefIdeal.τ).loc Cert.GatingRefIdeal.main_arg8) = m ((c.tc : Thread Cert.GatingRefIdeal.nD Cert.GatingRefIdeal.τ).loc Cert.GatingRefIdeal.main_arg8))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v71_0)) (v1 : (c : Dev Cert.ConvIdeal.nD) → Buf (Elt Ideal) ((c.tc : Thread Cert.ConvIdeal.nD Cert.ConvIdeal.τ).loc Cert.ConvIdeal.main_v71_1)) (v2 : (c : Dev Cert.ConvIdeal.nD) → Buf (Elt Ideal) ((c.tc : Thread Cert.ConvIdeal.nD Cert.ConvIdeal.τ).loc Cert.ConvIdeal.main_v71_2)) (v3 : (c : Dev Cert.ConvIdeal.nD) → Buf (Elt Ideal) ((c.tc : Thread Cert.ConvIdeal.nD Cert.ConvIdeal.τ).loc Cert.ConvIdeal.main_v71_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v71_0) = v0 c
          ∧ r.2.mem ((c.tc : Thread Cert.ConvIdeal.nD Cert.ConvIdeal.τ).loc Cert.ConvIdeal.main_v71_1) = v1 c
          ∧ r.2.mem ((c.tc : Thread Cert.ConvIdeal.nD Cert.ConvIdeal.τ).loc Cert.ConvIdeal.main_v71_2) = v2 c
          ∧ r.2.mem ((c.tc : Thread Cert.ConvIdeal.nD Cert.ConvIdeal.τ).loc Cert.ConvIdeal.main_v71_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v150) = v0 c
          ∧ r.2.mem ((c.tc : Thread Cert.ConvRefIdeal.nD Cert.ConvRefIdeal.τ).loc Cert.ConvRefIdeal.main_v151) = v1 c
          ∧ r.2.mem ((c.tc : Thread Cert.ConvRefIdeal.nD Cert.ConvRefIdeal.τ).loc Cert.ConvRefIdeal.main_v152) = v2 c
          ∧ r.2.mem ((c.tc : Thread Cert.ConvRefIdeal.nD Cert.ConvRefIdeal.τ).loc Cert.ConvRefIdeal.main_v149) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v2)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v2) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v3) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)
      ∧ m' ((c.tc : Thread Cert.GateInRefIdeal.nD Cert.GateInRefIdeal.τ).loc Cert.GateInRefIdeal.main_arg2) = m ((c.tc : Thread Cert.GateInIdeal.nD Cert.GateInIdeal.τ).loc Cert.GateInIdeal.main_arg2)) →
    ∃ (v0 : (c : Dev Cert.GateInIdeal.nD) → Buf (Elt Ideal) ((c.tc : Thread Cert.GateInIdeal.nD Cert.GateInIdeal.τ).loc Cert.GateInIdeal.main_v2)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v2) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1)
          ∧ r.2.mem ((c.tc : Thread Cert.GateInIdeal.nD Cert.GateInIdeal.τ).loc Cert.GateInIdeal.main_arg2) = m ((c.tc : Thread Cert.GateInIdeal.nD Cert.GateInIdeal.τ).loc Cert.GateInIdeal.main_arg2))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v3) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1)
          ∧ r.2.mem ((c.tc : Thread Cert.GateInRefIdeal.nD Cert.GateInRefIdeal.τ).loc Cert.GateInRefIdeal.main_arg2) = m' ((c.tc : Thread Cert.GateInRefIdeal.nD Cert.GateInRefIdeal.τ).loc Cert.GateInRefIdeal.main_arg2))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)
      ∧ m' ((c.tc : Thread Cert.SquareRefIdeal.nD Cert.SquareRefIdeal.τ).loc Cert.SquareRefIdeal.main_arg2) = m ((c.tc : Thread Cert.SquareIdeal.nD Cert.SquareIdeal.τ).loc Cert.SquareIdeal.main_arg2)) →
    ∃ (v0 : (c : Dev Cert.SquareIdeal.nD) → Buf (Elt Ideal) ((c.tc : Thread Cert.SquareIdeal.nD Cert.SquareIdeal.τ).loc Cert.SquareIdeal.main_v2)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v2) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1)
          ∧ r.2.mem ((c.tc : Thread Cert.SquareIdeal.nD Cert.SquareIdeal.τ).loc Cert.SquareIdeal.main_arg2) = m ((c.tc : Thread Cert.SquareIdeal.nD Cert.SquareIdeal.τ).loc Cert.SquareIdeal.main_arg2))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v3) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1)
          ∧ r.2.mem ((c.tc : Thread Cert.SquareRefIdeal.nD Cert.SquareRefIdeal.τ).loc Cert.SquareRefIdeal.main_arg2) = m' ((c.tc : Thread Cert.SquareRefIdeal.nD Cert.SquareRefIdeal.τ).loc Cert.SquareRefIdeal.main_arg2))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)
      ∧ m' ((c.tc : Thread Cert.Ffn0RefIdeal.nD Cert.Ffn0RefIdeal.τ).loc Cert.Ffn0RefIdeal.main_arg6) = m ((c.tc : Thread Cert.Ffn0Ideal.nD Cert.Ffn0Ideal.τ).loc Cert.Ffn0Ideal.main_arg6)) →
    ∃ (v0 : (c : Dev Cert.Ffn0Ideal.nD) → Buf (Elt Ideal) ((c.tc : Thread Cert.Ffn0Ideal.nD Cert.Ffn0Ideal.τ).loc Cert.Ffn0Ideal.main_v36_0)) (v1 : (c : Dev Cert.Ffn0Ideal.nD) → Buf (Elt Ideal) ((c.tc : Thread Cert.Ffn0Ideal.nD Cert.Ffn0Ideal.τ).loc Cert.Ffn0Ideal.main_v36_1)) (v2 : (c : Dev Cert.Ffn0Ideal.nD) → Buf (Elt Ideal) ((c.tc : Thread Cert.Ffn0Ideal.nD Cert.Ffn0Ideal.τ).loc Cert.Ffn0Ideal.main_v36_2)) (v3 : (c : Dev Cert.Ffn0Ideal.nD) → Buf (Elt Ideal) ((c.tc : Thread Cert.Ffn0Ideal.nD Cert.Ffn0Ideal.τ).loc Cert.Ffn0Ideal.main_v36_3)) (v4 : (c : Dev Cert.Ffn0Ideal.nD) → Buf (Elt Ideal) ((c.tc : Thread Cert.Ffn0Ideal.nD Cert.Ffn0Ideal.τ).loc Cert.Ffn0Ideal.main_v36_4)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v36_0) = v0 c
          ∧ r.2.mem ((c.tc : Thread Cert.Ffn0Ideal.nD Cert.Ffn0Ideal.τ).loc Cert.Ffn0Ideal.main_v36_1) = v1 c
          ∧ r.2.mem ((c.tc : Thread Cert.Ffn0Ideal.nD Cert.Ffn0Ideal.τ).loc Cert.Ffn0Ideal.main_v36_2) = v2 c
          ∧ r.2.mem ((c.tc : Thread Cert.Ffn0Ideal.nD Cert.Ffn0Ideal.τ).loc Cert.Ffn0Ideal.main_v36_3) = v3 c
          ∧ r.2.mem ((c.tc : Thread Cert.Ffn0Ideal.nD Cert.Ffn0Ideal.τ).loc Cert.Ffn0Ideal.main_v36_4) = v4 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v83) = v0 c
          ∧ r.2.mem ((c.tc : Thread Cert.Ffn0RefIdeal.nD Cert.Ffn0RefIdeal.τ).loc Cert.Ffn0RefIdeal.main_v86) = v1 c
          ∧ r.2.mem ((c.tc : Thread Cert.Ffn0RefIdeal.nD Cert.Ffn0RefIdeal.τ).loc Cert.Ffn0RefIdeal.main_v87) = v2 c
          ∧ r.2.mem ((c.tc : Thread Cert.Ffn0RefIdeal.nD Cert.Ffn0RefIdeal.τ).loc Cert.Ffn0RefIdeal.main_v88) = v3 c
          ∧ r.2.mem ((c.tc : Thread Cert.Ffn0RefIdeal.nD Cert.Ffn0RefIdeal.τ).loc Cert.Ffn0RefIdeal.main_v82) = v4 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5)
          ∧ r.2.mem ((c.tc : Thread Cert.Ffn0RefIdeal.nD Cert.Ffn0RefIdeal.τ).loc Cert.Ffn0RefIdeal.main_arg6) = m' ((c.tc : Thread Cert.Ffn0RefIdeal.nD Cert.Ffn0RefIdeal.τ).loc Cert.Ffn0RefIdeal.main_arg6))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)) →
    ∃ (v0 : (c : Dev Cert.Ffn1Ideal.nD) → Buf (Elt Ideal) ((c.tc : Thread Cert.Ffn1Ideal.nD Cert.Ffn1Ideal.τ).loc Cert.Ffn1Ideal.main_v36_0)) (v1 : (c : Dev Cert.Ffn1Ideal.nD) → Buf (Elt Ideal) ((c.tc : Thread Cert.Ffn1Ideal.nD Cert.Ffn1Ideal.τ).loc Cert.Ffn1Ideal.main_v36_1)) (v2 : (c : Dev Cert.Ffn1Ideal.nD) → Buf (Elt Ideal) ((c.tc : Thread Cert.Ffn1Ideal.nD Cert.Ffn1Ideal.τ).loc Cert.Ffn1Ideal.main_v36_2)) (v3 : (c : Dev Cert.Ffn1Ideal.nD) → Buf (Elt Ideal) ((c.tc : Thread Cert.Ffn1Ideal.nD Cert.Ffn1Ideal.τ).loc Cert.Ffn1Ideal.main_v36_3)) (v4 : (c : Dev Cert.Ffn1Ideal.nD) → Buf (Elt Ideal) ((c.tc : Thread Cert.Ffn1Ideal.nD Cert.Ffn1Ideal.τ).loc Cert.Ffn1Ideal.main_v36_4)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v36_0) = v0 c
          ∧ r.2.mem ((c.tc : Thread Cert.Ffn1Ideal.nD Cert.Ffn1Ideal.τ).loc Cert.Ffn1Ideal.main_v36_1) = v1 c
          ∧ r.2.mem ((c.tc : Thread Cert.Ffn1Ideal.nD Cert.Ffn1Ideal.τ).loc Cert.Ffn1Ideal.main_v36_2) = v2 c
          ∧ r.2.mem ((c.tc : Thread Cert.Ffn1Ideal.nD Cert.Ffn1Ideal.τ).loc Cert.Ffn1Ideal.main_v36_3) = v3 c
          ∧ r.2.mem ((c.tc : Thread Cert.Ffn1Ideal.nD Cert.Ffn1Ideal.τ).loc Cert.Ffn1Ideal.main_v36_4) = v4 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v83) = v0 c
          ∧ r.2.mem ((c.tc : Thread Cert.Ffn1RefIdeal.nD Cert.Ffn1RefIdeal.τ).loc Cert.Ffn1RefIdeal.main_v86) = v1 c
          ∧ r.2.mem ((c.tc : Thread Cert.Ffn1RefIdeal.nD Cert.Ffn1RefIdeal.τ).loc Cert.Ffn1RefIdeal.main_v87) = v2 c
          ∧ r.2.mem ((c.tc : Thread Cert.Ffn1RefIdeal.nD Cert.Ffn1RefIdeal.τ).loc Cert.Ffn1RefIdeal.main_v88) = v3 c
          ∧ r.2.mem ((c.tc : Thread Cert.Ffn1RefIdeal.nD Cert.Ffn1RefIdeal.τ).loc Cert.Ffn1RefIdeal.main_v82) = v4 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)
      ∧ m' ((c.tc : Thread Cert.Ffn2RefIdeal.nD Cert.Ffn2RefIdeal.τ).loc Cert.Ffn2RefIdeal.main_arg6) = m ((c.tc : Thread Cert.Ffn2Ideal.nD Cert.Ffn2Ideal.τ).loc Cert.Ffn2Ideal.main_arg6)) →
    ∃ (v0 : (c : Dev Cert.Ffn2Ideal.nD) → Buf (Elt Ideal) ((c.tc : Thread Cert.Ffn2Ideal.nD Cert.Ffn2Ideal.τ).loc Cert.Ffn2Ideal.main_v36_0)) (v1 : (c : Dev Cert.Ffn2Ideal.nD) → Buf (Elt Ideal) ((c.tc : Thread Cert.Ffn2Ideal.nD Cert.Ffn2Ideal.τ).loc Cert.Ffn2Ideal.main_v36_1)) (v2 : (c : Dev Cert.Ffn2Ideal.nD) → Buf (Elt Ideal) ((c.tc : Thread Cert.Ffn2Ideal.nD Cert.Ffn2Ideal.τ).loc Cert.Ffn2Ideal.main_v36_2)) (v3 : (c : Dev Cert.Ffn2Ideal.nD) → Buf (Elt Ideal) ((c.tc : Thread Cert.Ffn2Ideal.nD Cert.Ffn2Ideal.τ).loc Cert.Ffn2Ideal.main_v36_3)) (v4 : (c : Dev Cert.Ffn2Ideal.nD) → Buf (Elt Ideal) ((c.tc : Thread Cert.Ffn2Ideal.nD Cert.Ffn2Ideal.τ).loc Cert.Ffn2Ideal.main_v36_4)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v36_0) = v0 c
          ∧ r.2.mem ((c.tc : Thread Cert.Ffn2Ideal.nD Cert.Ffn2Ideal.τ).loc Cert.Ffn2Ideal.main_v36_1) = v1 c
          ∧ r.2.mem ((c.tc : Thread Cert.Ffn2Ideal.nD Cert.Ffn2Ideal.τ).loc Cert.Ffn2Ideal.main_v36_2) = v2 c
          ∧ r.2.mem ((c.tc : Thread Cert.Ffn2Ideal.nD Cert.Ffn2Ideal.τ).loc Cert.Ffn2Ideal.main_v36_3) = v3 c
          ∧ r.2.mem ((c.tc : Thread Cert.Ffn2Ideal.nD Cert.Ffn2Ideal.τ).loc Cert.Ffn2Ideal.main_v36_4) = v4 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v83) = v0 c
          ∧ r.2.mem ((c.tc : Thread Cert.Ffn2RefIdeal.nD Cert.Ffn2RefIdeal.τ).loc Cert.Ffn2RefIdeal.main_v86) = v1 c
          ∧ r.2.mem ((c.tc : Thread Cert.Ffn2RefIdeal.nD Cert.Ffn2RefIdeal.τ).loc Cert.Ffn2RefIdeal.main_v87) = v2 c
          ∧ r.2.mem ((c.tc : Thread Cert.Ffn2RefIdeal.nD Cert.Ffn2RefIdeal.τ).loc Cert.Ffn2RefIdeal.main_v88) = v3 c
          ∧ r.2.mem ((c.tc : Thread Cert.Ffn2RefIdeal.nD Cert.Ffn2RefIdeal.τ).loc Cert.Ffn2RefIdeal.main_v82) = v4 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6))

def preserves_Ffn3_Ffn3Ideal : Prop :=
  True

def algebraic_Ffn3Ideal_Ffn3RefIdeal [hFfn3Ideal : Cert.Ffn3Ideal.Facts] [hFfn3RefIdeal : Cert.Ffn3RefIdeal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.Ffn3RefIdeal.nD Cert.Ffn3RefIdeal.τ Cert.Ffn3RefIdeal.sig) → Buf (Elt Ideal) ℓ) (g' : Dev Cert.Ffn3RefIdeal.nD → PrngReg), Pre_Ffn3Ideal m →
    (∀ c : Dev Cert.Ffn3Ideal.nD,
      m' ((c.tc : Thread Cert.Ffn3RefIdeal.nD Cert.Ffn3RefIdeal.τ).loc Cert.Ffn3RefIdeal.main_arg0) = m ((c.tc : Thread Cert.Ffn3Ideal.nD Cert.Ffn3Ideal.τ).loc Cert.Ffn3Ideal.main_arg0)
      ∧ m' ((c.tc : Thread Cert.Ffn3RefIdeal.nD Cert.Ffn3RefIdeal.τ).loc Cert.Ffn3RefIdeal.main_arg1) = m ((c.tc : Thread Cert.Ffn3Ideal.nD Cert.Ffn3Ideal.τ).loc Cert.Ffn3Ideal.main_arg1)
      ∧ m' ((c.tc : Thread Cert.Ffn3RefIdeal.nD Cert.Ffn3RefIdeal.τ).loc Cert.Ffn3RefIdeal.main_arg2) = m ((c.tc : Thread Cert.Ffn3Ideal.nD Cert.Ffn3Ideal.τ).loc Cert.Ffn3Ideal.main_arg2)
      ∧ m' ((c.tc : Thread Cert.Ffn3RefIdeal.nD Cert.Ffn3RefIdeal.τ).loc Cert.Ffn3RefIdeal.main_arg3) = m ((c.tc : Thread Cert.Ffn3Ideal.nD Cert.Ffn3Ideal.τ).loc Cert.Ffn3Ideal.main_arg3)
      ∧ m' ((c.tc : Thread Cert.Ffn3RefIdeal.nD Cert.Ffn3RefIdeal.τ).loc Cert.Ffn3RefIdeal.main_arg4) = m ((c.tc : Thread Cert.Ffn3Ideal.nD Cert.Ffn3Ideal.τ).loc Cert.Ffn3Ideal.main_arg4)
      ∧ m' ((c.tc : Thread Cert.Ffn3RefIdeal.nD Cert.Ffn3RefIdeal.τ).loc Cert.Ffn3RefIdeal.main_arg5) = m ((c.tc : Thread Cert.Ffn3Ideal.nD Cert.Ffn3Ideal.τ).loc Cert.Ffn3Ideal.main_arg5)
      ∧ m' ((c.tc : Thread Cert.Ffn3RefIdeal.nD Cert.Ffn3RefIdeal.τ).loc Cert.Ffn3RefIdeal.main_arg6) = m ((c.tc : Thread Cert.Ffn3Ideal.nD Cert.Ffn3Ideal.τ).loc Cert.Ffn3Ideal.main_arg6)) →
    ∃ (v0 : (c : Dev Cert.Ffn3Ideal.nD) → Buf (Elt Ideal) ((c.tc : Thread Cert.Ffn3Ideal.nD Cert.Ffn3Ideal.τ).loc Cert.Ffn3Ideal.main_v36_0)) (v1 : (c : Dev Cert.Ffn3Ideal.nD) → Buf (Elt Ideal) ((c.tc : Thread Cert.Ffn3Ideal.nD Cert.Ffn3Ideal.τ).loc Cert.Ffn3Ideal.main_v36_1)) (v2 : (c : Dev Cert.Ffn3Ideal.nD) → Buf (Elt Ideal) ((c.tc : Thread Cert.Ffn3Ideal.nD Cert.Ffn3Ideal.τ).loc Cert.Ffn3Ideal.main_v36_2)) (v3 : (c : Dev Cert.Ffn3Ideal.nD) → Buf (Elt Ideal) ((c.tc : Thread Cert.Ffn3Ideal.nD Cert.Ffn3Ideal.τ).loc Cert.Ffn3Ideal.main_v36_3)) (v4 : (c : Dev Cert.Ffn3Ideal.nD) → Buf (Elt Ideal) ((c.tc : Thread Cert.Ffn3Ideal.nD Cert.Ffn3Ideal.τ).loc Cert.Ffn3Ideal.main_v36_4)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v36_0) = v0 c
          ∧ r.2.mem ((c.tc : Thread Cert.Ffn3Ideal.nD Cert.Ffn3Ideal.τ).loc Cert.Ffn3Ideal.main_v36_1) = v1 c
          ∧ r.2.mem ((c.tc : Thread Cert.Ffn3Ideal.nD Cert.Ffn3Ideal.τ).loc Cert.Ffn3Ideal.main_v36_2) = v2 c
          ∧ r.2.mem ((c.tc : Thread Cert.Ffn3Ideal.nD Cert.Ffn3Ideal.τ).loc Cert.Ffn3Ideal.main_v36_3) = v3 c
          ∧ r.2.mem ((c.tc : Thread Cert.Ffn3Ideal.nD Cert.Ffn3Ideal.τ).loc Cert.Ffn3Ideal.main_v36_4) = v4 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
          ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
          ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
          ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6))
      ∧ θ_run (Cert.Ffn3RefIdeal.defs (F := Ideal)) (onTc (τ := Cert.Ffn3RefIdeal.τ) (Cert.Ffn3RefIdeal.main (F := Ideal))) ⟨m', fun _ => 0, g'⟩ (fun r => ∀ c : Dev Cert.Ffn3RefIdeal.nD,
          r.2.mem ((c.tc : Thread Cert.Ffn3RefIdeal.nD Cert.Ffn3RefIdeal.τ).loc Cert.Ffn3RefIdeal.main_v83) = v0 c
          ∧ r.2.mem ((c.tc : Thread Cert.Ffn3RefIdeal.nD Cert.Ffn3RefIdeal.τ).loc Cert.Ffn3RefIdeal.main_v86) = v1 c
          ∧ r.2.mem ((c.tc : Thread Cert.Ffn3RefIdeal.nD Cert.Ffn3RefIdeal.τ).loc Cert.Ffn3RefIdeal.main_v87) = v2 c
          ∧ r.2.mem ((c.tc : Thread Cert.Ffn3RefIdeal.nD Cert.Ffn3RefIdeal.τ).loc Cert.Ffn3RefIdeal.main_v88) = v3 c
          ∧ r.2.mem ((c.tc : Thread Cert.Ffn3RefIdeal.nD Cert.Ffn3RefIdeal.τ).loc Cert.Ffn3RefIdeal.main_v82) = v4 c
          ∧ r.2.mem ((c.tc : Thread Cert.Ffn3RefIdeal.nD Cert.Ffn3RefIdeal.τ).loc Cert.Ffn3RefIdeal.main_arg0) = m' ((c.tc : Thread Cert.Ffn3RefIdeal.nD Cert.Ffn3RefIdeal.τ).loc Cert.Ffn3RefIdeal.main_arg0)
          ∧ r.2.mem ((c.tc : Thread Cert.Ffn3RefIdeal.nD Cert.Ffn3RefIdeal.τ).loc Cert.Ffn3RefIdeal.main_arg1) = m' ((c.tc : Thread Cert.Ffn3RefIdeal.nD Cert.Ffn3RefIdeal.τ).loc Cert.Ffn3RefIdeal.main_arg1)
          ∧ r.2.mem ((c.tc : Thread Cert.Ffn3RefIdeal.nD Cert.Ffn3RefIdeal.τ).loc Cert.Ffn3RefIdeal.main_arg2) = m' ((c.tc : Thread Cert.Ffn3RefIdeal.nD Cert.Ffn3RefIdeal.τ).loc Cert.Ffn3RefIdeal.main_arg2)
          ∧ r.2.mem ((c.tc : Thread Cert.Ffn3RefIdeal.nD Cert.Ffn3RefIdeal.τ).loc Cert.Ffn3RefIdeal.main_arg3) = m' ((c.tc : Thread Cert.Ffn3RefIdeal.nD Cert.Ffn3RefIdeal.τ).loc Cert.Ffn3RefIdeal.main_arg3)
          ∧ r.2.mem ((c.tc : Thread Cert.Ffn3RefIdeal.nD Cert.Ffn3RefIdeal.τ).loc Cert.Ffn3RefIdeal.main_arg4) = m' ((c.tc : Thread Cert.Ffn3RefIdeal.nD Cert.Ffn3RefIdeal.τ).loc Cert.Ffn3RefIdeal.main_arg4)
          ∧ r.2.mem ((c.tc : Thread Cert.Ffn3RefIdeal.nD Cert.Ffn3RefIdeal.τ).loc Cert.Ffn3RefIdeal.main_arg5) = m' ((c.tc : Thread Cert.Ffn3RefIdeal.nD Cert.Ffn3RefIdeal.τ).loc Cert.Ffn3RefIdeal.main_arg5)
          ∧ r.2.mem ((c.tc : Thread Cert.Ffn3RefIdeal.nD Cert.Ffn3RefIdeal.τ).loc Cert.Ffn3RefIdeal.main_arg6) = m' ((c.tc : Thread Cert.Ffn3RefIdeal.nD Cert.Ffn3RefIdeal.τ).loc Cert.Ffn3RefIdeal.main_arg6))

def preserves_Fwd0_Fwd0Ideal : Prop :=
  True

def algebraic_Fwd0Ideal_Fwd0RefIdeal [hFwd0Ideal : Cert.Fwd0Ideal.Facts] [hFwd0RefIdeal : Cert.Fwd0RefIdeal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg)
    (m' : (ℓ : Loc Cert.Fwd0RefIdeal.nD Cert.Fwd0RefIdeal.τ Cert.Fwd0RefIdeal.sig) → Buf (Elt Ideal) ℓ) (g' : Dev Cert.Fwd0RefIdeal.nD → PrngReg), Pre_Fwd0Ideal m →
    (∀ c : Dev Cert.Fwd0Ideal.nD,
      m' ((c.tc : Thread Cert.Fwd0RefIdeal.nD Cert.Fwd0RefIdeal.τ).loc Cert.Fwd0RefIdeal.main_arg0) = m ((c.tc : Thread Cert.Fwd0Ideal.nD Cert.Fwd0Ideal.τ).loc Cert.Fwd0Ideal.main_arg0)
      ∧ m' ((c.tc : Thread Cert.Fwd0RefIdeal.nD Cert.Fwd0RefIdeal.τ).loc Cert.Fwd0RefIdeal.main_arg1) = m ((c.tc : Thread Cert.Fwd0Ideal.nD Cert.Fwd0Ideal.τ).loc Cert.Fwd0Ideal.main_arg1)
      ∧ m' ((c.tc : Thread Cert.Fwd0RefIdeal.nD Cert.Fwd0RefIdeal.τ).loc Cert.Fwd0RefIdeal.main_arg2) = m ((c.tc : Thread Cert.Fwd0Ideal.nD Cert.Fwd0Ideal.τ).loc Cert.Fwd0Ideal.main_arg2)
      ∧ m' ((c.tc : Thread Cert.Fwd0RefIdeal.nD Cert.Fwd0RefIdeal.τ).loc Cert.Fwd0RefIdeal.main_arg3) = m ((c.tc : Thread Cert.Fwd0Ideal.nD Cert.Fwd0Ideal.τ).loc Cert.Fwd0Ideal.main_arg3)
      ∧ m' ((c.tc : Thread Cert.Fwd0RefIdeal.nD Cert.Fwd0RefIdeal.τ).loc Cert.Fwd0RefIdeal.main_arg4) = m ((c.tc : Thread Cert.Fwd0Ideal.nD Cert.Fwd0Ideal.τ).loc Cert.Fwd0Ideal.main_arg4)
      ∧ m' ((c.tc : Thread Cert.Fwd0RefIdeal.nD Cert.Fwd0RefIdeal.τ).loc Cert.Fwd0RefIdeal.main_arg5) = m ((c.tc : Thread Cert.Fwd0Ideal.nD Cert.Fwd0Ideal.τ).loc Cert.Fwd0Ideal.main_arg5)) →
    ∃ (v0 : (c : Dev Cert.Fwd0Ideal.nD) → Buf (Elt Ideal) ((c.tc : Thread Cert.Fwd0Ideal.nD Cert.Fwd0Ideal.τ).loc Cert.Fwd0Ideal.main_v7_0)) (v1 : (c : Dev Cert.Fwd0Ideal.nD) → Buf (Elt Ideal) ((c.tc : Thread Cert.Fwd0Ideal.nD Cert.Fwd0Ideal.τ).loc Cert.Fwd0Ideal.main_v7_1)) (v2 : (c : Dev Cert.Fwd0Ideal.nD) → Buf (Elt Ideal) ((c.tc : Thread Cert.Fwd0Ideal.nD Cert.Fwd0Ideal.τ).loc Cert.Fwd0Ideal.main_v7_2)) (v3 : (c : Dev Cert.Fwd0Ideal.nD) → Buf (Elt Ideal) ((c.tc : Thread Cert.Fwd0Ideal.nD Cert.Fwd0Ideal.τ).loc Cert.Fwd0Ideal.main_v7_3)),
      θ_run (Cert.Fwd0Ideal.defs (F := Ideal)) (onTc (τ := Cert.Fwd0Ideal.τ) (Cert.Fwd0Ideal.main (F := Ideal))) ⟨m, fun _ => 0, g⟩ (fun r => ∀ c : Dev Cert.Fwd0Ideal.nD,
          r.2.mem ((c.tc : Thread Cert.Fwd0Ideal.nD Cert.Fwd0Ideal.τ).loc Cert.Fwd0Ideal.main_v7_0) = v0 c
          ∧ r.2.mem ((c.tc : Thread Cert.Fwd0Ideal.nD Cert.Fwd0Ideal.τ).loc Cert.Fwd0Ideal.main_v7_1) = v1 c
          ∧ r.2.mem ((c.tc : Thread Cert.Fwd0Ideal.nD Cert.Fwd0Ideal.τ).loc Cert.Fwd0Ideal.main_v7_2) = v2 c
          ∧ r.2.mem ((c.tc : Thread Cert.Fwd0Ideal.nD Cert.Fwd0Ideal.τ).loc Cert.Fwd0Ideal.main_v7_3) = v3 c
          ∧ r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
          ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
          ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
          ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3)
          ∧ r.2.mem ((c.tc : Thread Cert.Fwd0Ideal.nD Cert.Fwd0Ideal.τ).loc Cert.Fwd0Ideal.main_arg4) = m ((c.tc : Thread Cert.Fwd0Ideal.nD Cert.Fwd0Ideal.τ).loc Cert.Fwd0Ideal.main_arg4)
          ∧ r.2.mem ((c.tc : Thread Cert.Fwd0Ideal.nD Cert.Fwd0Ideal.τ).loc Cert.Fwd0Ideal.main_arg5) = m ((c.tc : Thread Cert.Fwd0Ideal.nD Cert.Fwd0Ideal.τ).loc Cert.Fwd0Ideal.main_arg5))
      ∧ θ_run (Cert.Fwd0RefIdeal.defs (F := Ideal)) (onTc (τ := Cert.Fwd0RefIdeal.τ) (Cert.Fwd0RefIdeal.main (F := Ideal))) ⟨m', fun _ => 0, g'⟩ (fun r => ∀ c : Dev Cert.Fwd0RefIdeal.nD,
          r.2.mem ((c.tc : Thread Cert.Fwd0RefIdeal.nD Cert.Fwd0RefIdeal.τ).loc Cert.Fwd0RefIdeal.main_v36) = v0 c
          ∧ r.2.mem ((c.tc : Thread Cert.Fwd0RefIdeal.nD Cert.Fwd0RefIdeal.τ).loc Cert.Fwd0RefIdeal.main_v37) = v1 c
          ∧ r.2.mem ((c.tc : Thread Cert.Fwd0RefIdeal.nD Cert.Fwd0RefIdeal.τ).loc Cert.Fwd0RefIdeal.main_v27) = v2 c
          ∧ r.2.mem ((c.tc : Thread Cert.Fwd0RefIdeal.nD Cert.Fwd0RefIdeal.τ).loc Cert.Fwd0RefIdeal.main_v30) = v3 c
          ∧ r.2.mem ((c.tc : Thread Cert.Fwd0RefIdeal.nD Cert.Fwd0RefIdeal.τ).loc Cert.Fwd0RefIdeal.main_arg0) = m' ((c.tc : Thread Cert.Fwd0RefIdeal.nD Cert.Fwd0RefIdeal.τ).loc Cert.Fwd0RefIdeal.main_arg0)
          ∧ r.2.mem ((c.tc : Thread Cert.Fwd0RefIdeal.nD Cert.Fwd0RefIdeal.τ).loc Cert.Fwd0RefIdeal.main_arg1) = m' ((c.tc : Thread Cert.Fwd0RefIdeal.nD Cert.Fwd0RefIdeal.τ).loc Cert.Fwd0RefIdeal.main_arg1)
          ∧ r.2.mem ((c.tc : Thread Cert.Fwd0RefIdeal.nD Cert.Fwd0RefIdeal.τ).loc Cert.Fwd0RefIdeal.main_arg2) = m' ((c.tc : Thread Cert.Fwd0RefIdeal.nD Cert.Fwd0RefIdeal.τ).loc Cert.Fwd0RefIdeal.main_arg2)
          ∧ r.2.mem ((c.tc : Thread Cert.Fwd0RefIdeal.nD Cert.Fwd0RefIdeal.τ).loc Cert.Fwd0RefIdeal.main_arg3) = m' ((c.tc : Thread Cert.Fwd0RefIdeal.nD Cert.Fwd0RefIdeal.τ).loc Cert.Fwd0RefIdeal.main_arg3)
          ∧ r.2.mem ((c.tc : Thread Cert.Fwd0RefIdeal.nD Cert.Fwd0RefIdeal.τ).loc Cert.Fwd0RefIdeal.main_arg4) = m' ((c.tc : Thread Cert.Fwd0RefIdeal.nD Cert.Fwd0RefIdeal.τ).loc Cert.Fwd0RefIdeal.main_arg4)
          ∧ r.2.mem ((c.tc : Thread Cert.Fwd0RefIdeal.nD Cert.Fwd0RefIdeal.τ).loc Cert.Fwd0RefIdeal.main_arg5) = m' ((c.tc : Thread Cert.Fwd0RefIdeal.nD Cert.Fwd0RefIdeal.τ).loc Cert.Fwd0RefIdeal.main_arg5))

def preserves_Fwd1_Fwd1Ideal : Prop :=
  True

def algebraic_Fwd1Ideal_Fwd1RefIdeal [hFwd1Ideal : Cert.Fwd1Ideal.Facts] [hFwd1RefIdeal : Cert.Fwd1RefIdeal.Facts] : Prop :=
  ∀ (m : (ℓ : Loc Cert.Fwd1Ideal.nD Cert.Fwd1Ideal.τ Cert.Fwd1Ideal.sig) → Buf (Elt Ideal) ℓ) (g : Dev Cert.Fwd1Ideal.nD → PrngReg)
    (m' : (ℓ : Loc Cert.Fwd1RefIdeal.nD Cert.Fwd1RefIdeal.τ Cert.Fwd1RefIdeal.sig) → Buf (Elt Ideal) ℓ) (g' : Dev Cert.Fwd1RefIdeal.nD → PrngReg), Pre_Fwd1Ideal m →
    (∀ c : Dev Cert.Fwd1Ideal.nD,
      m' ((c.tc : Thread Cert.Fwd1RefIdeal.nD Cert.Fwd1RefIdeal.τ).loc Cert.Fwd1RefIdeal.main_arg0) = m ((c.tc : Thread Cert.Fwd1Ideal.nD Cert.Fwd1Ideal.τ).loc Cert.Fwd1Ideal.main_arg0)
      ∧ m' ((c.tc : Thread Cert.Fwd1RefIdeal.nD Cert.Fwd1RefIdeal.τ).loc Cert.Fwd1RefIdeal.main_arg1) = m ((c.tc : Thread Cert.Fwd1Ideal.nD Cert.Fwd1Ideal.τ).loc Cert.Fwd1Ideal.main_arg1)
      ∧ m' ((c.tc : Thread Cert.Fwd1RefIdeal.nD Cert.Fwd1RefIdeal.τ).loc Cert.Fwd1RefIdeal.main_arg2) = m ((c.tc : Thread Cert.Fwd1Ideal.nD Cert.Fwd1Ideal.τ).loc Cert.Fwd1Ideal.main_arg2)
      ∧ m' ((c.tc : Thread Cert.Fwd1RefIdeal.nD Cert.Fwd1RefIdeal.τ).loc Cert.Fwd1RefIdeal.main_arg3) = m ((c.tc : Thread Cert.Fwd1Ideal.nD Cert.Fwd1Ideal.τ).loc Cert.Fwd1Ideal.main_arg3)
      ∧ m' ((c.tc : Thread Cert.Fwd1RefIdeal.nD Cert.Fwd1RefIdeal.τ).loc Cert.Fwd1RefIdeal.main_arg4) = m ((c.tc : Thread Cert.Fwd1Ideal.nD Cert.Fwd1Ideal.τ).loc Cert.Fwd1Ideal.main_arg4)
      ∧ m' ((c.tc : Thread Cert.Fwd1RefIdeal.nD Cert.Fwd1RefIdeal.τ).loc Cert.Fwd1RefIdeal.main_arg5) = m ((c.tc : Thread Cert.Fwd1Ideal.nD Cert.Fwd1Ideal.τ).loc Cert.Fwd1Ideal.main_arg5)) →
    ∃ (v0 : (c : Dev Cert.Fwd1Ideal.nD) → Buf (Elt Ideal) ((c.tc : Thread Cert.Fwd1Ideal.nD Cert.Fwd1Ideal.τ).loc Cert.Fwd1Ideal.main_v7_0)) (v1 : (c : Dev Cert.Fwd1Ideal.nD) → Buf (Elt Ideal) ((c.tc : Thread Cert.Fwd1Ideal.nD Cert.Fwd1Ideal.τ).loc Cert.Fwd1Ideal.main_v7_1)) (v2 : (c : Dev Cert.Fwd1Ideal.nD) → Buf (Elt Ideal) ((c.tc : Thread Cert.Fwd1Ideal.nD Cert.Fwd1Ideal.τ).loc Cert.Fwd1Ideal.main_v7_2)) (v3 : (c : Dev Cert.Fwd1Ideal.nD) → Buf (Elt Ideal) ((c.tc : Thread Cert.Fwd1Ideal.nD Cert.Fwd1Ideal.τ).loc Cert.Fwd1Ideal.main_v7_3)),
      θ_run (Cert.Fwd1Ideal.defs (F := Ideal)) (onTc (τ := Cert.Fwd1Ideal.τ) (Cert.Fwd1Ideal.main (F := Ideal))) ⟨m, fun _ => 0, g⟩ (fun r => ∀ c : Dev Cert.Fwd1Ideal.nD,
          r.2.mem ((c.tc : Thread Cert.Fwd1Ideal.nD Cert.Fwd1Ideal.τ).loc Cert.Fwd1Ideal.main_v7_0) = v0 c
          ∧ r.2.mem ((c.tc : Thread Cert.Fwd1Ideal.nD Cert.Fwd1Ideal.τ).loc Cert.Fwd1Ideal.main_v7_1) = v1 c
          ∧ r.2.mem ((c.tc : Thread Cert.Fwd1Ideal.nD Cert.Fwd1Ideal.τ).loc Cert.Fwd1Ideal.main_v7_2) = v2 c
          ∧ r.2.mem ((c.tc : Thread Cert.Fwd1Ideal.nD Cert.Fwd1Ideal.τ).loc Cert.Fwd1Ideal.main_v7_3) = v3 c
          ∧ r.2.mem ((c.tc : Thread Cert.Fwd1Ideal.nD Cert.Fwd1Ideal.τ).loc Cert.Fwd1Ideal.main_arg0) = m ((c.tc : Thread Cert.Fwd1Ideal.nD Cert.Fwd1Ideal.τ).loc Cert.Fwd1Ideal.main_arg0)
          ∧ r.2.mem ((c.tc : Thread Cert.Fwd1Ideal.nD Cert.Fwd1Ideal.τ).loc Cert.Fwd1Ideal.main_arg1) = m ((c.tc : Thread Cert.Fwd1Ideal.nD Cert.Fwd1Ideal.τ).loc Cert.Fwd1Ideal.main_arg1)
          ∧ r.2.mem ((c.tc : Thread Cert.Fwd1Ideal.nD Cert.Fwd1Ideal.τ).loc Cert.Fwd1Ideal.main_arg2) = m ((c.tc : Thread Cert.Fwd1Ideal.nD Cert.Fwd1Ideal.τ).loc Cert.Fwd1Ideal.main_arg2)
          ∧ r.2.mem ((c.tc : Thread Cert.Fwd1Ideal.nD Cert.Fwd1Ideal.τ).loc Cert.Fwd1Ideal.main_arg3) = m ((c.tc : Thread Cert.Fwd1Ideal.nD Cert.Fwd1Ideal.τ).loc Cert.Fwd1Ideal.main_arg3)
          ∧ r.2.mem ((c.tc : Thread Cert.Fwd1Ideal.nD Cert.Fwd1Ideal.τ).loc Cert.Fwd1Ideal.main_arg4) = m ((c.tc : Thread Cert.Fwd1Ideal.nD Cert.Fwd1Ideal.τ).loc Cert.Fwd1Ideal.main_arg4)
          ∧ r.2.mem ((c.tc : Thread Cert.Fwd1Ideal.nD Cert.Fwd1Ideal.τ).loc Cert.Fwd1Ideal.main_arg5) = m ((c.tc : Thread Cert.Fwd1Ideal.nD Cert.Fwd1Ideal.τ).loc Cert.Fwd1Ideal.main_arg5))
      ∧ θ_run (Cert.Fwd1RefIdeal.defs (F := Ideal)) (onTc (τ := Cert.Fwd1RefIdeal.τ) (Cert.Fwd1RefIdeal.main (F := Ideal))) ⟨m', fun _ => 0, g'⟩ (fun r => ∀ c : Dev Cert.Fwd1RefIdeal.nD,
          r.2.mem ((c.tc : Thread Cert.Fwd1RefIdeal.nD Cert.Fwd1RefIdeal.τ).loc Cert.Fwd1RefIdeal.main_v36) = v0 c
          ∧ r.2.mem ((c.tc : Thread Cert.Fwd1RefIdeal.nD Cert.Fwd1RefIdeal.τ).loc Cert.Fwd1RefIdeal.main_v37) = v1 c
          ∧ r.2.mem ((c.tc : Thread Cert.Fwd1RefIdeal.nD Cert.Fwd1RefIdeal.τ).loc Cert.Fwd1RefIdeal.main_v27) = v2 c
          ∧ r.2.mem ((c.tc : Thread Cert.Fwd1RefIdeal.nD Cert.Fwd1RefIdeal.τ).loc Cert.Fwd1RefIdeal.main_v30) = v3 c
          ∧ r.2.mem ((c.tc : Thread Cert.Fwd1RefIdeal.nD Cert.Fwd1RefIdeal.τ).loc Cert.Fwd1RefIdeal.main_arg0) = m' ((c.tc : Thread Cert.Fwd1RefIdeal.nD Cert.Fwd1RefIdeal.τ).loc Cert.Fwd1RefIdeal.main_arg0)
          ∧ r.2.mem ((c.tc : Thread Cert.Fwd1RefIdeal.nD Cert.Fwd1RefIdeal.τ).loc Cert.Fwd1RefIdeal.main_arg1) = m' ((c.tc : Thread Cert.Fwd1RefIdeal.nD Cert.Fwd1RefIdeal.τ).loc Cert.Fwd1RefIdeal.main_arg1)
          ∧ r.2.mem ((c.tc : Thread Cert.Fwd1RefIdeal.nD Cert.Fwd1RefIdeal.τ).loc Cert.Fwd1RefIdeal.main_arg2) = m' ((c.tc : Thread Cert.Fwd1RefIdeal.nD Cert.Fwd1RefIdeal.τ).loc Cert.Fwd1RefIdeal.main_arg2)
          ∧ r.2.mem ((c.tc : Thread Cert.Fwd1RefIdeal.nD Cert.Fwd1RefIdeal.τ).loc Cert.Fwd1RefIdeal.main_arg3) = m' ((c.tc : Thread Cert.Fwd1RefIdeal.nD Cert.Fwd1RefIdeal.τ).loc Cert.Fwd1RefIdeal.main_arg3)
          ∧ r.2.mem ((c.tc : Thread Cert.Fwd1RefIdeal.nD Cert.Fwd1RefIdeal.τ).loc Cert.Fwd1RefIdeal.main_arg4) = m' ((c.tc : Thread Cert.Fwd1RefIdeal.nD Cert.Fwd1RefIdeal.τ).loc Cert.Fwd1RefIdeal.main_arg4)
          ∧ r.2.mem ((c.tc : Thread Cert.Fwd1RefIdeal.nD Cert.Fwd1RefIdeal.τ).loc Cert.Fwd1RefIdeal.main_arg5) = m' ((c.tc : Thread Cert.Fwd1RefIdeal.nD Cert.Fwd1RefIdeal.τ).loc Cert.Fwd1RefIdeal.main_arg5))

def preserves_Fwd2_Fwd2Ideal : Prop :=
  True

def algebraic_Fwd2Ideal_Fwd2RefIdeal [hFwd2Ideal : Cert.Fwd2Ideal.Facts] [hFwd2RefIdeal : Cert.Fwd2RefIdeal.Facts] : Prop :=
  ∀ (m : (ℓ : Loc Cert.Fwd2Ideal.nD Cert.Fwd2Ideal.τ Cert.Fwd2Ideal.sig) → Buf (Elt Ideal) ℓ) (g : Dev Cert.Fwd2Ideal.nD → PrngReg)
    (m' : (ℓ : Loc Cert.Fwd2RefIdeal.nD Cert.Fwd2RefIdeal.τ Cert.Fwd2RefIdeal.sig) → Buf (Elt Ideal) ℓ) (g' : Dev Cert.Fwd2RefIdeal.nD → PrngReg), Pre_Fwd2Ideal m →
    (∀ c : Dev Cert.Fwd2Ideal.nD,
      m' ((c.tc : Thread Cert.Fwd2RefIdeal.nD Cert.Fwd2RefIdeal.τ).loc Cert.Fwd2RefIdeal.main_arg0) = m ((c.tc : Thread Cert.Fwd2Ideal.nD Cert.Fwd2Ideal.τ).loc Cert.Fwd2Ideal.main_arg0)
      ∧ m' ((c.tc : Thread Cert.Fwd2RefIdeal.nD Cert.Fwd2RefIdeal.τ).loc Cert.Fwd2RefIdeal.main_arg1) = m ((c.tc : Thread Cert.Fwd2Ideal.nD Cert.Fwd2Ideal.τ).loc Cert.Fwd2Ideal.main_arg1)
      ∧ m' ((c.tc : Thread Cert.Fwd2RefIdeal.nD Cert.Fwd2RefIdeal.τ).loc Cert.Fwd2RefIdeal.main_arg2) = m ((c.tc : Thread Cert.Fwd2Ideal.nD Cert.Fwd2Ideal.τ).loc Cert.Fwd2Ideal.main_arg2)
      ∧ m' ((c.tc : Thread Cert.Fwd2RefIdeal.nD Cert.Fwd2RefIdeal.τ).loc Cert.Fwd2RefIdeal.main_arg3) = m ((c.tc : Thread Cert.Fwd2Ideal.nD Cert.Fwd2Ideal.τ).loc Cert.Fwd2Ideal.main_arg3)
      ∧ m' ((c.tc : Thread Cert.Fwd2RefIdeal.nD Cert.Fwd2RefIdeal.τ).loc Cert.Fwd2RefIdeal.main_arg4) = m ((c.tc : Thread Cert.Fwd2Ideal.nD Cert.Fwd2Ideal.τ).loc Cert.Fwd2Ideal.main_arg4)
      ∧ m' ((c.tc : Thread Cert.Fwd2RefIdeal.nD Cert.Fwd2RefIdeal.τ).loc Cert.Fwd2RefIdeal.main_arg5) = m ((c.tc : Thread Cert.Fwd2Ideal.nD Cert.Fwd2Ideal.τ).loc Cert.Fwd2Ideal.main_arg5)) →
    ∃ (v0 : (c : Dev Cert.Fwd2Ideal.nD) → Buf (Elt Ideal) ((c.tc : Thread Cert.Fwd2Ideal.nD Cert.Fwd2Ideal.τ).loc Cert.Fwd2Ideal.main_v7_0)) (v1 : (c : Dev Cert.Fwd2Ideal.nD) → Buf (Elt Ideal) ((c.tc : Thread Cert.Fwd2Ideal.nD Cert.Fwd2Ideal.τ).loc Cert.Fwd2Ideal.main_v7_1)) (v2 : (c : Dev Cert.Fwd2Ideal.nD) → Buf (Elt Ideal) ((c.tc : Thread Cert.Fwd2Ideal.nD Cert.Fwd2Ideal.τ).loc Cert.Fwd2Ideal.main_v7_2)) (v3 : (c : Dev Cert.Fwd2Ideal.nD) → Buf (Elt Ideal) ((c.tc : Thread Cert.Fwd2Ideal.nD Cert.Fwd2Ideal.τ).loc Cert.Fwd2Ideal.main_v7_3)),
      θ_run (Cert.Fwd2Ideal.defs (F := Ideal)) (onTc (τ := Cert.Fwd2Ideal.τ) (Cert.Fwd2Ideal.main (F := Ideal))) ⟨m, fun _ => 0, g⟩ (fun r => ∀ c : Dev Cert.Fwd2Ideal.nD,
          r.2.mem ((c.tc : Thread Cert.Fwd2Ideal.nD Cert.Fwd2Ideal.τ).loc Cert.Fwd2Ideal.main_v7_0) = v0 c
          ∧ r.2.mem ((c.tc : Thread Cert.Fwd2Ideal.nD Cert.Fwd2Ideal.τ).loc Cert.Fwd2Ideal.main_v7_1) = v1 c
          ∧ r.2.mem ((c.tc : Thread Cert.Fwd2Ideal.nD Cert.Fwd2Ideal.τ).loc Cert.Fwd2Ideal.main_v7_2) = v2 c
          ∧ r.2.mem ((c.tc : Thread Cert.Fwd2Ideal.nD Cert.Fwd2Ideal.τ).loc Cert.Fwd2Ideal.main_v7_3) = v3 c
          ∧ r.2.mem ((c.tc : Thread Cert.Fwd2Ideal.nD Cert.Fwd2Ideal.τ).loc Cert.Fwd2Ideal.main_arg0) = m ((c.tc : Thread Cert.Fwd2Ideal.nD Cert.Fwd2Ideal.τ).loc Cert.Fwd2Ideal.main_arg0)
          ∧ r.2.mem ((c.tc : Thread Cert.Fwd2Ideal.nD Cert.Fwd2Ideal.τ).loc Cert.Fwd2Ideal.main_arg1) = m ((c.tc : Thread Cert.Fwd2Ideal.nD Cert.Fwd2Ideal.τ).loc Cert.Fwd2Ideal.main_arg1)
          ∧ r.2.mem ((c.tc : Thread Cert.Fwd2Ideal.nD Cert.Fwd2Ideal.τ).loc Cert.Fwd2Ideal.main_arg2) = m ((c.tc : Thread Cert.Fwd2Ideal.nD Cert.Fwd2Ideal.τ).loc Cert.Fwd2Ideal.main_arg2)
          ∧ r.2.mem ((c.tc : Thread Cert.Fwd2Ideal.nD Cert.Fwd2Ideal.τ).loc Cert.Fwd2Ideal.main_arg3) = m ((c.tc : Thread Cert.Fwd2Ideal.nD Cert.Fwd2Ideal.τ).loc Cert.Fwd2Ideal.main_arg3)
          ∧ r.2.mem ((c.tc : Thread Cert.Fwd2Ideal.nD Cert.Fwd2Ideal.τ).loc Cert.Fwd2Ideal.main_arg4) = m ((c.tc : Thread Cert.Fwd2Ideal.nD Cert.Fwd2Ideal.τ).loc Cert.Fwd2Ideal.main_arg4)
          ∧ r.2.mem ((c.tc : Thread Cert.Fwd2Ideal.nD Cert.Fwd2Ideal.τ).loc Cert.Fwd2Ideal.main_arg5) = m ((c.tc : Thread Cert.Fwd2Ideal.nD Cert.Fwd2Ideal.τ).loc Cert.Fwd2Ideal.main_arg5))
      ∧ θ_run (Cert.Fwd2RefIdeal.defs (F := Ideal)) (onTc (τ := Cert.Fwd2RefIdeal.τ) (Cert.Fwd2RefIdeal.main (F := Ideal))) ⟨m', fun _ => 0, g'⟩ (fun r => ∀ c : Dev Cert.Fwd2RefIdeal.nD,
          r.2.mem ((c.tc : Thread Cert.Fwd2RefIdeal.nD Cert.Fwd2RefIdeal.τ).loc Cert.Fwd2RefIdeal.main_v36) = v0 c
          ∧ r.2.mem ((c.tc : Thread Cert.Fwd2RefIdeal.nD Cert.Fwd2RefIdeal.τ).loc Cert.Fwd2RefIdeal.main_v37) = v1 c
          ∧ r.2.mem ((c.tc : Thread Cert.Fwd2RefIdeal.nD Cert.Fwd2RefIdeal.τ).loc Cert.Fwd2RefIdeal.main_v27) = v2 c
          ∧ r.2.mem ((c.tc : Thread Cert.Fwd2RefIdeal.nD Cert.Fwd2RefIdeal.τ).loc Cert.Fwd2RefIdeal.main_v30) = v3 c
          ∧ r.2.mem ((c.tc : Thread Cert.Fwd2RefIdeal.nD Cert.Fwd2RefIdeal.τ).loc Cert.Fwd2RefIdeal.main_arg0) = m' ((c.tc : Thread Cert.Fwd2RefIdeal.nD Cert.Fwd2RefIdeal.τ).loc Cert.Fwd2RefIdeal.main_arg0)
          ∧ r.2.mem ((c.tc : Thread Cert.Fwd2RefIdeal.nD Cert.Fwd2RefIdeal.τ).loc Cert.Fwd2RefIdeal.main_arg1) = m' ((c.tc : Thread Cert.Fwd2RefIdeal.nD Cert.Fwd2RefIdeal.τ).loc Cert.Fwd2RefIdeal.main_arg1)
          ∧ r.2.mem ((c.tc : Thread Cert.Fwd2RefIdeal.nD Cert.Fwd2RefIdeal.τ).loc Cert.Fwd2RefIdeal.main_arg2) = m' ((c.tc : Thread Cert.Fwd2RefIdeal.nD Cert.Fwd2RefIdeal.τ).loc Cert.Fwd2RefIdeal.main_arg2)
          ∧ r.2.mem ((c.tc : Thread Cert.Fwd2RefIdeal.nD Cert.Fwd2RefIdeal.τ).loc Cert.Fwd2RefIdeal.main_arg3) = m' ((c.tc : Thread Cert.Fwd2RefIdeal.nD Cert.Fwd2RefIdeal.τ).loc Cert.Fwd2RefIdeal.main_arg3)
          ∧ r.2.mem ((c.tc : Thread Cert.Fwd2RefIdeal.nD Cert.Fwd2RefIdeal.τ).loc Cert.Fwd2RefIdeal.main_arg4) = m' ((c.tc : Thread Cert.Fwd2RefIdeal.nD Cert.Fwd2RefIdeal.τ).loc Cert.Fwd2RefIdeal.main_arg4)
          ∧ r.2.mem ((c.tc : Thread Cert.Fwd2RefIdeal.nD Cert.Fwd2RefIdeal.τ).loc Cert.Fwd2RefIdeal.main_arg5) = m' ((c.tc : Thread Cert.Fwd2RefIdeal.nD Cert.Fwd2RefIdeal.τ).loc Cert.Fwd2RefIdeal.main_arg5))

def preserves_Fwd3_Fwd3Ideal : Prop :=
  True

def algebraic_Fwd3Ideal_Fwd3RefIdeal [hFwd3Ideal : Cert.Fwd3Ideal.Facts] [hFwd3RefIdeal : Cert.Fwd3RefIdeal.Facts] : Prop :=
  ∀ (m : (ℓ : Loc Cert.Fwd3Ideal.nD Cert.Fwd3Ideal.τ Cert.Fwd3Ideal.sig) → Buf (Elt Ideal) ℓ) (g : Dev Cert.Fwd3Ideal.nD → PrngReg)
    (m' : (ℓ : Loc Cert.Fwd3RefIdeal.nD Cert.Fwd3RefIdeal.τ Cert.Fwd3RefIdeal.sig) → Buf (Elt Ideal) ℓ) (g' : Dev Cert.Fwd3RefIdeal.nD → PrngReg), Pre_Fwd3Ideal m →
    (∀ c : Dev Cert.Fwd3Ideal.nD,
      m' ((c.tc : Thread Cert.Fwd3RefIdeal.nD Cert.Fwd3RefIdeal.τ).loc Cert.Fwd3RefIdeal.main_arg0) = m ((c.tc : Thread Cert.Fwd3Ideal.nD Cert.Fwd3Ideal.τ).loc Cert.Fwd3Ideal.main_arg0)
      ∧ m' ((c.tc : Thread Cert.Fwd3RefIdeal.nD Cert.Fwd3RefIdeal.τ).loc Cert.Fwd3RefIdeal.main_arg1) = m ((c.tc : Thread Cert.Fwd3Ideal.nD Cert.Fwd3Ideal.τ).loc Cert.Fwd3Ideal.main_arg1)
      ∧ m' ((c.tc : Thread Cert.Fwd3RefIdeal.nD Cert.Fwd3RefIdeal.τ).loc Cert.Fwd3RefIdeal.main_arg2) = m ((c.tc : Thread Cert.Fwd3Ideal.nD Cert.Fwd3Ideal.τ).loc Cert.Fwd3Ideal.main_arg2)
      ∧ m' ((c.tc : Thread Cert.Fwd3RefIdeal.nD Cert.Fwd3RefIdeal.τ).loc Cert.Fwd3RefIdeal.main_arg3) = m ((c.tc : Thread Cert.Fwd3Ideal.nD Cert.Fwd3Ideal.τ).loc Cert.Fwd3Ideal.main_arg3)
      ∧ m' ((c.tc : Thread Cert.Fwd3RefIdeal.nD Cert.Fwd3RefIdeal.τ).loc Cert.Fwd3RefIdeal.main_arg4) = m ((c.tc : Thread Cert.Fwd3Ideal.nD Cert.Fwd3Ideal.τ).loc Cert.Fwd3Ideal.main_arg4)
      ∧ m' ((c.tc : Thread Cert.Fwd3RefIdeal.nD Cert.Fwd3RefIdeal.τ).loc Cert.Fwd3RefIdeal.main_arg5) = m ((c.tc : Thread Cert.Fwd3Ideal.nD Cert.Fwd3Ideal.τ).loc Cert.Fwd3Ideal.main_arg5)) →
    ∃ (v0 : (c : Dev Cert.Fwd3Ideal.nD) → Buf (Elt Ideal) ((c.tc : Thread Cert.Fwd3Ideal.nD Cert.Fwd3Ideal.τ).loc Cert.Fwd3Ideal.main_v7_0)) (v1 : (c : Dev Cert.Fwd3Ideal.nD) → Buf (Elt Ideal) ((c.tc : Thread Cert.Fwd3Ideal.nD Cert.Fwd3Ideal.τ).loc Cert.Fwd3Ideal.main_v7_1)) (v2 : (c : Dev Cert.Fwd3Ideal.nD) → Buf (Elt Ideal) ((c.tc : Thread Cert.Fwd3Ideal.nD Cert.Fwd3Ideal.τ).loc Cert.Fwd3Ideal.main_v7_2)) (v3 : (c : Dev Cert.Fwd3Ideal.nD) → Buf (Elt Ideal) ((c.tc : Thread Cert.Fwd3Ideal.nD Cert.Fwd3Ideal.τ).loc Cert.Fwd3Ideal.main_v7_3)),
      θ_run (Cert.Fwd3Ideal.defs (F := Ideal)) (onTc (τ := Cert.Fwd3Ideal.τ) (Cert.Fwd3Ideal.main (F := Ideal))) ⟨m, fun _ => 0, g⟩ (fun r => ∀ c : Dev Cert.Fwd3Ideal.nD,
          r.2.mem ((c.tc : Thread Cert.Fwd3Ideal.nD Cert.Fwd3Ideal.τ).loc Cert.Fwd3Ideal.main_v7_0) = v0 c
          ∧ r.2.mem ((c.tc : Thread Cert.Fwd3Ideal.nD Cert.Fwd3Ideal.τ).loc Cert.Fwd3Ideal.main_v7_1) = v1 c
          ∧ r.2.mem ((c.tc : Thread Cert.Fwd3Ideal.nD Cert.Fwd3Ideal.τ).loc Cert.Fwd3Ideal.main_v7_2) = v2 c
          ∧ r.2.mem ((c.tc : Thread Cert.Fwd3Ideal.nD Cert.Fwd3Ideal.τ).loc Cert.Fwd3Ideal.main_v7_3) = v3 c
          ∧ r.2.mem ((c.tc : Thread Cert.Fwd3Ideal.nD Cert.Fwd3Ideal.τ).loc Cert.Fwd3Ideal.main_arg0) = m ((c.tc : Thread Cert.Fwd3Ideal.nD Cert.Fwd3Ideal.τ).loc Cert.Fwd3Ideal.main_arg0)
          ∧ r.2.mem ((c.tc : Thread Cert.Fwd3Ideal.nD Cert.Fwd3Ideal.τ).loc Cert.Fwd3Ideal.main_arg1) = m ((c.tc : Thread Cert.Fwd3Ideal.nD Cert.Fwd3Ideal.τ).loc Cert.Fwd3Ideal.main_arg1)
          ∧ r.2.mem ((c.tc : Thread Cert.Fwd3Ideal.nD Cert.Fwd3Ideal.τ).loc Cert.Fwd3Ideal.main_arg2) = m ((c.tc : Thread Cert.Fwd3Ideal.nD Cert.Fwd3Ideal.τ).loc Cert.Fwd3Ideal.main_arg2)
          ∧ r.2.mem ((c.tc : Thread Cert.Fwd3Ideal.nD Cert.Fwd3Ideal.τ).loc Cert.Fwd3Ideal.main_arg3) = m ((c.tc : Thread Cert.Fwd3Ideal.nD Cert.Fwd3Ideal.τ).loc Cert.Fwd3Ideal.main_arg3)
          ∧ r.2.mem ((c.tc : Thread Cert.Fwd3Ideal.nD Cert.Fwd3Ideal.τ).loc Cert.Fwd3Ideal.main_arg4) = m ((c.tc : Thread Cert.Fwd3Ideal.nD Cert.Fwd3Ideal.τ).loc Cert.Fwd3Ideal.main_arg4)
          ∧ r.2.mem ((c.tc : Thread Cert.Fwd3Ideal.nD Cert.Fwd3Ideal.τ).loc Cert.Fwd3Ideal.main_arg5) = m ((c.tc : Thread Cert.Fwd3Ideal.nD Cert.Fwd3Ideal.τ).loc Cert.Fwd3Ideal.main_arg5))
      ∧ θ_run (Cert.Fwd3RefIdeal.defs (F := Ideal)) (onTc (τ := Cert.Fwd3RefIdeal.τ) (Cert.Fwd3RefIdeal.main (F := Ideal))) ⟨m', fun _ => 0, g'⟩ (fun r => ∀ c : Dev Cert.Fwd3RefIdeal.nD,
          r.2.mem ((c.tc : Thread Cert.Fwd3RefIdeal.nD Cert.Fwd3RefIdeal.τ).loc Cert.Fwd3RefIdeal.main_v36) = v0 c
          ∧ r.2.mem ((c.tc : Thread Cert.Fwd3RefIdeal.nD Cert.Fwd3RefIdeal.τ).loc Cert.Fwd3RefIdeal.main_v37) = v1 c
          ∧ r.2.mem ((c.tc : Thread Cert.Fwd3RefIdeal.nD Cert.Fwd3RefIdeal.τ).loc Cert.Fwd3RefIdeal.main_v27) = v2 c
          ∧ r.2.mem ((c.tc : Thread Cert.Fwd3RefIdeal.nD Cert.Fwd3RefIdeal.τ).loc Cert.Fwd3RefIdeal.main_v30) = v3 c
          ∧ r.2.mem ((c.tc : Thread Cert.Fwd3RefIdeal.nD Cert.Fwd3RefIdeal.τ).loc Cert.Fwd3RefIdeal.main_arg0) = m' ((c.tc : Thread Cert.Fwd3RefIdeal.nD Cert.Fwd3RefIdeal.τ).loc Cert.Fwd3RefIdeal.main_arg0)
          ∧ r.2.mem ((c.tc : Thread Cert.Fwd3RefIdeal.nD Cert.Fwd3RefIdeal.τ).loc Cert.Fwd3RefIdeal.main_arg1) = m' ((c.tc : Thread Cert.Fwd3RefIdeal.nD Cert.Fwd3RefIdeal.τ).loc Cert.Fwd3RefIdeal.main_arg1)
          ∧ r.2.mem ((c.tc : Thread Cert.Fwd3RefIdeal.nD Cert.Fwd3RefIdeal.τ).loc Cert.Fwd3RefIdeal.main_arg2) = m' ((c.tc : Thread Cert.Fwd3RefIdeal.nD Cert.Fwd3RefIdeal.τ).loc Cert.Fwd3RefIdeal.main_arg2)
          ∧ r.2.mem ((c.tc : Thread Cert.Fwd3RefIdeal.nD Cert.Fwd3RefIdeal.τ).loc Cert.Fwd3RefIdeal.main_arg3) = m' ((c.tc : Thread Cert.Fwd3RefIdeal.nD Cert.Fwd3RefIdeal.τ).loc Cert.Fwd3RefIdeal.main_arg3)
          ∧ r.2.mem ((c.tc : Thread Cert.Fwd3RefIdeal.nD Cert.Fwd3RefIdeal.τ).loc Cert.Fwd3RefIdeal.main_arg4) = m' ((c.tc : Thread Cert.Fwd3RefIdeal.nD Cert.Fwd3RefIdeal.τ).loc Cert.Fwd3RefIdeal.main_arg4)
          ∧ r.2.mem ((c.tc : Thread Cert.Fwd3RefIdeal.nD Cert.Fwd3RefIdeal.τ).loc Cert.Fwd3RefIdeal.main_arg5) = m' ((c.tc : Thread Cert.Fwd3RefIdeal.nD Cert.Fwd3RefIdeal.τ).loc Cert.Fwd3RefIdeal.main_arg5))

def preserves_Conv0_Conv0Ideal : Prop :=
  True

def algebraic_Conv0Ideal_Conv0RefIdeal [hConv0Ideal : Cert.Conv0Ideal.Facts] [hConv0RefIdeal : Cert.Conv0RefIdeal.Facts] : Prop :=
  ∀ (m : (ℓ : Loc Cert.Conv0Ideal.nD Cert.Conv0Ideal.τ Cert.Conv0Ideal.sig) → Buf (Elt Ideal) ℓ) (g : Dev Cert.Conv0Ideal.nD → PrngReg)
    (m' : (ℓ : Loc Cert.Conv0RefIdeal.nD Cert.Conv0RefIdeal.τ Cert.Conv0RefIdeal.sig) → Buf (Elt Ideal) ℓ) (g' : Dev Cert.Conv0RefIdeal.nD → PrngReg), Pre_Conv0Ideal m →
    (∀ c : Dev Cert.Conv0Ideal.nD,
      m' ((c.tc : Thread Cert.Conv0RefIdeal.nD Cert.Conv0RefIdeal.τ).loc Cert.Conv0RefIdeal.main_arg0) = m ((c.tc : Thread Cert.Conv0Ideal.nD Cert.Conv0Ideal.τ).loc Cert.Conv0Ideal.main_arg0)
      ∧ m' ((c.tc : Thread Cert.Conv0RefIdeal.nD Cert.Conv0RefIdeal.τ).loc Cert.Conv0RefIdeal.main_arg1) = m ((c.tc : Thread Cert.Conv0Ideal.nD Cert.Conv0Ideal.τ).loc Cert.Conv0Ideal.main_arg1)
      ∧ m' ((c.tc : Thread Cert.Conv0RefIdeal.nD Cert.Conv0RefIdeal.τ).loc Cert.Conv0RefIdeal.main_arg2) = m ((c.tc : Thread Cert.Conv0Ideal.nD Cert.Conv0Ideal.τ).loc Cert.Conv0Ideal.main_arg2)
      ∧ m' ((c.tc : Thread Cert.Conv0RefIdeal.nD Cert.Conv0RefIdeal.τ).loc Cert.Conv0RefIdeal.main_arg3) = m ((c.tc : Thread Cert.Conv0Ideal.nD Cert.Conv0Ideal.τ).loc Cert.Conv0Ideal.main_arg3)
      ∧ m' ((c.tc : Thread Cert.Conv0RefIdeal.nD Cert.Conv0RefIdeal.τ).loc Cert.Conv0RefIdeal.main_arg4) = m ((c.tc : Thread Cert.Conv0Ideal.nD Cert.Conv0Ideal.τ).loc Cert.Conv0Ideal.main_arg4)
      ∧ m' ((c.tc : Thread Cert.Conv0RefIdeal.nD Cert.Conv0RefIdeal.τ).loc Cert.Conv0RefIdeal.main_arg5) = m ((c.tc : Thread Cert.Conv0Ideal.nD Cert.Conv0Ideal.τ).loc Cert.Conv0Ideal.main_arg5)
      ∧ m' ((c.tc : Thread Cert.Conv0RefIdeal.nD Cert.Conv0RefIdeal.τ).loc Cert.Conv0RefIdeal.main_arg6) = m ((c.tc : Thread Cert.Conv0Ideal.nD Cert.Conv0Ideal.τ).loc Cert.Conv0Ideal.main_arg6)
      ∧ m' ((c.tc : Thread Cert.Conv0RefIdeal.nD Cert.Conv0RefIdeal.τ).loc Cert.Conv0RefIdeal.main_arg7) = m ((c.tc : Thread Cert.Conv0Ideal.nD Cert.Conv0Ideal.τ).loc Cert.Conv0Ideal.main_arg7)
      ∧ m' ((c.tc : Thread Cert.Conv0RefIdeal.nD Cert.Conv0RefIdeal.τ).loc Cert.Conv0RefIdeal.main_arg8) = m ((c.tc : Thread Cert.Conv0Ideal.nD Cert.Conv0Ideal.τ).loc Cert.Conv0Ideal.main_arg8)) →
    ∃ (v0 : (c : Dev Cert.Conv0Ideal.nD) → Buf (Elt Ideal) ((c.tc : Thread Cert.Conv0Ideal.nD Cert.Conv0Ideal.τ).loc Cert.Conv0Ideal.main_v71_0)) (v1 : (c : Dev Cert.Conv0Ideal.nD) → Buf (Elt Ideal) ((c.tc : Thread Cert.Conv0Ideal.nD Cert.Conv0Ideal.τ).loc Cert.Conv0Ideal.main_v71_1)) (v2 : (c : Dev Cert.Conv0Ideal.nD) → Buf (Elt Ideal) ((c.tc : Thread Cert.Conv0Ideal.nD Cert.Conv0Ideal.τ).loc Cert.Conv0Ideal.main_v71_2)) (v3 : (c : Dev Cert.Conv0Ideal.nD) → Buf (Elt Ideal) ((c.tc : Thread Cert.Conv0Ideal.nD Cert.Conv0Ideal.τ).loc Cert.Conv0Ideal.main_v71_3)),
      θ_run (Cert.Conv0Ideal.defs (F := Ideal)) (onTc (τ := Cert.Conv0Ideal.τ) (Cert.Conv0Ideal.main (F := Ideal))) ⟨m, fun _ => 0, g⟩ (fun r => ∀ c : Dev Cert.Conv0Ideal.nD,
          r.2.mem ((c.tc : Thread Cert.Conv0Ideal.nD Cert.Conv0Ideal.τ).loc Cert.Conv0Ideal.main_v71_0) = v0 c
          ∧ r.2.mem ((c.tc : Thread Cert.Conv0Ideal.nD Cert.Conv0Ideal.τ).loc Cert.Conv0Ideal.main_v71_1) = v1 c
          ∧ r.2.mem ((c.tc : Thread Cert.Conv0Ideal.nD Cert.Conv0Ideal.τ).loc Cert.Conv0Ideal.main_v71_2) = v2 c
          ∧ r.2.mem ((c.tc : Thread Cert.Conv0Ideal.nD Cert.Conv0Ideal.τ).loc Cert.Conv0Ideal.main_v71_3) = v3 c
          ∧ r.2.mem ((c.tc : Thread Cert.Conv0Ideal.nD Cert.Conv0Ideal.τ).loc Cert.Conv0Ideal.main_arg0) = m ((c.tc : Thread Cert.Conv0Ideal.nD Cert.Conv0Ideal.τ).loc Cert.Conv0Ideal.main_arg0)
          ∧ r.2.mem ((c.tc : Thread Cert.Conv0Ideal.nD Cert.Conv0Ideal.τ).loc Cert.Conv0Ideal.main_arg1) = m ((c.tc : Thread Cert.Conv0Ideal.nD Cert.Conv0Ideal.τ).loc Cert.Conv0Ideal.main_arg1)
          ∧ r.2.mem ((c.tc : Thread Cert.Conv0Ideal.nD Cert.Conv0Ideal.τ).loc Cert.Conv0Ideal.main_arg2) = m ((c.tc : Thread Cert.Conv0Ideal.nD Cert.Conv0Ideal.τ).loc Cert.Conv0Ideal.main_arg2)
          ∧ r.2.mem ((c.tc : Thread Cert.Conv0Ideal.nD Cert.Conv0Ideal.τ).loc Cert.Conv0Ideal.main_arg3) = m ((c.tc : Thread Cert.Conv0Ideal.nD Cert.Conv0Ideal.τ).loc Cert.Conv0Ideal.main_arg3)
          ∧ r.2.mem ((c.tc : Thread Cert.Conv0Ideal.nD Cert.Conv0Ideal.τ).loc Cert.Conv0Ideal.main_arg4) = m ((c.tc : Thread Cert.Conv0Ideal.nD Cert.Conv0Ideal.τ).loc Cert.Conv0Ideal.main_arg4)
          ∧ r.2.mem ((c.tc : Thread Cert.Conv0Ideal.nD Cert.Conv0Ideal.τ).loc Cert.Conv0Ideal.main_arg5) = m ((c.tc : Thread Cert.Conv0Ideal.nD Cert.Conv0Ideal.τ).loc Cert.Conv0Ideal.main_arg5)
          ∧ r.2.mem ((c.tc : Thread Cert.Conv0Ideal.nD Cert.Conv0Ideal.τ).loc Cert.Conv0Ideal.main_arg6) = m ((c.tc : Thread Cert.Conv0Ideal.nD Cert.Conv0Ideal.τ).loc Cert.Conv0Ideal.main_arg6)
          ∧ r.2.mem ((c.tc : Thread Cert.Conv0Ideal.nD Cert.Conv0Ideal.τ).loc Cert.Conv0Ideal.main_arg7) = m ((c.tc : Thread Cert.Conv0Ideal.nD Cert.Conv0Ideal.τ).loc Cert.Conv0Ideal.main_arg7)
          ∧ r.2.mem ((c.tc : Thread Cert.Conv0Ideal.nD Cert.Conv0Ideal.τ).loc Cert.Conv0Ideal.main_arg8) = m ((c.tc : Thread Cert.Conv0Ideal.nD Cert.Conv0Ideal.τ).loc Cert.Conv0Ideal.main_arg8))
      ∧ θ_run (Cert.Conv0RefIdeal.defs (F := Ideal)) (onTc (τ := Cert.Conv0RefIdeal.τ) (Cert.Conv0RefIdeal.main (F := Ideal))) ⟨m', fun _ => 0, g'⟩ (fun r => ∀ c : Dev Cert.Conv0RefIdeal.nD,
          r.2.mem ((c.tc : Thread Cert.Conv0RefIdeal.nD Cert.Conv0RefIdeal.τ).loc Cert.Conv0RefIdeal.main_v150) = v0 c
          ∧ r.2.mem ((c.tc : Thread Cert.Conv0RefIdeal.nD Cert.Conv0RefIdeal.τ).loc Cert.Conv0RefIdeal.main_v151) = v1 c
          ∧ r.2.mem ((c.tc : Thread Cert.Conv0RefIdeal.nD Cert.Conv0RefIdeal.τ).loc Cert.Conv0RefIdeal.main_v152) = v2 c
          ∧ r.2.mem ((c.tc : Thread Cert.Conv0RefIdeal.nD Cert.Conv0RefIdeal.τ).loc Cert.Conv0RefIdeal.main_v149) = v3 c
          ∧ r.2.mem ((c.tc : Thread Cert.Conv0RefIdeal.nD Cert.Conv0RefIdeal.τ).loc Cert.Conv0RefIdeal.main_arg0) = m' ((c.tc : Thread Cert.Conv0RefIdeal.nD Cert.Conv0RefIdeal.τ).loc Cert.Conv0RefIdeal.main_arg0)
          ∧ r.2.mem ((c.tc : Thread Cert.Conv0RefIdeal.nD Cert.Conv0RefIdeal.τ).loc Cert.Conv0RefIdeal.main_arg1) = m' ((c.tc : Thread Cert.Conv0RefIdeal.nD Cert.Conv0RefIdeal.τ).loc Cert.Conv0RefIdeal.main_arg1)
          ∧ r.2.mem ((c.tc : Thread Cert.Conv0RefIdeal.nD Cert.Conv0RefIdeal.τ).loc Cert.Conv0RefIdeal.main_arg2) = m' ((c.tc : Thread Cert.Conv0RefIdeal.nD Cert.Conv0RefIdeal.τ).loc Cert.Conv0RefIdeal.main_arg2)
          ∧ r.2.mem ((c.tc : Thread Cert.Conv0RefIdeal.nD Cert.Conv0RefIdeal.τ).loc Cert.Conv0RefIdeal.main_arg3) = m' ((c.tc : Thread Cert.Conv0RefIdeal.nD Cert.Conv0RefIdeal.τ).loc Cert.Conv0RefIdeal.main_arg3)
          ∧ r.2.mem ((c.tc : Thread Cert.Conv0RefIdeal.nD Cert.Conv0RefIdeal.τ).loc Cert.Conv0RefIdeal.main_arg4) = m' ((c.tc : Thread Cert.Conv0RefIdeal.nD Cert.Conv0RefIdeal.τ).loc Cert.Conv0RefIdeal.main_arg4)
          ∧ r.2.mem ((c.tc : Thread Cert.Conv0RefIdeal.nD Cert.Conv0RefIdeal.τ).loc Cert.Conv0RefIdeal.main_arg5) = m' ((c.tc : Thread Cert.Conv0RefIdeal.nD Cert.Conv0RefIdeal.τ).loc Cert.Conv0RefIdeal.main_arg5)
          ∧ r.2.mem ((c.tc : Thread Cert.Conv0RefIdeal.nD Cert.Conv0RefIdeal.τ).loc Cert.Conv0RefIdeal.main_arg6) = m' ((c.tc : Thread Cert.Conv0RefIdeal.nD Cert.Conv0RefIdeal.τ).loc Cert.Conv0RefIdeal.main_arg6)
          ∧ r.2.mem ((c.tc : Thread Cert.Conv0RefIdeal.nD Cert.Conv0RefIdeal.τ).loc Cert.Conv0RefIdeal.main_arg7) = m' ((c.tc : Thread Cert.Conv0RefIdeal.nD Cert.Conv0RefIdeal.τ).loc Cert.Conv0RefIdeal.main_arg7)
          ∧ r.2.mem ((c.tc : Thread Cert.Conv0RefIdeal.nD Cert.Conv0RefIdeal.τ).loc Cert.Conv0RefIdeal.main_arg8) = m' ((c.tc : Thread Cert.Conv0RefIdeal.nD Cert.Conv0RefIdeal.τ).loc Cert.Conv0RefIdeal.main_arg8))

def preserves_Mix0_Mix0Ideal : Prop :=
  True

def algebraic_Mix0Ideal_Mix0RefIdeal [hMix0Ideal : Cert.Mix0Ideal.Facts] [hMix0RefIdeal : Cert.Mix0RefIdeal.Facts] : Prop :=
  ∀ (m : (ℓ : Loc Cert.Mix0Ideal.nD Cert.Mix0Ideal.τ Cert.Mix0Ideal.sig) → Buf (Elt Ideal) ℓ) (g : Dev Cert.Mix0Ideal.nD → PrngReg)
    (m' : (ℓ : Loc Cert.Mix0RefIdeal.nD Cert.Mix0RefIdeal.τ Cert.Mix0RefIdeal.sig) → Buf (Elt Ideal) ℓ) (g' : Dev Cert.Mix0RefIdeal.nD → PrngReg), Pre_Mix0Ideal m →
    (∀ c : Dev Cert.Mix0Ideal.nD,
      m' ((c.tc : Thread Cert.Mix0RefIdeal.nD Cert.Mix0RefIdeal.τ).loc Cert.Mix0RefIdeal.main_arg0) = m ((c.tc : Thread Cert.Mix0Ideal.nD Cert.Mix0Ideal.τ).loc Cert.Mix0Ideal.main_arg0)
      ∧ m' ((c.tc : Thread Cert.Mix0RefIdeal.nD Cert.Mix0RefIdeal.τ).loc Cert.Mix0RefIdeal.main_arg1) = m ((c.tc : Thread Cert.Mix0Ideal.nD Cert.Mix0Ideal.τ).loc Cert.Mix0Ideal.main_arg1)
      ∧ m' ((c.tc : Thread Cert.Mix0RefIdeal.nD Cert.Mix0RefIdeal.τ).loc Cert.Mix0RefIdeal.main_arg2) = m ((c.tc : Thread Cert.Mix0Ideal.nD Cert.Mix0Ideal.τ).loc Cert.Mix0Ideal.main_arg2)
      ∧ m' ((c.tc : Thread Cert.Mix0RefIdeal.nD Cert.Mix0RefIdeal.τ).loc Cert.Mix0RefIdeal.main_arg3) = m ((c.tc : Thread Cert.Mix0Ideal.nD Cert.Mix0Ideal.τ).loc Cert.Mix0Ideal.main_arg3)
      ∧ m' ((c.tc : Thread Cert.Mix0RefIdeal.nD Cert.Mix0RefIdeal.τ).loc Cert.Mix0RefIdeal.main_arg4) = m ((c.tc : Thread Cert.Mix0Ideal.nD Cert.Mix0Ideal.τ).loc Cert.Mix0Ideal.main_arg4)
      ∧ m' ((c.tc : Thread Cert.Mix0RefIdeal.nD Cert.Mix0RefIdeal.τ).loc Cert.Mix0RefIdeal.main_arg5) = m ((c.tc : Thread Cert.Mix0Ideal.nD Cert.Mix0Ideal.τ).loc Cert.Mix0Ideal.main_arg5)
      ∧ m' ((c.tc : Thread Cert.Mix0RefIdeal.nD Cert.Mix0RefIdeal.τ).loc Cert.Mix0RefIdeal.main_arg6) = m ((c.tc : Thread Cert.Mix0Ideal.nD Cert.Mix0Ideal.τ).loc Cert.Mix0Ideal.main_arg6)
      ∧ m' ((c.tc : Thread Cert.Mix0RefIdeal.nD Cert.Mix0RefIdeal.τ).loc Cert.Mix0RefIdeal.main_arg7) = m ((c.tc : Thread Cert.Mix0Ideal.nD Cert.Mix0Ideal.τ).loc Cert.Mix0Ideal.main_arg7)) →
    ∃ (v0 : (c : Dev Cert.Mix0Ideal.nD) → Buf (Elt Ideal) ((c.tc : Thread Cert.Mix0Ideal.nD Cert.Mix0Ideal.τ).loc Cert.Mix0Ideal.main_v10_0)) (v1 : (c : Dev Cert.Mix0Ideal.nD) → Buf (Elt Ideal) ((c.tc : Thread Cert.Mix0Ideal.nD Cert.Mix0Ideal.τ).loc Cert.Mix0Ideal.main_v10_1)) (v2 : (c : Dev Cert.Mix0Ideal.nD) → Buf (Elt Ideal) ((c.tc : Thread Cert.Mix0Ideal.nD Cert.Mix0Ideal.τ).loc Cert.Mix0Ideal.main_v10_2)) (v3 : (c : Dev Cert.Mix0Ideal.nD) → Buf (Elt Ideal) ((c.tc : Thread Cert.Mix0Ideal.nD Cert.Mix0Ideal.τ).loc Cert.Mix0Ideal.main_v10_3)) (v4 : (c : Dev Cert.Mix0Ideal.nD) → Buf (Elt Ideal) ((c.tc : Thread Cert.Mix0Ideal.nD Cert.Mix0Ideal.τ).loc Cert.Mix0Ideal.main_v10_4)) (v5 : (c : Dev Cert.Mix0Ideal.nD) → Buf (Elt Ideal) ((c.tc : Thread Cert.Mix0Ideal.nD Cert.Mix0Ideal.τ).loc Cert.Mix0Ideal.main_v10_5)),
      θ_run (Cert.Mix0Ideal.defs (F := Ideal)) (onTc (τ := Cert.Mix0Ideal.τ) (Cert.Mix0Ideal.main (F := Ideal))) ⟨m, fun _ => 0, g⟩ (fun r => ∀ c : Dev Cert.Mix0Ideal.nD,
          r.2.mem ((c.tc : Thread Cert.Mix0Ideal.nD Cert.Mix0Ideal.τ).loc Cert.Mix0Ideal.main_v10_0) = v0 c
          ∧ r.2.mem ((c.tc : Thread Cert.Mix0Ideal.nD Cert.Mix0Ideal.τ).loc Cert.Mix0Ideal.main_v10_1) = v1 c
          ∧ r.2.mem ((c.tc : Thread Cert.Mix0Ideal.nD Cert.Mix0Ideal.τ).loc Cert.Mix0Ideal.main_v10_2) = v2 c
          ∧ r.2.mem ((c.tc : Thread Cert.Mix0Ideal.nD Cert.Mix0Ideal.τ).loc Cert.Mix0Ideal.main_v10_3) = v3 c
          ∧ r.2.mem ((c.tc : Thread Cert.Mix0Ideal.nD Cert.Mix0Ideal.τ).loc Cert.Mix0Ideal.main_v10_4) = v4 c
          ∧ r.2.mem ((c.tc : Thread Cert.Mix0Ideal.nD Cert.Mix0Ideal.τ).loc Cert.Mix0Ideal.main_v10_5) = v5 c
          ∧ r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
          ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
          ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
          ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
          ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
          ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
          ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
          ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7))
      ∧ θ_run (Cert.Mix0RefIdeal.defs (F := Ideal)) (onTc (τ := Cert.Mix0RefIdeal.τ) (Cert.Mix0RefIdeal.main (F := Ideal))) ⟨m', fun _ => 0, g'⟩ (fun r => ∀ c : Dev Cert.Mix0RefIdeal.nD,
          r.2.mem ((c.tc : Thread Cert.Mix0RefIdeal.nD Cert.Mix0RefIdeal.τ).loc Cert.Mix0RefIdeal.main_v68) = v0 c
          ∧ r.2.mem ((c.tc : Thread Cert.Mix0RefIdeal.nD Cert.Mix0RefIdeal.τ).loc Cert.Mix0RefIdeal.main_v69) = v1 c
          ∧ r.2.mem ((c.tc : Thread Cert.Mix0RefIdeal.nD Cert.Mix0RefIdeal.τ).loc Cert.Mix0RefIdeal.main_v27) = v2 c
          ∧ r.2.mem ((c.tc : Thread Cert.Mix0RefIdeal.nD Cert.Mix0RefIdeal.τ).loc Cert.Mix0RefIdeal.main_v60) = v3 c
          ∧ r.2.mem ((c.tc : Thread Cert.Mix0RefIdeal.nD Cert.Mix0RefIdeal.τ).loc Cert.Mix0RefIdeal.main_v70) = v4 c
          ∧ r.2.mem ((c.tc : Thread Cert.Mix0RefIdeal.nD Cert.Mix0RefIdeal.τ).loc Cert.Mix0RefIdeal.main_v62) = v5 c
          ∧ r.2.mem ((c.tc : Thread Cert.Mix0RefIdeal.nD Cert.Mix0RefIdeal.τ).loc Cert.Mix0RefIdeal.main_arg0) = m' ((c.tc : Thread Cert.Mix0RefIdeal.nD Cert.Mix0RefIdeal.τ).loc Cert.Mix0RefIdeal.main_arg0)
          ∧ r.2.mem ((c.tc : Thread Cert.Mix0RefIdeal.nD Cert.Mix0RefIdeal.τ).loc Cert.Mix0RefIdeal.main_arg1) = m' ((c.tc : Thread Cert.Mix0RefIdeal.nD Cert.Mix0RefIdeal.τ).loc Cert.Mix0RefIdeal.main_arg1)
          ∧ r.2.mem ((c.tc : Thread Cert.Mix0RefIdeal.nD Cert.Mix0RefIdeal.τ).loc Cert.Mix0RefIdeal.main_arg2) = m' ((c.tc : Thread Cert.Mix0RefIdeal.nD Cert.Mix0RefIdeal.τ).loc Cert.Mix0RefIdeal.main_arg2)
          ∧ r.2.mem ((c.tc : Thread Cert.Mix0RefIdeal.nD Cert.Mix0RefIdeal.τ).loc Cert.Mix0RefIdeal.main_arg3) = m' ((c.tc : Thread Cert.Mix0RefIdeal.nD Cert.Mix0RefIdeal.τ).loc Cert.Mix0RefIdeal.main_arg3)
          ∧ r.2.mem ((c.tc : Thread Cert.Mix0RefIdeal.nD Cert.Mix0RefIdeal.τ).loc Cert.Mix0RefIdeal.main_arg4) = m' ((c.tc : Thread Cert.Mix0RefIdeal.nD Cert.Mix0RefIdeal.τ).loc Cert.Mix0RefIdeal.main_arg4)
          ∧ r.2.mem ((c.tc : Thread Cert.Mix0RefIdeal.nD Cert.Mix0RefIdeal.τ).loc Cert.Mix0RefIdeal.main_arg5) = m' ((c.tc : Thread Cert.Mix0RefIdeal.nD Cert.Mix0RefIdeal.τ).loc Cert.Mix0RefIdeal.main_arg5)
          ∧ r.2.mem ((c.tc : Thread Cert.Mix0RefIdeal.nD Cert.Mix0RefIdeal.τ).loc Cert.Mix0RefIdeal.main_arg6) = m' ((c.tc : Thread Cert.Mix0RefIdeal.nD Cert.Mix0RefIdeal.τ).loc Cert.Mix0RefIdeal.main_arg6)
          ∧ r.2.mem ((c.tc : Thread Cert.Mix0RefIdeal.nD Cert.Mix0RefIdeal.τ).loc Cert.Mix0RefIdeal.main_arg7) = m' ((c.tc : Thread Cert.Mix0RefIdeal.nD Cert.Mix0RefIdeal.τ).loc Cert.Mix0RefIdeal.main_arg7))

def preserves_Mix3_Mix3Ideal : Prop :=
  True

def algebraic_Mix3Ideal_Mix3RefIdeal [hMix3Ideal : Cert.Mix3Ideal.Facts] [hMix3RefIdeal : Cert.Mix3RefIdeal.Facts] : Prop :=
  ∀ (m : (ℓ : Loc Cert.Mix3Ideal.nD Cert.Mix3Ideal.τ Cert.Mix3Ideal.sig) → Buf (Elt Ideal) ℓ) (g : Dev Cert.Mix3Ideal.nD → PrngReg)
    (m' : (ℓ : Loc Cert.Mix3RefIdeal.nD Cert.Mix3RefIdeal.τ Cert.Mix3RefIdeal.sig) → Buf (Elt Ideal) ℓ) (g' : Dev Cert.Mix3RefIdeal.nD → PrngReg), Pre_Mix3Ideal m →
    (∀ c : Dev Cert.Mix3Ideal.nD,
      m' ((c.tc : Thread Cert.Mix3RefIdeal.nD Cert.Mix3RefIdeal.τ).loc Cert.Mix3RefIdeal.main_arg0) = m ((c.tc : Thread Cert.Mix3Ideal.nD Cert.Mix3Ideal.τ).loc Cert.Mix3Ideal.main_arg0)
      ∧ m' ((c.tc : Thread Cert.Mix3RefIdeal.nD Cert.Mix3RefIdeal.τ).loc Cert.Mix3RefIdeal.main_arg1) = m ((c.tc : Thread Cert.Mix3Ideal.nD Cert.Mix3Ideal.τ).loc Cert.Mix3Ideal.main_arg1)
      ∧ m' ((c.tc : Thread Cert.Mix3RefIdeal.nD Cert.Mix3RefIdeal.τ).loc Cert.Mix3RefIdeal.main_arg2) = m ((c.tc : Thread Cert.Mix3Ideal.nD Cert.Mix3Ideal.τ).loc Cert.Mix3Ideal.main_arg2)
      ∧ m' ((c.tc : Thread Cert.Mix3RefIdeal.nD Cert.Mix3RefIdeal.τ).loc Cert.Mix3RefIdeal.main_arg3) = m ((c.tc : Thread Cert.Mix3Ideal.nD Cert.Mix3Ideal.τ).loc Cert.Mix3Ideal.main_arg3)
      ∧ m' ((c.tc : Thread Cert.Mix3RefIdeal.nD Cert.Mix3RefIdeal.τ).loc Cert.Mix3RefIdeal.main_arg4) = m ((c.tc : Thread Cert.Mix3Ideal.nD Cert.Mix3Ideal.τ).loc Cert.Mix3Ideal.main_arg4)
      ∧ m' ((c.tc : Thread Cert.Mix3RefIdeal.nD Cert.Mix3RefIdeal.τ).loc Cert.Mix3RefIdeal.main_arg5) = m ((c.tc : Thread Cert.Mix3Ideal.nD Cert.Mix3Ideal.τ).loc Cert.Mix3Ideal.main_arg5)
      ∧ m' ((c.tc : Thread Cert.Mix3RefIdeal.nD Cert.Mix3RefIdeal.τ).loc Cert.Mix3RefIdeal.main_arg6) = m ((c.tc : Thread Cert.Mix3Ideal.nD Cert.Mix3Ideal.τ).loc Cert.Mix3Ideal.main_arg6)
      ∧ m' ((c.tc : Thread Cert.Mix3RefIdeal.nD Cert.Mix3RefIdeal.τ).loc Cert.Mix3RefIdeal.main_arg7) = m ((c.tc : Thread Cert.Mix3Ideal.nD Cert.Mix3Ideal.τ).loc Cert.Mix3Ideal.main_arg7)) →
    ∃ (v0 : (c : Dev Cert.Mix3Ideal.nD) → Buf (Elt Ideal) ((c.tc : Thread Cert.Mix3Ideal.nD Cert.Mix3Ideal.τ).loc Cert.Mix3Ideal.main_v10_0)) (v1 : (c : Dev Cert.Mix3Ideal.nD) → Buf (Elt Ideal) ((c.tc : Thread Cert.Mix3Ideal.nD Cert.Mix3Ideal.τ).loc Cert.Mix3Ideal.main_v10_1)) (v2 : (c : Dev Cert.Mix3Ideal.nD) → Buf (Elt Ideal) ((c.tc : Thread Cert.Mix3Ideal.nD Cert.Mix3Ideal.τ).loc Cert.Mix3Ideal.main_v10_2)) (v3 : (c : Dev Cert.Mix3Ideal.nD) → Buf (Elt Ideal) ((c.tc : Thread Cert.Mix3Ideal.nD Cert.Mix3Ideal.τ).loc Cert.Mix3Ideal.main_v10_3)) (v4 : (c : Dev Cert.Mix3Ideal.nD) → Buf (Elt Ideal) ((c.tc : Thread Cert.Mix3Ideal.nD Cert.Mix3Ideal.τ).loc Cert.Mix3Ideal.main_v10_4)) (v5 : (c : Dev Cert.Mix3Ideal.nD) → Buf (Elt Ideal) ((c.tc : Thread Cert.Mix3Ideal.nD Cert.Mix3Ideal.τ).loc Cert.Mix3Ideal.main_v10_5)),
      θ_run (Cert.Mix3Ideal.defs (F := Ideal)) (onTc (τ := Cert.Mix3Ideal.τ) (Cert.Mix3Ideal.main (F := Ideal))) ⟨m, fun _ => 0, g⟩ (fun r => ∀ c : Dev Cert.Mix3Ideal.nD,
          r.2.mem ((c.tc : Thread Cert.Mix3Ideal.nD Cert.Mix3Ideal.τ).loc Cert.Mix3Ideal.main_v10_0) = v0 c
          ∧ r.2.mem ((c.tc : Thread Cert.Mix3Ideal.nD Cert.Mix3Ideal.τ).loc Cert.Mix3Ideal.main_v10_1) = v1 c
          ∧ r.2.mem ((c.tc : Thread Cert.Mix3Ideal.nD Cert.Mix3Ideal.τ).loc Cert.Mix3Ideal.main_v10_2) = v2 c
          ∧ r.2.mem ((c.tc : Thread Cert.Mix3Ideal.nD Cert.Mix3Ideal.τ).loc Cert.Mix3Ideal.main_v10_3) = v3 c
          ∧ r.2.mem ((c.tc : Thread Cert.Mix3Ideal.nD Cert.Mix3Ideal.τ).loc Cert.Mix3Ideal.main_v10_4) = v4 c
          ∧ r.2.mem ((c.tc : Thread Cert.Mix3Ideal.nD Cert.Mix3Ideal.τ).loc Cert.Mix3Ideal.main_v10_5) = v5 c
          ∧ r.2.mem ((c.tc : Thread Cert.Mix3Ideal.nD Cert.Mix3Ideal.τ).loc Cert.Mix3Ideal.main_arg0) = m ((c.tc : Thread Cert.Mix3Ideal.nD Cert.Mix3Ideal.τ).loc Cert.Mix3Ideal.main_arg0)
          ∧ r.2.mem ((c.tc : Thread Cert.Mix3Ideal.nD Cert.Mix3Ideal.τ).loc Cert.Mix3Ideal.main_arg1) = m ((c.tc : Thread Cert.Mix3Ideal.nD Cert.Mix3Ideal.τ).loc Cert.Mix3Ideal.main_arg1)
          ∧ r.2.mem ((c.tc : Thread Cert.Mix3Ideal.nD Cert.Mix3Ideal.τ).loc Cert.Mix3Ideal.main_arg2) = m ((c.tc : Thread Cert.Mix3Ideal.nD Cert.Mix3Ideal.τ).loc Cert.Mix3Ideal.main_arg2)
          ∧ r.2.mem ((c.tc : Thread Cert.Mix3Ideal.nD Cert.Mix3Ideal.τ).loc Cert.Mix3Ideal.main_arg3) = m ((c.tc : Thread Cert.Mix3Ideal.nD Cert.Mix3Ideal.τ).loc Cert.Mix3Ideal.main_arg3)
          ∧ r.2.mem ((c.tc : Thread Cert.Mix3Ideal.nD Cert.Mix3Ideal.τ).loc Cert.Mix3Ideal.main_arg4) = m ((c.tc : Thread Cert.Mix3Ideal.nD Cert.Mix3Ideal.τ).loc Cert.Mix3Ideal.main_arg4)
          ∧ r.2.mem ((c.tc : Thread Cert.Mix3Ideal.nD Cert.Mix3Ideal.τ).loc Cert.Mix3Ideal.main_arg5) = m ((c.tc : Thread Cert.Mix3Ideal.nD Cert.Mix3Ideal.τ).loc Cert.Mix3Ideal.main_arg5)
          ∧ r.2.mem ((c.tc : Thread Cert.Mix3Ideal.nD Cert.Mix3Ideal.τ).loc Cert.Mix3Ideal.main_arg6) = m ((c.tc : Thread Cert.Mix3Ideal.nD Cert.Mix3Ideal.τ).loc Cert.Mix3Ideal.main_arg6)
          ∧ r.2.mem ((c.tc : Thread Cert.Mix3Ideal.nD Cert.Mix3Ideal.τ).loc Cert.Mix3Ideal.main_arg7) = m ((c.tc : Thread Cert.Mix3Ideal.nD Cert.Mix3Ideal.τ).loc Cert.Mix3Ideal.main_arg7))
      ∧ θ_run (Cert.Mix3RefIdeal.defs (F := Ideal)) (onTc (τ := Cert.Mix3RefIdeal.τ) (Cert.Mix3RefIdeal.main (F := Ideal))) ⟨m', fun _ => 0, g'⟩ (fun r => ∀ c : Dev Cert.Mix3RefIdeal.nD,
          r.2.mem ((c.tc : Thread Cert.Mix3RefIdeal.nD Cert.Mix3RefIdeal.τ).loc Cert.Mix3RefIdeal.main_v68) = v0 c
          ∧ r.2.mem ((c.tc : Thread Cert.Mix3RefIdeal.nD Cert.Mix3RefIdeal.τ).loc Cert.Mix3RefIdeal.main_v69) = v1 c
          ∧ r.2.mem ((c.tc : Thread Cert.Mix3RefIdeal.nD Cert.Mix3RefIdeal.τ).loc Cert.Mix3RefIdeal.main_v27) = v2 c
          ∧ r.2.mem ((c.tc : Thread Cert.Mix3RefIdeal.nD Cert.Mix3RefIdeal.τ).loc Cert.Mix3RefIdeal.main_v60) = v3 c
          ∧ r.2.mem ((c.tc : Thread Cert.Mix3RefIdeal.nD Cert.Mix3RefIdeal.τ).loc Cert.Mix3RefIdeal.main_v70) = v4 c
          ∧ r.2.mem ((c.tc : Thread Cert.Mix3RefIdeal.nD Cert.Mix3RefIdeal.τ).loc Cert.Mix3RefIdeal.main_v62) = v5 c
          ∧ r.2.mem ((c.tc : Thread Cert.Mix3RefIdeal.nD Cert.Mix3RefIdeal.τ).loc Cert.Mix3RefIdeal.main_arg0) = m' ((c.tc : Thread Cert.Mix3RefIdeal.nD Cert.Mix3RefIdeal.τ).loc Cert.Mix3RefIdeal.main_arg0)
          ∧ r.2.mem ((c.tc : Thread Cert.Mix3RefIdeal.nD Cert.Mix3RefIdeal.τ).loc Cert.Mix3RefIdeal.main_arg1) = m' ((c.tc : Thread Cert.Mix3RefIdeal.nD Cert.Mix3RefIdeal.τ).loc Cert.Mix3RefIdeal.main_arg1)
          ∧ r.2.mem ((c.tc : Thread Cert.Mix3RefIdeal.nD Cert.Mix3RefIdeal.τ).loc Cert.Mix3RefIdeal.main_arg2) = m' ((c.tc : Thread Cert.Mix3RefIdeal.nD Cert.Mix3RefIdeal.τ).loc Cert.Mix3RefIdeal.main_arg2)
          ∧ r.2.mem ((c.tc : Thread Cert.Mix3RefIdeal.nD Cert.Mix3RefIdeal.τ).loc Cert.Mix3RefIdeal.main_arg3) = m' ((c.tc : Thread Cert.Mix3RefIdeal.nD Cert.Mix3RefIdeal.τ).loc Cert.Mix3RefIdeal.main_arg3)
          ∧ r.2.mem ((c.tc : Thread Cert.Mix3RefIdeal.nD Cert.Mix3RefIdeal.τ).loc Cert.Mix3RefIdeal.main_arg4) = m' ((c.tc : Thread Cert.Mix3RefIdeal.nD Cert.Mix3RefIdeal.τ).loc Cert.Mix3RefIdeal.main_arg4)
          ∧ r.2.mem ((c.tc : Thread Cert.Mix3RefIdeal.nD Cert.Mix3RefIdeal.τ).loc Cert.Mix3RefIdeal.main_arg5) = m' ((c.tc : Thread Cert.Mix3RefIdeal.nD Cert.Mix3RefIdeal.τ).loc Cert.Mix3RefIdeal.main_arg5)
          ∧ r.2.mem ((c.tc : Thread Cert.Mix3RefIdeal.nD Cert.Mix3RefIdeal.τ).loc Cert.Mix3RefIdeal.main_arg6) = m' ((c.tc : Thread Cert.Mix3RefIdeal.nD Cert.Mix3RefIdeal.τ).loc Cert.Mix3RefIdeal.main_arg6)
          ∧ r.2.mem ((c.tc : Thread Cert.Mix3RefIdeal.nD Cert.Mix3RefIdeal.τ).loc Cert.Mix3RefIdeal.main_arg7) = m' ((c.tc : Thread Cert.Mix3RefIdeal.nD Cert.Mix3RefIdeal.τ).loc Cert.Mix3RefIdeal.main_arg7))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)
      ∧ m' ((c.tc : Thread Cert.GatingRefIdeal.nD Cert.GatingRefIdeal.τ).loc Cert.GatingRefIdeal.main_arg5) = m ((c.tc : Thread Cert.GatingIdeal.nD Cert.GatingIdeal.τ).loc Cert.GatingIdeal.main_arg5)
      ∧ m' ((c.tc : Thread Cert.GatingRefIdeal.nD Cert.GatingRefIdeal.τ).loc Cert.GatingRefIdeal.main_arg6) = m ((c.tc : Thread Cert.GatingIdeal.nD Cert.GatingIdeal.τ).loc Cert.GatingIdeal.main_arg6)
      ∧ m' ((c.tc : Thread Cert.GatingRefIdeal.nD Cert.GatingRefIdeal.τ).loc Cert.GatingRefIdeal.main_arg7) = m ((c.tc : Thread Cert.GatingIdeal.nD Cert.GatingIdeal.τ).loc Cert.GatingIdeal.main_arg7)
      ∧ m' ((c.tc : Thread Cert.GatingRefIdeal.nD Cert.GatingRefIdeal.τ).loc Cert.GatingRefIdeal.main_arg8) = m ((c.tc : Thread Cert.GatingIdeal.nD Cert.GatingIdeal.τ).loc Cert.GatingIdeal.main_arg8)) →
    ∃ (v0 : (c : Dev Cert.GatingIdeal.nD) → Buf (Elt Ideal) ((c.tc : Thread Cert.GatingIdeal.nD Cert.GatingIdeal.τ).loc Cert.GatingIdeal.main_v9_0)) (v1 : (c : Dev Cert.GatingIdeal.nD) → Buf (Elt Ideal) ((c.tc : Thread Cert.GatingIdeal.nD Cert.GatingIdeal.τ).loc Cert.GatingIdeal.main_v9_1)) (v2 : (c : Dev Cert.GatingIdeal.nD) → Buf (Elt Ideal) ((c.tc : Thread Cert.GatingIdeal.nD Cert.GatingIdeal.τ).loc Cert.GatingIdeal.main_v9_2)) (v3 : (c : Dev Cert.GatingIdeal.nD) → Buf (Elt Ideal) ((c.tc : Thread Cert.GatingIdeal.nD Cert.GatingIdeal.τ).loc Cert.GatingIdeal.main_v9_3)) (v4 : (c : Dev Cert.GatingIdeal.nD) → Buf (Elt Ideal) ((c.tc : Thread Cert.GatingIdeal.nD Cert.GatingIdeal.τ).loc Cert.GatingIdeal.main_v9_4)) (v5 : (c : Dev Cert.GatingIdeal.nD) → Buf (Elt Ideal) ((c.tc : Thread Cert.GatingIdeal.nD Cert.GatingIdeal.τ).loc Cert.GatingIdeal.main_v9_5)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v9_0) = v0 c
          ∧ r.2.mem ((c.tc : Thread Cert.GatingIdeal.nD Cert.GatingIdeal.τ).loc Cert.GatingIdeal.main_v9_1) = v1 c
          ∧ r.2.mem ((c.tc : Thread Cert.GatingIdeal.nD Cert.GatingIdeal.τ).loc Cert.GatingIdeal.main_v9_2) = v2 c
          ∧ r.2.mem ((c.tc : Thread Cert.GatingIdeal.nD Cert.GatingIdeal.τ).loc Cert.GatingIdeal.main_v9_3) = v3 c
          ∧ r.2.mem ((c.tc : Thread Cert.GatingIdeal.nD Cert.GatingIdeal.τ).loc Cert.GatingIdeal.main_v9_4) = v4 c
          ∧ r.2.mem ((c.tc : Thread Cert.GatingIdeal.nD Cert.GatingIdeal.τ).loc Cert.GatingIdeal.main_v9_5) = v5 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
          ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
          ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v64) = v0 c
          ∧ r.2.mem ((c.tc : Thread Cert.GatingRefIdeal.nD Cert.GatingRefIdeal.τ).loc Cert.GatingRefIdeal.main_v65) = v1 c
          ∧ r.2.mem ((c.tc : Thread Cert.GatingRefIdeal.nD Cert.GatingRefIdeal.τ).loc Cert.GatingRefIdeal.main_v27) = v2 c
          ∧ r.2.mem ((c.tc : Thread Cert.GatingRefIdeal.nD Cert.GatingRefIdeal.τ).loc Cert.GatingRefIdeal.main_v56) = v3 c
          ∧ r.2.mem ((c.tc : Thread Cert.GatingRefIdeal.nD Cert.GatingRefIdeal.τ).loc Cert.GatingRefIdeal.main_v66) = v4 c
          ∧ r.2.mem ((c.tc : Thread Cert.GatingRefIdeal.nD Cert.GatingRefIdeal.τ).loc Cert.GatingRefIdeal.main_v58) = v5 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4)
          ∧ r.2.mem ((c.tc : Thread Cert.GatingRefIdeal.nD Cert.GatingRefIdeal.τ).loc Cert.GatingRefIdeal.main_arg5) = m' ((c.tc : Thread Cert.GatingRefIdeal.nD Cert.GatingRefIdeal.τ).loc Cert.GatingRefIdeal.main_arg5)
          ∧ r.2.mem ((c.tc : Thread Cert.GatingRefIdeal.nD Cert.GatingRefIdeal.τ).loc Cert.GatingRefIdeal.main_arg6) = m' ((c.tc : Thread Cert.GatingRefIdeal.nD Cert.GatingRefIdeal.τ).loc Cert.GatingRefIdeal.main_arg6)
          ∧ r.2.mem ((c.tc : Thread Cert.GatingRefIdeal.nD Cert.GatingRefIdeal.τ).loc Cert.GatingRefIdeal.main_arg7) = m' ((c.tc : Thread Cert.GatingRefIdeal.nD Cert.GatingRefIdeal.τ).loc Cert.GatingRefIdeal.main_arg7)
          ∧ r.2.mem ((c.tc : Thread Cert.GatingRefIdeal.nD Cert.GatingRefIdeal.τ).loc Cert.GatingRefIdeal.main_arg8) = m' ((c.tc : Thread Cert.GatingRefIdeal.nD Cert.GatingRefIdeal.τ).loc Cert.GatingRefIdeal.main_arg8))

def Claim : Prop :=
  ∃ (hConv : Cert.Conv.Facts) (hConvIdeal : Cert.ConvIdeal.Facts) (hConvRefIdeal : Cert.ConvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hConvIn : Cert.ConvIn.Facts) (hConvInIdeal : Cert.ConvInIdeal.Facts) (hConvInRefIdeal : Cert.ConvInRefIdeal.Facts) (hGateIn : Cert.GateIn.Facts) (hGateInIdeal : Cert.GateInIdeal.Facts) (hGateInRefIdeal : Cert.GateInRefIdeal.Facts) (hSquare : Cert.Square.Facts) (hSquareIdeal : Cert.SquareIdeal.Facts) (hSquareRefIdeal : Cert.SquareRefIdeal.Facts) (hFfn0 : Cert.Ffn0.Facts) (hFfn0Ideal : Cert.Ffn0Ideal.Facts) (hFfn0RefIdeal : Cert.Ffn0RefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFfn3 : Cert.Ffn3.Facts) (hFfn3Ideal : Cert.Ffn3Ideal.Facts) (hFfn3RefIdeal : Cert.Ffn3RefIdeal.Facts) (hFwd0 : Cert.Fwd0.Facts) (hFwd0Ideal : Cert.Fwd0Ideal.Facts) (hFwd0RefIdeal : Cert.Fwd0RefIdeal.Facts) (hFwd1 : Cert.Fwd1.Facts) (hFwd1Ideal : Cert.Fwd1Ideal.Facts) (hFwd1RefIdeal : Cert.Fwd1RefIdeal.Facts) (hFwd2 : Cert.Fwd2.Facts) (hFwd2Ideal : Cert.Fwd2Ideal.Facts) (hFwd2RefIdeal : Cert.Fwd2RefIdeal.Facts) (hFwd3 : Cert.Fwd3.Facts) (hFwd3Ideal : Cert.Fwd3Ideal.Facts) (hFwd3RefIdeal : Cert.Fwd3RefIdeal.Facts) (hConv0 : Cert.Conv0.Facts) (hConv0Ideal : Cert.Conv0Ideal.Facts) (hConv0RefIdeal : Cert.Conv0RefIdeal.Facts) (hMix0 : Cert.Mix0.Facts) (hMix0Ideal : Cert.Mix0Ideal.Facts) (hMix0RefIdeal : Cert.Mix0RefIdeal.Facts) (hMix3 : Cert.Mix3.Facts) (hMix3Ideal : Cert.Mix3Ideal.Facts) (hMix3RefIdeal : Cert.Mix3RefIdeal.Facts) (hGating : Cert.Gating.Facts) (hGatingIdeal : Cert.GatingIdeal.Facts) (hGatingRefIdeal : Cert.GatingRefIdeal.Facts),
    quiescent_Conv (hConv := hConv)
    ∧ quiescent_ConvIdeal (hConvIdeal := hConvIdeal)
    ∧ quiescent_ConvRefIdeal (hConvRefIdeal := hConvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_Square (hSquare := hSquare)
    ∧ quiescent_SquareIdeal (hSquareIdeal := hSquareIdeal)
    ∧ quiescent_SquareRefIdeal (hSquareRefIdeal := hSquareRefIdeal)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Ffn3 (hFfn3 := hFfn3)
    ∧ quiescent_Ffn3Ideal (hFfn3Ideal := hFfn3Ideal)
    ∧ quiescent_Ffn3RefIdeal (hFfn3RefIdeal := hFfn3RefIdeal)
    ∧ quiescent_Fwd0 (hFwd0 := hFwd0)
    ∧ quiescent_Fwd0Ideal (hFwd0Ideal := hFwd0Ideal)
    ∧ quiescent_Fwd0RefIdeal (hFwd0RefIdeal := hFwd0RefIdeal)
    ∧ quiescent_Fwd1 (hFwd1 := hFwd1)
    ∧ quiescent_Fwd1Ideal (hFwd1Ideal := hFwd1Ideal)
    ∧ quiescent_Fwd1RefIdeal (hFwd1RefIdeal := hFwd1RefIdeal)
    ∧ quiescent_Fwd2 (hFwd2 := hFwd2)
    ∧ quiescent_Fwd2Ideal (hFwd2Ideal := hFwd2Ideal)
    ∧ quiescent_Fwd2RefIdeal (hFwd2RefIdeal := hFwd2RefIdeal)
    ∧ quiescent_Fwd3 (hFwd3 := hFwd3)
    ∧ quiescent_Fwd3Ideal (hFwd3Ideal := hFwd3Ideal)
    ∧ quiescent_Fwd3RefIdeal (hFwd3RefIdeal := hFwd3RefIdeal)
    ∧ quiescent_Conv0 (hConv0 := hConv0)
    ∧ quiescent_Conv0Ideal (hConv0Ideal := hConv0Ideal)
    ∧ quiescent_Conv0RefIdeal (hConv0RefIdeal := hConv0RefIdeal)
    ∧ quiescent_Mix0 (hMix0 := hMix0)
    ∧ quiescent_Mix0Ideal (hMix0Ideal := hMix0Ideal)
    ∧ quiescent_Mix0RefIdeal (hMix0RefIdeal := hMix0RefIdeal)
    ∧ quiescent_Mix3 (hMix3 := hMix3)
    ∧ quiescent_Mix3Ideal (hMix3Ideal := hMix3Ideal)
    ∧ quiescent_Mix3RefIdeal (hMix3RefIdeal := hMix3RefIdeal)
    ∧ quiescent_Gating (hGating := hGating)
    ∧ quiescent_GatingIdeal (hGatingIdeal := hGatingIdeal)
    ∧ quiescent_GatingRefIdeal (hGatingRefIdeal := hGatingRefIdeal)
    ∧ preserves_Conv_ConvIdeal
    ∧ algebraic_ConvIdeal_ConvRefIdeal (hConvIdeal := hConvIdeal) (hConvRefIdeal := hConvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ConvIn_ConvInIdeal
    ∧ algebraic_ConvInIdeal_ConvInRefIdeal (hConvInIdeal := hConvInIdeal) (hConvInRefIdeal := hConvInRefIdeal)
    ∧ preserves_GateIn_GateInIdeal
    ∧ algebraic_GateInIdeal_GateInRefIdeal (hGateInIdeal := hGateInIdeal) (hGateInRefIdeal := hGateInRefIdeal)
    ∧ preserves_Square_SquareIdeal
    ∧ algebraic_SquareIdeal_SquareRefIdeal (hSquareIdeal := hSquareIdeal) (hSquareRefIdeal := hSquareRefIdeal)
    ∧ preserves_Ffn0_Ffn0Ideal
    ∧ algebraic_Ffn0Ideal_Ffn0RefIdeal (hFfn0Ideal := hFfn0Ideal) (hFfn0RefIdeal := hFfn0RefIdeal)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Ffn3_Ffn3Ideal
    ∧ algebraic_Ffn3Ideal_Ffn3RefIdeal (hFfn3Ideal := hFfn3Ideal) (hFfn3RefIdeal := hFfn3RefIdeal)
    ∧ preserves_Fwd0_Fwd0Ideal
    ∧ algebraic_Fwd0Ideal_Fwd0RefIdeal (hFwd0Ideal := hFwd0Ideal) (hFwd0RefIdeal := hFwd0RefIdeal)
    ∧ preserves_Fwd1_Fwd1Ideal
    ∧ algebraic_Fwd1Ideal_Fwd1RefIdeal (hFwd1Ideal := hFwd1Ideal) (hFwd1RefIdeal := hFwd1RefIdeal)
    ∧ preserves_Fwd2_Fwd2Ideal
    ∧ algebraic_Fwd2Ideal_Fwd2RefIdeal (hFwd2Ideal := hFwd2Ideal) (hFwd2RefIdeal := hFwd2RefIdeal)
    ∧ preserves_Fwd3_Fwd3Ideal
    ∧ algebraic_Fwd3Ideal_Fwd3RefIdeal (hFwd3Ideal := hFwd3Ideal) (hFwd3RefIdeal := hFwd3RefIdeal)
    ∧ preserves_Conv0_Conv0Ideal
    ∧ algebraic_Conv0Ideal_Conv0RefIdeal (hConv0Ideal := hConv0Ideal) (hConv0RefIdeal := hConv0RefIdeal)
    ∧ preserves_Mix0_Mix0Ideal
    ∧ algebraic_Mix0Ideal_Mix0RefIdeal (hMix0Ideal := hMix0Ideal) (hMix0RefIdeal := hMix0RefIdeal)
    ∧ preserves_Mix3_Mix3Ideal
    ∧ algebraic_Mix3Ideal_Mix3RefIdeal (hMix3Ideal := hMix3Ideal) (hMix3RefIdeal := hMix3RefIdeal)
    ∧ preserves_Gating_GatingIdeal
    ∧ algebraic_GatingIdeal_GatingRefIdeal (hGatingIdeal := hGatingIdeal) (hGatingRefIdeal := hGatingRefIdeal)
-- ==== Conv.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩
abbrev S4x1x1024 : Shape := ⟨3, ![4, 1, 1024]⟩
abbrev S4x8x1024 : Shape := ⟨3, ![4, 8, 1024]⟩
abbrev S2x1x1024 : Shape := ⟨3, ![2, 1, 1024]⟩
abbrev S2x4x1024 : Shape := ⟨3, ![2, 4, 1024]⟩
abbrev S2x8x1024 : Shape := ⟨3, ![2, 8, 1024]⟩
abbrev S1x1024x3072 : Shape := ⟨3, ![1, 1024, 3072]⟩
abbrev S1x1024x1024 : Shape := ⟨3, ![1, 1024, 1024]⟩
abbrev S8x1024 : Shape := ⟨2, ![8, 1024]⟩
abbrev S512x1024 : Shape := ⟨2, ![512, 1024]⟩
abbrev S512x3072 : Shape := ⟨2, ![512, 3072]⟩
abbrev S8x3072 : Shape := ⟨2, ![8, 3072]⟩
abbrev S1x8x1024 : Shape := ⟨3, ![1, 8, 1024]⟩
abbrev S512 : Shape := ⟨1, ![512]⟩
abbrev S512x1 : Shape := ⟨2, ![512, 1]⟩

abbrev nBuf : Space → Nat
  | .hbm => 90
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x3072, .f32⟩
  | .hbm, ⟨6, _⟩ => ⟨S2x3x1024, .f32⟩
  | .hbm, ⟨7, _⟩ => ⟨S2x1024, .f32⟩
  | .hbm, ⟨8, _⟩ => ⟨S1024x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x3072, .f32⟩
  | .hbm, ⟨39, _⟩ => ⟨S1x3x1024, .f32⟩
  | .hbm, ⟨40, _⟩ => ⟨S3x1024, .f32⟩
  | .hbm, ⟨41, _⟩ => ⟨S1x1024, .f32⟩
  | .hbm, ⟨42, _⟩ => ⟨S1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S2x1024, .f32⟩
  | .hbm, ⟨49, _⟩ => ⟨S4098x1024, .f32⟩
  | .hbm, ⟨50, _⟩ => ⟨S1x1024, .f32⟩
  | .hbm, ⟨51, _⟩ => ⟨S1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4x1x1024, .f32⟩
  | .hbm, ⟨76, _⟩ => ⟨S4x1x1024, .f32⟩
  | .hbm, ⟨77, _⟩ => ⟨S4x8x1024, .f32⟩
  | .hbm, ⟨78, _⟩ => ⟨S2x1x1024, .f32⟩
  | .hbm, ⟨79, _⟩ => ⟨S_, .f32⟩
  | .hbm, ⟨80, _⟩ => ⟨S2x4x1024, .f32⟩
  | .hbm, ⟨81, _⟩ => ⟨S2x8x1024, .f32⟩
  | .hbm, ⟨82, _⟩ => ⟨S1024x3072, .bf16⟩
  | .hbm, ⟨83, _⟩ => ⟨S1x1024x3072, .bf16⟩
  | .hbm, ⟨84, _⟩ => ⟨S1024x1024, .bf16⟩
  | .hbm, ⟨85, _⟩ => ⟨S1x1024x1024, .bf16⟩
  | .hbm, ⟨86, _⟩ => ⟨S4096x1024, .f32⟩
  | .hbm, ⟨87, _⟩ => ⟨S4096x3072, .bf16⟩
  | .hbm, ⟨88, _⟩ => ⟨S4096x1024, .bf16⟩
  | .hbm, ⟨89, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S8x3072, .f32⟩
  | .local _ .vmem, ⟨11, _⟩ => ⟨S8x3072, .f32⟩
  | .local _ .vmem, ⟨12, _⟩ => ⟨S1x8x1024, .f32⟩
  | .local _ .vmem, ⟨13, _⟩ => ⟨S1x1024x3072, .bf16⟩
  | .local _ .vmem, ⟨14, _⟩ => ⟨S1x1024x1024, .bf16⟩
  | .local _ .vmem, ⟨15, _⟩ => ⟨S1x8x1024, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvRefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩
abbrev S8x1024 : Shape := ⟨2, ![8, 1024]⟩

abbrev nBuf : Space → Nat
  | .hbm => 193
  | .vmem => 0
  | .smem => 0
  | _ => 0

abbrev hbmTy0_0 (i : Nat) : BufTy := match i % 128 with
  | 0 => ⟨S4096x1024, .f32⟩
  | 1 => ⟨S4096x1024, .f32⟩
  | 2 => ⟨S4x6x1024, .f32⟩
  | 3 => ⟨S4x1024, .f32⟩
  | 4 => ⟨S4x1024, .f32⟩
  | 5 => ⟨S1024x3072, .f32⟩
  | 6 => ⟨S2x3x1024, .f32⟩
  | 7 => ⟨S2x1024, .f32⟩
  | 8 => ⟨S1024x1024, .f32⟩
  | 9 => ⟨S1x1024, .f32⟩
  | 10 => ⟨S1024, .f32⟩
  | 11 => ⟨S1x1x1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S1x1x1024, .f32⟩
  | 18 => ⟨S1024, .f32⟩
  | 19 => ⟨S1x1x1024, .f32⟩
  | 20 => ⟨S1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S4096x3072, .f32⟩
  | 45 => ⟨S1x3x1024, .f32⟩
  | 46 => ⟨S3x1024, .f32⟩
  | 47 => ⟨S1x1024, .f32⟩
  | 48 => ⟨S1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S2x1024, .f32⟩
  | 55 => ⟨S4098x1024, .f32⟩
  | 56 => ⟨S_, .f32⟩
  | 57 => ⟨S2x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S1x1024, .f32⟩
  | 65 => ⟨S1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S1x1024, .f32⟩
  | 72 => ⟨S1024, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S_, .f32⟩
  | 103 => ⟨S1024, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S_, .f32⟩
  | 113 => ⟨S4098x1024, .f32⟩
  | 114 => ⟨S1x1024, .f32⟩
  | 115 => ⟨S_, .f32⟩
  | 116 => ⟨S3x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S_, .f32⟩
  | 126 => ⟨S4098x1024, .f32⟩
  | 127 => ⟨S4098x1024, .f32⟩
  | _ => ⟨S4096x1024, .f32⟩

abbrev hbmTy0_1 (i : Nat) : BufTy := match i % 128 with
  | 0 => ⟨S1x1024, .f32⟩
  | 1 => ⟨S_, .f32⟩
  | 2 => ⟨S3x1024, .f32⟩
  | 3 => ⟨S3x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S_, .f32⟩
  | 11 => ⟨S1024, .f32⟩
  | 12 => ⟨S_, .f32⟩
  | 13 => ⟨S4098x1024, .f32⟩
  | 14 => ⟨S4098x1024, .f32⟩
  | 15 => ⟨S1x1024, .f32⟩
  | 16 => ⟨S_, .f32⟩
  | 17 => ⟨S3x1024, .f32⟩
  | 18 => ⟨S3x1024, .f32⟩
  | 19 => ⟨S2x1024, .f32⟩
  | 20 => ⟨S4096x1024, .f32⟩
  | 21 => ⟨S4096x1024, .f32⟩
  | 22 => ⟨S4096x1024, .f32⟩
  | 23 => ⟨S4096x3072, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S_, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S1x1024, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S8x1024, .f32⟩
  | 62 => ⟨S4096x1024, .f32⟩
  | 63 => ⟨S4096x3072, .bf16⟩
  | 64 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_6 : Ref sig .tc := ⟨.hbm, 91, rfl⟩
abbrev main_v75 : Ref sig .tc := ⟨.hbm, 92, rfl⟩
abbrev main_v76 : Ref sig .tc := ⟨.hbm, 93, rfl⟩
abbrev main_cst_7 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_cst_12 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_14 : Ref sig .tc := ⟨.hbm, 120, rfl⟩
abbrev main_v96 : Ref sig .tc := ⟨.hbm, 121, rfl⟩
abbrev main_v97 : Ref sig .tc := ⟨.hbm, 122, rfl⟩
abbrev main_cst_15 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_18 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_cst_20 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_21 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_22 : Ref sig .tc := ⟨.hbm, 153, rfl⟩
abbrev main_v121 : Ref sig .tc := ⟨.hbm, 154, rfl⟩
abbrev main_v122 : Ref sig .tc := ⟨.hbm, 155, rfl⟩
abbrev main_cst_23 : Ref sig .tc := ⟨.hbm, 156, rfl⟩
abbrev main_v123 : Ref sig .tc := ⟨.hbm, 157, rfl⟩
abbrev main_v124 : Ref sig .tc := ⟨.hbm, 158, rfl⟩
abbrev main_cst_24 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_25 : Ref sig .tc := ⟨.hbm, 164, rfl⟩
abbrev main_v129 : Ref sig .tc := ⟨.hbm, 165, rfl⟩
abbrev main_v130 : Ref sig .tc := ⟨.hbm, 166, rfl⟩
abbrev main_cst_26 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_27 : Ref sig .tc := ⟨.hbm, 173, rfl⟩
abbrev main_v136 : Ref sig .tc := ⟨.hbm, 174, rfl⟩
abbrev main_v137 : Ref sig .tc := ⟨.hbm, 175, rfl⟩
abbrev main_cst_28 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvIn.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateIn.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInRefIdeal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Square.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ffn0.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4x1x1024, .f32⟩
  | .hbm, ⟨43, _⟩ => ⟨S4x1x1024, .f32⟩
  | .hbm, ⟨44, _⟩ => ⟨S4x8x1024, .f32⟩
  | .hbm, ⟨45, _⟩ => ⟨S1024x4096, .bf16⟩
  | .hbm, ⟨46, _⟩ => ⟨S1x1024x4096, .bf16⟩
  | .hbm, ⟨47, _⟩ => ⟨S4096x1024, .bf16⟩
  | .hbm, ⟨48, _⟩ => ⟨S1x4096x1024, .bf16⟩
  | .hbm, ⟨49, _⟩ => ⟨S4096x1024, .f32⟩
  | .hbm, ⟨50, _⟩ => ⟨S4096x4096, .bf16⟩
  | .hbm, ⟨51, _⟩ => ⟨S4096x4096, .bf16⟩
  | .hbm, ⟨52, _⟩ => ⟨S4096x1024, .bf16⟩
  | .hbm, ⟨53, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S256x1024, .f32⟩
  | .local _ .vmem, ⟨12, _⟩ => ⟨S256x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn0RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S5x1024 : Shape := ⟨2, ![5, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S5x1024, .f32⟩
  | .hbm, ⟨110, _⟩ => ⟨S8x1024, .f32⟩
  | .hbm, ⟨111, _⟩ => ⟨S4096x1024, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .bf16⟩
  | .hbm, ⟨117, _⟩ => ⟨S4096x4096, .bf16⟩
  | .hbm, ⟨118, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Ffn1.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4x1x1024, .f32⟩
  | .hbm, ⟨43, _⟩ => ⟨S4x1x1024, .f32⟩
  | .hbm, ⟨44, _⟩ => ⟨S4x8x1024, .f32⟩
  | .hbm, ⟨45, _⟩ => ⟨S1024x4096, .bf16⟩
  | .hbm, ⟨46, _⟩ => ⟨S1x1024x4096, .bf16⟩
  | .hbm, ⟨47, _⟩ => ⟨S4096x1024, .bf16⟩
  | .hbm, ⟨48, _⟩ => ⟨S1x4096x1024, .bf16⟩
  | .hbm, ⟨49, _⟩ => ⟨S4096x1024, .f32⟩
  | .hbm, ⟨50, _⟩ => ⟨S4096x4096, .bf16⟩
  | .hbm, ⟨51, _⟩ => ⟨S4096x4096, .bf16⟩
  | .hbm, ⟨52, _⟩ => ⟨S4096x1024, .bf16⟩
  | .hbm, ⟨53, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S256x1024, .f32⟩
  | .local _ .vmem, ⟨12, _⟩ => ⟨S256x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn1RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S5x1024 : Shape := ⟨2, ![5, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S5x1024, .f32⟩
  | .hbm, ⟨110, _⟩ => ⟨S8x1024, .f32⟩
  | .hbm, ⟨111, _⟩ => ⟨S4096x1024, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .bf16⟩
  | .hbm, ⟨117, _⟩ => ⟨S4096x4096, .bf16⟩
  | .hbm, ⟨118, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Ffn2.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4x1x1024, .f32⟩
  | .hbm, ⟨43, _⟩ => ⟨S4x1x1024, .f32⟩
  | .hbm, ⟨44, _⟩ => ⟨S4x8x1024, .f32⟩
  | .hbm, ⟨45, _⟩ => ⟨S1024x4096, .bf16⟩
  | .hbm, ⟨46, _⟩ => ⟨S1x1024x4096, .bf16⟩
  | .hbm, ⟨47, _⟩ => ⟨S4096x1024, .bf16⟩
  | .hbm, ⟨48, _⟩ => ⟨S1x4096x1024, .bf16⟩
  | .hbm, ⟨49, _⟩ => ⟨S4096x1024, .f32⟩
  | .hbm, ⟨50, _⟩ => ⟨S4096x4096, .bf16⟩
  | .hbm, ⟨51, _⟩ => ⟨S4096x4096, .bf16⟩
  | .hbm, ⟨52, _⟩ => ⟨S4096x1024, .bf16⟩
  | .hbm, ⟨53, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S256x1024, .f32⟩
  | .local _ .vmem, ⟨12, _⟩ => ⟨S256x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn2RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S5x1024 : Shape := ⟨2, ![5, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S5x1024, .f32⟩
  | .hbm, ⟨110, _⟩ => ⟨S8x1024, .f32⟩
  | .hbm, ⟨111, _⟩ => ⟨S4096x1024, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .bf16⟩
  | .hbm, ⟨117, _⟩ => ⟨S4096x4096, .bf16⟩
  | .hbm, ⟨118, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Ffn3.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S8x1024 : Shape := ⟨2, ![8, 1024]⟩
abbrev S256x1024 : Shape := ⟨2, ![256, 1024]⟩
abbrev S256x4096 : Shape := ⟨2, ![256, 4096]⟩
abbrev S1x8x1024 : Shape := ⟨3, ![1, 8, 1024]⟩
abbrev S256 : Shape := ⟨1, ![256]⟩
abbrev S256x1 : Shape := ⟨2, ![256, 1]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4x1x1024, .f32⟩
  | .hbm, ⟨43, _⟩ => ⟨S4x1x1024, .f32⟩
  | .hbm, ⟨44, _⟩ => ⟨S4x8x1024, .f32⟩
  | .hbm, ⟨45, _⟩ => ⟨S1024x4096, .bf16⟩
  | .hbm, ⟨46, _⟩ => ⟨S1x1024x4096, .bf16⟩
  | .hbm, ⟨47, _⟩ => ⟨S4096x1024, .bf16⟩
  | .hbm, ⟨48, _⟩ => ⟨S1x4096x1024, .bf16⟩
  | .hbm, ⟨49, _⟩ => ⟨S4096x1024, .f32⟩
  | .hbm, ⟨50, _⟩ => ⟨S4096x4096, .bf16⟩
  | .hbm, ⟨51, _⟩ => ⟨S4096x4096, .bf16⟩
  | .hbm, ⟨52, _⟩ => ⟨S4096x1024, .bf16⟩
  | .hbm, ⟨53, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S256x1024, .f32⟩
  | .local _ .vmem, ⟨12, _⟩ => ⟨S256x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev main_v36_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn3RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S5x1024 : Shape := ⟨2, ![5, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .i1⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S5x1024, .f32⟩
  | .hbm, ⟨110, _⟩ => ⟨S8x1024, .f32⟩
  | .hbm, ⟨111, _⟩ => ⟨S4096x1024, .f32⟩
  | .hbm, ⟨112, _⟩ => ⟨S_, .f32⟩
  | .hbm, ⟨113, _⟩ => ⟨S4096x4096, .f32⟩
  | .hbm, ⟨114, _⟩ => ⟨S4096x4096, .f32⟩
  | .hbm, ⟨115, _⟩ => ⟨S4096x4096, .f32⟩
  | .hbm, ⟨116, _⟩ => ⟨S4096x4096, .bf16⟩
  | .hbm, ⟨117, _⟩ => ⟨S4096x4096, .bf16⟩
  | .hbm, ⟨118, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Fwd0.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S512x1024 : Shape := ⟨2, ![512, 1024]⟩
abbrev S1x8x1024 : Shape := ⟨3, ![1, 8, 1024]⟩
abbrev S512x4096 : Shape := ⟨2, ![512, 4096]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S4x1x1024, .f32⟩
  | .hbm, ⟨7, _⟩ => ⟨S4x1x1024, .f32⟩
  | .hbm, ⟨8, _⟩ => ⟨S4x8x1024, .f32⟩
  | .hbm, ⟨9, _⟩ => ⟨S1024x4096, .bf16⟩
  | .hbm, ⟨10, _⟩ => ⟨S1x1024x4096, .bf16⟩
  | .hbm, ⟨11, _⟩ => ⟨S4096x1024, .bf16⟩
  | .hbm, ⟨12, _⟩ => ⟨S1x4096x1024, .bf16⟩
  | .hbm, ⟨13, _⟩ => ⟨S4096x1024, .f32⟩
  | .hbm, ⟨14, _⟩ => ⟨S4096x1024, .bf16⟩
  | .hbm, ⟨15, _⟩ => ⟨S4096x4096, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .f32⟩
  | .local _ .vmem, ⟨10, _⟩ => ⟨S512x4096, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Fwd0RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S1x1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Fwd1.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S512x1024 : Shape := ⟨2, ![512, 1024]⟩
abbrev S1x8x1024 : Shape := ⟨3, ![1, 8, 1024]⟩
abbrev S512x4096 : Shape := ⟨2, ![512, 4096]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S4x1x1024, .f32⟩
  | .hbm, ⟨7, _⟩ => ⟨S4x1x1024, .f32⟩
  | .hbm, ⟨8, _⟩ => ⟨S4x8x1024, .f32⟩
  | .hbm, ⟨9, _⟩ => ⟨S1024x4096, .bf16⟩
  | .hbm, ⟨10, _⟩ => ⟨S1x1024x4096, .bf16⟩
  | .hbm, ⟨11, _⟩ => ⟨S4096x1024, .bf16⟩
  | .hbm, ⟨12, _⟩ => ⟨S1x4096x1024, .bf16⟩
  | .hbm, ⟨13, _⟩ => ⟨S4096x1024, .f32⟩
  | .hbm, ⟨14, _⟩ => ⟨S4096x1024, .bf16⟩
  | .hbm, ⟨15, _⟩ => ⟨S4096x4096, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .f32⟩
  | .local _ .vmem, ⟨10, _⟩ => ⟨S512x4096, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Fwd1RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S1x1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Fwd2.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S512x1024 : Shape := ⟨2, ![512, 1024]⟩
abbrev S1x8x1024 : Shape := ⟨3, ![1, 8, 1024]⟩
abbrev S512x4096 : Shape := ⟨2, ![512, 4096]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S4x1x1024, .f32⟩
  | .hbm, ⟨7, _⟩ => ⟨S4x1x1024, .f32⟩
  | .hbm, ⟨8, _⟩ => ⟨S4x8x1024, .f32⟩
  | .hbm, ⟨9, _⟩ => ⟨S1024x4096, .bf16⟩
  | .hbm, ⟨10, _⟩ => ⟨S1x1024x4096, .bf16⟩
  | .hbm, ⟨11, _⟩ => ⟨S4096x1024, .bf16⟩
  | .hbm, ⟨12, _⟩ => ⟨S1x4096x1024, .bf16⟩
  | .hbm, ⟨13, _⟩ => ⟨S4096x1024, .f32⟩
  | .hbm, ⟨14, _⟩ => ⟨S4096x1024, .bf16⟩
  | .hbm, ⟨15, _⟩ => ⟨S4096x4096, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .f32⟩
  | .local _ .vmem, ⟨10, _⟩ => ⟨S512x4096, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Fwd2RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S1x1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Fwd3.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S4x1x1024 : Shape := ⟨3, ![4, 1, 1024]⟩
abbrev S4x8x1024 : Shape := ⟨3, ![4, 8, 1024]⟩
abbrev S1x1024x4096 : Shape := ⟨3, ![1, 1024, 4096]⟩
abbrev S1x4096x1024 : Shape := ⟨3, ![1, 4096, 1024]⟩
abbrev S4096x4096 : Shape := ⟨2, ![4096, 4096]⟩
abbrev S512x1024 : Shape := ⟨2, ![512, 1024]⟩
abbrev S1x8x1024 : Shape := ⟨3, ![1, 8, 1024]⟩
abbrev S512x4096 : Shape := ⟨2, ![512, 4096]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S4x1x1024, .f32⟩
  | .hbm, ⟨7, _⟩ => ⟨S4x1x1024, .f32⟩
  | .hbm, ⟨8, _⟩ => ⟨S4x8x1024, .f32⟩
  | .hbm, ⟨9, _⟩ => ⟨S1024x4096, .bf16⟩
  | .hbm, ⟨10, _⟩ => ⟨S1x1024x4096, .bf16⟩
  | .hbm, ⟨11, _⟩ => ⟨S4096x1024, .bf16⟩
  | .hbm, ⟨12, _⟩ => ⟨S1x4096x1024, .bf16⟩
  | .hbm, ⟨13, _⟩ => ⟨S4096x1024, .f32⟩
  | .hbm, ⟨14, _⟩ => ⟨S4096x1024, .bf16⟩
  | .hbm, ⟨15, _⟩ => ⟨S4096x4096, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x4096, .bf16⟩
  | .local _ .vmem, ⟨4, _⟩ => ⟨S1x4096x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .f32⟩
  | .local _ .vmem, ⟨10, _⟩ => ⟨S512x4096, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Fwd3RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S1x1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Conv0.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩
abbrev S4x1x1024 : Shape := ⟨3, ![4, 1, 1024]⟩
abbrev S4x8x1024 : Shape := ⟨3, ![4, 8, 1024]⟩
abbrev S2x1x1024 : Shape := ⟨3, ![2, 1, 1024]⟩
abbrev S2x4x1024 : Shape := ⟨3, ![2, 4, 1024]⟩
abbrev S2x8x1024 : Shape := ⟨3, ![2, 8, 1024]⟩
abbrev S1x1024x3072 : Shape := ⟨3, ![1, 1024, 3072]⟩
abbrev S1x1024x1024 : Shape := ⟨3, ![1, 1024, 1024]⟩
abbrev S8x1024 : Shape := ⟨2, ![8, 1024]⟩
abbrev S512x1024 : Shape := ⟨2, ![512, 1024]⟩
abbrev S512x3072 : Shape := ⟨2, ![512, 3072]⟩
abbrev S8x3072 : Shape := ⟨2, ![8, 3072]⟩
abbrev S1x8x1024 : Shape := ⟨3, ![1, 8, 1024]⟩
abbrev S512 : Shape := ⟨1, ![512]⟩
abbrev S512x1 : Shape := ⟨2, ![512, 1]⟩

abbrev nBuf : Space → Nat
  | .hbm => 90
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S1024x3072, .f32⟩
  | .hbm, ⟨6, _⟩ => ⟨S2x3x1024, .f32⟩
  | .hbm, ⟨7, _⟩ => ⟨S2x1024, .f32⟩
  | .hbm, ⟨8, _⟩ => ⟨S1024x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x3072, .f32⟩
  | .hbm, ⟨39, _⟩ => ⟨S1x3x1024, .f32⟩
  | .hbm, ⟨40, _⟩ => ⟨S3x1024, .f32⟩
  | .hbm, ⟨41, _⟩ => ⟨S1x1024, .f32⟩
  | .hbm, ⟨42, _⟩ => ⟨S1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S2x1024, .f32⟩
  | .hbm, ⟨49, _⟩ => ⟨S4098x1024, .f32⟩
  | .hbm, ⟨50, _⟩ => ⟨S1x1024, .f32⟩
  | .hbm, ⟨51, _⟩ => ⟨S1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4x1x1024, .f32⟩
  | .hbm, ⟨76, _⟩ => ⟨S4x1x1024, .f32⟩
  | .hbm, ⟨77, _⟩ => ⟨S4x8x1024, .f32⟩
  | .hbm, ⟨78, _⟩ => ⟨S2x1x1024, .f32⟩
  | .hbm, ⟨79, _⟩ => ⟨S_, .f32⟩
  | .hbm, ⟨80, _⟩ => ⟨S2x4x1024, .f32⟩
  | .hbm, ⟨81, _⟩ => ⟨S2x8x1024, .f32⟩
  | .hbm, ⟨82, _⟩ => ⟨S1024x3072, .bf16⟩
  | .hbm, ⟨83, _⟩ => ⟨S1x1024x3072, .bf16⟩
  | .hbm, ⟨84, _⟩ => ⟨S1024x1024, .bf16⟩
  | .hbm, ⟨85, _⟩ => ⟨S1x1024x1024, .bf16⟩
  | .hbm, ⟨86, _⟩ => ⟨S4096x1024, .f32⟩
  | .hbm, ⟨87, _⟩ => ⟨S4096x3072, .bf16⟩
  | .hbm, ⟨88, _⟩ => ⟨S4096x1024, .bf16⟩
  | .hbm, ⟨89, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x3072, .f32⟩
  | .local _ .vmem, ⟨7, _⟩ => ⟨S512x3072, .f32⟩
  | .local _ .vmem, ⟨8, _⟩ => ⟨S512x1024, .f32⟩
  | .local _ .vmem, ⟨9, _⟩ => ⟨S512x1024, .f32⟩
  | .local _ .vmem, ⟨10, _⟩ => ⟨S8x3072, .f32⟩
  | .local _ .vmem, ⟨11, _⟩ => ⟨S8x3072, .f32⟩
  | .local _ .vmem, ⟨12, _⟩ => ⟨S1x8x1024, .f32⟩
  | .local _ .vmem, ⟨13, _⟩ => ⟨S1x1024x3072, .bf16⟩
  | .local _ .vmem, ⟨14, _⟩ => ⟨S1x1024x1024, .bf16⟩
  | .local _ .vmem, ⟨15, _⟩ => ⟨S1x8x1024, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Conv0RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩
abbrev S8x1024 : Shape := ⟨2, ![8, 1024]⟩

abbrev nBuf : Space → Nat
  | .hbm => 193
  | .vmem => 0
  | .smem => 0
  | _ => 0

abbrev hbmTy0_0 (i : Nat) : BufTy := match i % 128 with
  | 0 => ⟨S4096x1024, .f32⟩
  | 1 => ⟨S4096x1024, .f32⟩
  | 2 => ⟨S4x6x1024, .f32⟩
  | 3 => ⟨S4x1024, .f32⟩
  | 4 => ⟨S4x1024, .f32⟩
  | 5 => ⟨S1024x3072, .f32⟩
  | 6 => ⟨S2x3x1024, .f32⟩
  | 7 => ⟨S2x1024, .f32⟩
  | 8 => ⟨S1024x1024, .f32⟩
  | 9 => ⟨S1x1024, .f32⟩
  | 10 => ⟨S1024, .f32⟩
  | 11 => ⟨S1x1x1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S1x1x1024, .f32⟩
  | 18 => ⟨S1024, .f32⟩
  | 19 => ⟨S1x1x1024, .f32⟩
  | 20 => ⟨S1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S4096x3072, .f32⟩
  | 45 => ⟨S1x3x1024, .f32⟩
  | 46 => ⟨S3x1024, .f32⟩
  | 47 => ⟨S1x1024, .f32⟩
  | 48 => ⟨S1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S2x1024, .f32⟩
  | 55 => ⟨S4098x1024, .f32⟩
  | 56 => ⟨S_, .f32⟩
  | 57 => ⟨S2x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S1x1024, .f32⟩
  | 65 => ⟨S1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S1x1024, .f32⟩
  | 72 => ⟨S1024, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S_, .f32⟩
  | 103 => ⟨S1024, .f32⟩
  | 104 => ⟨S4096x1024, .f32⟩
  | 105 => ⟨S4096x1024, .f32⟩
  | 106 => ⟨S4096x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S_, .f32⟩
  | 113 => ⟨S4098x1024, .f32⟩
  | 114 => ⟨S1x1024, .f32⟩
  | 115 => ⟨S_, .f32⟩
  | 116 => ⟨S3x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S_, .f32⟩
  | 126 => ⟨S4098x1024, .f32⟩
  | 127 => ⟨S4098x1024, .f32⟩
  | _ => ⟨S4096x1024, .f32⟩

abbrev hbmTy0_1 (i : Nat) : BufTy := match i % 128 with
  | 0 => ⟨S1x1024, .f32⟩
  | 1 => ⟨S_, .f32⟩
  | 2 => ⟨S3x1024, .f32⟩
  | 3 => ⟨S3x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S_, .f32⟩
  | 11 => ⟨S1024, .f32⟩
  | 12 => ⟨S_, .f32⟩
  | 13 => ⟨S4098x1024, .f32⟩
  | 14 => ⟨S4098x1024, .f32⟩
  | 15 => ⟨S1x1024, .f32⟩
  | 16 => ⟨S_, .f32⟩
  | 17 => ⟨S3x1024, .f32⟩
  | 18 => ⟨S3x1024, .f32⟩
  | 19 => ⟨S2x1024, .f32⟩
  | 20 => ⟨S4096x1024, .f32⟩
  | 21 => ⟨S4096x1024, .f32⟩
  | 22 => ⟨S4096x1024, .f32⟩
  | 23 => ⟨S4096x3072, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S_, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S1x1024, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S8x1024, .f32⟩
  | 62 => ⟨S4096x1024, .f32⟩
  | 63 => ⟨S4096x3072, .bf16⟩
  | 64 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_6 : Ref sig .tc := ⟨.hbm, 91, rfl⟩
abbrev main_v75 : Ref sig .tc := ⟨.hbm, 92, rfl⟩
abbrev main_v76 : Ref sig .tc := ⟨.hbm, 93, rfl⟩
abbrev main_cst_7 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_cst_12 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_14 : Ref sig .tc := ⟨.hbm, 120, rfl⟩
abbrev main_v96 : Ref sig .tc := ⟨.hbm, 121, rfl⟩
abbrev main_v97 : Ref sig .tc := ⟨.hbm, 122, rfl⟩
abbrev main_cst_15 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_18 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_cst_20 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_21 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_22 : Ref sig .tc := ⟨.hbm, 153, rfl⟩
abbrev main_v121 : Ref sig .tc := ⟨.hbm, 154, rfl⟩
abbrev main_v122 : Ref sig .tc := ⟨.hbm, 155, rfl⟩
abbrev main_cst_23 : Ref sig .tc := ⟨.hbm, 156, rfl⟩
abbrev main_v123 : Ref sig .tc := ⟨.hbm, 157, rfl⟩
abbrev main_v124 : Ref sig .tc := ⟨.hbm, 158, rfl⟩
abbrev main_cst_24 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_25 : Ref sig .tc := ⟨.hbm, 164, rfl⟩
abbrev main_v129 : Ref sig .tc := ⟨.hbm, 165, rfl⟩
abbrev main_v130 : Ref sig .tc := ⟨.hbm, 166, rfl⟩
abbrev main_cst_26 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_27 : Ref sig .tc := ⟨.hbm, 173, rfl⟩
abbrev main_v136 : Ref sig .tc := ⟨.hbm, 174, rfl⟩
abbrev main_v137 : Ref sig .tc := ⟨.hbm, 175, rfl⟩
abbrev main_cst_28 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩

abbrev nD : Nat := 1
abbrev τ : Topo := Topo.v7x

variable {F : FTy → Type} [FloatOps F]
-- ==== Mix0.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S4x1x1024 : Shape := ⟨3, ![4, 1, 1024]⟩
abbrev S4x8x1024 : Shape := ⟨3, ![4, 8, 1024]⟩
abbrev S1x1024x3072 : Shape := ⟨3, ![1, 1024, 3072]⟩
abbrev S1x1024x1024 : Shape := ⟨3, ![1, 1024, 1024]⟩
abbrev S2x1x1024 : Shape := ⟨3, ![2, 1, 1024]⟩
abbrev S_ : Shape := ⟨0, ![]⟩
abbrev S2x4x1024 : Shape := ⟨3, ![2, 4, 1024]⟩
abbrev S2x8x1024 : Shape := ⟨3, ![2, 8, 1024]⟩
abbrev S4096x3072 : Shape := ⟨2, ![4096, 3072]⟩
abbrev S512x1024 : Shape := ⟨2, ![512, 1024]⟩
abbrev S1x8x1024 : Shape := ⟨3, ![1, 8, 1024]⟩
abbrev S512x3072 : Shape := ⟨2, ![512, 3072]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 25
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S2x3x1024, .f32⟩
  | .hbm, ⟨6, _⟩ => ⟨S2x1024, .f32⟩
  | .hbm, ⟨7, _⟩ => ⟨S1024x1024, .f32⟩
  | .hbm, ⟨8, _⟩ => ⟨S4x1x1024, .f32⟩
  | .hbm, ⟨9, _⟩ => ⟨S4x1x1024, .f32⟩
  | .hbm, ⟨10, _⟩ => ⟨S4x8x1024, .f32⟩
  | .hbm, ⟨11, _⟩ => ⟨S1024x3072, .bf16⟩
  | .hbm, ⟨12, _⟩ => ⟨S1x1024x3072, .bf16⟩
  | .hbm, ⟨13, _⟩ => ⟨S1024x1024, .bf16⟩
  | .hbm, ⟨14, _⟩ => ⟨S1x1024x1024, .bf16⟩
  | .hbm, ⟨15, _⟩ => ⟨S2x1x1024, .f32⟩
  | .hbm, ⟨16, _⟩ => ⟨S_, .f32⟩
  | .hbm, ⟨17, _⟩ => ⟨S2x4x1024, .f32⟩
  | .hbm, ⟨18, _⟩ => ⟨S2x8x1024, .f32⟩
  | .hbm, ⟨19, _⟩ => ⟨S4096x1024, .f32⟩
  | .hbm, ⟨20, _⟩ => ⟨S4096x1024, .bf16⟩
  | .hbm, ⟨21, _⟩ => ⟨S4096x3072, .f32⟩
  | .hbm, ⟨22, _⟩ => ⟨S4096x1024, .f32⟩
  | .hbm, ⟨23, _⟩ => ⟨S4096x1024, .bf16⟩
  | .hbm, ⟨24, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x3072, .bf16⟩
  | .local _ .vmem, ⟨4, _⟩ => ⟨S1x1024x1024, .bf16⟩
  | .local _ .vmem, ⟨5, _⟩ => ⟨S1x8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x3072, .f32⟩
  | .local _ .vmem, ⟨11, _⟩ => ⟨S512x3072, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Mix0RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S2x3x1024, .f32⟩
  | .hbm, ⟨6, _⟩ => ⟨S2x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x3072, .f32⟩
  | .hbm, ⟨40, _⟩ => ⟨S1x3x1024, .f32⟩
  | .hbm, ⟨41, _⟩ => ⟨S3x1024, .f32⟩
  | .hbm, ⟨42, _⟩ => ⟨S1x1024, .f32⟩
  | .hbm, ⟨43, _⟩ => ⟨S1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S2x1024, .f32⟩
  | .hbm, ⟨50, _⟩ => ⟨S4098x1024, .f32⟩
  | .hbm, ⟨51, _⟩ => ⟨S1x1024, .f32⟩
  | .hbm, ⟨52, _⟩ => ⟨S1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1x1024, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Mix3.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S4x1x1024 : Shape := ⟨3, ![4, 1, 1024]⟩
abbrev S4x8x1024 : Shape := ⟨3, ![4, 8, 1024]⟩
abbrev S1x1024x3072 : Shape := ⟨3, ![1, 1024, 3072]⟩
abbrev S1x1024x1024 : Shape := ⟨3, ![1, 1024, 1024]⟩
abbrev S2x1x1024 : Shape := ⟨3, ![2, 1, 1024]⟩
abbrev S_ : Shape := ⟨0, ![]⟩
abbrev S2x4x1024 : Shape := ⟨3, ![2, 4, 1024]⟩
abbrev S2x8x1024 : Shape := ⟨3, ![2, 8, 1024]⟩
abbrev S4096x3072 : Shape := ⟨2, ![4096, 3072]⟩
abbrev S512x1024 : Shape := ⟨2, ![512, 1024]⟩
abbrev S1x8x1024 : Shape := ⟨3, ![1, 8, 1024]⟩
abbrev S512x3072 : Shape := ⟨2, ![512, 3072]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 25
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S2x3x1024, .f32⟩
  | .hbm, ⟨6, _⟩ => ⟨S2x1024, .f32⟩
  | .hbm, ⟨7, _⟩ => ⟨S1024x1024, .f32⟩
  | .hbm, ⟨8, _⟩ => ⟨S4x1x1024, .f32⟩
  | .hbm, ⟨9, _⟩ => ⟨S4x1x1024, .f32⟩
  | .hbm, ⟨10, _⟩ => ⟨S4x8x1024, .f32⟩
  | .hbm, ⟨11, _⟩ => ⟨S1024x3072, .bf16⟩
  | .hbm, ⟨12, _⟩ => ⟨S1x1024x3072, .bf16⟩
  | .hbm, ⟨13, _⟩ => ⟨S1024x1024, .bf16⟩
  | .hbm, ⟨14, _⟩ => ⟨S1x1024x1024, .bf16⟩
  | .hbm, ⟨15, _⟩ => ⟨S2x1x1024, .f32⟩
  | .hbm, ⟨16, _⟩ => ⟨S_, .f32⟩
  | .hbm, ⟨17, _⟩ => ⟨S2x4x1024, .f32⟩
  | .hbm, ⟨18, _⟩ => ⟨S2x8x1024, .f32⟩
  | .hbm, ⟨19, _⟩ => ⟨S4096x1024, .f32⟩
  | .hbm, ⟨20, _⟩ => ⟨S4096x1024, .bf16⟩
  | .hbm, ⟨21, _⟩ => ⟨S4096x3072, .f32⟩
  | .hbm, ⟨22, _⟩ => ⟨S4096x1024, .f32⟩
  | .hbm, ⟨23, _⟩ => ⟨S4096x1024, .bf16⟩
  | .hbm, ⟨24, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x3072, .bf16⟩
  | .local _ .vmem, ⟨4, _⟩ => ⟨S1x1024x1024, .bf16⟩
  | .local _ .vmem, ⟨5, _⟩ => ⟨S1x8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x3072, .f32⟩
  | .local _ .vmem, ⟨11, _⟩ => ⟨S512x3072, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Mix3RefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x3072 : Shape := ⟨2, ![1024, 3072]⟩
abbrev S2x3x1024 : Shape := ⟨3, ![2, 3, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x3072 : Shape := ⟨2, ![4096, 3072]⟩
abbrev S1x3x1024 : Shape := ⟨3, ![1, 3, 1024]⟩
abbrev S3x1024 : Shape := ⟨2, ![3, 1024]⟩
abbrev S4098x1024 : Shape := ⟨2, ![4098, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x3072, .f32⟩
  | .hbm, ⟨5, _⟩ => ⟨S2x3x1024, .f32⟩
  | .hbm, ⟨6, _⟩ => ⟨S2x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x3072, .f32⟩
  | .hbm, ⟨40, _⟩ => ⟨S1x3x1024, .f32⟩
  | .hbm, ⟨41, _⟩ => ⟨S3x1024, .f32⟩
  | .hbm, ⟨42, _⟩ => ⟨S1x1024, .f32⟩
  | .hbm, ⟨43, _⟩ => ⟨S1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S2x1024, .f32⟩
  | .hbm, ⟨50, _⟩ => ⟨S4098x1024, .f32⟩
  | .hbm, ⟨51, _⟩ => ⟨S1x1024, .f32⟩
  | .hbm, ⟨52, _⟩ => ⟨S1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1x1024, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Gating.lean ====
abbrev S4096x1024 : Shape := ⟨2, ![4096, 1024]⟩
abbrev S4x6x1024 : Shape := ⟨3, ![4, 6, 1024]⟩
abbrev S4x1024 : Shape := ⟨2, ![4, 1024]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S4x1x1024 : Shape := ⟨3, ![4, 1, 1024]⟩
abbrev S4x8x1024 : Shape := ⟨3, ![4, 8, 1024]⟩
abbrev S1x1024x2048 : Shape := ⟨3, ![1, 1024, 2048]⟩
abbrev S128x8 : Shape := ⟨2, ![128, 8]⟩
abbrev S1x1024 : Shape := ⟨2, ![1, 1024]⟩
abbrev S1x1024x1024 : Shape := ⟨3, ![1, 1024, 1024]⟩
abbrev S4096x2048 : Shape := ⟨2, ![4096, 2048]⟩
abbrev S512x1024 : Shape := ⟨2, ![512, 1024]⟩
abbrev S1x8x1024 : Shape := ⟨3, ![1, 8, 1024]⟩
abbrev S512x2048 : Shape := ⟨2, ![512, 2048]⟩
abbrev S8x1024 : Shape := ⟨2, ![8, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 24
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x2048, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S4x1x1024, .f32⟩
  | .hbm, ⟨10, _⟩ => ⟨S4x1x1024, .f32⟩
  | .hbm, ⟨11, _⟩ => ⟨S4x8x1024, .f32⟩
  | .hbm, ⟨12, _⟩ => ⟨S1024x2048, .bf16⟩
  | .hbm, ⟨13, _⟩ => ⟨S1x1024x2048, .bf16⟩
  | .hbm, ⟨14, _⟩ => ⟨S128x8, .f32⟩
  | .hbm, ⟨15, _⟩ => ⟨S1x1024, .f32⟩
  | .hbm, ⟨16, _⟩ => ⟨S1024x1024, .bf16⟩
  | .hbm, ⟨17, _⟩ => ⟨S1x1024x1024, .bf16⟩
  | .hbm, ⟨18, _⟩ => ⟨S4096x1024, .f32⟩
  | .hbm, ⟨19, _⟩ => ⟨S4096x1024, .bf16⟩
  | .hbm, ⟨20, _⟩ => ⟨S4096x2048, .f32⟩
  | .hbm, ⟨21, _⟩ => ⟨S4096x1024, .f32⟩
  | .hbm, ⟨22, _⟩ => ⟨S4096x1024, .bf16⟩
  | .hbm, ⟨23, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x1024x2048, .bf16⟩
  | .local _ .vmem, ⟨4, _⟩ => ⟨S8x128x128, .f32⟩
  | .local _ .vmem, ⟨5, _⟩ => ⟨S128x8, .f32⟩
  | .local _ .vmem, ⟨6, _⟩ => ⟨S1x1024, .f32⟩
  | .local _ .vmem, ⟨7, _⟩ => ⟨S1x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GatingRefIdeal.lean ====
abbrev S4096x1024 : Shape := ⟨2, ![4096, 1024]⟩
abbrev S4x6x1024 : Shape := ⟨3, ![4, 6, 1024]⟩
abbrev S4x1024 : Shape := ⟨2, ![4, 1024]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S4096x2048 : Shape := ⟨2, ![4096, 2048]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S1024x2048, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1x1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x2048, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S32x128x8x128, .f32⟩
  | .hbm, ⟨60, _⟩ => ⟨S_, .i1⟩
  | .hbm, ⟨61, _⟩ => ⟨S128x128, .i1⟩
  | .hbm, ⟨62, _⟩ => ⟨S128x128, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S128x128, .i32⟩
  | .hbm, ⟨67, _⟩ => ⟨S128x128, .i1⟩
  | .hbm, ⟨68, _⟩ => ⟨S_, .i1⟩
  | .hbm, ⟨69, _⟩ => ⟨S128x128, .i1⟩
  | .hbm, ⟨70, _⟩ => ⟨S128x128, .i1⟩
  | .hbm, ⟨71, _⟩ => ⟨S1x128x128, .i1⟩
  | .hbm, ⟨72, _⟩ => ⟨S_, .f32⟩
  | .hbm, ⟨73, _⟩ => ⟨S8x128x128, .f32⟩
  | .hbm, ⟨74, _⟩ => ⟨S8x128x128, .i1⟩
  | .hbm, ⟨75, _⟩ => ⟨S8x128x128, .f32⟩
  | .hbm, ⟨76, _⟩ => ⟨S8x32x128x128, .f32⟩
  | .hbm, ⟨77, _⟩ => ⟨S32x128x8x128, .f32⟩
  | .hbm, ⟨78, _⟩ => ⟨S128x8, .f32⟩
  | .hbm, ⟨79, _⟩ => ⟨S128x8x1, .f32⟩
  | .hbm, ⟨80, _⟩ => ⟨S1x128x8x1, .f32⟩
  | .hbm, ⟨81, _⟩ => ⟨S32x128x8x128, .f32⟩
  | .hbm, ⟨82, _⟩ => ⟨S32x128x8x128, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1x1024, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_v44 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Proof.NormBack.lean ====
/- The backward pass of the root-mean-square norm of one row, on the extended reals. -/
module

public import Idealize.ShloMosaic.Lib.Pointwise

@[expose] public section

noncomputable section

namespace Cert.NormBack

open Idealize.ShloMosaic

/-- The row length as the programs write it. -/
abbrev width : EReal := Ideal.ofBits FTy.f32 1149239296#32
/-- The constant added to the mean square. -/
abbrev eps : EReal := Ideal.ofBits FTy.f32 897988541#32
/-- Minus one half as the reference writes it. -/
abbrev minusHalf : EReal := Ideal.ofBits FTy.f32 3204448256#32

theorem width_eq : width = ((1024 : ℝ) : EReal) := by
  simp [width, Ideal.ofBits, Ideal.ieee]
  rw [← EReal.coe_mul]
  norm_num

theorem minusHalf_eq : minusHalf = ((-(1 / 2) : ℝ) : EReal) := by
  simp [minusHalf, Ideal.ofBits, Ideal.ieee]
  rw [← EReal.coe_mul]
  norm_num

/-- The added constant is a positive real number. -/
theorem eps_pos : ∃ e : ℝ, 0 < e ∧ eps = (e : EReal) := by
  refine ⟨(8796093 : ℝ) * 2 ^ (-43 : ℤ), by positivity, ?_⟩
  simp [eps, Ideal.ofBits, Ideal.ieee]
  try norm_num

variable {n : ℕ}

/-- The mean square of a row, with the constant added. -/
def meanSq (x : Fin n → EReal) : EReal := Ideal.div (∑ k, x k * x k) width + eps

/-- The reciprocal root of the mean square. -/
def rinv (x : Fin n → EReal) : EReal := Ideal.rsqrt (meanSq x)

/-- The gradient of the row's entry `d` as the kernel computes it, `a` being the gradient of the normalised row. -/
def back (x a : Fin n → EReal) (d : Fin n) : EReal :=
  rinv x * (a d - x d * rinv x * Ideal.div (∑ k, a k * (x k * rinv x)) width)

/-- The factor of `x` in the gradient as the reference computes it. -/
def slope (x a : Fin n → EReal) : EReal :=
  Ideal.div ((∑ k, x k * a k) * (minusHalf * Ideal.div (rinv x) (meanSq x))) width

theorem mul_self_nonneg' (x : EReal) : 0 ≤ x * x := by
  induction x with
  | bot => simp
  | top => simp
  | coe r => rw [← EReal.coe_mul]; exact_mod_cast mul_self_nonneg r

theorem div_width (x : EReal) : Ideal.div x width = x * ((1 / 1024 : ℝ) : EReal) := by
  rw [width_eq, Ideal.div_coe (by norm_num)]

/-- The mean square is infinite or a positive real. -/
theorem meanSq_cases (x : Fin n → EReal) : meanSq x = ⊤ ∨ ∃ s : ℝ, 0 < s ∧ meanSq x = (s : EReal) := by
  obtain ⟨e, he, hE⟩ := eps_pos
  have h0 : (0 : EReal) ≤ (∑ k, x k * x k) * ((1 / 1024 : ℝ) : EReal) :=
    mul_nonneg (Finset.sum_nonneg fun k _ => mul_self_nonneg' (x k)) (by exact_mod_cast (by norm_num : (0 : ℝ) ≤ 1 / 1024))
  unfold meanSq
  rw [div_width, hE]
  generalize (∑ k, x k * x k) * ((1 / 1024 : ℝ) : EReal) = y at h0
  induction y with
  | bot => simp at h0
  | top => exact .inl (EReal.top_add_coe e)
  | coe r =>
    refine .inr ⟨r + e, ?_, (EReal.coe_add r e).symm⟩
    have : (0 : ℝ) ≤ r := by exact_mod_cast h0
    linarith

/-- The reciprocal root is a real number that is not negative, and dividing it by the mean square cubes it. -/
theorem rinv_real (x : Fin n → EReal) : ∃ q : ℝ, 0 ≤ q ∧ rinv x = (q : EReal)
    ∧ Ideal.div (rinv x) (meanSq x) = ((q ^ 3 : ℝ) : EReal) := by
  rcases meanSq_cases x with h | ⟨s, hs, h⟩
  · refine ⟨0, le_refl _, ?_, ?_⟩
    · simp [rinv, h]
    · simp [rinv, h, Ideal.div]
  · have hq : rinv x = (((Real.sqrt s)⁻¹ : ℝ) : EReal) := by
      rw [rinv, h, Ideal.rsqrt_coe, if_neg (not_lt.mpr hs.le), if_neg hs.ne']
    refine ⟨(Real.sqrt s)⁻¹, by positivity, hq, ?_⟩
    rw [hq, h, Ideal.div_coe hs.ne', ← EReal.coe_mul]
    congr 1
    have h2 : (Real.sqrt s) ^ 2 = s := Real.sq_sqrt hs.le
    have h3 : Real.sqrt s ≠ 0 := (Real.sqrt_pos.mpr hs).ne'
    rw [inv_pow, one_div]
    nth_rewrite 2 [← h2]
    field_simp

/-- A factor that is a nonnegative real leaves a finite sum. -/
theorem sum_mul_real (f : Fin n → EReal) (q : ℝ) (hq : 0 ≤ q) :
    ∑ k, f k * (q : EReal) = (∑ k, f k) * (q : EReal) := by
  classical
  induction (Finset.univ : Finset (Fin n)) using Finset.induction_on with
  | empty => simp
  | insert a s ha ih =>
    rw [Finset.sum_insert ha, Finset.sum_insert ha, ih,
      EReal.right_distrib_of_nonneg_of_ne_top (by exact_mod_cast hq) (EReal.coe_ne_top q)]

/-- The kernel's gradient of the row is the reference's: the direct part plus twice the part through the mean square. -/
theorem back_eq (x a : Fin n → EReal) (d : Fin n) :
    back x a d = a d * rinv x + x d * slope x a + slope x a * x d := by
  obtain ⟨q, hq, hr, h3⟩ := rinv_real x
  have hT : ∑ k, a k * (x k * rinv x) = (∑ k, x k * a k) * (q : EReal) := by
    rw [← sum_mul_real _ q hq]
    exact Finset.sum_congr rfl fun k _ => by rw [hr, ← mul_assoc, mul_comm (a k) (x k)]
  unfold back slope
  rw [hT, h3, hr, div_width, div_width, minusHalf_eq, sub_eq_add_neg,
    EReal.left_distrib_of_nonneg_of_ne_top (by exact_mod_cast hq) (EReal.coe_ne_top q), add_assoc,
    mul_comm (q : EReal) (a d)]
  congr 1
  generalize (∑ k, x k * a k) = Q
  have hk : (0 : ℝ) ≤ q ^ 3 / 2048 := by positivity
  have hP : x d * (Q * (((-(1 / 2) : ℝ) : EReal) * ((q ^ 3 : ℝ) : EReal)) * ((1 / 1024 : ℝ) : EReal))
      = -(x d * Q) * ((q ^ 3 / 2048 : ℝ) : EReal) := by
    rw [← EReal.coe_mul, mul_assoc Q, ← EReal.coe_mul, ← mul_assoc,
      show (-(1 / 2) : ℝ) * q ^ 3 * (1 / 1024) = -(q ^ 3 / 2048) by ring, EReal.coe_neg, mul_neg, neg_mul]
  rw [mul_comm _ (x d), hP, ← EReal.left_distrib_of_nonneg (by exact_mod_cast hk) (by exact_mod_cast hk),
    ← EReal.coe_add, mul_neg, neg_mul]
  congr 1
  rw [show x d * (q : EReal) * (Q * (q : EReal) * ((1 / 1024 : ℝ) : EReal))
      = x d * Q * ((q : EReal) * ((q : EReal) * ((1 / 1024 : ℝ) : EReal))) from by
        rw [mul_assoc, mul_assoc, mul_left_comm (q : EReal) Q, ← mul_assoc (x d) Q],
    mul_left_comm, ← EReal.coe_mul, ← EReal.coe_mul, ← EReal.coe_mul]
  congr 2
  ring

end Cert.NormBack

end
-- ==== Proof.ConvSpec.lean ====
/- The gradients of one short-convolution layer, entry by entry, as functions of the arrays that it is given. -/
module

public import proofs.«01_k».proof.Proof.NormBack

@[expose] public section

noncomputable section

namespace Cert.ConvSpec

open Idealize.ShloMosaic

/-- An array of 4096 tokens. -/
abbrev Tok := Fin 4096 → Fin 1024 → EReal

/-- Token `n` of a tile's row `r`, the tiles being numbered from the first token. -/
def row (q : Fin 8) (r : Fin 512) : Fin 4096 := ⟨q.val * 512 + r.val, by omega⟩

/-- `s` tokens later, and zero past the end. -/
def later (f : Tok) (s : ℕ) (n : Fin 4096) (d : Fin 1024) : EReal :=
  if h : n.val + s < 4096 then f ⟨n.val + s, h⟩ d else 0

/-- `s` tokens earlier, and zero before the start. -/
def earlier (f : Tok) (s : ℕ) (n : Fin 4096) (d : Fin 1024) : EReal :=
  if h : n.val < s then 0 else f ⟨n.val - s, by omega⟩ d

/-- The gradient of the mixed array through the output projection. -/
def dmix (dy : Tok) (wo : Fin 1024 → Fin 1024 → EReal) : Tok := fun n d => ∑ k, dy n k * wo d k

/-- The gradient of the convolution's input: three taps of the gradient of its output. -/
def dconvIn (k0 k1 k2 : Fin 1024 → EReal) (dc : Tok) : Tok := fun n d =>
  k2 d * dc n d + k1 d * later dc 1 n d + k0 d * later dc 2 n d

/-- The gradient of the normalised input: three blocks of columns against the input projection. -/
def dnorm (p q r : Tok) (wi : Fin 1024 → Fin 3072 → EReal) : Tok := fun n d =>
  ∑ k, p n k * wi d ⟨k.val, by omega⟩ + ∑ k, q n k * wi d ⟨1024 + k.val, by omega⟩
    + ∑ k, r n k * wi d ⟨2048 + k.val, by omega⟩

/-- The gradient of the layer's input: what passes it by, and what comes back through the norm. -/
def dinput (ct x dh : Tok) (gain : Fin 1024 → EReal) : Tok := fun n d =>
  ct n d + NormBack.back (x n) (fun k => dh n k * gain k) d

/-- The normalised input without its gain. -/
def unit (x : Tok) : Tok := fun n d => x n d * NormBack.rinv (x n)

/-- The convolution's input. -/
def convIn (bcx : Fin 4096 → Fin 3072 → EReal) : Tok := fun n d =>
  bcx n ⟨1024 + d.val, by omega⟩ * bcx n ⟨2048 + d.val, by omega⟩

/-- The arrays that the backward pass of one layer is given. -/
@[ext] structure Layer where
  /-- The cotangent of the layer's output. -/
  ct : Tok
  /-- The layer's input. -/
  x : Tok
  /-- The layer's result before its gate. -/
  y : Tok
  /-- The convolution's output. -/
  conv : Tok
  /-- The projected input: the gate, and the two factors of the convolution's input. -/
  bcx : Fin 4096 → Fin 3072 → EReal
  /-- The gate on the layer's result. -/
  gate : Fin 1024 → EReal
  /-- The norm's gain times its modulation. -/
  gain : Fin 1024 → EReal
  /-- The taps of the convolution. -/
  tap : Fin 3 → Fin 1024 → EReal
  /-- The input projection's weight. -/
  wi : Fin 1024 → Fin 3072 → EReal
  /-- The output projection's weight. -/
  wo : Fin 1024 → Fin 1024 → EReal

namespace Layer

variable (L : Layer)

/-- The gradient of the layer's result before its gate. -/
def dy : Tok := fun n d => L.ct n d * L.gate d
/-- The gradient of the gated convolution. -/
def dq : Tok := dmix L.dy L.wo
/-- The gradient of the convolution's output. -/
def dc : Tok := fun n d => L.dq n d * L.bcx n ⟨d.val, by omega⟩
/-- The gradient of the gate array. -/
def dg : Tok := fun n d => L.dq n d * L.conv n d
/-- The gradient of the convolution's input. -/
def dz : Tok := dconvIn (L.tap 0) (L.tap 1) (L.tap 2) L.dc
/-- The gradient of the convolution's first factor. -/
def du : Tok := fun n d => L.dz n d * L.bcx n ⟨2048 + d.val, by omega⟩
/-- The gradient of the convolution's second factor. -/
def dv : Tok := fun n d => L.dz n d * L.bcx n ⟨1024 + d.val, by omega⟩
/-- The gradient of the normalised input. -/
def dh : Tok := dnorm L.dg L.du L.dv L.wi
/-- The gradient of the layer's input. -/
def dx : Tok := dinput L.ct L.x L.dh L.gain

/-- The gradient of the projected input, in its three blocks of columns. -/
def dbcx (n : Fin 4096) (j : Fin 3072) : EReal :=
  if h : j.val < 1024 then L.dg n ⟨j.val, h⟩
  else if h : j.val - 1024 < 1024 then L.du n ⟨j.val - 1024, h⟩
  else L.dv n ⟨j.val - 1024 - 1024, by omega⟩

/-- The eight rows of column sums: the gradients of the gate, of the norm's gain and shift, of the three taps and of
    the convolution's bias, and a row of zeros. -/
def rows (k : Fin 8) (d : Fin 1024) : EReal :=
  match k with
  | 0 => ∑ n, L.ct n d * L.y n d
  | 1 => ∑ n, L.dh n d * unit L.x n d
  | 2 => ∑ n, L.dh n d
  | 3 => ∑ n, L.dc n d * earlier (convIn L.bcx) 2 n d
  | 4 => ∑ n, L.dc n d * earlier (convIn L.bcx) 1 n d
  | 5 => ∑ n, L.dc n d * convIn L.bcx n d
  | 6 => ∑ n, L.dc n d
  | 7 => 0

/-- What tile `q` adds to the rows of column sums. -/
def part (q : Fin 8) (k : Fin 8) (d : Fin 1024) : EReal :=
  match k with
  | 0 => ∑ r : Fin 512, L.ct (row q r) d * L.y (row q r) d
  | 1 => ∑ r : Fin 512, L.dh (row q r) d * unit L.x (row q r) d
  | 2 => ∑ r : Fin 512, L.dh (row q r) d
  | 3 => ∑ r : Fin 512, L.dc (row q r) d * earlier (convIn L.bcx) 2 (row q r) d
  | 4 => ∑ r : Fin 512, L.dc (row q r) d * earlier (convIn L.bcx) 1 (row q r) d
  | 5 => ∑ r : Fin 512, L.dc (row q r) d * convIn L.bcx (row q r) d
  | 6 => ∑ r : Fin 512, L.dc (row q r) d
  | 7 => 0

end Layer

/-- A sum over the eight tiles, last tile first, of the sums over their rows is the sum over all tokens. -/
theorem sum_tiles (f : Fin 4096 → EReal) :
    ∑ p : Fin 8, ∑ r : Fin 512, f (row ⟨7 - p.val, by omega⟩ r) = ∑ n, f n := by
  have h : ∑ n, f n = ∑ q : Fin 8, ∑ r : Fin 512, f (row q r) := by
    rw [← Fintype.sum_prod_type' (fun q r => f (row q r))]
    exact (Fintype.sum_equiv (finProdFinEquiv (m := 8) (n := 512)) _ _ fun z => by
      congr 1
      exact Fin.ext (by simp [row, finProdFinEquiv]; omega)).symm
  rw [h]
  exact Fintype.sum_equiv Fin.revPerm _ _ fun p => by
    congr 1
    funext r
    congr 2
    exact Fin.ext (by simp [Fin.rev])

/-- The rows are the sums of the tiles' parts, last tile first. -/
theorem Layer.sum_part (L : Layer) (k : Fin 8) (d : Fin 1024) : ∑ p : Fin 8, L.part ⟨7 - p.val, by omega⟩ k d = L.rows k d := by
  match k with
  | 0 => exact sum_tiles fun n => L.ct n d * L.y n d
  | 1 => exact sum_tiles fun n => L.dh n d * unit L.x n d
  | 2 => exact sum_tiles fun n => L.dh n d
  | 3 => exact sum_tiles fun n => L.dc n d * earlier (convIn L.bcx) 2 n d
  | 4 => exact sum_tiles fun n => L.dc n d * earlier (convIn L.bcx) 1 n d
  | 5 => exact sum_tiles fun n => L.dc n d * convIn L.bcx n d
  | 6 => exact sum_tiles fun n => L.dc n d
  | 7 => exact Finset.sum_const_zero

/-- A sum over three blocks of 1024 columns. -/
theorem sum_blocks (f : Fin 3072 → EReal) :
    ∑ j, f j = ∑ k : Fin 1024, f ⟨k.val, by omega⟩ + ∑ k : Fin 1024, f ⟨1024 + k.val, by omega⟩
      + ∑ k : Fin 1024, f ⟨2048 + k.val, by omega⟩ := by
  have h := Fin.sum_univ_add (a := 2048) (b := 1024) f
  have h' := Fin.sum_univ_add (a := 1024) (b := 1024) fun i : Fin 2048 => f (Fin.castAdd 1024 i)
  exact h.trans (congrArg (· + _) h')

end Cert.ConvSpec

end
-- ==== Proof.ConvTile.lean ====
/- What one tile of the short convolution's backward call computes, entry by entry. -/
module

public import proofs.«01_k».proof.Defs
public import proofs.«01_k».proof.Proof.Gen.ConvIdeal.Skeleton
public import proofs.«01_k».proof.Proof.ConvSpec
public import Idealize.ShloMosaic.Lib.Pointwise

@[expose] public section

set_option maxRecDepth 16384
noncomputable section
open Idealize.ShloMosaic Idealize.ShloMosaic.TcCoe Idealize.SL.Sem

namespace Cert.ConvIdeal.Tile

open Cert.ConvIdeal Cert.ConvIdeal.Gen Cert.ConvSpec Cert

/-! ## The row masks -/

theorem ge2 : ∀ r : Fin 512, IntOp.cmpi .sge (BitVec.ofNat 32 r.val) 2#32 = if 2 ≤ r.val then 1#1 else 0#1 := by decide +kernel
theorem ge1 : ∀ r : Fin 512, IntOp.cmpi .sge (BitVec.ofNat 32 r.val) 1#32 = if 1 ≤ r.val then 1#1 else 0#1 := by decide +kernel
theorem eq0 : ∀ r : Fin 512, IntOp.cmpi .eq (BitVec.ofNat 32 r.val) 0#32 = if r.val = 0 then 1#1 else 0#1 := by decide +kernel
theorem eq510 : ∀ r : Fin 512, IntOp.cmpi .eq (BitVec.ofNat 32 r.val) 510#32 = if r.val = 510 then 1#1 else 0#1 := by decide +kernel
theorem le510 : ∀ r : Fin 512, IntOp.cmpi .sle (BitVec.ofNat 32 r.val) 510#32 = if r.val ≤ 510 then 1#1 else 0#1 := by decide +kernel
theorem le509 : ∀ r : Fin 512, IntOp.cmpi .sle (BitVec.ofNat 32 r.val) 509#32 = if r.val ≤ 509 then 1#1 else 0#1 := by decide +kernel

/-- A choice by a mask that is one exactly when `p` holds. -/
theorem select_if (p : Prop) [Decidable p] (a b : EReal) :
    Scalar.select (if p then 1#1 else 0#1) a b = if p then a else b := by
  by_cases h : p <;> simp [Scalar.select, h]

/-! ## The arrays of one tile -/

variable {q : Fin 8}
variable {ct x y conv : Tok} {bcx : Fin 4096 → Fin 3072 → EReal} {gate gain k0 k1 k2 : Fin 1024 → EReal}
variable {wo : Fin 1024 → Fin 1024 → EReal} {wi : Fin 1024 → Fin 3072 → EReal}

/-- `v` holds tile `q` of the array `f`. -/
def Holds (q : Fin 8) (v : S512x1024.Idx → EReal) (f : Tok) : Prop := ∀ (r : Fin 512) (d : Fin 1024), v (ix2 r d) = f (row q r) d

theorem dy_at (b0 : Vec Ideal S512x1024 .f32) (b6 : Vec Ideal S1x8x1024 .f32) (h0 : Holds q b0 ct)
    (h6 : ∀ d, b6 (ix3 0 2 d) = gate d) : Holds q (k0_pay7 b0 b6) (fun n d => ct n d * gate d) := fun r d => by
  pointwise [k0_pay7, k0_pay5]
  rw [h0 r d, h6]

theorem dmix_at (b0 : Vec Ideal S512x1024 .f32) (b6 : Vec Ideal S1x8x1024 .f32) (b8 : Vec Ideal S1x1024x1024 .bf16) (dy : Tok)
    (h : Holds q (k0_pay7 b0 b6) dy) (h8 : ∀ a b, b8 (ix3 0 a b) = wo a b) :
    Holds q (k0_pay9 b0 b6 b8) (dmix dy wo) := fun r d => by
  pointwise [k0_pay9]
  exact Finset.sum_congr rfl fun k _ => by rw [h r k, h8]

theorem dconv_at (v25 : FVec Ideal S512x1024 .f32) (b3 : Vec Ideal S512x3072 .f32) (dq : Tok) (h : Holds q v25 dq)
    (h3 : ∀ r j, b3 (ix2 r j) = bcx (row q r) j) :
    Holds q (k0_pay15 v25 (k0_pay11 b3)) (fun n d => dq n d * bcx n ⟨d.val, by omega⟩) := fun r d => by
  pointwise [k0_pay15, k0_pay11, k0_pay10]
  rw [h r d, h3]

theorem dgate_at (v25 : FVec Ideal S512x1024 .f32) (b4 : Vec Ideal S512x1024 .f32) (dq : Tok) (h : Holds q v25 dq)
    (h4 : Holds q b4 conv) :
    Holds q (k0_pay14 v25 b4) (fun n d => dq n d * conv n d) := fun r d => by
  pointwise [k0_pay14]
  rw [h r d, h4 r d]

theorem second_at (b3 : Vec Ideal S512x3072 .f32) (h3 : ∀ r j, b3 (ix2 r j) = bcx (row q r) j) :
    Holds q (k0_pay12 b3) (fun n d => bcx n ⟨1024 + d.val, by omega⟩) := fun r d => by
  pointwise [k0_pay12, k0_pay10]
  rw [h3]

theorem third_at (b3 : Vec Ideal S512x3072 .f32) (h3 : ∀ r j, b3 (ix2 r j) = bcx (row q r) j) :
    Holds q (k0_pay13 (k0_pay10 b3)) (fun n d => bcx n ⟨2048 + d.val, by omega⟩) := fun r d => by
  pointwise [k0_pay13, k0_pay10]
  rw [h3]

/-- The three taps of the gradient, the rows past the tile's end coming from the tile after it. -/
theorem dconvIn_at (v34 : FVec Ideal S512x1024 .f32) (nxt : Vec Ideal S8x1024 .f32) (b9 : Vec Ideal S1x8x1024 .f32) (dc : Tok)
    (h : Holds q v34 dc) (n0 : ∀ d, nxt (ix2 0 d) = later dc 1 (row q 511) d)
    (n1 : ∀ d, nxt (ix2 1 d) = later dc 2 (row q 511) d)
    (w0 : ∀ d, b9 (ix3 0 0 d) = k0 d) (w1 : ∀ d, b9 (ix3 0 1 d) = k1 d) (w2 : ∀ d, b9 (ix3 0 2 d) = k2 d) :
    Holds q (k0_pay27 v34 nxt (k0_pay25 (k0_pay6 b9) v34 nxt) (k0_pay26 (k0_pay6 b9))
      (iota Kind.tc S512x1024 32 [0] iota_S512x1024_d0_w32)) (dconvIn k0 k1 k2 dc) := fun r d => by
  pointwise [k0_pay27, k0_pay25, k0_pay26, k0_pay6]
  rw [le510, le509, eq510, select_if, select_if, select_if, w0, w1, w2, n0, n1, h r d]
  unfold dconvIn
  congr 2
  · congr 1
    by_cases hr : r.val ≤ 510
    · rw [if_pos hr, h]
      rw [later, dif_pos (by show q.val * 512 + r.val + 1 < 4096; omega)]
      congr 1
      exact Fin.ext (by show q.val * 512 + (r.val + 512 - 511) % 512 = q.val * 512 + r.val + 1; omega)
    · rw [if_neg hr, show r = (511 : Fin 512) from Fin.ext (by show r.val = 511; omega)]
  · by_cases hr : r.val ≤ 509
    · rw [if_pos hr, h]
      rw [later, dif_pos (by show q.val * 512 + r.val + 2 < 4096; omega)]
      congr 1
      exact Fin.ext (by show q.val * 512 + (r.val + 512 - 510) % 512 = q.val * 512 + r.val + 2; omega)
    · rw [if_neg hr]
      by_cases hr' : r.val = 510
      · rw [if_pos hr']
        have hrow : (row q r).val + 2 = (row q 511).val + 1 := by
          show q.val * 512 + r.val + 2 = q.val * 512 + 511 + 1
          omega
        unfold later
        by_cases hb : (row q 511).val + 1 < 4096
        · rw [dif_pos hb, dif_pos (hrow ▸ hb)]
          congr 1
          exact Fin.ext hrow.symm
        · rw [dif_neg hb, dif_neg (hrow ▸ hb)]
      · rw [if_neg hr', show r = (511 : Fin 512) from Fin.ext (by show r.val = 511; omega)]

/-- A stored product of the convolution's input gradient with a factor. -/
theorem du_at (v30 v34 : FVec Ideal S512x1024 .f32) (nxt : Vec Ideal S8x1024 .f32) (v108 : FVec Ideal S512x1024 .f32)
    (v109 : FVec Ideal S1x1024 .f32) (v110 : IVec S512x1024 32) (dz g : Tok)
    (h30 : Holds q v30 g) (hz : Holds q (k0_pay27 v34 nxt v108 v109 v110) dz) :
    Holds q (k0_pay29 v30 v34 nxt v108 v109 v110) (fun n d => dz n d * g n d) := fun r d => by
  pointwise [k0_pay29]
  rw [hz r d, h30 r d]

/-- The other stored product. -/
theorem dv_at (v29 v34 : FVec Ideal S512x1024 .f32) (nxt : Vec Ideal S8x1024 .f32) (v108 : FVec Ideal S512x1024 .f32)
    (v109 : FVec Ideal S1x1024 .f32) (v110 : IVec S512x1024 32) (dz g : Tok)
    (h29 : Holds q v29 g) (hz : Holds q (k0_pay27 v34 nxt v108 v109 v110) dz) :
    Holds q (k0_pay30 v29 v34 nxt v108 v109 v110) (fun n d => dz n d * g n d) := fun r d => by
  pointwise [k0_pay30]
  rw [hz r d, h29 r d]

/-- The gradient of the normalised input. -/
theorem dnorm_at (v29 v30 v33 v34 : FVec Ideal S512x1024 .f32) (nxt : Vec Ideal S8x1024 .f32) (v108 : FVec Ideal S512x1024 .f32)
    (v109 : FVec Ideal S1x1024 .f32) (v110 : IVec S512x1024 32) (u0 u1 u2 : Vec Ideal S1x1024x1024 .bf16) (p dz g2 g3 : Tok)
    (h33 : Holds q v33 p) (h29 : Holds q v29 g2) (h30 : Holds q v30 g3) (hz : Holds q (k0_pay27 v34 nxt v108 v109 v110) dz)
    (w0 : ∀ a b : Fin 1024, u0 (ix3 0 a b) = wi a ⟨b.val, by omega⟩)
    (w1 : ∀ a b : Fin 1024, u1 (ix3 0 a b) = wi a ⟨1024 + b.val, by omega⟩)
    (w2 : ∀ a b : Fin 1024, u2 (ix3 0 a b) = wi a ⟨2048 + b.val, by omega⟩) :
    Holds q (k0_pay31 v29 v30 v33 v34 nxt v108 v109 v110 u0 u1 u2)
      (dnorm p (fun n d => dz n d * g3 n d) (fun n d => dz n d * g2 n d) wi) := fun r d => by
  pointwise [k0_pay31, k0_pay28, k0_pay29, k0_pay30]
  unfold dnorm
  congr 1
  · congr 1
    · exact Finset.sum_congr rfl fun k _ => by rw [h33 r k, w0]
    · exact Finset.sum_congr rfl fun k _ => by rw [hz r k, h30 r k, w1]
  · exact Finset.sum_congr rfl fun k _ => by rw [hz r k, h29 r k, w2]

/-- The gradient of the layer's input. -/
theorem dinput_at (b0 : Vec Ideal S512x1024 .f32) (b6 : Vec Ideal S1x8x1024 .f32) (v145 : FVec Ideal S512x1024 .f32)
    (b1 : Vec Ideal S512x1024 .f32) (dh : Tok) (h0 : Holds q b0 ct) (h1 : Holds q b1 x) (h : Holds q v145 dh)
    (hg : ∀ d, b6 (ix3 0 6 d) * (1 + b6 (ix3 0 1 d)) = gain d) :
    Holds q (k0_pay34 b0 (k0_pay5 b6) v145 b1) (dinput ct x dh gain) := fun r d => by
  pointwise [k0_pay34, k0_pay33, k0_pay32, k0_pay5]
  simp only [hg, h0 r, h1 r, h r]
  rfl

/-! ## The column sums that a tile adds -/

theorem row0_at (b0 : Vec Ideal S512x1024 .f32) (acc : Vec Ideal S1x1024 .f32) (b2 : Vec Ideal S512x1024 .f32)
    (h0 : Holds q b0 ct) (h2 : Holds q b2 y) (d : Fin 1024) :
    k0_pay8 b0 acc b2 (ix2 0 d) = acc (ix2 0 d) + ∑ r : Fin 512, ct (row q r) d * y (row q r) d := by
  pointwise [k0_pay8]
  congr 1
  exact Finset.sum_congr rfl fun r _ => by rw [h0 r d, h2 r d]

theorem row1_at (v145 : FVec Ideal S512x1024 .f32) (b1 : Vec Ideal S512x1024 .f32) (acc : Vec Ideal S1x1024 .f32) (dh : Tok)
    (h : Holds q v145 dh) (h1 : Holds q b1 x) (d : Fin 1024) :
    k0_pay35 v145 b1 acc (ix2 0 d) = acc (ix2 0 d) + ∑ r : Fin 512, dh (row q r) d * unit x (row q r) d := by
  pointwise [k0_pay35, k0_pay33, k0_pay32]
  congr 1
  refine Finset.sum_congr rfl fun r _ => ?_
  simp only [h r, h1 r]
  rfl

theorem row2_at (v145 : FVec Ideal S512x1024 .f32) (acc : Vec Ideal S1x1024 .f32) (dh : Tok)
    (h : Holds q v145 dh) (d : Fin 1024) :
    k0_pay1 (k0_pay36 acc) (k0_pay37 v145) (ix2 0 d) = acc (ix2 0 d) + ∑ r : Fin 512, dh (row q r) d := by
  pointwise [k0_pay1, k0_pay36, k0_pay37]
  congr 1
  exact Finset.sum_congr rfl fun r _ => by rw [h r d]

theorem row6_at (v34 : FVec Ideal S512x1024 .f32) (acc : Vec Ideal S1x1024 .f32) (dc : Tok)
    (h : Holds q v34 dc) (d : Fin 1024) :
    k0_pay24 v34 acc (ix2 0 d) = acc (ix2 0 d) + ∑ r : Fin 512, dc (row q r) d := by
  pointwise [k0_pay24]
  congr 1
  exact Finset.sum_congr rfl fun r _ => by rw [h r d]

theorem convIn_at (b3 : Vec Ideal S512x3072 .f32) (h3 : ∀ r j, b3 (ix2 r j) = bcx (row q r) j) :
    Holds q (k0_pay16 (k0_pay10 b3) (k0_pay12 b3)) (convIn bcx) := fun r d => by
  pointwise [k0_pay16, k0_pay12, k0_pay13, k0_pay10]
  rw [h3, h3]
  rfl

/-- The eight rows before the tile; zero for the first tile. -/
theorem halo_at (v0 : BitVec 32) (b5 : Vec Ideal S8x3072 .f32)
    (hv : Scalar.cmpi .sgt v0 0#32 = if q.val ≠ 0 then 1#1 else 0#1)
    (h5 : ∀ (s : Fin 8) j, (h : q.val ≠ 0) → b5 (ix2 s j) = bcx ⟨q.val * 512 - 8 + s.val, by omega⟩ j) (s : Fin 8) (d : Fin 1024) :
    k0_pay17 v0 b5 (ix2 s d) = if h : q.val ≠ 0 then convIn bcx ⟨q.val * 512 - 8 + s.val, by omega⟩ d else 0 := by
  pointwise [k0_pay17]
  rw [hv, select_if]
  by_cases h : q.val ≠ 0
  · rw [if_pos h, dif_pos h, h5 _ _ h, h5 _ _ h]
    rfl
  · rw [if_neg h, dif_neg h]

theorem row5_at (v34 v35 : FVec Ideal S512x1024 .f32) (acc : Vec Ideal S1x1024 .f32) (dc z : Tok)
    (h : Holds q v34 dc) (hz : Holds q v35 z) (d : Fin 1024) :
    k0_pay23 v34 v35 acc (ix2 0 d) = acc (ix2 0 d) + ∑ r : Fin 512, dc (row q r) d * z (row q r) d := by
  pointwise [k0_pay23]
  congr 1
  exact Finset.sum_congr rfl fun r _ => by rw [h r d, hz r d]

theorem row4_at (v34 : FVec Ideal S512x1024 .f32) (v43 : FVec Ideal S8x1024 .f32) (acc : Vec Ideal S1x1024 .f32)
    (b3 : Vec Ideal S512x3072 .f32) (dc z : Tok) (h : Holds q v34 dc) (hz : Holds q (k0_pay16 (k0_pay10 b3) (k0_pay12 b3)) z)
    (hh : ∀ (s : Fin 8) d, v43 (ix2 s d) = if h : q.val ≠ 0 then z ⟨q.val * 512 - 8 + s.val, by omega⟩ d else 0) (d : Fin 1024) :
    k0_pay22 v34 v43 (k0_pay19 acc) k0_pay20 (k0_pay21 (k0_pay10 b3) (k0_pay12 b3)) (ix2 0 d)
      = acc (ix2 0 d) + ∑ r : Fin 512, dc (row q r) d * earlier z 1 (row q r) d := by
  pointwise [k0_pay22, k0_pay19, k0_pay20, k0_pay21]
  congr 1
  refine Finset.sum_congr rfl fun r _ => ?_
  rw [ge1, select_if, h r d, hz, hh]
  congr 1
  unfold earlier
  by_cases hr : 1 ≤ r.val
  · rw [if_pos hr, dif_neg (by show ¬ q.val * 512 + r.val < 1; omega)]
    congr 1
    exact Fin.ext (by show q.val * 512 + (r.val + 512 - 1) % 512 = q.val * 512 + r.val - 1; omega)
  · rw [if_neg hr]
    by_cases hq : q.val ≠ 0
    · rw [dif_pos hq, dif_neg (by show ¬ q.val * 512 + r.val < 1; omega)]
      congr 1
      exact Fin.ext (by show q.val * 512 - 8 + 7 = q.val * 512 + r.val - 1; omega)
    · rw [dif_neg hq, dif_pos (by show q.val * 512 + r.val < 1; omega)]

theorem row3_at (v0 : BitVec 32) (v25 : FVec Ideal S512x1024 .f32) (b5 : Vec Ideal S8x3072 .f32) (acc : Vec Ideal S1x1024 .f32)
    (b3 : Vec Ideal S512x3072 .f32) (dc z : Tok) (h : Holds q (k0_pay15 v25 (k0_pay11 b3)) dc)
    (hz : Holds q (k0_pay16 (k0_pay10 b3) (k0_pay12 b3)) z)
    (hh : ∀ (s : Fin 8) d, k0_pay17 v0 b5 (ix2 s d) = if h : q.val ≠ 0 then z ⟨q.val * 512 - 8 + s.val, by omega⟩ d else 0)
    (d : Fin 1024) :
    k0_pay18 v0 v25 (k0_pay10 b3) (k0_pay11 b3) (k0_pay12 b3) b5 acc (ix2 0 d)
      = acc (ix2 0 d) + ∑ r : Fin 512, dc (row q r) d * earlier z 2 (row q r) d := by
  pointwise [k0_pay18]
  congr 1
  refine Finset.sum_congr rfl fun r _ => ?_
  rw [ge2, eq0, select_if, select_if, h r d, hz, hh, hh]
  congr 1
  unfold earlier
  by_cases hr : 2 ≤ r.val
  · rw [if_pos hr, dif_neg (by show ¬ q.val * 512 + r.val < 2; omega)]
    congr 1
    exact Fin.ext (by show q.val * 512 + (r.val + 512 - 2) % 512 = q.val * 512 + r.val - 2; omega)
  · rw [if_neg hr]
    by_cases hq : q.val ≠ 0
    · rw [dif_pos hq, dif_pos hq, dif_neg (by show ¬ q.val * 512 + r.val < 2; omega)]
      by_cases hr0 : r.val = 0
      · rw [if_pos hr0]
        congr 1
        exact Fin.ext (by show q.val * 512 - 8 + 6 = q.val * 512 + r.val - 2; omega)
      · rw [if_neg hr0]
        congr 1
        exact Fin.ext (by show q.val * 512 - 8 + 7 = q.val * 512 + r.val - 2; omega)
    · rw [dif_neg hq, dif_neg hq, dif_pos (by show q.val * 512 + r.val < 2; omega), ite_self]

end Cert.ConvIdeal.Tile

end
-- ==== Proof.RowBuffer.lean ====
/- Reading a two-axis buffer that was filled row by row: the newest piece that holds the row wins. -/
module

public import Idealize.ShloMosaic.Lib.Pipeline.ValueKit
public import Idealize.ShloMosaic.Lib.WritesUnit
public import Idealize.ShloMosaic.Lib.Pointwise

@[expose] public section

noncomputable section

namespace Cert.RowBuffer

open Idealize.ShloMosaic

variable {sig : RefSig} {κ : Kind} {sp : Space} {e : EltTy} {Val : EltTy → Type} [∀ e, Nonempty (Val e)]
variable {R n : ℕ} {k o : ℕ}

/-- The buffer's shape: `R` rows of `n` entries. -/
abbrev Sh (R n : ℕ) : Shape := ⟨2, ![R, n]⟩

/-- A stored row read at its own row. -/
theorem canon_hit (inb : ∀ a, (![o, 0] : Fin 2 → ℕ) a + (![1, n] : Fin 2 → ℕ) a ≤ (Sh R n).size a)
    (w : (Rect.unit (s := Sh R n) ![o, 0] ![1, n] inb).shape.Idx → Val e) (L : List (View.Piece Val (Sh R n) e))
    (hk : o < R) (d : Fin n) :
    View.canon (⟨Rect.unit (s := Sh R n) ![o, 0] ![1, n] inb, w⟩ :: L) (ix2 (⟨o, hk⟩ : Fin R) d) = w (ix2 (0 : Fin 1) d) := by
  have h : (Rect.unit (s := Sh R n) ![o, 0] ![1, n] inb).emb (ix2 (0 : Fin 1) d) = ix2 (⟨o, hk⟩ : Fin R) d := by
    funext a
    refine Fin.ext ?_
    match a with
    | 0 => show o + 1 * 0 = o; omega
    | 1 => show 0 + 1 * d.val = d.val; omega
  rw [← h]
  exact View.canon_cons_emb _ w L _

/-- A stored row does not change another row. -/
theorem canon_miss (inb : ∀ a, (![o, 0] : Fin 2 → ℕ) a + (![1, n] : Fin 2 → ℕ) a ≤ (Sh R n).size a)
    (w : (Rect.unit (s := Sh R n) ![o, 0] ![1, n] inb).shape.Idx → Val e) (L : List (View.Piece Val (Sh R n) e))
    (r : Fin R) (hne : r.val ≠ o) (d : Fin n) :
    View.canon (⟨Rect.unit (s := Sh R n) ![o, 0] ![1, n] inb, w⟩ :: L) (ix2 r d) = View.canon L (ix2 r d) := by
  refine View.canon_cons_of_not_mem _ L ?_
  rw [Rect.mem_set_unit]
  intro hall
  have h := hall 0
  have h1 : o ≤ r.val := h.1
  have h2 : r.val < o + 1 := h.2
  omega

/-- A stored row read at its own row, the buffer's earlier contents being given. -/
theorem read_hit (v : View sig κ sp (Sh R n) e) (f : v.ty.Contents Val)
    (inb : ∀ a, (![o, 0] : Fin 2 → ℕ) a + (![1, n] : Fin 2 → ℕ) a ≤ (Sh R n).size a)
    (w : (Rect.unit (s := Sh R n) ![o, 0] ![1, n] inb).shape.Idx → Val e) (L : List (View.Piece Val (Sh R n) e))
    (hk : o < R) (d : Fin n) :
    v.read Val (v.writes Val f (⟨Rect.unit (s := Sh R n) ![o, 0] ![1, n] inb, w⟩ :: L)) (ix2 (⟨o, hk⟩ : Fin R) d)
      = w (ix2 (0 : Fin 1) d) :=
  View.read_writes_cons_rows_of_mem v f inb w L _ (ix2 (0 : Fin 1) d) rfl rfl rfl

/-- A stored row does not change another row, the buffer's earlier contents being given. -/
theorem read_miss (v : View sig κ sp (Sh R n) e) (f : v.ty.Contents Val)
    (inb : ∀ a, (![o, 0] : Fin 2 → ℕ) a + (![1, n] : Fin 2 → ℕ) a ≤ (Sh R n).size a)
    (w : (Rect.unit (s := Sh R n) ![o, 0] ![1, n] inb).shape.Idx → Val e) (L : List (View.Piece Val (Sh R n) e))
    (r : Fin R) (hne : r.val ≠ o) (d : Fin n) :
    v.read Val (v.writes Val f (⟨Rect.unit (s := Sh R n) ![o, 0] ![1, n] inb, w⟩ :: L)) (ix2 r d)
      = v.read Val (v.writes Val f L) (ix2 r d) :=
  View.read_writes_cons_rows_of_not_mem (W := 1) v f inb w L _ rfl rfl (by
    show r.val < o ∨ o + 1 ≤ r.val
    omega)

/-- A load of row `o` right after a list of stores reads that row of what the stores leave. -/
theorem readCov_row (v : View sig κ sp (Sh R n) e) (L : List (View.Piece Val (Sh R n) e))
    (inb : ∀ a, (![o, 0] : Fin 2 → ℕ) a + (![1, n] : Fin 2 → ℕ) a ≤ (Sh R n).size a) (hk : o < R) (d : Fin n) :
    v.readCov L (Rect.unit (s := Sh R n) ![o, 0] ![1, n] inb).toLoadRect (ix2 (0 : Fin 1) d)
      = v.read Val (v.writes Val v.junk L) (ix2 (⟨o, hk⟩ : Fin R) d) := by
  show v.read Val (v.writes Val v.junk L) _ = _
  congr 1
  funext a
  refine Fin.ext ?_
  match a with
  | 0 => show o + 1 * 0 = o; omega
  | 1 => show 0 + 1 * d.val = d.val; omega

/-- A load of row `o` of known contents. -/
theorem ld_row (X : (Sh R n).Idx → Val e)
    (inb : ∀ a, (![o, 0] : Fin 2 → ℕ) a + (![1, n] : Fin 2 → ℕ) a ≤ (Sh R n).size a) (hk : o < R) (d : Fin n) :
    View.ld X (Rect.unit (s := Sh R n) ![o, 0] ![1, n] inb) (ix2 (0 : Fin 1) d) = X (ix2 (⟨o, hk⟩ : Fin R) d) := by
  show X _ = _
  congr 1
  funext a
  refine Fin.ext ?_
  match a with
  | 0 => show o + 1 * 0 = o; omega
  | 1 => show 0 + 1 * d.val = d.val; omega

/-- A fill of the whole buffer. -/
theorem read_fill (v : View sig κ sp (Sh R n) e) (f : v.ty.Contents Val)
    (inb : ∀ a, (![0, 0] : Fin 2 → ℕ) a + (![R, n] : Fin 2 → ℕ) a ≤ (Sh R n).size a)
    (w : (Rect.unit (s := Sh R n) ![0, 0] ![R, n] inb).shape.Idx → Val e) (L : List (View.Piece Val (Sh R n) e))
    (r : Fin R) (d : Fin n) :
    v.read Val (v.writes Val f (⟨Rect.unit (s := Sh R n) ![0, 0] ![R, n] inb, w⟩ :: L)) (ix2 r d) = w (ix2 r d) :=
  View.read_writes_cons_rows_of_mem (o := 0) v f inb w L _ (ix2 r d) rfl (Nat.zero_add _).symm rfl

/-- A fill of the whole buffer, as the contents that a covering list leaves. -/
theorem canon_fill (inb : ∀ a, (![0, 0] : Fin 2 → ℕ) a + (![R, n] : Fin 2 → ℕ) a ≤ (Sh R n).size a)
    (w : (Rect.unit (s := Sh R n) ![0, 0] ![R, n] inb).shape.Idx → Val e) (L : List (View.Piece Val (Sh R n) e))
    (r : Fin R) (d : Fin n) :
    View.canon (⟨Rect.unit (s := Sh R n) ![0, 0] ![R, n] inb, w⟩ :: L) (ix2 r d) = w (ix2 r d) := by
  have h : (Rect.unit (s := Sh R n) ![0, 0] ![R, n] inb).emb (ix2 r d) = ix2 r d := by
    funext a
    refine Fin.ext ?_
    match a with
    | 0 => show 0 + 1 * r.val = r.val; omega
    | 1 => show 0 + 1 * d.val = d.val; omega
  conv_lhs => rw [← h]
  exact View.canon_cons_emb _ w L _

/-- A buffer that no store has touched holds what it was given. -/
theorem read_nil (v : View sig κ sp (Sh R n) e) (f : v.ty.Contents Val) :
    v.read Val (v.writes Val f []) = v.read Val f := rfl

end Cert.RowBuffer

end
-- ==== Proof.ConvBlocks.lean ====
/- The blocks that a grid point of the short convolution's backward call reads. -/
module

public import proofs.«01_k».proof.Defs
public import proofs.«01_k».proof.Proof.Gen.ConvIdeal.Value
public import Idealize.ShloMosaic.Lib.Pipeline.ValueKit
public import Idealize.ShloMosaic.Lib.Pointwise
public import Idealize.ShloMosaic.Lib.Claim
public import proofs.«01_k».proof.Proof.ConvTile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.ConvIdeal.Value
open Cert.ConvIdeal Cert.ConvIdeal.Gen Cert.ConvIdeal.Tile Cert.ConvSpec Cert
variable (m : (ℓ : Loc nD τ sig) → Buf (Elt Ideal) ℓ)

/-- The tile that grid point `t` works on: the last one first. -/
def tile (t : Fin cfg0.N) : Fin 8 := ⟨7 - t.val, by omega⟩

theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![(7 - t.val) * 64 - 1, 0]
    ∧ win0_6.index t = ![3, 0, 0] ∧ win0_7.index t = ![0, 0, 0] ∧ win0_8.index t = ![0, 0, 0] ∧ win0_9.index t = ![1, 0, 0] :=
  (by decide +kernel : ∀ t : Fin grid0.N, _)

/-- The layer's arrays as the call finds them. -/
def layer (c : Dev nD) : Layer where
  ct := fun n d => V m c main_arg0 (ix2 n d)
  x := fun n d => V m c main_arg1 (ix2 n d)
  y := fun n d => V m c main_v60 (ix2 n d)
  conv := fun n d => V m c main_v58 (ix2 n d)
  bcx := fun n j => V m c main_v25 (ix2 n j)
  gate := fun d => V m c main_v63 (ix3 3 2 d)
  gain := fun d => (show EReal from V m c main_v63 (ix3 3 6 d)) * (1 + (show EReal from V m c main_v63 (ix3 3 1 d)))
  tap := fun s d => V m c main_v66 (ix3 1 ⟨s.val, by omega⟩ d)
  wi := fun a j => V m c main_v68 (ix3 0 a j)
  wo := fun a b => V m c main_v70 (ix3 0 a b)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : Holds (tile t) (iblk m c 2 t) (layer m c).y := fun r d => by
  unfold layer tile row
  blk_point [iblk, idx t]

theorem blk3 (r : Fin 512) (j : Fin 3072) : iblk m c 3 t (ix2 r j) = (layer m c).bcx (row (tile t) r) j := by
  unfold layer tile row
  blk_point [iblk, idx t]

theorem blk4 : Holds (tile t) (iblk m c 4 t) (layer m c).conv := fun r d => by
  unfold layer tile row
  blk_point [iblk, idx t]

/-- The rows before the tile. -/
theorem blk5 (s : Fin 8) (j : Fin 3072) (h : (tile t).val ≠ 0) :
    iblk m c 5 t (ix2 s j) = (layer m c).bcx ⟨(tile t).val * 512 - 8 + s.val, by omega⟩ j := by
  have ht : 7 - t.val ≠ 0 := h
  refine Eq.trans (b := V m c main_v25 (ix2 ⟨((7 - t.val) * 64 - 1) * 8 + s.val, by omega⟩ j)) ?_ ?_
  · blk_point [iblk, idx t]
  · refine congrArg (V m c main_v25) (congrArg (fun n => ix2 n j) (Fin.ext ?_))
    show ((7 - t.val) * 64 - 1) * 8 + s.val = (7 - t.val) * 512 - 8 + s.val
    omega

/-- A row of the modulation block. -/
theorem blk6 (s : Fin 8) (d : Fin 1024) : iblk m c 6 t (ix3 0 s d) = V m c main_v63 (ix3 3 s d) := by
  blk_point [iblk, idx t]

theorem blk6_gate (d : Fin 1024) : iblk m c 6 t (ix3 0 2 d) = (layer m c).gate d := blk6 m c t 2 d

theorem blk6_gain (d : Fin 1024) : (show EReal from iblk m c 6 t (ix3 0 6 d)) * (1 + (show EReal from iblk m c 6 t (ix3 0 1 d))) = (layer m c).gain d := by
  rw [blk6 m c t 6 d, blk6 m c t 1 d]
  rfl

theorem blk7 (a : Fin 1024) (j : Fin 3072) : iblk m c 7 t (ix3 0 a j) = (layer m c).wi a j := by
  unfold layer
  blk_point [iblk, idx t]

theorem blk8 (a b : Fin 1024) : iblk m c 8 t (ix3 0 a b) = (layer m c).wo a b := by
  unfold layer
  blk_point [iblk, idx t]

theorem blk9 (s : Fin 3) (d : Fin 1024) : iblk m c 9 t (ix3 0 ⟨s.val, by omega⟩ d) = (layer m c).tap s d := by
  unfold layer
  blk_point [iblk, idx t]

/-- Only the first tile has nothing before it. -/
theorem notFirst : ∀ t : Fin cfg0.N, Scalar.cmpi .sgt (Scalar.subi 7#32 (BitVec.ofNat 32 (grid0.coords t 0).val)) 0#32
    = if (tile t).val ≠ 0 then 1#1 else 0#1 :=
  (by decide +kernel : ∀ t : Fin grid0.N, _)

end Cert.ConvIdeal.Value

end
-- ==== Proof.ConvPoint.lean ====
/- What a grid point of the short convolution's backward call has computed of the layer's gradients. -/
module

public import proofs.«01_k».proof.Defs
public import proofs.«01_k».proof.Proof.Gen.ConvIdeal.Value
public import Idealize.ShloMosaic.Lib.Pipeline.ValueKit
public import Idealize.ShloMosaic.Lib.Pointwise
public import Idealize.ShloMosaic.Lib.Claim
public import proofs.«01_k».proof.Proof.ConvBlocks
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.ConvIdeal.Value
open Cert.ConvIdeal Cert.ConvIdeal.Gen Cert.ConvIdeal.Tile Cert.ConvSpec Cert
variable (m : (ℓ : Loc nD τ sig) → Buf (Elt Ideal) ℓ)

variable (c : Dev nD) (t : Fin cfg0.N)

theorem dy : Holds (tile t) (k0_pay7 (iblk m c 0 t) (iblk m c 6 t)) (layer m c).dy :=
  dy_at _ _ (blk0 m c t) (blk6_gate m c t)

theorem dq : Holds (tile t) (k0_pay9 (iblk m c 0 t) (iblk m c 6 t) (iblk m c 8 t)) (layer m c).dq :=
  dmix_at _ _ _ _ (dy m c t) (blk8 m c t)

theorem dc : Holds (tile t) (k0_pay15 (k0_pay9 (iblk m c 0 t) (iblk m c 6 t) (iblk m c 8 t)) (k0_pay11 (iblk m c 3 t))) (layer m c).dc :=
  dconv_at _ _ _ (dq m c t) (blk3 m c t)

theorem dg : Holds (tile t) (k0_pay14 (k0_pay9 (iblk m c 0 t) (iblk m c 6 t) (iblk m c 8 t)) (iblk m c 4 t)) (layer m c).dg :=
  dgate_at _ _ _ (dq m c t) (blk4 m c t)

/-- What a tile hands to the tile before it: its first rows of the gradient of the convolution's output. -/
theorem carry (s : Fin 8) (d : Fin 1024) :
    (outsAt0 m c t.val t.isLt).2.2.2.2 (ix2 s d) = (layer m c).dc (row (tile t) ⟨s.val, by omega⟩) d := by
  by_cases h : t.val % 8 = 0
  · rw [outsAt0_A m c t h]
    frame_out
    pointwise [k0_pay2]
    exact dc m c t _ d
  · rw [outsAt0_B m c t h]
    frame_out
    pointwise [k0_pay2]
    exact dc m c t _ d

/-- The rows that a tile takes from the tile after it: `nxt` holds the first two of them, or zeros at the end. -/
def Next (nxt : Vec Ideal S8x1024 .f32) : Prop :=
  (∀ d, nxt (ix2 0 d) = later (layer m c).dc 1 (row (tile t) 511) d) ∧ ∀ d, nxt (ix2 1 d) = later (layer m c).dc 2 (row (tile t) 511) d

theorem next_A (h : t.val % 8 = 0) : Next m c t (k0_pay4 (F := Ideal)) := by
  have hN : t.val < 8 := lt_of_lt_of_eq t.isLt N_0
  refine ⟨fun d => ?_, fun d => ?_⟩
  · pointwise [k0_pay4]
    rw [later, dif_neg (by show ¬ (7 - t.val) * 512 + 511 + 1 < 4096; omega)]
  · pointwise [k0_pay4]
    rw [later, dif_neg (by show ¬ (7 - t.val) * 512 + 511 + 2 < 4096; omega)]

theorem next_B (h : ¬ t.val % 8 = 0) (hb : t.val - 1 < cfg0.N) : Next m c t ((outsAt0 m c (t.val - 1) hb).2.2.2.2) := by
  have hN : t.val < 8 := lt_of_lt_of_eq t.isLt N_0
  have e := carry m c ⟨t.val - 1, hb⟩
  refine ⟨fun d => (e 0 d).trans ?_, fun d => (e 1 d).trans ?_⟩
  · rw [later, dif_pos (by show (7 - t.val) * 512 + 511 + 1 < 4096; omega)]
    congr 1
    exact Fin.ext (by show (7 - (t.val - 1)) * 512 + 0 = (7 - t.val) * 512 + 511 + 1; omega)
  · rw [later, dif_pos (by show (7 - t.val) * 512 + 511 + 2 < 4096; omega)]
    congr 1
    exact Fin.ext (by show (7 - (t.val - 1)) * 512 + 1 = (7 - t.val) * 512 + 511 + 2; omega)

theorem dz (nxt : Vec Ideal S8x1024 .f32) (hn : Next m c t nxt) :
    Holds (tile t) (k0_pay27 (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).dz :=
  dconvIn_at _ _ _ _ (dc m c t) hn.1 hn.2 (blk9 m c t 0) (blk9 m c t 1) (blk9 m c t 2)

/-- The three blocks of columns of the input projection's weight. -/
theorem cols0 (a b : Fin 1024) :
    View.ld (iblk m c 7 t) (Rect.unit (s := S1x1024x3072) ![0, 0, 0] ![1, 1024, 1024] inb_S1x1024x3072_S1x1024x1024_0_0_0) (ix3 0 a b) = (layer m c).wi a ⟨b.val, by omega⟩ := by
  rw [← blk7 m c t a ⟨b.val, by omega⟩]
  pointwise []
theorem cols1 (a b : Fin 1024) :
    View.ld (iblk m c 7 t) (Rect.unit (s := S1x1024x3072) ![0, 0, 1024] ![1, 1024, 1024] inb_S1x1024x3072_S1x1024x1024_0_0_1024) (ix3 0 a b) = (layer m c).wi a ⟨1024 + b.val, by omega⟩ := by
  rw [← blk7 m c t a ⟨1024 + b.val, by omega⟩]
  pointwise []
theorem cols2 (a b : Fin 1024) :
    View.ld (iblk m c 7 t) (Rect.unit (s := S1x1024x3072) ![0, 0, 2048] ![1, 1024, 1024] inb_S1x1024x3072_S1x1024x1024_0_0_2048) (ix3 0 a b) = (layer m c).wi a ⟨2048 + b.val, by omega⟩ := by
  rw [← blk7 m c t a ⟨2048 + b.val, by omega⟩]
  pointwise []

/-- The gradient of the normalised input at a point, from the rows after its tile. -/
theorem dh (nxt : Vec Ideal S8x1024 .f32) (hn : Next m c t nxt) :
    Holds (tile t) (k0_pay31 (k0_pay12 (iblk m c 3 t)) (k0_pay13 (k0_pay10 (iblk m c 3 t)))
      (k0_pay14 (k0_pay9 (iblk m c 0 t) (iblk m c 6 t) (iblk m c 8 t)) (iblk m c 4 t))
      (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)
      (View.ld (iblk m c 7 t) (Rect.unit ![0, 0, 0] ![1, 1024, 1024] inb_S1x1024x3072_S1x1024x1024_0_0_0))
      (View.ld (iblk m c 7 t) (Rect.unit ![0, 0, 1024] ![1, 1024, 1024] inb_S1x1024x3072_S1x1024x1024_0_0_1024))
      (View.ld (iblk m c 7 t) (Rect.unit ![0, 0, 2048] ![1, 1024, 1024] inb_S1x1024x3072_S1x1024x1024_0_0_2048))) (layer m c).dh :=
  dnorm_at _ _ _ _ _ _ _ _ _ _ _ _ _ _ _ (dg m c t) (second_at _ (blk3 m c t)) (third_at _ (blk3 m c t)) (dz m c t nxt hn)
    (cols0 m c t) (cols1 m c t) (cols2 m c t)

/-- The gradient of the layer's input at a point, from the rows after its tile. -/
theorem dx (nxt : Vec Ideal S8x1024 .f32) (hn : Next m c t nxt) :
    Holds (tile t) (k0_pay34 (iblk m c 0 t) (k0_pay5 (iblk m c 6 t)) (k0_pay31 (k0_pay12 (iblk m c 3 t)) (k0_pay13 (k0_pay10 (iblk m c 3 t)))
        (k0_pay14 (k0_pay9 (iblk m c 0 t) (iblk m c 6 t) (iblk m c 8 t)) (iblk m c 4 t))
        (k0_pay15 (k0_pay9 (iblk m c 0 t) (iblk m c 6 t) (iblk m c 8 t)) (k0_pay11 (iblk m c 3 t))) nxt
        (k0_pay25 (k0_pay6 (iblk m c 9 t)) (k0_pay15 (k0_pay9 (iblk m c 0 t) (iblk m c 6 t) (iblk m c 8 t)) (k0_pay11 (iblk m c 3 t))) nxt)
        (k0_pay26 (k0_pay6 (iblk m c 9 t))) (iota Kind.tc S512x1024 32 [0] iota_S512x1024_d0_w32)
        (View.ld (iblk m c 7 t) (Rect.unit ![0, 0, 0] ![1, 1024, 1024] inb_S1x1024x3072_S1x1024x1024_0_0_0))
        (View.ld (iblk m c 7 t) (Rect.unit ![0, 0, 1024] ![1, 1024, 1024] inb_S1x1024x3072_S1x1024x1024_0_0_1024))
        (View.ld (iblk m c 7 t) (Rect.unit ![0, 0, 2048] ![1, 1024, 1024] inb_S1x1024x3072_S1x1024x1024_0_0_2048))) (iblk m c 1 t)) (layer m c).dx :=
  dinput_at _ _ _ _ _ (blk0 m c t) (blk1 m c t) (dh m c t nxt hn) (blk6_gain m c t)

/-- The gradients of the gate array and of the two factors at a point, as they are stored. -/
theorem dg_stored : Holds (tile t) (k0_pay28 (k0_pay14 (k0_pay9 (iblk m c 0 t) (iblk m c 6 t) (iblk m c 8 t)) (iblk m c 4 t))) (layer m c).dg :=
  fun r d => by
    pointwise [k0_pay28]
    exact dg m c t r d

theorem du (nxt : Vec Ideal S8x1024 .f32) (hn : Next m c t nxt) :
    Holds (tile t) (k0_pay29 (k0_pay13 (k0_pay10 (iblk m c 3 t))) (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).du :=
  du_at _ _ _ _ _ _ _ _ (third_at _ (blk3 m c t)) (dz m c t nxt hn)

theorem dv (nxt : Vec Ideal S8x1024 .f32) (hn : Next m c t nxt) :
    Holds (tile t) (k0_pay30 (k0_pay12 (iblk m c 3 t)) (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).dv :=
  dv_at _ _ _ _ _ _ _ _ (second_at _ (blk3 m c t)) (dz m c t nxt hn)

/-- The rows after the tile, as the point before left them in the scratch buffer. -/
theorem next_read (h : ¬ t.val % 8 = 0) (hw : (Memref.whole cc0_scratch0).IsWhole) (hb : t.val - 1 < cfg0.N) :
    Next m c t (View.read (Elt Ideal) (View.whole cc0_scratch0) (hw.unread ((outsAt0 m c (t.val - 1) hb).2.2.2.2))) := by
  have e := hw.read_unread (Val := Elt Ideal) ((outsAt0 m c (t.val - 1) hb).2.2.2.2)
  exact e.symm ▸ next_B m c t h hb

end Cert.ConvIdeal.Value

end
-- ==== Proof.ConvRows.lean ====
/- The column sums that the short convolution's backward call leaves. -/
module

public import proofs.«01_k».proof.Defs
public import proofs.«01_k».proof.Proof.Gen.ConvIdeal.Value
public import Idealize.ShloMosaic.Lib.Pipeline.ValueKit
public import Idealize.ShloMosaic.Lib.Pointwise
public import Idealize.ShloMosaic.Lib.Claim
public import proofs.«01_k».proof.Proof.ConvPoint
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.ConvIdeal.Value
open Cert.ConvIdeal Cert.ConvIdeal.Gen Cert.ConvIdeal.Tile Cert.ConvSpec Cert
variable (m : (ℓ : Loc nD τ sig) → Buf (Elt Ideal) ℓ)

variable (c : Dev nD) (t : Fin cfg0.N)

/-- The rows before the tile. -/
theorem halo (s : Fin 8) (d : Fin 1024) :
    k0_pay17 (Scalar.subi (7#32) (BitVec.ofNat 32 (grid0.coords t 0).val)) (iblk m c 5 t) (ix2 s d)
      = if h : (tile t).val ≠ 0 then convIn (layer m c).bcx ⟨(tile t).val * 512 - 8 + s.val, by omega⟩ d else 0 :=
  halo_at _ _ (notFirst t) (blk5 m c t) s d

/-- The row of the gate: reset at the first point, added to at the others. -/
theorem row0_A (h : t.val % 8 = 0) (d : Fin 1024) :
    (outsAt0 m c t.val t.isLt).2.2.2.1 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk2 m c t) d).trans (congrArg (· + _) ?_)
  simp (disch := decide) only [RowBuffer.readCov_row, RowBuffer.read_hit, RowBuffer.read_miss, RowBuffer.read_fill]
  pointwise [k0_pay3]

theorem row0_B (h : ¬ t.val % 8 = 0) (hb : t.val - 1 < cfg0.N) (d : Fin 1024) :
    (outsAt0 m c t.val t.isLt).2.2.2.1 (ix2 (⟨0, by decide⟩ : Fin 8) d)
      = (outsAt0 m c (t.val - 1) hb).2.2.2.1 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk2 m c t) d).trans (congrArg (· + _) ?_)
  exact RowBuffer.ld_row _ _ (by decide) d

/-- The row of the norm's gain: reset at the first point, added to at the others. -/
theorem row1_A (h : t.val % 8 = 0) (d : Fin 1024) :
    (outsAt0 m c t.val t.isLt).2.2.2.1 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ _ (dh m c t _ (next_A m c t h)) (blk1 m c t) d).trans (congrArg (· + _) ?_)
  simp (disch := decide) only [RowBuffer.readCov_row, RowBuffer.read_hit, RowBuffer.read_miss, RowBuffer.read_fill]
  pointwise [k0_pay3]

theorem row1_B (h : ¬ t.val % 8 = 0) (hb : t.val - 1 < cfg0.N) (d : Fin 1024) :
    (outsAt0 m c t.val t.isLt).2.2.2.1 (ix2 (⟨1, by decide⟩ : Fin 8) d)
      = (outsAt0 m c (t.val - 1) hb).2.2.2.1 (ix2 (⟨1, by decide⟩ : Fin 8) d) + (layer m c).part (tile t) 1 d := by
  rw [outsAt0_B m c t h]
  frame_out
  simp (disch := decide) only [RowBuffer.read_hit, RowBuffer.read_miss]
  refine (row1_at _ _ _ _ (dh m c t _ (next_read m c t h _ _)) (blk1 m c t) d).trans (congrArg (· + _) ?_)
  exact RowBuffer.ld_row _ _ (by decide) d

/-- The row of the norm's shift: reset at the first point, added to at the others. -/
theorem row2_A (h : t.val % 8 = 0) (d : Fin 1024) :
    (outsAt0 m c t.val t.isLt).2.2.2.1 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ _ (dh m c t _ (next_A m c t h)) d).trans (congrArg (· + _) ?_)
  simp (disch := decide) only [RowBuffer.readCov_row, RowBuffer.read_hit, RowBuffer.read_miss, RowBuffer.read_fill]
  pointwise [k0_pay3]

theorem row2_B (h : ¬ t.val % 8 = 0) (hb : t.val - 1 < cfg0.N) (d : Fin 1024) :
    (outsAt0 m c t.val t.isLt).2.2.2.1 (ix2 (⟨2, by decide⟩ : Fin 8) d)
      = (outsAt0 m c (t.val - 1) hb).2.2.2.1 (ix2 (⟨2, by decide⟩ : Fin 8) d) + (layer m c).part (tile t) 2 d := by
  rw [outsAt0_B m c t h]
  frame_out
  simp (disch := decide) only [RowBuffer.read_hit, RowBuffer.read_miss]
  refine (row2_at _ _ _ (dh m c t _ (next_read m c t h _ _)) d).trans (congrArg (· + _) ?_)
  exact RowBuffer.ld_row _ _ (by decide) d

/-- The row of the first tap: reset at the first point, added to at the others. -/
theorem row3_A (h : t.val % 8 = 0) (d : Fin 1024) :
    (outsAt0 m c t.val t.isLt).2.2.2.1 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  refine (row3_at _ _ _ _ _ _ _ (dc m c t) (convIn_at _ (blk3 m c t)) (halo m c t) d).trans (congrArg (· + _) ?_)
  simp (disch := decide) only [RowBuffer.readCov_row, RowBuffer.read_hit, RowBuffer.read_miss, RowBuffer.read_fill]
  pointwise [k0_pay3]

theorem row3_B (h : ¬ t.val % 8 = 0) (hb : t.val - 1 < cfg0.N) (d : Fin 1024) :
    (outsAt0 m c t.val t.isLt).2.2.2.1 (ix2 (⟨3, by decide⟩ : Fin 8) d)
      = (outsAt0 m c (t.val - 1) hb).2.2.2.1 (ix2 (⟨3, by decide⟩ : Fin 8) d) + (layer m c).part (tile t) 3 d := by
  rw [outsAt0_B m c t h]
  frame_out
  simp (disch := decide) only [RowBuffer.read_hit, RowBuffer.read_miss]
  refine (row3_at _ _ _ _ _ _ _ (dc m c t) (convIn_at _ (blk3 m c t)) (halo m c t) d).trans (congrArg (· + _) ?_)
  exact RowBuffer.ld_row _ _ (by decide) d

/-- The row of the second tap: reset at the first point, added to at the others. -/
theorem row4_A (h : t.val % 8 = 0) (d : Fin 1024) :
    (outsAt0 m c t.val t.isLt).2.2.2.1 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  refine (row4_at _ _ _ _ _ _ (dc m c t) (convIn_at _ (blk3 m c t)) (halo m c t) d).trans (congrArg (· + _) ?_)
  simp (disch := decide) only [RowBuffer.readCov_row, RowBuffer.read_hit, RowBuffer.read_miss, RowBuffer.read_fill]
  pointwise [k0_pay3]

theorem row4_B (h : ¬ t.val % 8 = 0) (hb : t.val - 1 < cfg0.N) (d : Fin 1024) :
    (outsAt0 m c t.val t.isLt).2.2.2.1 (ix2 (⟨4, by decide⟩ : Fin 8) d)
      = (outsAt0 m c (t.val - 1) hb).2.2.2.1 (ix2 (⟨4, by decide⟩ : Fin 8) d) + (layer m c).part (tile t) 4 d := by
  rw [outsAt0_B m c t h]
  frame_out
  simp (disch := decide) only [RowBuffer.read_hit, RowBuffer.read_miss]
  refine (row4_at _ _ _ _ _ _ (dc m c t) (convIn_at _ (blk3 m c t)) (halo m c t) d).trans (congrArg (· + _) ?_)
  exact RowBuffer.ld_row _ _ (by decide) d

/-- The row of the third tap: reset at the first point, added to at the others. -/
theorem row5_A (h : t.val % 8 = 0) (d : Fin 1024) :
    (outsAt0 m c t.val t.isLt).2.2.2.1 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  refine (row5_at _ _ _ _ _ (dc m c t) (convIn_at _ (blk3 m c t)) d).trans (congrArg (· + _) ?_)
  simp (disch := decide) only [RowBuffer.readCov_row, RowBuffer.read_hit, RowBuffer.read_miss, RowBuffer.read_fill]
  pointwise [k0_pay3]

theorem row5_B (h : ¬ t.val % 8 = 0) (hb : t.val - 1 < cfg0.N) (d : Fin 1024) :
    (outsAt0 m c t.val t.isLt).2.2.2.1 (ix2 (⟨5, by decide⟩ : Fin 8) d)
      = (outsAt0 m c (t.val - 1) hb).2.2.2.1 (ix2 (⟨5, by decide⟩ : Fin 8) d) + (layer m c).part (tile t) 5 d := by
  rw [outsAt0_B m c t h]
  frame_out
  simp (disch := decide) only [RowBuffer.read_hit, RowBuffer.read_miss]
  refine (row5_at _ _ _ _ _ (dc m c t) (convIn_at _ (blk3 m c t)) d).trans (congrArg (· + _) ?_)
  exact RowBuffer.ld_row _ _ (by decide) d

/-- The row of the convolution's bias: reset at the first point, added to at the others. -/
theorem row6_A (h : t.val % 8 = 0) (d : Fin 1024) :
    (outsAt0 m c t.val t.isLt).2.2.2.1 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  refine (row6_at _ _ _ (dc m c t) d).trans (congrArg (· + _) ?_)
  simp (disch := decide) only [RowBuffer.readCov_row, RowBuffer.read_hit, RowBuffer.read_miss, RowBuffer.read_fill]
  pointwise [k0_pay3]

theorem row6_B (h : ¬ t.val % 8 = 0) (hb : t.val - 1 < cfg0.N) (d : Fin 1024) :
    (outsAt0 m c t.val t.isLt).2.2.2.1 (ix2 (⟨6, by decide⟩ : Fin 8) d)
      = (outsAt0 m c (t.val - 1) hb).2.2.2.1 (ix2 (⟨6, by decide⟩ : Fin 8) d) + (layer m c).part (tile t) 6 d := by
  rw [outsAt0_B m c t h]
  frame_out
  simp (disch := decide) only [RowBuffer.read_hit, RowBuffer.read_miss]
  refine (row6_at _ _ _ (dc m c t) d).trans (congrArg (· + _) ?_)
  exact RowBuffer.ld_row _ _ (by decide) d

/-- The row of zeros. -/
theorem row7_A (h : t.val % 8 = 0) (d : Fin 1024) :
    (outsAt0 m c t.val t.isLt).2.2.2.1 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 8 = 0) (hb : t.val - 1 < cfg0.N) (d : Fin 1024) :
    (outsAt0 m c t.val t.isLt).2.2.2.1 (ix2 (⟨7, by decide⟩ : Fin 8) d)
      = (outsAt0 m c (t.val - 1) hb).2.2.2.1 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 8 = 0) (k : Fin 8) (d : Fin 1024) :
    (outsAt0 m c t.val t.isLt).2.2.2.1 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 8 = 0) (hb : t.val - 1 < cfg0.N) (k : Fin 8) (d : Fin 1024) :
    (outsAt0 m c t.val t.isLt).2.2.2.1 (ix2 k d)
      = (outsAt0 m c (t.val - 1) hb).2.2.2.1 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows of column sums, as the call leaves them. -/
theorem final13 : (dats m 0 c).arrAt 13 (cfgs 0).N = (fun i => (layer m c).rows (i 0) (i 1) : S8x1024.Idx → EReal) := by
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_7 rfl j, zero_add]
  exact Layer.sum_part (layer m c) (j 0) (j 1)

end Cert.ConvIdeal.Value

end
-- ==== Proof.ConvEntry.lean ====
/- The parameters that the host packs for the short convolution's backward call. -/
module

public import proofs.«01_k».proof.Proof.ConvRows

@[expose] public section
set_option maxRecDepth 16384
noncomputable section
open Idealize.ShloMosaic Idealize.ShloMosaic.TcCoe Idealize.SL.Sem
namespace Cert.ConvIdeal.Value
open Cert.ConvIdeal Cert.ConvIdeal.Gen
variable (m : (ℓ : Loc nD τ sig) → Buf (Elt Ideal) ℓ) (c : Dev nD)

/-- The host operations up to the packing of the layer's parameters, then those that pack them. -/
theorem split (b : DevRef τ sig) : StableHlo.after (hostOps0 (F := Ideal)) (fun b => m (c, b)) b
    = StableHlo.after ((hostOps0 (F := Ideal)).drop 66) (StableHlo.after ((hostOps0 (F := Ideal)).take 66) (fun b => m (c, b))) b := by
  rw [← StableHlo.after_append, List.take_append_drop]

theorem first_main_arg2 : StableHlo.after ((hostOps0 (F := Ideal)).take 66) (fun b => m (c, b)) (Proc.devRef .tc main_arg2) = m (c, Proc.devRef .tc main_arg2) := by
  unfold hostOps0
  simp only [List.take_succ_cons, List.take_zero]
  simp only [StableHlo.after_cons, StableHlo.after_nil]
  after_results_loop
  rfl

theorem first_main_arg3 : StableHlo.after ((hostOps0 (F := Ideal)).take 66) (fun b => m (c, b)) (Proc.devRef .tc main_arg3) = m (c, Proc.devRef .tc main_arg3) := by
  unfold hostOps0
  simp only [List.take_succ_cons, List.take_zero]
  simp only [StableHlo.after_cons, StableHlo.after_nil]
  after_results_loop
  rfl

theorem first_main_arg6 : StableHlo.after ((hostOps0 (F := Ideal)).take 66) (fun b => m (c, b)) (Proc.devRef .tc main_arg6) = m (c, Proc.devRef .tc main_arg6) := by
  unfold hostOps0
  simp only [List.take_succ_cons, List.take_zero]
  simp only [StableHlo.after_cons, StableHlo.after_nil]
  after_results_loop
  rfl

theorem pv_eq (U : Valuation τ sig (Elt Ideal)) :
    StableHlo.after ((hostOps0 (F := Ideal)).drop 66) U (Proc.devRef .tc main_v63) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0
  simp only [List.drop_succ_cons, List.drop_zero]
  after_results_simp
  try dsimp only [Matrix.cons_val]
  try after_results_simp
  try rfl

theorem taps_eq (U : Valuation τ sig (Elt Ideal)) :
    StableHlo.after ((hostOps0 (F := Ideal)).drop 66) U (Proc.devRef .tc main_v66) = concatenate S2x8x1024 1 [⟨S2x3x1024, U (Proc.devRef .tc main_arg6)⟩,
    ⟨S2x1x1024, broadcastInDim S2x1x1024 ![0, 2] Gen.bcast_S2x1024_S2x1x1024_0_2 (U (Proc.devRef .tc main_arg7))⟩,
    ⟨S2x4x1024, broadcastInDim S2x4x1024 ![] Gen.bcast_S_S2x4x1024 (constant (F := Ideal) S_ .f32 0x00000000#32)⟩]
    Gen.concatenates_S2x3x1024_S2x1x1024_S2x4x1024_S2x8x1024_d1 := by
  unfold hostOps0
  simp only [List.drop_succ_cons, List.drop_zero]
  after_results_simp
  try dsimp only [Matrix.cons_val]
  try after_results_simp
  try rfl

theorem pv_rows (k : Fin 8) (hk : k.val < 6) (d : Fin 1024) :
    V m c main_v63 (ix3 3 k d) = m (c, Proc.devRef .tc main_arg2) (ix3 3 ⟨k.val, hk⟩ d) := by
  refine (congrFun (split m c _) _).trans ?_
  rw [pv_eq]
  refine Eq.trans ?_ (congrFun (first_main_arg2 m c) _)
  generalize StableHlo.after ((hostOps0 (F := Ideal)).take 66) (fun b => m (c, b)) = U
  pointwise
  rw [dif_pos hk]

theorem pv_norm (k : Fin 8) (hk : k.val = 6) (d : Fin 1024) :
    V m c main_v63 (ix3 3 k d) = m (c, Proc.devRef .tc main_arg3) (ix2 3 d) := by
  refine (congrFun (split m c _) _).trans ?_
  rw [pv_eq]
  refine Eq.trans ?_ (congrFun (first_main_arg3 m c) _)
  generalize StableHlo.after ((hostOps0 (F := Ideal)).take 66) (fun b => m (c, b)) = U
  pointwise
  rw [dif_neg (by omega), dif_pos (by omega)]

theorem taps (k : Fin 8) (hk : k.val < 3) (d : Fin 1024) :
    V m c main_v66 (ix3 1 k d) = m (c, Proc.devRef .tc main_arg6) (ix3 1 ⟨k.val, hk⟩ d) := by
  refine (congrFun (split m c _) _).trans ?_
  rw [taps_eq]
  refine Eq.trans ?_ (congrFun (first_main_arg6 m c) _)
  generalize StableHlo.after ((hostOps0 (F := Ideal)).take 66) (fun b => m (c, b)) = U
  pointwise
  rw [dif_pos hk]

theorem wi_at (a : Fin 1024) (j : Fin 3072) : V m c main_v68 (ix3 0 a j) = m ((c.tc : Thread nD τ).loc main_arg5) (ix2 a j) := by
  entry_read
  pointwise

theorem wo_at (a b : Fin 1024) : V m c main_v70 (ix3 0 a b) = m ((c.tc : Thread nD τ).loc main_arg8) (ix2 a b) := by
  entry_read
  pointwise

end Cert.ConvIdeal.Value
end
-- ==== Proof.ConvRef.lean ====
/- The reference's gradients, entry by entry. -/
module

public import proofs.«01_k».proof.Defs
public import proofs.«01_k».proof.Proof.Gen.ConvRefIdeal.Run
public import proofs.«01_k».proof.Proof.ConvSpec
public import Idealize.ShloMosaic.Lib.Pointwise

@[expose] public section

set_option maxRecDepth 16384
noncomputable section
open Idealize.ShloMosaic Idealize.SL.Sem
namespace Cert.ConvRefIdeal.Spec
open Cert.ConvRefIdeal Cert.ConvRefIdeal.Gen Cert.ConvRefIdeal.Value Cert.ConvSpec Cert

variable (V0 : Valuation τ sig (Elt Ideal))

/-- The gain of the norm. -/
def normGain (d : Fin 1024) : EReal := V0 (Proc.devRef .tc main_arg3) (ix2 3 d)
/-- The modulation of the gain. -/
def scale (d : Fin 1024) : EReal := V0 (Proc.devRef .tc main_arg2) (ix3 3 1 d)

/-- The arrays of the layer, from the arguments. -/
def layer : Layer where
  ct := fun n d => V0 (Proc.devRef .tc main_arg0) (ix2 n d)
  x := fun n d => V0 (Proc.devRef .tc main_arg1) (ix2 n d)
  y := fun n d => res_main_v66 V0 (ix2 n d)
  conv := fun n d => res_main_v64 V0 (ix2 n d)
  bcx := fun n j => res_main_v30 V0 (ix2 n j)
  gate := fun d => V0 (Proc.devRef .tc main_arg2) (ix3 3 2 d)
  gain := fun d => normGain V0 d * (1 + scale V0 d)
  tap := fun s d => V0 (Proc.devRef .tc main_arg6) (ix3 1 s d)
  wi := fun a j => V0 (Proc.devRef .tc main_arg5) (ix2 a j)
  wo := fun a b => V0 (Proc.devRef .tc main_arg8) (ix2 a b)

theorem dy_at (n : Fin 4096) (d : Fin 1024) : res_main_v73 V0 (ix2 n d) = (layer V0).dy n d := by
  pointwise [res_main_v73, res_main_v71, res_main_v67]
  exact EReal.mul_comm _ _

theorem dq_at (n : Fin 4096) (d : Fin 1024) : res_main_v78 V0 (ix2 n d) = (layer V0).dq n d := by
  pointwise [res_main_v78]
  simp only [dy_at]
  rfl

theorem dc_at (n : Fin 4096) (d : Fin 1024) : res_main_v79 V0 (ix2 n d) = (layer V0).dc n d := by
  pointwise [res_main_v79, res_main_v35]
  rw [dq_at]
  exact EReal.mul_comm _ _

theorem dz_at (n : Fin 4096) (d : Fin 1024) : res_main_v116 V0 (ix2 n d) = (layer V0).dz n d := by
  pointwise [res_main_v116, res_main_v111, res_main_v58, res_main_v51, res_main_v45, res_main_v32]
  simp only [dc_at]
  unfold Layer.dz dconvIn later
  congr 1
  · congr 1
    by_cases h : n.val + 1 < 4096
    · rw [dif_pos (by omega), dif_pos h]
      congr 2
      exact Fin.ext (by show 2 + n.val - 1 = n.val + 1; omega)
    · rw [dif_neg (by omega), dif_neg h, mul_zero]
  · by_cases h : n.val + 2 < 4096
    · rw [dif_pos (by omega), dif_pos h]
      congr 2
      exact Fin.ext (by show 2 + n.val = n.val + 2; omega)
    · rw [dif_neg (by omega), dif_neg h, mul_zero]

theorem z_before (n : Fin 4096) (d : Fin 1024) : res_main_v57 V0 (ix2 n d) = convIn (layer V0).bcx n d := by
  pointwise [res_main_v57, res_main_v40, res_main_v36, res_main_v37]
  rfl

theorem z_earlier1 (n : Fin 4096) (d : Fin 1024) :
    res_main_v50 V0 (ix2 n d) = earlier (convIn (layer V0).bcx) 1 n d := by
  pointwise [res_main_v50, res_main_v40, res_main_v36, res_main_v37]
  unfold earlier
  by_cases h : 1 + n.val < 2
  · rw [dif_pos h, dif_pos (by omega)]
  · rw [dif_neg h, dif_neg (by omega)]
    have e : (⟨1 + n.val - 2, by omega⟩ : Fin 4096) = ⟨n.val - 1, by omega⟩ := Fin.ext (by show 1 + n.val - 2 = n.val - 1; omega)
    rw [e]
    rfl

theorem z_earlier2 (n : Fin 4096) (d : Fin 1024) :
    res_main_v44 V0 (ix2 n d) = earlier (convIn (layer V0).bcx) 2 n d := by
  pointwise [res_main_v44, res_main_v40, res_main_v36, res_main_v37]
  unfold earlier
  by_cases h : n.val < 2
  · rw [dif_pos h, dif_pos (by omega)]
  · rw [dif_neg h, dif_neg (by omega)]
    congr 1

/-- The gradient of the projected input, in its three blocks of columns. -/
theorem dbcx_at (n : Fin 4096) (j : Fin 3072) :
    res_main_v119 V0 (ix2 n j) = (layer V0).dbcx n j := by
  unfold Layer.dbcx
  pointwise [res_main_v119, res_main_v36, res_main_v37]
  simp only [dq_at, dz_at]
  by_cases h : j.val < 1024
  · rw [dif_pos h, dif_pos h]
    rfl
  · rw [dif_neg h, dif_neg h]
    by_cases h' : j.val - 1024 < 1024
    · rw [dif_pos h', dif_pos h']
      rfl
    · rw [dif_neg h', dif_neg h']
      exact EReal.mul_comm _ _

theorem dh_at (n : Fin 4096) (d : Fin 1024) : res_main_v120 V0 (ix2 n d) = (layer V0).dh n d := by
  pointwise [res_main_v120]
  simp only [dbcx_at, Layer.dbcx]
  rw [sum_blocks]
  unfold Layer.dh dnorm
  congr 1

theorem meanSq_at (n : Fin 4096) (k : Fin 1) : res_main_v17 V0 (ix2 n k) = NormBack.meanSq ((layer V0).x n) := by
  pointwise [res_main_v17]
  rfl

theorem rinv_at (n : Fin 4096) (k : Fin 1) : res_main_v18 V0 (ix2 n k) = NormBack.rinv ((layer V0).x n) := by
  pointwise [res_main_v18]
  rw [meanSq_at]
  rfl

theorem gained_at (n : Fin 4096) (d : Fin 1024) :
    res_main_v128 V0 (ix2 n d) = (layer V0).dh n d * (layer V0).gain d := by
  pointwise [res_main_v128, res_main_v24]
  rw [dh_at]
  rfl

theorem slope_at (n : Fin 4096) (d : Fin 1024) :
    res_main_v139 V0 (ix2 n d)
      = NormBack.slope ((layer V0).x n) fun k => (layer V0).dh n k * (layer V0).gain k := by
  pointwise [res_main_v139]
  rw [Fin.sum_univ_one]
  simp only [meanSq_at, rinv_at, gained_at]
  rfl

/-- The reference's gradient of the layer's input. -/
theorem dx_at (b : _) (n : Fin 4096) (d : Fin 1024) :
    addf (V0 (Proc.devRef .tc main_arg0)) (addf (addf (mulf (res_main_v128 V0)
      (broadcastInDim S4096x1024 ![0, 1] b (res_main_v18 V0)))
      (mulf (V0 (Proc.devRef .tc main_arg1)) (res_main_v139 V0)))
      (mulf (res_main_v139 V0) (V0 (Proc.devRef .tc main_arg1)))) (ix2 n d) = (layer V0).dx n d := by
  pointwise []
  rw [slope_at, gained_at, rinv_at]
  unfold Layer.dx dinput
  rw [NormBack.back_eq]
  rfl

/-- The unit-normed input. -/
theorem unit_at (n : Fin 4096) (d : Fin 1024) : res_main_v23 V0 (ix2 n d) = unit (layer V0).x n d := by
  pointwise [res_main_v23]
  rw [rinv_at]
  rfl

/-- The reference's column sums. -/
theorem rows_at (k : Fin 8) (d : Fin 1024) :
    ((concatenate S8x1024 0 [⟨S1x1024, ((broadcastInDim S1x1024 ![1] bcast_S1024_S1x1024_1 (Host.reduceAdd (shapeCast _ (Host.reduceAdd (mulf (res_main_v71 V0) (res_main_v66 V0)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v23 V0) (res_main_v120 V0)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v120 V0) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S3x1024, ((addf (addf (pad S3x1024 ![2, 0] ![0, 0] ![0, 0] (broadcastInDim S1x1024 ![1] bcast_S1024_S1x1024_1 (Host.reduceAdd (shapeCast _ (Host.reduceAdd (mulf (res_main_v79 V0) (res_main_v57 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_200_000 h_S_) (pad S3x1024 ![1, 0] ![1, 0] ![0, 0] (broadcastInDim S1x1024 ![1] bcast_S1024_S1x1024_1 (Host.reduceAdd (shapeCast _ (Host.reduceAdd (mulf (res_main_v79 V0) (res_main_v50 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_110_000 h_S_)) (pad S3x1024 ![0, 0] ![2, 0] ![0, 0] (broadcastInDim S1x1024 ![1] bcast_S1024_S1x1024_1 (Host.reduceAdd (shapeCast _ (Host.reduceAdd (mulf (res_main_v79 V0) (res_main_v44 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_020_000 h_S_)) : (⟨S3x1024, .f32⟩ : BufTy).Contents (Elt Ideal))⟩, ⟨S1x1024, ((broadcastInDim S1x1024 ![1] bcast_S1024_S1x1024_1 (Host.reduceAdd (shapeCast _ (Host.reduceAdd (res_main_v79 V0) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![] bcast_S_S1x1024 (constant (F := Ideal) S_ .f32 0x00000000#32)) : (⟨S1x1024, .f32⟩ : BufTy).Contents (Elt Ideal))⟩] concatenates_S1x1024_S1x1024_S1x1024_S3x1024_S1x1024_S1x1024_S8x1024_d0 : (⟨S8x1024, .f32⟩ : BufTy).Contents (Elt Ideal)) : S8x1024.Idx → EReal) (ix2 k d) = (layer V0).rows k d := by
  pointwise [res_main_v71]
  simp only [Fin.sum_univ_one, dc_at, dh_at, unit_at, z_before, z_earlier1, z_earlier2]
  match k with
  | 0 => rfl
  | 1 =>
    refine Eq.trans (?_ : _ = ∑ n, unit (layer V0).x n d * (layer V0).dh n d) (Finset.sum_congr rfl fun n _ => mul_comm _ _)
    rfl
  | 2 => rfl
  | 3 =>
    refine Eq.trans (?_ : _ = (0 : EReal) + 0 + (layer V0).rows 3 d) (by rw [zero_add, zero_add])
    rfl
  | 4 =>
    refine Eq.trans (?_ : _ = (0 : EReal) + (layer V0).rows 4 d + 0) (by rw [zero_add, add_zero])
    rfl
  | 5 =>
    refine Eq.trans (?_ : _ = (layer V0).rows 5 d + (0 : EReal) + 0) (by rw [add_zero, add_zero])
    rfl
  | 6 => rfl
  | 7 => rfl

end Cert.ConvRefIdeal.Spec

end
-- ==== Proof.ConvHost.lean ====
/- The kernel's arrays and the reference's are the same arrays of the arguments. -/
module

public import proofs.«01_k».proof.Proof.ConvEntry
public import proofs.«01_k».proof.Proof.ConvRef

@[expose] public section
set_option maxRecDepth 16384
noncomputable section
open Idealize.ShloMosaic Idealize.ShloMosaic.TcCoe Idealize.SL.Sem
namespace Cert.ConvIdeal.Value
open Cert.ConvIdeal Cert.ConvIdeal.Gen Cert.ConvSpec
variable (m : (ℓ : Loc nD τ sig) → Buf (Elt Ideal) ℓ) (c : Dev nD)
  (W : Valuation Cert.ConvRefIdeal.τ Cert.ConvRefIdeal.sig (Elt Ideal))

/-- The reference starts from the kernel's arguments. -/
structure SameArgs : Prop where
  a0 : W (Proc.devRef .tc Cert.ConvRefIdeal.main_arg0) = m ((c.tc : Thread nD τ).loc main_arg0)
  a1 : W (Proc.devRef .tc Cert.ConvRefIdeal.main_arg1) = m ((c.tc : Thread nD τ).loc main_arg1)
  a2 : W (Proc.devRef .tc Cert.ConvRefIdeal.main_arg2) = m ((c.tc : Thread nD τ).loc main_arg2)
  a3 : W (Proc.devRef .tc Cert.ConvRefIdeal.main_arg3) = m ((c.tc : Thread nD τ).loc main_arg3)
  a5 : W (Proc.devRef .tc Cert.ConvRefIdeal.main_arg5) = m ((c.tc : Thread nD τ).loc main_arg5)
  a6 : W (Proc.devRef .tc Cert.ConvRefIdeal.main_arg6) = m ((c.tc : Thread nD τ).loc main_arg6)
  a7 : W (Proc.devRef .tc Cert.ConvRefIdeal.main_arg7) = m ((c.tc : Thread nD τ).loc main_arg7)
  a8 : W (Proc.devRef .tc Cert.ConvRefIdeal.main_arg8) = m ((c.tc : Thread nD τ).loc main_arg8)

variable {m c W} (s : SameArgs m c W)
include s
open Cert.ConvRefIdeal.Gen Cert.ConvRefIdeal.Value

theorem same_bcx : V m c main_v25 = res_main_v30 W := by
  simp only [res_main_v30, res_main_v24, res_main_v23, res_main_v18, res_main_v17, s.a1, s.a2, s.a3, s.a5]
  entry_read
  rfl

theorem same_conv : V m c main_v58 = res_main_v64 W := by
  unfold res_main_v64 res_main_v58 res_main_v57 res_main_v51 res_main_v50 res_main_v45 res_main_v44 res_main_v40 res_main_v37
    res_main_v36 res_main_v32
  rw [← same_bcx s, s.a6, s.a7]
  entry_read
  rfl

set_option maxHeartbeats 2000000 in
theorem same_y : V m c main_v60 = res_main_v66 W := by
  unfold res_main_v66 res_main_v35
  rw [← same_bcx s, ← same_conv s, s.a8]
  entry_read
  rfl

theorem same_gain (d : Fin 1024) : (layer m c).gain d = (Cert.ConvRefIdeal.Spec.layer W).gain d := by
  have h1 : (show EReal from V m c main_v63 (ix3 3 6 d)) = W (Proc.devRef .tc Cert.ConvRefIdeal.main_arg3) (ix2 3 d) :=
    (pv_norm m c 6 rfl d).trans (congrFun s.a3 (ix2 3 d)).symm
  have h2 : (show EReal from V m c main_v63 (ix3 3 1 d)) = W (Proc.devRef .tc Cert.ConvRefIdeal.main_arg2) (ix3 3 1 d) :=
    (pv_rows m c 1 (by decide) d).trans (congrFun s.a2 (ix3 3 1 d)).symm
  show (show EReal from V m c main_v63 (ix3 3 6 d)) * (1 + (show EReal from V m c main_v63 (ix3 3 1 d))) = _
  rw [h1, h2]
  rfl

theorem same_gate (d : Fin 1024) : (layer m c).gate d = (Cert.ConvRefIdeal.Spec.layer W).gate d :=
  (pv_rows m c 2 (by decide) d).trans (congrFun s.a2 (ix3 3 2 d)).symm

theorem same_tap (k : Fin 3) (d : Fin 1024) : (layer m c).tap k d = (Cert.ConvRefIdeal.Spec.layer W).tap k d :=
  (taps m c ⟨k.val, by omega⟩ k.isLt d).trans (congrFun s.a6 (ix3 1 k d)).symm

theorem same_wi (a : Fin 1024) (j : Fin 3072) : (layer m c).wi a j = (Cert.ConvRefIdeal.Spec.layer W).wi a j :=
  (wi_at m c a j).trans (congrFun s.a5 (ix2 a j)).symm

theorem same_wo (a b : Fin 1024) : (layer m c).wo a b = (Cert.ConvRefIdeal.Spec.layer W).wo a b :=
  (wo_at m c a b).trans (congrFun s.a8 (ix2 a b)).symm

theorem same_ct (n : Fin 4096) (d : Fin 1024) : (layer m c).ct n d = (Cert.ConvRefIdeal.Spec.layer W).ct n d :=
  (congrFun (V_main_arg0 m c) (ix2 n d)).trans (congrFun s.a0 (ix2 n d)).symm

theorem same_x (n : Fin 4096) (d : Fin 1024) : (layer m c).x n d = (Cert.ConvRefIdeal.Spec.layer W).x n d :=
  (congrFun (V_main_arg1 m c) (ix2 n d)).trans (congrFun s.a1 (ix2 n d)).symm

theorem same_y_at (n : Fin 4096) (d : Fin 1024) : (layer m c).y n d = (Cert.ConvRefIdeal.Spec.layer W).y n d := by
  show V m c main_v60 (ix2 n d) = res_main_v66 W (ix2 n d)
  rw [same_y s]

theorem same_conv_at (n : Fin 4096) (d : Fin 1024) : (layer m c).conv n d = (Cert.ConvRefIdeal.Spec.layer W).conv n d := by
  show V m c main_v58 (ix2 n d) = res_main_v64 W (ix2 n d)
  rw [same_conv s]

theorem same_bcx_at (n : Fin 4096) (j : Fin 3072) : (layer m c).bcx n j = (Cert.ConvRefIdeal.Spec.layer W).bcx n j := by
  show V m c main_v25 (ix2 n j) = res_main_v30 W (ix2 n j)
  rw [same_bcx s]

omit s in
/-- Layers with the same arrays are the same. -/
theorem layer_eq (A B : Layer) (h0 : ∀ n d, A.ct n d = B.ct n d) (h1 : ∀ n d, A.x n d = B.x n d) (h2 : ∀ n d, A.y n d = B.y n d)
    (h3 : ∀ n d, A.conv n d = B.conv n d) (h4 : ∀ n d, A.bcx n d = B.bcx n d) (h5 : ∀ d, A.gate d = B.gate d) (h6 : ∀ d, A.gain d = B.gain d)
    (h7 : ∀ n d, A.tap n d = B.tap n d) (h8 : ∀ n d, A.wi n d = B.wi n d) (h9 : ∀ n d, A.wo n d = B.wo n d) : A = B :=
  Layer.ext (funext fun n => funext (h0 n)) (funext fun n => funext (h1 n)) (funext fun n => funext (h2 n)) (funext fun n => funext (h3 n))
    (funext fun n => funext (h4 n)) (funext h5) (funext h6) (funext fun n => funext (h7 n)) (funext fun n => funext (h8 n))
    (funext fun n => funext (h9 n))

/-- The kernel's layer is the reference's. -/
theorem same_layer : layer m c = Cert.ConvRefIdeal.Spec.layer W := by
  have h0 := same_ct s
  have h1 := same_x s
  have h2 := same_y_at s
  have h3 := same_conv_at s
  have h4 := same_bcx_at s
  have h5 := same_gate s
  have h6 := same_gain s
  have h7 := same_tap s
  have h8 := same_wi s
  have h9 := same_wo s
  exact layer_eq _ _ h0 h1 h2 h3 h4 h5 h6 h7 h8 h9

end Cert.ConvIdeal.Value
end
-- ==== Proof.ConvOut.lean ====
/- The arrays that the short convolution's backward call leaves. -/
module

public import proofs.«01_k».proof.Defs
public import proofs.«01_k».proof.Proof.Gen.ConvIdeal.Value
public import Idealize.ShloMosaic.Lib.Pipeline.ValueKit
public import Idealize.ShloMosaic.Lib.Pointwise
public import Idealize.ShloMosaic.Lib.Claim
public import proofs.«01_k».proof.Proof.ConvPoint
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.ConvIdeal.Value
open Cert.ConvIdeal Cert.ConvIdeal.Gen Cert.ConvIdeal.Tile Cert.ConvSpec Cert
variable (m : (ℓ : Loc nD τ sig) → Buf (Elt Ideal) ℓ)

theorem idxOut : ∀ t : Fin cfg0.N, win0_10.index t = ![7 - t.val, 0] ∧ win0_11.index t = ![7 - t.val, 0] ∧ win0_12.index t = ![7 - t.val, 0]
    ∧ win0_13.index t = ![0, 0] :=
  (by decide +kernel : ∀ t : Fin grid0.N, _)

variable (c : Dev nD)

/-- A grid point's block of the gradient of the layer's input. -/
theorem out10 (t : Fin cfg0.N) : Holds (tile t) (outsAt0 m c t.val t.isLt).1 (layer m c).dx := fun r d => by
  by_cases h : t.val % 8 = 0
  · rw [outsAt0_A m c t h]
    frame_out
    exact dx m c t _ (next_A m c t h) r d
  · rw [outsAt0_B m c t h]
    frame_out
    exact dx m c t _ (next_read m c t h _ _) r d

/-- A grid point's block of the gradient of the layer's result before its gate. -/
theorem out12 (t : Fin cfg0.N) : Holds (tile t) (outsAt0 m c t.val t.isLt).2.2.1 (layer m c).dy := fun r d => by
  by_cases h : t.val % 8 = 0
  · rw [outsAt0_A m c t h]
    frame_out
    exact dy m c t r d
  · rw [outsAt0_B m c t h]
    frame_out
    exact dy m c t r d

/-- The three column blocks of the gradient of the projected input, read at the index of the whole. -/
theorem dbcx_pieces (L : Layer) (q : Fin 8) (y : S512x3072.Idx) (x : S512x1024.Idx) (h0 : (y 0 : ℕ) = x 0) :
    (((y 1 : ℕ) = x 1) → L.dg (row q (x 0)) (x 1) = L.dbcx (row q (y 0)) (y 1))
    ∧ (((y 1 : ℕ) = 1024 + x 1) → L.du (row q (x 0)) (x 1) = L.dbcx (row q (y 0)) (y 1))
    ∧ (((y 1 : ℕ) = 2048 + x 1) → L.dv (row q (x 0)) (x 1) = L.dbcx (row q (y 0)) (y 1)) := by
  have e : (y 0 : Fin 512) = x 0 := Fin.ext h0
  have hx : (x 1 : ℕ) < 1024 := (x 1).isLt
  unfold Layer.dbcx
  rw [e]
  refine ⟨fun h1 => ?_, fun h1 => ?_, fun h1 => ?_⟩
  · rw [dif_pos (by omega)]
    congr 1
    exact Fin.ext h1.symm
  · rw [dif_neg (by omega), dif_pos (by omega)]
    congr 1
    exact Fin.ext (by show (x 1 : ℕ) = (y 1 : ℕ) - 1024; omega)
  · rw [dif_neg (by omega), dif_neg (by omega)]
    congr 1
    exact Fin.ext (by show (x 1 : ℕ) = (y 1 : ℕ) - 1024 - 1024; omega)

/-- A grid point's block of the gradient of the projected input. -/
theorem out11 (t : Fin cfg0.N) (y : S512x3072.Idx) : (outsAt0 m c t.val t.isLt).2.1 y = (layer m c).dbcx (row (tile t) (y 0)) (y 1) := by
  by_cases h : t.val % 8 = 0
  · have hn := next_A m c t h
    rw [outsAt0_A m c t h]
    frame_out
    clear h
    canon_tiles x h
    case piece0 => exact (congrArg _ (eq_ix2 x)).trans ((dv m c t _ hn (x 0) (x 1)).trans ((dbcx_pieces _ _ y x h0).2.2 h1))
    case piece1 => exact (congrArg _ (eq_ix2 x)).trans ((du m c t _ hn (x 0) (x 1)).trans ((dbcx_pieces _ _ y x h0).2.1 h1))
    case piece2 => exact (congrArg _ (eq_ix2 x)).trans ((dg_stored m c t (x 0) (x 1)).trans ((dbcx_pieces _ _ y x h0).1 h1))
  · have hn := next_read m c t h (Memref.isWhole_whole _) (lt_of_le_of_lt (Nat.sub_le _ _) t.isLt)
    rw [outsAt0_B m c t h]
    frame_out
    clear h
    canon_tiles x h
    case piece0 => exact (congrArg _ (eq_ix2 x)).trans ((dv m c t _ hn (x 0) (x 1)).trans ((dbcx_pieces _ _ y x h0).2.2 h1))
    case piece1 => exact (congrArg _ (eq_ix2 x)).trans ((du m c t _ hn (x 0) (x 1)).trans ((dbcx_pieces _ _ y x h0).2.1 h1))
    case piece2 => exact (congrArg _ (eq_ix2 x)).trans ((dg_stored m c t (x 0) (x 1)).trans ((dbcx_pieces _ _ y x h0).1 h1))

/-- Where a block's entry lands in its array. -/
theorem emb10 (t : Fin cfg0.N) (y : S512x1024.Idx) :
    ((View.whole main_v71_0).slice (win0_10.rect t)).emb y = ix2 (row (tile t) (y 0)) (y 1) := by
  unfold row tile
  blk_ext [idxOut t]

theorem emb11 (t : Fin cfg0.N) (y : S512x3072.Idx) :
    ((View.whole main_v71_1).slice (win0_11.rect t)).emb y = ix2 (row (tile t) (y 0)) (y 1) := by
  unfold row tile
  blk_ext [idxOut t]

theorem emb12 (t : Fin cfg0.N) (y : S512x1024.Idx) :
    ((View.whole main_v71_2).slice (win0_12.rect t)).emb y = ix2 (row (tile t) (y 0)) (y 1) := by
  unfold row tile
  blk_ext [idxOut t]

/-- The gradient of the layer's input, as the call leaves it. -/
theorem final10 : (dats m 0 c).arrAt 10 (cfgs 0).N = (fun i => (layer m c).dx (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

theorem final11 : (dats m 0 c).arrAt 11 (cfgs 0).N = (fun i => (layer m c).dbcx (i 0) (i 1) : S4096x3072.Idx → EReal) := by
  refine (dats m 0 c).arrAt_eq_of_covers 11 _ (by decide +kernel) fun t _ y => ?_
  blk_simp
  rw [after0_11, emb11 t y]
  exact out11 m c t y

theorem final12 : (dats m 0 c).arrAt 12 (cfgs 0).N = (fun i => (layer m c).dy (i 0) (i 1) : S4096x1024.Idx → EReal) := by
  refine (dats m 0 c).arrAt_eq_of_covers 12 _ (by decide +kernel) fun t _ y => ?_
  blk_simp
  rw [after0_12, emb12 t y]
  exact (congrArg _ (eq_ix2 y)).trans (out12 m c t (y 0) (y 1))

end Cert.ConvIdeal.Value

end
-- ==== Proof.WeightUp.lean ====
/- The gradient of a feed-forward layer's first weight: the kernel's blocks and the reference are the same sum over the tokens. -/
module

public import proofs.«01_k».proof.Defs
public import proofs.«01_k».proof.Proof.Gen.UpIdeal.Value
public import proofs.«01_k».proof.Proof.Gen.UpRefIdeal.Run
public import proofs.«01_k».proof.Proof.Gen.UpRefIdeal
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.UpIdeal.Value
open Cert.UpIdeal Cert.UpIdeal.Gen Cert
variable (m : (ℓ : Loc nD τ sig) → Buf (Elt Ideal) ℓ) (c : Dev nD)

/-- The gradient of the weight: each input channel against each output channel, summed over the tokens. -/
def grad (i : S1024x4096.Idx) : EReal :=
  ∑ n : Fin 4096, (show EReal from m ((c : Thread nD τ).loc main_arg0) (ix2 n (i 0))) * (show EReal from m ((c : Thread nD τ).loc main_arg2) (ix2 n (i 1)))

theorem idx : ∀ t : Fin cfg0.N, win0_0.index t = ![0, 0] ∧ win0_1.index t = ![0, t.val] ∧ win0_2.index t = ![0, t.val] :=
  (by decide +kernel : ∀ t : Fin grid0.N, _)

/-- The cast to the product's operand type changes no entry. -/
theorem left_at (n : Fin 4096) (a : Fin 1024) : V m c main_v0 (ix2 n a) = m ((c : Thread nD τ).loc main_arg0) (ix2 n a) := by
  entry_read
  rfl

theorem right_at (n : Fin 4096) (b : Fin 4096) : V m c main_v1 (ix2 n b) = m ((c : Thread nD τ).loc main_arg2) (ix2 n b) := by
  entry_read
  rfl

/-- A grid point's block of the gradient. -/
theorem block (t : Fin cfg0.N) (y : S1024x1024.Idx) :
    out0_2 (iblk m c 0 t) (iblk m c 1 t) y = grad m c (((cfg0.win 2).blk t).view.emb y) := by
  have hL : ∀ (n : Fin 4096) (r : Fin 1024), iblk m c 0 t (ix2 n r) = m ((c : Thread nD τ).loc main_arg0) (ix2 n ⟨r.val, by have := lt_of_lt_of_eq t.isLt N_0; omega⟩) := fun n r => by
    refine Eq.trans (b := V m c main_v0 (ix2 n ⟨r.val, by have := lt_of_lt_of_eq t.isLt N_0; omega⟩)) ?_ (left_at m c n _)
    blk_point [iblk, idx t]
  have hR : ∀ (n : Fin 4096) (r : Fin 1024), iblk m c 1 t (ix2 n r) = m ((c : Thread nD τ).loc main_arg2) (ix2 n ⟨t.val * 1024 + r.val, by have := lt_of_lt_of_eq t.isLt N_0; omega⟩) := fun n r => by
    refine Eq.trans (b := V m c main_v1 (ix2 n ⟨t.val * 1024 + r.val, by have := lt_of_lt_of_eq t.isLt N_0; omega⟩)) ?_ (right_at m c n _)
    blk_point [iblk, idx t]
  have h0 : ((((cfg0.win 2).blk t).view.emb y) 0 : Fin 1024) = ⟨(y 0).val, by have := lt_of_lt_of_eq t.isLt N_0; have h : (y 0).val < 1024 := (y 0).isLt; show _ < 1024; omega⟩ := by
    apply Fin.ext
    show win0_2.index t (0 : Fin 2) * 1024 + 1 * (y 0).val = _
    rw [(idx t).2.2]
    show 0 * 1024 + 1 * (y 0).val = (y 0).val
    omega
  have h1 : ((((cfg0.win 2).blk t).view.emb y) 1 : Fin 4096) = ⟨t.val * 1024 + (y 1).val, by have := lt_of_lt_of_eq t.isLt N_0; have h : (y 1).val < 1024 := (y 1).isLt; show _ < 4096; omega⟩ := by
    apply Fin.ext
    show win0_2.index t (1 : Fin 2) * 1024 + 1 * (y 1).val = _
    rw [(idx t).2.2]
    show t.val * 1024 + 1 * (y 1).val = t.val * 1024 + (y 1).val
    omega
  unfold grad
  rw [h0, h1]
  obtain ⟨r, d, rfl⟩ : ∃ r d, y = ix2 r d := ⟨y 0, y 1, eq_ix2 y⟩
  frame_out
  pointwise [k0_pay1]
  simp only [hL, hR]

/-- The array that the call leaves. -/
theorem final2 : (dats m 0 c).arrAt 2 cfg0.N = grad m c :=
  (dats m 0 c).arrAt_eq_of_covers 2 _ (by decide +kernel) fun t _ y => by
    blk_simp
    rw [after0_2]
    exact block m c t y

end Cert.UpIdeal.Value

namespace Cert.UpRefIdeal.Spec
open Cert.UpRefIdeal Cert.UpRefIdeal.Gen Cert

/-- The reference's product, transposed and rounded, entry by entry. -/
theorem result_at (h : S4096x1024.Idx → EReal) (ct : S4096x4096.Idx → EReal) (i : S1024x4096.Idx) :
    truncf (F := Ideal) .bf16 (transpose S1024x4096 [1, 0] (Host.dotGeneral (F := Ideal) (φ₁ := .f32) (φ₂ := .f32) dot_S4096x4096_S4096x1024_S4096x1024_0_0_1_1_n_n none ct h) transposes_S4096x1024_S1024x4096_1_0) bitsLt_bf16_f32 i
      = ∑ n : Fin 4096, h (ix2 n (i 0)) * ct (ix2 n (i 1)) := by
  obtain ⟨a, b, rfl⟩ : ∃ a b, i = ix2 a b := ⟨i 0, i 1, eq_ix2 i⟩
  pointwise []
  exact Finset.sum_congr rfl fun n _ => EReal.mul_comm _ _

end Cert.UpRefIdeal.Spec

namespace Cert.Proof

/-- The reference's host operations leave its arguments unchanged, and it declares no semaphore. -/
theorem frame_reference_Up : Cert.quiescent_UpRefIdeal := fun m ρ _ =>
  (θ_run Cert.UpRefIdeal.defs _ _).mono
    (fun r h => ⟨fun c => (h c).2, sem_eq_zero_of_no_sems (by decide) r.2⟩)
    (Cert.UpRefIdeal.Value.run (F := Ideal) m ρ)

/-- From the same arguments the kernel and the reference end with the same gradient. -/
theorem algebraic_Up : Cert.algebraic_UpIdeal_UpRefIdeal := by
  intro m g m' g' _ he
  refine ⟨fun c => Cert.UpIdeal.Value.grad m c, ?_, ?_⟩
  · exact (θ_run Cert.UpIdeal.defs _ _).mono (fun r h c => ⟨(h c).1.trans (Cert.UpIdeal.Value.final2 m c), (h c).2⟩)
      (Cert.UpIdeal.Value.run_blocks (F := Ideal) m g)
  · refine (θ_run Cert.UpRefIdeal.defs _ _).mono (fun r h c => ⟨(h c).1.trans (funext fun i => ?_), (h c).2⟩)
      (Cert.UpRefIdeal.Value.run (F := Ideal) m' g')
    rw [(he c).1, (he c).2.2]
    exact Cert.UpRefIdeal.Spec.result_at _ _ i

end Cert.Proof

end
-- ==== Proof.WeightDown.lean ====
/- The gradient of a feed-forward layer's second weight: the kernel's blocks and the reference are the same sum over the tokens. -/
module

public import proofs.«01_k».proof.Defs
public import proofs.«01_k».proof.Proof.Gen.DownIdeal.Value
public import proofs.«01_k».proof.Proof.Gen.DownRefIdeal.Run
public import proofs.«01_k».proof.Proof.Gen.DownRefIdeal
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.DownIdeal.Value
open Cert.DownIdeal Cert.DownIdeal.Gen Cert
variable (m : (ℓ : Loc nD τ sig) → Buf (Elt Ideal) ℓ) (c : Dev nD)

/-- The gradient of the weight: each input channel against each output channel, summed over the tokens. -/
def grad (i : S4096x1024.Idx) : EReal :=
  ∑ n : Fin 4096, (show EReal from m ((c : Thread nD τ).loc main_arg0) (ix2 n (i 0))) * (show EReal from m ((c : Thread nD τ).loc main_arg2) (ix2 n (i 1)))

theorem idx : ∀ t : Fin cfg0.N, win0_0.index t = ![0, t.val] ∧ win0_1.index t = ![0, 0] ∧ win0_2.index t = ![t.val, 0] :=
  (by decide +kernel : ∀ t : Fin grid0.N, _)

/-- The cast to the product's operand type changes no entry. -/
theorem left_at (n : Fin 4096) (a : Fin 4096) : V m c main_v0 (ix2 n a) = m ((c : Thread nD τ).loc main_arg0) (ix2 n a) := by
  entry_read
  rfl

theorem right_at (n : Fin 4096) (b : Fin 1024) : V m c main_v1 (ix2 n b) = m ((c : Thread nD τ).loc main_arg2) (ix2 n b) := by
  entry_read
  rfl

/-- A grid point's block of the gradient. -/
theorem block (t : Fin cfg0.N) (y : S1024x1024.Idx) :
    out0_2 (iblk m c 0 t) (iblk m c 1 t) y = grad m c (((cfg0.win 2).blk t).view.emb y) := by
  have hL : ∀ (n : Fin 4096) (r : Fin 1024), iblk m c 0 t (ix2 n r) = m ((c : Thread nD τ).loc main_arg0) (ix2 n ⟨t.val * 1024 + r.val, by have := lt_of_lt_of_eq t.isLt N_0; omega⟩) := fun n r => by
    refine Eq.trans (b := V m c main_v0 (ix2 n ⟨t.val * 1024 + r.val, by have := lt_of_lt_of_eq t.isLt N_0; omega⟩)) ?_ (left_at m c n _)
    blk_point [iblk, idx t]
  have hR : ∀ (n : Fin 4096) (r : Fin 1024), iblk m c 1 t (ix2 n r) = m ((c : Thread nD τ).loc main_arg2) (ix2 n ⟨r.val, by have := lt_of_lt_of_eq t.isLt N_0; omega⟩) := fun n r => by
    refine Eq.trans (b := V m c main_v1 (ix2 n ⟨r.val, by have := lt_of_lt_of_eq t.isLt N_0; omega⟩)) ?_ (right_at m c n _)
    blk_point [iblk, idx t]
  have h0 : ((((cfg0.win 2).blk t).view.emb y) 0 : Fin 4096) = ⟨t.val * 1024 + (y 0).val, by have := lt_of_lt_of_eq t.isLt N_0; have h : (y 0).val < 1024 := (y 0).isLt; show _ < 4096; omega⟩ := by
    apply Fin.ext
    show win0_2.index t (0 : Fin 2) * 1024 + 1 * (y 0).val = _
    rw [(idx t).2.2]
    show t.val * 1024 + 1 * (y 0).val = t.val * 1024 + (y 0).val
    omega
  have h1 : ((((cfg0.win 2).blk t).view.emb y) 1 : Fin 1024) = ⟨(y 1).val, by have := lt_of_lt_of_eq t.isLt N_0; have h : (y 1).val < 1024 := (y 1).isLt; show _ < 1024; omega⟩ := by
    apply Fin.ext
    show win0_2.index t (1 : Fin 2) * 1024 + 1 * (y 1).val = _
    rw [(idx t).2.2]
    show 0 * 1024 + 1 * (y 1).val = (y 1).val
    omega
  unfold grad
  rw [h0, h1]
  obtain ⟨r, d, rfl⟩ : ∃ r d, y = ix2 r d := ⟨y 0, y 1, eq_ix2 y⟩
  frame_out
  pointwise [k0_pay1]
  simp only [hL, hR]

/-- The array that the call leaves. -/
theorem final2 : (dats m 0 c).arrAt 2 cfg0.N = grad m c :=
  (dats m 0 c).arrAt_eq_of_covers 2 _ (by decide +kernel) fun t _ y => by
    blk_simp
    rw [after0_2]
    exact block m c t y

end Cert.DownIdeal.Value

namespace Cert.DownRefIdeal.Spec
open Cert.DownRefIdeal Cert.DownRefIdeal.Gen Cert

/-- The reference's product, transposed and rounded, entry by entry. -/
theorem result_at (h : S4096x4096.Idx → EReal) (ct : S4096x1024.Idx → EReal) (i : S4096x1024.Idx) :
    truncf (F := Ideal) .bf16 (transpose S4096x1024 [1, 0] (Host.dotGeneral (F := Ideal) (φ₁ := .f32) (φ₂ := .f32) dot_S4096x1024_S4096x4096_S1024x4096_0_0_1_1_n_n none ct h) transposes_S1024x4096_S4096x1024_1_0) bitsLt_bf16_f32 i
      = ∑ n : Fin 4096, h (ix2 n (i 0)) * ct (ix2 n (i 1)) := by
  obtain ⟨a, b, rfl⟩ : ∃ a b, i = ix2 a b := ⟨i 0, i 1, eq_ix2 i⟩
  pointwise []
  exact Finset.sum_congr rfl fun n _ => EReal.mul_comm _ _

end Cert.DownRefIdeal.Spec

namespace Cert.Proof

/-- The reference's host operations leave its arguments unchanged, and it declares no semaphore. -/
theorem frame_reference_Down : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

/-- From the same arguments the kernel and the reference end with the same gradient. -/
theorem algebraic_Down : Cert.algebraic_DownIdeal_DownRefIdeal := by
  intro m g m' g' _ he
  refine ⟨fun c => Cert.DownIdeal.Value.grad m c, ?_, ?_⟩
  · exact (θ_run Cert.DownIdeal.defs _ _).mono (fun r h c => ⟨(h c).1.trans (Cert.DownIdeal.Value.final2 m c), (h c).2⟩)
      (Cert.DownIdeal.Value.run_blocks (F := Ideal) m g)
  · refine (θ_run Cert.DownRefIdeal.defs _ _).mono (fun r h c => ⟨(h c).1.trans (funext fun i => ?_), (h c).2⟩)
      (Cert.DownRefIdeal.Value.run (F := Ideal) m' g')
    rw [(he c).1, (he c).2.2]
    exact Cert.DownRefIdeal.Spec.result_at _ _ i

end Cert.Proof

end
-- ==== Proof.WeightConvIn.lean ====
/- The gradient of a short convolution layer's input weight: the kernel's blocks and the reference are the same sum over the tokens. -/
module

public import proofs.«01_k».proof.Defs
public import proofs.«01_k».proof.Proof.Gen.ConvInIdeal.Value
public import proofs.«01_k».proof.Proof.Gen.ConvInRefIdeal.Run
public import proofs.«01_k».proof.Proof.Gen.ConvInRefIdeal
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.ConvInIdeal.Value
open Cert.ConvInIdeal Cert.ConvInIdeal.Gen Cert
variable (m : (ℓ : Loc nD τ sig) → Buf (Elt Ideal) ℓ) (c : Dev nD)

/-- The gradient of the weight: each input channel against each output channel, summed over the tokens. -/
def grad (i : S1024x3072.Idx) : EReal :=
  ∑ n : Fin 4096, (show EReal from m ((c : Thread nD τ).loc main_arg0) (ix2 n (i 0))) * (show EReal from m ((c : Thread nD τ).loc main_arg2) (ix2 n (i 1)))

theorem idx : ∀ t : Fin cfg0.N, win0_0.index t = ![0, 0] ∧ win0_1.index t = ![0, t.val] ∧ win0_2.index t = ![0, t.val] :=
  (by decide +kernel : ∀ t : Fin grid0.N, _)

/-- The cast to the product's operand type changes no entry. -/
theorem left_at (n : Fin 4096) (a : Fin 1024) : V m c main_v0 (ix2 n a) = m ((c : Thread nD τ).loc main_arg0) (ix2 n a) := by
  entry_read
  rfl

theorem right_at (n : Fin 4096) (b : Fin 3072) : V m c main_v1 (ix2 n b) = m ((c : Thread nD τ).loc main_arg2) (ix2 n b) := by
  entry_read
  rfl

/-- A grid point's block of the gradient. -/
theorem block (t : Fin cfg0.N) (y : S1024x1024.Idx) :
    out0_2 (iblk m c 0 t) (iblk m c 1 t) y = grad m c (((cfg0.win 2).blk t).view.emb y) := by
  have hL : ∀ (n : Fin 4096) (r : Fin 1024), iblk m c 0 t (ix2 n r) = m ((c : Thread nD τ).loc main_arg0) (ix2 n ⟨r.val, by have := lt_of_lt_of_eq t.isLt N_0; omega⟩) := fun n r => by
    refine Eq.trans (b := V m c main_v0 (ix2 n ⟨r.val, by have := lt_of_lt_of_eq t.isLt N_0; omega⟩)) ?_ (left_at m c n _)
    blk_point [iblk, idx t]
  have hR : ∀ (n : Fin 4096) (r : Fin 1024), iblk m c 1 t (ix2 n r) = m ((c : Thread nD τ).loc main_arg2) (ix2 n ⟨t.val * 1024 + r.val, by have := lt_of_lt_of_eq t.isLt N_0; omega⟩) := fun n r => by
    refine Eq.trans (b := V m c main_v1 (ix2 n ⟨t.val * 1024 + r.val, by have := lt_of_lt_of_eq t.isLt N_0; omega⟩)) ?_ (right_at m c n _)
    blk_point [iblk, idx t]
  have h0 : ((((cfg0.win 2).blk t).view.emb y) 0 : Fin 1024) = ⟨(y 0).val, by have := lt_of_lt_of_eq t.isLt N_0; have h : (y 0).val < 1024 := (y 0).isLt; show _ < 1024; omega⟩ := by
    apply Fin.ext
    show win0_2.index t (0 : Fin 2) * 1024 + 1 * (y 0).val = _
    rw [(idx t).2.2]
    show 0 * 1024 + 1 * (y 0).val = (y 0).val
    omega
  have h1 : ((((cfg0.win 2).blk t).view.emb y) 1 : Fin 3072) = ⟨t.val * 1024 + (y 1).val, by have := lt_of_lt_of_eq t.isLt N_0; have h : (y 1).val < 1024 := (y 1).isLt; show _ < 3072; omega⟩ := by
    apply Fin.ext
    show win0_2.index t (1 : Fin 2) * 1024 + 1 * (y 1).val = _
    rw [(idx t).2.2]
    show t.val * 1024 + 1 * (y 1).val = t.val * 1024 + (y 1).val
    omega
  unfold grad
  rw [h0, h1]
  obtain ⟨r, d, rfl⟩ : ∃ r d, y = ix2 r d := ⟨y 0, y 1, eq_ix2 y⟩
  frame_out
  pointwise [k0_pay1]
  simp only [hL, hR]

/-- The array that the call leaves. -/
theorem final2 : (dats m 0 c).arrAt 2 cfg0.N = grad m c :=
  (dats m 0 c).arrAt_eq_of_covers 2 _ (by decide +kernel) fun t _ y => by
    blk_simp
    rw [after0_2]
    exact block m c t y

end Cert.ConvInIdeal.Value

namespace Cert.ConvInRefIdeal.Spec
open Cert.ConvInRefIdeal Cert.ConvInRefIdeal.Gen Cert

/-- The reference's product, transposed and rounded, entry by entry. -/
theorem result_at (h : S4096x1024.Idx → EReal) (ct : S4096x3072.Idx → EReal) (i : S1024x3072.Idx) :
    truncf (F := Ideal) .bf16 (transpose S1024x3072 [1, 0] (Host.dotGeneral (F := Ideal) (φ₁ := .f32) (φ₂ := .f32) dot_S4096x3072_S4096x1024_S3072x1024_0_0_1_1_n_n none ct h) transposes_S3072x1024_S1024x3072_1_0) bitsLt_bf16_f32 i
      = ∑ n : Fin 4096, h (ix2 n (i 0)) * ct (ix2 n (i 1)) := by
  obtain ⟨a, b, rfl⟩ : ∃ a b, i = ix2 a b := ⟨i 0, i 1, eq_ix2 i⟩
  pointwise []
  exact Finset.sum_congr rfl fun n _ => EReal.mul_comm _ _

end Cert.ConvInRefIdeal.Spec

namespace Cert.Proof

/-- The reference's host operations leave its arguments unchanged, and it declares no semaphore. -/
theorem frame_reference_ConvIn : Cert.quiescent_ConvInRefIdeal := fun m ρ _ =>
  (θ_run Cert.ConvInRefIdeal.defs _ _).mono
    (fun r h => ⟨fun c => (h c).2, sem_eq_zero_of_no_sems (by decide) r.2⟩)
    (Cert.ConvInRefIdeal.Value.run (F := Ideal) m ρ)

/-- From the same arguments the kernel and the reference end with the same gradient. -/
theorem algebraic_ConvIn : Cert.algebraic_ConvInIdeal_ConvInRefIdeal := by
  intro m g m' g' _ he
  refine ⟨fun c => Cert.ConvInIdeal.Value.grad m c, ?_, ?_⟩
  · exact (θ_run Cert.ConvInIdeal.defs _ _).mono (fun r h c => ⟨(h c).1.trans (Cert.ConvInIdeal.Value.final2 m c), (h c).2⟩)
      (Cert.ConvInIdeal.Value.run_blocks (F := Ideal) m g)
  · refine (θ_run Cert.ConvInRefIdeal.defs _ _).mono (fun r h c => ⟨(h c).1.trans (funext fun i => ?_), (h c).2⟩)
      (Cert.ConvInRefIdeal.Value.run (F := Ideal) m' g')
    rw [(he c).1, (he c).2.2]
    exact Cert.ConvInRefIdeal.Spec.result_at _ _ i

end Cert.Proof

end
-- ==== Proof.WeightGateIn.lean ====
/- The gradient of the gate layer's input weight: the kernel's blocks and the reference are the same sum over the tokens. -/
module

public import proofs.«01_k».proof.Defs
public import proofs.«01_k».proof.Proof.Gen.GateInIdeal.Value
public import proofs.«01_k».proof.Proof.Gen.GateInRefIdeal.Run
public import proofs.«01_k».proof.Proof.Gen.GateInRefIdeal
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.GateInIdeal.Value
open Cert.GateInIdeal Cert.GateInIdeal.Gen Cert
variable (m : (ℓ : Loc nD τ sig) → Buf (Elt Ideal) ℓ) (c : Dev nD)

/-- The gradient of the weight: each input channel against each output channel, summed over the tokens. -/
def grad (i : S1024x2048.Idx) : EReal :=
  ∑ n : Fin 4096, (show EReal from m ((c : Thread nD τ).loc main_arg0) (ix2 n (i 0))) * (show EReal from m ((c : Thread nD τ).loc main_arg2) (ix2 n (i 1)))

theorem idx : ∀ t : Fin cfg0.N, win0_0.index t = ![0, 0] ∧ win0_1.index t = ![0, t.val] ∧ win0_2.index t = ![0, t.val] :=
  (by decide +kernel : ∀ t : Fin grid0.N, _)

/-- The cast to the product's operand type changes no entry. -/
theorem left_at (n : Fin 4096) (a : Fin 1024) : V m c main_v0 (ix2 n a) = m ((c : Thread nD τ).loc main_arg0) (ix2 n a) := by
  entry_read
  rfl

theorem right_at (n : Fin 4096) (b : Fin 2048) : V m c main_v1 (ix2 n b) = m ((c : Thread nD τ).loc main_arg2) (ix2 n b) := by
  entry_read
  rfl

/-- A grid point's block of the gradient. -/
theorem block (t : Fin cfg0.N) (y : S1024x1024.Idx) :
    out0_2 (iblk m c 0 t) (iblk m c 1 t) y = grad m c (((cfg0.win 2).blk t).view.emb y) := by
  have hL : ∀ (n : Fin 4096) (r : Fin 1024), iblk m c 0 t (ix2 n r) = m ((c : Thread nD τ).loc main_arg0) (ix2 n ⟨r.val, by have := lt_of_lt_of_eq t.isLt N_0; omega⟩) := fun n r => by
    refine Eq.trans (b := V m c main_v0 (ix2 n ⟨r.val, by have := lt_of_lt_of_eq t.isLt N_0; omega⟩)) ?_ (left_at m c n _)
    blk_point [iblk, idx t]
  have hR : ∀ (n : Fin 4096) (r : Fin 1024), iblk m c 1 t (ix2 n r) = m ((c : Thread nD τ).loc main_arg2) (ix2 n ⟨t.val * 1024 + r.val, by have := lt_of_lt_of_eq t.isLt N_0; omega⟩) := fun n r => by
    refine Eq.trans (b := V m c main_v1 (ix2 n ⟨t.val * 1024 + r.val, by have := lt_of_lt_of_eq t.isLt N_0; omega⟩)) ?_ (right_at m c n _)
    blk_point [iblk, idx t]
  have h0 : ((((cfg0.win 2).blk t).view.emb y) 0 : Fin 1024) = ⟨(y 0).val, by have := lt_of_lt_of_eq t.isLt N_0; have h : (y 0).val < 1024 := (y 0).isLt; show _ < 1024; omega⟩ := by
    apply Fin.ext
    show win0_2.index t (0 : Fin 2) * 1024 + 1 * (y 0).val = _
    rw [(idx t).2.2]
    show 0 * 1024 + 1 * (y 0).val = (y 0).val
    omega
  have h1 : ((((cfg0.win 2).blk t).view.emb y) 1 : Fin 2048) = ⟨t.val * 1024 + (y 1).val, by have := lt_of_lt_of_eq t.isLt N_0; have h : (y 1).val < 1024 := (y 1).isLt; show _ < 2048; omega⟩ := by
    apply Fin.ext
    show win0_2.index t (1 : Fin 2) * 1024 + 1 * (y 1).val = _
    rw [(idx t).2.2]
    show t.val * 1024 + 1 * (y 1).val = t.val * 1024 + (y 1).val
    omega
  unfold grad
  rw [h0, h1]
  obtain ⟨r, d, rfl⟩ : ∃ r d, y = ix2 r d := ⟨y 0, y 1, eq_ix2 y⟩
  frame_out
  pointwise [k0_pay1]
  simp only [hL, hR]

/-- The array that the call leaves. -/
theorem final2 : (dats m 0 c).arrAt 2 cfg0.N = grad m c :=
  (dats m 0 c).arrAt_eq_of_covers 2 _ (by decide +kernel) fun t _ y => by
    blk_simp
    rw [after0_2]
    exact block m c t y

end Cert.GateInIdeal.Value

namespace Cert.GateInRefIdeal.Spec
open Cert.GateInRefIdeal Cert.GateInRefIdeal.Gen Cert

/-- The reference's product, transposed and rounded, entry by entry. -/
theorem result_at (h : S4096x1024.Idx → EReal) (ct : S4096x2048.Idx → EReal) (i : S1024x2048.Idx) :
    truncf (F := Ideal) .bf16 (transpose S1024x2048 [1, 0] (Host.dotGeneral (F := Ideal) (φ₁ := .f32) (φ₂ := .f32) dot_S4096x2048_S4096x1024_S2048x1024_0_0_1_1_n_n none ct h) transposes_S2048x1024_S1024x2048_1_0) bitsLt_bf16_f32 i
      = ∑ n : Fin 4096, h (ix2 n (i 0)) * ct (ix2 n (i 1)) := by
  obtain ⟨a, b, rfl⟩ : ∃ a b, i = ix2 a b := ⟨i 0, i 1, eq_ix2 i⟩
  pointwise []
  exact Finset.sum_congr rfl fun n _ => EReal.mul_comm _ _

end Cert.GateInRefIdeal.Spec

namespace Cert.Proof

/-- The reference's host operations leave its arguments unchanged, and it declares no semaphore. -/
theorem frame_reference_GateIn : Cert.quiescent_GateInRefIdeal := fun m ρ _ =>
  (θ_run Cert.GateInRefIdeal.defs _ _).mono
    (fun r h => ⟨fun c => (h c).2, sem_eq_zero_of_no_sems (by decide) r.2⟩)
    (Cert.GateInRefIdeal.Value.run (F := Ideal) m ρ)

/-- From the same arguments the kernel and the reference end with the same gradient. -/
theorem algebraic_GateIn : Cert.algebraic_GateInIdeal_GateInRefIdeal := by
  intro m g m' g' _ he
  refine ⟨fun c => Cert.GateInIdeal.Value.grad m c, ?_, ?_⟩
  · exact (θ_run Cert.GateInIdeal.defs _ _).mono (fun r h c => ⟨(h c).1.trans (Cert.GateInIdeal.Value.final2 m c), (h c).2⟩)
      (Cert.GateInIdeal.Value.run_blocks (F := Ideal) m g)
  · refine (θ_run Cert.GateInRefIdeal.defs _ _).mono (fun r h c => ⟨(h c).1.trans (funext fun i => ?_), (h c).2⟩)
      (Cert.GateInRefIdeal.Value.run (F := Ideal) m' g')
    rw [(he c).1, (he c).2.2]
    exact Cert.GateInRefIdeal.Spec.result_at _ _ i

end Cert.Proof

end
-- ==== Proof.WeightSquare.lean ====
/- The gradient of a square weight: the kernel's two halves and the reference are the same sum over the tokens. -/
module

public import proofs.«01_k».proof.Defs
public import proofs.«01_k».proof.Proof.Gen.SquareIdeal.Value
public import proofs.«01_k».proof.Proof.Gen.SquareRefIdeal.Run
public import proofs.«01_k».proof.Proof.Gen.SquareRefIdeal
public import Idealize.ShloMosaic.Adequacy
public import Idealize.ShloMosaic.Init
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.SquareIdeal.Value
open Cert.SquareIdeal Cert.SquareIdeal.Gen Cert
variable (m : (ℓ : Loc nD τ sig) → Buf (Elt Ideal) ℓ) (c : Dev nD)

/-- The gradient of the weight: each input channel against each output channel, summed over the tokens. -/
def grad (i : S1024x1024.Idx) : EReal :=
  ∑ n : Fin 4096, (show EReal from m ((c : Thread nD τ).loc main_arg0) (ix2 n (i 0))) * (show EReal from m ((c : Thread nD τ).loc main_arg2) (ix2 n (i 1)))

theorem idx : ∀ t : Fin cfg0.N, win0_0.index t = ![t.val, 0] ∧ win0_1.index t = ![t.val, 0] ∧ win0_2.index t = ![0, 0] :=
  (by decide +kernel : ∀ t : Fin grid0.N, _)

/-- The cast to the product's operand type changes no entry. -/
theorem left_at (n : Fin 4096) (a : Fin 1024) : V m c main_v0 (ix2 n a) = m ((c : Thread nD τ).loc main_arg0) (ix2 n a) := by
  entry_read
  rfl

theorem right_at (n : Fin 4096) (b : Fin 1024) : V m c main_v1 (ix2 n b) = m ((c : Thread nD τ).loc main_arg2) (ix2 n b) := by
  entry_read
  rfl

/-- The sum over one half of the tokens. -/
def half (t : Fin cfg0.N) (a b : Fin 1024) : EReal :=
  ∑ r : Fin 2048, (show EReal from m ((c : Thread nD τ).loc main_arg0) (ix2 ⟨t.val * 2048 + r.val, by have := lt_of_lt_of_eq t.isLt N_0; omega⟩ a))
    * (show EReal from m ((c : Thread nD τ).loc main_arg2) (ix2 ⟨t.val * 2048 + r.val, by have := lt_of_lt_of_eq t.isLt N_0; omega⟩ b))

theorem blkL (t : Fin cfg0.N) (r : Fin 2048) (a : Fin 1024) : iblk m c 0 t (ix2 r a)
    = m ((c : Thread nD τ).loc main_arg0) (ix2 ⟨t.val * 2048 + r.val, by have := lt_of_lt_of_eq t.isLt N_0; omega⟩ a) := by
  refine Eq.trans (b := V m c main_v0 (ix2 ⟨t.val * 2048 + r.val, by have := lt_of_lt_of_eq t.isLt N_0; omega⟩ a)) ?_ (left_at m c _ a)
  blk_point [iblk, idx t]

theorem blkR (t : Fin cfg0.N) (r : Fin 2048) (b : Fin 1024) : iblk m c 1 t (ix2 r b)
    = m ((c : Thread nD τ).loc main_arg2) (ix2 ⟨t.val * 2048 + r.val, by have := lt_of_lt_of_eq t.isLt N_0; omega⟩ b) := by
  refine Eq.trans (b := V m c main_v1 (ix2 ⟨t.val * 2048 + r.val, by have := lt_of_lt_of_eq t.isLt N_0; omega⟩ b)) ?_ (right_at m c _ b)
  blk_point [iblk, idx t]

/-- What a point's product computes. -/
theorem product_at (t : Fin cfg0.N) (a b : Fin 1024) : k0_pay1 (iblk m c 0 t) (iblk m c 1 t) (ix2 a b) = half m c t a b := by
  pointwise [k0_pay1]
  simp only [blkL, blkR]
  rfl

/-- The first point keeps the first half's sum. -/
theorem kept (t : Fin cfg0.N) (h0 : t.val % 2 = 0) (a b : Fin 1024) : (outsAt0 m c t.val t.isLt).2 (ix2 a b) = half m c t a b := by
  rw [outsAt0_A m c t h0 (by omega)]
  frame_out
  pointwise [k0_pay2]
  exact product_at m c t a b

/-- The second point adds the second half's. -/
theorem written (t : Fin cfg0.N) (h1 : t.val % 2 = 1) (a b : Fin 1024) : (outsAt0 m c t.val t.isLt).1 (ix2 a b)
    = (show EReal from (outsAt0 m c (t.val - 1) (Nat.lt_of_le_of_lt (Nat.sub_le _ _) t.isLt)).2 (ix2 a b)) + half m c t a b := by
  rw [outsAt0_B m c t (by omega) h1]
  frame_out
  pointwise [k0_pay3]
  rw [product_at]
  exact congrArg (fun v : S1024x1024.Idx → EReal => v (ix2 a b) + half m c t a b) (Memref.IsWhole.read_unread _ _)

/-- The two halves together are the sum over all the tokens. -/
theorem halves (f : Fin 4096 → EReal) : (∑ n, f n) = (∑ r : Fin 2048, f ⟨r.val, by omega⟩) + ∑ r : Fin 2048, f ⟨2048 + r.val, by omega⟩ :=
  Fin.sum_univ_add (a := 2048) (b := 2048) f

/-- The first and the last grid point. -/
def first : Fin cfg0.N := ⟨0, by rw [show cfg0.N = 2 from N_0]; decide⟩
def last : Fin cfg0.N := ⟨1, by rw [show cfg0.N = 2 from N_0]; decide⟩

theorem total (a b : Fin 1024) : (outsAt0 m c last.val last.isLt).1 (ix2 a b) = grad m c (ix2 a b) := by
  rw [written m c last rfl]
  refine Eq.trans (congrArg (fun z : EReal => z + half m c last a b) (kept m c first rfl a b)) ?_
  unfold grad half
  rw [halves]
  congr 1

theorem emb (t : Fin cfg0.N) (y : S1024x1024.Idx) : ((View.whole main_v2).slice (win0_2.rect t)).emb y = ix2 (y 0) (y 1) := by
  blk_ext [idx t]

/-- The array that the call leaves. -/
theorem arrEq : (dats m 0 c).arrAt 2 cfg0.N = grad m c := by
  refine (dats m 0 c).arrAt_eq_of_after_last 2 last (by decide +kernel) _ fun j => ?_
  blk_simp
  rw [after0_2]
  refine (congrArg _ (eq_ix2 j)).trans ((total m c (j 0) (j 1)).trans ?_)
  exact congrArg (grad m c) (eq_ix2 j).symm

end Cert.SquareIdeal.Value

namespace Cert.SquareRefIdeal.Spec
open Cert.SquareRefIdeal Cert.SquareRefIdeal.Gen Cert

/-- The reference's product, transposed and rounded, entry by entry. -/
theorem result_at (h : S4096x1024.Idx → EReal) (ct : S4096x1024.Idx → EReal) (i : S1024x1024.Idx) :
    truncf (F := Ideal) .bf16 (transpose S1024x1024 [1, 0] (Host.dotGeneral (F := Ideal) (φ₁ := .f32) (φ₂ := .f32) dot_S4096x1024_S4096x1024_S1024x1024_0_0_1_1_n_n none ct h) transposes_S1024x1024_S1024x1024_1_0) bitsLt_bf16_f32 i
      = ∑ n : Fin 4096, h (ix2 n (i 0)) * ct (ix2 n (i 1)) := by
  obtain ⟨a, b, rfl⟩ : ∃ a b, i = ix2 a b := ⟨i 0, i 1, eq_ix2 i⟩
  pointwise []
  exact Finset.sum_congr rfl fun n _ => EReal.mul_comm _ _

end Cert.SquareRefIdeal.Spec

namespace Cert.Proof

/-- The reference's host operations leave its arguments unchanged, and it declares no semaphore. -/
theorem frame_reference_Square : Cert.quiescent_SquareRefIdeal := fun m ρ _ =>
  (θ_run Cert.SquareRefIdeal.defs _ _).mono
    (fun r h => ⟨fun c => (h c).2, sem_eq_zero_of_no_sems (by decide) r.2⟩)
    (Cert.SquareRefIdeal.Value.run (F := Ideal) m ρ)

/-- From the same arguments the kernel and the reference end with the same gradient. -/
theorem algebraic_Square : Cert.algebraic_SquareIdeal_SquareRefIdeal := by
  intro m g m' g' _ he
  refine ⟨fun c => Cert.SquareIdeal.Value.grad m c, ?_, ?_⟩
  · exact (θ_run Cert.SquareIdeal.defs _ _).mono (fun r h c => ⟨(h c).1.trans (Cert.SquareIdeal.Value.arrEq m c), (h c).2⟩)
      (Cert.SquareIdeal.Value.run_blocks (F := Ideal) m g)
  · refine (θ_run Cert.SquareRefIdeal.defs _ _).mono (fun r h c => ⟨(h c).1.trans (funext fun i => ?_), (h c).2⟩)
      (Cert.SquareRefIdeal.Value.run (F := Ideal) m' g')
    rw [(he c).1, (he c).2.2]
    exact Cert.SquareRefIdeal.Spec.result_at _ _ i

end Cert.Proof

end
-- ==== Proof.FfnSpec.lean ====
/- The gradients of one feed-forward block, entry by entry, as functions of the arrays that it is given. -/
module

public import proofs.«01_k».proof.Proof.NormBack

@[expose] public section

noncomputable section

namespace Cert.FfnSpec

open Idealize.ShloMosaic

/-- An array of 4096 tokens. -/
abbrev Tok := Fin 4096 → Fin 1024 → EReal

/-- An array of 4096 tokens of the inner width. -/
abbrev Inner := Fin 4096 → Fin 4096 → EReal

/-- Token `n` of a tile's row `r`, the tiles being numbered from the first token. -/
def row (q : Fin 16) (r : Fin 256) : Fin 4096 := ⟨q.val * 256 + r.val, by omega⟩

/-- The factor two as the programs write it. -/
abbrev two : EReal := Ideal.ofBits FTy.f32 1073741824#32

/-- The positive part. -/
def pos (a : EReal) : EReal := max a 0

/-- The gradient of the square of the positive part: twice the positive part. -/
def back (g a : EReal) : EReal := g * (two * pos a)

/-- Where the argument is not positive the gradient is zero, so that choosing by the sign changes nothing. -/
theorem back_choice (g a : EReal) : (if 0 < a then g * (two * pos a) else 0) = back g a := by
  by_cases h : 0 < a
  · rw [if_pos h]
    rfl
  · rw [if_neg h, back, pos, max_eq_right (not_lt.mp h), mul_zero, mul_zero]

/-- The normalised input without its gain. -/
def unit (x : Tok) : Tok := fun n d => x n d * NormBack.rinv (x n)

/-- The arrays that the backward pass of one feed-forward block is given. -/
@[ext] structure Layer where
  /-- The cotangent of the block's output. -/
  ct : Tok
  /-- The block's input. -/
  x : Tok
  /-- The inner array before its activation. -/
  a : Inner
  /-- The block's result before its gate. -/
  f : Tok
  /-- The gate on the block's result. -/
  gate : Fin 1024 → EReal
  /-- The norm's gain times its modulation. -/
  gain : Fin 1024 → EReal
  /-- The first weight. -/
  w1 : Fin 1024 → Fin 4096 → EReal
  /-- The second weight. -/
  w2 : Fin 4096 → Fin 1024 → EReal

/-- Blocks with the same arrays are the same. -/
theorem layer_eq (A B : Layer) (h0 : ∀ n d, A.ct n d = B.ct n d) (h1 : ∀ n d, A.x n d = B.x n d) (h2 : ∀ n d, A.a n d = B.a n d)
    (h3 : ∀ n d, A.f n d = B.f n d) (h4 : ∀ d, A.gate d = B.gate d) (h5 : ∀ d, A.gain d = B.gain d)
    (h6 : ∀ n d, A.w1 n d = B.w1 n d) (h7 : ∀ n d, A.w2 n d = B.w2 n d) : A = B :=
  Layer.ext (funext fun n => funext (h0 n)) (funext fun n => funext (h1 n)) (funext fun n => funext (h2 n)) (funext fun n => funext (h3 n))
    (funext h4) (funext h5) (funext fun n => funext (h6 n)) (funext fun n => funext (h7 n))

namespace Layer

variable (L : Layer)

/-- The gradient of the block's result before its gate. -/
def df : Tok := fun n d => L.ct n d * L.gate d
/-- The gradient of the activated inner array. -/
def dp : Inner := fun n j => ∑ k, L.df n k * L.w2 j k
/-- The activated inner array: the square of the positive part. -/
def act : Inner := fun n j => pos (L.a n j) * pos (L.a n j)
/-- The gradient of the inner array. -/
def da : Inner := fun n j => back (L.dp n j) (L.a n j)
/-- The gradient of the normalised input. -/
def dh : Tok := fun n d => ∑ j, L.da n j * L.w1 d j
/-- The gradient of the block's input: what passes it by, and what comes back through the norm. -/
def dx : Tok := fun n d => L.ct n d + NormBack.back (L.x n) (fun k => L.dh n k * L.gain k) d

/-- The eight rows of column sums: the gradients of the gate and of the norm's gain and shift, and five rows of
    zeros. -/
def rows (k : Fin 8) (d : Fin 1024) : EReal :=
  match k with
  | 0 => ∑ n, L.ct n d * L.f n d
  | 1 => ∑ n, L.dh n d * unit L.x n d
  | 2 => ∑ n, L.dh n d
  | 3 => 0
  | 4 => 0
  | 5 => 0
  | 6 => 0
  | 7 => 0

/-- What tile `q` adds to the rows of column sums. -/
def part (q : Fin 16) (k : Fin 8) (d : Fin 1024) : EReal :=
  match k with
  | 0 => ∑ r : Fin 256, L.ct (row q r) d * L.f (row q r) d
  | 1 => ∑ r : Fin 256, L.dh (row q r) d * unit L.x (row q r) d
  | 2 => ∑ r : Fin 256, L.dh (row q r) d
  | 3 => 0
  | 4 => 0
  | 5 => 0
  | 6 => 0
  | 7 => 0

end Layer

/-- A sum over the sixteen tiles of the sums over their rows is the sum over all tokens. -/
theorem sum_tiles (f : Fin 4096 → EReal) : ∑ q : Fin 16, ∑ r : Fin 256, f (row q r) = ∑ n, f n := by
  rw [← Fintype.sum_prod_type' (fun q r => f (row q r))]
  exact Fintype.sum_equiv (finProdFinEquiv (m := 16) (n := 256)) _ _ fun z => by
    congr 1
    exact Fin.ext (by simp [row, finProdFinEquiv]; omega)

/-- The rows are the sums of the tiles' parts. -/
theorem Layer.sum_part (L : Layer) (k : Fin 8) (d : Fin 1024) : ∑ q : Fin 16, L.part q k d = L.rows k d := by
  match k with
  | 0 => exact sum_tiles fun n => L.ct n d * L.f n d
  | 1 => exact sum_tiles fun n => L.dh n d * unit L.x n d
  | 2 => exact sum_tiles fun n => L.dh n d
  | 3 => exact Finset.sum_const_zero
  | 4 => exact Finset.sum_const_zero
  | 5 => exact Finset.sum_const_zero
  | 6 => exact Finset.sum_const_zero
  | 7 => exact Finset.sum_const_zero

end Cert.FfnSpec

end
-- ==== Proof.Ffn0Tile.lean ====
/- What one tile of the feed-forward block's backward call computes, entry by entry: layer 0. -/
module

public import proofs.«01_k».proof.Defs
public import proofs.«01_k».proof.Proof.Gen.Ffn0Ideal.Skeleton
public import proofs.«01_k».proof.Proof.FfnSpec
public import Idealize.ShloMosaic.Lib.Pointwise

@[expose] public section

set_option maxRecDepth 16384
noncomputable section
open Idealize.ShloMosaic Idealize.ShloMosaic.TcCoe Idealize.SL.Sem

namespace Cert.Ffn0Ideal.Tile

open Cert.Ffn0Ideal Cert.Ffn0Ideal.Gen Cert.FfnSpec Cert

variable {q : Fin 16} {L : Layer}

/-- `v` holds tile `q` of the array `f`. -/
def Holds (q : Fin 16) (v : S256x1024.Idx → EReal) (f : Tok) : Prop := ∀ (r : Fin 256) (d : Fin 1024), v (ix2 r d) = f (row q r) d

/-- `v` holds tile `q` of the inner array `f`. -/
def HoldsInner (q : Fin 16) (v : S256x4096.Idx → EReal) (f : Inner) : Prop := ∀ (r : Fin 256) (j : Fin 4096), v (ix2 r j) = f (row q r) j

theorem df_at (b0 : Vec Ideal S256x1024 .f32) (b4 : Vec Ideal S1x8x1024 .f32) (h0 : Holds q b0 L.ct)
    (h4 : ∀ d, b4 (ix3 0 5 d) = L.gate d) : Holds q (k0_pay5 b0 b4) L.df := fun r d => by
  pointwise [k0_pay5, k0_pay4]
  rw [h0 r d, h4]
  rfl

theorem dp_at (b0 : Vec Ideal S256x1024 .f32) (b4 : Vec Ideal S1x8x1024 .f32) (b6 : Vec Ideal S1x4096x1024 .bf16)
    (h : Holds q (k0_pay5 b0 b4) L.df) (h6 : ∀ j d, b6 (ix3 0 j d) = L.w2 j d) : HoldsInner q (k0_pay7 b0 b4 b6) L.dp := fun r j => by
  pointwise [k0_pay7]
  exact Finset.sum_congr rfl fun k _ => by rw [h r k, h6]

theorem act_at (b2 : Vec Ideal S256x4096 .f32) (h2 : HoldsInner q b2 L.a) : HoldsInner q (k0_pay9 b2) L.act := fun r j => by
  pointwise [k0_pay9, k0_pay8]
  rw [h2 r j]
  rfl

theorem da_at (v22 : FVec Ideal S256x4096 .f32) (b2 : Vec Ideal S256x4096 .f32) (h : HoldsInner q v22 L.dp) (h2 : HoldsInner q b2 L.a) :
    HoldsInner q (k0_pay10 v22 (k0_pay8 b2)) L.da := fun r j => by
  pointwise [k0_pay10, k0_pay8]
  rw [h r j, h2 r j]
  rfl

theorem dh_at (v22 : FVec Ideal S256x4096 .f32) (b2 : Vec Ideal S256x4096 .f32) (b5 : Vec Ideal S1x1024x4096 .bf16)
    (h : HoldsInner q (k0_pay10 v22 (k0_pay8 b2)) L.da) (h5 : ∀ d j, b5 (ix3 0 d j) = L.w1 d j) :
    Holds q (k0_pay11 v22 (k0_pay8 b2) b5) L.dh := fun r d => by
  pointwise [k0_pay11]
  exact Finset.sum_congr rfl fun k _ => by rw [h r k, h5]

theorem unit_at (b1 : Vec Ideal S256x1024 .f32) (h1 : Holds q b1 L.x) : Holds q (k0_pay13 b1) (unit L.x) := fun r d => by
  pointwise [k0_pay13, k0_pay12]
  simp only [h1 r]
  rfl

theorem dx_at (b0 : Vec Ideal S256x1024 .f32) (b4 : Vec Ideal S1x8x1024 .f32) (v22 v26 : FVec Ideal S256x4096 .f32)
    (b5 : Vec Ideal S1x1024x4096 .bf16) (b1 : Vec Ideal S256x1024 .f32) (h0 : Holds q b0 L.ct) (h1 : Holds q b1 L.x)
    (h : Holds q (k0_pay11 v22 v26 b5) L.dh) (hg : ∀ d, b4 (ix3 0 7 d) * (1 + b4 (ix3 0 4 d)) = L.gain d) :
    Holds q (k0_pay14 b0 (k0_pay4 b4) v22 v26 b5 b1) L.dx := fun r d => by
  pointwise [k0_pay14, k0_pay13, k0_pay12, k0_pay4]
  simp only [hg, h0 r, h1 r, h r]
  rfl

/-! ## The column sums that a tile adds -/

theorem row0_at (b0 : Vec Ideal S256x1024 .f32) (acc : Vec Ideal S1x1024 .f32) (b3 : Vec Ideal S256x1024 .f32)
    (h0 : Holds q b0 L.ct) (h3 : Holds q b3 L.f) (d : Fin 1024) :
    k0_pay6 b0 acc b3 (ix2 0 d) = acc (ix2 0 d) + L.part q 0 d := by
  pointwise [k0_pay6]
  congr 1
  exact Finset.sum_congr rfl fun r _ => by rw [h0 r d, h3 r d]

theorem row1_at (v37 v48 : FVec Ideal S256x1024 .f32) (acc : Vec Ideal S1x1024 .f32)
    (h : Holds q v37 L.dh) (h1 : Holds q v48 (unit L.x)) (d : Fin 1024) :
    k0_pay1 v37 v48 acc (ix2 0 d) = acc (ix2 0 d) + L.part q 1 d := by
  pointwise [k0_pay1]
  congr 1
  exact Finset.sum_congr rfl fun r _ => by rw [h r d, h1 r d]

theorem row2_at (v37 : FVec Ideal S256x1024 .f32) (acc : Vec Ideal S1x1024 .f32) (h : Holds q v37 L.dh) (d : Fin 1024) :
    k0_pay2 v37 acc (ix2 0 d) = acc (ix2 0 d) + L.part q 2 d := by
  pointwise [k0_pay2]
  congr 1
  exact Finset.sum_congr rfl fun r _ => by rw [h r d]

end Cert.Ffn0Ideal.Tile

end
-- ==== Proof.Ffn0Blocks.lean ====
/- What a grid point of the feed-forward block's backward call reads and computes, and the arrays that the call leaves:
   layer 0. -/
module

public import proofs.«01_k».proof.Defs
public import proofs.«01_k».proof.Proof.Gen.Ffn0Ideal.Value
public import Idealize.ShloMosaic.Lib.Pipeline.ValueKit
public import Idealize.ShloMosaic.Lib.Pointwise
public import Idealize.ShloMosaic.Lib.Claim
public import proofs.«01_k».proof.Proof.Ffn0Tile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Ffn0Ideal.Value
open Cert.Ffn0Ideal Cert.Ffn0Ideal.Gen Cert.Ffn0Ideal.Tile Cert.FfnSpec Cert
variable (m : (ℓ : Loc nD τ sig) → Buf (Elt Ideal) ℓ)

/-- The tile that grid point `t` works on. -/
def tile (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0, 0] :=
  (by decide +kernel : ∀ t : Fin grid0.N, _)

/-- The block's arrays as the call finds them. -/
def layer (c : Dev nD) : Layer where
  ct := fun n d => V m c main_arg0 (ix2 n d)
  x := fun n d => V m c main_arg1 (ix2 n d)
  a := fun n j => V m c main_v25 (ix2 n j)
  f := fun n d => V m c main_v28 (ix2 n d)
  gate := fun d => V m c main_v31 (ix3 0 5 d)
  gain := fun d => (show EReal from V m c main_v31 (ix3 0 7 d)) * (1 + (show EReal from V m c main_v31 (ix3 0 4 d)))
  w1 := fun a j => V m c main_v33 (ix3 0 a j)
  w2 := fun j a => V m c main_v35 (ix3 0 j a)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : HoldsInner (tile t) (iblk m c 2 t) (layer m c).a := fun r d => by
  unfold layer tile row
  blk_point [iblk, idx t]

theorem blk3 : Holds (tile t) (iblk m c 3 t) (layer m c).f := fun r d => by
  unfold layer tile row
  blk_point [iblk, idx t]

/-- A row of the modulation block. -/
theorem blk4 (s : Fin 8) (d : Fin 1024) : iblk m c 4 t (ix3 0 s d) = V m c main_v31 (ix3 0 s d) := by
  blk_point [iblk, idx t]

theorem blk4_gate (d : Fin 1024) : iblk m c 4 t (ix3 0 5 d) = (layer m c).gate d := blk4 m c t 5 d

theorem blk4_gain (d : Fin 1024) : (show EReal from iblk m c 4 t (ix3 0 7 d)) * (1 + (show EReal from iblk m c 4 t (ix3 0 4 d))) = (layer m c).gain d := by
  rw [blk4 m c t 7 d, blk4 m c t 4 d]
  rfl

theorem blk5 (a : Fin 1024) (j : Fin 4096) : iblk m c 5 t (ix3 0 a j) = (layer m c).w1 a j := by
  unfold layer
  blk_point [iblk, idx t]

theorem blk6 (j : Fin 4096) (a : Fin 1024) : iblk m c 6 t (ix3 0 j a) = (layer m c).w2 j a := by
  unfold layer
  blk_point [iblk, idx t]

theorem df : Holds (tile t) (k0_pay5 (iblk m c 0 t) (iblk m c 4 t)) (layer m c).df :=
  df_at _ _ (blk0 m c t) (blk4_gate m c t)

theorem dp : HoldsInner (tile t) (k0_pay7 (iblk m c 0 t) (iblk m c 4 t) (iblk m c 6 t)) (layer m c).dp :=
  dp_at _ _ _ (df m c t) (blk6 m c t)

theorem da : HoldsInner (tile t) (k0_pay10 (k0_pay7 (iblk m c 0 t) (iblk m c 4 t) (iblk m c 6 t)) (k0_pay8 (iblk m c 2 t))) (layer m c).da :=
  da_at _ _ (dp m c t) (blk2 m c t)

theorem dh : Holds (tile t) (k0_pay11 (k0_pay7 (iblk m c 0 t) (iblk m c 4 t) (iblk m c 6 t)) (k0_pay8 (iblk m c 2 t)) (iblk m c 5 t)) (layer m c).dh :=
  dh_at _ _ _ (da m c t) (blk5 m c t)

theorem dx : Holds (tile t) (k0_pay14 (iblk m c 0 t) (k0_pay4 (iblk m c 4 t)) (k0_pay7 (iblk m c 0 t) (iblk m c 4 t) (iblk m c 6 t))
    (k0_pay8 (iblk m c 2 t)) (iblk m c 5 t) (iblk m c 1 t)) (layer m c).dx :=
  dx_at _ _ _ _ _ _ (blk0 m c t) (blk1 m c t) (dh m c t) (blk4_gain m c t)

theorem act : HoldsInner (tile t) (k0_pay9 (iblk m c 2 t)) (layer m c).act := act_at _ (blk2 m c t)

theorem xn : Holds (tile t) (k0_pay13 (iblk m c 1 t)) (unit (layer m c).x) := unit_at _ (blk1 m c t)

/-! ## What a grid point writes back -/

theorem out7 : Holds (tile t) (outsAt0 m c t.val t.isLt).1 (layer m c).dx := fun r d => by
  by_cases h : t.val % 16 = 0
  · rw [outsAt0_A m c t h]
    frame_out
    exact dx m c t r d
  · rw [outsAt0_B m c t h]
    frame_out
    exact dx m c t r d

theorem out8 : HoldsInner (tile t) (outsAt0 m c t.val t.isLt).2.1 (layer m c).act := fun r d => by
  by_cases h : t.val % 16 = 0
  · rw [outsAt0_A m c t h]
    frame_out
    exact act m c t r d
  · rw [outsAt0_B m c t h]
    frame_out
    exact act m c t r d

theorem out9 : HoldsInner (tile t) (outsAt0 m c t.val t.isLt).2.2.1 (layer m c).da := fun r d => by
  by_cases h : t.val % 16 = 0
  · rw [outsAt0_A m c t h]
    frame_out
    exact da m c t r d
  · rw [outsAt0_B m c t h]
    frame_out
    exact da m c t r d

theorem out10 : Holds (tile t) (outsAt0 m c t.val t.isLt).2.2.2.1 (layer m c).df := fun r d => by
  by_cases h : t.val % 16 = 0
  · rw [outsAt0_A m c t h]
    frame_out
    exact df m c t r d
  · rw [outsAt0_B m c t h]
    frame_out
    exact df m c t r d

/-! ## The arrays after the call -/

theorem idxOut : ∀ t : Fin cfg0.N, win0_7.index t = ![t.val, 0] ∧ win0_8.index t = ![t.val, 0] ∧ win0_9.index t = ![t.val, 0]
    ∧ win0_10.index t = ![t.val, 0] :=
  (by decide +kernel : ∀ t : Fin grid0.N, _)

theorem emb7 (y : S256x1024.Idx) : ((View.whole main_v36_0).slice (win0_7.rect t)).emb y = ix2 (row (tile t) (y 0)) (y 1) := by
  unfold row tile
  blk_ext [idxOut t]

theorem emb8 (y : S256x4096.Idx) : ((View.whole main_v36_1).slice (win0_8.rect t)).emb y = ix2 (row (tile t) (y 0)) (y 1) := by
  unfold row tile
  blk_ext [idxOut t]

theorem emb9 (y : S256x4096.Idx) : ((View.whole main_v36_2).slice (win0_9.rect t)).emb y = ix2 (row (tile t) (y 0)) (y 1) := by
  unfold row tile
  blk_ext [idxOut t]

theorem emb10 (y : S256x1024.Idx) : ((View.whole main_v36_3).slice (win0_10.rect t)).emb y = ix2 (row (tile t) (y 0)) (y 1) := by
  unfold row tile
  blk_ext [idxOut t]

/-- The gradient of the block's input, as the call leaves it. -/
theorem final7 : (dats m 0 c).arrAt 7 (cfgs 0).N = (fun i => (layer m c).dx (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-- The activated inner array. -/
theorem final8 : (dats m 0 c).arrAt 8 (cfgs 0).N = (fun i => (layer m c).act (i 0) (i 1) : S4096x4096.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

/-- The gradient of the inner array. -/
theorem final9 : (dats m 0 c).arrAt 9 (cfgs 0).N = (fun i => (layer m c).da (i 0) (i 1) : S4096x4096.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

/-- The gradient of the block's result before its gate. -/
theorem final10 : (dats m 0 c).arrAt 10 (cfgs 0).N = (fun i => (layer m c).df (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

end Cert.Ffn0Ideal.Value

end
-- ==== Proof.Ffn0Rows.lean ====
/- The rows of column sums that the feed-forward block's backward call accumulates: layer 0. -/
module

public import proofs.«01_k».proof.Proof.Ffn0Blocks

@[expose] public section

set_option maxRecDepth 16384
noncomputable section
open Idealize.ShloMosaic Idealize.ShloMosaic.TcCoe Idealize.SL.Sem
open Idealize.ShloMosaic.Pipeline (Dat)
namespace Cert.Ffn0Ideal.Value
open Cert.Ffn0Ideal Cert.Ffn0Ideal.Gen Cert.Ffn0Ideal.Tile Cert.FfnSpec Cert
variable (m : (ℓ : Loc nD τ sig) → Buf (Elt Ideal) ℓ)

variable (c : Dev nD) (t : Fin cfg0.N)

/-- The row of the gate: reset at the first point, added to at the others. -/
theorem row0_A (h : t.val % 16 = 0) (d : Fin 1024) :
    (outsAt0 m c t.val t.isLt).2.2.2.2 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk3 m c t) d).trans (congrArg (· + _) ?_)
  simp (disch := decide) only [RowBuffer.readCov_row, RowBuffer.read_hit, RowBuffer.read_miss, RowBuffer.read_fill]
  pointwise [k0_pay3]

theorem row0_B (h : ¬ t.val % 16 = 0) (hb : t.val - 1 < cfg0.N) (d : Fin 1024) :
    (outsAt0 m c t.val t.isLt).2.2.2.2 (ix2 (⟨0, by decide⟩ : Fin 8) d)
      = (outsAt0 m c (t.val - 1) hb).2.2.2.2 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk3 m c t) d).trans (congrArg (· + _) ?_)
  exact RowBuffer.ld_row _ _ (by decide) d

/-- The row of the norm's gain: reset at the first point, added to at the others. -/
theorem row1_A (h : t.val % 16 = 0) (d : Fin 1024) :
    (outsAt0 m c t.val t.isLt).2.2.2.2 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ (dh m c t) (xn m c t) d).trans (congrArg (· + _) ?_)
  simp (disch := decide) only [RowBuffer.readCov_row, RowBuffer.read_hit, RowBuffer.read_miss, RowBuffer.read_fill]
  pointwise [k0_pay3]

theorem row1_B (h : ¬ t.val % 16 = 0) (hb : t.val - 1 < cfg0.N) (d : Fin 1024) :
    (outsAt0 m c t.val t.isLt).2.2.2.2 (ix2 (⟨1, by decide⟩ : Fin 8) d)
      = (outsAt0 m c (t.val - 1) hb).2.2.2.2 (ix2 (⟨1, by decide⟩ : Fin 8) d) + (layer m c).part (tile t) 1 d := by
  rw [outsAt0_B m c t h]
  frame_out
  simp (disch := decide) only [RowBuffer.read_hit, RowBuffer.read_miss]
  refine (row1_at _ _ _ (dh m c t) (xn m c t) d).trans (congrArg (· + _) ?_)
  exact RowBuffer.ld_row _ _ (by decide) d

/-- The row of the norm's shift: reset at the first point, added to at the others. -/
theorem row2_A (h : t.val % 16 = 0) (d : Fin 1024) :
    (outsAt0 m c t.val t.isLt).2.2.2.2 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ (dh m c t) d).trans (congrArg (· + _) ?_)
  simp (disch := decide) only [RowBuffer.readCov_row, RowBuffer.read_hit, RowBuffer.read_miss, RowBuffer.read_fill]
  pointwise [k0_pay3]

theorem row2_B (h : ¬ t.val % 16 = 0) (hb : t.val - 1 < cfg0.N) (d : Fin 1024) :
    (outsAt0 m c t.val t.isLt).2.2.2.2 (ix2 (⟨2, by decide⟩ : Fin 8) d)
      = (outsAt0 m c (t.val - 1) hb).2.2.2.2 (ix2 (⟨2, by decide⟩ : Fin 8) d) + (layer m c).part (tile t) 2 d := by
  rw [outsAt0_B m c t h]
  frame_out
  simp (disch := decide) only [RowBuffer.read_hit, RowBuffer.read_miss]
  refine (row2_at _ _ (dh m c t) d).trans (congrArg (· + _) ?_)
  exact RowBuffer.ld_row _ _ (by decide) d

/-- A row of zeros. -/
theorem row3_A (h : t.val % 16 = 0) (d : Fin 1024) :
    (outsAt0 m c t.val t.isLt).2.2.2.2 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  pointwise [k0_pay3]
  rfl

theorem row3_B (h : ¬ t.val % 16 = 0) (hb : t.val - 1 < cfg0.N) (d : Fin 1024) :
    (outsAt0 m c t.val t.isLt).2.2.2.2 (ix2 (⟨3, by decide⟩ : Fin 8) d)
      = (outsAt0 m c (t.val - 1) hb).2.2.2.2 (ix2 (⟨3, by decide⟩ : Fin 8) d) + (layer m c).part (tile t) 3 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row4_A (h : t.val % 16 = 0) (d : Fin 1024) :
    (outsAt0 m c t.val t.isLt).2.2.2.2 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  pointwise [k0_pay3]
  rfl

theorem row4_B (h : ¬ t.val % 16 = 0) (hb : t.val - 1 < cfg0.N) (d : Fin 1024) :
    (outsAt0 m c t.val t.isLt).2.2.2.2 (ix2 (⟨4, by decide⟩ : Fin 8) d)
      = (outsAt0 m c (t.val - 1) hb).2.2.2.2 (ix2 (⟨4, by decide⟩ : Fin 8) d) + (layer m c).part (tile t) 4 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row5_A (h : t.val % 16 = 0) (d : Fin 1024) :
    (outsAt0 m c t.val t.isLt).2.2.2.2 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  pointwise [k0_pay3]
  rfl

theorem row5_B (h : ¬ t.val % 16 = 0) (hb : t.val - 1 < cfg0.N) (d : Fin 1024) :
    (outsAt0 m c t.val t.isLt).2.2.2.2 (ix2 (⟨5, by decide⟩ : Fin 8) d)
      = (outsAt0 m c (t.val - 1) hb).2.2.2.2 (ix2 (⟨5, by decide⟩ : Fin 8) d) + (layer m c).part (tile t) 5 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row6_A (h : t.val % 16 = 0) (d : Fin 1024) :
    (outsAt0 m c t.val t.isLt).2.2.2.2 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  pointwise [k0_pay3]
  rfl

theorem row6_B (h : ¬ t.val % 16 = 0) (hb : t.val - 1 < cfg0.N) (d : Fin 1024) :
    (outsAt0 m c t.val t.isLt).2.2.2.2 (ix2 (⟨6, by decide⟩ : Fin 8) d)
      = (outsAt0 m c (t.val - 1) hb).2.2.2.2 (ix2 (⟨6, by decide⟩ : Fin 8) d) + (layer m c).part (tile t) 6 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row7_A (h : t.val % 16 = 0) (d : Fin 1024) :
    (outsAt0 m c t.val t.isLt).2.2.2.2 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 16 = 0) (hb : t.val - 1 < cfg0.N) (d : Fin 1024) :
    (outsAt0 m c t.val t.isLt).2.2.2.2 (ix2 (⟨7, by decide⟩ : Fin 8) d)
      = (outsAt0 m c (t.val - 1) hb).2.2.2.2 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 16 = 0) (k : Fin 8) (d : Fin 1024) :
    (outsAt0 m c t.val t.isLt).2.2.2.2 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 16 = 0) (hb : t.val - 1 < cfg0.N) (k : Fin 8) (d : Fin 1024) :
    (outsAt0 m c t.val t.isLt).2.2.2.2 (ix2 k d) = (outsAt0 m c (t.val - 1) hb).2.2.2.2 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows as the call leaves them. -/
theorem final11 : (dats m 0 c).arrAt 11 (cfgs 0).N = (fun i => (layer m c).rows (i 0) (i 1) : S8x1024.Idx → EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_15 rfl j, zero_add]
  exact Layer.sum_part (layer m c) (j 0) (j 1)

end Cert.Ffn0Ideal.Value

end
-- ==== Proof.Ffn0Ref.lean ====
/- The reference's gradients of the feed-forward block, entry by entry: layer 0. -/
module

public import proofs.«01_k».proof.Defs
public import proofs.«01_k».proof.Proof.Gen.Ffn0RefIdeal.Run
public import proofs.«01_k».proof.Proof.FfnSpec
public import Idealize.ShloMosaic.Lib.Pointwise

@[expose] public section

set_option maxRecDepth 16384
noncomputable section
open Idealize.ShloMosaic Idealize.ShloMosaic.TcCoe Idealize.SL.Sem
namespace Cert.Ffn0RefIdeal.Spec
open Cert.Ffn0RefIdeal Cert.Ffn0RefIdeal.Gen Cert.Ffn0RefIdeal.Value Cert.FfnSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4096x1024 .f32 := m ((c.tc : Thread nD τ).loc main_arg1)
abbrev arg2 : FVec Ideal S4x6x1024 .f32 := m ((c.tc : Thread nD τ).loc main_arg2)
abbrev arg4 : FVec Ideal S4x1024 .f32 := m ((c.tc : Thread nD τ).loc main_arg4)
abbrev arg5 : FVec Ideal S1024x4096 .f32 := m ((c.tc : Thread nD τ).loc main_arg5)
abbrev arg6 : FVec Ideal S4096x1024 .f32 := m ((c.tc : Thread nD τ).loc main_arg6)

/-- The mean squares of the rows, with the constant added. -/
def meanSq : FVec Ideal S4096x1 .f32 :=
  addf (Host.divf (broadcastInDim S4096x1 ![0] bcast_S4096_S4096x1_0 (Host.reduceAdd (mulf (arg1 m c) (arg1 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Their reciprocal roots. -/
def rinv : FVec Ideal S4096x1 .f32 := Host.rsqrt (meanSq m c)

/-- The normalised input without its gain. -/
def unitArr : FVec Ideal S4096x1024 .f32 :=
  mulf (arg1 m c) (broadcastInDim S4096x1024 ![0, 1] bcast_S4096x1_S4096x1024_0_1 (rinv m c))

/-- The norm's gain with its modulation, for every token. -/
def gainArr : FVec Ideal S4096x1024 .f32 :=
  broadcastInDim S4096x1024 ![0, 1] bcast_S1x1024_S4096x1024_0_1 (broadcastInDim S1x1024 ![1] bcast_S1024_S1x1024_1 (mulf (shapeCast _ (extractStridedSlice S1x1024 ![0, 0] (arg4 m c) slices_S4x1024_S1x1024_0_0) shapeCasts_S1x1024_S1024) (addf (broadcastInDim S1024 ![] bcast_S_S1024 (constant S_ .f32 0x3F800000#32)) (shapeCast _ (extractStridedSlice S1x1x1024 ![0, 4, 0] (arg2 m c) slices_S4x6x1024_S1x1x1024_0_4_0) shapeCasts_S1x1x1024_S1024))))

/-- The inner array before its activation. -/
def innerArr : FVec Ideal S4096x4096 .f32 :=
  Host.dotGeneral dot_S4096x1024_S1024x4096_S4096x4096_1_0_0_1_n_n none (addf (mulf (unitArr m c) (gainArr m c)) (broadcastInDim S4096x1024 ![0, 1] bcast_S1x1024_S4096x1024_0_1 (broadcastInDim S1x1024 ![1] bcast_S1024_S1x1024_1 (shapeCast _ (extractStridedSlice S1x1x1024 ![0, 3, 0] (arg2 m c) slices_S4x6x1024_S1x1x1024_0_3_0) shapeCasts_S1x1x1024_S1024)))) (arg5 m c)

/-- The positive part of the inner array. -/
def posArr : FVec Ideal S4096x4096 .f32 :=
  maximumf (innerArr m c) (broadcastInDim S4096x4096 ![] bcast_S_S4096x4096 (constant S_ .f32 0x00000000#32))

/-- The block's result before its gate. -/
def resultArr : FVec Ideal S4096x1024 .f32 :=
  Host.dotGeneral dot_S4096x4096_S4096x1024_S4096x1024_1_0_0_1_n_n none (mulf (posArr m c) (posArr m c)) (arg6 m c)

/-- The gradient of the block's result before its gate. -/
def dfArr : FVec Ideal S4096x1024 .f32 :=
  mulf (broadcastInDim S4096x1024 ![0, 1] bcast_S1x1024_S4096x1024_0_1 (broadcastInDim S1x1024 ![1] bcast_S1024_S1x1024_1 (shapeCast _ (extractStridedSlice S1x1x1024 ![0, 5, 0] (arg2 m c) slices_S4x6x1024_S1x1x1024_0_5_0) shapeCasts_S1x1x1024_S1024))) (shapeCast S4096x1024 (arg0 m c) shapeCasts_S4096x1024_S4096x1024)

/-- The gradient of the activated inner array. -/
def dpArr : FVec Ideal S4096x4096 .f32 := Host.dotGeneral dot_S4096x1024_S4096x1024_S4096x4096_1_1_0_0_n_n none (dfArr m c) (arg6 m c)

/-- The gradient of the inner array. -/
def daArr : FVec Ideal S4096x4096 .f32 :=
  select (cmpf .ogt (innerArr m c) (broadcastInDim S4096x4096 ![] bcast_S_S4096x4096 (constant S_ .f32 0x00000000#32))) (mulf (dpArr m c) (mulf (broadcastInDim S4096x4096 ![] bcast_S_S4096x4096 (constant S_ .f32 0x40000000#32)) (posArr m c))) (broadcastInDim S4096x4096 ![] bcast_S_S4096x4096 (constant S_ .f32 0x00000000#32))

/-- The gradient of the normalised input. -/
def dhArr : FVec Ideal S4096x1024 .f32 := Host.dotGeneral dot_S4096x4096_S1024x4096_S4096x1024_1_1_0_0_n_n none (daArr m c) (arg5 m c)

/-- That gradient with the gain. -/
def gainedArr : FVec Ideal S4096x1024 .f32 := mulf (dhArr m c) (gainArr m c)

/-- The factor of the input in the gradient through the mean square. -/
def slopeArr : FVec Ideal S4096x1024 .f32 :=
  broadcastInDim S4096x1024 ![0] bcast_S4096_S4096x1024_0 (Host.reduceAdd (Host.divf (mulf (shapeCast _ (Host.reduceAdd (mulf (arg1 m c) (gainedArr m c)) (constant S_ .f32 0x00000000#32) reducesTo_S4096x1024_S4096_d1 h_S_) shapeCasts_S4096_S4096x1) (mulf (broadcastInDim S4096x1 ![] bcast_S_S4096x1 (constant S_ .f32 0xBF000000#32)) (Host.divf (rinv m c) (meanSq m c)))) (broadcastInDim S4096x1 ![] bcast_S_S4096x1 (constant S_ .f32 0x44800000#32))) (constant S_ .f32 0x00000000#32) reducesTo_S4096x1_S4096_d1 h_S_)

/-- The gradient of the block's input. -/
def dxArr : FVec Ideal S4096x1024 .f32 :=
  addf (arg0 m c) (addf (addf (mulf (gainedArr m c) (broadcastInDim S4096x1024 ![0, 1] bcast_S4096x1_S4096x1024_0_1 (rinv m c))) (mulf (arg1 m c) (slopeArr m c))) (mulf (slopeArr m c) (arg1 m c)))

/-- The column sums of an array, as one row. -/
def colSums (v : FVec Ideal S4096x1024 .f32) : FVec Ideal S1x1024 .f32 :=
  broadcastInDim S1x1024 ![1] bcast_S1024_S1x1024_1 (Host.reduceAdd (shapeCast S1x1024 (Host.reduceAdd v (constant S_ .f32 0x00000000#32) reducesTo_S4096x1024_S1024_d0 h_S_) shapeCasts_S1024_S1x1024) (constant S_ .f32 0x00000000#32) reducesTo_S1x1024_S1024_d0 h_S_)

/-- The eight rows. -/
def rowsArr : FVec Ideal S8x1024 .f32 :=
  concatenate S8x1024 0 [⟨S1x1024, colSums (mulf (shapeCast S4096x1024 (arg0 m c) shapeCasts_S4096x1024_S4096x1024) (resultArr m c))⟩,
    ⟨S1x1024, colSums (mulf (unitArr m c) (dhArr m c))⟩, ⟨S1x1024, colSums (dhArr m c)⟩,
    ⟨S5x1024, broadcastInDim S5x1024 ![] bcast_S_S5x1024 (constant S_ .f32 0x00000000#32)⟩]
    concatenates_S1x1024_S1x1024_S1x1024_S5x1024_S8x1024_d0

theorem dx_named : res_out0 m c = dxArr m c := rfl

theorem rows_named : res_out4 m c = rowsArr m c := rfl

/-! ## Their entries -/

/-- The arrays of the block, from the arguments. -/
def layer : Layer where
  ct := fun n d => arg0 m c (ix2 n d)
  x := fun n d => arg1 m c (ix2 n d)
  a := fun n j => innerArr m c (ix2 n j)
  f := fun n d => resultArr m c (ix2 n d)
  gate := fun d => arg2 m c (ix3 0 5 d)
  gain := fun d => (show EReal from arg4 m c (ix2 0 d)) * (1 + (show EReal from arg2 m c (ix3 0 4 d)))
  w1 := fun a j => arg5 m c (ix2 a j)
  w2 := fun j a => arg6 m c (ix2 j a)

theorem df_at (n : Fin 4096) (d : Fin 1024) : dfArr m c (ix2 n d) = (layer m c).df n d := by
  pointwise [dfArr]
  exact EReal.mul_comm _ _

theorem dp_at (n : Fin 4096) (j : Fin 4096) : dpArr m c (ix2 n j) = (layer m c).dp n j := by
  pointwise [dpArr]
  simp only [df_at]
  rfl

theorem act_at (n : Fin 4096) (j : Fin 4096) :
    truncf (F := Ideal) .bf16 (mulf (posArr m c) (posArr m c)) bitsLt_bf16_f32 (ix2 n j) = (layer m c).act n j := by
  pointwise [posArr]
  rfl

theorem da_at (n : Fin 4096) (j : Fin 4096) : daArr m c (ix2 n j) = (layer m c).da n j := by
  pointwise [daArr, posArr]
  rw [dp_at]
  refine Eq.trans ?_ (back_choice ((layer m c).dp n j) ((layer m c).a n j))
  rfl

theorem dh_at (n : Fin 4096) (d : Fin 1024) : dhArr m c (ix2 n d) = (layer m c).dh n d := by
  pointwise [dhArr]
  simp only [da_at]
  rfl

theorem meanSq_at (n : Fin 4096) (k : Fin 1) : meanSq m c (ix2 n k) = NormBack.meanSq ((layer m c).x n) := by
  pointwise [meanSq]
  rfl

theorem rinv_at (n : Fin 4096) (k : Fin 1) : rinv m c (ix2 n k) = NormBack.rinv ((layer m c).x n) := by
  pointwise [rinv]
  rw [meanSq_at]
  rfl

theorem gained_at (n : Fin 4096) (d : Fin 1024) : gainedArr m c (ix2 n d) = (layer m c).dh n d * (layer m c).gain d := by
  pointwise [gainedArr, gainArr]
  rw [dh_at]
  rfl

theorem slope_at (n : Fin 4096) (d : Fin 1024) :
    slopeArr m c (ix2 n d) = NormBack.slope ((layer m c).x n) fun k => (layer m c).dh n k * (layer m c).gain k := by
  pointwise [slopeArr]
  rw [Fin.sum_univ_one]
  simp only [meanSq_at, rinv_at, gained_at]
  rfl

/-- The reference's gradient of the block's input. -/
theorem dx_at (n : Fin 4096) (d : Fin 1024) : dxArr m c (ix2 n d) = (layer m c).dx n d := by
  pointwise [dxArr]
  rw [slope_at, gained_at, rinv_at]
  unfold Layer.dx
  rw [NormBack.back_eq]
  rfl

theorem unit_at (n : Fin 4096) (d : Fin 1024) : unitArr m c (ix2 n d) = unit (layer m c).x n d := by
  pointwise [unitArr]
  rw [rinv_at]
  rfl

/-- The reference's column sums. -/
theorem rows_at (k : Fin 8) (d : Fin 1024) : rowsArr m c (ix2 k d) = (layer m c).rows k d := by
  pointwise [rowsArr, colSums]
  simp only [Fin.sum_univ_one, dh_at, unit_at]
  match k with
  | 0 => rfl
  | 1 =>
    refine Eq.trans (?_ : _ = ∑ n, unit (layer m c).x n d * (layer m c).dh n d) (Finset.sum_congr rfl fun n _ => mul_comm _ _)
    rfl
  | 2 => rfl
  | 3 => rfl
  | 4 => rfl
  | 5 => rfl
  | 6 => rfl
  | 7 => rfl

end Cert.Ffn0RefIdeal.Spec

end
-- ==== Proof.Ffn0Host.lean ====
/- The feed-forward block's kernel and its reference start from the same arrays of the arguments: layer 0. -/
module

public import proofs.«01_k».proof.Proof.Ffn0Rows
public import proofs.«01_k».proof.Proof.Ffn0Ref

@[expose] public section
set_option maxRecDepth 16384
noncomputable section
open Idealize.ShloMosaic Idealize.ShloMosaic.TcCoe Idealize.SL.Sem
namespace Cert.Ffn0Ideal.Value
open Cert.Ffn0Ideal Cert.Ffn0Ideal.Gen Cert.FfnSpec
variable (m : (ℓ : Loc nD τ sig) → Buf (Elt Ideal) ℓ) (c : Dev nD)
  (W : (ℓ : Loc Cert.Ffn0RefIdeal.nD Cert.Ffn0RefIdeal.τ Cert.Ffn0RefIdeal.sig) → Buf (Elt Ideal) ℓ)
  (c' : Dev Cert.Ffn0RefIdeal.nD)

/-! ## The parameters that the host packs -/

theorem flat : List.flatten [hostOps0 (F := Ideal), hostOps0_1, hostOps0_2] = (hostOps0 ++ hostOps0_1) ++ hostOps0_2 := by
  simp only [List.flatten_cons, List.flatten_nil, List.append_nil, List.append_assoc]

/-- The host operations up to the call of the positive part, then those after it. -/
theorem split (b : DevRef τ sig) : StableHlo.after (List.flatten [hostOps0 (F := Ideal), hostOps0_1, hostOps0_2]) (fun b => m (c, b)) b
    = StableHlo.after (hostOps0_2 (F := Ideal)) (StableHlo.after ((hostOps0 (F := Ideal)) ++ hostOps0_1) (fun b => m (c, b))) b := by
  rw [flat, StableHlo.after_append]

theorem first_main_arg2 : StableHlo.after ((hostOps0 (F := Ideal)) ++ hostOps0_1) (fun b => m (c, b)) (Proc.devRef .tc main_arg2) = m (c, Proc.devRef .tc main_arg2) := by
  unfold hostOps0 hostOps0_1
  simp only [List.cons_append, List.nil_append]
  simp only [StableHlo.after_cons, StableHlo.after_nil]
  after_results_loop
  rfl

theorem first_main_arg4 : StableHlo.after ((hostOps0 (F := Ideal)) ++ hostOps0_1) (fun b => m (c, b)) (Proc.devRef .tc main_arg4) = m (c, Proc.devRef .tc main_arg4) := by
  unfold hostOps0 hostOps0_1
  simp only [List.cons_append, List.nil_append]
  simp only [StableHlo.after_cons, StableHlo.after_nil]
  after_results_loop
  rfl

theorem first_main_arg5 : StableHlo.after ((hostOps0 (F := Ideal)) ++ hostOps0_1) (fun b => m (c, b)) (Proc.devRef .tc main_arg5) = m (c, Proc.devRef .tc main_arg5) := by
  unfold hostOps0 hostOps0_1
  simp only [List.cons_append, List.nil_append]
  simp only [StableHlo.after_cons, StableHlo.after_nil]
  after_results_loop
  rfl

theorem first_main_arg6 : StableHlo.after ((hostOps0 (F := Ideal)) ++ hostOps0_1) (fun b => m (c, b)) (Proc.devRef .tc main_arg6) = m (c, Proc.devRef .tc main_arg6) := by
  unfold hostOps0 hostOps0_1
  simp only [List.cons_append, List.nil_append]
  simp only [StableHlo.after_cons, StableHlo.after_nil]
  after_results_loop
  rfl

theorem pv_eq (U : Valuation τ sig (Elt Ideal)) :
    StableHlo.after (hostOps0_2 (F := Ideal)) U (Proc.devRef .tc main_v31) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0_2
  after_results_simp
  try dsimp only [Matrix.cons_val]
  try after_results_simp
  try rfl

theorem pv_rows (k : Fin 8) (hk : k.val < 6) (d : Fin 1024) :
    V m c main_v31 (ix3 0 k d) = m (c, Proc.devRef .tc main_arg2) (ix3 0 ⟨k.val, hk⟩ d) := by
  refine (congrFun (split m c _) _).trans ?_
  rw [pv_eq]
  refine Eq.trans ?_ (congrFun (first_main_arg2 m c) _)
  generalize StableHlo.after ((hostOps0 (F := Ideal)) ++ hostOps0_1) (fun b => m (c, b)) = U
  pointwise
  rw [dif_pos hk]

theorem pv_norm (k : Fin 8) (hk : k.val = 7) (d : Fin 1024) :
    V m c main_v31 (ix3 0 k d) = m (c, Proc.devRef .tc main_arg4) (ix2 0 d) := by
  refine (congrFun (split m c _) _).trans ?_
  rw [pv_eq]
  refine Eq.trans ?_ (congrFun (first_main_arg4 m c) _)
  generalize StableHlo.after ((hostOps0 (F := Ideal)) ++ hostOps0_1) (fun b => m (c, b)) = U
  pointwise
  rw [dif_neg (by omega), dif_neg (by omega)]

theorem w1_eq (U : Valuation τ sig (Elt Ideal)) (a : Fin 1024) (j : Fin 4096) :
    StableHlo.after (hostOps0_2 (F := Ideal)) U (Proc.devRef .tc main_v33) (ix3 0 a j) = U (Proc.devRef .tc main_arg5) (ix2 a j) := by
  unfold hostOps0_2
  after_results_simp
  pointwise

theorem w2_eq (U : Valuation τ sig (Elt Ideal)) (j : Fin 4096) (a : Fin 1024) :
    StableHlo.after (hostOps0_2 (F := Ideal)) U (Proc.devRef .tc main_v35) (ix3 0 j a) = U (Proc.devRef .tc main_arg6) (ix2 j a) := by
  unfold hostOps0_2
  after_results_simp
  pointwise

theorem w1_at (a : Fin 1024) (j : Fin 4096) : V m c main_v33 (ix3 0 a j) = m (c, Proc.devRef .tc main_arg5) (ix2 a j) :=
  (congrFun (split m c _) _).trans ((w1_eq _ a j).trans (congrFun (first_main_arg5 m c) _))

theorem w2_at (j : Fin 4096) (a : Fin 1024) : V m c main_v35 (ix3 0 j a) = m (c, Proc.devRef .tc main_arg6) (ix2 j a) :=
  (congrFun (split m c _) _).trans ((w2_eq _ j a).trans (congrFun (first_main_arg6 m c) _))

/-! ## The two programs' arrays -/

/-- The reference starts from the kernel's arguments. -/
structure SameArgs : Prop where
  a0 : W ((c'.tc : Thread Cert.Ffn0RefIdeal.nD Cert.Ffn0RefIdeal.τ).loc Cert.Ffn0RefIdeal.main_arg0) = m ((c.tc : Thread nD τ).loc main_arg0)
  a1 : W ((c'.tc : Thread Cert.Ffn0RefIdeal.nD Cert.Ffn0RefIdeal.τ).loc Cert.Ffn0RefIdeal.main_arg1) = m ((c.tc : Thread nD τ).loc main_arg1)
  a2 : W ((c'.tc : Thread Cert.Ffn0RefIdeal.nD Cert.Ffn0RefIdeal.τ).loc Cert.Ffn0RefIdeal.main_arg2) = m ((c.tc : Thread nD τ).loc main_arg2)
  a4 : W ((c'.tc : Thread Cert.Ffn0RefIdeal.nD Cert.Ffn0RefIdeal.τ).loc Cert.Ffn0RefIdeal.main_arg4) = m ((c.tc : Thread nD τ).loc main_arg4)
  a5 : W ((c'.tc : Thread Cert.Ffn0RefIdeal.nD Cert.Ffn0RefIdeal.τ).loc Cert.Ffn0RefIdeal.main_arg5) = m ((c.tc : Thread nD τ).loc main_arg5)
  a6 : W ((c'.tc : Thread Cert.Ffn0RefIdeal.nD Cert.Ffn0RefIdeal.τ).loc Cert.Ffn0RefIdeal.main_arg6) = m ((c.tc : Thread nD τ).loc main_arg6)

variable {m c W c'} (s : SameArgs m c W c')
include s
open Cert.Ffn0RefIdeal.Spec (innerArr unitArr rinv meanSq gainArr posArr resultArr)

theorem same_inner : V m c main_v25 = innerArr W c' := by
  simp only [innerArr, unitArr, rinv, meanSq, gainArr, Cert.Ffn0RefIdeal.Spec.arg1, Cert.Ffn0RefIdeal.Spec.arg2,
    Cert.Ffn0RefIdeal.Spec.arg4, Cert.Ffn0RefIdeal.Spec.arg5, s.a1, s.a2, s.a4, s.a5]
  entry_read
  rfl

theorem same_result : V m c main_v28 = resultArr W c' := by
  unfold resultArr posArr Cert.Ffn0RefIdeal.Spec.arg6
  rw [← same_inner s, s.a6]
  entry_read
  rfl

theorem same_gain (d : Fin 1024) : (layer m c).gain d = (Cert.Ffn0RefIdeal.Spec.layer W c').gain d := by
  have h1 : (show EReal from V m c main_v31 (ix3 0 7 d)) = Cert.Ffn0RefIdeal.Spec.arg4 W c' (ix2 0 d) :=
    (pv_norm m c 7 rfl d).trans (congrFun s.a4 (ix2 0 d)).symm
  have h2 : (show EReal from V m c main_v31 (ix3 0 4 d)) = Cert.Ffn0RefIdeal.Spec.arg2 W c' (ix3 0 4 d) :=
    (pv_rows m c 4 (by decide) d).trans (congrFun s.a2 (ix3 0 4 d)).symm
  show (show EReal from V m c main_v31 (ix3 0 7 d)) * (1 + (show EReal from V m c main_v31 (ix3 0 4 d))) = _
  rw [h1, h2]
  rfl

theorem same_gate (d : Fin 1024) : (layer m c).gate d = (Cert.Ffn0RefIdeal.Spec.layer W c').gate d :=
  (pv_rows m c 5 (by decide) d).trans (congrFun s.a2 (ix3 0 5 d)).symm

theorem same_w1 (a : Fin 1024) (j : Fin 4096) : (layer m c).w1 a j = (Cert.Ffn0RefIdeal.Spec.layer W c').w1 a j :=
  (w1_at m c a j).trans (congrFun s.a5 (ix2 a j)).symm

theorem same_w2 (j : Fin 4096) (a : Fin 1024) : (layer m c).w2 j a = (Cert.Ffn0RefIdeal.Spec.layer W c').w2 j a :=
  (w2_at m c j a).trans (congrFun s.a6 (ix2 j a)).symm

theorem same_ct (n : Fin 4096) (d : Fin 1024) : (layer m c).ct n d = (Cert.Ffn0RefIdeal.Spec.layer W c').ct n d :=
  (congrFun (V_main_arg0 m c) (ix2 n d)).trans (congrFun s.a0 (ix2 n d)).symm

theorem same_x (n : Fin 4096) (d : Fin 1024) : (layer m c).x n d = (Cert.Ffn0RefIdeal.Spec.layer W c').x n d :=
  (congrFun (V_main_arg1 m c) (ix2 n d)).trans (congrFun s.a1 (ix2 n d)).symm

theorem same_a (n j : Fin 4096) : (layer m c).a n j = (Cert.Ffn0RefIdeal.Spec.layer W c').a n j := by
  show V m c main_v25 (ix2 n j) = innerArr W c' (ix2 n j)
  rw [same_inner s]

theorem same_f (n : Fin 4096) (d : Fin 1024) : (layer m c).f n d = (Cert.Ffn0RefIdeal.Spec.layer W c').f n d := by
  show V m c main_v28 (ix2 n d) = resultArr W c' (ix2 n d)
  rw [same_result s]

/-- The kernel's block is the reference's. -/
theorem same_layer : layer m c = Cert.Ffn0RefIdeal.Spec.layer W c' := by
  have h0 := same_ct s
  have h1 := same_x s
  have h2 := same_a s
  have h3 := same_f s
  have h4 := same_gate s
  have h5 := same_gain s
  have h6 := same_w1 s
  have h7 := same_w2 s
  exact layer_eq _ _ h0 h1 h2 h3 h4 h5 h6 h7

end Cert.Ffn0Ideal.Value

namespace Cert.Proof

/-- The reference's host operations leave its arguments unchanged, and it declares no semaphore. -/
theorem frame_reference_Ffn0 : Cert.quiescent_Ffn0RefIdeal := fun m ρ _ =>
  (θ_run Cert.Ffn0RefIdeal.defs _ _).mono
    (fun r h => ⟨fun c => (h c).2.2.2.2.2, sem_eq_zero_of_no_sems (by decide) r.2⟩)
    (Cert.Ffn0RefIdeal.Value.run (F := Ideal) m ρ)

/-- From the same arguments the kernel and the reference end with the same five results. -/
theorem algebraic_Ffn0 : Cert.algebraic_Ffn0Ideal_Ffn0RefIdeal := by
  intro m g m' g' _ he
  have hs : ∀ c, Cert.Ffn0Ideal.Value.SameArgs m c m' c := fun c =>
    ⟨(he c).1, (he c).2.1, (he c).2.2.1, (he c).2.2.2.2.1, (he c).2.2.2.2.2.1, (he c).2.2.2.2.2.2⟩
  refine ⟨fun c i => (Cert.Ffn0Ideal.Value.layer m c).dx (i 0) (i 1), fun c i => (Cert.Ffn0Ideal.Value.layer m c).act (i 0) (i 1),
    fun c i => (Cert.Ffn0Ideal.Value.layer m c).da (i 0) (i 1), fun c i => (Cert.Ffn0Ideal.Value.layer m c).df (i 0) (i 1),
    fun c i => (Cert.Ffn0Ideal.Value.layer m c).rows (i 0) (i 1), ?_, ?_⟩
  · refine (θ_run Cert.Ffn0Ideal.defs _ _).mono (fun r h c => ?_) (Cert.Ffn0Ideal.Value.run_blocks (F := Ideal) m g)
    obtain ⟨h0, h1, h2, h3, h4, ha⟩ := h c
    exact ⟨h0.trans (Cert.Ffn0Ideal.Value.final7 m c), h1.trans (Cert.Ffn0Ideal.Value.final8 m c),
      h2.trans (Cert.Ffn0Ideal.Value.final9 m c), h3.trans (Cert.Ffn0Ideal.Value.final10 m c),
      h4.trans (Cert.Ffn0Ideal.Value.final11 m c), ha⟩
  · refine (θ_run Cert.Ffn0RefIdeal.defs _ _).mono (fun r h c => ?_) (Cert.Ffn0RefIdeal.Value.run (F := Ideal) m' g')
    obtain ⟨h0, h1, h2, h3, h4, ha⟩ := h c
    have e := Cert.Ffn0Ideal.Value.same_layer (hs c)
    refine ⟨h0.trans (funext fun i => ?_), h1.trans (funext fun i => ?_), h2.trans (funext fun i => ?_), h3.trans (funext fun i => ?_),
      h4.trans (funext fun i => ?_), ha⟩
    · exact (congrArg _ (eq_ix2 i)).trans ((Cert.Ffn0RefIdeal.Spec.dx_at m' c (i 0) (i 1)).trans (congrArg (fun L => Cert.FfnSpec.Layer.dx L (i 0) (i 1)) e.symm))
    · exact (congrArg _ (eq_ix2 i)).trans ((Cert.Ffn0RefIdeal.Spec.act_at m' c (i 0) (i 1)).trans (congrArg (fun L => Cert.FfnSpec.Layer.act L (i 0) (i 1)) e.symm))
    · exact (congrArg _ (eq_ix2 i)).trans ((Cert.Ffn0RefIdeal.Spec.da_at m' c (i 0) (i 1)).trans (congrArg (fun L => Cert.FfnSpec.Layer.da L (i 0) (i 1)) e.symm))
    · exact (congrArg _ (eq_ix2 i)).trans ((Cert.Ffn0RefIdeal.Spec.df_at m' c (i 0) (i 1)).trans (congrArg (fun L => Cert.FfnSpec.Layer.df L (i 0) (i 1)) e.symm))
    · exact (congrArg _ (eq_ix2 i)).trans ((Cert.Ffn0RefIdeal.Spec.rows_at m' c (i 0) (i 1)).trans (congrArg (fun L => Cert.FfnSpec.Layer.rows L (i 0) (i 1)) e.symm))

end Cert.Proof

end
-- ==== Proof.Ffn1Tile.lean ====
/- What one tile of the feed-forward block's backward call computes, entry by entry: layer 1. -/
module

public import proofs.«01_k».proof.Defs
public import proofs.«01_k».proof.Proof.Gen.Ffn1Ideal.Skeleton
public import proofs.«01_k».proof.Proof.FfnSpec
public import Idealize.ShloMosaic.Lib.Pointwise

@[expose] public section

set_option maxRecDepth 16384
noncomputable section
open Idealize.ShloMosaic Idealize.ShloMosaic.TcCoe Idealize.SL.Sem

namespace Cert.Ffn1Ideal.Tile

open Cert.Ffn1Ideal Cert.Ffn1Ideal.Gen Cert.FfnSpec Cert

variable {q : Fin 16} {L : Layer}

/-- `v` holds tile `q` of the array `f`. -/
def Holds (q : Fin 16) (v : S256x1024.Idx → EReal) (f : Tok) : Prop := ∀ (r : Fin 256) (d : Fin 1024), v (ix2 r d) = f (row q r) d

/-- `v` holds tile `q` of the inner array `f`. -/
def HoldsInner (q : Fin 16) (v : S256x4096.Idx → EReal) (f : Inner) : Prop := ∀ (r : Fin 256) (j : Fin 4096), v (ix2 r j) = f (row q r) j

theorem df_at (b0 : Vec Ideal S256x1024 .f32) (b4 : Vec Ideal S1x8x1024 .f32) (h0 : Holds q b0 L.ct)
    (h4 : ∀ d, b4 (ix3 0 5 d) = L.gate d) : Holds q (k0_pay5 b0 b4) L.df := fun r d => by
  pointwise [k0_pay5, k0_pay4]
  rw [h0 r d, h4]
  rfl

theorem dp_at (b0 : Vec Ideal S256x1024 .f32) (b4 : Vec Ideal S1x8x1024 .f32) (b6 : Vec Ideal S1x4096x1024 .bf16)
    (h : Holds q (k0_pay5 b0 b4) L.df) (h6 : ∀ j d, b6 (ix3 0 j d) = L.w2 j d) : HoldsInner q (k0_pay7 b0 b4 b6) L.dp := fun r j => by
  pointwise [k0_pay7]
  exact Finset.sum_congr rfl fun k _ => by rw [h r k, h6]

theorem act_at (b2 : Vec Ideal S256x4096 .f32) (h2 : HoldsInner q b2 L.a) : HoldsInner q (k0_pay9 b2) L.act := fun r j => by
  pointwise [k0_pay9, k0_pay8]
  rw [h2 r j]
  rfl

theorem da_at (v22 : FVec Ideal S256x4096 .f32) (b2 : Vec Ideal S256x4096 .f32) (h : HoldsInner q v22 L.dp) (h2 : HoldsInner q b2 L.a) :
    HoldsInner q (k0_pay10 v22 (k0_pay8 b2)) L.da := fun r j => by
  pointwise [k0_pay10, k0_pay8]
  rw [h r j, h2 r j]
  rfl

theorem dh_at (v22 : FVec Ideal S256x4096 .f32) (b2 : Vec Ideal S256x4096 .f32) (b5 : Vec Ideal S1x1024x4096 .bf16)
    (h : HoldsInner q (k0_pay10 v22 (k0_pay8 b2)) L.da) (h5 : ∀ d j, b5 (ix3 0 d j) = L.w1 d j) :
    Holds q (k0_pay11 v22 (k0_pay8 b2) b5) L.dh := fun r d => by
  pointwise [k0_pay11]
  exact Finset.sum_congr rfl fun k _ => by rw [h r k, h5]

theorem unit_at (b1 : Vec Ideal S256x1024 .f32) (h1 : Holds q b1 L.x) : Holds q (k0_pay13 b1) (unit L.x) := fun r d => by
  pointwise [k0_pay13, k0_pay12]
  simp only [h1 r]
  rfl

theorem dx_at (b0 : Vec Ideal S256x1024 .f32) (b4 : Vec Ideal S1x8x1024 .f32) (v22 v26 : FVec Ideal S256x4096 .f32)
    (b5 : Vec Ideal S1x1024x4096 .bf16) (b1 : Vec Ideal S256x1024 .f32) (h0 : Holds q b0 L.ct) (h1 : Holds q b1 L.x)
    (h : Holds q (k0_pay11 v22 v26 b5) L.dh) (hg : ∀ d, b4 (ix3 0 7 d) * (1 + b4 (ix3 0 4 d)) = L.gain d) :
    Holds q (k0_pay14 b0 (k0_pay4 b4) v22 v26 b5 b1) L.dx := fun r d => by
  pointwise [k0_pay14, k0_pay13, k0_pay12, k0_pay4]
  simp only [hg, h0 r, h1 r, h r]
  rfl

/-! ## The column sums that a tile adds -/

theorem row0_at (b0 : Vec Ideal S256x1024 .f32) (acc : Vec Ideal S1x1024 .f32) (b3 : Vec Ideal S256x1024 .f32)
    (h0 : Holds q b0 L.ct) (h3 : Holds q b3 L.f) (d : Fin 1024) :
    k0_pay6 b0 acc b3 (ix2 0 d) = acc (ix2 0 d) + L.part q 0 d := by
  pointwise [k0_pay6]
  congr 1
  exact Finset.sum_congr rfl fun r _ => by rw [h0 r d, h3 r d]

theorem row1_at (v37 v48 : FVec Ideal S256x1024 .f32) (acc : Vec Ideal S1x1024 .f32)
    (h : Holds q v37 L.dh) (h1 : Holds q v48 (unit L.x)) (d : Fin 1024) :
    k0_pay1 v37 v48 acc (ix2 0 d) = acc (ix2 0 d) + L.part q 1 d := by
  pointwise [k0_pay1]
  congr 1
  exact Finset.sum_congr rfl fun r _ => by rw [h r d, h1 r d]

theorem row2_at (v37 : FVec Ideal S256x1024 .f32) (acc : Vec Ideal S1x1024 .f32) (h : Holds q v37 L.dh) (d : Fin 1024) :
    k0_pay2 v37 acc (ix2 0 d) = acc (ix2 0 d) + L.part q 2 d := by
  pointwise [k0_pay2]
  congr 1
  exact Finset.sum_congr rfl fun r _ => by rw [h r d]

end Cert.Ffn1Ideal.Tile

end
-- ==== Proof.Ffn1Blocks.lean ====
/- What a grid point of the feed-forward block's backward call reads and computes, and the arrays that the call leaves:
   layer 1. -/
module

public import proofs.«01_k».proof.Defs
public import proofs.«01_k».proof.Proof.Gen.Ffn1Ideal.Value
public import Idealize.ShloMosaic.Lib.Pipeline.ValueKit
public import Idealize.ShloMosaic.Lib.Pointwise
public import Idealize.ShloMosaic.Lib.Claim
public import proofs.«01_k».proof.Proof.Ffn1Tile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Ffn1Ideal.Value
open Cert.Ffn1Ideal Cert.Ffn1Ideal.Gen Cert.Ffn1Ideal.Tile Cert.FfnSpec Cert
variable (m : (ℓ : Loc nD τ sig) → Buf (Elt Ideal) ℓ)

/-- The tile that grid point `t` works on. -/
def tile (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0]
    ∧ win0_3.index t = ![t.val, 0] ∧ win0_4.index t = ![1, 0, 0] ∧ win0_5.index t = ![0, 0, 0] ∧ win0_6.index t = ![0, 0, 0] :=
  (by decide +kernel : ∀ t : Fin grid0.N, _)

/-- The block's arrays as the call finds them. -/
def layer (c : Dev nD) : Layer where
  ct := fun n d => V m c main_arg0 (ix2 n d)
  x := fun n d => V m c main_arg1 (ix2 n d)
  a := fun n j => V m c main_v25 (ix2 n j)
  f := fun n d => V m c main_v28 (ix2 n d)
  gate := fun d => V m c main_v31 (ix3 1 5 d)
  gain := fun d => (show EReal from V m c main_v31 (ix3 1 7 d)) * (1 + (show EReal from V m c main_v31 (ix3 1 4 d)))
  w1 := fun a j => V m c main_v33 (ix3 0 a j)
  w2 := fun j a => V m c main_v35 (ix3 0 j a)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : HoldsInner (tile t) (iblk m c 2 t) (layer m c).a := fun r d => by
  unfold layer tile row
  blk_point [iblk, idx t]

theorem blk3 : Holds (tile t) (iblk m c 3 t) (layer m c).f := fun r d => by
  unfold layer tile row
  blk_point [iblk, idx t]

/-- A row of the modulation block. -/
theorem blk4 (s : Fin 8) (d : Fin 1024) : iblk m c 4 t (ix3 0 s d) = V m c main_v31 (ix3 1 s d) := by
  blk_point [iblk, idx t]

theorem blk4_gate (d : Fin 1024) : iblk m c 4 t (ix3 0 5 d) = (layer m c).gate d := blk4 m c t 5 d

theorem blk4_gain (d : Fin 1024) : (show EReal from iblk m c 4 t (ix3 0 7 d)) * (1 + (show EReal from iblk m c 4 t (ix3 0 4 d))) = (layer m c).gain d := by
  rw [blk4 m c t 7 d, blk4 m c t 4 d]
  rfl

theorem blk5 (a : Fin 1024) (j : Fin 4096) : iblk m c 5 t (ix3 0 a j) = (layer m c).w1 a j := by
  unfold layer
  blk_point [iblk, idx t]

theorem blk6 (j : Fin 4096) (a : Fin 1024) : iblk m c 6 t (ix3 0 j a) = (layer m c).w2 j a := by
  unfold layer
  blk_point [iblk, idx t]

theorem df : Holds (tile t) (k0_pay5 (iblk m c 0 t) (iblk m c 4 t)) (layer m c).df :=
  df_at _ _ (blk0 m c t) (blk4_gate m c t)

theorem dp : HoldsInner (tile t) (k0_pay7 (iblk m c 0 t) (iblk m c 4 t) (iblk m c 6 t)) (layer m c).dp :=
  dp_at _ _ _ (df m c t) (blk6 m c t)

theorem da : HoldsInner (tile t) (k0_pay10 (k0_pay7 (iblk m c 0 t) (iblk m c 4 t) (iblk m c 6 t)) (k0_pay8 (iblk m c 2 t))) (layer m c).da :=
  da_at _ _ (dp m c t) (blk2 m c t)

theorem dh : Holds (tile t) (k0_pay11 (k0_pay7 (iblk m c 0 t) (iblk m c 4 t) (iblk m c 6 t)) (k0_pay8 (iblk m c 2 t)) (iblk m c 5 t)) (layer m c).dh :=
  dh_at _ _ _ (da m c t) (blk5 m c t)

theorem dx : Holds (tile t) (k0_pay14 (iblk m c 0 t) (k0_pay4 (iblk m c 4 t)) (k0_pay7 (iblk m c 0 t) (iblk m c 4 t) (iblk m c 6 t))
    (k0_pay8 (iblk m c 2 t)) (iblk m c 5 t) (iblk m c 1 t)) (layer m c).dx :=
  dx_at _ _ _ _ _ _ (blk0 m c t) (blk1 m c t) (dh m c t) (blk4_gain m c t)

theorem act : HoldsInner (tile t) (k0_pay9 (iblk m c 2 t)) (layer m c).act := act_at _ (blk2 m c t)

theorem xn : Holds (tile t) (k0_pay13 (iblk m c 1 t)) (unit (layer m c).x) := unit_at _ (blk1 m c t)

/-! ## What a grid point writes back -/

theorem out7 : Holds (tile t) (outsAt0 m c t.val t.isLt).1 (layer m c).dx := fun r d => by
  by_cases h : t.val % 16 = 0
  · rw [outsAt0_A m c t h]
    frame_out
    exact dx m c t r d
  · rw [outsAt0_B m c t h]
    frame_out
    exact dx m c t r d

theorem out8 : HoldsInner (tile t) (outsAt0 m c t.val t.isLt).2.1 (layer m c).act := fun r d => by
  by_cases h : t.val % 16 = 0
  · rw [outsAt0_A m c t h]
    frame_out
    exact act m c t r d
  · rw [outsAt0_B m c t h]
    frame_out
    exact act m c t r d

theorem out9 : HoldsInner (tile t) (outsAt0 m c t.val t.isLt).2.2.1 (layer m c).da := fun r d => by
  by_cases h : t.val % 16 = 0
  · rw [outsAt0_A m c t h]
    frame_out
    exact da m c t r d
  · rw [outsAt0_B m c t h]
    frame_out
    exact da m c t r d

theorem out10 : Holds (tile t) (outsAt0 m c t.val t.isLt).2.2.2.1 (layer m c).df := fun r d => by
  by_cases h : t.val % 16 = 0
  · rw [outsAt0_A m c t h]
    frame_out
    exact df m c t r d
  · rw [outsAt0_B m c t h]
    frame_out
    exact df m c t r d

/-! ## The arrays after the call -/

theorem idxOut : ∀ t : Fin cfg0.N, win0_7.index t = ![t.val, 0] ∧ win0_8.index t = ![t.val, 0] ∧ win0_9.index t = ![t.val, 0]
    ∧ win0_10.index t = ![t.val, 0] :=
  (by decide +kernel : ∀ t : Fin grid0.N, _)

theorem emb7 (y : S256x1024.Idx) : ((View.whole main_v36_0).slice (win0_7.rect t)).emb y = ix2 (row (tile t) (y 0)) (y 1) := by
  unfold row tile
  blk_ext [idxOut t]

theorem emb8 (y : S256x4096.Idx) : ((View.whole main_v36_1).slice (win0_8.rect t)).emb y = ix2 (row (tile t) (y 0)) (y 1) := by
  unfold row tile
  blk_ext [idxOut t]

theorem emb9 (y : S256x4096.Idx) : ((View.whole main_v36_2).slice (win0_9.rect t)).emb y = ix2 (row (tile t) (y 0)) (y 1) := by
  unfold row tile
  blk_ext [idxOut t]

theorem emb10 (y : S256x1024.Idx) : ((View.whole main_v36_3).slice (win0_10.rect t)).emb y = ix2 (row (tile t) (y 0)) (y 1) := by
  unfold row tile
  blk_ext [idxOut t]

/-- The gradient of the block's input, as the call leaves it. -/
theorem final7 : (dats m 0 c).arrAt 7 (cfgs 0).N = (fun i => (layer m c).dx (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-- The activated inner array. -/
theorem final8 : (dats m 0 c).arrAt 8 (cfgs 0).N = (fun i => (layer m c).act (i 0) (i 1) : S4096x4096.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

/-- The gradient of the inner array. -/
theorem final9 : (dats m 0 c).arrAt 9 (cfgs 0).N = (fun i => (layer m c).da (i 0) (i 1) : S4096x4096.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

/-- The gradient of the block's result before its gate. -/
theorem final10 : (dats m 0 c).arrAt 10 (cfgs 0).N = (fun i => (layer m c).df (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

end Cert.Ffn1Ideal.Value

end
-- ==== Proof.Ffn1Rows.lean ====
/- The rows of column sums that the feed-forward block's backward call accumulates: layer 1. -/
module

public import proofs.«01_k».proof.Proof.Ffn1Blocks

@[expose] public section

set_option maxRecDepth 16384
noncomputable section
open Idealize.ShloMosaic Idealize.ShloMosaic.TcCoe Idealize.SL.Sem
open Idealize.ShloMosaic.Pipeline (Dat)
namespace Cert.Ffn1Ideal.Value
open Cert.Ffn1Ideal Cert.Ffn1Ideal.Gen Cert.Ffn1Ideal.Tile Cert.FfnSpec Cert
variable (m : (ℓ : Loc nD τ sig) → Buf (Elt Ideal) ℓ)

variable (c : Dev nD) (t : Fin cfg0.N)

/-- The row of the gate: reset at the first point, added to at the others. -/
theorem row0_A (h : t.val % 16 = 0) (d : Fin 1024) :
    (outsAt0 m c t.val t.isLt).2.2.2.2 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk3 m c t) d).trans (congrArg (· + _) ?_)
  simp (disch := decide) only [RowBuffer.readCov_row, RowBuffer.read_hit, RowBuffer.read_miss, RowBuffer.read_fill]
  pointwise [k0_pay3]

theorem row0_B (h : ¬ t.val % 16 = 0) (hb : t.val - 1 < cfg0.N) (d : Fin 1024) :
    (outsAt0 m c t.val t.isLt).2.2.2.2 (ix2 (⟨0, by decide⟩ : Fin 8) d)
      = (outsAt0 m c (t.val - 1) hb).2.2.2.2 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk3 m c t) d).trans (congrArg (· + _) ?_)
  exact RowBuffer.ld_row _ _ (by decide) d

/-- The row of the norm's gain: reset at the first point, added to at the others. -/
theorem row1_A (h : t.val % 16 = 0) (d : Fin 1024) :
    (outsAt0 m c t.val t.isLt).2.2.2.2 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ (dh m c t) (xn m c t) d).trans (congrArg (· + _) ?_)
  simp (disch := decide) only [RowBuffer.readCov_row, RowBuffer.read_hit, RowBuffer.read_miss, RowBuffer.read_fill]
  pointwise [k0_pay3]

theorem row1_B (h : ¬ t.val % 16 = 0) (hb : t.val - 1 < cfg0.N) (d : Fin 1024) :
    (outsAt0 m c t.val t.isLt).2.2.2.2 (ix2 (⟨1, by decide⟩ : Fin 8) d)
      = (outsAt0 m c (t.val - 1) hb).2.2.2.2 (ix2 (⟨1, by decide⟩ : Fin 8) d) + (layer m c).part (tile t) 1 d := by
  rw [outsAt0_B m c t h]
  frame_out
  simp (disch := decide) only [RowBuffer.read_hit, RowBuffer.read_miss]
  refine (row1_at _ _ _ (dh m c t) (xn m c t) d).trans (congrArg (· + _) ?_)
  exact RowBuffer.ld_row _ _ (by decide) d

/-- The row of the norm's shift: reset at the first point, added to at the others. -/
theorem row2_A (h : t.val % 16 = 0) (d : Fin 1024) :
    (outsAt0 m c t.val t.isLt).2.2.2.2 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ (dh m c t) d).trans (congrArg (· + _) ?_)
  simp (disch := decide) only [RowBuffer.readCov_row, RowBuffer.read_hit, RowBuffer.read_miss, RowBuffer.read_fill]
  pointwise [k0_pay3]

theorem row2_B (h : ¬ t.val % 16 = 0) (hb : t.val - 1 < cfg0.N) (d : Fin 1024) :
    (outsAt0 m c t.val t.isLt).2.2.2.2 (ix2 (⟨2, by decide⟩ : Fin 8) d)
      = (outsAt0 m c (t.val - 1) hb).2.2.2.2 (ix2 (⟨2, by decide⟩ : Fin 8) d) + (layer m c).part (tile t) 2 d := by
  rw [outsAt0_B m c t h]
  frame_out
  simp (disch := decide) only [RowBuffer.read_hit, RowBuffer.read_miss]
  refine (row2_at _ _ (dh m c t) d).trans (congrArg (· + _) ?_)
  exact RowBuffer.ld_row _ _ (by decide) d

/-- A row of zeros. -/
theorem row3_A (h : t.val % 16 = 0) (d : Fin 1024) :
    (outsAt0 m c t.val t.isLt).2.2.2.2 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  pointwise [k0_pay3]
  rfl

theorem row3_B (h : ¬ t.val % 16 = 0) (hb : t.val - 1 < cfg0.N) (d : Fin 1024) :
    (outsAt0 m c t.val t.isLt).2.2.2.2 (ix2 (⟨3, by decide⟩ : Fin 8) d)
      = (outsAt0 m c (t.val - 1) hb).2.2.2.2 (ix2 (⟨3, by decide⟩ : Fin 8) d) + (layer m c).part (tile t) 3 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row4_A (h : t.val % 16 = 0) (d : Fin 1024) :
    (outsAt0 m c t.val t.isLt).2.2.2.2 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  pointwise [k0_pay3]
  rfl

theorem row4_B (h : ¬ t.val % 16 = 0) (hb : t.val - 1 < cfg0.N) (d : Fin 1024) :
    (outsAt0 m c t.val t.isLt).2.2.2.2 (ix2 (⟨4, by decide⟩ : Fin 8) d)
      = (outsAt0 m c (t.val - 1) hb).2.2.2.2 (ix2 (⟨4, by decide⟩ : Fin 8) d) + (layer m c).part (tile t) 4 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row5_A (h : t.val % 16 = 0) (d : Fin 1024) :
    (outsAt0 m c t.val t.isLt).2.2.2.2 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  pointwise [k0_pay3]
  rfl

theorem row5_B (h : ¬ t.val % 16 = 0) (hb : t.val - 1 < cfg0.N) (d : Fin 1024) :
    (outsAt0 m c t.val t.isLt).2.2.2.2 (ix2 (⟨5, by decide⟩ : Fin 8) d)
      = (outsAt0 m c (t.val - 1) hb).2.2.2.2 (ix2 (⟨5, by decide⟩ : Fin 8) d) + (layer m c).part (tile t) 5 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row6_A (h : t.val % 16 = 0) (d : Fin 1024) :
    (outsAt0 m c t.val t.isLt).2.2.2.2 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  pointwise [k0_pay3]
  rfl

theorem row6_B (h : ¬ t.val % 16 = 0) (hb : t.val - 1 < cfg0.N) (d : Fin 1024) :
    (outsAt0 m c t.val t.isLt).2.2.2.2 (ix2 (⟨6, by decide⟩ : Fin 8) d)
      = (outsAt0 m c (t.val - 1) hb).2.2.2.2 (ix2 (⟨6, by decide⟩ : Fin 8) d) + (layer m c).part (tile t) 6 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row7_A (h : t.val % 16 = 0) (d : Fin 1024) :
    (outsAt0 m c t.val t.isLt).2.2.2.2 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 16 = 0) (hb : t.val - 1 < cfg0.N) (d : Fin 1024) :
    (outsAt0 m c t.val t.isLt).2.2.2.2 (ix2 (⟨7, by decide⟩ : Fin 8) d)
      = (outsAt0 m c (t.val - 1) hb).2.2.2.2 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 16 = 0) (k : Fin 8) (d : Fin 1024) :
    (outsAt0 m c t.val t.isLt).2.2.2.2 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 16 = 0) (hb : t.val - 1 < cfg0.N) (k : Fin 8) (d : Fin 1024) :
    (outsAt0 m c t.val t.isLt).2.2.2.2 (ix2 k d) = (outsAt0 m c (t.val - 1) hb).2.2.2.2 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows as the call leaves them. -/
theorem final11 : (dats m 0 c).arrAt 11 (cfgs 0).N = (fun i => (layer m c).rows (i 0) (i 1) : S8x1024.Idx → EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_15 rfl j, zero_add]
  exact Layer.sum_part (layer m c) (j 0) (j 1)

end Cert.Ffn1Ideal.Value

end
-- ==== Proof.Ffn1Ref.lean ====
/- The reference's gradients of the feed-forward block, entry by entry: layer 1. -/
module

public import proofs.«01_k».proof.Defs
public import proofs.«01_k».proof.Proof.Gen.Ffn1RefIdeal.Run
public import proofs.«01_k».proof.Proof.FfnSpec
public import Idealize.ShloMosaic.Lib.Pointwise

@[expose] public section

set_option maxRecDepth 16384
noncomputable section
open Idealize.ShloMosaic Idealize.ShloMosaic.TcCoe Idealize.SL.Sem
namespace Cert.Ffn1RefIdeal.Spec
open Cert.Ffn1RefIdeal Cert.Ffn1RefIdeal.Gen Cert.Ffn1RefIdeal.Value Cert.FfnSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4096x1024 .f32 := m ((c.tc : Thread nD τ).loc main_arg1)
abbrev arg2 : FVec Ideal S4x6x1024 .f32 := m ((c.tc : Thread nD τ).loc main_arg2)
abbrev arg4 : FVec Ideal S4x1024 .f32 := m ((c.tc : Thread nD τ).loc main_arg4)
abbrev arg5 : FVec Ideal S1024x4096 .f32 := m ((c.tc : Thread nD τ).loc main_arg5)
abbrev arg6 : FVec Ideal S4096x1024 .f32 := m ((c.tc : Thread nD τ).loc main_arg6)

/-- The mean squares of the rows, with the constant added. -/
def meanSq : FVec Ideal S4096x1 .f32 :=
  addf (Host.divf (broadcastInDim S4096x1 ![0] bcast_S4096_S4096x1_0 (Host.reduceAdd (mulf (arg1 m c) (arg1 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Their reciprocal roots. -/
def rinv : FVec Ideal S4096x1 .f32 := Host.rsqrt (meanSq m c)

/-- The normalised input without its gain. -/
def unitArr : FVec Ideal S4096x1024 .f32 :=
  mulf (arg1 m c) (broadcastInDim S4096x1024 ![0, 1] bcast_S4096x1_S4096x1024_0_1 (rinv m c))

/-- The norm's gain with its modulation, for every token. -/
def gainArr : FVec Ideal S4096x1024 .f32 :=
  broadcastInDim S4096x1024 ![0, 1] bcast_S1x1024_S4096x1024_0_1 (broadcastInDim S1x1024 ![1] bcast_S1024_S1x1024_1 (mulf (shapeCast _ (extractStridedSlice S1x1024 ![1, 0] (arg4 m c) slices_S4x1024_S1x1024_1_0) shapeCasts_S1x1024_S1024) (addf (broadcastInDim S1024 ![] bcast_S_S1024 (constant S_ .f32 0x3F800000#32)) (shapeCast _ (extractStridedSlice S1x1x1024 ![1, 4, 0] (arg2 m c) slices_S4x6x1024_S1x1x1024_1_4_0) shapeCasts_S1x1x1024_S1024))))

/-- The inner array before its activation. -/
def innerArr : FVec Ideal S4096x4096 .f32 :=
  Host.dotGeneral dot_S4096x1024_S1024x4096_S4096x4096_1_0_0_1_n_n none (addf (mulf (unitArr m c) (gainArr m c)) (broadcastInDim S4096x1024 ![0, 1] bcast_S1x1024_S4096x1024_0_1 (broadcastInDim S1x1024 ![1] bcast_S1024_S1x1024_1 (shapeCast _ (extractStridedSlice S1x1x1024 ![1, 3, 0] (arg2 m c) slices_S4x6x1024_S1x1x1024_1_3_0) shapeCasts_S1x1x1024_S1024)))) (arg5 m c)

/-- The positive part of the inner array. -/
def posArr : FVec Ideal S4096x4096 .f32 :=
  maximumf (innerArr m c) (broadcastInDim S4096x4096 ![] bcast_S_S4096x4096 (constant S_ .f32 0x00000000#32))

/-- The block's result before its gate. -/
def resultArr : FVec Ideal S4096x1024 .f32 :=
  Host.dotGeneral dot_S4096x4096_S4096x1024_S4096x1024_1_0_0_1_n_n none (mulf (posArr m c) (posArr m c)) (arg6 m c)

/-- The gradient of the block's result before its gate. -/
def dfArr : FVec Ideal S4096x1024 .f32 :=
  mulf (broadcastInDim S4096x1024 ![0, 1] bcast_S1x1024_S4096x1024_0_1 (broadcastInDim S1x1024 ![1] bcast_S1024_S1x1024_1 (shapeCast _ (extractStridedSlice S1x1x1024 ![1, 5, 0] (arg2 m c) slices_S4x6x1024_S1x1x1024_1_5_0) shapeCasts_S1x1x1024_S1024))) (shapeCast S4096x1024 (arg0 m c) shapeCasts_S4096x1024_S4096x1024)

/-- The gradient of the activated inner array. -/
def dpArr : FVec Ideal S4096x4096 .f32 := Host.dotGeneral dot_S4096x1024_S4096x1024_S4096x4096_1_1_0_0_n_n none (dfArr m c) (arg6 m c)

/-- The gradient of the inner array. -/
def daArr : FVec Ideal S4096x4096 .f32 :=
  select (cmpf .ogt (innerArr m c) (broadcastInDim S4096x4096 ![] bcast_S_S4096x4096 (constant S_ .f32 0x00000000#32))) (mulf (dpArr m c) (mulf (broadcastInDim S4096x4096 ![] bcast_S_S4096x4096 (constant S_ .f32 0x40000000#32)) (posArr m c))) (broadcastInDim S4096x4096 ![] bcast_S_S4096x4096 (constant S_ .f32 0x00000000#32))

/-- The gradient of the normalised input. -/
def dhArr : FVec Ideal S4096x1024 .f32 := Host.dotGeneral dot_S4096x4096_S1024x4096_S4096x1024_1_1_0_0_n_n none (daArr m c) (arg5 m c)

/-- That gradient with the gain. -/
def gainedArr : FVec Ideal S4096x1024 .f32 := mulf (dhArr m c) (gainArr m c)

/-- The factor of the input in the gradient through the mean square. -/
def slopeArr : FVec Ideal S4096x1024 .f32 :=
  broadcastInDim S4096x1024 ![0] bcast_S4096_S4096x1024_0 (Host.reduceAdd (Host.divf (mulf (shapeCast _ (Host.reduceAdd (mulf (arg1 m c) (gainedArr m c)) (constant S_ .f32 0x00000000#32) reducesTo_S4096x1024_S4096_d1 h_S_) shapeCasts_S4096_S4096x1) (mulf (broadcastInDim S4096x1 ![] bcast_S_S4096x1 (constant S_ .f32 0xBF000000#32)) (Host.divf (rinv m c) (meanSq m c)))) (broadcastInDim S4096x1 ![] bcast_S_S4096x1 (constant S_ .f32 0x44800000#32))) (constant S_ .f32 0x00000000#32) reducesTo_S4096x1_S4096_d1 h_S_)

/-- The gradient of the block's input. -/
def dxArr : FVec Ideal S4096x1024 .f32 :=
  addf (arg0 m c) (addf (addf (mulf (gainedArr m c) (broadcastInDim S4096x1024 ![0, 1] bcast_S4096x1_S4096x1024_0_1 (rinv m c))) (mulf (arg1 m c) (slopeArr m c))) (mulf (slopeArr m c) (arg1 m c)))

/-- The column sums of an array, as one row. -/
def colSums (v : FVec Ideal S4096x1024 .f32) : FVec Ideal S1x1024 .f32 :=
  broadcastInDim S1x1024 ![1] bcast_S1024_S1x1024_1 (Host.reduceAdd (shapeCast S1x1024 (Host.reduceAdd v (constant S_ .f32 0x00000000#32) reducesTo_S4096x1024_S1024_d0 h_S_) shapeCasts_S1024_S1x1024) (constant S_ .f32 0x00000000#32) reducesTo_S1x1024_S1024_d0 h_S_)

/-- The eight rows. -/
def rowsArr : FVec Ideal S8x1024 .f32 :=
  concatenate S8x1024 0 [⟨S1x1024, colSums (mulf (shapeCast S4096x1024 (arg0 m c) shapeCasts_S4096x1024_S4096x1024) (resultArr m c))⟩,
    ⟨S1x1024, colSums (mulf (unitArr m c) (dhArr m c))⟩, ⟨S1x1024, colSums (dhArr m c)⟩,
    ⟨S5x1024, broadcastInDim S5x1024 ![] bcast_S_S5x1024 (constant S_ .f32 0x00000000#32)⟩]
    concatenates_S1x1024_S1x1024_S1x1024_S5x1024_S8x1024_d0

theorem dx_named : res_out0 m c = dxArr m c := rfl

theorem rows_named : res_out4 m c = rowsArr m c := rfl

/-! ## Their entries -/

/-- The arrays of the block, from the arguments. -/
def layer : Layer where
  ct := fun n d => arg0 m c (ix2 n d)
  x := fun n d => arg1 m c (ix2 n d)
  a := fun n j => innerArr m c (ix2 n j)
  f := fun n d => resultArr m c (ix2 n d)
  gate := fun d => arg2 m c (ix3 1 5 d)
  gain := fun d => (show EReal from arg4 m c (ix2 1 d)) * (1 + (show EReal from arg2 m c (ix3 1 4 d)))
  w1 := fun a j => arg5 m c (ix2 a j)
  w2 := fun j a => arg6 m c (ix2 j a)

theorem df_at (n : Fin 4096) (d : Fin 1024) : dfArr m c (ix2 n d) = (layer m c).df n d := by
  pointwise [dfArr]
  exact EReal.mul_comm _ _

theorem dp_at (n : Fin 4096) (j : Fin 4096) : dpArr m c (ix2 n j) = (layer m c).dp n j := by
  pointwise [dpArr]
  simp only [df_at]
  rfl

theorem act_at (n : Fin 4096) (j : Fin 4096) :
    truncf (F := Ideal) .bf16 (mulf (posArr m c) (posArr m c)) bitsLt_bf16_f32 (ix2 n j) = (layer m c).act n j := by
  pointwise [posArr]
  rfl

theorem da_at (n : Fin 4096) (j : Fin 4096) : daArr m c (ix2 n j) = (layer m c).da n j := by
  pointwise [daArr, posArr]
  rw [dp_at]
  refine Eq.trans ?_ (back_choice ((layer m c).dp n j) ((layer m c).a n j))
  rfl

theorem dh_at (n : Fin 4096) (d : Fin 1024) : dhArr m c (ix2 n d) = (layer m c).dh n d := by
  pointwise [dhArr]
  simp only [da_at]
  rfl

theorem meanSq_at (n : Fin 4096) (k : Fin 1) : meanSq m c (ix2 n k) = NormBack.meanSq ((layer m c).x n) := by
  pointwise [meanSq]
  rfl

theorem rinv_at (n : Fin 4096) (k : Fin 1) : rinv m c (ix2 n k) = NormBack.rinv ((layer m c).x n) := by
  pointwise [rinv]
  rw [meanSq_at]
  rfl

theorem gained_at (n : Fin 4096) (d : Fin 1024) : gainedArr m c (ix2 n d) = (layer m c).dh n d * (layer m c).gain d := by
  pointwise [gainedArr, gainArr]
  rw [dh_at]
  rfl

theorem slope_at (n : Fin 4096) (d : Fin 1024) :
    slopeArr m c (ix2 n d) = NormBack.slope ((layer m c).x n) fun k => (layer m c).dh n k * (layer m c).gain k := by
  pointwise [slopeArr]
  rw [Fin.sum_univ_one]
  simp only [meanSq_at, rinv_at, gained_at]
  rfl

/-- The reference's gradient of the block's input. -/
theorem dx_at (n : Fin 4096) (d : Fin 1024) : dxArr m c (ix2 n d) = (layer m c).dx n d := by
  pointwise [dxArr]
  rw [slope_at, gained_at, rinv_at]
  unfold Layer.dx
  rw [NormBack.back_eq]
  rfl

theorem unit_at (n : Fin 4096) (d : Fin 1024) : unitArr m c (ix2 n d) = unit (layer m c).x n d := by
  pointwise [unitArr]
  rw [rinv_at]
  rfl

/-- The reference's column sums. -/
theorem rows_at (k : Fin 8) (d : Fin 1024) : rowsArr m c (ix2 k d) = (layer m c).rows k d := by
  pointwise [rowsArr, colSums]
  simp only [Fin.sum_univ_one, dh_at, unit_at]
  match k with
  | 0 => rfl
  | 1 =>
    refine Eq.trans (?_ : _ = ∑ n, unit (layer m c).x n d * (layer m c).dh n d) (Finset.sum_congr rfl fun n _ => mul_comm _ _)
    rfl
  | 2 => rfl
  | 3 => rfl
  | 4 => rfl
  | 5 => rfl
  | 6 => rfl
  | 7 => rfl

end Cert.Ffn1RefIdeal.Spec

end
-- ==== Proof.Ffn1Host.lean ====
/- The feed-forward block's kernel and its reference start from the same arrays of the arguments: layer 1. -/
module

public import proofs.«01_k».proof.Proof.Ffn1Rows
public import proofs.«01_k».proof.Proof.Ffn1Ref

@[expose] public section
set_option maxRecDepth 16384
noncomputable section
open Idealize.ShloMosaic Idealize.ShloMosaic.TcCoe Idealize.SL.Sem
namespace Cert.Ffn1Ideal.Value
open Cert.Ffn1Ideal Cert.Ffn1Ideal.Gen Cert.FfnSpec
variable (m : (ℓ : Loc nD τ sig) → Buf (Elt Ideal) ℓ) (c : Dev nD)
  (W : (ℓ : Loc Cert.Ffn1RefIdeal.nD Cert.Ffn1RefIdeal.τ Cert.Ffn1RefIdeal.sig) → Buf (Elt Ideal) ℓ)
  (c' : Dev Cert.Ffn1RefIdeal.nD)

/-! ## The parameters that the host packs -/

theorem flat : List.flatten [hostOps0 (F := Ideal), hostOps0_1, hostOps0_2] = (hostOps0 ++ hostOps0_1) ++ hostOps0_2 := by
  simp only [List.flatten_cons, List.flatten_nil, List.append_nil, List.append_assoc]

/-- The host operations up to the call of the positive part, then those after it. -/
theorem split (b : DevRef τ sig) : StableHlo.after (List.flatten [hostOps0 (F := Ideal), hostOps0_1, hostOps0_2]) (fun b => m (c, b)) b
    = StableHlo.after (hostOps0_2 (F := Ideal)) (StableHlo.after ((hostOps0 (F := Ideal)) ++ hostOps0_1) (fun b => m (c, b))) b := by
  rw [flat, StableHlo.after_append]

theorem first_main_arg2 : StableHlo.after ((hostOps0 (F := Ideal)) ++ hostOps0_1) (fun b => m (c, b)) (Proc.devRef .tc main_arg2) = m (c, Proc.devRef .tc main_arg2) := by
  unfold hostOps0 hostOps0_1
  simp only [List.cons_append, List.nil_append]
  simp only [StableHlo.after_cons, StableHlo.after_nil]
  after_results_loop
  rfl

theorem first_main_arg4 : StableHlo.after ((hostOps0 (F := Ideal)) ++ hostOps0_1) (fun b => m (c, b)) (Proc.devRef .tc main_arg4) = m (c, Proc.devRef .tc main_arg4) := by
  unfold hostOps0 hostOps0_1
  simp only [List.cons_append, List.nil_append]
  simp only [StableHlo.after_cons, StableHlo.after_nil]
  after_results_loop
  rfl

theorem first_main_arg5 : StableHlo.after ((hostOps0 (F := Ideal)) ++ hostOps0_1) (fun b => m (c, b)) (Proc.devRef .tc main_arg5) = m (c, Proc.devRef .tc main_arg5) := by
  unfold hostOps0 hostOps0_1
  simp only [List.cons_append, List.nil_append]
  simp only [StableHlo.after_cons, StableHlo.after_nil]
  after_results_loop
  rfl

theorem first_main_arg6 : StableHlo.after ((hostOps0 (F := Ideal)) ++ hostOps0_1) (fun b => m (c, b)) (Proc.devRef .tc main_arg6) = m (c, Proc.devRef .tc main_arg6) := by
  unfold hostOps0 hostOps0_1
  simp only [List.cons_append, List.nil_append]
  simp only [StableHlo.after_cons, StableHlo.after_nil]
  after_results_loop
  rfl

theorem pv_eq (U : Valuation τ sig (Elt Ideal)) :
    StableHlo.after (hostOps0_2 (F := Ideal)) U (Proc.devRef .tc main_v31) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0_2
  after_results_simp
  try dsimp only [Matrix.cons_val]
  try after_results_simp
  try rfl

theorem pv_rows (k : Fin 8) (hk : k.val < 6) (d : Fin 1024) :
    V m c main_v31 (ix3 1 k d) = m (c, Proc.devRef .tc main_arg2) (ix3 1 ⟨k.val, hk⟩ d) := by
  refine (congrFun (split m c _) _).trans ?_
  rw [pv_eq]
  refine Eq.trans ?_ (congrFun (first_main_arg2 m c) _)
  generalize StableHlo.after ((hostOps0 (F := Ideal)) ++ hostOps0_1) (fun b => m (c, b)) = U
  pointwise
  rw [dif_pos hk]

theorem pv_norm (k : Fin 8) (hk : k.val = 7) (d : Fin 1024) :
    V m c main_v31 (ix3 1 k d) = m (c, Proc.devRef .tc main_arg4) (ix2 1 d) := by
  refine (congrFun (split m c _) _).trans ?_
  rw [pv_eq]
  refine Eq.trans ?_ (congrFun (first_main_arg4 m c) _)
  generalize StableHlo.after ((hostOps0 (F := Ideal)) ++ hostOps0_1) (fun b => m (c, b)) = U
  pointwise
  rw [dif_neg (by omega), dif_neg (by omega)]

theorem w1_eq (U : Valuation τ sig (Elt Ideal)) (a : Fin 1024) (j : Fin 4096) :
    StableHlo.after (hostOps0_2 (F := Ideal)) U (Proc.devRef .tc main_v33) (ix3 0 a j) = U (Proc.devRef .tc main_arg5) (ix2 a j) := by
  unfold hostOps0_2
  after_results_simp
  pointwise

theorem w2_eq (U : Valuation τ sig (Elt Ideal)) (j : Fin 4096) (a : Fin 1024) :
    StableHlo.after (hostOps0_2 (F := Ideal)) U (Proc.devRef .tc main_v35) (ix3 0 j a) = U (Proc.devRef .tc main_arg6) (ix2 j a) := by
  unfold hostOps0_2
  after_results_simp
  pointwise

theorem w1_at (a : Fin 1024) (j : Fin 4096) : V m c main_v33 (ix3 0 a j) = m (c, Proc.devRef .tc main_arg5) (ix2 a j) :=
  (congrFun (split m c _) _).trans ((w1_eq _ a j).trans (congrFun (first_main_arg5 m c) _))

theorem w2_at (j : Fin 4096) (a : Fin 1024) : V m c main_v35 (ix3 0 j a) = m (c, Proc.devRef .tc main_arg6) (ix2 j a) :=
  (congrFun (split m c _) _).trans ((w2_eq _ j a).trans (congrFun (first_main_arg6 m c) _))

/-! ## The two programs' arrays -/

/-- The reference starts from the kernel's arguments. -/
structure SameArgs : Prop where
  a0 : W ((c'.tc : Thread Cert.Ffn1RefIdeal.nD Cert.Ffn1RefIdeal.τ).loc Cert.Ffn1RefIdeal.main_arg0) = m ((c.tc : Thread nD τ).loc main_arg0)
  a1 : W ((c'.tc : Thread Cert.Ffn1RefIdeal.nD Cert.Ffn1RefIdeal.τ).loc Cert.Ffn1RefIdeal.main_arg1) = m ((c.tc : Thread nD τ).loc main_arg1)
  a2 : W ((c'.tc : Thread Cert.Ffn1RefIdeal.nD Cert.Ffn1RefIdeal.τ).loc Cert.Ffn1RefIdeal.main_arg2) = m ((c.tc : Thread nD τ).loc main_arg2)
  a4 : W ((c'.tc : Thread Cert.Ffn1RefIdeal.nD Cert.Ffn1RefIdeal.τ).loc Cert.Ffn1RefIdeal.main_arg4) = m ((c.tc : Thread nD τ).loc main_arg4)
  a5 : W ((c'.tc : Thread Cert.Ffn1RefIdeal.nD Cert.Ffn1RefIdeal.τ).loc Cert.Ffn1RefIdeal.main_arg5) = m ((c.tc : Thread nD τ).loc main_arg5)
  a6 : W ((c'.tc : Thread Cert.Ffn1RefIdeal.nD Cert.Ffn1RefIdeal.τ).loc Cert.Ffn1RefIdeal.main_arg6) = m ((c.tc : Thread nD τ).loc main_arg6)

variable {m c W c'} (s : SameArgs m c W c')
include s
open Cert.Ffn1RefIdeal.Spec (innerArr unitArr rinv meanSq gainArr posArr resultArr)

theorem same_inner : V m c main_v25 = innerArr W c' := by
  simp only [innerArr, unitArr, rinv, meanSq, gainArr, Cert.Ffn1RefIdeal.Spec.arg1, Cert.Ffn1RefIdeal.Spec.arg2,
    Cert.Ffn1RefIdeal.Spec.arg4, Cert.Ffn1RefIdeal.Spec.arg5, s.a1, s.a2, s.a4, s.a5]
  entry_read
  rfl

theorem same_result : V m c main_v28 = resultArr W c' := by
  unfold resultArr posArr Cert.Ffn1RefIdeal.Spec.arg6
  rw [← same_inner s, s.a6]
  entry_read
  rfl

theorem same_gain (d : Fin 1024) : (layer m c).gain d = (Cert.Ffn1RefIdeal.Spec.layer W c').gain d := by
  have h1 : (show EReal from V m c main_v31 (ix3 1 7 d)) = Cert.Ffn1RefIdeal.Spec.arg4 W c' (ix2 1 d) :=
    (pv_norm m c 7 rfl d).trans (congrFun s.a4 (ix2 1 d)).symm
  have h2 : (show EReal from V m c main_v31 (ix3 1 4 d)) = Cert.Ffn1RefIdeal.Spec.arg2 W c' (ix3 1 4 d) :=
    (pv_rows m c 4 (by decide) d).trans (congrFun s.a2 (ix3 1 4 d)).symm
  show (show EReal from V m c main_v31 (ix3 1 7 d)) * (1 + (show EReal from V m c main_v31 (ix3 1 4 d))) = _
  rw [h1, h2]
  rfl

theorem same_gate (d : Fin 1024) : (layer m c).gate d = (Cert.Ffn1RefIdeal.Spec.layer W c').gate d :=
  (pv_rows m c 5 (by decide) d).trans (congrFun s.a2 (ix3 1 5 d)).symm

theorem same_w1 (a : Fin 1024) (j : Fin 4096) : (layer m c).w1 a j = (Cert.Ffn1RefIdeal.Spec.layer W c').w1 a j :=
  (w1_at m c a j).trans (congrFun s.a5 (ix2 a j)).symm

theorem same_w2 (j : Fin 4096) (a : Fin 1024) : (layer m c).w2 j a = (Cert.Ffn1RefIdeal.Spec.layer W c').w2 j a :=
  (w2_at m c j a).trans (congrFun s.a6 (ix2 j a)).symm

theorem same_ct (n : Fin 4096) (d : Fin 1024) : (layer m c).ct n d = (Cert.Ffn1RefIdeal.Spec.layer W c').ct n d :=
  (congrFun (V_main_arg0 m c) (ix2 n d)).trans (congrFun s.a0 (ix2 n d)).symm

theorem same_x (n : Fin 4096) (d : Fin 1024) : (layer m c).x n d = (Cert.Ffn1RefIdeal.Spec.layer W c').x n d :=
  (congrFun (V_main_arg1 m c) (ix2 n d)).trans (congrFun s.a1 (ix2 n d)).symm

theorem same_a (n j : Fin 4096) : (layer m c).a n j = (Cert.Ffn1RefIdeal.Spec.layer W c').a n j := by
  show V m c main_v25 (ix2 n j) = innerArr W c' (ix2 n j)
  rw [same_inner s]

theorem same_f (n : Fin 4096) (d : Fin 1024) : (layer m c).f n d = (Cert.Ffn1RefIdeal.Spec.layer W c').f n d := by
  show V m c main_v28 (ix2 n d) = resultArr W c' (ix2 n d)
  rw [same_result s]

/-- The kernel's block is the reference's. -/
theorem same_layer : layer m c = Cert.Ffn1RefIdeal.Spec.layer W c' := by
  have h0 := same_ct s
  have h1 := same_x s
  have h2 := same_a s
  have h3 := same_f s
  have h4 := same_gate s
  have h5 := same_gain s
  have h6 := same_w1 s
  have h7 := same_w2 s
  exact layer_eq _ _ h0 h1 h2 h3 h4 h5 h6 h7

end Cert.Ffn1Ideal.Value

namespace Cert.Proof

/-- The reference's host operations leave its arguments unchanged, and it declares no semaphore. -/
theorem frame_reference_Ffn1 : Cert.quiescent_Ffn1RefIdeal := fun m ρ _ =>
  (θ_run Cert.Ffn1RefIdeal.defs _ _).mono
    (fun r h => ⟨fun c => (h c).2.2.2.2.2, sem_eq_zero_of_no_sems (by decide) r.2⟩)
    (Cert.Ffn1RefIdeal.Value.run (F := Ideal) m ρ)

/-- From the same arguments the kernel and the reference end with the same five results. -/
theorem algebraic_Ffn1 : Cert.algebraic_Ffn1Ideal_Ffn1RefIdeal := by
  intro m g m' g' _ he
  have hs : ∀ c, Cert.Ffn1Ideal.Value.SameArgs m c m' c := fun c =>
    ⟨(he c).1, (he c).2.1, (he c).2.2.1, (he c).2.2.2.2.1, (he c).2.2.2.2.2.1, (he c).2.2.2.2.2.2⟩
  refine ⟨fun c i => (Cert.Ffn1Ideal.Value.layer m c).dx (i 0) (i 1), fun c i => (Cert.Ffn1Ideal.Value.layer m c).act (i 0) (i 1),
    fun c i => (Cert.Ffn1Ideal.Value.layer m c).da (i 0) (i 1), fun c i => (Cert.Ffn1Ideal.Value.layer m c).df (i 0) (i 1),
    fun c i => (Cert.Ffn1Ideal.Value.layer m c).rows (i 0) (i 1), ?_, ?_⟩
  · refine (θ_run Cert.Ffn1Ideal.defs _ _).mono (fun r h c => ?_) (Cert.Ffn1Ideal.Value.run_blocks (F := Ideal) m g)
    obtain ⟨h0, h1, h2, h3, h4, ha⟩ := h c
    exact ⟨h0.trans (Cert.Ffn1Ideal.Value.final7 m c), h1.trans (Cert.Ffn1Ideal.Value.final8 m c),
      h2.trans (Cert.Ffn1Ideal.Value.final9 m c), h3.trans (Cert.Ffn1Ideal.Value.final10 m c),
      h4.trans (Cert.Ffn1Ideal.Value.final11 m c), ha⟩
  · refine (θ_run Cert.Ffn1RefIdeal.defs _ _).mono (fun r h c => ?_) (Cert.Ffn1RefIdeal.Value.run (F := Ideal) m' g')
    obtain ⟨h0, h1, h2, h3, h4, ha⟩ := h c
    have e := Cert.Ffn1Ideal.Value.same_layer (hs c)
    refine ⟨h0.trans (funext fun i => ?_), h1.trans (funext fun i => ?_), h2.trans (funext fun i => ?_), h3.trans (funext fun i => ?_),
      h4.trans (funext fun i => ?_), ha⟩
    · exact (congrArg _ (eq_ix2 i)).trans ((Cert.Ffn1RefIdeal.Spec.dx_at m' c (i 0) (i 1)).trans (congrArg (fun L => Cert.FfnSpec.Layer.dx L (i 0) (i 1)) e.symm))
    · exact (congrArg _ (eq_ix2 i)).trans ((Cert.Ffn1RefIdeal.Spec.act_at m' c (i 0) (i 1)).trans (congrArg (fun L => Cert.FfnSpec.Layer.act L (i 0) (i 1)) e.symm))
    · exact (congrArg _ (eq_ix2 i)).trans ((Cert.Ffn1RefIdeal.Spec.da_at m' c (i 0) (i 1)).trans (congrArg (fun L => Cert.FfnSpec.Layer.da L (i 0) (i 1)) e.symm))
    · exact (congrArg _ (eq_ix2 i)).trans ((Cert.Ffn1RefIdeal.Spec.df_at m' c (i 0) (i 1)).trans (congrArg (fun L => Cert.FfnSpec.Layer.df L (i 0) (i 1)) e.symm))
    · exact (congrArg _ (eq_ix2 i)).trans ((Cert.Ffn1RefIdeal.Spec.rows_at m' c (i 0) (i 1)).trans (congrArg (fun L => Cert.FfnSpec.Layer.rows L (i 0) (i 1)) e.symm))

end Cert.Proof

end
-- ==== Proof.Ffn2Tile.lean ====
/- What one tile of the feed-forward block's backward call computes, entry by entry: layer 2. -/
module

public import proofs.«01_k».proof.Defs
public import proofs.«01_k».proof.Proof.Gen.Ffn2Ideal.Skeleton
public import proofs.«01_k».proof.Proof.FfnSpec
public import Idealize.ShloMosaic.Lib.Pointwise

@[expose] public section

set_option maxRecDepth 16384
noncomputable section
open Idealize.ShloMosaic Idealize.ShloMosaic.TcCoe Idealize.SL.Sem

namespace Cert.Ffn2Ideal.Tile

open Cert.Ffn2Ideal Cert.Ffn2Ideal.Gen Cert.FfnSpec Cert

variable {q : Fin 16} {L : Layer}

/-- `v` holds tile `q` of the array `f`. -/
def Holds (q : Fin 16) (v : S256x1024.Idx → EReal) (f : Tok) : Prop := ∀ (r : Fin 256) (d : Fin 1024), v (ix2 r d) = f (row q r) d

/-- `v` holds tile `q` of the inner array `f`. -/
def HoldsInner (q : Fin 16) (v : S256x4096.Idx → EReal) (f : Inner) : Prop := ∀ (r : Fin 256) (j : Fin 4096), v (ix2 r j) = f (row q r) j

theorem df_at (b0 : Vec Ideal S256x1024 .f32) (b4 : Vec Ideal S1x8x1024 .f32) (h0 : Holds q b0 L.ct)
    (h4 : ∀ d, b4 (ix3 0 5 d) = L.gate d) : Holds q (k0_pay5 b0 b4) L.df := fun r d => by
  pointwise [k0_pay5, k0_pay4]
  rw [h0 r d, h4]
  rfl

theorem dp_at (b0 : Vec Ideal S256x1024 .f32) (b4 : Vec Ideal S1x8x1024 .f32) (b6 : Vec Ideal S1x4096x1024 .bf16)
    (h : Holds q (k0_pay5 b0 b4) L.df) (h6 : ∀ j d, b6 (ix3 0 j d) = L.w2 j d) : HoldsInner q (k0_pay7 b0 b4 b6) L.dp := fun r j => by
  pointwise [k0_pay7]
  exact Finset.sum_congr rfl fun k _ => by rw [h r k, h6]

theorem act_at (b2 : Vec Ideal S256x4096 .f32) (h2 : HoldsInner q b2 L.a) : HoldsInner q (k0_pay9 b2) L.act := fun r j => by
  pointwise [k0_pay9, k0_pay8]
  rw [h2 r j]
  rfl

theorem da_at (v22 : FVec Ideal S256x4096 .f32) (b2 : Vec Ideal S256x4096 .f32) (h : HoldsInner q v22 L.dp) (h2 : HoldsInner q b2 L.a) :
    HoldsInner q (k0_pay10 v22 (k0_pay8 b2)) L.da := fun r j => by
  pointwise [k0_pay10, k0_pay8]
  rw [h r j, h2 r j]
  rfl

theorem dh_at (v22 : FVec Ideal S256x4096 .f32) (b2 : Vec Ideal S256x4096 .f32) (b5 : Vec Ideal S1x1024x4096 .bf16)
    (h : HoldsInner q (k0_pay10 v22 (k0_pay8 b2)) L.da) (h5 : ∀ d j, b5 (ix3 0 d j) = L.w1 d j) :
    Holds q (k0_pay11 v22 (k0_pay8 b2) b5) L.dh := fun r d => by
  pointwise [k0_pay11]
  exact Finset.sum_congr rfl fun k _ => by rw [h r k, h5]

theorem unit_at (b1 : Vec Ideal S256x1024 .f32) (h1 : Holds q b1 L.x) : Holds q (k0_pay13 b1) (unit L.x) := fun r d => by
  pointwise [k0_pay13, k0_pay12]
  simp only [h1 r]
  rfl

theorem dx_at (b0 : Vec Ideal S256x1024 .f32) (b4 : Vec Ideal S1x8x1024 .f32) (v22 v26 : FVec Ideal S256x4096 .f32)
    (b5 : Vec Ideal S1x1024x4096 .bf16) (b1 : Vec Ideal S256x1024 .f32) (h0 : Holds q b0 L.ct) (h1 : Holds q b1 L.x)
    (h : Holds q (k0_pay11 v22 v26 b5) L.dh) (hg : ∀ d, b4 (ix3 0 7 d) * (1 + b4 (ix3 0 4 d)) = L.gain d) :
    Holds q (k0_pay14 b0 (k0_pay4 b4) v22 v26 b5 b1) L.dx := fun r d => by
  pointwise [k0_pay14, k0_pay13, k0_pay12, k0_pay4]
  simp only [hg, h0 r, h1 r, h r]
  rfl

/-! ## The column sums that a tile adds -/

theorem row0_at (b0 : Vec Ideal S256x1024 .f32) (acc : Vec Ideal S1x1024 .f32) (b3 : Vec Ideal S256x1024 .f32)
    (h0 : Holds q b0 L.ct) (h3 : Holds q b3 L.f) (d : Fin 1024) :
    k0_pay6 b0 acc b3 (ix2 0 d) = acc (ix2 0 d) + L.part q 0 d := by
  pointwise [k0_pay6]
  congr 1
  exact Finset.sum_congr rfl fun r _ => by rw [h0 r d, h3 r d]

theorem row1_at (v37 v48 : FVec Ideal S256x1024 .f32) (acc : Vec Ideal S1x1024 .f32)
    (h : Holds q v37 L.dh) (h1 : Holds q v48 (unit L.x)) (d : Fin 1024) :
    k0_pay1 v37 v48 acc (ix2 0 d) = acc (ix2 0 d) + L.part q 1 d := by
  pointwise [k0_pay1]
  congr 1
  exact Finset.sum_congr rfl fun r _ => by rw [h r d, h1 r d]

theorem row2_at (v37 : FVec Ideal S256x1024 .f32) (acc : Vec Ideal S1x1024 .f32) (h : Holds q v37 L.dh) (d : Fin 1024) :
    k0_pay2 v37 acc (ix2 0 d) = acc (ix2 0 d) + L.part q 2 d := by
  pointwise [k0_pay2]
  congr 1
  exact Finset.sum_congr rfl fun r _ => by rw [h r d]

end Cert.Ffn2Ideal.Tile

end
-- ==== Proof.Ffn2Blocks.lean ====
/- What a grid point of the feed-forward block's backward call reads and computes, and the arrays that the call leaves:
   layer 2. -/
module

public import proofs.«01_k».proof.Defs
public import proofs.«01_k».proof.Proof.Gen.Ffn2Ideal.Value
public import Idealize.ShloMosaic.Lib.Pipeline.ValueKit
public import Idealize.ShloMosaic.Lib.Pointwise
public import Idealize.ShloMosaic.Lib.Claim
public import proofs.«01_k».proof.Proof.Ffn2Tile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Ffn2Ideal.Value
open Cert.Ffn2Ideal Cert.Ffn2Ideal.Gen Cert.Ffn2Ideal.Tile Cert.FfnSpec Cert
variable (m : (ℓ : Loc nD τ sig) → Buf (Elt Ideal) ℓ)

/-- The tile that grid point `t` works on. -/
def tile (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0]
    ∧ win0_3.index t = ![t.val, 0] ∧ win0_4.index t = ![2, 0, 0] ∧ win0_5.index t = ![0, 0, 0] ∧ win0_6.index t = ![0, 0, 0] :=
  (by decide +kernel : ∀ t : Fin grid0.N, _)

/-- The block's arrays as the call finds them. -/
def layer (c : Dev nD) : Layer where
  ct := fun n d => V m c main_arg0 (ix2 n d)
  x := fun n d => V m c main_arg1 (ix2 n d)
  a := fun n j => V m c main_v25 (ix2 n j)
  f := fun n d => V m c main_v28 (ix2 n d)
  gate := fun d => V m c main_v31 (ix3 2 5 d)
  gain := fun d => (show EReal from V m c main_v31 (ix3 2 7 d)) * (1 + (show EReal from V m c main_v31 (ix3 2 4 d)))
  w1 := fun a j => V m c main_v33 (ix3 0 a j)
  w2 := fun j a => V m c main_v35 (ix3 0 j a)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : HoldsInner (tile t) (iblk m c 2 t) (layer m c).a := fun r d => by
  unfold layer tile row
  blk_point [iblk, idx t]

theorem blk3 : Holds (tile t) (iblk m c 3 t) (layer m c).f := fun r d => by
  unfold layer tile row
  blk_point [iblk, idx t]

/-- A row of the modulation block. -/
theorem blk4 (s : Fin 8) (d : Fin 1024) : iblk m c 4 t (ix3 0 s d) = V m c main_v31 (ix3 2 s d) := by
  blk_point [iblk, idx t]

theorem blk4_gate (d : Fin 1024) : iblk m c 4 t (ix3 0 5 d) = (layer m c).gate d := blk4 m c t 5 d

theorem blk4_gain (d : Fin 1024) : (show EReal from iblk m c 4 t (ix3 0 7 d)) * (1 + (show EReal from iblk m c 4 t (ix3 0 4 d))) = (layer m c).gain d := by
  rw [blk4 m c t 7 d, blk4 m c t 4 d]
  rfl

theorem blk5 (a : Fin 1024) (j : Fin 4096) : iblk m c 5 t (ix3 0 a j) = (layer m c).w1 a j := by
  unfold layer
  blk_point [iblk, idx t]

theorem blk6 (j : Fin 4096) (a : Fin 1024) : iblk m c 6 t (ix3 0 j a) = (layer m c).w2 j a := by
  unfold layer
  blk_point [iblk, idx t]

theorem df : Holds (tile t) (k0_pay5 (iblk m c 0 t) (iblk m c 4 t)) (layer m c).df :=
  df_at _ _ (blk0 m c t) (blk4_gate m c t)

theorem dp : HoldsInner (tile t) (k0_pay7 (iblk m c 0 t) (iblk m c 4 t) (iblk m c 6 t)) (layer m c).dp :=
  dp_at _ _ _ (df m c t) (blk6 m c t)

theorem da : HoldsInner (tile t) (k0_pay10 (k0_pay7 (iblk m c 0 t) (iblk m c 4 t) (iblk m c 6 t)) (k0_pay8 (iblk m c 2 t))) (layer m c).da :=
  da_at _ _ (dp m c t) (blk2 m c t)

theorem dh : Holds (tile t) (k0_pay11 (k0_pay7 (iblk m c 0 t) (iblk m c 4 t) (iblk m c 6 t)) (k0_pay8 (iblk m c 2 t)) (iblk m c 5 t)) (layer m c).dh :=
  dh_at _ _ _ (da m c t) (blk5 m c t)

theorem dx : Holds (tile t) (k0_pay14 (iblk m c 0 t) (k0_pay4 (iblk m c 4 t)) (k0_pay7 (iblk m c 0 t) (iblk m c 4 t) (iblk m c 6 t))
    (k0_pay8 (iblk m c 2 t)) (iblk m c 5 t) (iblk m c 1 t)) (layer m c).dx :=
  dx_at _ _ _ _ _ _ (blk0 m c t) (blk1 m c t) (dh m c t) (blk4_gain m c t)

theorem act : HoldsInner (tile t) (k0_pay9 (iblk m c 2 t)) (layer m c).act := act_at _ (blk2 m c t)

theorem xn : Holds (tile t) (k0_pay13 (iblk m c 1 t)) (unit (layer m c).x) := unit_at _ (blk1 m c t)

/-! ## What a grid point writes back -/

theorem out7 : Holds (tile t) (outsAt0 m c t.val t.isLt).1 (layer m c).dx := fun r d => by
  by_cases h : t.val % 16 = 0
  · rw [outsAt0_A m c t h]
    frame_out
    exact dx m c t r d
  · rw [outsAt0_B m c t h]
    frame_out
    exact dx m c t r d

theorem out8 : HoldsInner (tile t) (outsAt0 m c t.val t.isLt).2.1 (layer m c).act := fun r d => by
  by_cases h : t.val % 16 = 0
  · rw [outsAt0_A m c t h]
    frame_out
    exact act m c t r d
  · rw [outsAt0_B m c t h]
    frame_out
    exact act m c t r d

theorem out9 : HoldsInner (tile t) (outsAt0 m c t.val t.isLt).2.2.1 (layer m c).da := fun r d => by
  by_cases h : t.val % 16 = 0
  · rw [outsAt0_A m c t h]
    frame_out
    exact da m c t r d
  · rw [outsAt0_B m c t h]
    frame_out
    exact da m c t r d

theorem out10 : Holds (tile t) (outsAt0 m c t.val t.isLt).2.2.2.1 (layer m c).df := fun r d => by
  by_cases h : t.val % 16 = 0
  · rw [outsAt0_A m c t h]
    frame_out
    exact df m c t r d
  · rw [outsAt0_B m c t h]
    frame_out
    exact df m c t r d

/-! ## The arrays after the call -/

theorem idxOut : ∀ t : Fin cfg0.N, win0_7.index t = ![t.val, 0] ∧ win0_8.index t = ![t.val, 0] ∧ win0_9.index t = ![t.val, 0]
    ∧ win0_10.index t = ![t.val, 0] :=
  (by decide +kernel : ∀ t : Fin grid0.N, _)

theorem emb7 (y : S256x1024.Idx) : ((View.whole main_v36_0).slice (win0_7.rect t)).emb y = ix2 (row (tile t) (y 0)) (y 1) := by
  unfold row tile
  blk_ext [idxOut t]

theorem emb8 (y : S256x4096.Idx) : ((View.whole main_v36_1).slice (win0_8.rect t)).emb y = ix2 (row (tile t) (y 0)) (y 1) := by
  unfold row tile
  blk_ext [idxOut t]

theorem emb9 (y : S256x4096.Idx) : ((View.whole main_v36_2).slice (win0_9.rect t)).emb y = ix2 (row (tile t) (y 0)) (y 1) := by
  unfold row tile
  blk_ext [idxOut t]

theorem emb10 (y : S256x1024.Idx) : ((View.whole main_v36_3).slice (win0_10.rect t)).emb y = ix2 (row (tile t) (y 0)) (y 1) := by
  unfold row tile
  blk_ext [idxOut t]

/-- The gradient of the block's input, as the call leaves it. -/
theorem final7 : (dats m 0 c).arrAt 7 (cfgs 0).N = (fun i => (layer m c).dx (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-- The activated inner array. -/
theorem final8 : (dats m 0 c).arrAt 8 (cfgs 0).N = (fun i => (layer m c).act (i 0) (i 1) : S4096x4096.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

/-- The gradient of the inner array. -/
theorem final9 : (dats m 0 c).arrAt 9 (cfgs 0).N = (fun i => (layer m c).da (i 0) (i 1) : S4096x4096.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

/-- The gradient of the block's result before its gate. -/
theorem final10 : (dats m 0 c).arrAt 10 (cfgs 0).N = (fun i => (layer m c).df (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

end Cert.Ffn2Ideal.Value

end
-- ==== Proof.Ffn2Rows.lean ====
/- The rows of column sums that the feed-forward block's backward call accumulates: layer 2. -/
module

public import proofs.«01_k».proof.Proof.Ffn2Blocks

@[expose] public section

set_option maxRecDepth 16384
noncomputable section
open Idealize.ShloMosaic Idealize.ShloMosaic.TcCoe Idealize.SL.Sem
open Idealize.ShloMosaic.Pipeline (Dat)
namespace Cert.Ffn2Ideal.Value
open Cert.Ffn2Ideal Cert.Ffn2Ideal.Gen Cert.Ffn2Ideal.Tile Cert.FfnSpec Cert
variable (m : (ℓ : Loc nD τ sig) → Buf (Elt Ideal) ℓ)

variable (c : Dev nD) (t : Fin cfg0.N)

/-- The row of the gate: reset at the first point, added to at the others. -/
theorem row0_A (h : t.val % 16 = 0) (d : Fin 1024) :
    (outsAt0 m c t.val t.isLt).2.2.2.2 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk3 m c t) d).trans (congrArg (· + _) ?_)
  simp (disch := decide) only [RowBuffer.readCov_row, RowBuffer.read_hit, RowBuffer.read_miss, RowBuffer.read_fill]
  pointwise [k0_pay3]

theorem row0_B (h : ¬ t.val % 16 = 0) (hb : t.val - 1 < cfg0.N) (d : Fin 1024) :
    (outsAt0 m c t.val t.isLt).2.2.2.2 (ix2 (⟨0, by decide⟩ : Fin 8) d)
      = (outsAt0 m c (t.val - 1) hb).2.2.2.2 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk3 m c t) d).trans (congrArg (· + _) ?_)
  exact RowBuffer.ld_row _ _ (by decide) d

/-- The row of the norm's gain: reset at the first point, added to at the others. -/
theorem row1_A (h : t.val % 16 = 0) (d : Fin 1024) :
    (outsAt0 m c t.val t.isLt).2.2.2.2 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ (dh m c t) (xn m c t) d).trans (congrArg (· + _) ?_)
  simp (disch := decide) only [RowBuffer.readCov_row, RowBuffer.read_hit, RowBuffer.read_miss, RowBuffer.read_fill]
  pointwise [k0_pay3]

theorem row1_B (h : ¬ t.val % 16 = 0) (hb : t.val - 1 < cfg0.N) (d : Fin 1024) :
    (outsAt0 m c t.val t.isLt).2.2.2.2 (ix2 (⟨1, by decide⟩ : Fin 8) d)
      = (outsAt0 m c (t.val - 1) hb).2.2.2.2 (ix2 (⟨1, by decide⟩ : Fin 8) d) + (layer m c).part (tile t) 1 d := by
  rw [outsAt0_B m c t h]
  frame_out
  simp (disch := decide) only [RowBuffer.read_hit, RowBuffer.read_miss]
  refine (row1_at _ _ _ (dh m c t) (xn m c t) d).trans (congrArg (· + _) ?_)
  exact RowBuffer.ld_row _ _ (by decide) d

/-- The row of the norm's shift: reset at the first point, added to at the others. -/
theorem row2_A (h : t.val % 16 = 0) (d : Fin 1024) :
    (outsAt0 m c t.val t.isLt).2.2.2.2 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ (dh m c t) d).trans (congrArg (· + _) ?_)
  simp (disch := decide) only [RowBuffer.readCov_row, RowBuffer.read_hit, RowBuffer.read_miss, RowBuffer.read_fill]
  pointwise [k0_pay3]

theorem row2_B (h : ¬ t.val % 16 = 0) (hb : t.val - 1 < cfg0.N) (d : Fin 1024) :
    (outsAt0 m c t.val t.isLt).2.2.2.2 (ix2 (⟨2, by decide⟩ : Fin 8) d)
      = (outsAt0 m c (t.val - 1) hb).2.2.2.2 (ix2 (⟨2, by decide⟩ : Fin 8) d) + (layer m c).part (tile t) 2 d := by
  rw [outsAt0_B m c t h]
  frame_out
  simp (disch := decide) only [RowBuffer.read_hit, RowBuffer.read_miss]
  refine (row2_at _ _ (dh m c t) d).trans (congrArg (· + _) ?_)
  exact RowBuffer.ld_row _ _ (by decide) d

/-- A row of zeros. -/
theorem row3_A (h : t.val % 16 = 0) (d : Fin 1024) :
    (outsAt0 m c t.val t.isLt).2.2.2.2 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  pointwise [k0_pay3]
  rfl

theorem row3_B (h : ¬ t.val % 16 = 0) (hb : t.val - 1 < cfg0.N) (d : Fin 1024) :
    (outsAt0 m c t.val t.isLt).2.2.2.2 (ix2 (⟨3, by decide⟩ : Fin 8) d)
      = (outsAt0 m c (t.val - 1) hb).2.2.2.2 (ix2 (⟨3, by decide⟩ : Fin 8) d) + (layer m c).part (tile t) 3 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row4_A (h : t.val % 16 = 0) (d : Fin 1024) :
    (outsAt0 m c t.val t.isLt).2.2.2.2 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  pointwise [k0_pay3]
  rfl

theorem row4_B (h : ¬ t.val % 16 = 0) (hb : t.val - 1 < cfg0.N) (d : Fin 1024) :
    (outsAt0 m c t.val t.isLt).2.2.2.2 (ix2 (⟨4, by decide⟩ : Fin 8) d)
      = (outsAt0 m c (t.val - 1) hb).2.2.2.2 (ix2 (⟨4, by decide⟩ : Fin 8) d) + (layer m c).part (tile t) 4 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row5_A (h : t.val % 16 = 0) (d : Fin 1024) :
    (outsAt0 m c t.val t.isLt).2.2.2.2 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  pointwise [k0_pay3]
  rfl

theorem row5_B (h : ¬ t.val % 16 = 0) (hb : t.val - 1 < cfg0.N) (d : Fin 1024) :
    (outsAt0 m c t.val t.isLt).2.2.2.2 (ix2 (⟨5, by decide⟩ : Fin 8) d)
      = (outsAt0 m c (t.val - 1) hb).2.2.2.2 (ix2 (⟨5, by decide⟩ : Fin 8) d) + (layer m c).part (tile t) 5 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row6_A (h : t.val % 16 = 0) (d : Fin 1024) :
    (outsAt0 m c t.val t.isLt).2.2.2.2 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  pointwise [k0_pay3]
  rfl

theorem row6_B (h : ¬ t.val % 16 = 0) (hb : t.val - 1 < cfg0.N) (d : Fin 1024) :
    (outsAt0 m c t.val t.isLt).2.2.2.2 (ix2 (⟨6, by decide⟩ : Fin 8) d)
      = (outsAt0 m c (t.val - 1) hb).2.2.2.2 (ix2 (⟨6, by decide⟩ : Fin 8) d) + (layer m c).part (tile t) 6 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row7_A (h : t.val % 16 = 0) (d : Fin 1024) :
    (outsAt0 m c t.val t.isLt).2.2.2.2 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 16 = 0) (hb : t.val - 1 < cfg0.N) (d : Fin 1024) :
    (outsAt0 m c t.val t.isLt).2.2.2.2 (ix2 (⟨7, by decide⟩ : Fin 8) d)
      = (outsAt0 m c (t.val - 1) hb).2.2.2.2 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 16 = 0) (k : Fin 8) (d : Fin 1024) :
    (outsAt0 m c t.val t.isLt).2.2.2.2 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 16 = 0) (hb : t.val - 1 < cfg0.N) (k : Fin 8) (d : Fin 1024) :
    (outsAt0 m c t.val t.isLt).2.2.2.2 (ix2 k d) = (outsAt0 m c (t.val - 1) hb).2.2.2.2 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows as the call leaves them. -/
theorem final11 : (dats m 0 c).arrAt 11 (cfgs 0).N = (fun i => (layer m c).rows (i 0) (i 1) : S8x1024.Idx → EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_15 rfl j, zero_add]
  exact Layer.sum_part (layer m c) (j 0) (j 1)

end Cert.Ffn2Ideal.Value

end
-- ==== Proof.Ffn2Ref.lean ====
/- The reference's gradients of the feed-forward block, entry by entry: layer 2. -/
module

public import proofs.«01_k».proof.Defs
public import proofs.«01_k».proof.Proof.Gen.Ffn2RefIdeal.Run
public import proofs.«01_k».proof.Proof.FfnSpec
public import Idealize.ShloMosaic.Lib.Pointwise

@[expose] public section

set_option maxRecDepth 16384
noncomputable section
open Idealize.ShloMosaic Idealize.ShloMosaic.TcCoe Idealize.SL.Sem
namespace Cert.Ffn2RefIdeal.Spec
open Cert.Ffn2RefIdeal Cert.Ffn2RefIdeal.Gen Cert.Ffn2RefIdeal.Value Cert.FfnSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4096x1024 .f32 := m ((c.tc : Thread nD τ).loc main_arg1)
abbrev arg2 : FVec Ideal S4x6x1024 .f32 := m ((c.tc : Thread nD τ).loc main_arg2)
abbrev arg4 : FVec Ideal S4x1024 .f32 := m ((c.tc : Thread nD τ).loc main_arg4)
abbrev arg5 : FVec Ideal S1024x4096 .f32 := m ((c.tc : Thread nD τ).loc main_arg5)
abbrev arg6 : FVec Ideal S4096x1024 .f32 := m ((c.tc : Thread nD τ).loc main_arg6)

/-- The mean squares of the rows, with the constant added. -/
def meanSq : FVec Ideal S4096x1 .f32 :=
  addf (Host.divf (broadcastInDim S4096x1 ![0] bcast_S4096_S4096x1_0 (Host.reduceAdd (mulf (arg1 m c) (arg1 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Their reciprocal roots. -/
def rinv : FVec Ideal S4096x1 .f32 := Host.rsqrt (meanSq m c)

/-- The normalised input without its gain. -/
def unitArr : FVec Ideal S4096x1024 .f32 :=
  mulf (arg1 m c) (broadcastInDim S4096x1024 ![0, 1] bcast_S4096x1_S4096x1024_0_1 (rinv m c))

/-- The norm's gain with its modulation, for every token. -/
def gainArr : FVec Ideal S4096x1024 .f32 :=
  broadcastInDim S4096x1024 ![0, 1] bcast_S1x1024_S4096x1024_0_1 (broadcastInDim S1x1024 ![1] bcast_S1024_S1x1024_1 (mulf (shapeCast _ (extractStridedSlice S1x1024 ![2, 0] (arg4 m c) slices_S4x1024_S1x1024_2_0) shapeCasts_S1x1024_S1024) (addf (broadcastInDim S1024 ![] bcast_S_S1024 (constant S_ .f32 0x3F800000#32)) (shapeCast _ (extractStridedSlice S1x1x1024 ![2, 4, 0] (arg2 m c) slices_S4x6x1024_S1x1x1024_2_4_0) shapeCasts_S1x1x1024_S1024))))

/-- The inner array before its activation. -/
def innerArr : FVec Ideal S4096x4096 .f32 :=
  Host.dotGeneral dot_S4096x1024_S1024x4096_S4096x4096_1_0_0_1_n_n none (addf (mulf (unitArr m c) (gainArr m c)) (broadcastInDim S4096x1024 ![0, 1] bcast_S1x1024_S4096x1024_0_1 (broadcastInDim S1x1024 ![1] bcast_S1024_S1x1024_1 (shapeCast _ (extractStridedSlice S1x1x1024 ![2, 3, 0] (arg2 m c) slices_S4x6x1024_S1x1x1024_2_3_0) shapeCasts_S1x1x1024_S1024)))) (arg5 m c)

/-- The positive part of the inner array. -/
def posArr : FVec Ideal S4096x4096 .f32 :=
  maximumf (innerArr m c) (broadcastInDim S4096x4096 ![] bcast_S_S4096x4096 (constant S_ .f32 0x00000000#32))

/-- The block's result before its gate. -/
def resultArr : FVec Ideal S4096x1024 .f32 :=
  Host.dotGeneral dot_S4096x4096_S4096x1024_S4096x1024_1_0_0_1_n_n none (mulf (posArr m c) (posArr m c)) (arg6 m c)

/-- The gradient of the block's result before its gate. -/
def dfArr : FVec Ideal S4096x1024 .f32 :=
  mulf (broadcastInDim S4096x1024 ![0, 1] bcast_S1x1024_S4096x1024_0_1 (broadcastInDim S1x1024 ![1] bcast_S1024_S1x1024_1 (shapeCast _ (extractStridedSlice S1x1x1024 ![2, 5, 0] (arg2 m c) slices_S4x6x1024_S1x1x1024_2_5_0) shapeCasts_S1x1x1024_S1024))) (shapeCast S4096x1024 (arg0 m c) shapeCasts_S4096x1024_S4096x1024)

/-- The gradient of the activated inner array. -/
def dpArr : FVec Ideal S4096x4096 .f32 := Host.dotGeneral dot_S4096x1024_S4096x1024_S4096x4096_1_1_0_0_n_n none (dfArr m c) (arg6 m c)

/-- The gradient of the inner array. -/
def daArr : FVec Ideal S4096x4096 .f32 :=
  select (cmpf .ogt (innerArr m c) (broadcastInDim S4096x4096 ![] bcast_S_S4096x4096 (constant S_ .f32 0x00000000#32))) (mulf (dpArr m c) (mulf (broadcastInDim S4096x4096 ![] bcast_S_S4096x4096 (constant S_ .f32 0x40000000#32)) (posArr m c))) (broadcastInDim S4096x4096 ![] bcast_S_S4096x4096 (constant S_ .f32 0x00000000#32))

/-- The gradient of the normalised input. -/
def dhArr : FVec Ideal S4096x1024 .f32 := Host.dotGeneral dot_S4096x4096_S1024x4096_S4096x1024_1_1_0_0_n_n none (daArr m c) (arg5 m c)

/-- That gradient with the gain. -/
def gainedArr : FVec Ideal S4096x1024 .f32 := mulf (dhArr m c) (gainArr m c)

/-- The factor of the input in the gradient through the mean square. -/
def slopeArr : FVec Ideal S4096x1024 .f32 :=
  broadcastInDim S4096x1024 ![0] bcast_S4096_S4096x1024_0 (Host.reduceAdd (Host.divf (mulf (shapeCast _ (Host.reduceAdd (mulf (arg1 m c) (gainedArr m c)) (constant S_ .f32 0x00000000#32) reducesTo_S4096x1024_S4096_d1 h_S_) shapeCasts_S4096_S4096x1) (mulf (broadcastInDim S4096x1 ![] bcast_S_S4096x1 (constant S_ .f32 0xBF000000#32)) (Host.divf (rinv m c) (meanSq m c)))) (broadcastInDim S4096x1 ![] bcast_S_S4096x1 (constant S_ .f32 0x44800000#32))) (constant S_ .f32 0x00000000#32) reducesTo_S4096x1_S4096_d1 h_S_)

/-- The gradient of the block's input. -/
def dxArr : FVec Ideal S4096x1024 .f32 :=
  addf (arg0 m c) (addf (addf (mulf (gainedArr m c) (broadcastInDim S4096x1024 ![0, 1] bcast_S4096x1_S4096x1024_0_1 (rinv m c))) (mulf (arg1 m c) (slopeArr m c))) (mulf (slopeArr m c) (arg1 m c)))

/-- The column sums of an array, as one row. -/
def colSums (v : FVec Ideal S4096x1024 .f32) : FVec Ideal S1x1024 .f32 :=
  broadcastInDim S1x1024 ![1] bcast_S1024_S1x1024_1 (Host.reduceAdd (shapeCast S1x1024 (Host.reduceAdd v (constant S_ .f32 0x00000000#32) reducesTo_S4096x1024_S1024_d0 h_S_) shapeCasts_S1024_S1x1024) (constant S_ .f32 0x00000000#32) reducesTo_S1x1024_S1024_d0 h_S_)

/-- The eight rows. -/
def rowsArr : FVec Ideal S8x1024 .f32 :=
  concatenate S8x1024 0 [⟨S1x1024, colSums (mulf (shapeCast S4096x1024 (arg0 m c) shapeCasts_S4096x1024_S4096x1024) (resultArr m c))⟩,
    ⟨S1x1024, colSums (mulf (unitArr m c) (dhArr m c))⟩, ⟨S1x1024, colSums (dhArr m c)⟩,
    ⟨S5x1024, broadcastInDim S5x1024 ![] bcast_S_S5x1024 (constant S_ .f32 0x00000000#32)⟩]
    concatenates_S1x1024_S1x1024_S1x1024_S5x1024_S8x1024_d0

theorem dx_named : res_out0 m c = dxArr m c := rfl

theorem rows_named : res_out4 m c = rowsArr m c := rfl

/-! ## Their entries -/

/-- The arrays of the block, from the arguments. -/
def layer : Layer where
  ct := fun n d => arg0 m c (ix2 n d)
  x := fun n d => arg1 m c (ix2 n d)
  a := fun n j => innerArr m c (ix2 n j)
  f := fun n d => resultArr m c (ix2 n d)
  gate := fun d => arg2 m c (ix3 2 5 d)
  gain := fun d => (show EReal from arg4 m c (ix2 2 d)) * (1 + (show EReal from arg2 m c (ix3 2 4 d)))
  w1 := fun a j => arg5 m c (ix2 a j)
  w2 := fun j a => arg6 m c (ix2 j a)

theorem df_at (n : Fin 4096) (d : Fin 1024) : dfArr m c (ix2 n d) = (layer m c).df n d := by
  pointwise [dfArr]
  exact EReal.mul_comm _ _

theorem dp_at (n : Fin 4096) (j : Fin 4096) : dpArr m c (ix2 n j) = (layer m c).dp n j := by
  pointwise [dpArr]
  simp only [df_at]
  rfl

theorem act_at (n : Fin 4096) (j : Fin 4096) :
    truncf (F := Ideal) .bf16 (mulf (posArr m c) (posArr m c)) bitsLt_bf16_f32 (ix2 n j) = (layer m c).act n j := by
  pointwise [posArr]
  rfl

theorem da_at (n : Fin 4096) (j : Fin 4096) : daArr m c (ix2 n j) = (layer m c).da n j := by
  pointwise [daArr, posArr]
  rw [dp_at]
  refine Eq.trans ?_ (back_choice ((layer m c).dp n j) ((layer m c).a n j))
  rfl

theorem dh_at (n : Fin 4096) (d : Fin 1024) : dhArr m c (ix2 n d) = (layer m c).dh n d := by
  pointwise [dhArr]
  simp only [da_at]
  rfl

theorem meanSq_at (n : Fin 4096) (k : Fin 1) : meanSq m c (ix2 n k) = NormBack.meanSq ((layer m c).x n) := by
  pointwise [meanSq]
  rfl

theorem rinv_at (n : Fin 4096) (k : Fin 1) : rinv m c (ix2 n k) = NormBack.rinv ((layer m c).x n) := by
  pointwise [rinv]
  rw [meanSq_at]
  rfl

theorem gained_at (n : Fin 4096) (d : Fin 1024) : gainedArr m c (ix2 n d) = (layer m c).dh n d * (layer m c).gain d := by
  pointwise [gainedArr, gainArr]
  rw [dh_at]
  rfl

theorem slope_at (n : Fin 4096) (d : Fin 1024) :
    slopeArr m c (ix2 n d) = NormBack.slope ((layer m c).x n) fun k => (layer m c).dh n k * (layer m c).gain k := by
  pointwise [slopeArr]
  rw [Fin.sum_univ_one]
  simp only [meanSq_at, rinv_at, gained_at]
  rfl

/-- The reference's gradient of the block's input. -/
theorem dx_at (n : Fin 4096) (d : Fin 1024) : dxArr m c (ix2 n d) = (layer m c).dx n d := by
  pointwise [dxArr]
  rw [slope_at, gained_at, rinv_at]
  unfold Layer.dx
  rw [NormBack.back_eq]
  rfl

theorem unit_at (n : Fin 4096) (d : Fin 1024) : unitArr m c (ix2 n d) = unit (layer m c).x n d := by
  pointwise [unitArr]
  rw [rinv_at]
  rfl

/-- The reference's column sums. -/
theorem rows_at (k : Fin 8) (d : Fin 1024) : rowsArr m c (ix2 k d) = (layer m c).rows k d := by
  pointwise [rowsArr, colSums]
  simp only [Fin.sum_univ_one, dh_at, unit_at]
  match k with
  | 0 => rfl
  | 1 =>
    refine Eq.trans (?_ : _ = ∑ n, unit (layer m c).x n d * (layer m c).dh n d) (Finset.sum_congr rfl fun n _ => mul_comm _ _)
    rfl
  | 2 => rfl
  | 3 => rfl
  | 4 => rfl
  | 5 => rfl
  | 6 => rfl
  | 7 => rfl

end Cert.Ffn2RefIdeal.Spec

end
-- ==== Proof.Ffn2Host.lean ====
/- The feed-forward block's kernel and its reference start from the same arrays of the arguments: layer 2. -/
module

public import proofs.«01_k».proof.Proof.Ffn2Rows
public import proofs.«01_k».proof.Proof.Ffn2Ref

@[expose] public section
set_option maxRecDepth 16384
noncomputable section
open Idealize.ShloMosaic Idealize.ShloMosaic.TcCoe Idealize.SL.Sem
namespace Cert.Ffn2Ideal.Value
open Cert.Ffn2Ideal Cert.Ffn2Ideal.Gen Cert.FfnSpec
variable (m : (ℓ : Loc nD τ sig) → Buf (Elt Ideal) ℓ) (c : Dev nD)
  (W : (ℓ : Loc Cert.Ffn2RefIdeal.nD Cert.Ffn2RefIdeal.τ Cert.Ffn2RefIdeal.sig) → Buf (Elt Ideal) ℓ)
  (c' : Dev Cert.Ffn2RefIdeal.nD)

/-! ## The parameters that the host packs -/

theorem flat : List.flatten [hostOps0 (F := Ideal), hostOps0_1, hostOps0_2] = (hostOps0 ++ hostOps0_1) ++ hostOps0_2 := by
  simp only [List.flatten_cons, List.flatten_nil, List.append_nil, List.append_assoc]

/-- The host operations up to the call of the positive part, then those after it. -/
theorem split (b : DevRef τ sig) : StableHlo.after (List.flatten [hostOps0 (F := Ideal), hostOps0_1, hostOps0_2]) (fun b => m (c, b)) b
    = StableHlo.after (hostOps0_2 (F := Ideal)) (StableHlo.after ((hostOps0 (F := Ideal)) ++ hostOps0_1) (fun b => m (c, b))) b := by
  rw [flat, StableHlo.after_append]

theorem first_main_arg2 : StableHlo.after ((hostOps0 (F := Ideal)) ++ hostOps0_1) (fun b => m (c, b)) (Proc.devRef .tc main_arg2) = m (c, Proc.devRef .tc main_arg2) := by
  unfold hostOps0 hostOps0_1
  simp only [List.cons_append, List.nil_append]
  simp only [StableHlo.after_cons, StableHlo.after_nil]
  after_results_loop
  rfl

theorem first_main_arg4 : StableHlo.after ((hostOps0 (F := Ideal)) ++ hostOps0_1) (fun b => m (c, b)) (Proc.devRef .tc main_arg4) = m (c, Proc.devRef .tc main_arg4) := by
  unfold hostOps0 hostOps0_1
  simp only [List.cons_append, List.nil_append]
  simp only [StableHlo.after_cons, StableHlo.after_nil]
  after_results_loop
  rfl

theorem first_main_arg5 : StableHlo.after ((hostOps0 (F := Ideal)) ++ hostOps0_1) (fun b => m (c, b)) (Proc.devRef .tc main_arg5) = m (c, Proc.devRef .tc main_arg5) := by
  unfold hostOps0 hostOps0_1
  simp only [List.cons_append, List.nil_append]
  simp only [StableHlo.after_cons, StableHlo.after_nil]
  after_results_loop
  rfl

theorem first_main_arg6 : StableHlo.after ((hostOps0 (F := Ideal)) ++ hostOps0_1) (fun b => m (c, b)) (Proc.devRef .tc main_arg6) = m (c, Proc.devRef .tc main_arg6) := by
  unfold hostOps0 hostOps0_1
  simp only [List.cons_append, List.nil_append]
  simp only [StableHlo.after_cons, StableHlo.after_nil]
  after_results_loop
  rfl

theorem pv_eq (U : Valuation τ sig (Elt Ideal)) :
    StableHlo.after (hostOps0_2 (F := Ideal)) U (Proc.devRef .tc main_v31) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0_2
  after_results_simp
  try dsimp only [Matrix.cons_val]
  try after_results_simp
  try rfl

theorem pv_rows (k : Fin 8) (hk : k.val < 6) (d : Fin 1024) :
    V m c main_v31 (ix3 2 k d) = m (c, Proc.devRef .tc main_arg2) (ix3 2 ⟨k.val, hk⟩ d) := by
  refine (congrFun (split m c _) _).trans ?_
  rw [pv_eq]
  refine Eq.trans ?_ (congrFun (first_main_arg2 m c) _)
  generalize StableHlo.after ((hostOps0 (F := Ideal)) ++ hostOps0_1) (fun b => m (c, b)) = U
  pointwise
  rw [dif_pos hk]

theorem pv_norm (k : Fin 8) (hk : k.val = 7) (d : Fin 1024) :
    V m c main_v31 (ix3 2 k d) = m (c, Proc.devRef .tc main_arg4) (ix2 2 d) := by
  refine (congrFun (split m c _) _).trans ?_
  rw [pv_eq]
  refine Eq.trans ?_ (congrFun (first_main_arg4 m c) _)
  generalize StableHlo.after ((hostOps0 (F := Ideal)) ++ hostOps0_1) (fun b => m (c, b)) = U
  pointwise
  rw [dif_neg (by omega), dif_neg (by omega)]

theorem w1_eq (U : Valuation τ sig (Elt Ideal)) (a : Fin 1024) (j : Fin 4096) :
    StableHlo.after (hostOps0_2 (F := Ideal)) U (Proc.devRef .tc main_v33) (ix3 0 a j) = U (Proc.devRef .tc main_arg5) (ix2 a j) := by
  unfold hostOps0_2
  after_results_simp
  pointwise

theorem w2_eq (U : Valuation τ sig (Elt Ideal)) (j : Fin 4096) (a : Fin 1024) :
    StableHlo.after (hostOps0_2 (F := Ideal)) U (Proc.devRef .tc main_v35) (ix3 0 j a) = U (Proc.devRef .tc main_arg6) (ix2 j a) := by
  unfold hostOps0_2
  after_results_simp
  pointwise

theorem w1_at (a : Fin 1024) (j : Fin 4096) : V m c main_v33 (ix3 0 a j) = m (c, Proc.devRef .tc main_arg5) (ix2 a j) :=
  (congrFun (split m c _) _).trans ((w1_eq _ a j).trans (congrFun (first_main_arg5 m c) _))

theorem w2_at (j : Fin 4096) (a : Fin 1024) : V m c main_v35 (ix3 0 j a) = m (c, Proc.devRef .tc main_arg6) (ix2 j a) :=
  (congrFun (split m c _) _).trans ((w2_eq _ j a).trans (congrFun (first_main_arg6 m c) _))

/-! ## The two programs' arrays -/

/-- The reference starts from the kernel's arguments. -/
structure SameArgs : Prop where
  a0 : W ((c'.tc : Thread Cert.Ffn2RefIdeal.nD Cert.Ffn2RefIdeal.τ).loc Cert.Ffn2RefIdeal.main_arg0) = m ((c.tc : Thread nD τ).loc main_arg0)
  a1 : W ((c'.tc : Thread Cert.Ffn2RefIdeal.nD Cert.Ffn2RefIdeal.τ).loc Cert.Ffn2RefIdeal.main_arg1) = m ((c.tc : Thread nD τ).loc main_arg1)
  a2 : W ((c'.tc : Thread Cert.Ffn2RefIdeal.nD Cert.Ffn2RefIdeal.τ).loc Cert.Ffn2RefIdeal.main_arg2) = m ((c.tc : Thread nD τ).loc main_arg2)
  a4 : W ((c'.tc : Thread Cert.Ffn2RefIdeal.nD Cert.Ffn2RefIdeal.τ).loc Cert.Ffn2RefIdeal.main_arg4) = m ((c.tc : Thread nD τ).loc main_arg4)
  a5 : W ((c'.tc : Thread Cert.Ffn2RefIdeal.nD Cert.Ffn2RefIdeal.τ).loc Cert.Ffn2RefIdeal.main_arg5) = m ((c.tc : Thread nD τ).loc main_arg5)
  a6 : W ((c'.tc : Thread Cert.Ffn2RefIdeal.nD Cert.Ffn2RefIdeal.τ).loc Cert.Ffn2RefIdeal.main_arg6) = m ((c.tc : Thread nD τ).loc main_arg6)

variable {m c W c'} (s : SameArgs m c W c')
include s
open Cert.Ffn2RefIdeal.Spec (innerArr unitArr rinv meanSq gainArr posArr resultArr)

theorem same_inner : V m c main_v25 = innerArr W c' := by
  simp only [innerArr, unitArr, rinv, meanSq, gainArr, Cert.Ffn2RefIdeal.Spec.arg1, Cert.Ffn2RefIdeal.Spec.arg2,
    Cert.Ffn2RefIdeal.Spec.arg4, Cert.Ffn2RefIdeal.Spec.arg5, s.a1, s.a2, s.a4, s.a5]
  entry_read
  rfl

theorem same_result : V m c main_v28 = resultArr W c' := by
  unfold resultArr posArr Cert.Ffn2RefIdeal.Spec.arg6
  rw [← same_inner s, s.a6]
  entry_read
  rfl

theorem same_gain (d : Fin 1024) : (layer m c).gain d = (Cert.Ffn2RefIdeal.Spec.layer W c').gain d := by
  have h1 : (show EReal from V m c main_v31 (ix3 2 7 d)) = Cert.Ffn2RefIdeal.Spec.arg4 W c' (ix2 2 d) :=
    (pv_norm m c 7 rfl d).trans (congrFun s.a4 (ix2 2 d)).symm
  have h2 : (show EReal from V m c main_v31 (ix3 2 4 d)) = Cert.Ffn2RefIdeal.Spec.arg2 W c' (ix3 2 4 d) :=
    (pv_rows m c 4 (by decide) d).trans (congrFun s.a2 (ix3 2 4 d)).symm
  show (show EReal from V m c main_v31 (ix3 2 7 d)) * (1 + (show EReal from V m c main_v31 (ix3 2 4 d))) = _
  rw [h1, h2]
  rfl

theorem same_gate (d : Fin 1024) : (layer m c).gate d = (Cert.Ffn2RefIdeal.Spec.layer W c').gate d :=
  (pv_rows m c 5 (by decide) d).trans (congrFun s.a2 (ix3 2 5 d)).symm

theorem same_w1 (a : Fin 1024) (j : Fin 4096) : (layer m c).w1 a j = (Cert.Ffn2RefIdeal.Spec.layer W c').w1 a j :=
  (w1_at m c a j).trans (congrFun s.a5 (ix2 a j)).symm

theorem same_w2 (j : Fin 4096) (a : Fin 1024) : (layer m c).w2 j a = (Cert.Ffn2RefIdeal.Spec.layer W c').w2 j a :=
  (w2_at m c j a).trans (congrFun s.a6 (ix2 j a)).symm

theorem same_ct (n : Fin 4096) (d : Fin 1024) : (layer m c).ct n d = (Cert.Ffn2RefIdeal.Spec.layer W c').ct n d :=
  (congrFun (V_main_arg0 m c) (ix2 n d)).trans (congrFun s.a0 (ix2 n d)).symm

theorem same_x (n : Fin 4096) (d : Fin 1024) : (layer m c).x n d = (Cert.Ffn2RefIdeal.Spec.layer W c').x n d :=
  (congrFun (V_main_arg1 m c) (ix2 n d)).trans (congrFun s.a1 (ix2 n d)).symm

theorem same_a (n j : Fin 4096) : (layer m c).a n j = (Cert.Ffn2RefIdeal.Spec.layer W c').a n j := by
  show V m c main_v25 (ix2 n j) = innerArr W c' (ix2 n j)
  rw [same_inner s]

theorem same_f (n : Fin 4096) (d : Fin 1024) : (layer m c).f n d = (Cert.Ffn2RefIdeal.Spec.layer W c').f n d := by
  show V m c main_v28 (ix2 n d) = resultArr W c' (ix2 n d)
  rw [same_result s]

/-- The kernel's block is the reference's. -/
theorem same_layer : layer m c = Cert.Ffn2RefIdeal.Spec.layer W c' := by
  have h0 := same_ct s
  have h1 := same_x s
  have h2 := same_a s
  have h3 := same_f s
  have h4 := same_gate s
  have h5 := same_gain s
  have h6 := same_w1 s
  have h7 := same_w2 s
  exact layer_eq _ _ h0 h1 h2 h3 h4 h5 h6 h7

end Cert.Ffn2Ideal.Value

namespace Cert.Proof

/-- The reference's host operations leave its arguments unchanged, and it declares no semaphore. -/
theorem frame_reference_Ffn2 : Cert.quiescent_Ffn2RefIdeal := fun m ρ _ =>
  (θ_run Cert.Ffn2RefIdeal.defs _ _).mono
    (fun r h => ⟨fun c => (h c).2.2.2.2.2, sem_eq_zero_of_no_sems (by decide) r.2⟩)
    (Cert.Ffn2RefIdeal.Value.run (F := Ideal) m ρ)

/-- From the same arguments the kernel and the reference end with the same five results. -/
theorem algebraic_Ffn2 : Cert.algebraic_Ffn2Ideal_Ffn2RefIdeal := by
  intro m g m' g' _ he
  have hs : ∀ c, Cert.Ffn2Ideal.Value.SameArgs m c m' c := fun c =>
    ⟨(he c).1, (he c).2.1, (he c).2.2.1, (he c).2.2.2.2.1, (he c).2.2.2.2.2.1, (he c).2.2.2.2.2.2⟩
  refine ⟨fun c i => (Cert.Ffn2Ideal.Value.layer m c).dx (i 0) (i 1), fun c i => (Cert.Ffn2Ideal.Value.layer m c).act (i 0) (i 1),
    fun c i => (Cert.Ffn2Ideal.Value.layer m c).da (i 0) (i 1), fun c i => (Cert.Ffn2Ideal.Value.layer m c).df (i 0) (i 1),
    fun c i => (Cert.Ffn2Ideal.Value.layer m c).rows (i 0) (i 1), ?_, ?_⟩
  · refine (θ_run Cert.Ffn2Ideal.defs _ _).mono (fun r h c => ?_) (Cert.Ffn2Ideal.Value.run_blocks (F := Ideal) m g)
    obtain ⟨h0, h1, h2, h3, h4, ha⟩ := h c
    exact ⟨h0.trans (Cert.Ffn2Ideal.Value.final7 m c), h1.trans (Cert.Ffn2Ideal.Value.final8 m c),
      h2.trans (Cert.Ffn2Ideal.Value.final9 m c), h3.trans (Cert.Ffn2Ideal.Value.final10 m c),
      h4.trans (Cert.Ffn2Ideal.Value.final11 m c), ha⟩
  · refine (θ_run Cert.Ffn2RefIdeal.defs _ _).mono (fun r h c => ?_) (Cert.Ffn2RefIdeal.Value.run (F := Ideal) m' g')
    obtain ⟨h0, h1, h2, h3, h4, ha⟩ := h c
    have e := Cert.Ffn2Ideal.Value.same_layer (hs c)
    refine ⟨h0.trans (funext fun i => ?_), h1.trans (funext fun i => ?_), h2.trans (funext fun i => ?_), h3.trans (funext fun i => ?_),
      h4.trans (funext fun i => ?_), ha⟩
    · exact (congrArg _ (eq_ix2 i)).trans ((Cert.Ffn2RefIdeal.Spec.dx_at m' c (i 0) (i 1)).trans (congrArg (fun L => Cert.FfnSpec.Layer.dx L (i 0) (i 1)) e.symm))
    · exact (congrArg _ (eq_ix2 i)).trans ((Cert.Ffn2RefIdeal.Spec.act_at m' c (i 0) (i 1)).trans (congrArg (fun L => Cert.FfnSpec.Layer.act L (i 0) (i 1)) e.symm))
    · exact (congrArg _ (eq_ix2 i)).trans ((Cert.Ffn2RefIdeal.Spec.da_at m' c (i 0) (i 1)).trans (congrArg (fun L => Cert.FfnSpec.Layer.da L (i 0) (i 1)) e.symm))
    · exact (congrArg _ (eq_ix2 i)).trans ((Cert.Ffn2RefIdeal.Spec.df_at m' c (i 0) (i 1)).trans (congrArg (fun L => Cert.FfnSpec.Layer.df L (i 0) (i 1)) e.symm))
    · exact (congrArg _ (eq_ix2 i)).trans ((Cert.Ffn2RefIdeal.Spec.rows_at m' c (i 0) (i 1)).trans (congrArg (fun L => Cert.FfnSpec.Layer.rows L (i 0) (i 1)) e.symm))

end Cert.Proof

end
-- ==== Proof.Ffn3Tile.lean ====
/- What one tile of the feed-forward block's backward call computes, entry by entry: layer 3. -/
module

public import proofs.«01_k».proof.Defs
public import proofs.«01_k».proof.Proof.Gen.Ffn3Ideal.Skeleton
public import proofs.«01_k».proof.Proof.FfnSpec
public import Idealize.ShloMosaic.Lib.Pointwise

@[expose] public section

set_option maxRecDepth 16384
noncomputable section
open Idealize.ShloMosaic Idealize.ShloMosaic.TcCoe Idealize.SL.Sem

namespace Cert.Ffn3Ideal.Tile

open Cert.Ffn3Ideal Cert.Ffn3Ideal.Gen Cert.FfnSpec Cert

variable {q : Fin 16} {L : Layer}

/-- `v` holds tile `q` of the array `f`. -/
def Holds (q : Fin 16) (v : S256x1024.Idx → EReal) (f : Tok) : Prop := ∀ (r : Fin 256) (d : Fin 1024), v (ix2 r d) = f (row q r) d

/-- `v` holds tile `q` of the inner array `f`. -/
def HoldsInner (q : Fin 16) (v : S256x4096.Idx → EReal) (f : Inner) : Prop := ∀ (r : Fin 256) (j : Fin 4096), v (ix2 r j) = f (row q r) j

theorem df_at (b0 : Vec Ideal S256x1024 .f32) (b4 : Vec Ideal S1x8x1024 .f32) (h0 : Holds q b0 L.ct)
    (h4 : ∀ d, b4 (ix3 0 5 d) = L.gate d) : Holds q (k0_pay5 b0 b4) L.df := fun r d => by
  pointwise [k0_pay5, k0_pay4]
  rw [h0 r d, h4]
  rfl

theorem dp_at (b0 : Vec Ideal S256x1024 .f32) (b4 : Vec Ideal S1x8x1024 .f32) (b6 : Vec Ideal S1x4096x1024 .bf16)
    (h : Holds q (k0_pay5 b0 b4) L.df) (h6 : ∀ j d, b6 (ix3 0 j d) = L.w2 j d) : HoldsInner q (k0_pay7 b0 b4 b6) L.dp := fun r j => by
  pointwise [k0_pay7]
  exact Finset.sum_congr rfl fun k _ => by rw [h r k, h6]

theorem act_at (b2 : Vec Ideal S256x4096 .f32) (h2 : HoldsInner q b2 L.a) : HoldsInner q (k0_pay9 b2) L.act := fun r j => by
  pointwise [k0_pay9, k0_pay8]
  rw [h2 r j]
  rfl

theorem da_at (v22 : FVec Ideal S256x4096 .f32) (b2 : Vec Ideal S256x4096 .f32) (h : HoldsInner q v22 L.dp) (h2 : HoldsInner q b2 L.a) :
    HoldsInner q (k0_pay10 v22 (k0_pay8 b2)) L.da := fun r j => by
  pointwise [k0_pay10, k0_pay8]
  rw [h r j, h2 r j]
  rfl

theorem dh_at (v22 : FVec Ideal S256x4096 .f32) (b2 : Vec Ideal S256x4096 .f32) (b5 : Vec Ideal S1x1024x4096 .bf16)
    (h : HoldsInner q (k0_pay10 v22 (k0_pay8 b2)) L.da) (h5 : ∀ d j, b5 (ix3 0 d j) = L.w1 d j) :
    Holds q (k0_pay11 v22 (k0_pay8 b2) b5) L.dh := fun r d => by
  pointwise [k0_pay11]
  exact Finset.sum_congr rfl fun k _ => by rw [h r k, h5]

theorem unit_at (b1 : Vec Ideal S256x1024 .f32) (h1 : Holds q b1 L.x) : Holds q (k0_pay13 b1) (unit L.x) := fun r d => by
  pointwise [k0_pay13, k0_pay12]
  simp only [h1 r]
  rfl

theorem dx_at (b0 : Vec Ideal S256x1024 .f32) (b4 : Vec Ideal S1x8x1024 .f32) (v22 v26 : FVec Ideal S256x4096 .f32)
    (b5 : Vec Ideal S1x1024x4096 .bf16) (b1 : Vec Ideal S256x1024 .f32) (h0 : Holds q b0 L.ct) (h1 : Holds q b1 L.x)
    (h : Holds q (k0_pay11 v22 v26 b5) L.dh) (hg : ∀ d, b4 (ix3 0 7 d) * (1 + b4 (ix3 0 4 d)) = L.gain d) :
    Holds q (k0_pay14 b0 (k0_pay4 b4) v22 v26 b5 b1) L.dx := fun r d => by
  pointwise [k0_pay14, k0_pay13, k0_pay12, k0_pay4]
  simp only [hg, h0 r, h1 r, h r]
  rfl

/-! ## The column sums that a tile adds -/

theorem row0_at (b0 : Vec Ideal S256x1024 .f32) (acc : Vec Ideal S1x1024 .f32) (b3 : Vec Ideal S256x1024 .f32)
    (h0 : Holds q b0 L.ct) (h3 : Holds q b3 L.f) (d : Fin 1024) :
    k0_pay6 b0 acc b3 (ix2 0 d) = acc (ix2 0 d) + L.part q 0 d := by
  pointwise [k0_pay6]
  congr 1
  exact Finset.sum_congr rfl fun r _ => by rw [h0 r d, h3 r d]

theorem row1_at (v37 v48 : FVec Ideal S256x1024 .f32) (acc : Vec Ideal S1x1024 .f32)
    (h : Holds q v37 L.dh) (h1 : Holds q v48 (unit L.x)) (d : Fin 1024) :
    k0_pay1 v37 v48 acc (ix2 0 d) = acc (ix2 0 d) + L.part q 1 d := by
  pointwise [k0_pay1]
  congr 1
  exact Finset.sum_congr rfl fun r _ => by rw [h r d, h1 r d]

theorem row2_at (v37 : FVec Ideal S256x1024 .f32) (acc : Vec Ideal S1x1024 .f32) (h : Holds q v37 L.dh) (d : Fin 1024) :
    k0_pay2 v37 acc (ix2 0 d) = acc (ix2 0 d) + L.part q 2 d := by
  pointwise [k0_pay2]
  congr 1
  exact Finset.sum_congr rfl fun r _ => by rw [h r d]

end Cert.Ffn3Ideal.Tile

end
-- ==== Proof.Ffn3Blocks.lean ====
/- What a grid point of the feed-forward block's backward call reads and computes, and the arrays that the call leaves:
   layer 3. -/
module

public import proofs.«01_k».proof.Defs
public import proofs.«01_k».proof.Proof.Gen.Ffn3Ideal.Value
public import Idealize.ShloMosaic.Lib.Pipeline.ValueKit
public import Idealize.ShloMosaic.Lib.Pointwise
public import Idealize.ShloMosaic.Lib.Claim
public import proofs.«01_k».proof.Proof.Ffn3Tile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Ffn3Ideal.Value
open Cert.Ffn3Ideal Cert.Ffn3Ideal.Gen Cert.Ffn3Ideal.Tile Cert.FfnSpec Cert
variable (m : (ℓ : Loc nD τ sig) → Buf (Elt Ideal) ℓ)

/-- The tile that grid point `t` works on. -/
def tile (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0]
    ∧ win0_3.index t = ![t.val, 0] ∧ win0_4.index t = ![3, 0, 0] ∧ win0_5.index t = ![0, 0, 0] ∧ win0_6.index t = ![0, 0, 0] :=
  (by decide +kernel : ∀ t : Fin grid0.N, _)

/-- The block's arrays as the call finds them. -/
def layer (c : Dev nD) : Layer where
  ct := fun n d => V m c main_arg0 (ix2 n d)
  x := fun n d => V m c main_arg1 (ix2 n d)
  a := fun n j => V m c main_v25 (ix2 n j)
  f := fun n d => V m c main_v28 (ix2 n d)
  gate := fun d => V m c main_v31 (ix3 3 5 d)
  gain := fun d => (show EReal from V m c main_v31 (ix3 3 7 d)) * (1 + (show EReal from V m c main_v31 (ix3 3 4 d)))
  w1 := fun a j => V m c main_v33 (ix3 0 a j)
  w2 := fun j a => V m c main_v35 (ix3 0 j a)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : HoldsInner (tile t) (iblk m c 2 t) (layer m c).a := fun r d => by
  unfold layer tile row
  blk_point [iblk, idx t]

theorem blk3 : Holds (tile t) (iblk m c 3 t) (layer m c).f := fun r d => by
  unfold layer tile row
  blk_point [iblk, idx t]

/-- A row of the modulation block. -/
theorem blk4 (s : Fin 8) (d : Fin 1024) : iblk m c 4 t (ix3 0 s d) = V m c main_v31 (ix3 3 s d) := by
  blk_point [iblk, idx t]

theorem blk4_gate (d : Fin 1024) : iblk m c 4 t (ix3 0 5 d) = (layer m c).gate d := blk4 m c t 5 d

theorem blk4_gain (d : Fin 1024) : (show EReal from iblk m c 4 t (ix3 0 7 d)) * (1 + (show EReal from iblk m c 4 t (ix3 0 4 d))) = (layer m c).gain d := by
  rw [blk4 m c t 7 d, blk4 m c t 4 d]
  rfl

theorem blk5 (a : Fin 1024) (j : Fin 4096) : iblk m c 5 t (ix3 0 a j) = (layer m c).w1 a j := by
  unfold layer
  blk_point [iblk, idx t]

theorem blk6 (j : Fin 4096) (a : Fin 1024) : iblk m c 6 t (ix3 0 j a) = (layer m c).w2 j a := by
  unfold layer
  blk_point [iblk, idx t]

theorem df : Holds (tile t) (k0_pay5 (iblk m c 0 t) (iblk m c 4 t)) (layer m c).df :=
  df_at _ _ (blk0 m c t) (blk4_gate m c t)

theorem dp : HoldsInner (tile t) (k0_pay7 (iblk m c 0 t) (iblk m c 4 t) (iblk m c 6 t)) (layer m c).dp :=
  dp_at _ _ _ (df m c t) (blk6 m c t)

theorem da : HoldsInner (tile t) (k0_pay10 (k0_pay7 (iblk m c 0 t) (iblk m c 4 t) (iblk m c 6 t)) (k0_pay8 (iblk m c 2 t))) (layer m c).da :=
  da_at _ _ (dp m c t) (blk2 m c t)

theorem dh : Holds (tile t) (k0_pay11 (k0_pay7 (iblk m c 0 t) (iblk m c 4 t) (iblk m c 6 t)) (k0_pay8 (iblk m c 2 t)) (iblk m c 5 t)) (layer m c).dh :=
  dh_at _ _ _ (da m c t) (blk5 m c t)

theorem dx : Holds (tile t) (k0_pay14 (iblk m c 0 t) (k0_pay4 (iblk m c 4 t)) (k0_pay7 (iblk m c 0 t) (iblk m c 4 t) (iblk m c 6 t))
    (k0_pay8 (iblk m c 2 t)) (iblk m c 5 t) (iblk m c 1 t)) (layer m c).dx :=
  dx_at _ _ _ _ _ _ (blk0 m c t) (blk1 m c t) (dh m c t) (blk4_gain m c t)

theorem act : HoldsInner (tile t) (k0_pay9 (iblk m c 2 t)) (layer m c).act := act_at _ (blk2 m c t)

theorem xn : Holds (tile t) (k0_pay13 (iblk m c 1 t)) (unit (layer m c).x) := unit_at _ (blk1 m c t)

/-! ## What a grid point writes back -/

theorem out7 : Holds (tile t) (outsAt0 m c t.val t.isLt).1 (layer m c).dx := fun r d => by
  by_cases h : t.val % 16 = 0
  · rw [outsAt0_A m c t h]
    frame_out
    exact dx m c t r d
  · rw [outsAt0_B m c t h]
    frame_out
    exact dx m c t r d

theorem out8 : HoldsInner (tile t) (outsAt0 m c t.val t.isLt).2.1 (layer m c).act := fun r d => by
  by_cases h : t.val % 16 = 0
  · rw [outsAt0_A m c t h]
    frame_out
    exact act m c t r d
  · rw [outsAt0_B m c t h]
    frame_out
    exact act m c t r d

theorem out9 : HoldsInner (tile t) (outsAt0 m c t.val t.isLt).2.2.1 (layer m c).da := fun r d => by
  by_cases h : t.val % 16 = 0
  · rw [outsAt0_A m c t h]
    frame_out
    exact da m c t r d
  · rw [outsAt0_B m c t h]
    frame_out
    exact da m c t r d

theorem out10 : Holds (tile t) (outsAt0 m c t.val t.isLt).2.2.2.1 (layer m c).df := fun r d => by
  by_cases h : t.val % 16 = 0
  · rw [outsAt0_A m c t h]
    frame_out
    exact df m c t r d
  · rw [outsAt0_B m c t h]
    frame_out
    exact df m c t r d

/-! ## The arrays after the call -/

theorem idxOut : ∀ t : Fin cfg0.N, win0_7.index t = ![t.val, 0] ∧ win0_8.index t = ![t.val, 0] ∧ win0_9.index t = ![t.val, 0]
    ∧ win0_10.index t = ![t.val, 0] :=
  (by decide +kernel : ∀ t : Fin grid0.N, _)

theorem emb7 (y : S256x1024.Idx) : ((View.whole main_v36_0).slice (win0_7.rect t)).emb y = ix2 (row (tile t) (y 0)) (y 1) := by
  unfold row tile
  blk_ext [idxOut t]

theorem emb8 (y : S256x4096.Idx) : ((View.whole main_v36_1).slice (win0_8.rect t)).emb y = ix2 (row (tile t) (y 0)) (y 1) := by
  unfold row tile
  blk_ext [idxOut t]

theorem emb9 (y : S256x4096.Idx) : ((View.whole main_v36_2).slice (win0_9.rect t)).emb y = ix2 (row (tile t) (y 0)) (y 1) := by
  unfold row tile
  blk_ext [idxOut t]

theorem emb10 (y : S256x1024.Idx) : ((View.whole main_v36_3).slice (win0_10.rect t)).emb y = ix2 (row (tile t) (y 0)) (y 1) := by
  unfold row tile
  blk_ext [idxOut t]

/-- The gradient of the block's input, as the call leaves it. -/
theorem final7 : (dats m 0 c).arrAt 7 (cfgs 0).N = (fun i => (layer m c).dx (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-- The activated inner array. -/
theorem final8 : (dats m 0 c).arrAt 8 (cfgs 0).N = (fun i => (layer m c).act (i 0) (i 1) : S4096x4096.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

/-- The gradient of the inner array. -/
theorem final9 : (dats m 0 c).arrAt 9 (cfgs 0).N = (fun i => (layer m c).da (i 0) (i 1) : S4096x4096.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

/-- The gradient of the block's result before its gate. -/
theorem final10 : (dats m 0 c).arrAt 10 (cfgs 0).N = (fun i => (layer m c).df (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

end Cert.Ffn3Ideal.Value

end
-- ==== Proof.Ffn3Rows.lean ====
/- The rows of column sums that the feed-forward block's backward call accumulates: layer 3. -/
module

public import proofs.«01_k».proof.Proof.Ffn3Blocks

@[expose] public section

set_option maxRecDepth 16384
noncomputable section
open Idealize.ShloMosaic Idealize.ShloMosaic.TcCoe Idealize.SL.Sem
open Idealize.ShloMosaic.Pipeline (Dat)
namespace Cert.Ffn3Ideal.Value
open Cert.Ffn3Ideal Cert.Ffn3Ideal.Gen Cert.Ffn3Ideal.Tile Cert.FfnSpec Cert
variable (m : (ℓ : Loc nD τ sig) → Buf (Elt Ideal) ℓ)

variable (c : Dev nD) (t : Fin cfg0.N)

/-- The row of the gate: reset at the first point, added to at the others. -/
theorem row0_A (h : t.val % 16 = 0) (d : Fin 1024) :
    (outsAt0 m c t.val t.isLt).2.2.2.2 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk3 m c t) d).trans (congrArg (· + _) ?_)
  simp (disch := decide) only [RowBuffer.readCov_row, RowBuffer.read_hit, RowBuffer.read_miss, RowBuffer.read_fill]
  pointwise [k0_pay3]

theorem row0_B (h : ¬ t.val % 16 = 0) (hb : t.val - 1 < cfg0.N) (d : Fin 1024) :
    (outsAt0 m c t.val t.isLt).2.2.2.2 (ix2 (⟨0, by decide⟩ : Fin 8) d)
      = (outsAt0 m c (t.val - 1) hb).2.2.2.2 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk3 m c t) d).trans (congrArg (· + _) ?_)
  exact RowBuffer.ld_row _ _ (by decide) d

/-- The row of the norm's gain: reset at the first point, added to at the others. -/
theorem row1_A (h : t.val % 16 = 0) (d : Fin 1024) :
    (outsAt0 m c t.val t.isLt).2.2.2.2 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ (dh m c t) (xn m c t) d).trans (congrArg (· + _) ?_)
  simp (disch := decide) only [RowBuffer.readCov_row, RowBuffer.read_hit, RowBuffer.read_miss, RowBuffer.read_fill]
  pointwise [k0_pay3]

theorem row1_B (h : ¬ t.val % 16 = 0) (hb : t.val - 1 < cfg0.N) (d : Fin 1024) :
    (outsAt0 m c t.val t.isLt).2.2.2.2 (ix2 (⟨1, by decide⟩ : Fin 8) d)
      = (outsAt0 m c (t.val - 1) hb).2.2.2.2 (ix2 (⟨1, by decide⟩ : Fin 8) d) + (layer m c).part (tile t) 1 d := by
  rw [outsAt0_B m c t h]
  frame_out
  simp (disch := decide) only [RowBuffer.read_hit, RowBuffer.read_miss]
  refine (row1_at _ _ _ (dh m c t) (xn m c t) d).trans (congrArg (· + _) ?_)
  exact RowBuffer.ld_row _ _ (by decide) d

/-- The row of the norm's shift: reset at the first point, added to at the others. -/
theorem row2_A (h : t.val % 16 = 0) (d : Fin 1024) :
    (outsAt0 m c t.val t.isLt).2.2.2.2 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ (dh m c t) d).trans (congrArg (· + _) ?_)
  simp (disch := decide) only [RowBuffer.readCov_row, RowBuffer.read_hit, RowBuffer.read_miss, RowBuffer.read_fill]
  pointwise [k0_pay3]

theorem row2_B (h : ¬ t.val % 16 = 0) (hb : t.val - 1 < cfg0.N) (d : Fin 1024) :
    (outsAt0 m c t.val t.isLt).2.2.2.2 (ix2 (⟨2, by decide⟩ : Fin 8) d)
      = (outsAt0 m c (t.val - 1) hb).2.2.2.2 (ix2 (⟨2, by decide⟩ : Fin 8) d) + (layer m c).part (tile t) 2 d := by
  rw [outsAt0_B m c t h]
  frame_out
  simp (disch := decide) only [RowBuffer.read_hit, RowBuffer.read_miss]
  refine (row2_at _ _ (dh m c t) d).trans (congrArg (· + _) ?_)
  exact RowBuffer.ld_row _ _ (by decide) d

/-- A row of zeros. -/
theorem row3_A (h : t.val % 16 = 0) (d : Fin 1024) :
    (outsAt0 m c t.val t.isLt).2.2.2.2 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  pointwise [k0_pay3]
  rfl

theorem row3_B (h : ¬ t.val % 16 = 0) (hb : t.val - 1 < cfg0.N) (d : Fin 1024) :
    (outsAt0 m c t.val t.isLt).2.2.2.2 (ix2 (⟨3, by decide⟩ : Fin 8) d)
      = (outsAt0 m c (t.val - 1) hb).2.2.2.2 (ix2 (⟨3, by decide⟩ : Fin 8) d) + (layer m c).part (tile t) 3 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row4_A (h : t.val % 16 = 0) (d : Fin 1024) :
    (outsAt0 m c t.val t.isLt).2.2.2.2 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  pointwise [k0_pay3]
  rfl

theorem row4_B (h : ¬ t.val % 16 = 0) (hb : t.val - 1 < cfg0.N) (d : Fin 1024) :
    (outsAt0 m c t.val t.isLt).2.2.2.2 (ix2 (⟨4, by decide⟩ : Fin 8) d)
      = (outsAt0 m c (t.val - 1) hb).2.2.2.2 (ix2 (⟨4, by decide⟩ : Fin 8) d) + (layer m c).part (tile t) 4 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row5_A (h : t.val % 16 = 0) (d : Fin 1024) :
    (outsAt0 m c t.val t.isLt).2.2.2.2 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  pointwise [k0_pay3]
  rfl

theorem row5_B (h : ¬ t.val % 16 = 0) (hb : t.val - 1 < cfg0.N) (d : Fin 1024) :
    (outsAt0 m c t.val t.isLt).2.2.2.2 (ix2 (⟨5, by decide⟩ : Fin 8) d)
      = (outsAt0 m c (t.val - 1) hb).2.2.2.2 (ix2 (⟨5, by decide⟩ : Fin 8) d) + (layer m c).part (tile t) 5 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row6_A (h : t.val % 16 = 0) (d : Fin 1024) :
    (outsAt0 m c t.val t.isLt).2.2.2.2 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  pointwise [k0_pay3]
  rfl

theorem row6_B (h : ¬ t.val % 16 = 0) (hb : t.val - 1 < cfg0.N) (d : Fin 1024) :
    (outsAt0 m c t.val t.isLt).2.2.2.2 (ix2 (⟨6, by decide⟩ : Fin 8) d)
      = (outsAt0 m c (t.val - 1) hb).2.2.2.2 (ix2 (⟨6, by decide⟩ : Fin 8) d) + (layer m c).part (tile t) 6 d := by
  rw [outsAt0_B m c t h]
  frame_out
  simp (disch := decide) only [RowBuffer.read_hit, RowBuffer.read_miss, RowBuffer.read_nil, Memref.IsWhole.read_unread]
  exact (add_zero (_ : EReal)).symm

/-- A row of zeros. -/
theorem row7_A (h : t.val % 16 = 0) (d : Fin 1024) :
    (outsAt0 m c t.val t.isLt).2.2.2.2 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 16 = 0) (hb : t.val - 1 < cfg0.N) (d : Fin 1024) :
    (outsAt0 m c t.val t.isLt).2.2.2.2 (ix2 (⟨7, by decide⟩ : Fin 8) d)
      = (outsAt0 m c (t.val - 1) hb).2.2.2.2 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 16 = 0) (k : Fin 8) (d : Fin 1024) :
    (outsAt0 m c t.val t.isLt).2.2.2.2 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 16 = 0) (hb : t.val - 1 < cfg0.N) (k : Fin 8) (d : Fin 1024) :
    (outsAt0 m c t.val t.isLt).2.2.2.2 (ix2 k d) = (outsAt0 m c (t.val - 1) hb).2.2.2.2 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows as the call leaves them. -/
theorem final11 : (dats m 0 c).arrAt 11 (cfgs 0).N = (fun i => (layer m c).rows (i 0) (i 1) : S8x1024.Idx → EReal) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_15 rfl j, zero_add]
  exact Layer.sum_part (layer m c) (j 0) (j 1)

end Cert.Ffn3Ideal.Value

end
-- ==== Proof.Ffn3Ref.lean ====
/- The reference's gradients of the feed-forward block, entry by entry: layer 3. -/
module

public import proofs.«01_k».proof.Defs
public import proofs.«01_k».proof.Proof.Gen.Ffn3RefIdeal.Run
public import proofs.«01_k».proof.Proof.FfnSpec
public import Idealize.ShloMosaic.Lib.Pointwise

@[expose] public section

set_option maxRecDepth 16384
noncomputable section
open Idealize.ShloMosaic Idealize.ShloMosaic.TcCoe Idealize.SL.Sem
namespace Cert.Ffn3RefIdeal.Spec
open Cert.Ffn3RefIdeal Cert.Ffn3RefIdeal.Gen Cert.Ffn3RefIdeal.Value Cert.FfnSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4096x1024 .f32 := m ((c.tc : Thread nD τ).loc main_arg1)
abbrev arg2 : FVec Ideal S4x6x1024 .f32 := m ((c.tc : Thread nD τ).loc main_arg2)
abbrev arg4 : FVec Ideal S4x1024 .f32 := m ((c.tc : Thread nD τ).loc main_arg4)
abbrev arg5 : FVec Ideal S1024x4096 .f32 := m ((c.tc : Thread nD τ).loc main_arg5)
abbrev arg6 : FVec Ideal S4096x1024 .f32 := m ((c.tc : Thread nD τ).loc main_arg6)

/-- The mean squares of the rows, with the constant added. -/
def meanSq : FVec Ideal S4096x1 .f32 :=
  addf (Host.divf (broadcastInDim S4096x1 ![0] bcast_S4096_S4096x1_0 (Host.reduceAdd (mulf (arg1 m c) (arg1 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Their reciprocal roots. -/
def rinv : FVec Ideal S4096x1 .f32 := Host.rsqrt (meanSq m c)

/-- The normalised input without its gain. -/
def unitArr : FVec Ideal S4096x1024 .f32 :=
  mulf (arg1 m c) (broadcastInDim S4096x1024 ![0, 1] bcast_S4096x1_S4096x1024_0_1 (rinv m c))

/-- The norm's gain with its modulation, for every token. -/
def gainArr : FVec Ideal S4096x1024 .f32 :=
  broadcastInDim S4096x1024 ![0, 1] bcast_S1x1024_S4096x1024_0_1 (broadcastInDim S1x1024 ![1] bcast_S1024_S1x1024_1 (mulf (shapeCast _ (extractStridedSlice S1x1024 ![3, 0] (arg4 m c) slices_S4x1024_S1x1024_3_0) shapeCasts_S1x1024_S1024) (addf (broadcastInDim S1024 ![] bcast_S_S1024 (constant S_ .f32 0x3F800000#32)) (shapeCast _ (extractStridedSlice S1x1x1024 ![3, 4, 0] (arg2 m c) slices_S4x6x1024_S1x1x1024_3_4_0) shapeCasts_S1x1x1024_S1024))))

/-- The inner array before its activation. -/
def innerArr : FVec Ideal S4096x4096 .f32 :=
  Host.dotGeneral dot_S4096x1024_S1024x4096_S4096x4096_1_0_0_1_n_n none (addf (mulf (unitArr m c) (gainArr m c)) (broadcastInDim S4096x1024 ![0, 1] bcast_S1x1024_S4096x1024_0_1 (broadcastInDim S1x1024 ![1] bcast_S1024_S1x1024_1 (shapeCast _ (extractStridedSlice S1x1x1024 ![3, 3, 0] (arg2 m c) slices_S4x6x1024_S1x1x1024_3_3_0) shapeCasts_S1x1x1024_S1024)))) (arg5 m c)

/-- The positive part of the inner array. -/
def posArr : FVec Ideal S4096x4096 .f32 :=
  maximumf (innerArr m c) (broadcastInDim S4096x4096 ![] bcast_S_S4096x4096 (constant S_ .f32 0x00000000#32))

/-- The block's result before its gate. -/
def resultArr : FVec Ideal S4096x1024 .f32 :=
  Host.dotGeneral dot_S4096x4096_S4096x1024_S4096x1024_1_0_0_1_n_n none (mulf (posArr m c) (posArr m c)) (arg6 m c)

/-- The gradient of the block's result before its gate. -/
def dfArr : FVec Ideal S4096x1024 .f32 :=
  mulf (broadcastInDim S4096x1024 ![0, 1] bcast_S1x1024_S4096x1024_0_1 (broadcastInDim S1x1024 ![1] bcast_S1024_S1x1024_1 (shapeCast _ (extractStridedSlice S1x1x1024 ![3, 5, 0] (arg2 m c) slices_S4x6x1024_S1x1x1024_3_5_0) shapeCasts_S1x1x1024_S1024))) (shapeCast S4096x1024 (arg0 m c) shapeCasts_S4096x1024_S4096x1024)

/-- The gradient of the activated inner array. -/
def dpArr : FVec Ideal S4096x4096 .f32 := Host.dotGeneral dot_S4096x1024_S4096x1024_S4096x4096_1_1_0_0_n_n none (dfArr m c) (arg6 m c)

/-- The gradient of the inner array. -/
def daArr : FVec Ideal S4096x4096 .f32 :=
  select (cmpf .ogt (innerArr m c) (broadcastInDim S4096x4096 ![] bcast_S_S4096x4096 (constant S_ .f32 0x00000000#32))) (mulf (dpArr m c) (mulf (broadcastInDim S4096x4096 ![] bcast_S_S4096x4096 (constant S_ .f32 0x40000000#32)) (posArr m c))) (broadcastInDim S4096x4096 ![] bcast_S_S4096x4096 (constant S_ .f32 0x00000000#32))

/-- The gradient of the normalised input. -/
def dhArr : FVec Ideal S4096x1024 .f32 := Host.dotGeneral dot_S4096x4096_S1024x4096_S4096x1024_1_1_0_0_n_n none (daArr m c) (arg5 m c)

/-- That gradient with the gain. -/
def gainedArr : FVec Ideal S4096x1024 .f32 := mulf (dhArr m c) (gainArr m c)

/-- The factor of the input in the gradient through the mean square. -/
def slopeArr : FVec Ideal S4096x1024 .f32 :=
  broadcastInDim S4096x1024 ![0] bcast_S4096_S4096x1024_0 (Host.reduceAdd (Host.divf (mulf (shapeCast _ (Host.reduceAdd (mulf (arg1 m c) (gainedArr m c)) (constant S_ .f32 0x00000000#32) reducesTo_S4096x1024_S4096_d1 h_S_) shapeCasts_S4096_S4096x1) (mulf (broadcastInDim S4096x1 ![] bcast_S_S4096x1 (constant S_ .f32 0xBF000000#32)) (Host.divf (rinv m c) (meanSq m c)))) (broadcastInDim S4096x1 ![] bcast_S_S4096x1 (constant S_ .f32 0x44800000#32))) (constant S_ .f32 0x00000000#32) reducesTo_S4096x1_S4096_d1 h_S_)

/-- The gradient of the block's input. -/
def dxArr : FVec Ideal S4096x1024 .f32 :=
  addf (arg0 m c) (addf (addf (mulf (gainedArr m c) (broadcastInDim S4096x1024 ![0, 1] bcast_S4096x1_S4096x1024_0_1 (rinv m c))) (mulf (arg1 m c) (slopeArr m c))) (mulf (slopeArr m c) (arg1 m c)))

/-- The column sums of an array, as one row. -/
def colSums (v : FVec Ideal S4096x1024 .f32) : FVec Ideal S1x1024 .f32 :=
  broadcastInDim S1x1024 ![1] bcast_S1024_S1x1024_1 (Host.reduceAdd (shapeCast S1x1024 (Host.reduceAdd v (constant S_ .f32 0x00000000#32) reducesTo_S4096x1024_S1024_d0 h_S_) shapeCasts_S1024_S1x1024) (constant S_ .f32 0x00000000#32) reducesTo_S1x1024_S1024_d0 h_S_)

/-- The eight rows. -/
def rowsArr : FVec Ideal S8x1024 .f32 :=
  concatenate S8x1024 0 [⟨S1x1024, colSums (mulf (shapeCast S4096x1024 (arg0 m c) shapeCasts_S4096x1024_S4096x1024) (resultArr m c))⟩,
    ⟨S1x1024, colSums (mulf (unitArr m c) (dhArr m c))⟩, ⟨S1x1024, colSums (dhArr m c)⟩,
    ⟨S5x1024, broadcastInDim S5x1024 ![] bcast_S_S5x1024 (constant S_ .f32 0x00000000#32)⟩]
    concatenates_S1x1024_S1x1024_S1x1024_S5x1024_S8x1024_d0

theorem dx_named : res_out0 m c = dxArr m c := rfl

theorem rows_named : res_out4 m c = rowsArr m c := rfl

/-! ## Their entries -/

/-- The arrays of the block, from the arguments. -/
def layer : Layer where
  ct := fun n d => arg0 m c (ix2 n d)
  x := fun n d => arg1 m c (ix2 n d)
  a := fun n j => innerArr m c (ix2 n j)
  f := fun n d => resultArr m c (ix2 n d)
  gate := fun d => arg2 m c (ix3 3 5 d)
  gain := fun d => (show EReal from arg4 m c (ix2 3 d)) * (1 + (show EReal from arg2 m c (ix3 3 4 d)))
  w1 := fun a j => arg5 m c (ix2 a j)
  w2 := fun j a => arg6 m c (ix2 j a)

theorem df_at (n : Fin 4096) (d : Fin 1024) : dfArr m c (ix2 n d) = (layer m c).df n d := by
  pointwise [dfArr]
  exact EReal.mul_comm _ _

theorem dp_at (n : Fin 4096) (j : Fin 4096) : dpArr m c (ix2 n j) = (layer m c).dp n j := by
  pointwise [dpArr]
  simp only [df_at]
  rfl

theorem act_at (n : Fin 4096) (j : Fin 4096) :
    truncf (F := Ideal) .bf16 (mulf (posArr m c) (posArr m c)) bitsLt_bf16_f32 (ix2 n j) = (layer m c).act n j := by
  pointwise [posArr]
  rfl

theorem da_at (n : Fin 4096) (j : Fin 4096) : daArr m c (ix2 n j) = (layer m c).da n j := by
  pointwise [daArr, posArr]
  rw [dp_at]
  refine Eq.trans ?_ (back_choice ((layer m c).dp n j) ((layer m c).a n j))
  rfl

theorem dh_at (n : Fin 4096) (d : Fin 1024) : dhArr m c (ix2 n d) = (layer m c).dh n d := by
  pointwise [dhArr]
  simp only [da_at]
  rfl

theorem meanSq_at (n : Fin 4096) (k : Fin 1) : meanSq m c (ix2 n k) = NormBack.meanSq ((layer m c).x n) := by
  pointwise [meanSq]
  rfl

theorem rinv_at (n : Fin 4096) (k : Fin 1) : rinv m c (ix2 n k) = NormBack.rinv ((layer m c).x n) := by
  pointwise [rinv]
  rw [meanSq_at]
  rfl

theorem gained_at (n : Fin 4096) (d : Fin 1024) : gainedArr m c (ix2 n d) = (layer m c).dh n d * (layer m c).gain d := by
  pointwise [gainedArr, gainArr]
  rw [dh_at]
  rfl

theorem slope_at (n : Fin 4096) (d : Fin 1024) :
    slopeArr m c (ix2 n d) = NormBack.slope ((layer m c).x n) fun k => (layer m c).dh n k * (layer m c).gain k := by
  pointwise [slopeArr]
  rw [Fin.sum_univ_one]
  simp only [meanSq_at, rinv_at, gained_at]
  rfl

/-- The reference's gradient of the block's input. -/
theorem dx_at (n : Fin 4096) (d : Fin 1024) : dxArr m c (ix2 n d) = (layer m c).dx n d := by
  pointwise [dxArr]
  rw [slope_at, gained_at, rinv_at]
  unfold Layer.dx
  rw [NormBack.back_eq]
  rfl

theorem unit_at (n : Fin 4096) (d : Fin 1024) : unitArr m c (ix2 n d) = unit (layer m c).x n d := by
  pointwise [unitArr]
  rw [rinv_at]
  rfl

/-- The reference's column sums. -/
theorem rows_at (k : Fin 8) (d : Fin 1024) : rowsArr m c (ix2 k d) = (layer m c).rows k d := by
  pointwise [rowsArr, colSums]
  simp only [Fin.sum_univ_one, dh_at, unit_at]
  match k with
  | 0 => rfl
  | 1 =>
    refine Eq.trans (?_ : _ = ∑ n, unit (layer m c).x n d * (layer m c).dh n d) (Finset.sum_congr rfl fun n _ => mul_comm _ _)
    rfl
  | 2 => rfl
  | 3 => rfl
  | 4 => rfl
  | 5 => rfl
  | 6 => rfl
  | 7 => rfl

end Cert.Ffn3RefIdeal.Spec

end
-- ==== Proof.Ffn3Host.lean ====
/- The feed-forward block's kernel and its reference start from the same arrays of the arguments: layer 3. -/
module

public import proofs.«01_k».proof.Proof.Ffn3Rows
public import proofs.«01_k».proof.Proof.Ffn3Ref

@[expose] public section
set_option maxRecDepth 16384
noncomputable section
open Idealize.ShloMosaic Idealize.ShloMosaic.TcCoe Idealize.SL.Sem
namespace Cert.Ffn3Ideal.Value
open Cert.Ffn3Ideal Cert.Ffn3Ideal.Gen Cert.FfnSpec
variable (m : (ℓ : Loc nD τ sig) → Buf (Elt Ideal) ℓ) (c : Dev nD)
  (W : (ℓ : Loc Cert.Ffn3RefIdeal.nD Cert.Ffn3RefIdeal.τ Cert.Ffn3RefIdeal.sig) → Buf (Elt Ideal) ℓ)
  (c' : Dev Cert.Ffn3RefIdeal.nD)

/-! ## The parameters that the host packs -/

theorem flat : List.flatten [hostOps0 (F := Ideal), hostOps0_1, hostOps0_2] = (hostOps0 ++ hostOps0_1) ++ hostOps0_2 := by
  simp only [List.flatten_cons, List.flatten_nil, List.append_nil, List.append_assoc]

/-- The host operations up to the call of the positive part, then those after it. -/
theorem split (b : DevRef τ sig) : StableHlo.after (List.flatten [hostOps0 (F := Ideal), hostOps0_1, hostOps0_2]) (fun b => m (c, b)) b
    = StableHlo.after (hostOps0_2 (F := Ideal)) (StableHlo.after ((hostOps0 (F := Ideal)) ++ hostOps0_1) (fun b => m (c, b))) b := by
  rw [flat, StableHlo.after_append]

theorem first_main_arg2 : StableHlo.after ((hostOps0 (F := Ideal)) ++ hostOps0_1) (fun b => m (c, b)) (Proc.devRef .tc main_arg2) = m (c, Proc.devRef .tc main_arg2) := by
  unfold hostOps0 hostOps0_1
  simp only [List.cons_append, List.nil_append]
  simp only [StableHlo.after_cons, StableHlo.after_nil]
  after_results_loop
  rfl

theorem first_main_arg4 : StableHlo.after ((hostOps0 (F := Ideal)) ++ hostOps0_1) (fun b => m (c, b)) (Proc.devRef .tc main_arg4) = m (c, Proc.devRef .tc main_arg4) := by
  unfold hostOps0 hostOps0_1
  simp only [List.cons_append, List.nil_append]
  simp only [StableHlo.after_cons, StableHlo.after_nil]
  after_results_loop
  rfl

theorem first_main_arg5 : StableHlo.after ((hostOps0 (F := Ideal)) ++ hostOps0_1) (fun b => m (c, b)) (Proc.devRef .tc main_arg5) = m (c, Proc.devRef .tc main_arg5) := by
  unfold hostOps0 hostOps0_1
  simp only [List.cons_append, List.nil_append]
  simp only [StableHlo.after_cons, StableHlo.after_nil]
  after_results_loop
  rfl

theorem first_main_arg6 : StableHlo.after ((hostOps0 (F := Ideal)) ++ hostOps0_1) (fun b => m (c, b)) (Proc.devRef .tc main_arg6) = m (c, Proc.devRef .tc main_arg6) := by
  unfold hostOps0 hostOps0_1
  simp only [List.cons_append, List.nil_append]
  simp only [StableHlo.after_cons, StableHlo.after_nil]
  after_results_loop
  rfl

theorem pv_eq (U : Valuation τ sig (Elt Ideal)) :
    StableHlo.after (hostOps0_2 (F := Ideal)) U (Proc.devRef .tc main_v31) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0_2
  after_results_simp
  try dsimp only [Matrix.cons_val]
  try after_results_simp
  try rfl

theorem pv_rows (k : Fin 8) (hk : k.val < 6) (d : Fin 1024) :
    V m c main_v31 (ix3 3 k d) = m (c, Proc.devRef .tc main_arg2) (ix3 3 ⟨k.val, hk⟩ d) := by
  refine (congrFun (split m c _) _).trans ?_
  rw [pv_eq]
  refine Eq.trans ?_ (congrFun (first_main_arg2 m c) _)
  generalize StableHlo.after ((hostOps0 (F := Ideal)) ++ hostOps0_1) (fun b => m (c, b)) = U
  pointwise
  rw [dif_pos hk]

theorem pv_norm (k : Fin 8) (hk : k.val = 7) (d : Fin 1024) :
    V m c main_v31 (ix3 3 k d) = m (c, Proc.devRef .tc main_arg4) (ix2 3 d) := by
  refine (congrFun (split m c _) _).trans ?_
  rw [pv_eq]
  refine Eq.trans ?_ (congrFun (first_main_arg4 m c) _)
  generalize StableHlo.after ((hostOps0 (F := Ideal)) ++ hostOps0_1) (fun b => m (c, b)) = U
  pointwise
  rw [dif_neg (by omega), dif_neg (by omega)]

theorem w1_eq (U : Valuation τ sig (Elt Ideal)) (a : Fin 1024) (j : Fin 4096) :
    StableHlo.after (hostOps0_2 (F := Ideal)) U (Proc.devRef .tc main_v33) (ix3 0 a j) = U (Proc.devRef .tc main_arg5) (ix2 a j) := by
  unfold hostOps0_2
  after_results_simp
  pointwise

theorem w2_eq (U : Valuation τ sig (Elt Ideal)) (j : Fin 4096) (a : Fin 1024) :
    StableHlo.after (hostOps0_2 (F := Ideal)) U (Proc.devRef .tc main_v35) (ix3 0 j a) = U (Proc.devRef .tc main_arg6) (ix2 j a) := by
  unfold hostOps0_2
  after_results_simp
  pointwise

theorem w1_at (a : Fin 1024) (j : Fin 4096) : V m c main_v33 (ix3 0 a j) = m (c, Proc.devRef .tc main_arg5) (ix2 a j) :=
  (congrFun (split m c _) _).trans ((w1_eq _ a j).trans (congrFun (first_main_arg5 m c) _))

theorem w2_at (j : Fin 4096) (a : Fin 1024) : V m c main_v35 (ix3 0 j a) = m (c, Proc.devRef .tc main_arg6) (ix2 j a) :=
  (congrFun (split m c _) _).trans ((w2_eq _ j a).trans (congrFun (first_main_arg6 m c) _))

/-! ## The two programs' arrays -/

/-- The reference starts from the kernel's arguments. -/
structure SameArgs : Prop where
  a0 : W ((c'.tc : Thread Cert.Ffn3RefIdeal.nD Cert.Ffn3RefIdeal.τ).loc Cert.Ffn3RefIdeal.main_arg0) = m ((c.tc : Thread nD τ).loc main_arg0)
  a1 : W ((c'.tc : Thread Cert.Ffn3RefIdeal.nD Cert.Ffn3RefIdeal.τ).loc Cert.Ffn3RefIdeal.main_arg1) = m ((c.tc : Thread nD τ).loc main_arg1)
  a2 : W ((c'.tc : Thread Cert.Ffn3RefIdeal.nD Cert.Ffn3RefIdeal.τ).loc Cert.Ffn3RefIdeal.main_arg2) = m ((c.tc : Thread nD τ).loc main_arg2)
  a4 : W ((c'.tc : Thread Cert.Ffn3RefIdeal.nD Cert.Ffn3RefIdeal.τ).loc Cert.Ffn3RefIdeal.main_arg4) = m ((c.tc : Thread nD τ).loc main_arg4)
  a5 : W ((c'.tc : Thread Cert.Ffn3RefIdeal.nD Cert.Ffn3RefIdeal.τ).loc Cert.Ffn3RefIdeal.main_arg5) = m ((c.tc : Thread nD τ).loc main_arg5)
  a6 : W ((c'.tc : Thread Cert.Ffn3RefIdeal.nD Cert.Ffn3RefIdeal.τ).loc Cert.Ffn3RefIdeal.main_arg6) = m ((c.tc : Thread nD τ).loc main_arg6)

variable {m c W c'} (s : SameArgs m c W c')
include s
open Cert.Ffn3RefIdeal.Spec (innerArr unitArr rinv meanSq gainArr posArr resultArr)

theorem same_inner : V m c main_v25 = innerArr W c' := by
  simp only [innerArr, unitArr, rinv, meanSq, gainArr, Cert.Ffn3RefIdeal.Spec.arg1, Cert.Ffn3RefIdeal.Spec.arg2,
    Cert.Ffn3RefIdeal.Spec.arg4, Cert.Ffn3RefIdeal.Spec.arg5, s.a1, s.a2, s.a4, s.a5]
  entry_read
  rfl

theorem same_result : V m c main_v28 = resultArr W c' := by
  unfold resultArr posArr Cert.Ffn3RefIdeal.Spec.arg6
  rw [← same_inner s, s.a6]
  entry_read
  rfl

theorem same_gain (d : Fin 1024) : (layer m c).gain d = (Cert.Ffn3RefIdeal.Spec.layer W c').gain d := by
  have h1 : (show EReal from V m c main_v31 (ix3 3 7 d)) = Cert.Ffn3RefIdeal.Spec.arg4 W c' (ix2 3 d) :=
    (pv_norm m c 7 rfl d).trans (congrFun s.a4 (ix2 3 d)).symm
  have h2 : (show EReal from V m c main_v31 (ix3 3 4 d)) = Cert.Ffn3RefIdeal.Spec.arg2 W c' (ix3 3 4 d) :=
    (pv_rows m c 4 (by decide) d).trans (congrFun s.a2 (ix3 3 4 d)).symm
  show (show EReal from V m c main_v31 (ix3 3 7 d)) * (1 + (show EReal from V m c main_v31 (ix3 3 4 d))) = _
  rw [h1, h2]
  rfl

theorem same_gate (d : Fin 1024) : (layer m c).gate d = (Cert.Ffn3RefIdeal.Spec.layer W c').gate d :=
  (pv_rows m c 5 (by decide) d).trans (congrFun s.a2 (ix3 3 5 d)).symm

theorem same_w1 (a : Fin 1024) (j : Fin 4096) : (layer m c).w1 a j = (Cert.Ffn3RefIdeal.Spec.layer W c').w1 a j :=
  (w1_at m c a j).trans (congrFun s.a5 (ix2 a j)).symm

theorem same_w2 (j : Fin 4096) (a : Fin 1024) : (layer m c).w2 j a = (Cert.Ffn3RefIdeal.Spec.layer W c').w2 j a :=
  (w2_at m c j a).trans (congrFun s.a6 (ix2 j a)).symm

theorem same_ct (n : Fin 4096) (d : Fin 1024) : (layer m c).ct n d = (Cert.Ffn3RefIdeal.Spec.layer W c').ct n d :=
  (congrFun (V_main_arg0 m c) (ix2 n d)).trans (congrFun s.a0 (ix2 n d)).symm

theorem same_x (n : Fin 4096) (d : Fin 1024) : (layer m c).x n d = (Cert.Ffn3RefIdeal.Spec.layer W c').x n d :=
  (congrFun (V_main_arg1 m c) (ix2 n d)).trans (congrFun s.a1 (ix2 n d)).symm

theorem same_a (n j : Fin 4096) : (layer m c).a n j = (Cert.Ffn3RefIdeal.Spec.layer W c').a n j := by
  show V m c main_v25 (ix2 n j) = innerArr W c' (ix2 n j)
  rw [same_inner s]

theorem same_f (n : Fin 4096) (d : Fin 1024) : (layer m c).f n d = (Cert.Ffn3RefIdeal.Spec.layer W c').f n d := by
  show V m c main_v28 (ix2 n d) = resultArr W c' (ix2 n d)
  rw [same_result s]

/-- The kernel's block is the reference's. -/
theorem same_layer : layer m c = Cert.Ffn3RefIdeal.Spec.layer W c' := by
  have h0 := same_ct s
  have h1 := same_x s
  have h2 := same_a s
  have h3 := same_f s
  have h4 := same_gate s
  have h5 := same_gain s
  have h6 := same_w1 s
  have h7 := same_w2 s
  exact layer_eq _ _ h0 h1 h2 h3 h4 h5 h6 h7

end Cert.Ffn3Ideal.Value

namespace Cert.Proof

/-- The reference's host operations leave its arguments unchanged, and it declares no semaphore. -/
theorem frame_reference_Ffn3 : Cert.quiescent_Ffn3RefIdeal := fun m ρ _ =>
  (θ_run Cert.Ffn3RefIdeal.defs _ _).mono
    (fun r h => ⟨fun c => (h c).2.2.2.2.2, sem_eq_zero_of_no_sems (by decide) r.2⟩)
    (Cert.Ffn3RefIdeal.Value.run (F := Ideal) m ρ)

/-- From the same arguments the kernel and the reference end with the same five results. -/
theorem algebraic_Ffn3 : Cert.algebraic_Ffn3Ideal_Ffn3RefIdeal := by
  intro m g m' g' _ he
  have hs : ∀ c, Cert.Ffn3Ideal.Value.SameArgs m c m' c := fun c =>
    ⟨(he c).1, (he c).2.1, (he c).2.2.1, (he c).2.2.2.2.1, (he c).2.2.2.2.2.1, (he c).2.2.2.2.2.2⟩
  refine ⟨fun c i => (Cert.Ffn3Ideal.Value.layer m c).dx (i 0) (i 1), fun c i => (Cert.Ffn3Ideal.Value.layer m c).act (i 0) (i 1),
    fun c i => (Cert.Ffn3Ideal.Value.layer m c).da (i 0) (i 1), fun c i => (Cert.Ffn3Ideal.Value.layer m c).df (i 0) (i 1),
    fun c i => (Cert.Ffn3Ideal.Value.layer m c).rows (i 0) (i 1), ?_, ?_⟩
  · refine (θ_run Cert.Ffn3Ideal.defs _ _).mono (fun r h c => ?_) (Cert.Ffn3Ideal.Value.run_blocks (F := Ideal) m g)
    obtain ⟨h0, h1, h2, h3, h4, ha⟩ := h c
    exact ⟨h0.trans (Cert.Ffn3Ideal.Value.final7 m c), h1.trans (Cert.Ffn3Ideal.Value.final8 m c),
      h2.trans (Cert.Ffn3Ideal.Value.final9 m c), h3.trans (Cert.Ffn3Ideal.Value.final10 m c),
      h4.trans (Cert.Ffn3Ideal.Value.final11 m c), ha⟩
  · refine (θ_run Cert.Ffn3RefIdeal.defs _ _).mono (fun r h c => ?_) (Cert.Ffn3RefIdeal.Value.run (F := Ideal) m' g')
    obtain ⟨h0, h1, h2, h3, h4, ha⟩ := h c
    have e := Cert.Ffn3Ideal.Value.same_layer (hs c)
    refine ⟨h0.trans (funext fun i => ?_), h1.trans (funext fun i => ?_), h2.trans (funext fun i => ?_), h3.trans (funext fun i => ?_),
      h4.trans (funext fun i => ?_), ha⟩
    · exact (congrArg _ (eq_ix2 i)).trans ((Cert.Ffn3RefIdeal.Spec.dx_at m' c (i 0) (i 1)).trans (congrArg (fun L => Cert.FfnSpec.Layer.dx L (i 0) (i 1)) e.symm))
    · exact (congrArg _ (eq_ix2 i)).trans ((Cert.Ffn3RefIdeal.Spec.act_at m' c (i 0) (i 1)).trans (congrArg (fun L => Cert.FfnSpec.Layer.act L (i 0) (i 1)) e.symm))
    · exact (congrArg _ (eq_ix2 i)).trans ((Cert.Ffn3RefIdeal.Spec.da_at m' c (i 0) (i 1)).trans (congrArg (fun L => Cert.FfnSpec.Layer.da L (i 0) (i 1)) e.symm))
    · exact (congrArg _ (eq_ix2 i)).trans ((Cert.Ffn3RefIdeal.Spec.df_at m' c (i 0) (i 1)).trans (congrArg (fun L => Cert.FfnSpec.Layer.df L (i 0) (i 1)) e.symm))
    · exact (congrArg _ (eq_ix2 i)).trans ((Cert.Ffn3RefIdeal.Spec.rows_at m' c (i 0) (i 1)).trans (congrArg (fun L => Cert.FfnSpec.Layer.rows L (i 0) (i 1)) e.symm))

end Cert.Proof

end
-- ==== Proof.FwdSpec.lean ====
/- The forward values of one feed-forward block, entry by entry, as functions of the arrays that it is given. -/
module

public import proofs.«01_k».proof.Proof.FfnSpec

@[expose] public section

noncomputable section

namespace Cert.FwdSpec

open Idealize.ShloMosaic Cert.FfnSpec

/-- Token `n` of a tile's row `r`, the tiles of 512 tokens being numbered from the first token. -/
def row (q : Fin 8) (r : Fin 512) : Fin 4096 := ⟨q.val * 512 + r.val, by omega⟩

/-- The arrays that one feed-forward block is given. -/
@[ext] structure Block where
  /-- The block's input. -/
  x : Tok
  /-- The norm's gain. -/
  norm : Fin 1024 → EReal
  /-- What is added to one in the norm's modulation. -/
  scale : Fin 1024 → EReal
  /-- The norm's shift. -/
  shift : Fin 1024 → EReal
  /-- The gate on the block's result. -/
  gate : Fin 1024 → EReal
  /-- The first weight. -/
  w1 : Fin 1024 → Fin 4096 → EReal
  /-- The second weight. -/
  w2 : Fin 4096 → Fin 1024 → EReal

/-- Blocks with the same arrays are the same. -/
theorem block_eq (A B : Block) (h0 : ∀ n d, A.x n d = B.x n d) (h1 : ∀ d, A.norm d = B.norm d) (h2 : ∀ d, A.scale d = B.scale d)
    (h3 : ∀ d, A.shift d = B.shift d) (h4 : ∀ d, A.gate d = B.gate d) (h5 : ∀ a j, A.w1 a j = B.w1 a j)
    (h6 : ∀ j a, A.w2 j a = B.w2 j a) : A = B :=
  Block.ext (funext fun n => funext (h0 n)) (funext h1) (funext h2) (funext h3) (funext h4) (funext fun a => funext (h5 a))
    (funext fun j => funext (h6 j))

namespace Block

variable (L : Block)

/-- The normalised and modulated input. -/
def h : Tok := fun n d => unit L.x n d * L.norm d * (1 + L.scale d) + L.shift d
/-- The inner array before its activation. -/
def a : Inner := fun n j => ∑ k, L.h n k * L.w1 k j
/-- The block's result before its gate. -/
def f : Tok := fun n d => ∑ j, pos (L.a n j) * pos (L.a n j) * L.w2 j d
/-- The block's output. -/
def y : Tok := fun n d => L.x n d + L.gate d * L.f n d

end Block

end Cert.FwdSpec

end
-- ==== Proof.Fwd0Call.lean ====
/- What the feed-forward block's forward call leaves in its four arrays: layer 0. -/
module

public import proofs.«01_k».proof.Defs
public import proofs.«01_k».proof.Proof.Gen.Fwd0Ideal.Value
public import Idealize.ShloMosaic.Lib.Pipeline.ValueKit
public import Idealize.ShloMosaic.Lib.Pointwise
public import Idealize.ShloMosaic.Lib.Claim
public import proofs.«01_k».proof.Proof.FwdSpec

@[expose] public section

set_option maxRecDepth 16384
noncomputable section
open Idealize.ShloMosaic Idealize.ShloMosaic.TcCoe Idealize.SL.Sem
open Idealize.ShloMosaic.Pipeline (Dat)
namespace Cert.Fwd0Ideal.Value
open Cert.Fwd0Ideal Cert.Fwd0Ideal.Gen Cert.FfnSpec Cert.FwdSpec Cert
variable (m : (ℓ : Loc nD τ sig) → Buf (Elt Ideal) ℓ) (c : Dev nD) (t : Fin cfg0.N)

/-! ## One tile -/

/-- `v` holds tile `q` of the array `f`. -/
def Holds (q : Fin 8) (v : S512x1024.Idx → EReal) (f : Tok) : Prop := ∀ (r : Fin 512) (d : Fin 1024), v (ix2 r d) = f (FwdSpec.row q r) d

/-- `v` holds tile `q` of the inner array `f`. -/
def HoldsInner (q : Fin 8) (v : S512x4096.Idx → EReal) (f : Inner) : Prop := ∀ (r : Fin 512) (j : Fin 4096), v (ix2 r j) = f (FwdSpec.row q r) j

/-- The blocks that a grid point reads are tile `q` of the block's arrays. -/
structure Reads (q : Fin 8) (L : Block) (b0 : Vec Ideal S512x1024 .f32) (b1 : Vec Ideal S1x8x1024 .f32) (b2 : Vec Ideal S1x1024x4096 .bf16)
    (b3 : Vec Ideal S1x4096x1024 .bf16) : Prop where
  x : Holds q b0 L.x
  shift : ∀ d, b1 (ix3 0 3 d) = L.shift d
  scale : ∀ d, b1 (ix3 0 4 d) = L.scale d
  gate : ∀ d, b1 (ix3 0 5 d) = L.gate d
  norm : ∀ d, b1 (ix3 0 7 d) = L.norm d
  w1 : ∀ a j, b2 (ix3 0 a j) = L.w1 a j
  w2 : ∀ j a, b3 (ix3 0 j a) = L.w2 j a

variable {q : Fin 8} {L : Block} {b0 : Vec Ideal S512x1024 .f32} {b1 : Vec Ideal S1x8x1024 .f32} {b2 : Vec Ideal S1x1024x4096 .bf16}
  {b3 : Vec Ideal S1x4096x1024 .bf16}

theorem h_at (R : Reads q L b0 b1 b2 b3) : Holds q (k0_pay4 b0 b1) L.h := fun r d => by
  pointwise [k0_pay4, k0_pay3]
  simp only [R.x r, R.shift d, R.scale d, R.norm d]
  rfl

theorem a_at (R : Reads q L b0 b1 b2 b3) : HoldsInner q (k0_pay5 b0 b1 b2) L.a := fun r j => by
  pointwise [k0_pay5]
  exact Finset.sum_congr rfl fun k _ => by rw [h_at R r k, R.w1]

theorem f_at (R : Reads q L b0 b1 b2 b3) : Holds q (k0_pay1 (k0_pay6 b0 b1 b2) (k0_pay7 b3)) L.f := fun r d => by
  pointwise [k0_pay1, k0_pay6, k0_pay7]
  refine Finset.sum_congr rfl fun k _ => ?_
  rw [a_at R r k, R.w2]
  rfl

theorem y_at (R : Reads q L b0 b1 b2 b3) : Holds q (k0_pay2 b0 (k0_pay3 b1) (k0_pay6 b0 b1 b2) (k0_pay7 b3)) L.y := fun r d => by
  pointwise [k0_pay2, k0_pay3]
  rw [R.x r d, R.gate d, f_at R r d]
  rfl

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![0, 0, 0] ∧ win0_2.index t = ![0, 0, 0]
    ∧ win0_3.index t = ![0, 0, 0] :=
  (by decide +kernel : ∀ t : Fin grid0.N, _)

/-- The block's arrays as the call finds them. -/
def block (c : Dev nD) : Block where
  x := fun n d => V m c main_arg0 (ix2 n d)
  shift := fun d => V m c main_v2 (ix3 0 3 d)
  scale := fun d => V m c main_v2 (ix3 0 4 d)
  gate := fun d => V m c main_v2 (ix3 0 5 d)
  norm := fun d => V m c main_v2 (ix3 0 7 d)
  w1 := fun a j => V m c main_v4 (ix3 0 a j)
  w2 := fun j a => V m c main_v6 (ix3 0 j a)

theorem blk0 (r : Fin 512) (d : Fin 1024) : iblk m c 0 t (ix2 r d) = V m c main_arg0 (ix2 (FwdSpec.row (tile t) r) d) := by
  unfold tile FwdSpec.row
  blk_point [iblk, idx t]

theorem blk1 (s : Fin 8) (d : Fin 1024) : iblk m c 1 t (ix3 0 s d) = V m c main_v2 (ix3 0 s d) := by
  blk_point [iblk, idx t]

theorem blk2 (a : Fin 1024) (j : Fin 4096) : iblk m c 2 t (ix3 0 a j) = V m c main_v4 (ix3 0 a j) := by
  blk_point [iblk, idx t]

theorem blk3 (j : Fin 4096) (a : Fin 1024) : iblk m c 3 t (ix3 0 j a) = V m c main_v6 (ix3 0 j a) := by
  blk_point [iblk, idx t]

theorem reads : Reads (tile t) (block m c) (iblk m c 0 t) (iblk m c 1 t) (iblk m c 2 t) (iblk m c 3 t) where
  x := blk0 m c t
  shift := blk1 m c t 3
  scale := blk1 m c t 4
  gate := blk1 m c t 5
  norm := blk1 m c t 7
  w1 := blk2 m c t
  w2 := blk3 m c t

theorem out4 : Holds (tile t) (out0_4 (iblk m c 0 t) (iblk m c 1 t) (iblk m c 2 t) (iblk m c 3 t)) (block m c).y := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact y_at R r d

theorem out5 : Holds (tile t) (out0_5 (iblk m c 0 t) (iblk m c 1 t) (iblk m c 2 t) (iblk m c 3 t)) (block m c).h := fun r d => by
  have R := reads m c t
  generalize iblk m c 0 t = c0 at *
  generalize iblk m c 1 t = c1 at *
  generalize iblk m c 2 t = c2 at *
  generalize iblk m c 3 t = c3 at *
  frame_out
  exact h_at R r d

theorem out6 : HoldsInner (tile t) (out0_6 (iblk m c 0 t) (iblk m c 1 t) (iblk m c 2 t) (iblk m c 3 t)) (block m c).a := fun r d => by
  have R := reads m c t
  generalize iblk m c 0 t = c0 at *
  generalize iblk m c 1 t = c1 at *
  generalize iblk m c 2 t = c2 at *
  generalize iblk m c 3 t = c3 at *
  frame_out
  exact a_at R r d

theorem out7 : Holds (tile t) (out0_7 (iblk m c 0 t) (iblk m c 1 t) (iblk m c 2 t) (iblk m c 3 t)) (block m c).f := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact f_at R r d

/-! ## The arrays after the call -/

theorem idxOut : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

theorem emb4 (y : S512x1024.Idx) : ((View.whole main_v7_0).slice (win0_4.rect t)).emb y = ix2 (FwdSpec.row (tile t) (y 0)) (y 1) := by
  unfold FwdSpec.row tile
  blk_ext [idxOut t]

theorem emb5 (y : S512x1024.Idx) : ((View.whole main_v7_1).slice (win0_5.rect t)).emb y = ix2 (FwdSpec.row (tile t) (y 0)) (y 1) := by
  unfold FwdSpec.row tile
  blk_ext [idxOut t]

theorem emb6 (y : S512x4096.Idx) : ((View.whole main_v7_2).slice (win0_6.rect t)).emb y = ix2 (FwdSpec.row (tile t) (y 0)) (y 1) := by
  unfold FwdSpec.row tile
  blk_ext [idxOut t]

theorem emb7 (y : S512x1024.Idx) : ((View.whole main_v7_3).slice (win0_7.rect t)).emb y = ix2 (FwdSpec.row (tile t) (y 0)) (y 1) := by
  unfold FwdSpec.row tile
  blk_ext [idxOut t]

/-- The block's output, as the call leaves it. -/
theorem final4 : (dats m 0 c).arrAt 4 (cfgs 0).N = (fun i => (block m c).y (i 0) (i 1) : S4096x1024.Idx → EReal) := by
  refine (dats m 0 c).arrAt_eq_of_covers 4 _ (by decide +kernel) fun t _ y => ?_
  blk_simp
  rw [after0_4, emb4 t y]
  exact (congrArg _ (eq_ix2 y)).trans (out4 m c t (y 0) (y 1))

/-- The normalised and modulated input. -/
theorem final5 : (dats m 0 c).arrAt 5 (cfgs 0).N = (fun i => (block m c).h (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

/-- The inner array before its activation. -/
theorem final6 : (dats m 0 c).arrAt 6 (cfgs 0).N = (fun i => (block m c).a (i 0) (i 1) : S4096x4096.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

/-- The block's result before its gate. -/
theorem final7 : (dats m 0 c).arrAt 7 (cfgs 0).N = (fun i => (block m c).f (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem pv_rows (k : Fin 8) (hk : k.val < 6) (d : Fin 1024) :
    V m c main_v2 (ix3 0 k d) = m (c, Proc.devRef .tc main_arg1) (ix3 0 ⟨k.val, hk⟩ d) := by
  refine (congrFun (pv_eq _) _).trans ?_
  generalize (fun b => m (c, b)) = U
  pointwise
  rw [dif_pos hk]

theorem pv_norm (k : Fin 8) (hk : k.val = 7) (d : Fin 1024) :
    V m c main_v2 (ix3 0 k d) = m (c, Proc.devRef .tc main_arg3) (ix2 0 d) := by
  refine (congrFun (pv_eq _) _).trans ?_
  generalize (fun b => m (c, b)) = U
  pointwise
  rw [dif_neg (by omega), dif_neg (by omega)]

theorem w1_eq (U : Valuation τ sig (Elt Ideal)) (a : Fin 1024) (j : Fin 4096) :
    StableHlo.after (hostOps0 (F := Ideal)) U (Proc.devRef .tc main_v4) (ix3 0 a j) = U (Proc.devRef .tc main_arg4) (ix2 a j) := by
  unfold hostOps0
  after_results_simp
  pointwise

theorem w2_eq (U : Valuation τ sig (Elt Ideal)) (j : Fin 4096) (a : Fin 1024) :
    StableHlo.after (hostOps0 (F := Ideal)) U (Proc.devRef .tc main_v6) (ix3 0 j a) = U (Proc.devRef .tc main_arg5) (ix2 j a) := by
  unfold hostOps0
  after_results_simp
  pointwise

theorem w1_at (a : Fin 1024) (j : Fin 4096) : V m c main_v4 (ix3 0 a j) = m (c, Proc.devRef .tc main_arg4) (ix2 a j) :=
  w1_eq (fun b => m (c, b)) a j

theorem w2_at (j : Fin 4096) (a : Fin 1024) : V m c main_v6 (ix3 0 j a) = m (c, Proc.devRef .tc main_arg5) (ix2 j a) :=
  w2_eq (fun b => m (c, b)) j a

end Cert.Fwd0Ideal.Value

end
-- ==== Proof.Fwd0Ref.lean ====
/- The reference's forward values of the feed-forward block, and their equality with the call's: layer 0. -/
module

public import proofs.«01_k».proof.Defs
public import proofs.«01_k».proof.Proof.Gen.Fwd0RefIdeal.Run
public import proofs.«01_k».proof.Proof.Fwd0Call

@[expose] public section

set_option maxRecDepth 16384
noncomputable section
open Idealize.ShloMosaic Idealize.ShloMosaic.TcCoe Idealize.SL.Sem
namespace Cert.Fwd0RefIdeal.Spec
open Cert.Fwd0RefIdeal Cert.Fwd0RefIdeal.Gen Cert.Fwd0RefIdeal.Value Cert.FfnSpec Cert.FwdSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg3 : FVec Ideal S4x1024 .f32 := m ((c.tc : Thread nD τ).loc main_arg3)
abbrev arg4 : FVec Ideal S1024x4096 .f32 := m ((c.tc : Thread nD τ).loc main_arg4)
abbrev arg5 : FVec Ideal S4096x1024 .f32 := m ((c.tc : Thread nD τ).loc main_arg5)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![0, 0] (arg3 m c) slices_S4x1024_S1x1024_0_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![0, 4, 0] (arg1 m c) slices_S4x6x1024_S1x1x1024_0_4_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![0, 3, 0] (arg1 m c) slices_S4x6x1024_S1x1x1024_0_3_0) shapeCasts_S1x1x1024_S1024)))

/-- The inner array before its activation. -/
def aArr : FVec Ideal S4096x4096 .f32 :=
  Host.dotGeneral dot_S4096x1024_S1024x4096_S4096x4096_1_0_0_1_n_n none (hArr m c) (arg4 m c)

/-- The block's result before its gate. -/
def fArr : FVec Ideal S4096x1024 .f32 :=
  Host.dotGeneral dot_S4096x4096_S4096x1024_S4096x1024_1_0_0_1_n_n none (mulf (maximumf (aArr m c) (broadcastInDim S4096x4096 ![] bcast_S_S4096x4096 (constant S_ .f32 0x00000000#32))) (maximumf (aArr m c) (broadcastInDim S4096x4096 ![] bcast_S_S4096x4096 (constant S_ .f32 0x00000000#32)))) (arg5 m c)

/-- The block's output. -/
def yArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![0, 5, 0] (arg1 m c) slices_S4x6x1024_S1x1x1024_0_5_0) shapeCasts_S1x1x1024_S1024))) (fArr m c))

/-! ## Their entries -/

/-- The arrays of the block, from the arguments. -/
def block : Block where
  x := fun n d => arg0 m c (ix2 n d)
  shift := fun d => arg1 m c (ix3 0 3 d)
  scale := fun d => arg1 m c (ix3 0 4 d)
  gate := fun d => arg1 m c (ix3 0 5 d)
  norm := fun d => arg3 m c (ix2 0 d)
  w1 := fun a j => arg4 m c (ix2 a j)
  w2 := fun j a => arg5 m c (ix2 j a)

theorem h_at (n : Fin 4096) (d : Fin 1024) : hArr m c (ix2 n d) = (block m c).h n d := by
  pointwise [hArr]
  rfl

theorem a_at (n : Fin 4096) (j : Fin 4096) : aArr m c (ix2 n j) = (block m c).a n j := by
  pointwise [aArr]
  simp only [h_at]
  rfl

theorem f_at (n : Fin 4096) (d : Fin 1024) : fArr m c (ix2 n d) = (block m c).f n d := by
  pointwise [fArr]
  simp only [a_at]
  rfl

theorem y_at (n : Fin 4096) (d : Fin 1024) : yArr m c (ix2 n d) = (block m c).y n d := by
  pointwise [yArr]
  rw [f_at]
  rfl

end Cert.Fwd0RefIdeal.Spec

namespace Cert.Fwd0Ideal.Value
open Cert.Fwd0Ideal Cert.Fwd0Ideal.Gen Cert.FfnSpec Cert.FwdSpec
variable (m : (ℓ : Loc nD τ sig) → Buf (Elt Ideal) ℓ) (c : Dev nD)
  (W : (ℓ : Loc Cert.Fwd0RefIdeal.nD Cert.Fwd0RefIdeal.τ Cert.Fwd0RefIdeal.sig) → Buf (Elt Ideal) ℓ)
  (c' : Dev Cert.Fwd0RefIdeal.nD)

/-- The reference starts from the kernel's arguments. -/
structure SameArgs : Prop where
  a0 : W ((c'.tc : Thread Cert.Fwd0RefIdeal.nD Cert.Fwd0RefIdeal.τ).loc Cert.Fwd0RefIdeal.main_arg0) = m ((c.tc : Thread nD τ).loc main_arg0)
  a1 : W ((c'.tc : Thread Cert.Fwd0RefIdeal.nD Cert.Fwd0RefIdeal.τ).loc Cert.Fwd0RefIdeal.main_arg1) = m ((c.tc : Thread nD τ).loc main_arg1)
  a3 : W ((c'.tc : Thread Cert.Fwd0RefIdeal.nD Cert.Fwd0RefIdeal.τ).loc Cert.Fwd0RefIdeal.main_arg3) = m ((c.tc : Thread nD τ).loc main_arg3)
  a4 : W ((c'.tc : Thread Cert.Fwd0RefIdeal.nD Cert.Fwd0RefIdeal.τ).loc Cert.Fwd0RefIdeal.main_arg4) = m ((c.tc : Thread nD τ).loc main_arg4)
  a5 : W ((c'.tc : Thread Cert.Fwd0RefIdeal.nD Cert.Fwd0RefIdeal.τ).loc Cert.Fwd0RefIdeal.main_arg5) = m ((c.tc : Thread nD τ).loc main_arg5)

variable {m c W c'}

/-- The kernel's block is the reference's. -/
theorem same_block (s : SameArgs m c W c') : block m c = Cert.Fwd0RefIdeal.Spec.block W c' :=
  block_eq _ _ (fun n d => (congrFun (V_main_arg0 m c) (ix2 n d)).trans (congrFun s.a0 (ix2 n d)).symm)
    (fun d => (pv_norm m c 7 rfl d).trans (congrFun s.a3 (ix2 0 d)).symm)
    (fun d => (pv_rows m c 4 (by decide) d).trans (congrFun s.a1 (ix3 0 4 d)).symm)
    (fun d => (pv_rows m c 3 (by decide) d).trans (congrFun s.a1 (ix3 0 3 d)).symm)
    (fun d => (pv_rows m c 5 (by decide) d).trans (congrFun s.a1 (ix3 0 5 d)).symm)
    (fun a j => (w1_at m c a j).trans (congrFun s.a4 (ix2 a j)).symm)
    (fun j a => (w2_at m c j a).trans (congrFun s.a5 (ix2 j a)).symm)

end Cert.Fwd0Ideal.Value

namespace Cert.Proof

/-- The reference's host operations leave its arguments unchanged, and it declares no semaphore. -/
theorem frame_reference_Fwd0 : Cert.quiescent_Fwd0RefIdeal := fun m ρ _ =>
  (θ_run Cert.Fwd0RefIdeal.defs _ _).mono
    (fun r h => ⟨fun c => (h c).2.2.2.2, sem_eq_zero_of_no_sems (by decide) r.2⟩)
    (Cert.Fwd0RefIdeal.Value.run (F := Ideal) m ρ)

/-- From the same arguments the kernel and the reference end with the same four results. -/
theorem algebraic_Fwd0 : Cert.algebraic_Fwd0Ideal_Fwd0RefIdeal := by
  intro m g m' g' _ he
  have hs : ∀ c, Cert.Fwd0Ideal.Value.SameArgs m c m' c := fun c =>
    ⟨(he c).1, (he c).2.1, (he c).2.2.2.1, (he c).2.2.2.2.1, (he c).2.2.2.2.2⟩
  refine ⟨fun c i => (Cert.Fwd0Ideal.Value.block m c).y (i 0) (i 1), fun c i => (Cert.Fwd0Ideal.Value.block m c).h (i 0) (i 1),
    fun c i => (Cert.Fwd0Ideal.Value.block m c).a (i 0) (i 1), fun c i => (Cert.Fwd0Ideal.Value.block m c).f (i 0) (i 1), ?_, ?_⟩
  · refine (θ_run Cert.Fwd0Ideal.defs _ _).mono (fun r h c => ?_) (Cert.Fwd0Ideal.Value.run_blocks (F := Ideal) m g)
    obtain ⟨h0, h1, h2, h3, ha⟩ := h c
    exact ⟨h0.trans (Cert.Fwd0Ideal.Value.final4 m c), h1.trans (Cert.Fwd0Ideal.Value.final5 m c),
      h2.trans (Cert.Fwd0Ideal.Value.final6 m c), h3.trans (Cert.Fwd0Ideal.Value.final7 m c), ha⟩
  · refine (θ_run Cert.Fwd0RefIdeal.defs _ _).mono (fun r h c => ?_) (Cert.Fwd0RefIdeal.Value.run (F := Ideal) m' g')
    obtain ⟨h0, h1, h2, h3, ha⟩ := h c
    have e := Cert.Fwd0Ideal.Value.same_block (hs c)
    refine ⟨h0.trans (funext fun i => ?_), h1.trans (funext fun i => ?_), h2.trans (funext fun i => ?_), h3.trans (funext fun i => ?_), ha⟩
    · exact (congrArg (Cert.Fwd0RefIdeal.Spec.yArr m' c) (eq_ix2 i)).trans ((Cert.Fwd0RefIdeal.Spec.y_at m' c (i 0) (i 1)).trans (congrArg (fun L => Cert.FwdSpec.Block.y L (i 0) (i 1)) e.symm))
    · exact (congrArg (Cert.Fwd0RefIdeal.Spec.hArr m' c) (eq_ix2 i)).trans ((Cert.Fwd0RefIdeal.Spec.h_at m' c (i 0) (i 1)).trans (congrArg (fun L => Cert.FwdSpec.Block.h L (i 0) (i 1)) e.symm))
    · exact (congrArg (Cert.Fwd0RefIdeal.Spec.aArr m' c) (eq_ix2 i)).trans ((Cert.Fwd0RefIdeal.Spec.a_at m' c (i 0) (i 1)).trans (congrArg (fun L => Cert.FwdSpec.Block.a L (i 0) (i 1)) e.symm))
    · exact (congrArg (Cert.Fwd0RefIdeal.Spec.fArr m' c) (eq_ix2 i)).trans ((Cert.Fwd0RefIdeal.Spec.f_at m' c (i 0) (i 1)).trans (congrArg (fun L => Cert.FwdSpec.Block.f L (i 0) (i 1)) e.symm))

end Cert.Proof

end
-- ==== Proof.Fwd1Call.lean ====
/- What the feed-forward block's forward call leaves in its four arrays: layer 1. -/
module

public import proofs.«01_k».proof.Defs
public import proofs.«01_k».proof.Proof.Gen.Fwd1Ideal.Value
public import Idealize.ShloMosaic.Lib.Pipeline.ValueKit
public import Idealize.ShloMosaic.Lib.Pointwise
public import Idealize.ShloMosaic.Lib.Claim
public import proofs.«01_k».proof.Proof.FwdSpec

@[expose] public section

set_option maxRecDepth 16384
noncomputable section
open Idealize.ShloMosaic Idealize.ShloMosaic.TcCoe Idealize.SL.Sem
open Idealize.ShloMosaic.Pipeline (Dat)
namespace Cert.Fwd1Ideal.Value
open Cert.Fwd1Ideal Cert.Fwd1Ideal.Gen Cert.FfnSpec Cert.FwdSpec Cert
variable (m : (ℓ : Loc nD τ sig) → Buf (Elt Ideal) ℓ) (c : Dev nD) (t : Fin cfg0.N)

/-! ## One tile -/

/-- `v` holds tile `q` of the array `f`. -/
def Holds (q : Fin 8) (v : S512x1024.Idx → EReal) (f : Tok) : Prop := ∀ (r : Fin 512) (d : Fin 1024), v (ix2 r d) = f (FwdSpec.row q r) d

/-- `v` holds tile `q` of the inner array `f`. -/
def HoldsInner (q : Fin 8) (v : S512x4096.Idx → EReal) (f : Inner) : Prop := ∀ (r : Fin 512) (j : Fin 4096), v (ix2 r j) = f (FwdSpec.row q r) j

/-- The blocks that a grid point reads are tile `q` of the block's arrays. -/
structure Reads (q : Fin 8) (L : Block) (b0 : Vec Ideal S512x1024 .f32) (b1 : Vec Ideal S1x8x1024 .f32) (b2 : Vec Ideal S1x1024x4096 .bf16)
    (b3 : Vec Ideal S1x4096x1024 .bf16) : Prop where
  x : Holds q b0 L.x
  shift : ∀ d, b1 (ix3 0 3 d) = L.shift d
  scale : ∀ d, b1 (ix3 0 4 d) = L.scale d
  gate : ∀ d, b1 (ix3 0 5 d) = L.gate d
  norm : ∀ d, b1 (ix3 0 7 d) = L.norm d
  w1 : ∀ a j, b2 (ix3 0 a j) = L.w1 a j
  w2 : ∀ j a, b3 (ix3 0 j a) = L.w2 j a

variable {q : Fin 8} {L : Block} {b0 : Vec Ideal S512x1024 .f32} {b1 : Vec Ideal S1x8x1024 .f32} {b2 : Vec Ideal S1x1024x4096 .bf16}
  {b3 : Vec Ideal S1x4096x1024 .bf16}

theorem h_at (R : Reads q L b0 b1 b2 b3) : Holds q (k0_pay4 b0 b1) L.h := fun r d => by
  pointwise [k0_pay4, k0_pay3]
  simp only [R.x r, R.shift d, R.scale d, R.norm d]
  rfl

theorem a_at (R : Reads q L b0 b1 b2 b3) : HoldsInner q (k0_pay5 b0 b1 b2) L.a := fun r j => by
  pointwise [k0_pay5]
  exact Finset.sum_congr rfl fun k _ => by rw [h_at R r k, R.w1]

theorem f_at (R : Reads q L b0 b1 b2 b3) : Holds q (k0_pay1 (k0_pay6 b0 b1 b2) (k0_pay7 b3)) L.f := fun r d => by
  pointwise [k0_pay1, k0_pay6, k0_pay7]
  refine Finset.sum_congr rfl fun k _ => ?_
  rw [a_at R r k, R.w2]
  rfl

theorem y_at (R : Reads q L b0 b1 b2 b3) : Holds q (k0_pay2 b0 (k0_pay3 b1) (k0_pay6 b0 b1 b2) (k0_pay7 b3)) L.y := fun r d => by
  pointwise [k0_pay2, k0_pay3]
  rw [R.x r d, R.gate d, f_at R r d]
  rfl

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![1, 0, 0] ∧ win0_2.index t = ![0, 0, 0]
    ∧ win0_3.index t = ![0, 0, 0] :=
  (by decide +kernel : ∀ t : Fin grid0.N, _)

/-- The block's arrays as the call finds them. -/
def block (c : Dev nD) : Block where
  x := fun n d => V m c main_arg0 (ix2 n d)
  shift := fun d => V m c main_v2 (ix3 1 3 d)
  scale := fun d => V m c main_v2 (ix3 1 4 d)
  gate := fun d => V m c main_v2 (ix3 1 5 d)
  norm := fun d => V m c main_v2 (ix3 1 7 d)
  w1 := fun a j => V m c main_v4 (ix3 0 a j)
  w2 := fun j a => V m c main_v6 (ix3 0 j a)

theorem blk0 (r : Fin 512) (d : Fin 1024) : iblk m c 0 t (ix2 r d) = V m c main_arg0 (ix2 (FwdSpec.row (tile t) r) d) := by
  unfold tile FwdSpec.row
  blk_point [iblk, idx t]

theorem blk1 (s : Fin 8) (d : Fin 1024) : iblk m c 1 t (ix3 0 s d) = V m c main_v2 (ix3 1 s d) := by
  blk_point [iblk, idx t]

theorem blk2 (a : Fin 1024) (j : Fin 4096) : iblk m c 2 t (ix3 0 a j) = V m c main_v4 (ix3 0 a j) := by
  blk_point [iblk, idx t]

theorem blk3 (j : Fin 4096) (a : Fin 1024) : iblk m c 3 t (ix3 0 j a) = V m c main_v6 (ix3 0 j a) := by
  blk_point [iblk, idx t]

theorem reads : Reads (tile t) (block m c) (iblk m c 0 t) (iblk m c 1 t) (iblk m c 2 t) (iblk m c 3 t) where
  x := blk0 m c t
  shift := blk1 m c t 3
  scale := blk1 m c t 4
  gate := blk1 m c t 5
  norm := blk1 m c t 7
  w1 := blk2 m c t
  w2 := blk3 m c t

theorem out4 : Holds (tile t) (out0_4 (iblk m c 0 t) (iblk m c 1 t) (iblk m c 2 t) (iblk m c 3 t)) (block m c).y := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact y_at R r d

theorem out5 : Holds (tile t) (out0_5 (iblk m c 0 t) (iblk m c 1 t) (iblk m c 2 t) (iblk m c 3 t)) (block m c).h := fun r d => by
  have R := reads m c t
  generalize iblk m c 0 t = c0 at *
  generalize iblk m c 1 t = c1 at *
  generalize iblk m c 2 t = c2 at *
  generalize iblk m c 3 t = c3 at *
  frame_out
  exact h_at R r d

theorem out6 : HoldsInner (tile t) (out0_6 (iblk m c 0 t) (iblk m c 1 t) (iblk m c 2 t) (iblk m c 3 t)) (block m c).a := fun r d => by
  have R := reads m c t
  generalize iblk m c 0 t = c0 at *
  generalize iblk m c 1 t = c1 at *
  generalize iblk m c 2 t = c2 at *
  generalize iblk m c 3 t = c3 at *
  frame_out
  exact a_at R r d

theorem out7 : Holds (tile t) (out0_7 (iblk m c 0 t) (iblk m c 1 t) (iblk m c 2 t) (iblk m c 3 t)) (block m c).f := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact f_at R r d

/-! ## The arrays after the call -/

theorem idxOut : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

theorem emb4 (y : S512x1024.Idx) : ((View.whole main_v7_0).slice (win0_4.rect t)).emb y = ix2 (FwdSpec.row (tile t) (y 0)) (y 1) := by
  unfold FwdSpec.row tile
  blk_ext [idxOut t]

theorem emb5 (y : S512x1024.Idx) : ((View.whole main_v7_1).slice (win0_5.rect t)).emb y = ix2 (FwdSpec.row (tile t) (y 0)) (y 1) := by
  unfold FwdSpec.row tile
  blk_ext [idxOut t]

theorem emb6 (y : S512x4096.Idx) : ((View.whole main_v7_2).slice (win0_6.rect t)).emb y = ix2 (FwdSpec.row (tile t) (y 0)) (y 1) := by
  unfold FwdSpec.row tile
  blk_ext [idxOut t]

theorem emb7 (y : S512x1024.Idx) : ((View.whole main_v7_3).slice (win0_7.rect t)).emb y = ix2 (FwdSpec.row (tile t) (y 0)) (y 1) := by
  unfold FwdSpec.row tile
  blk_ext [idxOut t]

/-- The block's output, as the call leaves it. -/
theorem final4 : (dats m 0 c).arrAt 4 (cfgs 0).N = (fun i => (block m c).y (i 0) (i 1) : S4096x1024.Idx → EReal) := by
  refine (dats m 0 c).arrAt_eq_of_covers 4 _ (by decide +kernel) fun t _ y => ?_
  blk_simp
  rw [after0_4, emb4 t y]
  exact (congrArg _ (eq_ix2 y)).trans (out4 m c t (y 0) (y 1))

/-- The normalised and modulated input. -/
theorem final5 : (dats m 0 c).arrAt 5 (cfgs 0).N = (fun i => (block m c).h (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

/-- The inner array before its activation. -/
theorem final6 : (dats m 0 c).arrAt 6 (cfgs 0).N = (fun i => (block m c).a (i 0) (i 1) : S4096x4096.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

/-- The block's result before its gate. -/
theorem final7 : (dats m 0 c).arrAt 7 (cfgs 0).N = (fun i => (block m c).f (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem pv_rows (k : Fin 8) (hk : k.val < 6) (d : Fin 1024) :
    V m c main_v2 (ix3 1 k d) = m (c, Proc.devRef .tc main_arg1) (ix3 1 ⟨k.val, hk⟩ d) := by
  refine (congrFun (pv_eq _) _).trans ?_
  generalize (fun b => m (c, b)) = U
  pointwise
  rw [dif_pos hk]

theorem pv_norm (k : Fin 8) (hk : k.val = 7) (d : Fin 1024) :
    V m c main_v2 (ix3 1 k d) = m (c, Proc.devRef .tc main_arg3) (ix2 1 d) := by
  refine (congrFun (pv_eq _) _).trans ?_
  generalize (fun b => m (c, b)) = U
  pointwise
  rw [dif_neg (by omega), dif_neg (by omega)]

theorem w1_eq (U : Valuation τ sig (Elt Ideal)) (a : Fin 1024) (j : Fin 4096) :
    StableHlo.after (hostOps0 (F := Ideal)) U (Proc.devRef .tc main_v4) (ix3 0 a j) = U (Proc.devRef .tc main_arg4) (ix2 a j) := by
  unfold hostOps0
  after_results_simp
  pointwise

theorem w2_eq (U : Valuation τ sig (Elt Ideal)) (j : Fin 4096) (a : Fin 1024) :
    StableHlo.after (hostOps0 (F := Ideal)) U (Proc.devRef .tc main_v6) (ix3 0 j a) = U (Proc.devRef .tc main_arg5) (ix2 j a) := by
  unfold hostOps0
  after_results_simp
  pointwise

theorem w1_at (a : Fin 1024) (j : Fin 4096) : V m c main_v4 (ix3 0 a j) = m (c, Proc.devRef .tc main_arg4) (ix2 a j) :=
  w1_eq (fun b => m (c, b)) a j

theorem w2_at (j : Fin 4096) (a : Fin 1024) : V m c main_v6 (ix3 0 j a) = m (c, Proc.devRef .tc main_arg5) (ix2 j a) :=
  w2_eq (fun b => m (c, b)) j a

end Cert.Fwd1Ideal.Value

end
-- ==== Proof.Fwd1Ref.lean ====
/- The reference's forward values of the feed-forward block, and their equality with the call's: layer 1. -/
module

public import proofs.«01_k».proof.Defs
public import proofs.«01_k».proof.Proof.Gen.Fwd1RefIdeal.Run
public import proofs.«01_k».proof.Proof.Fwd1Call

@[expose] public section

set_option maxRecDepth 16384
noncomputable section
open Idealize.ShloMosaic Idealize.ShloMosaic.TcCoe Idealize.SL.Sem
namespace Cert.Fwd1RefIdeal.Spec
open Cert.Fwd1RefIdeal Cert.Fwd1RefIdeal.Gen Cert.Fwd1RefIdeal.Value Cert.FfnSpec Cert.FwdSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg3 : FVec Ideal S4x1024 .f32 := m ((c.tc : Thread nD τ).loc main_arg3)
abbrev arg4 : FVec Ideal S1024x4096 .f32 := m ((c.tc : Thread nD τ).loc main_arg4)
abbrev arg5 : FVec Ideal S4096x1024 .f32 := m ((c.tc : Thread nD τ).loc main_arg5)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![1, 0] (arg3 m c) slices_S4x1024_S1x1024_1_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![1, 4, 0] (arg1 m c) slices_S4x6x1024_S1x1x1024_1_4_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![1, 3, 0] (arg1 m c) slices_S4x6x1024_S1x1x1024_1_3_0) shapeCasts_S1x1x1024_S1024)))

/-- The inner array before its activation. -/
def aArr : FVec Ideal S4096x4096 .f32 :=
  Host.dotGeneral dot_S4096x1024_S1024x4096_S4096x4096_1_0_0_1_n_n none (hArr m c) (arg4 m c)

/-- The block's result before its gate. -/
def fArr : FVec Ideal S4096x1024 .f32 :=
  Host.dotGeneral dot_S4096x4096_S4096x1024_S4096x1024_1_0_0_1_n_n none (mulf (maximumf (aArr m c) (broadcastInDim S4096x4096 ![] bcast_S_S4096x4096 (constant S_ .f32 0x00000000#32))) (maximumf (aArr m c) (broadcastInDim S4096x4096 ![] bcast_S_S4096x4096 (constant S_ .f32 0x00000000#32)))) (arg5 m c)

/-- The block's output. -/
def yArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![1, 5, 0] (arg1 m c) slices_S4x6x1024_S1x1x1024_1_5_0) shapeCasts_S1x1x1024_S1024))) (fArr m c))

/-! ## Their entries -/

/-- The arrays of the block, from the arguments. -/
def block : Block where
  x := fun n d => arg0 m c (ix2 n d)
  shift := fun d => arg1 m c (ix3 1 3 d)
  scale := fun d => arg1 m c (ix3 1 4 d)
  gate := fun d => arg1 m c (ix3 1 5 d)
  norm := fun d => arg3 m c (ix2 1 d)
  w1 := fun a j => arg4 m c (ix2 a j)
  w2 := fun j a => arg5 m c (ix2 j a)

theorem h_at (n : Fin 4096) (d : Fin 1024) : hArr m c (ix2 n d) = (block m c).h n d := by
  pointwise [hArr]
  rfl

theorem a_at (n : Fin 4096) (j : Fin 4096) : aArr m c (ix2 n j) = (block m c).a n j := by
  pointwise [aArr]
  simp only [h_at]
  rfl

theorem f_at (n : Fin 4096) (d : Fin 1024) : fArr m c (ix2 n d) = (block m c).f n d := by
  pointwise [fArr]
  simp only [a_at]
  rfl

theorem y_at (n : Fin 4096) (d : Fin 1024) : yArr m c (ix2 n d) = (block m c).y n d := by
  pointwise [yArr]
  rw [f_at]
  rfl

end Cert.Fwd1RefIdeal.Spec

namespace Cert.Fwd1Ideal.Value
open Cert.Fwd1Ideal Cert.Fwd1Ideal.Gen Cert.FfnSpec Cert.FwdSpec
variable (m : (ℓ : Loc nD τ sig) → Buf (Elt Ideal) ℓ) (c : Dev nD)
  (W : (ℓ : Loc Cert.Fwd1RefIdeal.nD Cert.Fwd1RefIdeal.τ Cert.Fwd1RefIdeal.sig) → Buf (Elt Ideal) ℓ)
  (c' : Dev Cert.Fwd1RefIdeal.nD)

/-- The reference starts from the kernel's arguments. -/
structure SameArgs : Prop where
  a0 : W ((c'.tc : Thread Cert.Fwd1RefIdeal.nD Cert.Fwd1RefIdeal.τ).loc Cert.Fwd1RefIdeal.main_arg0) = m ((c.tc : Thread nD τ).loc main_arg0)
  a1 : W ((c'.tc : Thread Cert.Fwd1RefIdeal.nD Cert.Fwd1RefIdeal.τ).loc Cert.Fwd1RefIdeal.main_arg1) = m ((c.tc : Thread nD τ).loc main_arg1)
  a3 : W ((c'.tc : Thread Cert.Fwd1RefIdeal.nD Cert.Fwd1RefIdeal.τ).loc Cert.Fwd1RefIdeal.main_arg3) = m ((c.tc : Thread nD τ).loc main_arg3)
  a4 : W ((c'.tc : Thread Cert.Fwd1RefIdeal.nD Cert.Fwd1RefIdeal.τ).loc Cert.Fwd1RefIdeal.main_arg4) = m ((c.tc : Thread nD τ).loc main_arg4)
  a5 : W ((c'.tc : Thread Cert.Fwd1RefIdeal.nD Cert.Fwd1RefIdeal.τ).loc Cert.Fwd1RefIdeal.main_arg5) = m ((c.tc : Thread nD τ).loc main_arg5)

variable {m c W c'}

/-- The kernel's block is the reference's. -/
theorem same_block (s : SameArgs m c W c') : block m c = Cert.Fwd1RefIdeal.Spec.block W c' :=
  block_eq _ _ (fun n d => (congrFun (V_main_arg0 m c) (ix2 n d)).trans (congrFun s.a0 (ix2 n d)).symm)
    (fun d => (pv_norm m c 7 rfl d).trans (congrFun s.a3 (ix2 1 d)).symm)
    (fun d => (pv_rows m c 4 (by decide) d).trans (congrFun s.a1 (ix3 1 4 d)).symm)
    (fun d => (pv_rows m c 3 (by decide) d).trans (congrFun s.a1 (ix3 1 3 d)).symm)
    (fun d => (pv_rows m c 5 (by decide) d).trans (congrFun s.a1 (ix3 1 5 d)).symm)
    (fun a j => (w1_at m c a j).trans (congrFun s.a4 (ix2 a j)).symm)
    (fun j a => (w2_at m c j a).trans (congrFun s.a5 (ix2 j a)).symm)

end Cert.Fwd1Ideal.Value

namespace Cert.Proof

/-- The reference's host operations leave its arguments unchanged, and it declares no semaphore. -/
theorem frame_reference_Fwd1 : Cert.quiescent_Fwd1RefIdeal := fun m ρ _ =>
  (θ_run Cert.Fwd1RefIdeal.defs _ _).mono
    (fun r h => ⟨fun c => (h c).2.2.2.2, sem_eq_zero_of_no_sems (by decide) r.2⟩)
    (Cert.Fwd1RefIdeal.Value.run (F := Ideal) m ρ)

/-- From the same arguments the kernel and the reference end with the same four results. -/
theorem algebraic_Fwd1 : Cert.algebraic_Fwd1Ideal_Fwd1RefIdeal := by
  intro m g m' g' _ he
  have hs : ∀ c, Cert.Fwd1Ideal.Value.SameArgs m c m' c := fun c =>
    ⟨(he c).1, (he c).2.1, (he c).2.2.2.1, (he c).2.2.2.2.1, (he c).2.2.2.2.2⟩
  refine ⟨fun c i => (Cert.Fwd1Ideal.Value.block m c).y (i 0) (i 1), fun c i => (Cert.Fwd1Ideal.Value.block m c).h (i 0) (i 1),
    fun c i => (Cert.Fwd1Ideal.Value.block m c).a (i 0) (i 1), fun c i => (Cert.Fwd1Ideal.Value.block m c).f (i 0) (i 1), ?_, ?_⟩
  · refine (θ_run Cert.Fwd1Ideal.defs _ _).mono (fun r h c => ?_) (Cert.Fwd1Ideal.Value.run_blocks (F := Ideal) m g)
    obtain ⟨h0, h1, h2, h3, ha⟩ := h c
    exact ⟨h0.trans (Cert.Fwd1Ideal.Value.final4 m c), h1.trans (Cert.Fwd1Ideal.Value.final5 m c),
      h2.trans (Cert.Fwd1Ideal.Value.final6 m c), h3.trans (Cert.Fwd1Ideal.Value.final7 m c), ha⟩
  · refine (θ_run Cert.Fwd1RefIdeal.defs _ _).mono (fun r h c => ?_) (Cert.Fwd1RefIdeal.Value.run (F := Ideal) m' g')
    obtain ⟨h0, h1, h2, h3, ha⟩ := h c
    have e := Cert.Fwd1Ideal.Value.same_block (hs c)
    refine ⟨h0.trans (funext fun i => ?_), h1.trans (funext fun i => ?_), h2.trans (funext fun i => ?_), h3.trans (funext fun i => ?_), ha⟩
    · exact (congrArg (Cert.Fwd1RefIdeal.Spec.yArr m' c) (eq_ix2 i)).trans ((Cert.Fwd1RefIdeal.Spec.y_at m' c (i 0) (i 1)).trans (congrArg (fun L => Cert.FwdSpec.Block.y L (i 0) (i 1)) e.symm))
    · exact (congrArg (Cert.Fwd1RefIdeal.Spec.hArr m' c) (eq_ix2 i)).trans ((Cert.Fwd1RefIdeal.Spec.h_at m' c (i 0) (i 1)).trans (congrArg (fun L => Cert.FwdSpec.Block.h L (i 0) (i 1)) e.symm))
    · exact (congrArg (Cert.Fwd1RefIdeal.Spec.aArr m' c) (eq_ix2 i)).trans ((Cert.Fwd1RefIdeal.Spec.a_at m' c (i 0) (i 1)).trans (congrArg (fun L => Cert.FwdSpec.Block.a L (i 0) (i 1)) e.symm))
    · exact (congrArg (Cert.Fwd1RefIdeal.Spec.fArr m' c) (eq_ix2 i)).trans ((Cert.Fwd1RefIdeal.Spec.f_at m' c (i 0) (i 1)).trans (congrArg (fun L => Cert.FwdSpec.Block.f L (i 0) (i 1)) e.symm))

end Cert.Proof

end
-- ==== Proof.Fwd2Call.lean ====
/- What the feed-forward block's forward call leaves in its four arrays: layer 2. -/
module

public import proofs.«01_k».proof.Defs
public import proofs.«01_k».proof.Proof.Gen.Fwd2Ideal.Value
public import Idealize.ShloMosaic.Lib.Pipeline.ValueKit
public import Idealize.ShloMosaic.Lib.Pointwise
public import Idealize.ShloMosaic.Lib.Claim
public import proofs.«01_k».proof.Proof.FwdSpec

@[expose] public section

set_option maxRecDepth 16384
noncomputable section
open Idealize.ShloMosaic Idealize.ShloMosaic.TcCoe Idealize.SL.Sem
open Idealize.ShloMosaic.Pipeline (Dat)
namespace Cert.Fwd2Ideal.Value
open Cert.Fwd2Ideal Cert.Fwd2Ideal.Gen Cert.FfnSpec Cert.FwdSpec Cert
variable (m : (ℓ : Loc nD τ sig) → Buf (Elt Ideal) ℓ) (c : Dev nD) (t : Fin cfg0.N)

/-! ## One tile -/

/-- `v` holds tile `q` of the array `f`. -/
def Holds (q : Fin 8) (v : S512x1024.Idx → EReal) (f : Tok) : Prop := ∀ (r : Fin 512) (d : Fin 1024), v (ix2 r d) = f (FwdSpec.row q r) d

/-- `v` holds tile `q` of the inner array `f`. -/
def HoldsInner (q : Fin 8) (v : S512x4096.Idx → EReal) (f : Inner) : Prop := ∀ (r : Fin 512) (j : Fin 4096), v (ix2 r j) = f (FwdSpec.row q r) j

/-- The blocks that a grid point reads are tile `q` of the block's arrays. -/
structure Reads (q : Fin 8) (L : Block) (b0 : Vec Ideal S512x1024 .f32) (b1 : Vec Ideal S1x8x1024 .f32) (b2 : Vec Ideal S1x1024x4096 .bf16)
    (b3 : Vec Ideal S1x4096x1024 .bf16) : Prop where
  x : Holds q b0 L.x
  shift : ∀ d, b1 (ix3 0 3 d) = L.shift d
  scale : ∀ d, b1 (ix3 0 4 d) = L.scale d
  gate : ∀ d, b1 (ix3 0 5 d) = L.gate d
  norm : ∀ d, b1 (ix3 0 7 d) = L.norm d
  w1 : ∀ a j, b2 (ix3 0 a j) = L.w1 a j
  w2 : ∀ j a, b3 (ix3 0 j a) = L.w2 j a

variable {q : Fin 8} {L : Block} {b0 : Vec Ideal S512x1024 .f32} {b1 : Vec Ideal S1x8x1024 .f32} {b2 : Vec Ideal S1x1024x4096 .bf16}
  {b3 : Vec Ideal S1x4096x1024 .bf16}

theorem h_at (R : Reads q L b0 b1 b2 b3) : Holds q (k0_pay4 b0 b1) L.h := fun r d => by
  pointwise [k0_pay4, k0_pay3]
  simp only [R.x r, R.shift d, R.scale d, R.norm d]
  rfl

theorem a_at (R : Reads q L b0 b1 b2 b3) : HoldsInner q (k0_pay5 b0 b1 b2) L.a := fun r j => by
  pointwise [k0_pay5]
  exact Finset.sum_congr rfl fun k _ => by rw [h_at R r k, R.w1]

theorem f_at (R : Reads q L b0 b1 b2 b3) : Holds q (k0_pay1 (k0_pay6 b0 b1 b2) (k0_pay7 b3)) L.f := fun r d => by
  pointwise [k0_pay1, k0_pay6, k0_pay7]
  refine Finset.sum_congr rfl fun k _ => ?_
  rw [a_at R r k, R.w2]
  rfl

theorem y_at (R : Reads q L b0 b1 b2 b3) : Holds q (k0_pay2 b0 (k0_pay3 b1) (k0_pay6 b0 b1 b2) (k0_pay7 b3)) L.y := fun r d => by
  pointwise [k0_pay2, k0_pay3]
  rw [R.x r d, R.gate d, f_at R r d]
  rfl

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![2, 0, 0] ∧ win0_2.index t = ![0, 0, 0]
    ∧ win0_3.index t = ![0, 0, 0] :=
  (by decide +kernel : ∀ t : Fin grid0.N, _)

/-- The block's arrays as the call finds them. -/
def block (c : Dev nD) : Block where
  x := fun n d => V m c main_arg0 (ix2 n d)
  shift := fun d => V m c main_v2 (ix3 2 3 d)
  scale := fun d => V m c main_v2 (ix3 2 4 d)
  gate := fun d => V m c main_v2 (ix3 2 5 d)
  norm := fun d => V m c main_v2 (ix3 2 7 d)
  w1 := fun a j => V m c main_v4 (ix3 0 a j)
  w2 := fun j a => V m c main_v6 (ix3 0 j a)

theorem blk0 (r : Fin 512) (d : Fin 1024) : iblk m c 0 t (ix2 r d) = V m c main_arg0 (ix2 (FwdSpec.row (tile t) r) d) := by
  unfold tile FwdSpec.row
  blk_point [iblk, idx t]

theorem blk1 (s : Fin 8) (d : Fin 1024) : iblk m c 1 t (ix3 0 s d) = V m c main_v2 (ix3 2 s d) := by
  blk_point [iblk, idx t]

theorem blk2 (a : Fin 1024) (j : Fin 4096) : iblk m c 2 t (ix3 0 a j) = V m c main_v4 (ix3 0 a j) := by
  blk_point [iblk, idx t]

theorem blk3 (j : Fin 4096) (a : Fin 1024) : iblk m c 3 t (ix3 0 j a) = V m c main_v6 (ix3 0 j a) := by
  blk_point [iblk, idx t]

theorem reads : Reads (tile t) (block m c) (iblk m c 0 t) (iblk m c 1 t) (iblk m c 2 t) (iblk m c 3 t) where
  x := blk0 m c t
  shift := blk1 m c t 3
  scale := blk1 m c t 4
  gate := blk1 m c t 5
  norm := blk1 m c t 7
  w1 := blk2 m c t
  w2 := blk3 m c t

theorem out4 : Holds (tile t) (out0_4 (iblk m c 0 t) (iblk m c 1 t) (iblk m c 2 t) (iblk m c 3 t)) (block m c).y := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact y_at R r d

theorem out5 : Holds (tile t) (out0_5 (iblk m c 0 t) (iblk m c 1 t) (iblk m c 2 t) (iblk m c 3 t)) (block m c).h := fun r d => by
  have R := reads m c t
  generalize iblk m c 0 t = c0 at *
  generalize iblk m c 1 t = c1 at *
  generalize iblk m c 2 t = c2 at *
  generalize iblk m c 3 t = c3 at *
  frame_out
  exact h_at R r d

theorem out6 : HoldsInner (tile t) (out0_6 (iblk m c 0 t) (iblk m c 1 t) (iblk m c 2 t) (iblk m c 3 t)) (block m c).a := fun r d => by
  have R := reads m c t
  generalize iblk m c 0 t = c0 at *
  generalize iblk m c 1 t = c1 at *
  generalize iblk m c 2 t = c2 at *
  generalize iblk m c 3 t = c3 at *
  frame_out
  exact a_at R r d

theorem out7 : Holds (tile t) (out0_7 (iblk m c 0 t) (iblk m c 1 t) (iblk m c 2 t) (iblk m c 3 t)) (block m c).f := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact f_at R r d

/-! ## The arrays after the call -/

theorem idxOut : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

theorem emb4 (y : S512x1024.Idx) : ((View.whole main_v7_0).slice (win0_4.rect t)).emb y = ix2 (FwdSpec.row (tile t) (y 0)) (y 1) := by
  unfold FwdSpec.row tile
  blk_ext [idxOut t]

theorem emb5 (y : S512x1024.Idx) : ((View.whole main_v7_1).slice (win0_5.rect t)).emb y = ix2 (FwdSpec.row (tile t) (y 0)) (y 1) := by
  unfold FwdSpec.row tile
  blk_ext [idxOut t]

theorem emb6 (y : S512x4096.Idx) : ((View.whole main_v7_2).slice (win0_6.rect t)).emb y = ix2 (FwdSpec.row (tile t) (y 0)) (y 1) := by
  unfold FwdSpec.row tile
  blk_ext [idxOut t]

theorem emb7 (y : S512x1024.Idx) : ((View.whole main_v7_3).slice (win0_7.rect t)).emb y = ix2 (FwdSpec.row (tile t) (y 0)) (y 1) := by
  unfold FwdSpec.row tile
  blk_ext [idxOut t]

/-- The block's output, as the call leaves it. -/
theorem final4 : (dats m 0 c).arrAt 4 (cfgs 0).N = (fun i => (block m c).y (i 0) (i 1) : S4096x1024.Idx → EReal) := by
  refine (dats m 0 c).arrAt_eq_of_covers 4 _ (by decide +kernel) fun t _ y => ?_
  blk_simp
  rw [after0_4, emb4 t y]
  exact (congrArg _ (eq_ix2 y)).trans (out4 m c t (y 0) (y 1))

/-- The normalised and modulated input. -/
theorem final5 : (dats m 0 c).arrAt 5 (cfgs 0).N = (fun i => (block m c).h (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

/-- The inner array before its activation. -/
theorem final6 : (dats m 0 c).arrAt 6 (cfgs 0).N = (fun i => (block m c).a (i 0) (i 1) : S4096x4096.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

/-- The block's result before its gate. -/
theorem final7 : (dats m 0 c).arrAt 7 (cfgs 0).N = (fun i => (block m c).f (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem pv_rows (k : Fin 8) (hk : k.val < 6) (d : Fin 1024) :
    V m c main_v2 (ix3 2 k d) = m (c, Proc.devRef .tc main_arg1) (ix3 2 ⟨k.val, hk⟩ d) := by
  refine (congrFun (pv_eq _) _).trans ?_
  generalize (fun b => m (c, b)) = U
  pointwise
  rw [dif_pos hk]

theorem pv_norm (k : Fin 8) (hk : k.val = 7) (d : Fin 1024) :
    V m c main_v2 (ix3 2 k d) = m (c, Proc.devRef .tc main_arg3) (ix2 2 d) := by
  refine (congrFun (pv_eq _) _).trans ?_
  generalize (fun b => m (c, b)) = U
  pointwise
  rw [dif_neg (by omega), dif_neg (by omega)]

theorem w1_eq (U : Valuation τ sig (Elt Ideal)) (a : Fin 1024) (j : Fin 4096) :
    StableHlo.after (hostOps0 (F := Ideal)) U (Proc.devRef .tc main_v4) (ix3 0 a j) = U (Proc.devRef .tc main_arg4) (ix2 a j) := by
  unfold hostOps0
  after_results_simp
  pointwise

theorem w2_eq (U : Valuation τ sig (Elt Ideal)) (j : Fin 4096) (a : Fin 1024) :
    StableHlo.after (hostOps0 (F := Ideal)) U (Proc.devRef .tc main_v6) (ix3 0 j a) = U (Proc.devRef .tc main_arg5) (ix2 j a) := by
  unfold hostOps0
  after_results_simp
  pointwise

theorem w1_at (a : Fin 1024) (j : Fin 4096) : V m c main_v4 (ix3 0 a j) = m (c, Proc.devRef .tc main_arg4) (ix2 a j) :=
  w1_eq (fun b => m (c, b)) a j

theorem w2_at (j : Fin 4096) (a : Fin 1024) : V m c main_v6 (ix3 0 j a) = m (c, Proc.devRef .tc main_arg5) (ix2 j a) :=
  w2_eq (fun b => m (c, b)) j a

end Cert.Fwd2Ideal.Value

end
-- ==== Proof.Fwd2Ref.lean ====
/- The reference's forward values of the feed-forward block, and their equality with the call's: layer 2. -/
module

public import proofs.«01_k».proof.Defs
public import proofs.«01_k».proof.Proof.Gen.Fwd2RefIdeal.Run
public import proofs.«01_k».proof.Proof.Fwd2Call

@[expose] public section

set_option maxRecDepth 16384
noncomputable section
open Idealize.ShloMosaic Idealize.ShloMosaic.TcCoe Idealize.SL.Sem
namespace Cert.Fwd2RefIdeal.Spec
open Cert.Fwd2RefIdeal Cert.Fwd2RefIdeal.Gen Cert.Fwd2RefIdeal.Value Cert.FfnSpec Cert.FwdSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg3 : FVec Ideal S4x1024 .f32 := m ((c.tc : Thread nD τ).loc main_arg3)
abbrev arg4 : FVec Ideal S1024x4096 .f32 := m ((c.tc : Thread nD τ).loc main_arg4)
abbrev arg5 : FVec Ideal S4096x1024 .f32 := m ((c.tc : Thread nD τ).loc main_arg5)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![2, 0] (arg3 m c) slices_S4x1024_S1x1024_2_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![2, 4, 0] (arg1 m c) slices_S4x6x1024_S1x1x1024_2_4_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![2, 3, 0] (arg1 m c) slices_S4x6x1024_S1x1x1024_2_3_0) shapeCasts_S1x1x1024_S1024)))

/-- The inner array before its activation. -/
def aArr : FVec Ideal S4096x4096 .f32 :=
  Host.dotGeneral dot_S4096x1024_S1024x4096_S4096x4096_1_0_0_1_n_n none (hArr m c) (arg4 m c)

/-- The block's result before its gate. -/
def fArr : FVec Ideal S4096x1024 .f32 :=
  Host.dotGeneral dot_S4096x4096_S4096x1024_S4096x1024_1_0_0_1_n_n none (mulf (maximumf (aArr m c) (broadcastInDim S4096x4096 ![] bcast_S_S4096x4096 (constant S_ .f32 0x00000000#32))) (maximumf (aArr m c) (broadcastInDim S4096x4096 ![] bcast_S_S4096x4096 (constant S_ .f32 0x00000000#32)))) (arg5 m c)

/-- The block's output. -/
def yArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![2, 5, 0] (arg1 m c) slices_S4x6x1024_S1x1x1024_2_5_0) shapeCasts_S1x1x1024_S1024))) (fArr m c))

/-! ## Their entries -/

/-- The arrays of the block, from the arguments. -/
def block : Block where
  x := fun n d => arg0 m c (ix2 n d)
  shift := fun d => arg1 m c (ix3 2 3 d)
  scale := fun d => arg1 m c (ix3 2 4 d)
  gate := fun d => arg1 m c (ix3 2 5 d)
  norm := fun d => arg3 m c (ix2 2 d)
  w1 := fun a j => arg4 m c (ix2 a j)
  w2 := fun j a => arg5 m c (ix2 j a)

theorem h_at (n : Fin 4096) (d : Fin 1024) : hArr m c (ix2 n d) = (block m c).h n d := by
  pointwise [hArr]
  rfl

theorem a_at (n : Fin 4096) (j : Fin 4096) : aArr m c (ix2 n j) = (block m c).a n j := by
  pointwise [aArr]
  simp only [h_at]
  rfl

theorem f_at (n : Fin 4096) (d : Fin 1024) : fArr m c (ix2 n d) = (block m c).f n d := by
  pointwise [fArr]
  simp only [a_at]
  rfl

theorem y_at (n : Fin 4096) (d : Fin 1024) : yArr m c (ix2 n d) = (block m c).y n d := by
  pointwise [yArr]
  rw [f_at]
  rfl

end Cert.Fwd2RefIdeal.Spec

namespace Cert.Fwd2Ideal.Value
open Cert.Fwd2Ideal Cert.Fwd2Ideal.Gen Cert.FfnSpec Cert.FwdSpec
variable (m : (ℓ : Loc nD τ sig) → Buf (Elt Ideal) ℓ) (c : Dev nD)
  (W : (ℓ : Loc Cert.Fwd2RefIdeal.nD Cert.Fwd2RefIdeal.τ Cert.Fwd2RefIdeal.sig) → Buf (Elt Ideal) ℓ)
  (c' : Dev Cert.Fwd2RefIdeal.nD)

/-- The reference starts from the kernel's arguments. -/
structure SameArgs : Prop where
  a0 : W ((c'.tc : Thread Cert.Fwd2RefIdeal.nD Cert.Fwd2RefIdeal.τ).loc Cert.Fwd2RefIdeal.main_arg0) = m ((c.tc : Thread nD τ).loc main_arg0)
  a1 : W ((c'.tc : Thread Cert.Fwd2RefIdeal.nD Cert.Fwd2RefIdeal.τ).loc Cert.Fwd2RefIdeal.main_arg1) = m ((c.tc : Thread nD τ).loc main_arg1)
  a3 : W ((c'.tc : Thread Cert.Fwd2RefIdeal.nD Cert.Fwd2RefIdeal.τ).loc Cert.Fwd2RefIdeal.main_arg3) = m ((c.tc : Thread nD τ).loc main_arg3)
  a4 : W ((c'.tc : Thread Cert.Fwd2RefIdeal.nD Cert.Fwd2RefIdeal.τ).loc Cert.Fwd2RefIdeal.main_arg4) = m ((c.tc : Thread nD τ).loc main_arg4)
  a5 : W ((c'.tc : Thread Cert.Fwd2RefIdeal.nD Cert.Fwd2RefIdeal.τ).loc Cert.Fwd2RefIdeal.main_arg5) = m ((c.tc : Thread nD τ).loc main_arg5)

variable {m c W c'}

/-- The kernel's block is the reference's. -/
theorem same_block (s : SameArgs m c W c') : block m c = Cert.Fwd2RefIdeal.Spec.block W c' :=
  block_eq _ _ (fun n d => (congrFun (V_main_arg0 m c) (ix2 n d)).trans (congrFun s.a0 (ix2 n d)).symm)
    (fun d => (pv_norm m c 7 rfl d).trans (congrFun s.a3 (ix2 2 d)).symm)
    (fun d => (pv_rows m c 4 (by decide) d).trans (congrFun s.a1 (ix3 2 4 d)).symm)
    (fun d => (pv_rows m c 3 (by decide) d).trans (congrFun s.a1 (ix3 2 3 d)).symm)
    (fun d => (pv_rows m c 5 (by decide) d).trans (congrFun s.a1 (ix3 2 5 d)).symm)
    (fun a j => (w1_at m c a j).trans (congrFun s.a4 (ix2 a j)).symm)
    (fun j a => (w2_at m c j a).trans (congrFun s.a5 (ix2 j a)).symm)

end Cert.Fwd2Ideal.Value

namespace Cert.Proof

/-- The reference's host operations leave its arguments unchanged, and it declares no semaphore. -/
theorem frame_reference_Fwd2 : Cert.quiescent_Fwd2RefIdeal := fun m ρ _ =>
  (θ_run Cert.Fwd2RefIdeal.defs _ _).mono
    (fun r h => ⟨fun c => (h c).2.2.2.2, sem_eq_zero_of_no_sems (by decide) r.2⟩)
    (Cert.Fwd2RefIdeal.Value.run (F := Ideal) m ρ)

/-- From the same arguments the kernel and the reference end with the same four results. -/
theorem algebraic_Fwd2 : Cert.algebraic_Fwd2Ideal_Fwd2RefIdeal := by
  intro m g m' g' _ he
  have hs : ∀ c, Cert.Fwd2Ideal.Value.SameArgs m c m' c := fun c =>
    ⟨(he c).1, (he c).2.1, (he c).2.2.2.1, (he c).2.2.2.2.1, (he c).2.2.2.2.2⟩
  refine ⟨fun c i => (Cert.Fwd2Ideal.Value.block m c).y (i 0) (i 1), fun c i => (Cert.Fwd2Ideal.Value.block m c).h (i 0) (i 1),
    fun c i => (Cert.Fwd2Ideal.Value.block m c).a (i 0) (i 1), fun c i => (Cert.Fwd2Ideal.Value.block m c).f (i 0) (i 1), ?_, ?_⟩
  · refine (θ_run Cert.Fwd2Ideal.defs _ _).mono (fun r h c => ?_) (Cert.Fwd2Ideal.Value.run_blocks (F := Ideal) m g)
    obtain ⟨h0, h1, h2, h3, ha⟩ := h c
    exact ⟨h0.trans (Cert.Fwd2Ideal.Value.final4 m c), h1.trans (Cert.Fwd2Ideal.Value.final5 m c),
      h2.trans (Cert.Fwd2Ideal.Value.final6 m c), h3.trans (Cert.Fwd2Ideal.Value.final7 m c), ha⟩
  · refine (θ_run Cert.Fwd2RefIdeal.defs _ _).mono (fun r h c => ?_) (Cert.Fwd2RefIdeal.Value.run (F := Ideal) m' g')
    obtain ⟨h0, h1, h2, h3, ha⟩ := h c
    have e := Cert.Fwd2Ideal.Value.same_block (hs c)
    refine ⟨h0.trans (funext fun i => ?_), h1.trans (funext fun i => ?_), h2.trans (funext fun i => ?_), h3.trans (funext fun i => ?_), ha⟩
    · exact (congrArg (Cert.Fwd2RefIdeal.Spec.yArr m' c) (eq_ix2 i)).trans ((Cert.Fwd2RefIdeal.Spec.y_at m' c (i 0) (i 1)).trans (congrArg (fun L => Cert.FwdSpec.Block.y L (i 0) (i 1)) e.symm))
    · exact (congrArg (Cert.Fwd2RefIdeal.Spec.hArr m' c) (eq_ix2 i)).trans ((Cert.Fwd2RefIdeal.Spec.h_at m' c (i 0) (i 1)).trans (congrArg (fun L => Cert.FwdSpec.Block.h L (i 0) (i 1)) e.symm))
    · exact (congrArg (Cert.Fwd2RefIdeal.Spec.aArr m' c) (eq_ix2 i)).trans ((Cert.Fwd2RefIdeal.Spec.a_at m' c (i 0) (i 1)).trans (congrArg (fun L => Cert.FwdSpec.Block.a L (i 0) (i 1)) e.symm))
    · exact (congrArg (Cert.Fwd2RefIdeal.Spec.fArr m' c) (eq_ix2 i)).trans ((Cert.Fwd2RefIdeal.Spec.f_at m' c (i 0) (i 1)).trans (congrArg (fun L => Cert.FwdSpec.Block.f L (i 0) (i 1)) e.symm))

end Cert.Proof

end
-- ==== Proof.Fwd3Call.lean ====
/- What the feed-forward block's forward call leaves in its four arrays: layer 3. -/
module

public import proofs.«01_k».proof.Defs
public import proofs.«01_k».proof.Proof.Gen.Fwd3Ideal.Value
public import Idealize.ShloMosaic.Lib.Pipeline.ValueKit
public import Idealize.ShloMosaic.Lib.Pointwise
public import Idealize.ShloMosaic.Lib.Claim
public import proofs.«01_k».proof.Proof.FwdSpec

@[expose] public section

set_option maxRecDepth 16384
noncomputable section
open Idealize.ShloMosaic Idealize.ShloMosaic.TcCoe Idealize.SL.Sem
open Idealize.ShloMosaic.Pipeline (Dat)
namespace Cert.Fwd3Ideal.Value
open Cert.Fwd3Ideal Cert.Fwd3Ideal.Gen Cert.FfnSpec Cert.FwdSpec Cert
variable (m : (ℓ : Loc nD τ sig) → Buf (Elt Ideal) ℓ) (c : Dev nD) (t : Fin cfg0.N)

/-! ## One tile -/

/-- `v` holds tile `q` of the array `f`. -/
def Holds (q : Fin 8) (v : S512x1024.Idx → EReal) (f : Tok) : Prop := ∀ (r : Fin 512) (d : Fin 1024), v (ix2 r d) = f (FwdSpec.row q r) d

/-- `v` holds tile `q` of the inner array `f`. -/
def HoldsInner (q : Fin 8) (v : S512x4096.Idx → EReal) (f : Inner) : Prop := ∀ (r : Fin 512) (j : Fin 4096), v (ix2 r j) = f (FwdSpec.row q r) j

/-- The blocks that a grid point reads are tile `q` of the block's arrays. -/
structure Reads (q : Fin 8) (L : Block) (b0 : Vec Ideal S512x1024 .f32) (b1 : Vec Ideal S1x8x1024 .f32) (b2 : Vec Ideal S1x1024x4096 .bf16)
    (b3 : Vec Ideal S1x4096x1024 .bf16) : Prop where
  x : Holds q b0 L.x
  shift : ∀ d, b1 (ix3 0 3 d) = L.shift d
  scale : ∀ d, b1 (ix3 0 4 d) = L.scale d
  gate : ∀ d, b1 (ix3 0 5 d) = L.gate d
  norm : ∀ d, b1 (ix3 0 7 d) = L.norm d
  w1 : ∀ a j, b2 (ix3 0 a j) = L.w1 a j
  w2 : ∀ j a, b3 (ix3 0 j a) = L.w2 j a

variable {q : Fin 8} {L : Block} {b0 : Vec Ideal S512x1024 .f32} {b1 : Vec Ideal S1x8x1024 .f32} {b2 : Vec Ideal S1x1024x4096 .bf16}
  {b3 : Vec Ideal S1x4096x1024 .bf16}

theorem h_at (R : Reads q L b0 b1 b2 b3) : Holds q (k0_pay4 b0 b1) L.h := fun r d => by
  pointwise [k0_pay4, k0_pay3]
  simp only [R.x r, R.shift d, R.scale d, R.norm d]
  rfl

theorem a_at (R : Reads q L b0 b1 b2 b3) : HoldsInner q (k0_pay5 b0 b1 b2) L.a := fun r j => by
  pointwise [k0_pay5]
  exact Finset.sum_congr rfl fun k _ => by rw [h_at R r k, R.w1]

theorem f_at (R : Reads q L b0 b1 b2 b3) : Holds q (k0_pay1 (k0_pay6 b0 b1 b2) (k0_pay7 b3)) L.f := fun r d => by
  pointwise [k0_pay1, k0_pay6, k0_pay7]
  refine Finset.sum_congr rfl fun k _ => ?_
  rw [a_at R r k, R.w2]
  rfl

theorem y_at (R : Reads q L b0 b1 b2 b3) : Holds q (k0_pay2 b0 (k0_pay3 b1) (k0_pay6 b0 b1 b2) (k0_pay7 b3)) L.y := fun r d => by
  pointwise [k0_pay2, k0_pay3]
  rw [R.x r d, R.gate d, f_at R r d]
  rfl

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![3, 0, 0] ∧ win0_2.index t = ![0, 0, 0]
    ∧ win0_3.index t = ![0, 0, 0] :=
  (by decide +kernel : ∀ t : Fin grid0.N, _)

/-- The block's arrays as the call finds them. -/
def block (c : Dev nD) : Block where
  x := fun n d => V m c main_arg0 (ix2 n d)
  shift := fun d => V m c main_v2 (ix3 3 3 d)
  scale := fun d => V m c main_v2 (ix3 3 4 d)
  gate := fun d => V m c main_v2 (ix3 3 5 d)
  norm := fun d => V m c main_v2 (ix3 3 7 d)
  w1 := fun a j => V m c main_v4 (ix3 0 a j)
  w2 := fun j a => V m c main_v6 (ix3 0 j a)

theorem blk0 (r : Fin 512) (d : Fin 1024) : iblk m c 0 t (ix2 r d) = V m c main_arg0 (ix2 (FwdSpec.row (tile t) r) d) := by
  unfold tile FwdSpec.row
  blk_point [iblk, idx t]

theorem blk1 (s : Fin 8) (d : Fin 1024) : iblk m c 1 t (ix3 0 s d) = V m c main_v2 (ix3 3 s d) := by
  blk_point [iblk, idx t]

theorem blk2 (a : Fin 1024) (j : Fin 4096) : iblk m c 2 t (ix3 0 a j) = V m c main_v4 (ix3 0 a j) := by
  blk_point [iblk, idx t]

theorem blk3 (j : Fin 4096) (a : Fin 1024) : iblk m c 3 t (ix3 0 j a) = V m c main_v6 (ix3 0 j a) := by
  blk_point [iblk, idx t]

theorem reads : Reads (tile t) (block m c) (iblk m c 0 t) (iblk m c 1 t) (iblk m c 2 t) (iblk m c 3 t) where
  x := blk0 m c t
  shift := blk1 m c t 3
  scale := blk1 m c t 4
  gate := blk1 m c t 5
  norm := blk1 m c t 7
  w1 := blk2 m c t
  w2 := blk3 m c t

theorem out4 : Holds (tile t) (out0_4 (iblk m c 0 t) (iblk m c 1 t) (iblk m c 2 t) (iblk m c 3 t)) (block m c).y := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact y_at R r d

theorem out5 : Holds (tile t) (out0_5 (iblk m c 0 t) (iblk m c 1 t) (iblk m c 2 t) (iblk m c 3 t)) (block m c).h := fun r d => by
  have R := reads m c t
  generalize iblk m c 0 t = c0 at *
  generalize iblk m c 1 t = c1 at *
  generalize iblk m c 2 t = c2 at *
  generalize iblk m c 3 t = c3 at *
  frame_out
  exact h_at R r d

theorem out6 : HoldsInner (tile t) (out0_6 (iblk m c 0 t) (iblk m c 1 t) (iblk m c 2 t) (iblk m c 3 t)) (block m c).a := fun r d => by
  have R := reads m c t
  generalize iblk m c 0 t = c0 at *
  generalize iblk m c 1 t = c1 at *
  generalize iblk m c 2 t = c2 at *
  generalize iblk m c 3 t = c3 at *
  frame_out
  exact a_at R r d

theorem out7 : Holds (tile t) (out0_7 (iblk m c 0 t) (iblk m c 1 t) (iblk m c 2 t) (iblk m c 3 t)) (block m c).f := fun r d => by
  have R := reads m c t
  generalize iblk m c 0 t = c0 at *
  generalize iblk m c 1 t = c1 at *
  generalize iblk m c 2 t = c2 at *
  generalize iblk m c 3 t = c3 at *
  frame_out
  unfold k0_pay8 k0_pay9 r0_0 r0_1 r0_2 r0_4
  simp (disch := decide) only [View.ld_unit_lit']
  exact f_at R r d

/-! ## The arrays after the call -/

theorem idxOut : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

theorem emb4 (y : S512x1024.Idx) : ((View.whole main_v7_0).slice (win0_4.rect t)).emb y = ix2 (FwdSpec.row (tile t) (y 0)) (y 1) := by
  unfold FwdSpec.row tile
  blk_ext [idxOut t]

theorem emb5 (y : S512x1024.Idx) : ((View.whole main_v7_1).slice (win0_5.rect t)).emb y = ix2 (FwdSpec.row (tile t) (y 0)) (y 1) := by
  unfold FwdSpec.row tile
  blk_ext [idxOut t]

theorem emb6 (y : S512x4096.Idx) : ((View.whole main_v7_2).slice (win0_6.rect t)).emb y = ix2 (FwdSpec.row (tile t) (y 0)) (y 1) := by
  unfold FwdSpec.row tile
  blk_ext [idxOut t]

theorem emb7 (y : S512x1024.Idx) : ((View.whole main_v7_3).slice (win0_7.rect t)).emb y = ix2 (FwdSpec.row (tile t) (y 0)) (y 1) := by
  unfold FwdSpec.row tile
  blk_ext [idxOut t]

/-- The block's output, as the call leaves it. -/
theorem final4 : (dats m 0 c).arrAt 4 (cfgs 0).N = (fun i => (block m c).y (i 0) (i 1) : S4096x1024.Idx → EReal) := by
  refine (dats m 0 c).arrAt_eq_of_covers 4 _ (by decide +kernel) fun t _ y => ?_
  blk_simp
  rw [after0_4, emb4 t y]
  exact (congrArg _ (eq_ix2 y)).trans (out4 m c t (y 0) (y 1))

/-- The normalised and modulated input. -/
theorem final5 : (dats m 0 c).arrAt 5 (cfgs 0).N = (fun i => (block m c).h (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

/-- The inner array before its activation. -/
theorem final6 : (dats m 0 c).arrAt 6 (cfgs 0).N = (fun i => (block m c).a (i 0) (i 1) : S4096x4096.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

/-- The block's result before its gate. -/
theorem final7 : (dats m 0 c).arrAt 7 (cfgs 0).N = (fun i => (block m c).f (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem pv_rows (k : Fin 8) (hk : k.val < 6) (d : Fin 1024) :
    V m c main_v2 (ix3 3 k d) = m (c, Proc.devRef .tc main_arg1) (ix3 3 ⟨k.val, hk⟩ d) := by
  refine (congrFun (pv_eq _) _).trans ?_
  generalize (fun b => m (c, b)) = U
  pointwise
  rw [dif_pos hk]

theorem pv_norm (k : Fin 8) (hk : k.val = 7) (d : Fin 1024) :
    V m c main_v2 (ix3 3 k d) = m (c, Proc.devRef .tc main_arg3) (ix2 3 d) := by
  refine (congrFun (pv_eq _) _).trans ?_
  generalize (fun b => m (c, b)) = U
  pointwise
  rw [dif_neg (by omega), dif_neg (by omega)]

theorem w1_eq (U : Valuation τ sig (Elt Ideal)) (a : Fin 1024) (j : Fin 4096) :
    StableHlo.after (hostOps0 (F := Ideal)) U (Proc.devRef .tc main_v4) (ix3 0 a j) = U (Proc.devRef .tc main_arg4) (ix2 a j) := by
  unfold hostOps0
  after_results_simp
  pointwise

theorem w2_eq (U : Valuation τ sig (Elt Ideal)) (j : Fin 4096) (a : Fin 1024) :
    StableHlo.after (hostOps0 (F := Ideal)) U (Proc.devRef .tc main_v6) (ix3 0 j a) = U (Proc.devRef .tc main_arg5) (ix2 j a) := by
  unfold hostOps0
  after_results_simp
  pointwise

theorem w1_at (a : Fin 1024) (j : Fin 4096) : V m c main_v4 (ix3 0 a j) = m (c, Proc.devRef .tc main_arg4) (ix2 a j) :=
  w1_eq (fun b => m (c, b)) a j

theorem w2_at (j : Fin 4096) (a : Fin 1024) : V m c main_v6 (ix3 0 j a) = m (c, Proc.devRef .tc main_arg5) (ix2 j a) :=
  w2_eq (fun b => m (c, b)) j a

end Cert.Fwd3Ideal.Value

end
-- ==== Proof.Fwd3Ref.lean ====
/- The reference's forward values of the feed-forward block, and their equality with the call's: layer 3. -/
module

public import proofs.«01_k».proof.Defs
public import proofs.«01_k».proof.Proof.Gen.Fwd3RefIdeal.Run
public import proofs.«01_k».proof.Proof.Fwd3Call

@[expose] public section

set_option maxRecDepth 16384
noncomputable section
open Idealize.ShloMosaic Idealize.ShloMosaic.TcCoe Idealize.SL.Sem
namespace Cert.Fwd3RefIdeal.Spec
open Cert.Fwd3RefIdeal Cert.Fwd3RefIdeal.Gen Cert.Fwd3RefIdeal.Value Cert.FfnSpec Cert.FwdSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg3 : FVec Ideal S4x1024 .f32 := m ((c.tc : Thread nD τ).loc main_arg3)
abbrev arg4 : FVec Ideal S1024x4096 .f32 := m ((c.tc : Thread nD τ).loc main_arg4)
abbrev arg5 : FVec Ideal S4096x1024 .f32 := m ((c.tc : Thread nD τ).loc main_arg5)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![3, 0] (arg3 m c) slices_S4x1024_S1x1024_3_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![3, 4, 0] (arg1 m c) slices_S4x6x1024_S1x1x1024_3_4_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![3, 3, 0] (arg1 m c) slices_S4x6x1024_S1x1x1024_3_3_0) shapeCasts_S1x1x1024_S1024)))

/-- The inner array before its activation. -/
def aArr : FVec Ideal S4096x4096 .f32 :=
  Host.dotGeneral dot_S4096x1024_S1024x4096_S4096x4096_1_0_0_1_n_n none (hArr m c) (arg4 m c)

/-- The block's result before its gate. -/
def fArr : FVec Ideal S4096x1024 .f32 :=
  Host.dotGeneral dot_S4096x4096_S4096x1024_S4096x1024_1_0_0_1_n_n none (mulf (maximumf (aArr m c) (broadcastInDim S4096x4096 ![] bcast_S_S4096x4096 (constant S_ .f32 0x00000000#32))) (maximumf (aArr m c) (broadcastInDim S4096x4096 ![] bcast_S_S4096x4096 (constant S_ .f32 0x00000000#32)))) (arg5 m c)

/-- The block's output. -/
def yArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![3, 5, 0] (arg1 m c) slices_S4x6x1024_S1x1x1024_3_5_0) shapeCasts_S1x1x1024_S1024))) (fArr m c))

/-! ## Their entries -/

/-- The arrays of the block, from the arguments. -/
def block : Block where
  x := fun n d => arg0 m c (ix2 n d)
  shift := fun d => arg1 m c (ix3 3 3 d)
  scale := fun d => arg1 m c (ix3 3 4 d)
  gate := fun d => arg1 m c (ix3 3 5 d)
  norm := fun d => arg3 m c (ix2 3 d)
  w1 := fun a j => arg4 m c (ix2 a j)
  w2 := fun j a => arg5 m c (ix2 j a)

theorem h_at (n : Fin 4096) (d : Fin 1024) : hArr m c (ix2 n d) = (block m c).h n d := by
  pointwise [hArr]
  rfl

theorem a_at (n : Fin 4096) (j : Fin 4096) : aArr m c (ix2 n j) = (block m c).a n j := by
  pointwise [aArr]
  simp only [h_at]
  rfl

theorem f_at (n : Fin 4096) (d : Fin 1024) : fArr m c (ix2 n d) = (block m c).f n d := by
  pointwise [fArr]
  simp only [a_at]
  rfl

theorem y_at (n : Fin 4096) (d : Fin 1024) : yArr m c (ix2 n d) = (block m c).y n d := by
  pointwise [yArr]
  rw [f_at]
  rfl

end Cert.Fwd3RefIdeal.Spec

namespace Cert.Fwd3Ideal.Value
open Cert.Fwd3Ideal Cert.Fwd3Ideal.Gen Cert.FfnSpec Cert.FwdSpec
variable (m : (ℓ : Loc nD τ sig) → Buf (Elt Ideal) ℓ) (c : Dev nD)
  (W : (ℓ : Loc Cert.Fwd3RefIdeal.nD Cert.Fwd3RefIdeal.τ Cert.Fwd3RefIdeal.sig) → Buf (Elt Ideal) ℓ)
  (c' : Dev Cert.Fwd3RefIdeal.nD)

/-- The reference starts from the kernel's arguments. -/
structure SameArgs : Prop where
  a0 : W ((c'.tc : Thread Cert.Fwd3RefIdeal.nD Cert.Fwd3RefIdeal.τ).loc Cert.Fwd3RefIdeal.main_arg0) = m ((c.tc : Thread nD τ).loc main_arg0)
  a1 : W ((c'.tc : Thread Cert.Fwd3RefIdeal.nD Cert.Fwd3RefIdeal.τ).loc Cert.Fwd3RefIdeal.main_arg1) = m ((c.tc : Thread nD τ).loc main_arg1)
  a3 : W ((c'.tc : Thread Cert.Fwd3RefIdeal.nD Cert.Fwd3RefIdeal.τ).loc Cert.Fwd3RefIdeal.main_arg3) = m ((c.tc : Thread nD τ).loc main_arg3)
  a4 : W ((c'.tc : Thread Cert.Fwd3RefIdeal.nD Cert.Fwd3RefIdeal.τ).loc Cert.Fwd3RefIdeal.main_arg4) = m ((c.tc : Thread nD τ).loc main_arg4)
  a5 : W ((c'.tc : Thread Cert.Fwd3RefIdeal.nD Cert.Fwd3RefIdeal.τ).loc Cert.Fwd3RefIdeal.main_arg5) = m ((c.tc : Thread nD τ).loc main_arg5)

variable {m c W c'}

/-- The kernel's block is the reference's. -/
theorem same_block (s : SameArgs m c W c') : block m c = Cert.Fwd3RefIdeal.Spec.block W c' :=
  block_eq _ _ (fun n d => (congrFun (V_main_arg0 m c) (ix2 n d)).trans (congrFun s.a0 (ix2 n d)).symm)
    (fun d => (pv_norm m c 7 rfl d).trans (congrFun s.a3 (ix2 3 d)).symm)
    (fun d => (pv_rows m c 4 (by decide) d).trans (congrFun s.a1 (ix3 3 4 d)).symm)
    (fun d => (pv_rows m c 3 (by decide) d).trans (congrFun s.a1 (ix3 3 3 d)).symm)
    (fun d => (pv_rows m c 5 (by decide) d).trans (congrFun s.a1 (ix3 3 5 d)).symm)
    (fun a j => (w1_at m c a j).trans (congrFun s.a4 (ix2 a j)).symm)
    (fun j a => (w2_at m c j a).trans (congrFun s.a5 (ix2 j a)).symm)

end Cert.Fwd3Ideal.Value

namespace Cert.Proof

/-- The reference's host operations leave its arguments unchanged, and it declares no semaphore. -/
theorem frame_reference_Fwd3 : Cert.quiescent_Fwd3RefIdeal := fun m ρ _ =>
  (θ_run Cert.Fwd3RefIdeal.defs _ _).mono
    (fun r h => ⟨fun c => (h c).2.2.2.2, sem_eq_zero_of_no_sems (by decide) r.2⟩)
    (Cert.Fwd3RefIdeal.Value.run (F := Ideal) m ρ)

/-- From the same arguments the kernel and the reference end with the same four results. -/
theorem algebraic_Fwd3 : Cert.algebraic_Fwd3Ideal_Fwd3RefIdeal := by
  intro m g m' g' _ he
  have hs : ∀ c, Cert.Fwd3Ideal.Value.SameArgs m c m' c := fun c =>
    ⟨(he c).1, (he c).2.1, (he c).2.2.2.1, (he c).2.2.2.2.1, (he c).2.2.2.2.2⟩
  refine ⟨fun c i => (Cert.Fwd3Ideal.Value.block m c).y (i 0) (i 1), fun c i => (Cert.Fwd3Ideal.Value.block m c).h (i 0) (i 1),
    fun c i => (Cert.Fwd3Ideal.Value.block m c).a (i 0) (i 1), fun c i => (Cert.Fwd3Ideal.Value.block m c).f (i 0) (i 1), ?_, ?_⟩
  · refine (θ_run Cert.Fwd3Ideal.defs _ _).mono (fun r h c => ?_) (Cert.Fwd3Ideal.Value.run_blocks (F := Ideal) m g)
    obtain ⟨h0, h1, h2, h3, ha⟩ := h c
    exact ⟨h0.trans (Cert.Fwd3Ideal.Value.final4 m c), h1.trans (Cert.Fwd3Ideal.Value.final5 m c),
      h2.trans (Cert.Fwd3Ideal.Value.final6 m c), h3.trans (Cert.Fwd3Ideal.Value.final7 m c), ha⟩
  · refine (θ_run Cert.Fwd3RefIdeal.defs _ _).mono (fun r h c => ?_) (Cert.Fwd3RefIdeal.Value.run (F := Ideal) m' g')
    obtain ⟨h0, h1, h2, h3, ha⟩ := h c
    have e := Cert.Fwd3Ideal.Value.same_block (hs c)
    refine ⟨h0.trans (funext fun i => ?_), h1.trans (funext fun i => ?_), h2.trans (funext fun i => ?_), h3.trans (funext fun i => ?_), ha⟩
    · exact (congrArg (Cert.Fwd3RefIdeal.Spec.yArr m' c) (eq_ix2 i)).trans ((Cert.Fwd3RefIdeal.Spec.y_at m' c (i 0) (i 1)).trans (congrArg (fun L => Cert.FwdSpec.Block.y L (i 0) (i 1)) e.symm))
    · exact (congrArg (Cert.Fwd3RefIdeal.Spec.hArr m' c) (eq_ix2 i)).trans ((Cert.Fwd3RefIdeal.Spec.h_at m' c (i 0) (i 1)).trans (congrArg (fun L => Cert.FwdSpec.Block.h L (i 0) (i 1)) e.symm))
    · exact (congrArg (Cert.Fwd3RefIdeal.Spec.aArr m' c) (eq_ix2 i)).trans ((Cert.Fwd3RefIdeal.Spec.a_at m' c (i 0) (i 1)).trans (congrArg (fun L => Cert.FwdSpec.Block.a L (i 0) (i 1)) e.symm))
    · exact (congrArg (Cert.Fwd3RefIdeal.Spec.fArr m' c) (eq_ix2 i)).trans ((Cert.Fwd3RefIdeal.Spec.f_at m' c (i 0) (i 1)).trans (congrArg (fun L => Cert.FwdSpec.Block.f L (i 0) (i 1)) e.symm))

end Cert.Proof

end
-- ==== Proof.Conv0Tile.lean ====
/- What one tile of the short convolution's backward call computes, entry by entry. -/
module

public import proofs.«01_k».proof.Defs
public import proofs.«01_k».proof.Proof.Gen.Conv0Ideal.Skeleton
public import proofs.«01_k».proof.Proof.ConvSpec
public import Idealize.ShloMosaic.Lib.Pointwise

@[expose] public section

set_option maxRecDepth 16384
noncomputable section
open Idealize.ShloMosaic Idealize.ShloMosaic.TcCoe Idealize.SL.Sem

namespace Cert.Conv0Ideal.Tile

open Cert.Conv0Ideal Cert.Conv0Ideal.Gen Cert.ConvSpec Cert

/-! ## The row masks -/

theorem ge2 : ∀ r : Fin 512, IntOp.cmpi .sge (BitVec.ofNat 32 r.val) 2#32 = if 2 ≤ r.val then 1#1 else 0#1 := by decide +kernel
theorem ge1 : ∀ r : Fin 512, IntOp.cmpi .sge (BitVec.ofNat 32 r.val) 1#32 = if 1 ≤ r.val then 1#1 else 0#1 := by decide +kernel
theorem eq0 : ∀ r : Fin 512, IntOp.cmpi .eq (BitVec.ofNat 32 r.val) 0#32 = if r.val = 0 then 1#1 else 0#1 := by decide +kernel
theorem eq510 : ∀ r : Fin 512, IntOp.cmpi .eq (BitVec.ofNat 32 r.val) 510#32 = if r.val = 510 then 1#1 else 0#1 := by decide +kernel
theorem le510 : ∀ r : Fin 512, IntOp.cmpi .sle (BitVec.ofNat 32 r.val) 510#32 = if r.val ≤ 510 then 1#1 else 0#1 := by decide +kernel
theorem le509 : ∀ r : Fin 512, IntOp.cmpi .sle (BitVec.ofNat 32 r.val) 509#32 = if r.val ≤ 509 then 1#1 else 0#1 := by decide +kernel

/-- A choice by a mask that is one exactly when `p` holds. -/
theorem select_if (p : Prop) [Decidable p] (a b : EReal) :
    Scalar.select (if p then 1#1 else 0#1) a b = if p then a else b := by
  by_cases h : p <;> simp [Scalar.select, h]

/-! ## The arrays of one tile -/

variable {q : Fin 8}
variable {ct x y conv : Tok} {bcx : Fin 4096 → Fin 3072 → EReal} {gate gain k0 k1 k2 : Fin 1024 → EReal}
variable {wo : Fin 1024 → Fin 1024 → EReal} {wi : Fin 1024 → Fin 3072 → EReal}

/-- `v` holds tile `q` of the array `f`. -/
def Holds (q : Fin 8) (v : S512x1024.Idx → EReal) (f : Tok) : Prop := ∀ (r : Fin 512) (d : Fin 1024), v (ix2 r d) = f (row q r) d

theorem dy_at (b0 : Vec Ideal S512x1024 .f32) (b6 : Vec Ideal S1x8x1024 .f32) (h0 : Holds q b0 ct)
    (h6 : ∀ d, b6 (ix3 0 2 d) = gate d) : Holds q (k0_pay7 b0 b6) (fun n d => ct n d * gate d) := fun r d => by
  pointwise [k0_pay7, k0_pay5]
  rw [h0 r d, h6]

theorem dmix_at (b0 : Vec Ideal S512x1024 .f32) (b6 : Vec Ideal S1x8x1024 .f32) (b8 : Vec Ideal S1x1024x1024 .bf16) (dy : Tok)
    (h : Holds q (k0_pay7 b0 b6) dy) (h8 : ∀ a b, b8 (ix3 0 a b) = wo a b) :
    Holds q (k0_pay9 b0 b6 b8) (dmix dy wo) := fun r d => by
  pointwise [k0_pay9]
  exact Finset.sum_congr rfl fun k _ => by rw [h r k, h8]

theorem dconv_at (v25 : FVec Ideal S512x1024 .f32) (b3 : Vec Ideal S512x3072 .f32) (dq : Tok) (h : Holds q v25 dq)
    (h3 : ∀ r j, b3 (ix2 r j) = bcx (row q r) j) :
    Holds q (k0_pay15 v25 (k0_pay11 b3)) (fun n d => dq n d * bcx n ⟨d.val, by omega⟩) := fun r d => by
  pointwise [k0_pay15, k0_pay11, k0_pay10]
  rw [h r d, h3]

theorem dgate_at (v25 : FVec Ideal S512x1024 .f32) (b4 : Vec Ideal S512x1024 .f32) (dq : Tok) (h : Holds q v25 dq)
    (h4 : Holds q b4 conv) :
    Holds q (k0_pay14 v25 b4) (fun n d => dq n d * conv n d) := fun r d => by
  pointwise [k0_pay14]
  rw [h r d, h4 r d]

theorem second_at (b3 : Vec Ideal S512x3072 .f32) (h3 : ∀ r j, b3 (ix2 r j) = bcx (row q r) j) :
    Holds q (k0_pay12 b3) (fun n d => bcx n ⟨1024 + d.val, by omega⟩) := fun r d => by
  pointwise [k0_pay12, k0_pay10]
  rw [h3]

theorem third_at (b3 : Vec Ideal S512x3072 .f32) (h3 : ∀ r j, b3 (ix2 r j) = bcx (row q r) j) :
    Holds q (k0_pay13 (k0_pay10 b3)) (fun n d => bcx n ⟨2048 + d.val, by omega⟩) := fun r d => by
  pointwise [k0_pay13, k0_pay10]
  rw [h3]

/-- The three taps of the gradient, the rows past the tile's end coming from the tile after it. -/
theorem dconvIn_at (v34 : FVec Ideal S512x1024 .f32) (nxt : Vec Ideal S8x1024 .f32) (b9 : Vec Ideal S1x8x1024 .f32) (dc : Tok)
    (h : Holds q v34 dc) (n0 : ∀ d, nxt (ix2 0 d) = later dc 1 (row q 511) d)
    (n1 : ∀ d, nxt (ix2 1 d) = later dc 2 (row q 511) d)
    (w0 : ∀ d, b9 (ix3 0 0 d) = k0 d) (w1 : ∀ d, b9 (ix3 0 1 d) = k1 d) (w2 : ∀ d, b9 (ix3 0 2 d) = k2 d) :
    Holds q (k0_pay27 v34 nxt (k0_pay25 (k0_pay6 b9) v34 nxt) (k0_pay26 (k0_pay6 b9))
      (iota Kind.tc S512x1024 32 [0] iota_S512x1024_d0_w32)) (dconvIn k0 k1 k2 dc) := fun r d => by
  pointwise [k0_pay27, k0_pay25, k0_pay26, k0_pay6]
  rw [le510, le509, eq510, select_if, select_if, select_if, w0, w1, w2, n0, n1, h r d]
  unfold dconvIn
  congr 2
  · congr 1
    by_cases hr : r.val ≤ 510
    · rw [if_pos hr, h]
      rw [later, dif_pos (by show q.val * 512 + r.val + 1 < 4096; omega)]
      congr 1
      exact Fin.ext (by show q.val * 512 + (r.val + 512 - 511) % 512 = q.val * 512 + r.val + 1; omega)
    · rw [if_neg hr, show r = (511 : Fin 512) from Fin.ext (by show r.val = 511; omega)]
  · by_cases hr : r.val ≤ 509
    · rw [if_pos hr, h]
      rw [later, dif_pos (by show q.val * 512 + r.val + 2 < 4096; omega)]
      congr 1
      exact Fin.ext (by show q.val * 512 + (r.val + 512 - 510) % 512 = q.val * 512 + r.val + 2; omega)
    · rw [if_neg hr]
      by_cases hr' : r.val = 510
      · rw [if_pos hr']
        have hrow : (row q r).val + 2 = (row q 511).val + 1 := by
          show q.val * 512 + r.val + 2 = q.val * 512 + 511 + 1
          omega
        unfold later
        by_cases hb : (row q 511).val + 1 < 4096
        · rw [dif_pos hb, dif_pos (hrow ▸ hb)]
          congr 1
          exact Fin.ext hrow.symm
        · rw [dif_neg hb, dif_neg (hrow ▸ hb)]
      · rw [if_neg hr', show r = (511 : Fin 512) from Fin.ext (by show r.val = 511; omega)]

/-- A stored product of the convolution's input gradient with a factor. -/
theorem du_at (v30 v34 : FVec Ideal S512x1024 .f32) (nxt : Vec Ideal S8x1024 .f32) (v108 : FVec Ideal S512x1024 .f32)
    (v109 : FVec Ideal S1x1024 .f32) (v110 : IVec S512x1024 32) (dz g : Tok)
    (h30 : Holds q v30 g) (hz : Holds q (k0_pay27 v34 nxt v108 v109 v110) dz) :
    Holds q (k0_pay29 v30 v34 nxt v108 v109 v110) (fun n d => dz n d * g n d) := fun r d => by
  pointwise [k0_pay29]
  rw [hz r d, h30 r d]

/-- The other stored product. -/
theorem dv_at (v29 v34 : FVec Ideal S512x1024 .f32) (nxt : Vec Ideal S8x1024 .f32) (v108 : FVec Ideal S512x1024 .f32)
    (v109 : FVec Ideal S1x1024 .f32) (v110 : IVec S512x1024 32) (dz g : Tok)
    (h29 : Holds q v29 g) (hz : Holds q (k0_pay27 v34 nxt v108 v109 v110) dz) :
    Holds q (k0_pay30 v29 v34 nxt v108 v109 v110) (fun n d => dz n d * g n d) := fun r d => by
  pointwise [k0_pay30]
  rw [hz r d, h29 r d]

/-- The gradient of the normalised input. -/
theorem dnorm_at (v29 v30 v33 v34 : FVec Ideal S512x1024 .f32) (nxt : Vec Ideal S8x1024 .f32) (v108 : FVec Ideal S512x1024 .f32)
    (v109 : FVec Ideal S1x1024 .f32) (v110 : IVec S512x1024 32) (u0 u1 u2 : Vec Ideal S1x1024x1024 .bf16) (p dz g2 g3 : Tok)
    (h33 : Holds q v33 p) (h29 : Holds q v29 g2) (h30 : Holds q v30 g3) (hz : Holds q (k0_pay27 v34 nxt v108 v109 v110) dz)
    (w0 : ∀ a b : Fin 1024, u0 (ix3 0 a b) = wi a ⟨b.val, by omega⟩)
    (w1 : ∀ a b : Fin 1024, u1 (ix3 0 a b) = wi a ⟨1024 + b.val, by omega⟩)
    (w2 : ∀ a b : Fin 1024, u2 (ix3 0 a b) = wi a ⟨2048 + b.val, by omega⟩) :
    Holds q (k0_pay31 v29 v30 v33 v34 nxt v108 v109 v110 u0 u1 u2)
      (dnorm p (fun n d => dz n d * g3 n d) (fun n d => dz n d * g2 n d) wi) := fun r d => by
  pointwise [k0_pay31, k0_pay28, k0_pay29, k0_pay30]
  unfold dnorm
  congr 1
  · congr 1
    · exact Finset.sum_congr rfl fun k _ => by rw [h33 r k, w0]
    · exact Finset.sum_congr rfl fun k _ => by rw [hz r k, h30 r k, w1]
  · exact Finset.sum_congr rfl fun k _ => by rw [hz r k, h29 r k, w2]

/-- The gradient of the layer's input. -/
theorem dinput_at (b0 : Vec Ideal S512x1024 .f32) (b6 : Vec Ideal S1x8x1024 .f32) (v145 : FVec Ideal S512x1024 .f32)
    (b1 : Vec Ideal S512x1024 .f32) (dh : Tok) (h0 : Holds q b0 ct) (h1 : Holds q b1 x) (h : Holds q v145 dh)
    (hg : ∀ d, b6 (ix3 0 6 d) * (1 + b6 (ix3 0 1 d)) = gain d) :
    Holds q (k0_pay34 b0 (k0_pay5 b6) v145 b1) (dinput ct x dh gain) := fun r d => by
  pointwise [k0_pay34, k0_pay33, k0_pay32, k0_pay5]
  simp only [hg, h0 r, h1 r, h r]
  rfl

/-! ## The column sums that a tile adds -/

theorem row0_at (b0 : Vec Ideal S512x1024 .f32) (acc : Vec Ideal S1x1024 .f32) (b2 : Vec Ideal S512x1024 .f32)
    (h0 : Holds q b0 ct) (h2 : Holds q b2 y) (d : Fin 1024) :
    k0_pay8 b0 acc b2 (ix2 0 d) = acc (ix2 0 d) + ∑ r : Fin 512, ct (row q r) d * y (row q r) d := by
  pointwise [k0_pay8]
  congr 1
  exact Finset.sum_congr rfl fun r _ => by rw [h0 r d, h2 r d]

theorem row1_at (v145 : FVec Ideal S512x1024 .f32) (b1 : Vec Ideal S512x1024 .f32) (acc : Vec Ideal S1x1024 .f32) (dh : Tok)
    (h : Holds q v145 dh) (h1 : Holds q b1 x) (d : Fin 1024) :
    k0_pay35 v145 b1 acc (ix2 0 d) = acc (ix2 0 d) + ∑ r : Fin 512, dh (row q r) d * unit x (row q r) d := by
  pointwise [k0_pay35, k0_pay33, k0_pay32]
  congr 1
  refine Finset.sum_congr rfl fun r _ => ?_
  simp only [h r, h1 r]
  rfl

theorem row2_at (v145 : FVec Ideal S512x1024 .f32) (acc : Vec Ideal S1x1024 .f32) (dh : Tok)
    (h : Holds q v145 dh) (d : Fin 1024) :
    k0_pay1 (k0_pay36 acc) (k0_pay37 v145) (ix2 0 d) = acc (ix2 0 d) + ∑ r : Fin 512, dh (row q r) d := by
  pointwise [k0_pay1, k0_pay36, k0_pay37]
  congr 1
  exact Finset.sum_congr rfl fun r _ => by rw [h r d]

theorem row6_at (v34 : FVec Ideal S512x1024 .f32) (acc : Vec Ideal S1x1024 .f32) (dc : Tok)
    (h : Holds q v34 dc) (d : Fin 1024) :
    k0_pay24 v34 acc (ix2 0 d) = acc (ix2 0 d) + ∑ r : Fin 512, dc (row q r) d := by
  pointwise [k0_pay24]
  congr 1
  exact Finset.sum_congr rfl fun r _ => by rw [h r d]

theorem convIn_at (b3 : Vec Ideal S512x3072 .f32) (h3 : ∀ r j, b3 (ix2 r j) = bcx (row q r) j) :
    Holds q (k0_pay16 (k0_pay10 b3) (k0_pay12 b3)) (convIn bcx) := fun r d => by
  pointwise [k0_pay16, k0_pay12, k0_pay13, k0_pay10]
  rw [h3, h3]
  rfl

/-- The eight rows before the tile; zero for the first tile. -/
theorem halo_at (v0 : BitVec 32) (b5 : Vec Ideal S8x3072 .f32)
    (hv : Scalar.cmpi .sgt v0 0#32 = if q.val ≠ 0 then 1#1 else 0#1)
    (h5 : ∀ (s : Fin 8) j, (h : q.val ≠ 0) → b5 (ix2 s j) = bcx ⟨q.val * 512 - 8 + s.val, by omega⟩ j) (s : Fin 8) (d : Fin 1024) :
    k0_pay17 v0 b5 (ix2 s d) = if h : q.val ≠ 0 then convIn bcx ⟨q.val * 512 - 8 + s.val, by omega⟩ d else 0 := by
  pointwise [k0_pay17]
  rw [hv, select_if]
  by_cases h : q.val ≠ 0
  · rw [if_pos h, dif_pos h, h5 _ _ h, h5 _ _ h]
    rfl
  · rw [if_neg h, dif_neg h]

theorem row5_at (v34 v35 : FVec Ideal S512x1024 .f32) (acc : Vec Ideal S1x1024 .f32) (dc z : Tok)
    (h : Holds q v34 dc) (hz : Holds q v35 z) (d : Fin 1024) :
    k0_pay23 v34 v35 acc (ix2 0 d) = acc (ix2 0 d) + ∑ r : Fin 512, dc (row q r) d * z (row q r) d := by
  pointwise [k0_pay23]
  congr 1
  exact Finset.sum_congr rfl fun r _ => by rw [h r d, hz r d]

theorem row4_at (v34 : FVec Ideal S512x1024 .f32) (v43 : FVec Ideal S8x1024 .f32) (acc : Vec Ideal S1x1024 .f32)
    (b3 : Vec Ideal S512x3072 .f32) (dc z : Tok) (h : Holds q v34 dc) (hz : Holds q (k0_pay16 (k0_pay10 b3) (k0_pay12 b3)) z)
    (hh : ∀ (s : Fin 8) d, v43 (ix2 s d) = if h : q.val ≠ 0 then z ⟨q.val * 512 - 8 + s.val, by omega⟩ d else 0) (d : Fin 1024) :
    k0_pay22 v34 v43 (k0_pay19 acc) k0_pay20 (k0_pay21 (k0_pay10 b3) (k0_pay12 b3)) (ix2 0 d)
      = acc (ix2 0 d) + ∑ r : Fin 512, dc (row q r) d * earlier z 1 (row q r) d := by
  pointwise [k0_pay22, k0_pay19, k0_pay20, k0_pay21]
  congr 1
  refine Finset.sum_congr rfl fun r _ => ?_
  rw [ge1, select_if, h r d, hz, hh]
  congr 1
  unfold earlier
  by_cases hr : 1 ≤ r.val
  · rw [if_pos hr, dif_neg (by show ¬ q.val * 512 + r.val < 1; omega)]
    congr 1
    exact Fin.ext (by show q.val * 512 + (r.val + 512 - 1) % 512 = q.val * 512 + r.val - 1; omega)
  · rw [if_neg hr]
    by_cases hq : q.val ≠ 0
    · rw [dif_pos hq, dif_neg (by show ¬ q.val * 512 + r.val < 1; omega)]
      congr 1
      exact Fin.ext (by show q.val * 512 - 8 + 7 = q.val * 512 + r.val - 1; omega)
    · rw [dif_neg hq, dif_pos (by show q.val * 512 + r.val < 1; omega)]

theorem row3_at (v0 : BitVec 32) (v25 : FVec Ideal S512x1024 .f32) (b5 : Vec Ideal S8x3072 .f32) (acc : Vec Ideal S1x1024 .f32)
    (b3 : Vec Ideal S512x3072 .f32) (dc z : Tok) (h : Holds q (k0_pay15 v25 (k0_pay11 b3)) dc)
    (hz : Holds q (k0_pay16 (k0_pay10 b3) (k0_pay12 b3)) z)
    (hh : ∀ (s : Fin 8) d, k0_pay17 v0 b5 (ix2 s d) = if h : q.val ≠ 0 then z ⟨q.val * 512 - 8 + s.val, by omega⟩ d else 0)
    (d : Fin 1024) :
    k0_pay18 v0 v25 (k0_pay10 b3) (k0_pay11 b3) (k0_pay12 b3) b5 acc (ix2 0 d)
      = acc (ix2 0 d) + ∑ r : Fin 512, dc (row q r) d * earlier z 2 (row q r) d := by
  pointwise [k0_pay18]
  congr 1
  refine Finset.sum_congr rfl fun r _ => ?_
  rw [ge2, eq0, select_if, select_if, h r d, hz, hh, hh]
  congr 1
  unfold earlier
  by_cases hr : 2 ≤ r.val
  · rw [if_pos hr, dif_neg (by show ¬ q.val * 512 + r.val < 2; omega)]
    congr 1
    exact Fin.ext (by show q.val * 512 + (r.val + 512 - 2) % 512 = q.val * 512 + r.val - 2; omega)
  · rw [if_neg hr]
    by_cases hq : q.val ≠ 0
    · rw [dif_pos hq, dif_pos hq, dif_neg (by show ¬ q.val * 512 + r.val < 2; omega)]
      by_cases hr0 : r.val = 0
      · rw [if_pos hr0]
        congr 1
        exact Fin.ext (by show q.val * 512 - 8 + 6 = q.val * 512 + r.val - 2; omega)
      · rw [if_neg hr0]
        congr 1
        exact Fin.ext (by show q.val * 512 - 8 + 7 = q.val * 512 + r.val - 2; omega)
    · rw [dif_neg hq, dif_neg hq, dif_pos (by show q.val * 512 + r.val < 2; omega), ite_self]

end Cert.Conv0Ideal.Tile

end
-- ==== Proof.Conv0Blocks.lean ====
/- The blocks that a grid point of the short convolution's backward call reads. -/
module

public import proofs.«01_k».proof.Defs
public import proofs.«01_k».proof.Proof.Gen.Conv0Ideal.Value
public import Idealize.ShloMosaic.Lib.Pipeline.ValueKit
public import Idealize.ShloMosaic.Lib.Pointwise
public import Idealize.ShloMosaic.Lib.Claim
public import proofs.«01_k».proof.Proof.Conv0Tile
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Conv0Ideal.Value
open Cert.Conv0Ideal Cert.Conv0Ideal.Gen Cert.Conv0Ideal.Tile Cert.ConvSpec Cert
variable (m : (ℓ : Loc nD τ sig) → Buf (Elt Ideal) ℓ)

/-- The tile that grid point `t` works on: the last one first. -/
def tile (t : Fin cfg0.N) : Fin 8 := ⟨7 - t.val, by omega⟩

theorem idx : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![(7 - t.val) * 64 - 1, 0]
    ∧ win0_6.index t = ![0, 0, 0] ∧ win0_7.index t = ![0, 0, 0] ∧ win0_8.index t = ![0, 0, 0] ∧ win0_9.index t = ![0, 0, 0] :=
  (by decide +kernel : ∀ t : Fin grid0.N, _)

/-- The layer's arrays as the call finds them. -/
def layer (c : Dev nD) : Layer where
  ct := fun n d => V m c main_arg0 (ix2 n d)
  x := fun n d => V m c main_arg1 (ix2 n d)
  y := fun n d => V m c main_v60 (ix2 n d)
  conv := fun n d => V m c main_v58 (ix2 n d)
  bcx := fun n j => V m c main_v25 (ix2 n j)
  gate := fun d => V m c main_v63 (ix3 0 2 d)
  gain := fun d => (show EReal from V m c main_v63 (ix3 0 6 d)) * (1 + (show EReal from V m c main_v63 (ix3 0 1 d)))
  tap := fun s d => V m c main_v66 (ix3 0 ⟨s.val, by omega⟩ d)
  wi := fun a j => V m c main_v68 (ix3 0 a j)
  wo := fun a b => V m c main_v70 (ix3 0 a b)

variable (c : Dev nD) (t : Fin cfg0.N)

theorem blk0 : Holds (tile t) (iblk m c 0 t) (layer m c).ct := fun r d => by
  unfold layer tile row
  blk_point [iblk, idx t]

theorem blk1 : Holds (tile t) (iblk m c 1 t) (layer m c).x := fun r d => by
  unfold layer tile row
  blk_point [iblk, idx t]

theorem blk2 : Holds (tile t) (iblk m c 2 t) (layer m c).y := fun r d => by
  unfold layer tile row
  blk_point [iblk, idx t]

theorem blk3 (r : Fin 512) (j : Fin 3072) : iblk m c 3 t (ix2 r j) = (layer m c).bcx (row (tile t) r) j := by
  unfold layer tile row
  blk_point [iblk, idx t]

theorem blk4 : Holds (tile t) (iblk m c 4 t) (layer m c).conv := fun r d => by
  unfold layer tile row
  blk_point [iblk, idx t]

/-- The rows before the tile. -/
theorem blk5 (s : Fin 8) (j : Fin 3072) (h : (tile t).val ≠ 0) :
    iblk m c 5 t (ix2 s j) = (layer m c).bcx ⟨(tile t).val * 512 - 8 + s.val, by omega⟩ j := by
  have ht : 7 - t.val ≠ 0 := h
  refine Eq.trans (b := V m c main_v25 (ix2 ⟨((7 - t.val) * 64 - 1) * 8 + s.val, by omega⟩ j)) ?_ ?_
  · blk_point [iblk, idx t]
  · refine congrArg (V m c main_v25) (congrArg (fun n => ix2 n j) (Fin.ext ?_))
    show ((7 - t.val) * 64 - 1) * 8 + s.val = (7 - t.val) * 512 - 8 + s.val
    omega

/-- A row of the modulation block. -/
theorem blk6 (s : Fin 8) (d : Fin 1024) : iblk m c 6 t (ix3 0 s d) = V m c main_v63 (ix3 0 s d) := by
  blk_point [iblk, idx t]

theorem blk6_gate (d : Fin 1024) : iblk m c 6 t (ix3 0 2 d) = (layer m c).gate d := blk6 m c t 2 d

theorem blk6_gain (d : Fin 1024) : (show EReal from iblk m c 6 t (ix3 0 6 d)) * (1 + (show EReal from iblk m c 6 t (ix3 0 1 d))) = (layer m c).gain d := by
  rw [blk6 m c t 6 d, blk6 m c t 1 d]
  rfl

theorem blk7 (a : Fin 1024) (j : Fin 3072) : iblk m c 7 t (ix3 0 a j) = (layer m c).wi a j := by
  unfold layer
  blk_point [iblk, idx t]

theorem blk8 (a b : Fin 1024) : iblk m c 8 t (ix3 0 a b) = (layer m c).wo a b := by
  unfold layer
  blk_point [iblk, idx t]

theorem blk9 (s : Fin 3) (d : Fin 1024) : iblk m c 9 t (ix3 0 ⟨s.val, by omega⟩ d) = (layer m c).tap s d := by
  unfold layer
  blk_point [iblk, idx t]

/-- Only the first tile has nothing before it. -/
theorem notFirst : ∀ t : Fin cfg0.N, Scalar.cmpi .sgt (Scalar.subi 7#32 (BitVec.ofNat 32 (grid0.coords t 0).val)) 0#32
    = if (tile t).val ≠ 0 then 1#1 else 0#1 :=
  (by decide +kernel : ∀ t : Fin grid0.N, _)

end Cert.Conv0Ideal.Value

end
-- ==== Proof.Conv0Point.lean ====
/- What a grid point of the short convolution's backward call has computed of the layer's gradients. -/
module

public import proofs.«01_k».proof.Defs
public import proofs.«01_k».proof.Proof.Gen.Conv0Ideal.Value
public import Idealize.ShloMosaic.Lib.Pipeline.ValueKit
public import Idealize.ShloMosaic.Lib.Pointwise
public import Idealize.ShloMosaic.Lib.Claim
public import proofs.«01_k».proof.Proof.Conv0Blocks
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Conv0Ideal.Value
open Cert.Conv0Ideal Cert.Conv0Ideal.Gen Cert.Conv0Ideal.Tile Cert.ConvSpec Cert
variable (m : (ℓ : Loc nD τ sig) → Buf (Elt Ideal) ℓ)

variable (c : Dev nD) (t : Fin cfg0.N)

theorem dy : Holds (tile t) (k0_pay7 (iblk m c 0 t) (iblk m c 6 t)) (layer m c).dy :=
  dy_at _ _ (blk0 m c t) (blk6_gate m c t)

theorem dq : Holds (tile t) (k0_pay9 (iblk m c 0 t) (iblk m c 6 t) (iblk m c 8 t)) (layer m c).dq :=
  dmix_at _ _ _ _ (dy m c t) (blk8 m c t)

theorem dc : Holds (tile t) (k0_pay15 (k0_pay9 (iblk m c 0 t) (iblk m c 6 t) (iblk m c 8 t)) (k0_pay11 (iblk m c 3 t))) (layer m c).dc :=
  dconv_at _ _ _ (dq m c t) (blk3 m c t)

theorem dg : Holds (tile t) (k0_pay14 (k0_pay9 (iblk m c 0 t) (iblk m c 6 t) (iblk m c 8 t)) (iblk m c 4 t)) (layer m c).dg :=
  dgate_at _ _ _ (dq m c t) (blk4 m c t)

/-- What a tile hands to the tile before it: its first rows of the gradient of the convolution's output. -/
theorem carry (s : Fin 8) (d : Fin 1024) :
    (outsAt0 m c t.val t.isLt).2.2.2.2 (ix2 s d) = (layer m c).dc (row (tile t) ⟨s.val, by omega⟩) d := by
  by_cases h : t.val % 8 = 0
  · rw [outsAt0_A m c t h]
    frame_out
    pointwise [k0_pay2]
    exact dc m c t _ d
  · rw [outsAt0_B m c t h]
    frame_out
    pointwise [k0_pay2]
    exact dc m c t _ d

/-- The rows that a tile takes from the tile after it: `nxt` holds the first two of them, or zeros at the end. -/
def Next (nxt : Vec Ideal S8x1024 .f32) : Prop :=
  (∀ d, nxt (ix2 0 d) = later (layer m c).dc 1 (row (tile t) 511) d) ∧ ∀ d, nxt (ix2 1 d) = later (layer m c).dc 2 (row (tile t) 511) d

theorem next_A (h : t.val % 8 = 0) : Next m c t (k0_pay4 (F := Ideal)) := by
  have hN : t.val < 8 := lt_of_lt_of_eq t.isLt N_0
  refine ⟨fun d => ?_, fun d => ?_⟩
  · pointwise [k0_pay4]
    rw [later, dif_neg (by show ¬ (7 - t.val) * 512 + 511 + 1 < 4096; omega)]
  · pointwise [k0_pay4]
    rw [later, dif_neg (by show ¬ (7 - t.val) * 512 + 511 + 2 < 4096; omega)]

theorem next_B (h : ¬ t.val % 8 = 0) (hb : t.val - 1 < cfg0.N) : Next m c t ((outsAt0 m c (t.val - 1) hb).2.2.2.2) := by
  have hN : t.val < 8 := lt_of_lt_of_eq t.isLt N_0
  have e := carry m c ⟨t.val - 1, hb⟩
  refine ⟨fun d => (e 0 d).trans ?_, fun d => (e 1 d).trans ?_⟩
  · rw [later, dif_pos (by show (7 - t.val) * 512 + 511 + 1 < 4096; omega)]
    congr 1
    exact Fin.ext (by show (7 - (t.val - 1)) * 512 + 0 = (7 - t.val) * 512 + 511 + 1; omega)
  · rw [later, dif_pos (by show (7 - t.val) * 512 + 511 + 2 < 4096; omega)]
    congr 1
    exact Fin.ext (by show (7 - (t.val - 1)) * 512 + 1 = (7 - t.val) * 512 + 511 + 2; omega)

theorem dz (nxt : Vec Ideal S8x1024 .f32) (hn : Next m c t nxt) :
    Holds (tile t) (k0_pay27 (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).dz :=
  dconvIn_at _ _ _ _ (dc m c t) hn.1 hn.2 (blk9 m c t 0) (blk9 m c t 1) (blk9 m c t 2)

/-- The three blocks of columns of the input projection's weight. -/
theorem cols0 (a b : Fin 1024) :
    View.ld (iblk m c 7 t) (Rect.unit (s := S1x1024x3072) ![0, 0, 0] ![1, 1024, 1024] inb_S1x1024x3072_S1x1024x1024_0_0_0) (ix3 0 a b) = (layer m c).wi a ⟨b.val, by omega⟩ := by
  rw [← blk7 m c t a ⟨b.val, by omega⟩]
  pointwise []
theorem cols1 (a b : Fin 1024) :
    View.ld (iblk m c 7 t) (Rect.unit (s := S1x1024x3072) ![0, 0, 1024] ![1, 1024, 1024] inb_S1x1024x3072_S1x1024x1024_0_0_1024) (ix3 0 a b) = (layer m c).wi a ⟨1024 + b.val, by omega⟩ := by
  rw [← blk7 m c t a ⟨1024 + b.val, by omega⟩]
  pointwise []
theorem cols2 (a b : Fin 1024) :
    View.ld (iblk m c 7 t) (Rect.unit (s := S1x1024x3072) ![0, 0, 2048] ![1, 1024, 1024] inb_S1x1024x3072_S1x1024x1024_0_0_2048) (ix3 0 a b) = (layer m c).wi a ⟨2048 + b.val, by omega⟩ := by
  rw [← blk7 m c t a ⟨2048 + b.val, by omega⟩]
  pointwise []

/-- The gradient of the normalised input at a point, from the rows after its tile. -/
theorem dh (nxt : Vec Ideal S8x1024 .f32) (hn : Next m c t nxt) :
    Holds (tile t) (k0_pay31 (k0_pay12 (iblk m c 3 t)) (k0_pay13 (k0_pay10 (iblk m c 3 t)))
      (k0_pay14 (k0_pay9 (iblk m c 0 t) (iblk m c 6 t) (iblk m c 8 t)) (iblk m c 4 t))
      (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)
      (View.ld (iblk m c 7 t) (Rect.unit ![0, 0, 0] ![1, 1024, 1024] inb_S1x1024x3072_S1x1024x1024_0_0_0))
      (View.ld (iblk m c 7 t) (Rect.unit ![0, 0, 1024] ![1, 1024, 1024] inb_S1x1024x3072_S1x1024x1024_0_0_1024))
      (View.ld (iblk m c 7 t) (Rect.unit ![0, 0, 2048] ![1, 1024, 1024] inb_S1x1024x3072_S1x1024x1024_0_0_2048))) (layer m c).dh :=
  dnorm_at _ _ _ _ _ _ _ _ _ _ _ _ _ _ _ (dg m c t) (second_at _ (blk3 m c t)) (third_at _ (blk3 m c t)) (dz m c t nxt hn)
    (cols0 m c t) (cols1 m c t) (cols2 m c t)

/-- The gradient of the layer's input at a point, from the rows after its tile. -/
theorem dx (nxt : Vec Ideal S8x1024 .f32) (hn : Next m c t nxt) :
    Holds (tile t) (k0_pay34 (iblk m c 0 t) (k0_pay5 (iblk m c 6 t)) (k0_pay31 (k0_pay12 (iblk m c 3 t)) (k0_pay13 (k0_pay10 (iblk m c 3 t)))
        (k0_pay14 (k0_pay9 (iblk m c 0 t) (iblk m c 6 t) (iblk m c 8 t)) (iblk m c 4 t))
        (k0_pay15 (k0_pay9 (iblk m c 0 t) (iblk m c 6 t) (iblk m c 8 t)) (k0_pay11 (iblk m c 3 t))) nxt
        (k0_pay25 (k0_pay6 (iblk m c 9 t)) (k0_pay15 (k0_pay9 (iblk m c 0 t) (iblk m c 6 t) (iblk m c 8 t)) (k0_pay11 (iblk m c 3 t))) nxt)
        (k0_pay26 (k0_pay6 (iblk m c 9 t))) (iota Kind.tc S512x1024 32 [0] iota_S512x1024_d0_w32)
        (View.ld (iblk m c 7 t) (Rect.unit ![0, 0, 0] ![1, 1024, 1024] inb_S1x1024x3072_S1x1024x1024_0_0_0))
        (View.ld (iblk m c 7 t) (Rect.unit ![0, 0, 1024] ![1, 1024, 1024] inb_S1x1024x3072_S1x1024x1024_0_0_1024))
        (View.ld (iblk m c 7 t) (Rect.unit ![0, 0, 2048] ![1, 1024, 1024] inb_S1x1024x3072_S1x1024x1024_0_0_2048))) (iblk m c 1 t)) (layer m c).dx :=
  dinput_at _ _ _ _ _ (blk0 m c t) (blk1 m c t) (dh m c t nxt hn) (blk6_gain m c t)

/-- The gradients of the gate array and of the two factors at a point, as they are stored. -/
theorem dg_stored : Holds (tile t) (k0_pay28 (k0_pay14 (k0_pay9 (iblk m c 0 t) (iblk m c 6 t) (iblk m c 8 t)) (iblk m c 4 t))) (layer m c).dg :=
  fun r d => by
    pointwise [k0_pay28]
    exact dg m c t r d

theorem du (nxt : Vec Ideal S8x1024 .f32) (hn : Next m c t nxt) :
    Holds (tile t) (k0_pay29 (k0_pay13 (k0_pay10 (iblk m c 3 t))) (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).du :=
  du_at _ _ _ _ _ _ _ _ (third_at _ (blk3 m c t)) (dz m c t nxt hn)

theorem dv (nxt : Vec Ideal S8x1024 .f32) (hn : Next m c t nxt) :
    Holds (tile t) (k0_pay30 (k0_pay12 (iblk m c 3 t)) (k0_pay15 (k0_pay9 (iblk m c 0 t) (iblk m c 6 t) (iblk m c 8 t)) (k0_pay11 (iblk m c 3 t))) nxt
      (k0_pay25 (k0_pay6 (iblk m c 9 t)) (k0_pay15 (k0_pay9 (iblk m c 0 t) (iblk m c 6 t) (iblk m c 8 t)) (k0_pay11 (iblk m c 3 t))) nxt)
      (k0_pay26 (k0_pay6 (iblk m c 9 t))) (iota Kind.tc S512x1024 32 [0] iota_S512x1024_d0_w32)) (layer m c).dv :=
  dv_at _ _ _ _ _ _ _ _ (second_at _ (blk3 m c t)) (dz m c t nxt hn)

/-- The rows after the tile, as the point before left them in the scratch buffer. -/
theorem next_read (h : ¬ t.val % 8 = 0) (hw : (Memref.whole cc0_scratch0).IsWhole) (hb : t.val - 1 < cfg0.N) :
    Next m c t (View.read (Elt Ideal) (View.whole cc0_scratch0) (hw.unread ((outsAt0 m c (t.val - 1) hb).2.2.2.2))) := by
  have e := hw.read_unread (Val := Elt Ideal) ((outsAt0 m c (t.val - 1) hb).2.2.2.2)
  exact e.symm ▸ next_B m c t h hb

end Cert.Conv0Ideal.Value

end
-- ==== Proof.Conv0Rows.lean ====
/- The column sums that the short convolution's backward call leaves. -/
module

public import proofs.«01_k».proof.Defs
public import proofs.«01_k».proof.Proof.Gen.Conv0Ideal.Value
public import Idealize.ShloMosaic.Lib.Pipeline.ValueKit
public import Idealize.ShloMosaic.Lib.Pointwise
public import Idealize.ShloMosaic.Lib.Claim
public import proofs.«01_k».proof.Proof.Conv0Point
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Conv0Ideal.Value
open Cert.Conv0Ideal Cert.Conv0Ideal.Gen Cert.Conv0Ideal.Tile Cert.ConvSpec Cert
variable (m : (ℓ : Loc nD τ sig) → Buf (Elt Ideal) ℓ)

variable (c : Dev nD) (t : Fin cfg0.N)

/-- The rows before the tile. -/
theorem halo (s : Fin 8) (d : Fin 1024) :
    k0_pay17 (Scalar.subi (7#32) (BitVec.ofNat 32 (grid0.coords t 0).val)) (iblk m c 5 t) (ix2 s d)
      = if h : (tile t).val ≠ 0 then convIn (layer m c).bcx ⟨(tile t).val * 512 - 8 + s.val, by omega⟩ d else 0 :=
  halo_at _ _ (notFirst t) (blk5 m c t) s d

/-- The row of the gate: reset at the first point, added to at the others. -/
theorem row0_A (h : t.val % 8 = 0) (d : Fin 1024) :
    (outsAt0 m c t.val t.isLt).2.2.2.1 (ix2 (⟨0, by decide⟩ : Fin 8) d) = 0 + (layer m c).part (tile t) 0 d := by
  rw [outsAt0_A m c t h]
  frame_out
  simp (disch := decide) only [RowBuffer.canon_hit, RowBuffer.canon_miss, RowBuffer.canon_fill]
  refine (row0_at _ _ _ (blk0 m c t) (blk2 m c t) d).trans (congrArg (· + _) ?_)
  simp (disch := decide) only [RowBuffer.readCov_row, RowBuffer.read_hit, RowBuffer.read_miss, RowBuffer.read_fill]
  pointwise [k0_pay3]

theorem row0_B (h : ¬ t.val % 8 = 0) (hb : t.val - 1 < cfg0.N) (d : Fin 1024) :
    (outsAt0 m c t.val t.isLt).2.2.2.1 (ix2 (⟨0, by decide⟩ : Fin 8) d)
      = (outsAt0 m c (t.val - 1) hb).2.2.2.1 (ix2 (⟨0, by decide⟩ : Fin 8) d) + (layer m c).part (tile t) 0 d := by
  rw [outsAt0_B m c t h]
  frame_out
  simp (disch := decide) only [RowBuffer.read_hit, RowBuffer.read_miss]
  refine (row0_at _ _ _ (blk0 m c t) (blk2 m c t) d).trans (congrArg (· + _) ?_)
  exact RowBuffer.ld_row _ _ (by decide) d

/-- The row of the norm's gain: reset at the first point, added to at the others. -/
theorem row1_A (h : t.val % 8 = 0) (d : Fin 1024) :
    (outsAt0 m c t.val t.isLt).2.2.2.1 (ix2 (⟨1, by decide⟩ : Fin 8) d) = 0 + (layer m c).part (tile t) 1 d := by
  rw [outsAt0_A m c t h]
  frame_out
  simp (disch := decide) only [RowBuffer.canon_hit, RowBuffer.canon_miss, RowBuffer.canon_fill]
  refine (row1_at _ _ _ _ (dh m c t _ (next_A m c t h)) (blk1 m c t) d).trans (congrArg (· + _) ?_)
  simp (disch := decide) only [RowBuffer.readCov_row, RowBuffer.read_hit, RowBuffer.read_miss, RowBuffer.read_fill]
  pointwise [k0_pay3]

theorem row1_B (h : ¬ t.val % 8 = 0) (hb : t.val - 1 < cfg0.N) (d : Fin 1024) :
    (outsAt0 m c t.val t.isLt).2.2.2.1 (ix2 (⟨1, by decide⟩ : Fin 8) d)
      = (outsAt0 m c (t.val - 1) hb).2.2.2.1 (ix2 (⟨1, by decide⟩ : Fin 8) d) + (layer m c).part (tile t) 1 d := by
  rw [outsAt0_B m c t h]
  frame_out
  simp (disch := decide) only [RowBuffer.read_hit, RowBuffer.read_miss]
  refine (row1_at _ _ _ _ (dh m c t _ (next_read m c t h _ _)) (blk1 m c t) d).trans (congrArg (· + _) ?_)
  exact RowBuffer.ld_row _ _ (by decide) d

/-- The row of the norm's shift: reset at the first point, added to at the others. -/
theorem row2_A (h : t.val % 8 = 0) (d : Fin 1024) :
    (outsAt0 m c t.val t.isLt).2.2.2.1 (ix2 (⟨2, by decide⟩ : Fin 8) d) = 0 + (layer m c).part (tile t) 2 d := by
  rw [outsAt0_A m c t h]
  frame_out
  simp (disch := decide) only [RowBuffer.canon_hit, RowBuffer.canon_miss, RowBuffer.canon_fill]
  refine (row2_at _ _ _ (dh m c t _ (next_A m c t h)) d).trans (congrArg (· + _) ?_)
  simp (disch := decide) only [RowBuffer.readCov_row, RowBuffer.read_hit, RowBuffer.read_miss, RowBuffer.read_fill]
  pointwise [k0_pay3]

theorem row2_B (h : ¬ t.val % 8 = 0) (hb : t.val - 1 < cfg0.N) (d : Fin 1024) :
    (outsAt0 m c t.val t.isLt).2.2.2.1 (ix2 (⟨2, by decide⟩ : Fin 8) d)
      = (outsAt0 m c (t.val - 1) hb).2.2.2.1 (ix2 (⟨2, by decide⟩ : Fin 8) d) + (layer m c).part (tile t) 2 d := by
  rw [outsAt0_B m c t h]
  frame_out
  simp (disch := decide) only [RowBuffer.read_hit, RowBuffer.read_miss]
  refine (row2_at _ _ _ (dh m c t _ (next_read m c t h _ _)) d).trans (congrArg (· + _) ?_)
  exact RowBuffer.ld_row _ _ (by decide) d

/-- The row of the first tap: reset at the first point, added to at the others. -/
theorem row3_A (h : t.val % 8 = 0) (d : Fin 1024) :
    (outsAt0 m c t.val t.isLt).2.2.2.1 (ix2 (⟨3, by decide⟩ : Fin 8) d) = 0 + (layer m c).part (tile t) 3 d := by
  rw [outsAt0_A m c t h]
  frame_out
  simp (disch := decide) only [RowBuffer.canon_hit, RowBuffer.canon_miss, RowBuffer.canon_fill]
  refine (row3_at _ _ _ _ _ _ _ (dc m c t) (convIn_at _ (blk3 m c t)) (halo m c t) d).trans (congrArg (· + _) ?_)
  simp (disch := decide) only [RowBuffer.readCov_row, RowBuffer.read_hit, RowBuffer.read_miss, RowBuffer.read_fill]
  pointwise [k0_pay3]

theorem row3_B (h : ¬ t.val % 8 = 0) (hb : t.val - 1 < cfg0.N) (d : Fin 1024) :
    (outsAt0 m c t.val t.isLt).2.2.2.1 (ix2 (⟨3, by decide⟩ : Fin 8) d)
      = (outsAt0 m c (t.val - 1) hb).2.2.2.1 (ix2 (⟨3, by decide⟩ : Fin 8) d) + (layer m c).part (tile t) 3 d := by
  rw [outsAt0_B m c t h]
  frame_out
  simp (disch := decide) only [RowBuffer.read_hit, RowBuffer.read_miss]
  refine (row3_at _ _ _ _ _ _ _ (dc m c t) (convIn_at _ (blk3 m c t)) (halo m c t) d).trans (congrArg (· + _) ?_)
  exact RowBuffer.ld_row _ _ (by decide) d

/-- The row of the second tap: reset at the first point, added to at the others. -/
theorem row4_A (h : t.val % 8 = 0) (d : Fin 1024) :
    (outsAt0 m c t.val t.isLt).2.2.2.1 (ix2 (⟨4, by decide⟩ : Fin 8) d) = 0 + (layer m c).part (tile t) 4 d := by
  rw [outsAt0_A m c t h]
  frame_out
  simp (disch := decide) only [RowBuffer.canon_hit, RowBuffer.canon_miss, RowBuffer.canon_fill]
  refine (row4_at _ _ _ _ _ _ (dc m c t) (convIn_at _ (blk3 m c t)) (halo m c t) d).trans (congrArg (· + _) ?_)
  simp (disch := decide) only [RowBuffer.readCov_row, RowBuffer.read_hit, RowBuffer.read_miss, RowBuffer.read_fill]
  pointwise [k0_pay3]

theorem row4_B (h : ¬ t.val % 8 = 0) (hb : t.val - 1 < cfg0.N) (d : Fin 1024) :
    (outsAt0 m c t.val t.isLt).2.2.2.1 (ix2 (⟨4, by decide⟩ : Fin 8) d)
      = (outsAt0 m c (t.val - 1) hb).2.2.2.1 (ix2 (⟨4, by decide⟩ : Fin 8) d) + (layer m c).part (tile t) 4 d := by
  rw [outsAt0_B m c t h]
  frame_out
  simp (disch := decide) only [RowBuffer.read_hit, RowBuffer.read_miss]
  refine (row4_at _ _ _ _ _ _ (dc m c t) (convIn_at _ (blk3 m c t)) (halo m c t) d).trans (congrArg (· + _) ?_)
  exact RowBuffer.ld_row _ _ (by decide) d

/-- The row of the third tap: reset at the first point, added to at the others. -/
theorem row5_A (h : t.val % 8 = 0) (d : Fin 1024) :
    (outsAt0 m c t.val t.isLt).2.2.2.1 (ix2 (⟨5, by decide⟩ : Fin 8) d) = 0 + (layer m c).part (tile t) 5 d := by
  rw [outsAt0_A m c t h]
  frame_out
  simp (disch := decide) only [RowBuffer.canon_hit, RowBuffer.canon_miss, RowBuffer.canon_fill]
  refine (row5_at _ _ _ _ _ (dc m c t) (convIn_at _ (blk3 m c t)) d).trans (congrArg (· + _) ?_)
  simp (disch := decide) only [RowBuffer.readCov_row, RowBuffer.read_hit, RowBuffer.read_miss, RowBuffer.read_fill]
  pointwise [k0_pay3]

theorem row5_B (h : ¬ t.val % 8 = 0) (hb : t.val - 1 < cfg0.N) (d : Fin 1024) :
    (outsAt0 m c t.val t.isLt).2.2.2.1 (ix2 (⟨5, by decide⟩ : Fin 8) d)
      = (outsAt0 m c (t.val - 1) hb).2.2.2.1 (ix2 (⟨5, by decide⟩ : Fin 8) d) + (layer m c).part (tile t) 5 d := by
  rw [outsAt0_B m c t h]
  frame_out
  simp (disch := decide) only [RowBuffer.read_hit, RowBuffer.read_miss]
  refine (row5_at _ _ _ _ _ (dc m c t) (convIn_at _ (blk3 m c t)) d).trans (congrArg (· + _) ?_)
  exact RowBuffer.ld_row _ _ (by decide) d

/-- The row of the convolution's bias: reset at the first point, added to at the others. -/
theorem row6_A (h : t.val % 8 = 0) (d : Fin 1024) :
    (outsAt0 m c t.val t.isLt).2.2.2.1 (ix2 (⟨6, by decide⟩ : Fin 8) d) = 0 + (layer m c).part (tile t) 6 d := by
  rw [outsAt0_A m c t h]
  frame_out
  simp (disch := decide) only [RowBuffer.canon_hit, RowBuffer.canon_miss, RowBuffer.canon_fill]
  refine (row6_at _ _ _ (dc m c t) d).trans (congrArg (· + _) ?_)
  simp (disch := decide) only [RowBuffer.readCov_row, RowBuffer.read_hit, RowBuffer.read_miss, RowBuffer.read_fill]
  pointwise [k0_pay3]

theorem row6_B (h : ¬ t.val % 8 = 0) (hb : t.val - 1 < cfg0.N) (d : Fin 1024) :
    (outsAt0 m c t.val t.isLt).2.2.2.1 (ix2 (⟨6, by decide⟩ : Fin 8) d)
      = (outsAt0 m c (t.val - 1) hb).2.2.2.1 (ix2 (⟨6, by decide⟩ : Fin 8) d) + (layer m c).part (tile t) 6 d := by
  rw [outsAt0_B m c t h]
  frame_out
  simp (disch := decide) only [RowBuffer.read_hit, RowBuffer.read_miss]
  refine (row6_at _ _ _ (dc m c t) d).trans (congrArg (· + _) ?_)
  exact RowBuffer.ld_row _ _ (by decide) d

/-- The row of zeros. -/
theorem row7_A (h : t.val % 8 = 0) (d : Fin 1024) :
    (outsAt0 m c t.val t.isLt).2.2.2.1 (ix2 (⟨7, by decide⟩ : Fin 8) d) = 0 + (layer m c).part (tile t) 7 d := by
  rw [outsAt0_A m c t h]
  frame_out
  simp (disch := decide) only [RowBuffer.canon_hit, RowBuffer.canon_miss, RowBuffer.canon_fill]
  pointwise [k0_pay3]
  rfl

theorem row7_B (h : ¬ t.val % 8 = 0) (hb : t.val - 1 < cfg0.N) (d : Fin 1024) :
    (outsAt0 m c t.val t.isLt).2.2.2.1 (ix2 (⟨7, by decide⟩ : Fin 8) d)
      = (outsAt0 m c (t.val - 1) hb).2.2.2.1 (ix2 (⟨7, by decide⟩ : Fin 8) d) + (layer m c).part (tile t) 7 d := by
  rw [outsAt0_B m c t h]
  frame_out
  simp (disch := decide) only [RowBuffer.read_hit, RowBuffer.read_miss, RowBuffer.read_nil, Memref.IsWhole.read_unread]
  exact (add_zero (_ : EReal)).symm

/-- The first point leaves its own part in the rows. -/
theorem rows_A (h : t.val % 8 = 0) (k : Fin 8) (d : Fin 1024) :
    (outsAt0 m c t.val t.isLt).2.2.2.1 (ix2 k d) = 0 + (layer m c).part (tile t) k d := by
  match k with
  | 0 => exact row0_A m c t h d
  | 1 => exact row1_A m c t h d
  | 2 => exact row2_A m c t h d
  | 3 => exact row3_A m c t h d
  | 4 => exact row4_A m c t h d
  | 5 => exact row5_A m c t h d
  | 6 => exact row6_A m c t h d
  | 7 => exact row7_A m c t h d

/-- Every other point adds its part. -/
theorem rows_B (h : ¬ t.val % 8 = 0) (hb : t.val - 1 < cfg0.N) (k : Fin 8) (d : Fin 1024) :
    (outsAt0 m c t.val t.isLt).2.2.2.1 (ix2 k d)
      = (outsAt0 m c (t.val - 1) hb).2.2.2.1 (ix2 k d) + (layer m c).part (tile t) k d := by
  match k with
  | 0 => exact row0_B m c t h hb d
  | 1 => exact row1_B m c t h hb d
  | 2 => exact row2_B m c t h hb d
  | 3 => exact row3_B m c t h hb d
  | 4 => exact row4_B m c t h hb d
  | 5 => exact row5_B m c t h hb d
  | 6 => exact row6_B m c t h hb d
  | 7 => exact row7_B m c t h hb d

/-- The rows of column sums, as the call leaves them. -/
theorem final13 : (dats m 0 c).arrAt 13 (cfgs 0).N = (fun i => (layer m c).rows (i 0) (i 1) : S8x1024.Idx → EReal) := by
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
    (fun p j => (layer m c).part (tile p) (j 0) (j 1))
    (fun t h j => (congrArg _ (eq_ix2 j)).trans (rows_A m c t h (j 0) (j 1)))
    (fun t h j => (congrArg _ (eq_ix2 j)).trans ((rows_B m c t h _ (j 0) (j 1)).trans (congrArg (· + _) (congrArg _ (eq_ix2 j).symm))))
    (le_of_eq N_0) t0_7 rfl j, zero_add]
  exact Layer.sum_part (layer m c) (j 0) (j 1)

end Cert.Conv0Ideal.Value

end
-- ==== Proof.Conv0Entry.lean ====
/- The parameters that the host packs for the short convolution's backward call. -/
module

public import proofs.«01_k».proof.Proof.Conv0Rows

@[expose] public section
set_option maxRecDepth 16384
noncomputable section
open Idealize.ShloMosaic Idealize.ShloMosaic.TcCoe Idealize.SL.Sem
namespace Cert.Conv0Ideal.Value
open Cert.Conv0Ideal Cert.Conv0Ideal.Gen
variable (m : (ℓ : Loc nD τ sig) → Buf (Elt Ideal) ℓ) (c : Dev nD)

/-- The host operations up to the packing of the layer's parameters, then those that pack them. -/
theorem split (b : DevRef τ sig) : StableHlo.after (hostOps0 (F := Ideal)) (fun b => m (c, b)) b
    = StableHlo.after ((hostOps0 (F := Ideal)).drop 66) (StableHlo.after ((hostOps0 (F := Ideal)).take 66) (fun b => m (c, b))) b := by
  rw [← StableHlo.after_append, List.take_append_drop]

theorem first_main_arg2 : StableHlo.after ((hostOps0 (F := Ideal)).take 66) (fun b => m (c, b)) (Proc.devRef .tc main_arg2) = m (c, Proc.devRef .tc main_arg2) := by
  unfold hostOps0
  simp only [List.take_succ_cons, List.take_zero]
  simp only [StableHlo.after_cons, StableHlo.after_nil]
  after_results_loop
  rfl

theorem first_main_arg3 : StableHlo.after ((hostOps0 (F := Ideal)).take 66) (fun b => m (c, b)) (Proc.devRef .tc main_arg3) = m (c, Proc.devRef .tc main_arg3) := by
  unfold hostOps0
  simp only [List.take_succ_cons, List.take_zero]
  simp only [StableHlo.after_cons, StableHlo.after_nil]
  after_results_loop
  rfl

theorem first_main_arg6 : StableHlo.after ((hostOps0 (F := Ideal)).take 66) (fun b => m (c, b)) (Proc.devRef .tc main_arg6) = m (c, Proc.devRef .tc main_arg6) := by
  unfold hostOps0
  simp only [List.take_succ_cons, List.take_zero]
  simp only [StableHlo.after_cons, StableHlo.after_nil]
  after_results_loop
  rfl

theorem pv_eq (U : Valuation τ sig (Elt Ideal)) :
    StableHlo.after ((hostOps0 (F := Ideal)).drop 66) U (Proc.devRef .tc main_v63) = concatenate S4x8x1024 1 [⟨S4x6x1024, U (Proc.devRef .tc main_arg2)⟩,
    ⟨S4x1x1024, broadcastInDim S4x1x1024 ![0, 2] Gen.bcast_S4x1024_S4x1x1024_0_2 (U (Proc.devRef .tc main_arg3))⟩,
    ⟨S4x1x1024, broadcastInDim S4x1x1024 ![0, 2] Gen.bcast_S4x1024_S4x1x1024_0_2 (U (Proc.devRef .tc main_arg4))⟩]
    Gen.concatenates_S4x6x1024_S4x1x1024_S4x1x1024_S4x8x1024_d1 := by
  unfold hostOps0
  simp only [List.drop_succ_cons, List.drop_zero]
  after_results_simp
  try dsimp only [Matrix.cons_val]
  try after_results_simp
  try rfl

theorem taps_eq (U : Valuation τ sig (Elt Ideal)) :
    StableHlo.after ((hostOps0 (F := Ideal)).drop 66) U (Proc.devRef .tc main_v66) = concatenate S2x8x1024 1 [⟨S2x3x1024, U (Proc.devRef .tc main_arg6)⟩,
    ⟨S2x1x1024, broadcastInDim S2x1x1024 ![0, 2] Gen.bcast_S2x1024_S2x1x1024_0_2 (U (Proc.devRef .tc main_arg7))⟩,
    ⟨S2x4x1024, broadcastInDim S2x4x1024 ![] Gen.bcast_S_S2x4x1024 (constant (F := Ideal) S_ .f32 0x00000000#32)⟩]
    Gen.concatenates_S2x3x1024_S2x1x1024_S2x4x1024_S2x8x1024_d1 := by
  unfold hostOps0
  simp only [List.drop_succ_cons, List.drop_zero]
  after_results_simp
  try dsimp only [Matrix.cons_val]
  try after_results_simp
  try rfl

theorem pv_rows (k : Fin 8) (hk : k.val < 6) (d : Fin 1024) :
    V m c main_v63 (ix3 0 k d) = m (c, Proc.devRef .tc main_arg2) (ix3 0 ⟨k.val, hk⟩ d) := by
  refine (congrFun (split m c _) _).trans ?_
  rw [pv_eq]
  refine Eq.trans ?_ (congrFun (first_main_arg2 m c) _)
  generalize StableHlo.after ((hostOps0 (F := Ideal)).take 66) (fun b => m (c, b)) = U
  pointwise
  rw [dif_pos hk]

theorem pv_norm (k : Fin 8) (hk : k.val = 6) (d : Fin 1024) :
    V m c main_v63 (ix3 0 k d) = m (c, Proc.devRef .tc main_arg3) (ix2 0 d) := by
  refine (congrFun (split m c _) _).trans ?_
  rw [pv_eq]
  refine Eq.trans ?_ (congrFun (first_main_arg3 m c) _)
  generalize StableHlo.after ((hostOps0 (F := Ideal)).take 66) (fun b => m (c, b)) = U
  pointwise
  rw [dif_neg (by omega), dif_pos (by omega)]

theorem taps (k : Fin 8) (hk : k.val < 3) (d : Fin 1024) :
    V m c main_v66 (ix3 0 k d) = m (c, Proc.devRef .tc main_arg6) (ix3 0 ⟨k.val, hk⟩ d) := by
  refine (congrFun (split m c _) _).trans ?_
  rw [taps_eq]
  refine Eq.trans ?_ (congrFun (first_main_arg6 m c) _)
  generalize StableHlo.after ((hostOps0 (F := Ideal)).take 66) (fun b => m (c, b)) = U
  pointwise
  rw [dif_pos hk]

theorem wi_at (a : Fin 1024) (j : Fin 3072) : V m c main_v68 (ix3 0 a j) = m ((c.tc : Thread nD τ).loc main_arg5) (ix2 a j) := by
  entry_read
  pointwise

theorem wo_at (a b : Fin 1024) : V m c main_v70 (ix3 0 a b) = m ((c.tc : Thread nD τ).loc main_arg8) (ix2 a b) := by
  entry_read
  pointwise

end Cert.Conv0Ideal.Value
end
-- ==== Proof.Conv0Ref.lean ====
/- The reference's gradients, entry by entry. -/
module

public import proofs.«01_k».proof.Defs
public import proofs.«01_k».proof.Proof.Gen.Conv0RefIdeal.Run
public import proofs.«01_k».proof.Proof.ConvSpec
public import Idealize.ShloMosaic.Lib.Pointwise

@[expose] public section

set_option maxRecDepth 16384
noncomputable section
open Idealize.ShloMosaic Idealize.SL.Sem
namespace Cert.Conv0RefIdeal.Spec
open Cert.Conv0RefIdeal Cert.Conv0RefIdeal.Gen Cert.Conv0RefIdeal.Value Cert.ConvSpec Cert

variable (V0 : Valuation τ sig (Elt Ideal))

/-- The gain of the norm. -/
def normGain (d : Fin 1024) : EReal := V0 (Proc.devRef .tc main_arg3) (ix2 0 d)
/-- The modulation of the gain. -/
def scale (d : Fin 1024) : EReal := V0 (Proc.devRef .tc main_arg2) (ix3 0 1 d)

/-- The arrays of the layer, from the arguments. -/
def layer : Layer where
  ct := fun n d => V0 (Proc.devRef .tc main_arg0) (ix2 n d)
  x := fun n d => V0 (Proc.devRef .tc main_arg1) (ix2 n d)
  y := fun n d => res_main_v66 V0 (ix2 n d)
  conv := fun n d => res_main_v64 V0 (ix2 n d)
  bcx := fun n j => res_main_v30 V0 (ix2 n j)
  gate := fun d => V0 (Proc.devRef .tc main_arg2) (ix3 0 2 d)
  gain := fun d => normGain V0 d * (1 + scale V0 d)
  tap := fun s d => V0 (Proc.devRef .tc main_arg6) (ix3 0 s d)
  wi := fun a j => V0 (Proc.devRef .tc main_arg5) (ix2 a j)
  wo := fun a b => V0 (Proc.devRef .tc main_arg8) (ix2 a b)

theorem dy_at (n : Fin 4096) (d : Fin 1024) : res_main_v73 V0 (ix2 n d) = (layer V0).dy n d := by
  pointwise [res_main_v73, res_main_v71, res_main_v67]
  exact EReal.mul_comm _ _

theorem dq_at (n : Fin 4096) (d : Fin 1024) : res_main_v78 V0 (ix2 n d) = (layer V0).dq n d := by
  pointwise [res_main_v78]
  simp only [dy_at]
  rfl

theorem dc_at (n : Fin 4096) (d : Fin 1024) : res_main_v79 V0 (ix2 n d) = (layer V0).dc n d := by
  pointwise [res_main_v79, res_main_v35]
  rw [dq_at]
  exact EReal.mul_comm _ _

theorem dz_at (n : Fin 4096) (d : Fin 1024) : res_main_v116 V0 (ix2 n d) = (layer V0).dz n d := by
  pointwise [res_main_v116, res_main_v111, res_main_v58, res_main_v51, res_main_v45, res_main_v32]
  simp only [dc_at]
  unfold Layer.dz dconvIn later
  congr 1
  · congr 1
    by_cases h : n.val + 1 < 4096
    · rw [dif_pos (by omega), dif_pos h]
      congr 2
      exact Fin.ext (by show 2 + n.val - 1 = n.val + 1; omega)
    · rw [dif_neg (by omega), dif_neg h, mul_zero]
  · by_cases h : n.val + 2 < 4096
    · rw [dif_pos (by omega), dif_pos h]
      congr 2
      exact Fin.ext (by show 2 + n.val = n.val + 2; omega)
    · rw [dif_neg (by omega), dif_neg h, mul_zero]

theorem z_before (n : Fin 4096) (d : Fin 1024) : res_main_v57 V0 (ix2 n d) = convIn (layer V0).bcx n d := by
  pointwise [res_main_v57, res_main_v40, res_main_v36, res_main_v37]
  rfl

theorem z_earlier1 (n : Fin 4096) (d : Fin 1024) :
    res_main_v50 V0 (ix2 n d) = earlier (convIn (layer V0).bcx) 1 n d := by
  pointwise [res_main_v50, res_main_v40, res_main_v36, res_main_v37]
  unfold earlier
  by_cases h : 1 + n.val < 2
  · rw [dif_pos h, dif_pos (by omega)]
  · rw [dif_neg h, dif_neg (by omega)]
    have e : (⟨1 + n.val - 2, by omega⟩ : Fin 4096) = ⟨n.val - 1, by omega⟩ := Fin.ext (by show 1 + n.val - 2 = n.val - 1; omega)
    rw [e]
    rfl

theorem z_earlier2 (n : Fin 4096) (d : Fin 1024) :
    res_main_v44 V0 (ix2 n d) = earlier (convIn (layer V0).bcx) 2 n d := by
  pointwise [res_main_v44, res_main_v40, res_main_v36, res_main_v37]
  unfold earlier
  by_cases h : n.val < 2
  · rw [dif_pos h, dif_pos (by omega)]
  · rw [dif_neg h, dif_neg (by omega)]
    congr 1

/-- The gradient of the projected input, in its three blocks of columns. -/
theorem dbcx_at (n : Fin 4096) (j : Fin 3072) :
    res_main_v119 V0 (ix2 n j) = (layer V0).dbcx n j := by
  unfold Layer.dbcx
  pointwise [res_main_v119, res_main_v36, res_main_v37]
  simp only [dq_at, dz_at]
  by_cases h : j.val < 1024
  · rw [dif_pos h, dif_pos h]
    rfl
  · rw [dif_neg h, dif_neg h]
    by_cases h' : j.val - 1024 < 1024
    · rw [dif_pos h', dif_pos h']
      rfl
    · rw [dif_neg h', dif_neg h']
      exact EReal.mul_comm _ _

theorem dh_at (n : Fin 4096) (d : Fin 1024) : res_main_v120 V0 (ix2 n d) = (layer V0).dh n d := by
  pointwise [res_main_v120]
  simp only [dbcx_at, Layer.dbcx]
  rw [sum_blocks]
  unfold Layer.dh dnorm
  congr 1

theorem meanSq_at (n : Fin 4096) (k : Fin 1) : res_main_v17 V0 (ix2 n k) = NormBack.meanSq ((layer V0).x n) := by
  pointwise [res_main_v17]
  rfl

theorem rinv_at (n : Fin 4096) (k : Fin 1) : res_main_v18 V0 (ix2 n k) = NormBack.rinv ((layer V0).x n) := by
  pointwise [res_main_v18]
  rw [meanSq_at]
  rfl

theorem gained_at (n : Fin 4096) (d : Fin 1024) :
    res_main_v128 V0 (ix2 n d) = (layer V0).dh n d * (layer V0).gain d := by
  pointwise [res_main_v128, res_main_v24]
  rw [dh_at]
  rfl

theorem slope_at (n : Fin 4096) (d : Fin 1024) :
    res_main_v139 V0 (ix2 n d)
      = NormBack.slope ((layer V0).x n) fun k => (layer V0).dh n k * (layer V0).gain k := by
  pointwise [res_main_v139]
  rw [Fin.sum_univ_one]
  simp only [meanSq_at, rinv_at, gained_at]
  rfl

/-- The reference's gradient of the layer's input. -/
theorem dx_at (b : _) (n : Fin 4096) (d : Fin 1024) :
    addf (V0 (Proc.devRef .tc main_arg0)) (addf (addf (mulf (res_main_v128 V0)
      (broadcastInDim S4096x1024 ![0, 1] b (res_main_v18 V0)))
      (mulf (V0 (Proc.devRef .tc main_arg1)) (res_main_v139 V0)))
      (mulf (res_main_v139 V0) (V0 (Proc.devRef .tc main_arg1)))) (ix2 n d) = (layer V0).dx n d := by
  pointwise []
  rw [slope_at, gained_at, rinv_at]
  unfold Layer.dx dinput
  rw [NormBack.back_eq]
  rfl

/-- The unit-normed input. -/
theorem unit_at (n : Fin 4096) (d : Fin 1024) : res_main_v23 V0 (ix2 n d) = unit (layer V0).x n d := by
  pointwise [res_main_v23]
  rw [rinv_at]
  rfl

/-- The reference's column sums. -/
theorem rows_at (k : Fin 8) (d : Fin 1024) :
    ((concatenate S8x1024 0 [⟨S1x1024, ((broadcastInDim S1x1024 ![1] bcast_S1024_S1x1024_1 (Host.reduceAdd (shapeCast _ (Host.reduceAdd (mulf (res_main_v71 V0) (res_main_v66 V0)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v23 V0) (res_main_v120 V0)) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v120 V0) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S3x1024, ((addf (addf (pad S3x1024 ![2, 0] ![0, 0] ![0, 0] (broadcastInDim S1x1024 ![1] bcast_S1024_S1x1024_1 (Host.reduceAdd (shapeCast _ (Host.reduceAdd (mulf (res_main_v79 V0) (res_main_v57 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_200_000 h_S_) (pad S3x1024 ![1, 0] ![1, 0] ![0, 0] (broadcastInDim S1x1024 ![1] bcast_S1024_S1x1024_1 (Host.reduceAdd (shapeCast _ (Host.reduceAdd (mulf (res_main_v79 V0) (res_main_v50 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_110_000 h_S_)) (pad S3x1024 ![0, 0] ![2, 0] ![0, 0] (broadcastInDim S1x1024 ![1] bcast_S1024_S1x1024_1 (Host.reduceAdd (shapeCast _ (Host.reduceAdd (mulf (res_main_v79 V0) (res_main_v44 V0)) (constant (F := Ideal) S_ .f32 0x00000000#32) reducesTo_S4096x1024_S1024_d0 h_S_) shapeCasts_S1024_S1x1024) (constant (F := Ideal) S_ .f32 0x00000000#32) reducesTo_S1x1024_S1024_d0 h_S_)) (constant (F := Ideal) S_ .f32 0x00000000#32) pads_S1x1024_S3x1024_020_000 h_S_)) : (⟨S3x1024, .f32⟩ : BufTy).Contents (Elt Ideal))⟩, ⟨S1x1024, ((broadcastInDim S1x1024 ![1] bcast_S1024_S1x1024_1 (Host.reduceAdd (shapeCast _ (Host.reduceAdd (res_main_v79 V0) (constant (F := Ideal) S_ .f32 0x00000000#32) reducesTo_S4096x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![] bcast_S_S1x1024 (constant (F := Ideal) S_ .f32 0x00000000#32)) : (⟨S1x1024, .f32⟩ : BufTy).Contents (Elt Ideal))⟩] concatenates_S1x1024_S1x1024_S1x1024_S3x1024_S1x1024_S1x1024_S8x1024_d0 : (⟨S8x1024, .f32⟩ : BufTy).Contents (Elt Ideal)) : S8x1024.Idx → EReal) (ix2 k d) = (layer V0).rows k d := by
  pointwise [res_main_v71]
  simp only [Fin.sum_univ_one, dc_at, dh_at, unit_at, z_before, z_earlier1, z_earlier2]
  match k with
  | 0 => rfl
  | 1 =>
    refine Eq.trans (?_ : _ = ∑ n, unit (layer V0).x n d * (layer V0).dh n d) (Finset.sum_congr rfl fun n _ => mul_comm _ _)
    rfl
  | 2 => rfl
  | 3 =>
    refine Eq.trans (?_ : _ = (0 : EReal) + 0 + (layer V0).rows 3 d) (by rw [zero_add, zero_add])
    rfl
  | 4 =>
    refine Eq.trans (?_ : _ = (0 : EReal) + (layer V0).rows 4 d + 0) (by rw [zero_add, add_zero])
    rfl
  | 5 =>
    refine Eq.trans (?_ : _ = (layer V0).rows 5 d + (0 : EReal) + 0) (by rw [add_zero, add_zero])
    rfl
  | 6 => rfl
  | 7 => rfl

end Cert.Conv0RefIdeal.Spec

end
-- ==== Proof.Conv0Host.lean ====
/- The kernel's arrays and the reference's are the same arrays of the arguments. -/
module

public import proofs.«01_k».proof.Proof.Conv0Entry
public import proofs.«01_k».proof.Proof.Conv0Ref

@[expose] public section
set_option maxRecDepth 16384
noncomputable section
open Idealize.ShloMosaic Idealize.ShloMosaic.TcCoe Idealize.SL.Sem
namespace Cert.Conv0Ideal.Value
open Cert.Conv0Ideal Cert.Conv0Ideal.Gen Cert.ConvSpec
variable (m : (ℓ : Loc nD τ sig) → Buf (Elt Ideal) ℓ) (c : Dev nD)
  (W : Valuation Cert.Conv0RefIdeal.τ Cert.Conv0RefIdeal.sig (Elt Ideal))

/-- The reference starts from the kernel's arguments. -/
structure SameArgs : Prop where
  a0 : W (Proc.devRef .tc Cert.Conv0RefIdeal.main_arg0) = m ((c.tc : Thread nD τ).loc main_arg0)
  a1 : W (Proc.devRef .tc Cert.Conv0RefIdeal.main_arg1) = m ((c.tc : Thread nD τ).loc main_arg1)
  a2 : W (Proc.devRef .tc Cert.Conv0RefIdeal.main_arg2) = m ((c.tc : Thread nD τ).loc main_arg2)
  a3 : W (Proc.devRef .tc Cert.Conv0RefIdeal.main_arg3) = m ((c.tc : Thread nD τ).loc main_arg3)
  a5 : W (Proc.devRef .tc Cert.Conv0RefIdeal.main_arg5) = m ((c.tc : Thread nD τ).loc main_arg5)
  a6 : W (Proc.devRef .tc Cert.Conv0RefIdeal.main_arg6) = m ((c.tc : Thread nD τ).loc main_arg6)
  a7 : W (Proc.devRef .tc Cert.Conv0RefIdeal.main_arg7) = m ((c.tc : Thread nD τ).loc main_arg7)
  a8 : W (Proc.devRef .tc Cert.Conv0RefIdeal.main_arg8) = m ((c.tc : Thread nD τ).loc main_arg8)

variable {m c W} (s : SameArgs m c W)
include s
open Cert.Conv0RefIdeal.Gen Cert.Conv0RefIdeal.Value

theorem same_bcx : V m c main_v25 = res_main_v30 W := by
  simp only [res_main_v30, res_main_v24, res_main_v23, res_main_v18, res_main_v17, s.a1, s.a2, s.a3, s.a5]
  entry_read
  rfl

theorem same_conv : V m c main_v58 = res_main_v64 W := by
  unfold res_main_v64 res_main_v58 res_main_v57 res_main_v51 res_main_v50 res_main_v45 res_main_v44 res_main_v40 res_main_v37
    res_main_v36 res_main_v32
  rw [← same_bcx s, s.a6, s.a7]
  entry_read
  rfl

set_option maxHeartbeats 2000000 in
theorem same_y : V m c main_v60 = res_main_v66 W := by
  unfold res_main_v66 res_main_v35
  rw [← same_bcx s, ← same_conv s, s.a8]
  entry_read
  rfl

theorem same_gain (d : Fin 1024) : (layer m c).gain d = (Cert.Conv0RefIdeal.Spec.layer W).gain d := by
  have h1 : (show EReal from V m c main_v63 (ix3 0 6 d)) = W (Proc.devRef .tc Cert.Conv0RefIdeal.main_arg3) (ix2 0 d) :=
    (pv_norm m c 6 rfl d).trans (congrFun s.a3 (ix2 0 d)).symm
  have h2 : (show EReal from V m c main_v63 (ix3 0 1 d)) = W (Proc.devRef .tc Cert.Conv0RefIdeal.main_arg2) (ix3 0 1 d) :=
    (pv_rows m c 1 (by decide) d).trans (congrFun s.a2 (ix3 0 1 d)).symm
  show (show EReal from V m c main_v63 (ix3 0 6 d)) * (1 + (show EReal from V m c main_v63 (ix3 0 1 d))) = _
  rw [h1, h2]
  rfl

theorem same_gate (d : Fin 1024) : (layer m c).gate d = (Cert.Conv0RefIdeal.Spec.layer W).gate d :=
  (pv_rows m c 2 (by decide) d).trans (congrFun s.a2 (ix3 0 2 d)).symm

theorem same_tap (k : Fin 3) (d : Fin 1024) : (layer m c).tap k d = (Cert.Conv0RefIdeal.Spec.layer W).tap k d :=
  (taps m c ⟨k.val, by omega⟩ k.isLt d).trans (congrFun s.a6 (ix3 0 k d)).symm

theorem same_wi (a : Fin 1024) (j : Fin 3072) : (layer m c).wi a j = (Cert.Conv0RefIdeal.Spec.layer W).wi a j :=
  (wi_at m c a j).trans (congrFun s.a5 (ix2 a j)).symm

theorem same_wo (a b : Fin 1024) : (layer m c).wo a b = (Cert.Conv0RefIdeal.Spec.layer W).wo a b :=
  (wo_at m c a b).trans (congrFun s.a8 (ix2 a b)).symm

theorem same_ct (n : Fin 4096) (d : Fin 1024) : (layer m c).ct n d = (Cert.Conv0RefIdeal.Spec.layer W).ct n d :=
  (congrFun (V_main_arg0 m c) (ix2 n d)).trans (congrFun s.a0 (ix2 n d)).symm

theorem same_x (n : Fin 4096) (d : Fin 1024) : (layer m c).x n d = (Cert.Conv0RefIdeal.Spec.layer W).x n d :=
  (congrFun (V_main_arg1 m c) (ix2 n d)).trans (congrFun s.a1 (ix2 n d)).symm

theorem same_y_at (n : Fin 4096) (d : Fin 1024) : (layer m c).y n d = (Cert.Conv0RefIdeal.Spec.layer W).y n d := by
  show V m c main_v60 (ix2 n d) = res_main_v66 W (ix2 n d)
  rw [same_y s]

theorem same_conv_at (n : Fin 4096) (d : Fin 1024) : (layer m c).conv n d = (Cert.Conv0RefIdeal.Spec.layer W).conv n d := by
  show V m c main_v58 (ix2 n d) = res_main_v64 W (ix2 n d)
  rw [same_conv s]

theorem same_bcx_at (n : Fin 4096) (j : Fin 3072) : (layer m c).bcx n j = (Cert.Conv0RefIdeal.Spec.layer W).bcx n j := by
  show V m c main_v25 (ix2 n j) = res_main_v30 W (ix2 n j)
  rw [same_bcx s]

omit s in
/-- Layers with the same arrays are the same. -/
theorem layer_eq (A B : Layer) (h0 : ∀ n d, A.ct n d = B.ct n d) (h1 : ∀ n d, A.x n d = B.x n d) (h2 : ∀ n d, A.y n d = B.y n d)
    (h3 : ∀ n d, A.conv n d = B.conv n d) (h4 : ∀ n d, A.bcx n d = B.bcx n d) (h5 : ∀ d, A.gate d = B.gate d) (h6 : ∀ d, A.gain d = B.gain d)
    (h7 : ∀ n d, A.tap n d = B.tap n d) (h8 : ∀ n d, A.wi n d = B.wi n d) (h9 : ∀ n d, A.wo n d = B.wo n d) : A = B :=
  Layer.ext (funext fun n => funext (h0 n)) (funext fun n => funext (h1 n)) (funext fun n => funext (h2 n)) (funext fun n => funext (h3 n))
    (funext fun n => funext (h4 n)) (funext h5) (funext h6) (funext fun n => funext (h7 n)) (funext fun n => funext (h8 n))
    (funext fun n => funext (h9 n))

/-- The kernel's layer is the reference's. -/
theorem same_layer : layer m c = Cert.Conv0RefIdeal.Spec.layer W := by
  have h0 := same_ct s
  have h1 := same_x s
  have h2 := same_y_at s
  have h3 := same_conv_at s
  have h4 := same_bcx_at s
  have h5 := same_gate s
  have h6 := same_gain s
  have h7 := same_tap s
  have h8 := same_wi s
  have h9 := same_wo s
  exact layer_eq _ _ h0 h1 h2 h3 h4 h5 h6 h7 h8 h9

end Cert.Conv0Ideal.Value
end
-- ==== Proof.Conv0Out.lean ====
/- The arrays that the short convolution's backward call leaves. -/
module

public import proofs.«01_k».proof.Defs
public import proofs.«01_k».proof.Proof.Gen.Conv0Ideal.Value
public import Idealize.ShloMosaic.Lib.Pipeline.ValueKit
public import Idealize.ShloMosaic.Lib.Pointwise
public import Idealize.ShloMosaic.Lib.Claim
public import proofs.«01_k».proof.Proof.Conv0Point
public import proofs.«01_k».proof.Proof.RowBuffer

@[expose] public section

set_option maxRecDepth 16384
noncomputable section
open Idealize.ShloMosaic Idealize.ShloMosaic.TcCoe Idealize.SL.Sem
open Idealize.ShloMosaic.Pipeline (Dat)
namespace Cert.Conv0Ideal.Value
open Cert.Conv0Ideal Cert.Conv0Ideal.Gen Cert.Conv0Ideal.Tile Cert.ConvSpec Cert
variable (m : (ℓ : Loc nD τ sig) → Buf (Elt Ideal) ℓ)

theorem idxOut : ∀ t : Fin cfg0.N, win0_10.index t = ![7 - t.val, 0] ∧ win0_11.index t = ![7 - t.val, 0] ∧ win0_12.index t = ![7 - t.val, 0]
    ∧ win0_13.index t = ![0, 0] :=
  (by decide +kernel : ∀ t : Fin grid0.N, _)

variable (c : Dev nD)

/-- A grid point's block of the gradient of the layer's input. -/
theorem out10 (t : Fin cfg0.N) : Holds (tile t) (outsAt0 m c t.val t.isLt).1 (layer m c).dx := fun r d => by
  by_cases h : t.val % 8 = 0
  · rw [outsAt0_A m c t h]
    frame_out
    exact dx m c t _ (next_A m c t h) r d
  · rw [outsAt0_B m c t h]
    frame_out
    exact dx m c t _ (next_read m c t h _ _) r d

/-- A grid point's block of the gradient of the layer's result before its gate. -/
theorem out12 (t : Fin cfg0.N) : Holds (tile t) (outsAt0 m c t.val t.isLt).2.2.1 (layer m c).dy := fun r d => by
  by_cases h : t.val % 8 = 0
  · rw [outsAt0_A m c t h]
    frame_out
    exact dy m c t r d
  · rw [outsAt0_B m c t h]
    frame_out
    exact dy m c t r d

/-- The three column blocks of the gradient of the projected input, read at the index of the whole. -/
theorem dbcx_pieces (L : Layer) (q : Fin 8) (y : S512x3072.Idx) (x : S512x1024.Idx) (h0 : (y 0 : ℕ) = x 0) :
    (((y 1 : ℕ) = x 1) → L.dg (row q (x 0)) (x 1) = L.dbcx (row q (y 0)) (y 1))
    ∧ (((y 1 : ℕ) = 1024 + x 1) → L.du (row q (x 0)) (x 1) = L.dbcx (row q (y 0)) (y 1))
    ∧ (((y 1 : ℕ) = 2048 + x 1) → L.dv (row q (x 0)) (x 1) = L.dbcx (row q (y 0)) (y 1)) := by
  have e : (y 0 : Fin 512) = x 0 := Fin.ext h0
  have hx : (x 1 : ℕ) < 1024 := (x 1).isLt
  unfold Layer.dbcx
  rw [e]
  refine ⟨fun h1 => ?_, fun h1 => ?_, fun h1 => ?_⟩
  · rw [dif_pos (by omega)]
    congr 1
    exact Fin.ext h1.symm
  · rw [dif_neg (by omega), dif_pos (by omega)]
    congr 1
    exact Fin.ext (by show (x 1 : ℕ) = (y 1 : ℕ) - 1024; omega)
  · rw [dif_neg (by omega), dif_neg (by omega)]
    congr 1
    exact Fin.ext (by show (x 1 : ℕ) = (y 1 : ℕ) - 1024 - 1024; omega)

/-- A grid point's block of the gradient of the projected input. -/
theorem out11 (t : Fin cfg0.N) (y : S512x3072.Idx) : (outsAt0 m c t.val t.isLt).2.1 y = (layer m c).dbcx (row (tile t) (y 0)) (y 1) := by
  by_cases h : t.val % 8 = 0
  · have hn := next_A m c t h
    rw [outsAt0_A m c t h]
    frame_out
    clear h
    canon_tiles x h
    case piece0 => exact (congrArg _ (eq_ix2 x)).trans ((dv m c t _ hn (x 0) (x 1)).trans ((dbcx_pieces _ _ y x h0).2.2 h1))
    case piece1 => exact (congrArg _ (eq_ix2 x)).trans ((du m c t _ hn (x 0) (x 1)).trans ((dbcx_pieces _ _ y x h0).2.1 h1))
    case piece2 => exact (congrArg _ (eq_ix2 x)).trans ((dg_stored m c t (x 0) (x 1)).trans ((dbcx_pieces _ _ y x h0).1 h1))
  · have hn := next_read m c t h (Memref.isWhole_whole _) (lt_of_le_of_lt (Nat.sub_le _ _) t.isLt)
    rw [outsAt0_B m c t h]
    frame_out
    clear h
    canon_tiles x h
    case piece0 => exact (congrArg _ (eq_ix2 x)).trans ((dv m c t _ hn (x 0) (x 1)).trans ((dbcx_pieces _ _ y x h0).2.2 h1))
    case piece1 => exact (congrArg _ (eq_ix2 x)).trans ((du m c t _ hn (x 0) (x 1)).trans ((dbcx_pieces _ _ y x h0).2.1 h1))
    case piece2 => exact (congrArg _ (eq_ix2 x)).trans ((dg_stored m c t (x 0) (x 1)).trans ((dbcx_pieces _ _ y x h0).1 h1))

/-- Where a block's entry lands in its array. -/
theorem emb10 (t : Fin cfg0.N) (y : S512x1024.Idx) :
    ((View.whole main_v71_0).slice (win0_10.rect t)).emb y = ix2 (row (tile t) (y 0)) (y 1) := by
  unfold row tile
  blk_ext [idxOut t]

theorem emb11 (t : Fin cfg0.N) (y : S512x3072.Idx) :
    ((View.whole main_v71_1).slice (win0_11.rect t)).emb y = ix2 (row (tile t) (y 0)) (y 1) := by
  unfold row tile
  blk_ext [idxOut t]

theorem emb12 (t : Fin cfg0.N) (y : S512x1024.Idx) :
    ((View.whole main_v71_2).slice (win0_12.rect t)).emb y = ix2 (row (tile t) (y 0)) (y 1) := by
  unfold row tile
  blk_ext [idxOut t]

/-- The gradient of the layer's input, as the call leaves it. -/
theorem final10 : (dats m 0 c).arrAt 10 (cfgs 0).N = (fun i => (layer m c).dx (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

theorem final11 : (dats m 0 c).arrAt 11 (cfgs 0).N = (fun i => (layer m c).dbcx (i 0) (i 1) : S4096x3072.Idx → EReal) := by
  refine (dats m 0 c).arrAt_eq_of_covers 11 _ (by decide +kernel) fun t _ y => ?_
  blk_simp
  rw [after0_11, emb11 t y]
  exact out11 m c t y

theorem final12 : (dats m 0 c).arrAt 12 (cfgs 0).N = (fun i => (layer m c).dy (i 0) (i 1) : S4096x1024.Idx → EReal) := by
  refine (dats m 0 c).arrAt_eq_of_covers 12 _ (by decide +kernel) fun t _ y => ?_
  blk_simp
  rw [after0_12, emb12 t y]
  exact (congrArg _ (eq_ix2 y)).trans (out12 m c t (y 0) (y 1))

end Cert.Conv0Ideal.Value

end
-- ==== Proof.Conv0Claim.lean ====
/- The backward call of layer 0's short convolution computes the gradients that its reference states. -/
module

public import proofs.«01_k».proof.Defs
public import proofs.«01_k».proof.Proof.Gen.Conv0Ideal.Value
public import proofs.«01_k».proof.Proof.Gen.Conv0RefIdeal.Run
public import Idealize.ShloMosaic.Lib.Claim
public import proofs.«01_k».proof.Proof.Conv0Host
public import proofs.«01_k».proof.Proof.Conv0Out

@[expose] public section

noncomputable section

namespace Cert.Proof

open Idealize.ShloMosaic Idealize.SL.Sem

/-- The reference's host operations leave its arguments unchanged, and it declares no semaphore. -/
theorem frame_reference_Conv0 : Cert.quiescent_Conv0RefIdeal := fun m ρ _ =>
  (θ_run Cert.Conv0RefIdeal.defs _ _).mono
    (fun r h => ⟨fun c => (h c).2.2.2.2, sem_eq_zero_of_no_sems (by decide) r.2⟩)
    (Cert.Conv0RefIdeal.Value.run (F := Ideal) m ρ)

/-- From the same arguments the kernel and the reference end with the same four results. -/
theorem algebraic_Conv0 : Cert.algebraic_Conv0Ideal_Conv0RefIdeal := by
  intro m g m' g' _ he
  have hs : ∀ c, Cert.Conv0Ideal.Value.SameArgs m c (StableHlo.launchContents m' c) := fun c =>
    ⟨(he c).1, (he c).2.1, (he c).2.2.1, (he c).2.2.2.1, (he c).2.2.2.2.2.1, (he c).2.2.2.2.2.2.1, (he c).2.2.2.2.2.2.2.1, (he c).2.2.2.2.2.2.2.2⟩
  refine ⟨fun c i => (Cert.Conv0Ideal.Value.layer m c).dx (i 0) (i 1), fun c i => (Cert.Conv0Ideal.Value.layer m c).dbcx (i 0) (i 1),
    fun c i => (Cert.Conv0Ideal.Value.layer m c).dy (i 0) (i 1), fun c i => (Cert.Conv0Ideal.Value.layer m c).rows (i 0) (i 1), ?_, ?_⟩
  · refine (θ_run Cert.Conv0Ideal.defs _ _).mono (fun r h c => ?_) (Cert.Conv0Ideal.Value.run_blocks (F := Ideal) m g)
    obtain ⟨h0, h1, h2, h3, ha⟩ := h c
    exact ⟨h0.trans (Cert.Conv0Ideal.Value.final10 m c), h1.trans (Cert.Conv0Ideal.Value.final11 m c),
      h2.trans (Cert.Conv0Ideal.Value.final12 m c), h3.trans (Cert.Conv0Ideal.Value.final13 m c), ha⟩
  · refine (θ_run Cert.Conv0RefIdeal.defs _ _).mono (fun r h c => ?_) (Cert.Conv0RefIdeal.Value.run (F := Ideal) m' g')
    obtain ⟨h0, h1, h2, h3, ha⟩ := h c
    have e := Cert.Conv0Ideal.Value.same_layer (hs c)
    refine ⟨h0.trans (funext fun i => ?_), h1.trans (funext fun i => ?_), h2.trans (funext fun i => ?_), h3.trans (funext fun i => ?_), ha⟩
    · exact (congrArg _ (eq_ix2 i)).trans ((Cert.Conv0RefIdeal.Spec.dx_at _ _ (i 0) (i 1)).trans (congrArg (fun L => Cert.ConvSpec.Layer.dx L (i 0) (i 1)) e.symm))
    · exact (congrArg _ (eq_ix2 i)).trans ((Cert.Conv0RefIdeal.Spec.dbcx_at _ (i 0) (i 1)).trans (congrArg (fun L => Cert.ConvSpec.Layer.dbcx L (i 0) (i 1)) e.symm))
    · exact (congrArg _ (eq_ix2 i)).trans ((Cert.Conv0RefIdeal.Spec.dy_at _ (i 0) (i 1)).trans (congrArg (fun L => Cert.ConvSpec.Layer.dy L (i 0) (i 1)) e.symm))
    · exact (congrArg _ (eq_ix2 i)).trans ((Cert.Conv0RefIdeal.Spec.rows_at _ (i 0) (i 1)).trans (congrArg (fun L => Cert.ConvSpec.Layer.rows L (i 0) (i 1)) e.symm))

end Cert.Proof

end
-- ==== Proof.MixSpec.lean ====
/- The forward values of one short-convolution layer, entry by entry, as functions of the arrays that it is given. -/
module

public import proofs.«01_k».proof.Proof.ConvSpec

@[expose] public section

noncomputable section

namespace Cert.MixSpec

open Idealize.ShloMosaic Cert.ConvSpec

/-- An array of 4096 tokens with three blocks of 1024 columns. -/
abbrev Wide := Fin 4096 → Fin 3072 → EReal

/-- The arrays that the forward pass of one layer is given. -/
@[ext] structure Inputs where
  /-- The layer's input. -/
  x : Tok
  /-- The norm's gain. -/
  norm : Fin 1024 → EReal
  /-- What is added to one in the norm's modulation. -/
  scale : Fin 1024 → EReal
  /-- The norm's shift. -/
  shift : Fin 1024 → EReal
  /-- The gate on the layer's result. -/
  gate : Fin 1024 → EReal
  /-- The input projection's weight. -/
  wi : Fin 1024 → Fin 3072 → EReal
  /-- The taps of the convolution. -/
  tap : Fin 3 → Fin 1024 → EReal
  /-- The convolution's bias. -/
  bias : Fin 1024 → EReal
  /-- The output projection's weight. -/
  wo : Fin 1024 → Fin 1024 → EReal

/-- Layers with the same arrays are the same. -/
theorem layer_eq (A B : Inputs) (h0 : ∀ n d, A.x n d = B.x n d) (h1 : ∀ d, A.norm d = B.norm d) (h2 : ∀ d, A.scale d = B.scale d)
    (h3 : ∀ d, A.shift d = B.shift d) (h4 : ∀ d, A.gate d = B.gate d) (h5 : ∀ a j, A.wi a j = B.wi a j)
    (h6 : ∀ k d, A.tap k d = B.tap k d) (h7 : ∀ d, A.bias d = B.bias d) (h8 : ∀ a b, A.wo a b = B.wo a b) : A = B :=
  Inputs.ext (funext fun n => funext (h0 n)) (funext h1) (funext h2) (funext h3) (funext h4) (funext fun a => funext (h5 a))
    (funext fun k => funext (h6 k)) (funext h7) (funext fun a => funext (h8 a))

/-- Three taps of an array, two tokens back, one token back and at the token, and a bias. -/
def conv3 (k0 k1 k2 b : Fin 1024 → EReal) (z : Tok) : Tok := fun n d =>
  k0 d * earlier z 2 n d + k1 d * earlier z 1 n d + k2 d * z n d + b d

namespace Inputs

variable (L : Inputs)

/-- The normalised and modulated input. -/
def h : Tok := fun n d => unit L.x n d * L.norm d * (1 + L.scale d) + L.shift d
/-- The projected input: the gate, and the two factors of the convolution's input. -/
def bcx : Wide := fun n j => ∑ k, L.h n k * L.wi k j
/-- The convolution's output. -/
def conv : Tok := conv3 (L.tap 0) (L.tap 1) (L.tap 2) L.bias (convIn L.bcx)
/-- The gated output of the convolution. -/
def q : Tok := fun n d => L.bcx n ⟨d.val, by omega⟩ * L.conv n d
/-- The layer's result before its gate. -/
def y : Tok := fun n d => ∑ k, L.q n k * L.wo k d
/-- The layer's output. -/
def out : Tok := fun n d => L.x n d + L.gate d * L.y n d

end Inputs

end Cert.MixSpec

end
-- ==== Proof.Mix0Tile.lean ====
/- What one tile of the short convolution's forward call computes, entry by entry: layer 0. -/
module

public import proofs.«01_k».proof.Defs
public import proofs.«01_k».proof.Proof.Gen.Mix0Ideal.Skeleton
public import proofs.«01_k».proof.Proof.MixSpec
public import Idealize.ShloMosaic.Lib.Pointwise

@[expose] public section

set_option maxRecDepth 16384
noncomputable section
open Idealize.ShloMosaic Idealize.ShloMosaic.TcCoe Idealize.SL.Sem
namespace Cert.Mix0Ideal.Tile
open Cert.Mix0Ideal Cert.Mix0Ideal.Gen Cert.ConvSpec Cert.MixSpec Cert

/-! ## The row masks -/

theorem ge2 : ∀ r : Fin 512, IntOp.cmpi .sge (BitVec.ofNat 32 r.val) 2#32 = if 2 ≤ r.val then 1#1 else 0#1 := by decide +kernel
theorem ge1 : ∀ r : Fin 512, IntOp.cmpi .sge (BitVec.ofNat 32 r.val) 1#32 = if 1 ≤ r.val then 1#1 else 0#1 := by decide +kernel
theorem eq0 : ∀ r : Fin 512, IntOp.cmpi .eq (BitVec.ofNat 32 r.val) 0#32 = if r.val = 0 then 1#1 else 0#1 := by decide +kernel

/-- A choice by a mask that is one exactly when `p` holds. -/
theorem select_if (p : Prop) [Decidable p] (a b : EReal) :
    Scalar.select (if p then 1#1 else 0#1) a b = if p then a else b := by
  by_cases h : p <;> simp [Scalar.select, h]

/-! ## The arrays of one tile -/

/-- `v` holds tile `q` of the array `f`. -/
def Holds (q : Fin 8) (v : S512x1024.Idx → EReal) (f : Tok) : Prop := ∀ (r : Fin 512) (d : Fin 1024), v (ix2 r d) = f (row q r) d

/-- `v` holds tile `q` of the wide array `f`. -/
def HoldsWide (q : Fin 8) (v : S512x3072.Idx → EReal) (f : Wide) : Prop := ∀ (r : Fin 512) (j : Fin 3072), v (ix2 r j) = f (row q r) j

/-- The blocks that a grid point reads are tile `q` of the layer's arrays. -/
structure Reads (q : Fin 8) (L : Inputs) (b0 : Vec Ideal S512x1024 .f32) (b1 : Vec Ideal S1x8x1024 .f32) (b2 : Vec Ideal S1x1024x3072 .bf16)
    (b3 : Vec Ideal S1x1024x1024 .bf16) (b4 : Vec Ideal S1x8x1024 .f32) : Prop where
  x : Holds q b0 L.x
  shift : ∀ d, b1 (ix3 0 0 d) = L.shift d
  scale : ∀ d, b1 (ix3 0 1 d) = L.scale d
  gate : ∀ d, b1 (ix3 0 2 d) = L.gate d
  norm : ∀ d, b1 (ix3 0 6 d) = L.norm d
  wi : ∀ a j, b2 (ix3 0 a j) = L.wi a j
  wo : ∀ a b, b3 (ix3 0 a b) = L.wo a b
  tap0 : ∀ d, b4 (ix3 0 0 d) = L.tap 0 d
  tap1 : ∀ d, b4 (ix3 0 1 d) = L.tap 1 d
  tap2 : ∀ d, b4 (ix3 0 2 d) = L.tap 2 d
  bias : ∀ d, b4 (ix3 0 3 d) = L.bias d

/-- `prev` ends in the two rows of the convolution's input before tile `q`, zero before the start. -/
structure Before (q : Fin 8) (L : Inputs) (prev : Vec Ideal S8x1024 .f32) : Prop where
  two : ∀ d, prev (ix2 6 d) = earlier (convIn L.bcx) 2 (row q 0) d
  one : ∀ d, prev (ix2 7 d) = earlier (convIn L.bcx) 1 (row q 0) d

variable {q : Fin 8} {L : Inputs} {b0 : Vec Ideal S512x1024 .f32} {b1 : Vec Ideal S1x8x1024 .f32} {b2 : Vec Ideal S1x1024x3072 .bf16}
  {b3 : Vec Ideal S1x1024x1024 .bf16} {b4 : Vec Ideal S1x8x1024 .f32} {prev : Vec Ideal S8x1024 .f32}

theorem h_at (R : Reads q L b0 b1 b2 b3 b4) : Holds q (k0_pay7 b0 b1) L.h := fun r d => by
  pointwise [k0_pay7, k0_pay5]
  simp only [R.x r, R.shift d, R.scale d, R.norm d]
  rfl

theorem bcx_at (R : Reads q L b0 b1 b2 b3 b4) : HoldsWide q (k0_pay8 b0 b1 b2) L.bcx := fun r j => by
  pointwise [k0_pay8]
  exact Finset.sum_congr rfl fun k _ => by rw [h_at R r k, R.wi]

theorem z_at (R : Reads q L b0 b1 b2 b3 b4) : Holds q (k0_pay9 (k0_pay8 b0 b1 b2)) (convIn L.bcx) := fun r d => by
  pointwise [k0_pay9]
  rw [bcx_at R, bcx_at R]
  rfl

/-- The three taps of the convolution's input, the rows before the tile coming from the tile before it. -/
theorem conv_at (R : Reads q L b0 b1 b2 b3 b4) (P : Before q L prev) :
    Holds q (k0_pay10 (k0_pay6 b4) (k0_pay8 b0 b1 b2) prev) L.conv := fun r d => by
  have Z := z_at R
  have P1 := P.one d
  have P2 := P.two d
  generalize k0_pay8 b0 b1 b2 = w at *
  generalize hz : k0_pay9 w = z at *
  pointwise [k0_pay10, k0_pay6]
  rw [hz, ge2, ge1, eq0, select_if, select_if, select_if, R.tap0, R.tap1, R.tap2, R.bias, P1, P2, Z r d]
  unfold Inputs.conv conv3
  congr 3
  · congr 1
    by_cases hr : 2 ≤ r.val
    · rw [if_pos hr, Z]
      rw [earlier, dif_neg (by show ¬ q.val * 512 + r.val < 2; omega)]
      congr 1
      exact Fin.ext (by show q.val * 512 + (r.val + 512 - 2) % 512 = q.val * 512 + r.val - 2; omega)
    · rw [if_neg hr]
      by_cases hr' : r.val = 0
      · rw [if_pos hr', show r = (0 : Fin 512) from Fin.ext hr']
      · rw [if_neg hr']
        have h1 : r.val = 1 := by omega
        unfold earlier
        by_cases hb : (row q 0).val < 1
        · rw [dif_pos hb, dif_pos (by have : q.val * 512 + 0 < 1 := hb; show q.val * 512 + r.val < 2; omega)]
        · rw [dif_neg hb, dif_neg (by have : ¬ q.val * 512 + 0 < 1 := hb; show ¬ q.val * 512 + r.val < 2; omega)]
          congr 1
          exact Fin.ext (by show q.val * 512 + 0 - 1 = q.val * 512 + r.val - 2; omega)
  · congr 1
    by_cases hr : 1 ≤ r.val
    · rw [if_pos hr, Z]
      rw [earlier, dif_neg (by show ¬ q.val * 512 + r.val < 1; omega)]
      congr 1
      exact Fin.ext (by show q.val * 512 + (r.val + 512 - 1) % 512 = q.val * 512 + r.val - 1; omega)
    · rw [if_neg hr, show r = (0 : Fin 512) from Fin.ext (by show r.val = 0; omega)]

theorem q_at (R : Reads q L b0 b1 b2 b3 b4) (P : Before q L prev) :
    Holds q (k0_pay11 (k0_pay6 b4) (k0_pay8 b0 b1 b2) prev) L.q := fun r d => by
  have C := conv_at R P r d
  have B := bcx_at R
  generalize k0_pay8 b0 b1 b2 = w at *
  generalize k0_pay6 b4 = k at *
  pointwise [k0_pay11]
  rw [C, B]
  rfl

theorem y_at (R : Reads q L b0 b1 b2 b3 b4) (P : Before q L prev) :
    Holds q (k0_pay1 (k0_pay11 (k0_pay6 b4) (k0_pay8 b0 b1 b2) prev) b3) L.y := fun r d => by
  have Q := q_at R P r
  generalize k0_pay11 (k0_pay6 b4) (k0_pay8 b0 b1 b2) prev = v at *
  pointwise [k0_pay1]
  exact Finset.sum_congr rfl fun k _ => by rw [Q, R.wo]

theorem out_at (R : Reads q L b0 b1 b2 b3 b4) (P : Before q L prev) :
    Holds q (k0_pay2 b0 (k0_pay5 b1) (k0_pay11 (k0_pay6 b4) (k0_pay8 b0 b1 b2) prev) b3) L.out := fun r d => by
  have Y := y_at R P r d
  generalize k0_pay11 (k0_pay6 b4) (k0_pay8 b0 b1 b2) prev = v at *
  pointwise [k0_pay2, k0_pay5]
  rw [R.x r d, R.gate d, Y]
  rfl

end Cert.Mix0Ideal.Tile

end
-- ==== Proof.Mix0Call.lean ====
/- What the short convolution's forward call leaves in its six arrays: layer 0. -/
module

public import proofs.«01_k».proof.Defs
public import proofs.«01_k».proof.Proof.Gen.Mix0Ideal.Value
public import Idealize.ShloMosaic.Lib.Pipeline.ValueKit
public import Idealize.ShloMosaic.Lib.Pointwise
public import Idealize.ShloMosaic.Lib.Claim
public import proofs.«01_k».proof.Proof.Mix0Tile

@[expose] public section

set_option maxRecDepth 16384
noncomputable section
open Idealize.ShloMosaic Idealize.ShloMosaic.TcCoe Idealize.SL.Sem
open Idealize.ShloMosaic.Pipeline (Dat)
namespace Cert.Mix0Ideal.Value
open Cert.Mix0Ideal Cert.Mix0Ideal.Gen Cert.Mix0Ideal.Tile Cert.ConvSpec Cert.MixSpec Cert
variable (m : (ℓ : Loc nD τ sig) → Buf (Elt Ideal) ℓ) (c : Dev nD) (t : Fin cfg0.N)

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] :=
  (by decide +kernel : ∀ t : Fin grid0.N, _)

/-- The layer's arrays as the call finds them. -/
def layer (c : Dev nD) : Inputs where
  x := fun n d => V m c main_arg0 (ix2 n d)
  shift := fun d => V m c main_v2 (ix3 0 0 d)
  scale := fun d => V m c main_v2 (ix3 0 1 d)
  gate := fun d => V m c main_v2 (ix3 0 2 d)
  norm := fun d => V m c main_v2 (ix3 0 6 d)
  wi := fun a j => V m c main_v4 (ix3 0 a j)
  wo := fun a b => V m c main_v6 (ix3 0 a b)
  tap := fun k d => V m c main_v9 (ix3 0 ⟨k.val, by omega⟩ d)
  bias := fun d => V m c main_v9 (ix3 0 3 d)

theorem blk0 (r : Fin 512) (d : Fin 1024) : iblk m c 0 t (ix2 r d) = V m c main_arg0 (ix2 (row (tile t) r) d) := by
  unfold tile row
  blk_point [iblk, idx t]

theorem blk1 (s : Fin 8) (d : Fin 1024) : iblk m c 1 t (ix3 0 s d) = V m c main_v2 (ix3 0 s d) := by
  blk_point [iblk, idx t]

theorem blk2 (a : Fin 1024) (j : Fin 3072) : iblk m c 2 t (ix3 0 a j) = V m c main_v4 (ix3 0 a j) := by
  blk_point [iblk, idx t]

theorem blk3 (a b : Fin 1024) : iblk m c 3 t (ix3 0 a b) = V m c main_v6 (ix3 0 a b) := by
  blk_point [iblk, idx t]

theorem blk4 (s : Fin 8) (d : Fin 1024) : iblk m c 4 t (ix3 0 s d) = V m c main_v9 (ix3 0 s d) := by
  blk_point [iblk, idx t]

theorem reads : Reads (tile t) (layer m c) (iblk m c 0 t) (iblk m c 1 t) (iblk m c 2 t) (iblk m c 3 t) (iblk m c 4 t) where
  x := blk0 m c t
  shift := blk1 m c t 0
  scale := blk1 m c t 1
  gate := blk1 m c t 2
  norm := blk1 m c t 6
  wi := blk2 m c t
  wo := blk3 m c t
  tap0 := blk4 m c t 0
  tap1 := blk4 m c t 1
  tap2 := blk4 m c t 2
  bias := blk4 m c t 3

/-- What a tile hands to the tile after it: its last rows of the convolution's input. -/
theorem carry (s : Fin 8) (d : Fin 1024) :
    (outsAt0 m c t.val t.isLt).2.2.2.2.2.2 (ix2 s d) = convIn (layer m c).bcx (row (tile t) ⟨504 + s.val, by omega⟩) d := by
  have Z := z_at (reads m c t)
  by_cases h : t.val % 8 = 0
  · rw [outsAt0_A m c t h]
    frame_out
    pointwise [k0_pay3]
    exact Z _ d
  · rw [outsAt0_B m c t h]
    frame_out
    pointwise [k0_pay3]
    exact Z _ d

theorem before_A (h : t.val % 8 = 0) : Before (tile t) (layer m c) (k0_pay4 (F := Ideal)) := by
  have hN : t.val < 8 := lt_of_lt_of_eq t.isLt N_0
  refine ⟨fun d => ?_, fun d => ?_⟩
  · pointwise [k0_pay4]
    rw [earlier, dif_pos (by show t.val * 512 + 0 < 2; omega)]
  · pointwise [k0_pay4]
    rw [earlier, dif_pos (by show t.val * 512 + 0 < 1; omega)]

theorem before_B (h : ¬ t.val % 8 = 0) (hb : t.val - 1 < cfg0.N) : Before (tile t) (layer m c) ((outsAt0 m c (t.val - 1) hb).2.2.2.2.2.2) := by
  have hN : t.val < 8 := lt_of_lt_of_eq t.isLt N_0
  have e := carry m c ⟨t.val - 1, hb⟩
  refine ⟨fun d => (e 6 d).trans ?_, fun d => (e 7 d).trans ?_⟩
  · rw [earlier, dif_neg (by show ¬ t.val * 512 + 0 < 2; omega)]
    congr 1
    exact Fin.ext (by show (t.val - 1) * 512 + (504 + 6) = t.val * 512 + 0 - 2; omega)
  · rw [earlier, dif_neg (by show ¬ t.val * 512 + 0 < 1; omega)]
    congr 1
    exact Fin.ext (by show (t.val - 1) * 512 + (504 + 7) = t.val * 512 + 0 - 1; omega)

/-- The rows before the tile, as the point before left them in the scratch buffer. -/
theorem before_read (h : ¬ t.val % 8 = 0) (hw : (Memref.whole cc0_scratch0).IsWhole) (hb : t.val - 1 < cfg0.N) :
    Before (tile t) (layer m c) (View.read (Elt Ideal) (View.whole cc0_scratch0) (hw.unread ((outsAt0 m c (t.val - 1) hb).2.2.2.2.2.2))) := by
  have e := hw.read_unread (Val := Elt Ideal) ((outsAt0 m c (t.val - 1) hb).2.2.2.2.2.2)
  exact e.symm ▸ before_B m c t h hb

/-! ## What a grid point leaves in each array -/

theorem out5 : Holds (tile t) (outsAt0 m c t.val t.isLt).1 (layer m c).out := fun r d => by
  by_cases h : t.val % 8 = 0
  · rw [outsAt0_A m c t h]
    frame_out
    exact out_at (reads m c t) (before_A m c t h) r d
  · rw [outsAt0_B m c t h]
    frame_out
    exact out_at (reads m c t) (before_read m c t h _ _) r d

theorem out6 : Holds (tile t) (outsAt0 m c t.val t.isLt).2.1 (layer m c).h := fun r d => by
  by_cases h : t.val % 8 = 0
  · rw [outsAt0_A m c t h]
    frame_out
    exact h_at (reads m c t) r d
  · rw [outsAt0_B m c t h]
    frame_out
    exact h_at (reads m c t) r d

theorem out7 : HoldsWide (tile t) (outsAt0 m c t.val t.isLt).2.2.1 (layer m c).bcx := fun r d => by
  by_cases h : t.val % 8 = 0
  · rw [outsAt0_A m c t h]
    frame_out
    exact bcx_at (reads m c t) r d
  · rw [outsAt0_B m c t h]
    frame_out
    exact bcx_at (reads m c t) r d

theorem out8 : Holds (tile t) (outsAt0 m c t.val t.isLt).2.2.2.1 (layer m c).conv := fun r d => by
  by_cases h : t.val % 8 = 0
  · rw [outsAt0_A m c t h]
    frame_out
    exact conv_at (reads m c t) (before_A m c t h) r d
  · rw [outsAt0_B m c t h]
    frame_out
    exact conv_at (reads m c t) (before_read m c t h _ _) r d

theorem out9 : Holds (tile t) (outsAt0 m c t.val t.isLt).2.2.2.2.1 (layer m c).q := fun r d => by
  by_cases h : t.val % 8 = 0
  · rw [outsAt0_A m c t h]
    frame_out
    exact q_at (reads m c t) (before_A m c t h) r d
  · rw [outsAt0_B m c t h]
    frame_out
    exact q_at (reads m c t) (before_read m c t h _ _) r d

theorem out10 : Holds (tile t) (outsAt0 m c t.val t.isLt).2.2.2.2.2.1 (layer m c).y := fun r d => by
  by_cases h : t.val % 8 = 0
  · rw [outsAt0_A m c t h]
    frame_out
    exact y_at (reads m c t) (before_A m c t h) r d
  · rw [outsAt0_B m c t h]
    frame_out
    exact y_at (reads m c t) (before_read m c t h _ _) r d

/-! ## The arrays after the call -/

theorem idxOut : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

theorem emb5 (y : S512x1024.Idx) : ((View.whole main_v10_0).slice (win0_5.rect t)).emb y = ix2 (row (tile t) (y 0)) (y 1) := by
  unfold row tile
  blk_ext [idxOut t]

/-- The layer's output. -/
theorem array5 : (dats m 0 c).arrAt 5 (cfgs 0).N = (fun i => (layer m c).out (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

theorem emb6 (y : S512x1024.Idx) : ((View.whole main_v10_1).slice (win0_6.rect t)).emb y = ix2 (row (tile t) (y 0)) (y 1) := by
  unfold row tile
  blk_ext [idxOut t]

/-- The normalised and modulated input. -/
theorem array6 : (dats m 0 c).arrAt 6 (cfgs 0).N = (fun i => (layer m c).h (i 0) (i 1) : S4096x1024.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

theorem emb7 (y : S512x3072.Idx) : ((View.whole main_v10_2).slice (win0_7.rect t)).emb y = ix2 (row (tile t) (y 0)) (y 1) := by
  unfold row tile
  blk_ext [idxOut t]

/-- The projected input. -/
theorem array7 : (dats m 0 c).arrAt 7 (cfgs 0).N = (fun i => (layer m c).bcx (i 0) (i 1) : S4096x3072.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

theorem emb8 (y : S512x1024.Idx) : ((View.whole main_v10_3).slice (win0_8.rect t)).emb y = ix2 (row (tile t) (y 0)) (y 1) := by
  unfold row tile
  blk_ext [idxOut t]

/-- The convolution's output. -/
theorem array8 : (dats m 0 c).arrAt 8 (cfgs 0).N = (fun i => (layer m c).conv (i 0) (i 1) : S4096x1024.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

theorem emb9 (y : S512x1024.Idx) : ((View.whole main_v10_4).slice (win0_9.rect t)).emb y = ix2 (row (tile t) (y 0)) (y 1) := by
  unfold row tile
  blk_ext [idxOut t]

/-- The gated output of the convolution. -/
theorem array9 : (dats m 0 c).arrAt 9 (cfgs 0).N = (fun i => (layer m c).q (i 0) (i 1) : S4096x1024.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

theorem emb10 (y : S512x1024.Idx) : ((View.whole main_v10_5).slice (win0_10.rect t)).emb y = ix2 (row (tile t) (y 0)) (y 1) := by
  unfold row tile
  blk_ext [idxOut t]

/-- The layer's result before its gate. -/
theorem array10 : (dats m 0 c).arrAt 10 (cfgs 0).N = (fun i => (layer m c).y (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem taps_eq (U : Valuation τ sig (Elt Ideal)) :
    StableHlo.after (hostOps0 (F := Ideal)) U (Proc.devRef .tc main_v9) = concatenate S2x8x1024 1 [⟨S2x3x1024, U (Proc.devRef .tc main_arg5)⟩,
    ⟨S2x1x1024, broadcastInDim S2x1x1024 ![0, 2] Gen.bcast_S2x1024_S2x1x1024_0_2 (U (Proc.devRef .tc main_arg6))⟩,
    ⟨S2x4x1024, broadcastInDim S2x4x1024 ![] Gen.bcast_S_S2x4x1024 (constant (F := Ideal) S_ .f32 0x00000000#32)⟩]
    Gen.concatenates_S2x3x1024_S2x1x1024_S2x4x1024_S2x8x1024_d1 := by
  unfold hostOps0
  after_results_simp
  try dsimp only [Matrix.cons_val]
  try after_results_simp
  try rfl

theorem pv_rows (k : Fin 8) (hk : k.val < 6) (d : Fin 1024) :
    V m c main_v2 (ix3 0 k d) = m (c, Proc.devRef .tc main_arg1) (ix3 0 ⟨k.val, hk⟩ d) := by
  refine (congrFun (pv_eq _) _).trans ?_
  generalize (fun b => m (c, b)) = U
  pointwise
  rw [dif_pos hk]

theorem pv_norm (k : Fin 8) (hk : k.val = 6) (d : Fin 1024) :
    V m c main_v2 (ix3 0 k d) = m (c, Proc.devRef .tc main_arg2) (ix2 0 d) := by
  refine (congrFun (pv_eq _) _).trans ?_
  generalize (fun b => m (c, b)) = U
  pointwise
  rw [dif_neg (by omega), dif_pos (by omega)]

theorem taps (k : Fin 8) (hk : k.val < 3) (d : Fin 1024) :
    V m c main_v9 (ix3 0 k d) = m (c, Proc.devRef .tc main_arg5) (ix3 0 ⟨k.val, hk⟩ d) := by
  refine (congrFun (taps_eq _) _).trans ?_
  generalize (fun b => m (c, b)) = U
  pointwise
  rw [dif_pos hk]

theorem taps_bias (k : Fin 8) (hk : k.val = 3) (d : Fin 1024) :
    V m c main_v9 (ix3 0 k d) = m (c, Proc.devRef .tc main_arg6) (ix2 0 d) := by
  refine (congrFun (taps_eq _) _).trans ?_
  generalize (fun b => m (c, b)) = U
  pointwise
  rw [dif_neg (by omega), dif_pos (by omega)]

theorem wi_eq (U : Valuation τ sig (Elt Ideal)) (a : Fin 1024) (j : Fin 3072) :
    StableHlo.after (hostOps0 (F := Ideal)) U (Proc.devRef .tc main_v4) (ix3 0 a j) = U (Proc.devRef .tc main_arg4) (ix2 a j) := by
  unfold hostOps0
  after_results_simp
  pointwise

theorem wo_eq (U : Valuation τ sig (Elt Ideal)) (a b : Fin 1024) :
    StableHlo.after (hostOps0 (F := Ideal)) U (Proc.devRef .tc main_v6) (ix3 0 a b) = U (Proc.devRef .tc main_arg7) (ix2 a b) := by
  unfold hostOps0
  after_results_simp
  pointwise

theorem wi_at (a : Fin 1024) (j : Fin 3072) : V m c main_v4 (ix3 0 a j) = m (c, Proc.devRef .tc main_arg4) (ix2 a j) :=
  wi_eq (fun b => m (c, b)) a j

theorem wo_at (a b : Fin 1024) : V m c main_v6 (ix3 0 a b) = m (c, Proc.devRef .tc main_arg7) (ix2 a b) :=
  wo_eq (fun b => m (c, b)) a b

end Cert.Mix0Ideal.Value

end
-- ==== Proof.Mix0Ref.lean ====
/- The reference's forward values of the short convolution, and their equality with the call's: layer 0. -/
module

public import proofs.«01_k».proof.Defs
public import proofs.«01_k».proof.Proof.Gen.Mix0RefIdeal.Run
public import proofs.«01_k».proof.Proof.Mix0Call

@[expose] public section

set_option maxRecDepth 16384
noncomputable section
open Idealize.ShloMosaic Idealize.ShloMosaic.TcCoe Idealize.SL.Sem
namespace Cert.Mix0RefIdeal.Spec
open Cert.Mix0RefIdeal Cert.Mix0RefIdeal.Gen Cert.Mix0RefIdeal.Value Cert.ConvSpec Cert.MixSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg2 : FVec Ideal S4x1024 .f32 := m ((c.tc : Thread nD τ).loc main_arg2)
abbrev arg4 : FVec Ideal S1024x3072 .f32 := m ((c.tc : Thread nD τ).loc main_arg4)
abbrev arg5 : FVec Ideal S2x3x1024 .f32 := m ((c.tc : Thread nD τ).loc main_arg5)
abbrev arg6 : FVec Ideal S2x1024 .f32 := m ((c.tc : Thread nD τ).loc main_arg6)
abbrev arg7 : FVec Ideal S1024x1024 .f32 := m ((c.tc : Thread nD τ).loc main_arg7)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![0, 0] (arg2 m c) slices_S4x1024_S1x1024_0_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![0, 1, 0] (arg1 m c) slices_S4x6x1024_S1x1x1024_0_1_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![0, 0, 0] (arg1 m c) slices_S4x6x1024_S1x1x1024_0_0_0) shapeCasts_S1x1x1024_S1024)))

/-- The projected input. -/
def bcxArr : FVec Ideal S4096x3072 .f32 :=
  Host.dotGeneral dot_S4096x1024_S1024x3072_S4096x3072_1_0_0_1_n_n none (hArr m c) (arg4 m c)

/-- The convolution's input. -/
def zArr : FVec Ideal S4096x1024 .f32 :=
  mulf (extractStridedSlice S4096x1024 ![0, 1024] (bcxArr m c) slices_S4096x3072_S4096x1024_0_1024) (extractStridedSlice S4096x1024 ![0, 2048] (bcxArr m c) slices_S4096x3072_S4096x1024_0_2048)

/-- The convolution's input after two rows of zeros. -/
def padArr : FVec Ideal S4098x1024 .f32 :=
  concatenate S4098x1024 0 [⟨S2x1024, (broadcastInDim S2x1024 ![] bcast_S_S2x1024 (constant S_ .f32 0x00000000#32))⟩, ⟨S4096x1024, (zArr m c)⟩] concatenates_S2x1024_S4096x1024_S4098x1024_d0

/-- The convolution's output. -/
def convArr : FVec Ideal S4096x1024 .f32 :=
  addf (addf (addf (mulf (broadcastInDim S4096x1024 ![0, 1] bcast_S1x1024_S4096x1024_0_1 (broadcastInDim S1x1024 ![1] bcast_S1024_S1x1024_1 (shapeCast _ (extractStridedSlice S1x1024 ![0, 0] (shapeCast _ (extractStridedSlice S1x3x1024 ![0, 0, 0] (arg5 m c) slices_S2x3x1024_S1x3x1024_0_0_0) shapeCasts_S1x3x1024_S3x1024) slices_S3x1024_S1x1024_0_0) shapeCasts_S1x1024_S1024))) (extractStridedSlice S4096x1024 ![0, 0] (padArr m c) slices_S4098x1024_S4096x1024_0_0)) (mulf (broadcastInDim S4096x1024 ![0, 1] bcast_S1x1024_S4096x1024_0_1 (broadcastInDim S1x1024 ![1] bcast_S1024_S1x1024_1 (shapeCast _ (extractStridedSlice S1x1024 ![1, 0] (shapeCast _ (extractStridedSlice S1x3x1024 ![0, 0, 0] (arg5 m c) slices_S2x3x1024_S1x3x1024_0_0_0) shapeCasts_S1x3x1024_S3x1024) slices_S3x1024_S1x1024_1_0) shapeCasts_S1x1024_S1024))) (extractStridedSlice S4096x1024 ![1, 0] (padArr m c) slices_S4098x1024_S4096x1024_1_0))) (mulf (broadcastInDim S4096x1024 ![0, 1] bcast_S1x1024_S4096x1024_0_1 (broadcastInDim S1x1024 ![1] bcast_S1024_S1x1024_1 (shapeCast _ (extractStridedSlice S1x1024 ![2, 0] (shapeCast _ (extractStridedSlice S1x3x1024 ![0, 0, 0] (arg5 m c) slices_S2x3x1024_S1x3x1024_0_0_0) shapeCasts_S1x3x1024_S3x1024) slices_S3x1024_S1x1024_2_0) shapeCasts_S1x1024_S1024))) (extractStridedSlice S4096x1024 ![2, 0] (padArr m c) slices_S4098x1024_S4096x1024_2_0))) (broadcastInDim S4096x1024 ![0, 1] bcast_S1x1024_S4096x1024_0_1 (broadcastInDim S1x1024 ![1] bcast_S1024_S1x1024_1 (shapeCast _ (extractStridedSlice S1x1024 ![0, 0] (arg6 m c) slices_S2x1024_S1x1024_0_0) shapeCasts_S1x1024_S1024)))

/-- The gated output of the convolution. -/
def qArr : FVec Ideal S4096x1024 .f32 :=
  mulf (extractStridedSlice S4096x1024 ![0, 0] (bcxArr m c) slices_S4096x3072_S4096x1024_0_0) (convArr m c)

/-- The layer's result before its gate. -/
def yArr : FVec Ideal S4096x1024 .f32 :=
  Host.dotGeneral dot_S4096x1024_S1024x1024_S4096x1024_1_0_0_1_n_n none (qArr m c) (arg7 m c)

/-- The layer's output. -/
def outArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![0, 2, 0] (arg1 m c) slices_S4x6x1024_S1x1x1024_0_2_0) shapeCasts_S1x1x1024_S1024))) (yArr m c))

/-! ## Their entries -/

/-- The arrays of the layer, from the arguments. -/
def layer : Inputs where
  x := fun n d => arg0 m c (ix2 n d)
  shift := fun d => arg1 m c (ix3 0 0 d)
  scale := fun d => arg1 m c (ix3 0 1 d)
  gate := fun d => arg1 m c (ix3 0 2 d)
  norm := fun d => arg2 m c (ix2 0 d)
  wi := fun a j => arg4 m c (ix2 a j)
  wo := fun a b => arg7 m c (ix2 a b)
  tap := fun k d => arg5 m c (ix3 0 k d)
  bias := fun d => arg6 m c (ix2 0 d)

theorem h_at (n : Fin 4096) (d : Fin 1024) : hArr m c (ix2 n d) = (layer m c).h n d := by
  pointwise [hArr]
  rfl

theorem bcx_at (n : Fin 4096) (j : Fin 3072) : bcxArr m c (ix2 n j) = (layer m c).bcx n j := by
  pointwise [bcxArr]
  simp only [h_at]
  rfl

theorem z_at (n : Fin 4096) (d : Fin 1024) : zArr m c (ix2 n d) = convIn (layer m c).bcx n d := by
  pointwise [zArr]
  rw [bcx_at, bcx_at]
  rfl

/-- Row `k` of the padded array is two tokens back. -/
theorem pad_at (k : Fin 4098) (s : ℕ) (n : Fin 4096) (d : Fin 1024) (hk : k.val + s = n.val + 2) :
    padArr m c (ix2 k d) = earlier (convIn (layer m c).bcx) s n d := by
  pointwise [padArr]
  unfold earlier
  by_cases h : k.val < 2
  · rw [dif_pos h, dif_pos (by omega)]
  · rw [dif_neg h, dif_neg (by omega), z_at]
    congr 1
    exact Fin.ext (by show k.val - 2 = n.val - s; omega)

theorem conv_at (n : Fin 4096) (d : Fin 1024) : convArr m c (ix2 n d) = (layer m c).conv n d := by
  have P0 := fun k h => pad_at m c k 2 n d h
  have P1 := fun k h => pad_at m c k 1 n d h
  have P2 := fun k h => pad_at m c k 0 n d h
  have Z : earlier (convIn (layer m c).bcx) 0 n d = convIn (layer m c).bcx n d := by
    unfold earlier
    rw [dif_neg (by omega)]
    rfl
  unfold convArr
  generalize padArr m c = p at *
  pointwise
  rw [P0 _ (by show _ + 2 = _ + 2; simp), P1 _ (by show _ + 1 = _ + 2; simp; try omega), P2 _ (by show _ + 0 = _ + 2; simp; try omega), Z]
  rfl

theorem q_at (n : Fin 4096) (d : Fin 1024) : qArr m c (ix2 n d) = (layer m c).q n d := by
  have C := conv_at m c n d
  have B := bcx_at m c n
  unfold qArr
  generalize convArr m c = v at *
  generalize bcxArr m c = w at *
  pointwise
  rw [C, B]
  rfl

theorem y_at (n : Fin 4096) (d : Fin 1024) : yArr m c (ix2 n d) = (layer m c).y n d := by
  pointwise [yArr]
  simp only [q_at]
  rfl

theorem out_at (n : Fin 4096) (d : Fin 1024) : outArr m c (ix2 n d) = (layer m c).out n d := by
  pointwise [outArr]
  rw [y_at]
  rfl

end Cert.Mix0RefIdeal.Spec

namespace Cert.Mix0Ideal.Value
open Cert.Mix0Ideal Cert.Mix0Ideal.Gen Cert.ConvSpec Cert.MixSpec
variable (m : (ℓ : Loc nD τ sig) → Buf (Elt Ideal) ℓ) (c : Dev nD)
  (W : (ℓ : Loc Cert.Mix0RefIdeal.nD Cert.Mix0RefIdeal.τ Cert.Mix0RefIdeal.sig) → Buf (Elt Ideal) ℓ)
  (c' : Dev Cert.Mix0RefIdeal.nD)

/-- The reference starts from the kernel's arguments. -/
structure SameArgs : Prop where
  a0 : W ((c'.tc : Thread Cert.Mix0RefIdeal.nD Cert.Mix0RefIdeal.τ).loc Cert.Mix0RefIdeal.main_arg0) = m ((c.tc : Thread nD τ).loc main_arg0)
  a1 : W ((c'.tc : Thread Cert.Mix0RefIdeal.nD Cert.Mix0RefIdeal.τ).loc Cert.Mix0RefIdeal.main_arg1) = m ((c.tc : Thread nD τ).loc main_arg1)
  a2 : W ((c'.tc : Thread Cert.Mix0RefIdeal.nD Cert.Mix0RefIdeal.τ).loc Cert.Mix0RefIdeal.main_arg2) = m ((c.tc : Thread nD τ).loc main_arg2)
  a4 : W ((c'.tc : Thread Cert.Mix0RefIdeal.nD Cert.Mix0RefIdeal.τ).loc Cert.Mix0RefIdeal.main_arg4) = m ((c.tc : Thread nD τ).loc main_arg4)
  a5 : W ((c'.tc : Thread Cert.Mix0RefIdeal.nD Cert.Mix0RefIdeal.τ).loc Cert.Mix0RefIdeal.main_arg5) = m ((c.tc : Thread nD τ).loc main_arg5)
  a6 : W ((c'.tc : Thread Cert.Mix0RefIdeal.nD Cert.Mix0RefIdeal.τ).loc Cert.Mix0RefIdeal.main_arg6) = m ((c.tc : Thread nD τ).loc main_arg6)
  a7 : W ((c'.tc : Thread Cert.Mix0RefIdeal.nD Cert.Mix0RefIdeal.τ).loc Cert.Mix0RefIdeal.main_arg7) = m ((c.tc : Thread nD τ).loc main_arg7)

variable {m c W c'}

/-- The kernel's layer is the reference's. -/
theorem same_layer (s : SameArgs m c W c') : layer m c = Cert.Mix0RefIdeal.Spec.layer W c' :=
  layer_eq _ _ (fun n d => (congrFun (V_main_arg0 m c) (ix2 n d)).trans (congrFun s.a0 (ix2 n d)).symm)
    (fun d => (pv_norm m c 6 rfl d).trans (congrFun s.a2 (ix2 0 d)).symm)
    (fun d => (pv_rows m c 1 (by decide) d).trans (congrFun s.a1 (ix3 0 1 d)).symm)
    (fun d => (pv_rows m c 0 (by decide) d).trans (congrFun s.a1 (ix3 0 0 d)).symm)
    (fun d => (pv_rows m c 2 (by decide) d).trans (congrFun s.a1 (ix3 0 2 d)).symm)
    (fun a j => (wi_at m c a j).trans (congrFun s.a4 (ix2 a j)).symm)
    (fun k d => (taps m c ⟨k.val, by omega⟩ k.isLt d).trans (congrFun s.a5 (ix3 0 k d)).symm)
    (fun d => (taps_bias m c 3 rfl d).trans (congrFun s.a6 (ix2 0 d)).symm)
    (fun a b => (wo_at m c a b).trans (congrFun s.a7 (ix2 a b)).symm)

end Cert.Mix0Ideal.Value

namespace Cert.Proof

/-- The reference's host operations leave its arguments unchanged, and it declares no semaphore. -/
theorem frame_reference_Mix0 : Cert.quiescent_Mix0RefIdeal := fun m ρ _ =>
  (θ_run Cert.Mix0RefIdeal.defs _ _).mono
    (fun r h => ⟨fun c => (h c).2.2.2.2.2.2, sem_eq_zero_of_no_sems (by decide) r.2⟩)
    (Cert.Mix0RefIdeal.Value.run (F := Ideal) m ρ)

/-- From the same arguments the kernel and the reference end with the same six results. -/
theorem algebraic_Mix0 : Cert.algebraic_Mix0Ideal_Mix0RefIdeal := by
  intro m g m' g' _ he
  have hs : ∀ c, Cert.Mix0Ideal.Value.SameArgs m c m' c := fun c =>
    ⟨(he c).1, (he c).2.1, (he c).2.2.1, (he c).2.2.2.2.1, (he c).2.2.2.2.2.1, (he c).2.2.2.2.2.2.1, (he c).2.2.2.2.2.2.2⟩
  refine ⟨fun c i => (Cert.Mix0Ideal.Value.layer m c).out (i 0) (i 1), fun c i => (Cert.Mix0Ideal.Value.layer m c).h (i 0) (i 1), fun c i => (Cert.Mix0Ideal.Value.layer m c).bcx (i 0) (i 1), fun c i => (Cert.Mix0Ideal.Value.layer m c).conv (i 0) (i 1), fun c i => (Cert.Mix0Ideal.Value.layer m c).q (i 0) (i 1), fun c i => (Cert.Mix0Ideal.Value.layer m c).y (i 0) (i 1), ?_, ?_⟩
  · refine (θ_run Cert.Mix0Ideal.defs _ _).mono (fun r h c => ?_) (Cert.Mix0Ideal.Value.run_blocks (F := Ideal) m g)
    obtain ⟨h0, h1, h2, h3, h4, h5, ha⟩ := h c
    exact ⟨h0.trans (Cert.Mix0Ideal.Value.array5 m c), h1.trans (Cert.Mix0Ideal.Value.array6 m c), h2.trans (Cert.Mix0Ideal.Value.array7 m c), h3.trans (Cert.Mix0Ideal.Value.array8 m c), h4.trans (Cert.Mix0Ideal.Value.array9 m c), h5.trans (Cert.Mix0Ideal.Value.array10 m c), ha⟩
  · refine (θ_run Cert.Mix0RefIdeal.defs _ _).mono (fun r h c => ?_) (Cert.Mix0RefIdeal.Value.run (F := Ideal) m' g')
    obtain ⟨h0, h1, h2, h3, h4, h5, ha⟩ := h c
    have e := Cert.Mix0Ideal.Value.same_layer (hs c)
    refine ⟨h0.trans (funext fun i => ?_), h1.trans (funext fun i => ?_), h2.trans (funext fun i => ?_), h3.trans (funext fun i => ?_), h4.trans (funext fun i => ?_), h5.trans (funext fun i => ?_), ha⟩
    · exact (congrArg (Cert.Mix0RefIdeal.Spec.outArr m' c) (eq_ix2 i)).trans ((Cert.Mix0RefIdeal.Spec.out_at m' c (i 0) (i 1)).trans (congrArg (fun L => Cert.MixSpec.Inputs.out L (i 0) (i 1)) e.symm))
    · exact (congrArg (Cert.Mix0RefIdeal.Spec.hArr m' c) (eq_ix2 i)).trans ((Cert.Mix0RefIdeal.Spec.h_at m' c (i 0) (i 1)).trans (congrArg (fun L => Cert.MixSpec.Inputs.h L (i 0) (i 1)) e.symm))
    · exact (congrArg (Cert.Mix0RefIdeal.Spec.bcxArr m' c) (eq_ix2 i)).trans ((Cert.Mix0RefIdeal.Spec.bcx_at m' c (i 0) (i 1)).trans (congrArg (fun L => Cert.MixSpec.Inputs.bcx L (i 0) (i 1)) e.symm))
    · exact (congrArg (Cert.Mix0RefIdeal.Spec.convArr m' c) (eq_ix2 i)).trans ((Cert.Mix0RefIdeal.Spec.conv_at m' c (i 0) (i 1)).trans (congrArg (fun L => Cert.MixSpec.Inputs.conv L (i 0) (i 1)) e.symm))
    · exact (congrArg (Cert.Mix0RefIdeal.Spec.qArr m' c) (eq_ix2 i)).trans ((Cert.Mix0RefIdeal.Spec.q_at m' c (i 0) (i 1)).trans (congrArg (fun L => Cert.MixSpec.Inputs.q L (i 0) (i 1)) e.symm))
    · exact (congrArg (Cert.Mix0RefIdeal.Spec.yArr m' c) (eq_ix2 i)).trans ((Cert.Mix0RefIdeal.Spec.y_at m' c (i 0) (i 1)).trans (congrArg (fun L => Cert.MixSpec.Inputs.y L (i 0) (i 1)) e.symm))

end Cert.Proof

end
-- ==== Proof.Mix3Tile.lean ====
/- What one tile of the short convolution's forward call computes, entry by entry: layer 3. -/
module

public import proofs.«01_k».proof.Defs
public import proofs.«01_k».proof.Proof.Gen.Mix3Ideal.Skeleton
public import proofs.«01_k».proof.Proof.MixSpec
public import Idealize.ShloMosaic.Lib.Pointwise

@[expose] public section

set_option maxRecDepth 16384
noncomputable section
open Idealize.ShloMosaic Idealize.ShloMosaic.TcCoe Idealize.SL.Sem
namespace Cert.Mix3Ideal.Tile
open Cert.Mix3Ideal Cert.Mix3Ideal.Gen Cert.ConvSpec Cert.MixSpec Cert

/-! ## The row masks -/

theorem ge2 : ∀ r : Fin 512, IntOp.cmpi .sge (BitVec.ofNat 32 r.val) 2#32 = if 2 ≤ r.val then 1#1 else 0#1 := by decide +kernel
theorem ge1 : ∀ r : Fin 512, IntOp.cmpi .sge (BitVec.ofNat 32 r.val) 1#32 = if 1 ≤ r.val then 1#1 else 0#1 := by decide +kernel
theorem eq0 : ∀ r : Fin 512, IntOp.cmpi .eq (BitVec.ofNat 32 r.val) 0#32 = if r.val = 0 then 1#1 else 0#1 := by decide +kernel

/-- A choice by a mask that is one exactly when `p` holds. -/
theorem select_if (p : Prop) [Decidable p] (a b : EReal) :
    Scalar.select (if p then 1#1 else 0#1) a b = if p then a else b := by
  by_cases h : p <;> simp [Scalar.select, h]

/-! ## The arrays of one tile -/

/-- `v` holds tile `q` of the array `f`. -/
def Holds (q : Fin 8) (v : S512x1024.Idx → EReal) (f : Tok) : Prop := ∀ (r : Fin 512) (d : Fin 1024), v (ix2 r d) = f (row q r) d

/-- `v` holds tile `q` of the wide array `f`. -/
def HoldsWide (q : Fin 8) (v : S512x3072.Idx → EReal) (f : Wide) : Prop := ∀ (r : Fin 512) (j : Fin 3072), v (ix2 r j) = f (row q r) j

/-- The blocks that a grid point reads are tile `q` of the layer's arrays. -/
structure Reads (q : Fin 8) (L : Inputs) (b0 : Vec Ideal S512x1024 .f32) (b1 : Vec Ideal S1x8x1024 .f32) (b2 : Vec Ideal S1x1024x3072 .bf16)
    (b3 : Vec Ideal S1x1024x1024 .bf16) (b4 : Vec Ideal S1x8x1024 .f32) : Prop where
  x : Holds q b0 L.x
  shift : ∀ d, b1 (ix3 0 0 d) = L.shift d
  scale : ∀ d, b1 (ix3 0 1 d) = L.scale d
  gate : ∀ d, b1 (ix3 0 2 d) = L.gate d
  norm : ∀ d, b1 (ix3 0 6 d) = L.norm d
  wi : ∀ a j, b2 (ix3 0 a j) = L.wi a j
  wo : ∀ a b, b3 (ix3 0 a b) = L.wo a b
  tap0 : ∀ d, b4 (ix3 0 0 d) = L.tap 0 d
  tap1 : ∀ d, b4 (ix3 0 1 d) = L.tap 1 d
  tap2 : ∀ d, b4 (ix3 0 2 d) = L.tap 2 d
  bias : ∀ d, b4 (ix3 0 3 d) = L.bias d

/-- `prev` ends in the two rows of the convolution's input before tile `q`, zero before the start. -/
structure Before (q : Fin 8) (L : Inputs) (prev : Vec Ideal S8x1024 .f32) : Prop where
  two : ∀ d, prev (ix2 6 d) = earlier (convIn L.bcx) 2 (row q 0) d
  one : ∀ d, prev (ix2 7 d) = earlier (convIn L.bcx) 1 (row q 0) d

variable {q : Fin 8} {L : Inputs} {b0 : Vec Ideal S512x1024 .f32} {b1 : Vec Ideal S1x8x1024 .f32} {b2 : Vec Ideal S1x1024x3072 .bf16}
  {b3 : Vec Ideal S1x1024x1024 .bf16} {b4 : Vec Ideal S1x8x1024 .f32} {prev : Vec Ideal S8x1024 .f32}

theorem h_at (R : Reads q L b0 b1 b2 b3 b4) : Holds q (k0_pay7 b0 b1) L.h := fun r d => by
  pointwise [k0_pay7, k0_pay5]
  simp only [R.x r, R.shift d, R.scale d, R.norm d]
  rfl

theorem bcx_at (R : Reads q L b0 b1 b2 b3 b4) : HoldsWide q (k0_pay8 b0 b1 b2) L.bcx := fun r j => by
  pointwise [k0_pay8]
  exact Finset.sum_congr rfl fun k _ => by rw [h_at R r k, R.wi]

theorem z_at (R : Reads q L b0 b1 b2 b3 b4) : Holds q (k0_pay9 (k0_pay8 b0 b1 b2)) (convIn L.bcx) := fun r d => by
  pointwise [k0_pay9]
  rw [bcx_at R, bcx_at R]
  rfl

/-- The three taps of the convolution's input, the rows before the tile coming from the tile before it. -/
theorem conv_at (R : Reads q L b0 b1 b2 b3 b4) (P : Before q L prev) :
    Holds q (k0_pay10 (k0_pay6 b4) (k0_pay8 b0 b1 b2) prev) L.conv := fun r d => by
  have Z := z_at R
  have P1 := P.one d
  have P2 := P.two d
  generalize k0_pay8 b0 b1 b2 = w at *
  generalize hz : k0_pay9 w = z at *
  pointwise [k0_pay10, k0_pay6]
  rw [hz, ge2, ge1, eq0, select_if, select_if, select_if, R.tap0, R.tap1, R.tap2, R.bias, P1, P2, Z r d]
  unfold Inputs.conv conv3
  congr 3
  · congr 1
    by_cases hr : 2 ≤ r.val
    · rw [if_pos hr, Z]
      rw [earlier, dif_neg (by show ¬ q.val * 512 + r.val < 2; omega)]
      congr 1
      exact Fin.ext (by show q.val * 512 + (r.val + 512 - 2) % 512 = q.val * 512 + r.val - 2; omega)
    · rw [if_neg hr]
      by_cases hr' : r.val = 0
      · rw [if_pos hr', show r = (0 : Fin 512) from Fin.ext hr']
      · rw [if_neg hr']
        have h1 : r.val = 1 := by omega
        unfold earlier
        by_cases hb : (row q 0).val < 1
        · rw [dif_pos hb, dif_pos (by have : q.val * 512 + 0 < 1 := hb; show q.val * 512 + r.val < 2; omega)]
        · rw [dif_neg hb, dif_neg (by have : ¬ q.val * 512 + 0 < 1 := hb; show ¬ q.val * 512 + r.val < 2; omega)]
          congr 1
          exact Fin.ext (by show q.val * 512 + 0 - 1 = q.val * 512 + r.val - 2; omega)
  · congr 1
    by_cases hr : 1 ≤ r.val
    · rw [if_pos hr, Z]
      rw [earlier, dif_neg (by show ¬ q.val * 512 + r.val < 1; omega)]
      congr 1
      exact Fin.ext (by show q.val * 512 + (r.val + 512 - 1) % 512 = q.val * 512 + r.val - 1; omega)
    · rw [if_neg hr, show r = (0 : Fin 512) from Fin.ext (by show r.val = 0; omega)]

theorem q_at (R : Reads q L b0 b1 b2 b3 b4) (P : Before q L prev) :
    Holds q (k0_pay11 (k0_pay6 b4) (k0_pay8 b0 b1 b2) prev) L.q := fun r d => by
  have C := conv_at R P r d
  have B := bcx_at R
  generalize k0_pay8 b0 b1 b2 = w at *
  generalize k0_pay6 b4 = k at *
  pointwise [k0_pay11]
  rw [C, B]
  rfl

theorem y_at (R : Reads q L b0 b1 b2 b3 b4) (P : Before q L prev) :
    Holds q (k0_pay1 (k0_pay11 (k0_pay6 b4) (k0_pay8 b0 b1 b2) prev) b3) L.y := fun r d => by
  have Q := q_at R P r
  generalize k0_pay11 (k0_pay6 b4) (k0_pay8 b0 b1 b2) prev = v at *
  pointwise [k0_pay1]
  exact Finset.sum_congr rfl fun k _ => by rw [Q, R.wo]

theorem out_at (R : Reads q L b0 b1 b2 b3 b4) (P : Before q L prev) :
    Holds q (k0_pay2 b0 (k0_pay5 b1) (k0_pay11 (k0_pay6 b4) (k0_pay8 b0 b1 b2) prev) b3) L.out := fun r d => by
  have Y := y_at R P r d
  generalize k0_pay11 (k0_pay6 b4) (k0_pay8 b0 b1 b2) prev = v at *
  pointwise [k0_pay2, k0_pay5]
  rw [R.x r d, R.gate d, Y]
  rfl

end Cert.Mix3Ideal.Tile

end
-- ==== Proof.Mix3Call.lean ====
/- What the short convolution's forward call leaves in its six arrays: layer 3. -/
module

public import proofs.«01_k».proof.Defs
public import proofs.«01_k».proof.Proof.Gen.Mix3Ideal.Value
public import Idealize.ShloMosaic.Lib.Pipeline.ValueKit
public import Idealize.ShloMosaic.Lib.Pointwise
public import Idealize.ShloMosaic.Lib.Claim
public import proofs.«01_k».proof.Proof.Mix3Tile

@[expose] public section

set_option maxRecDepth 16384
noncomputable section
open Idealize.ShloMosaic Idealize.ShloMosaic.TcCoe Idealize.SL.Sem
open Idealize.ShloMosaic.Pipeline (Dat)
namespace Cert.Mix3Ideal.Value
open Cert.Mix3Ideal Cert.Mix3Ideal.Gen Cert.Mix3Ideal.Tile Cert.ConvSpec Cert.MixSpec Cert
variable (m : (ℓ : Loc nD τ sig) → Buf (Elt Ideal) ℓ) (c : Dev nD) (t : Fin cfg0.N)

/-! ## A grid point -/

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![3, 0, 0] ∧ win0_2.index t = ![0, 0, 0]
    ∧ win0_3.index t = ![0, 0, 0] ∧ win0_4.index t = ![1, 0, 0] :=
  (by decide +kernel : ∀ t : Fin grid0.N, _)

/-- The layer's arrays as the call finds them. -/
def layer (c : Dev nD) : Inputs where
  x := fun n d => V m c main_arg0 (ix2 n d)
  shift := fun d => V m c main_v2 (ix3 3 0 d)
  scale := fun d => V m c main_v2 (ix3 3 1 d)
  gate := fun d => V m c main_v2 (ix3 3 2 d)
  norm := fun d => V m c main_v2 (ix3 3 6 d)
  wi := fun a j => V m c main_v4 (ix3 0 a j)
  wo := fun a b => V m c main_v6 (ix3 0 a b)
  tap := fun k d => V m c main_v9 (ix3 1 ⟨k.val, by omega⟩ d)
  bias := fun d => V m c main_v9 (ix3 1 3 d)

theorem blk0 (r : Fin 512) (d : Fin 1024) : iblk m c 0 t (ix2 r d) = V m c main_arg0 (ix2 (row (tile t) r) d) := by
  unfold tile row
  blk_point [iblk, idx t]

theorem blk1 (s : Fin 8) (d : Fin 1024) : iblk m c 1 t (ix3 0 s d) = V m c main_v2 (ix3 3 s d) := by
  blk_point [iblk, idx t]

theorem blk2 (a : Fin 1024) (j : Fin 3072) : iblk m c 2 t (ix3 0 a j) = V m c main_v4 (ix3 0 a j) := by
  blk_point [iblk, idx t]

theorem blk3 (a b : Fin 1024) : iblk m c 3 t (ix3 0 a b) = V m c main_v6 (ix3 0 a b) := by
  blk_point [iblk, idx t]

theorem blk4 (s : Fin 8) (d : Fin 1024) : iblk m c 4 t (ix3 0 s d) = V m c main_v9 (ix3 1 s d) := by
  blk_point [iblk, idx t]

theorem reads : Reads (tile t) (layer m c) (iblk m c 0 t) (iblk m c 1 t) (iblk m c 2 t) (iblk m c 3 t) (iblk m c 4 t) where
  x := blk0 m c t
  shift := blk1 m c t 0
  scale := blk1 m c t 1
  gate := blk1 m c t 2
  norm := blk1 m c t 6
  wi := blk2 m c t
  wo := blk3 m c t
  tap0 := blk4 m c t 0
  tap1 := blk4 m c t 1
  tap2 := blk4 m c t 2
  bias := blk4 m c t 3

/-- What a tile hands to the tile after it: its last rows of the convolution's input. -/
theorem carry (s : Fin 8) (d : Fin 1024) :
    (outsAt0 m c t.val t.isLt).2.2.2.2.2.2 (ix2 s d) = convIn (layer m c).bcx (row (tile t) ⟨504 + s.val, by omega⟩) d := by
  have Z := z_at (reads m c t)
  by_cases h : t.val % 8 = 0
  · rw [outsAt0_A m c t h]
    frame_out
    pointwise [k0_pay3]
    exact Z _ d
  · rw [outsAt0_B m c t h]
    frame_out
    pointwise [k0_pay3]
    exact Z _ d

theorem before_A (h : t.val % 8 = 0) : Before (tile t) (layer m c) (k0_pay4 (F := Ideal)) := by
  have hN : t.val < 8 := lt_of_lt_of_eq t.isLt N_0
  refine ⟨fun d => ?_, fun d => ?_⟩
  · pointwise [k0_pay4]
    rw [earlier, dif_pos (by show t.val * 512 + 0 < 2; omega)]
  · pointwise [k0_pay4]
    rw [earlier, dif_pos (by show t.val * 512 + 0 < 1; omega)]

theorem before_B (h : ¬ t.val % 8 = 0) (hb : t.val - 1 < cfg0.N) : Before (tile t) (layer m c) ((outsAt0 m c (t.val - 1) hb).2.2.2.2.2.2) := by
  have hN : t.val < 8 := lt_of_lt_of_eq t.isLt N_0
  have e := carry m c ⟨t.val - 1, hb⟩
  refine ⟨fun d => (e 6 d).trans ?_, fun d => (e 7 d).trans ?_⟩
  · rw [earlier, dif_neg (by show ¬ t.val * 512 + 0 < 2; omega)]
    congr 1
    exact Fin.ext (by show (t.val - 1) * 512 + (504 + 6) = t.val * 512 + 0 - 2; omega)
  · rw [earlier, dif_neg (by show ¬ t.val * 512 + 0 < 1; omega)]
    congr 1
    exact Fin.ext (by show (t.val - 1) * 512 + (504 + 7) = t.val * 512 + 0 - 1; omega)

/-- The rows before the tile, as the point before left them in the scratch buffer. -/
theorem before_read (h : ¬ t.val % 8 = 0) (hw : (Memref.whole cc0_scratch0).IsWhole) (hb : t.val - 1 < cfg0.N) :
    Before (tile t) (layer m c) (View.read (Elt Ideal) (View.whole cc0_scratch0) (hw.unread ((outsAt0 m c (t.val - 1) hb).2.2.2.2.2.2))) := by
  have e := hw.read_unread (Val := Elt Ideal) ((outsAt0 m c (t.val - 1) hb).2.2.2.2.2.2)
  exact e.symm ▸ before_B m c t h hb

/-! ## What a grid point leaves in each array -/

theorem out5 : Holds (tile t) (outsAt0 m c t.val t.isLt).1 (layer m c).out := fun r d => by
  by_cases h : t.val % 8 = 0
  · rw [outsAt0_A m c t h]
    frame_out
    exact out_at (reads m c t) (before_A m c t h) r d
  · rw [outsAt0_B m c t h]
    frame_out
    exact out_at (reads m c t) (before_read m c t h _ _) r d

theorem out6 : Holds (tile t) (outsAt0 m c t.val t.isLt).2.1 (layer m c).h := fun r d => by
  by_cases h : t.val % 8 = 0
  · rw [outsAt0_A m c t h]
    frame_out
    exact h_at (reads m c t) r d
  · rw [outsAt0_B m c t h]
    frame_out
    exact h_at (reads m c t) r d

theorem out7 : HoldsWide (tile t) (outsAt0 m c t.val t.isLt).2.2.1 (layer m c).bcx := fun r d => by
  by_cases h : t.val % 8 = 0
  · rw [outsAt0_A m c t h]
    frame_out
    exact bcx_at (reads m c t) r d
  · rw [outsAt0_B m c t h]
    frame_out
    exact bcx_at (reads m c t) r d

theorem out8 : Holds (tile t) (outsAt0 m c t.val t.isLt).2.2.2.1 (layer m c).conv := fun r d => by
  by_cases h : t.val % 8 = 0
  · rw [outsAt0_A m c t h]
    frame_out
    exact conv_at (reads m c t) (before_A m c t h) r d
  · rw [outsAt0_B m c t h]
    frame_out
    exact conv_at (reads m c t) (before_read m c t h _ _) r d

theorem out9 : Holds (tile t) (outsAt0 m c t.val t.isLt).2.2.2.2.1 (layer m c).q := fun r d => by
  by_cases h : t.val % 8 = 0
  · rw [outsAt0_A m c t h]
    frame_out
    exact q_at (reads m c t) (before_A m c t h) r d
  · rw [outsAt0_B m c t h]
    frame_out
    exact q_at (reads m c t) (before_read m c t h _ _) r d

theorem out10 : Holds (tile t) (outsAt0 m c t.val t.isLt).2.2.2.2.2.1 (layer m c).y := fun r d => by
  by_cases h : t.val % 8 = 0
  · rw [outsAt0_A m c t h]
    frame_out
    exact y_at (reads m c t) (before_A m c t h) r d
  · rw [outsAt0_B m c t h]
    frame_out
    exact y_at (reads m c t) (before_read m c t h _ _) r d

/-! ## The arrays after the call -/

theorem idxOut : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] :=
  (by decide +kernel : ∀ t : Fin grid0.N, _)

theorem emb5 (y : S512x1024.Idx) : ((View.whole main_v10_0).slice (win0_5.rect t)).emb y = ix2 (row (tile t) (y 0)) (y 1) := by
  unfold row tile
  blk_ext [idxOut t]

/-- The layer's output. -/
theorem array5 : (dats m 0 c).arrAt 5 (cfgs 0).N = (fun i => (layer m c).out (i 0) (i 1) : S4096x1024.Idx → EReal) := by
  refine (dats m 0 c).arrAt_eq_of_covers 5 _ (by decide +kernel) fun t _ y => ?_
  blk_simp
  rw [after0_5, emb5 t y]
  exact (congrArg _ (eq_ix2 y)).trans (out5 m c t (y 0) (y 1))

theorem emb6 (y : S512x1024.Idx) : ((View.whole main_v10_1).slice (win0_6.rect t)).emb y = ix2 (row (tile t) (y 0)) (y 1) := by
  unfold row tile
  blk_ext [idxOut t]

/-- The normalised and modulated input. -/
theorem array6 : (dats m 0 c).arrAt 6 (cfgs 0).N = (fun i => (layer m c).h (i 0) (i 1) : S4096x1024.Idx → EReal) := by
  refine (dats m 0 c).arrAt_eq_of_covers 6 _ (by decide +kernel) fun t _ y => ?_
  blk_simp
  rw [after0_6, emb6 t y]
  exact (congrArg _ (eq_ix2 y)).trans (out6 m c t (y 0) (y 1))

theorem emb7 (y : S512x3072.Idx) : ((View.whole main_v10_2).slice (win0_7.rect t)).emb y = ix2 (row (tile t) (y 0)) (y 1) := by
  unfold row tile
  blk_ext [idxOut t]

/-- The projected input. -/
theorem array7 : (dats m 0 c).arrAt 7 (cfgs 0).N = (fun i => (layer m c).bcx (i 0) (i 1) : S4096x3072.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

theorem emb8 (y : S512x1024.Idx) : ((View.whole main_v10_3).slice (win0_8.rect t)).emb y = ix2 (row (tile t) (y 0)) (y 1) := by
  unfold row tile
  blk_ext [idxOut t]

/-- The convolution's output. -/
theorem array8 : (dats m 0 c).arrAt 8 (cfgs 0).N = (fun i => (layer m c).conv (i 0) (i 1) : S4096x1024.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

theorem emb9 (y : S512x1024.Idx) : ((View.whole main_v10_4).slice (win0_9.rect t)).emb y = ix2 (row (tile t) (y 0)) (y 1) := by
  unfold row tile
  blk_ext [idxOut t]

/-- The gated output of the convolution. -/
theorem array9 : (dats m 0 c).arrAt 9 (cfgs 0).N = (fun i => (layer m c).q (i 0) (i 1) : S4096x1024.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

theorem emb10 (y : S512x1024.Idx) : ((View.whole main_v10_5).slice (win0_10.rect t)).emb y = ix2 (row (tile t) (y 0)) (y 1) := by
  unfold row tile
  blk_ext [idxOut t]

/-- The layer's result before its gate. -/
theorem array10 : (dats m 0 c).arrAt 10 (cfgs 0).N = (fun i => (layer m c).y (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem taps_eq (U : Valuation τ sig (Elt Ideal)) :
    StableHlo.after (hostOps0 (F := Ideal)) U (Proc.devRef .tc main_v9) = concatenate S2x8x1024 1 [⟨S2x3x1024, U (Proc.devRef .tc main_arg5)⟩,
    ⟨S2x1x1024, broadcastInDim S2x1x1024 ![0, 2] Gen.bcast_S2x1024_S2x1x1024_0_2 (U (Proc.devRef .tc main_arg6))⟩,
    ⟨S2x4x1024, broadcastInDim S2x4x1024 ![] Gen.bcast_S_S2x4x1024 (constant (F := Ideal) S_ .f32 0x00000000#32)⟩]
    Gen.concatenates_S2x3x1024_S2x1x1024_S2x4x1024_S2x8x1024_d1 := by
  unfold hostOps0
  after_results_simp
  try dsimp only [Matrix.cons_val]
  try after_results_simp
  try rfl

theorem pv_rows (k : Fin 8) (hk : k.val < 6) (d : Fin 1024) :
    V m c main_v2 (ix3 3 k d) = m (c, Proc.devRef .tc main_arg1) (ix3 3 ⟨k.val, hk⟩ d) := by
  refine (congrFun (pv_eq _) _).trans ?_
  generalize (fun b => m (c, b)) = U
  pointwise
  rw [dif_pos hk]

theorem pv_norm (k : Fin 8) (hk : k.val = 6) (d : Fin 1024) :
    V m c main_v2 (ix3 3 k d) = m (c, Proc.devRef .tc main_arg2) (ix2 3 d) := by
  refine (congrFun (pv_eq _) _).trans ?_
  generalize (fun b => m (c, b)) = U
  pointwise
  rw [dif_neg (by omega), dif_pos (by omega)]

theorem taps (k : Fin 8) (hk : k.val < 3) (d : Fin 1024) :
    V m c main_v9 (ix3 1 k d) = m (c, Proc.devRef .tc main_arg5) (ix3 1 ⟨k.val, hk⟩ d) := by
  refine (congrFun (taps_eq _) _).trans ?_
  generalize (fun b => m (c, b)) = U
  pointwise
  rw [dif_pos hk]

theorem taps_bias (k : Fin 8) (hk : k.val = 3) (d : Fin 1024) :
    V m c main_v9 (ix3 1 k d) = m (c, Proc.devRef .tc main_arg6) (ix2 1 d) := by
  refine (congrFun (taps_eq _) _).trans ?_
  generalize (fun b => m (c, b)) = U
  pointwise
  rw [dif_neg (by omega), dif_pos (by omega)]

theorem wi_eq (U : Valuation τ sig (Elt Ideal)) (a : Fin 1024) (j : Fin 3072) :
    StableHlo.after (hostOps0 (F := Ideal)) U (Proc.devRef .tc main_v4) (ix3 0 a j) = U (Proc.devRef .tc main_arg4) (ix2 a j) := by
  unfold hostOps0
  after_results_simp
  pointwise

theorem wo_eq (U : Valuation τ sig (Elt Ideal)) (a b : Fin 1024) :
    StableHlo.after (hostOps0 (F := Ideal)) U (Proc.devRef .tc main_v6) (ix3 0 a b) = U (Proc.devRef .tc main_arg7) (ix2 a b) := by
  unfold hostOps0
  after_results_simp
  pointwise

theorem wi_at (a : Fin 1024) (j : Fin 3072) : V m c main_v4 (ix3 0 a j) = m (c, Proc.devRef .tc main_arg4) (ix2 a j) :=
  wi_eq (fun b => m (c, b)) a j

theorem wo_at (a b : Fin 1024) : V m c main_v6 (ix3 0 a b) = m (c, Proc.devRef .tc main_arg7) (ix2 a b) :=
  wo_eq (fun b => m (c, b)) a b

end Cert.Mix3Ideal.Value

end
-- ==== Proof.Mix3Ref.lean ====
/- The reference's forward values of the short convolution, and their equality with the call's: layer 3. -/
module

public import proofs.«01_k».proof.Defs
public import proofs.«01_k».proof.Proof.Gen.Mix3RefIdeal.Run
public import proofs.«01_k».proof.Proof.Mix3Call

@[expose] public section

set_option maxRecDepth 16384
noncomputable section
open Idealize.ShloMosaic Idealize.ShloMosaic.TcCoe Idealize.SL.Sem
namespace Cert.Mix3RefIdeal.Spec
open Cert.Mix3RefIdeal Cert.Mix3RefIdeal.Gen Cert.Mix3RefIdeal.Value Cert.ConvSpec Cert.MixSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg2 : FVec Ideal S4x1024 .f32 := m ((c.tc : Thread nD τ).loc main_arg2)
abbrev arg4 : FVec Ideal S1024x3072 .f32 := m ((c.tc : Thread nD τ).loc main_arg4)
abbrev arg5 : FVec Ideal S2x3x1024 .f32 := m ((c.tc : Thread nD τ).loc main_arg5)
abbrev arg6 : FVec Ideal S2x1024 .f32 := m ((c.tc : Thread nD τ).loc main_arg6)
abbrev arg7 : FVec Ideal S1024x1024 .f32 := m ((c.tc : Thread nD τ).loc main_arg7)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![3, 0] (arg2 m c) slices_S4x1024_S1x1024_3_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![3, 1, 0] (arg1 m c) slices_S4x6x1024_S1x1x1024_3_1_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![3, 0, 0] (arg1 m c) slices_S4x6x1024_S1x1x1024_3_0_0) shapeCasts_S1x1x1024_S1024)))

/-- The projected input. -/
def bcxArr : FVec Ideal S4096x3072 .f32 :=
  Host.dotGeneral dot_S4096x1024_S1024x3072_S4096x3072_1_0_0_1_n_n none (hArr m c) (arg4 m c)

/-- The convolution's input. -/
def zArr : FVec Ideal S4096x1024 .f32 :=
  mulf (extractStridedSlice S4096x1024 ![0, 1024] (bcxArr m c) slices_S4096x3072_S4096x1024_0_1024) (extractStridedSlice S4096x1024 ![0, 2048] (bcxArr m c) slices_S4096x3072_S4096x1024_0_2048)

/-- The convolution's input after two rows of zeros. -/
def padArr : FVec Ideal S4098x1024 .f32 :=
  concatenate S4098x1024 0 [⟨S2x1024, (broadcastInDim S2x1024 ![] bcast_S_S2x1024 (constant S_ .f32 0x00000000#32))⟩, ⟨S4096x1024, (zArr m c)⟩] concatenates_S2x1024_S4096x1024_S4098x1024_d0

/-- The convolution's output. -/
def convArr : FVec Ideal S4096x1024 .f32 :=
  addf (addf (addf (mulf (broadcastInDim S4096x1024 ![0, 1] bcast_S1x1024_S4096x1024_0_1 (broadcastInDim S1x1024 ![1] bcast_S1024_S1x1024_1 (shapeCast _ (extractStridedSlice S1x1024 ![0, 0] (shapeCast _ (extractStridedSlice S1x3x1024 ![1, 0, 0] (arg5 m c) slices_S2x3x1024_S1x3x1024_1_0_0) shapeCasts_S1x3x1024_S3x1024) slices_S3x1024_S1x1024_0_0) shapeCasts_S1x1024_S1024))) (extractStridedSlice S4096x1024 ![0, 0] (padArr m c) slices_S4098x1024_S4096x1024_0_0)) (mulf (broadcastInDim S4096x1024 ![0, 1] bcast_S1x1024_S4096x1024_0_1 (broadcastInDim S1x1024 ![1] bcast_S1024_S1x1024_1 (shapeCast _ (extractStridedSlice S1x1024 ![1, 0] (shapeCast _ (extractStridedSlice S1x3x1024 ![1, 0, 0] (arg5 m c) slices_S2x3x1024_S1x3x1024_1_0_0) shapeCasts_S1x3x1024_S3x1024) slices_S3x1024_S1x1024_1_0) shapeCasts_S1x1024_S1024))) (extractStridedSlice S4096x1024 ![1, 0] (padArr m c) slices_S4098x1024_S4096x1024_1_0))) (mulf (broadcastInDim S4096x1024 ![0, 1] bcast_S1x1024_S4096x1024_0_1 (broadcastInDim S1x1024 ![1] bcast_S1024_S1x1024_1 (shapeCast _ (extractStridedSlice S1x1024 ![2, 0] (shapeCast _ (extractStridedSlice S1x3x1024 ![1, 0, 0] (arg5 m c) slices_S2x3x1024_S1x3x1024_1_0_0) shapeCasts_S1x3x1024_S3x1024) slices_S3x1024_S1x1024_2_0) shapeCasts_S1x1024_S1024))) (extractStridedSlice S4096x1024 ![2, 0] (padArr m c) slices_S4098x1024_S4096x1024_2_0))) (broadcastInDim S4096x1024 ![0, 1] bcast_S1x1024_S4096x1024_0_1 (broadcastInDim S1x1024 ![1] bcast_S1024_S1x1024_1 (shapeCast _ (extractStridedSlice S1x1024 ![1, 0] (arg6 m c) slices_S2x1024_S1x1024_1_0) shapeCasts_S1x1024_S1024)))

/-- The gated output of the convolution. -/
def qArr : FVec Ideal S4096x1024 .f32 :=
  mulf (extractStridedSlice S4096x1024 ![0, 0] (bcxArr m c) slices_S4096x3072_S4096x1024_0_0) (convArr m c)

/-- The layer's result before its gate. -/
def yArr : FVec Ideal S4096x1024 .f32 :=
  Host.dotGeneral dot_S4096x1024_S1024x1024_S4096x1024_1_0_0_1_n_n none (qArr m c) (arg7 m c)

/-- The layer's output. -/
def outArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![3, 2, 0] (arg1 m c) slices_S4x6x1024_S1x1x1024_3_2_0) shapeCasts_S1x1x1024_S1024))) (yArr m c))

/-! ## Their entries -/

/-- The arrays of the layer, from the arguments. -/
def layer : Inputs where
  x := fun n d => arg0 m c (ix2 n d)
  shift := fun d => arg1 m c (ix3 3 0 d)
  scale := fun d => arg1 m c (ix3 3 1 d)
  gate := fun d => arg1 m c (ix3 3 2 d)
  norm := fun d => arg2 m c (ix2 3 d)
  wi := fun a j => arg4 m c (ix2 a j)
  wo := fun a b => arg7 m c (ix2 a b)
  tap := fun k d => arg5 m c (ix3 1 k d)
  bias := fun d => arg6 m c (ix2 1 d)

theorem h_at (n : Fin 4096) (d : Fin 1024) : hArr m c (ix2 n d) = (layer m c).h n d := by
  pointwise [hArr]
  rfl

theorem bcx_at (n : Fin 4096) (j : Fin 3072) : bcxArr m c (ix2 n j) = (layer m c).bcx n j := by
  pointwise [bcxArr]
  simp only [h_at]
  rfl

theorem z_at (n : Fin 4096) (d : Fin 1024) : zArr m c (ix2 n d) = convIn (layer m c).bcx n d := by
  pointwise [zArr]
  rw [bcx_at, bcx_at]
  rfl

/-- Row `k` of the padded array is two tokens back. -/
theorem pad_at (k : Fin 4098) (s : ℕ) (n : Fin 4096) (d : Fin 1024) (hk : k.val + s = n.val + 2) :
    padArr m c (ix2 k d) = earlier (convIn (layer m c).bcx) s n d := by
  pointwise [padArr]
  unfold earlier
  by_cases h : k.val < 2
  · rw [dif_pos h, dif_pos (by omega)]
  · rw [dif_neg h, dif_neg (by omega), z_at]
    congr 1
    exact Fin.ext (by show k.val - 2 = n.val - s; omega)

theorem conv_at (n : Fin 4096) (d : Fin 1024) : convArr m c (ix2 n d) = (layer m c).conv n d := by
  have P0 := fun k h => pad_at m c k 2 n d h
  have P1 := fun k h => pad_at m c k 1 n d h
  have P2 := fun k h => pad_at m c k 0 n d h
  have Z : earlier (convIn (layer m c).bcx) 0 n d = convIn (layer m c).bcx n d := by
    unfold earlier
    rw [dif_neg (by omega)]
    rfl
  unfold convArr
  generalize padArr m c = p at *
  pointwise
  rw [P0 _ (by show _ + 2 = _ + 2; simp), P1 _ (by show _ + 1 = _ + 2; simp; try omega), P2 _ (by show _ + 0 = _ + 2; simp; try omega), Z]
  rfl

theorem q_at (n : Fin 4096) (d : Fin 1024) : qArr m c (ix2 n d) = (layer m c).q n d := by
  have C := conv_at m c n d
  have B := bcx_at m c n
  unfold qArr
  generalize convArr m c = v at *
  generalize bcxArr m c = w at *
  pointwise
  rw [C, B]
  rfl

theorem y_at (n : Fin 4096) (d : Fin 1024) : yArr m c (ix2 n d) = (layer m c).y n d := by
  pointwise [yArr]
  simp only [q_at]
  rfl

theorem out_at (n : Fin 4096) (d : Fin 1024) : outArr m c (ix2 n d) = (layer m c).out n d := by
  pointwise [outArr]
  rw [y_at]
  rfl

end Cert.Mix3RefIdeal.Spec

namespace Cert.Mix3Ideal.Value
open Cert.Mix3Ideal Cert.Mix3Ideal.Gen Cert.ConvSpec Cert.MixSpec
variable (m : (ℓ : Loc nD τ sig) → Buf (Elt Ideal) ℓ) (c : Dev nD)
  (W : (ℓ : Loc Cert.Mix3RefIdeal.nD Cert.Mix3RefIdeal.τ Cert.Mix3RefIdeal.sig) → Buf (Elt Ideal) ℓ)
  (c' : Dev Cert.Mix3RefIdeal.nD)

/-- The reference starts from the kernel's arguments. -/
structure SameArgs : Prop where
  a0 : W ((c'.tc : Thread Cert.Mix3RefIdeal.nD Cert.Mix3RefIdeal.τ).loc Cert.Mix3RefIdeal.main_arg0) = m ((c.tc : Thread nD τ).loc main_arg0)
  a1 : W ((c'.tc : Thread Cert.Mix3RefIdeal.nD Cert.Mix3RefIdeal.τ).loc Cert.Mix3RefIdeal.main_arg1) = m ((c.tc : Thread nD τ).loc main_arg1)
  a2 : W ((c'.tc : Thread Cert.Mix3RefIdeal.nD Cert.Mix3RefIdeal.τ).loc Cert.Mix3RefIdeal.main_arg2) = m ((c.tc : Thread nD τ).loc main_arg2)
  a4 : W ((c'.tc : Thread Cert.Mix3RefIdeal.nD Cert.Mix3RefIdeal.τ).loc Cert.Mix3RefIdeal.main_arg4) = m ((c.tc : Thread nD τ).loc main_arg4)
  a5 : W ((c'.tc : Thread Cert.Mix3RefIdeal.nD Cert.Mix3RefIdeal.τ).loc Cert.Mix3RefIdeal.main_arg5) = m ((c.tc : Thread nD τ).loc main_arg5)
  a6 : W ((c'.tc : Thread Cert.Mix3RefIdeal.nD Cert.Mix3RefIdeal.τ).loc Cert.Mix3RefIdeal.main_arg6) = m ((c.tc : Thread nD τ).loc main_arg6)
  a7 : W ((c'.tc : Thread Cert.Mix3RefIdeal.nD Cert.Mix3RefIdeal.τ).loc Cert.Mix3RefIdeal.main_arg7) = m ((c.tc : Thread nD τ).loc main_arg7)

variable {m c W c'}

/-- The kernel's layer is the reference's. -/
theorem same_layer (s : SameArgs m c W c') : layer m c = Cert.Mix3RefIdeal.Spec.layer W c' :=
  layer_eq _ _ (fun n d => (congrFun (V_main_arg0 m c) (ix2 n d)).trans (congrFun s.a0 (ix2 n d)).symm)
    (fun d => (pv_norm m c 6 rfl d).trans (congrFun s.a2 (ix2 3 d)).symm)
    (fun d => (pv_rows m c 1 (by decide) d).trans (congrFun s.a1 (ix3 3 1 d)).symm)
    (fun d => (pv_rows m c 0 (by decide) d).trans (congrFun s.a1 (ix3 3 0 d)).symm)
    (fun d => (pv_rows m c 2 (by decide) d).trans (congrFun s.a1 (ix3 3 2 d)).symm)
    (fun a j => (wi_at m c a j).trans (congrFun s.a4 (ix2 a j)).symm)
    (fun k d => (taps m c ⟨k.val, by omega⟩ k.isLt d).trans (congrFun s.a5 (ix3 1 k d)).symm)
    (fun d => (taps_bias m c 3 rfl d).trans (congrFun s.a6 (ix2 1 d)).symm)
    (fun a b => (wo_at m c a b).trans (congrFun s.a7 (ix2 a b)).symm)

end Cert.Mix3Ideal.Value

namespace Cert.Proof

/-- The reference's host operations leave its arguments unchanged, and it declares no semaphore. -/
theorem frame_reference_Mix3 : Cert.quiescent_Mix3RefIdeal := fun m ρ _ =>
  (θ_run Cert.Mix3RefIdeal.defs _ _).mono
    (fun r h => ⟨fun c => (h c).2.2.2.2.2.2, sem_eq_zero_of_no_sems (by decide) r.2⟩)
    (Cert.Mix3RefIdeal.Value.run (F := Ideal) m ρ)

/-- From the same arguments the kernel and the reference end with the same six results. -/
theorem algebraic_Mix3 : Cert.algebraic_Mix3Ideal_Mix3RefIdeal := by
  intro m g m' g' _ he
  have hs : ∀ c, Cert.Mix3Ideal.Value.SameArgs m c m' c := fun c =>
    ⟨(he c).1, (he c).2.1, (he c).2.2.1, (he c).2.2.2.2.1, (he c).2.2.2.2.2.1, (he c).2.2.2.2.2.2.1, (he c).2.2.2.2.2.2.2⟩
  refine ⟨fun c i => (Cert.Mix3Ideal.Value.layer m c).out (i 0) (i 1), fun c i => (Cert.Mix3Ideal.Value.layer m c).h (i 0) (i 1), fun c i => (Cert.Mix3Ideal.Value.layer m c).bcx (i 0) (i 1), fun c i => (Cert.Mix3Ideal.Value.layer m c).conv (i 0) (i 1), fun c i => (Cert.Mix3Ideal.Value.layer m c).q (i 0) (i 1), fun c i => (Cert.Mix3Ideal.Value.layer m c).y (i 0) (i 1), ?_, ?_⟩
  · refine (θ_run Cert.Mix3Ideal.defs _ _).mono (fun r h c => ?_) (Cert.Mix3Ideal.Value.run_blocks (F := Ideal) m g)
    obtain ⟨h0, h1, h2, h3, h4, h5, ha⟩ := h c
    exact ⟨h0.trans (Cert.Mix3Ideal.Value.array5 m c), h1.trans (Cert.Mix3Ideal.Value.array6 m c), h2.trans (Cert.Mix3Ideal.Value.array7 m c), h3.trans (Cert.Mix3Ideal.Value.array8 m c), h4.trans (Cert.Mix3Ideal.Value.array9 m c), h5.trans (Cert.Mix3Ideal.Value.array10 m c), ha⟩
  · refine (θ_run Cert.Mix3RefIdeal.defs _ _).mono (fun r h c => ?_) (Cert.Mix3RefIdeal.Value.run (F := Ideal) m' g')
    obtain ⟨h0, h1, h2, h3, h4, h5, ha⟩ := h c
    have e := Cert.Mix3Ideal.Value.same_layer (hs c)
    refine ⟨h0.trans (funext fun i => ?_), h1.trans (funext fun i => ?_), h2.trans (funext fun i => ?_), h3.trans (funext fun i => ?_), h4.trans (funext fun i => ?_), h5.trans (funext fun i => ?_), ha⟩
    · exact (congrArg (Cert.Mix3RefIdeal.Spec.outArr m' c) (eq_ix2 i)).trans ((Cert.Mix3RefIdeal.Spec.out_at m' c (i 0) (i 1)).trans (congrArg (fun L => Cert.MixSpec.Inputs.out L (i 0) (i 1)) e.symm))
    · exact (congrArg (Cert.Mix3RefIdeal.Spec.hArr m' c) (eq_ix2 i)).trans ((Cert.Mix3RefIdeal.Spec.h_at m' c (i 0) (i 1)).trans (congrArg (fun L => Cert.MixSpec.Inputs.h L (i 0) (i 1)) e.symm))
    · exact (congrArg (Cert.Mix3RefIdeal.Spec.bcxArr m' c) (eq_ix2 i)).trans ((Cert.Mix3RefIdeal.Spec.bcx_at m' c (i 0) (i 1)).trans (congrArg (fun L => Cert.MixSpec.Inputs.bcx L (i 0) (i 1)) e.symm))
    · exact (congrArg (Cert.Mix3RefIdeal.Spec.convArr m' c) (eq_ix2 i)).trans ((Cert.Mix3RefIdeal.Spec.conv_at m' c (i 0) (i 1)).trans (congrArg (fun L => Cert.MixSpec.Inputs.conv L (i 0) (i 1)) e.symm))
    · exact (congrArg (Cert.Mix3RefIdeal.Spec.qArr m' c) (eq_ix2 i)).trans ((Cert.Mix3RefIdeal.Spec.q_at m' c (i 0) (i 1)).trans (congrArg (fun L => Cert.MixSpec.Inputs.q L (i 0) (i 1)) e.symm))
    · exact (congrArg (Cert.Mix3RefIdeal.Spec.yArr m' c) (eq_ix2 i)).trans ((Cert.Mix3RefIdeal.Spec.y_at m' c (i 0) (i 1)).trans (congrArg (fun L => Cert.MixSpec.Inputs.y L (i 0) (i 1)) e.symm))

end Cert.Proof

end
-- ==== Proof.GatingSpec.lean ====
/- The forward values of the spatial gating, entry by entry, as functions of the arrays that it is given. -/
module

public import proofs.«01_k».proof.Proof.NormBack

@[expose] public section

noncomputable section

namespace Cert.GatingSpec

open Idealize.ShloMosaic

/-- An array of 4096 tokens. -/
abbrev Tok := Fin 4096 → Fin 1024 → EReal

/-- An array of 4096 tokens with two blocks of 1024 columns. -/
abbrev Pair := Fin 4096 → Fin 2048 → EReal

/-- One square of 128 rows and columns for each of the eight heads. -/
abbrev Heads := Fin 8 → Fin 128 → Fin 128 → EReal

/-- The normalised input without its gain. -/
def unit (x : Tok) : Tok := fun n d => x n d * NormBack.rinv (x n)

/-- The head of a column. -/
def head (d : Fin 1024) : Fin 8 := ⟨d.val / 128, by omega⟩

/-- The place of a token in its chunk of 128. -/
def place (n : Fin 4096) : Fin 128 := ⟨n.val % 128, by omega⟩

/-- The token at place `s` of the chunk of token `n`. -/
def chunk (n : Fin 4096) (s : Fin 128) : Fin 4096 := ⟨n.val / 128 * 128 + s.val, by omega⟩

/-- A square with zeros above its diagonal. -/
def tri (w : Fin 128 → Fin 128 → EReal) (a s : Fin 128) : EReal := if s.val ≤ a.val then w a s else 0

/-- Each token as a combination of the tokens before it in its chunk, with its head's weights, and a bias. -/
def mix (ws : Heads) (b : Fin 8 → Fin 128 → EReal) (f : Tok) : Tok := fun n d =>
  ∑ s, tri (ws (head d)) (place n) s * f (chunk n s) d + b (head d) (place n)

/-- The arrays that the forward pass is given. -/
@[ext] structure Inputs where
  /-- The layer's input. -/
  x : Tok
  /-- The norm's gain. -/
  norm : Fin 1024 → EReal
  /-- What is added to one in the norm's modulation. -/
  scale : Fin 1024 → EReal
  /-- The norm's shift. -/
  shift : Fin 1024 → EReal
  /-- The gate on the layer's result. -/
  gate : Fin 1024 → EReal
  /-- The input projection's weight. -/
  wi : Fin 1024 → Fin 2048 → EReal
  /-- The gain of the norm before the chunks are combined. -/
  vgain : Fin 1024 → EReal
  /-- The weights that combine the tokens of a chunk. -/
  ws : Heads
  /-- Their bias. -/
  bias : Fin 8 → Fin 128 → EReal
  /-- The output projection's weight. -/
  wo : Fin 1024 → Fin 1024 → EReal

/-- Inputs with the same arrays are the same. -/
theorem inputs_eq (A B : Inputs) (h0 : ∀ n d, A.x n d = B.x n d) (h1 : ∀ d, A.norm d = B.norm d) (h2 : ∀ d, A.scale d = B.scale d)
    (h3 : ∀ d, A.shift d = B.shift d) (h4 : ∀ d, A.gate d = B.gate d) (h5 : ∀ a j, A.wi a j = B.wi a j)
    (h6 : ∀ d, A.vgain d = B.vgain d) (h7 : ∀ k a s, A.ws k a s = B.ws k a s) (h8 : ∀ k a, A.bias k a = B.bias k a)
    (h9 : ∀ a b, A.wo a b = B.wo a b) : A = B :=
  Inputs.ext (funext fun n => funext (h0 n)) (funext h1) (funext h2) (funext h3) (funext h4) (funext fun a => funext (h5 a))
    (funext h6) (funext fun k => funext fun a => funext (h7 k a)) (funext fun k => funext (h8 k)) (funext fun a => funext (h9 a))

namespace Inputs

variable (L : Inputs)

/-- The normalised and modulated input. -/
def h : Tok := fun n d => unit L.x n d * L.norm d * (1 + L.scale d) + L.shift d
/-- The projected input: what is gated, and what the gate is made from. -/
def uv : Pair := fun n j => ∑ k, L.h n k * L.wi k j
/-- What the gate is made from. -/
def v : Tok := fun n d => L.uv n ⟨1024 + d.val, by omega⟩
/-- Its norm. -/
def vn : Tok := fun n d => unit L.v n d * L.vgain d
/-- The gate: the chunks of the norm combined. -/
def vm : Tok := mix L.ws L.bias L.vn
/-- The gated array. -/
def q : Tok := fun n d => L.uv n ⟨d.val, by omega⟩ * L.vm n d
/-- The layer's result before its gate. -/
def y : Tok := fun n d => ∑ k, L.q n k * L.wo k d
/-- The layer's output. -/
def out : Tok := fun n d => L.x n d + L.gate d * L.y n d

end Inputs

end Cert.GatingSpec

end
-- ==== Proof.GatingTile.lean ====
/- What one tile of the spatial gating's forward call computes, entry by entry. -/
module

public import proofs.«01_k».proof.Defs
public import proofs.«01_k».proof.Proof.Gen.GatingIdeal.Skeleton
public import proofs.«01_k».proof.Proof.GatingSpec
public import Idealize.ShloMosaic.Lib.Pointwise

@[expose] public section

set_option maxRecDepth 16384
noncomputable section
open Idealize.ShloMosaic Idealize.ShloMosaic.TcCoe Idealize.SL.Sem
namespace Cert.GatingIdeal.Tile
open Cert.GatingIdeal Cert.GatingIdeal.Gen Cert.GatingSpec Cert

/-- Token `n` of a tile's row `r`, the tiles of 512 tokens being numbered from the first token. -/
def row (q : Fin 8) (r : Fin 512) : Fin 4096 := ⟨q.val * 512 + r.val, by omega⟩

/-- The mask of a square's lower triangle. -/
theorem ge : ∀ a s : Fin 128, IntOp.cmpi .sge (BitVec.ofNat 32 a.val) (BitVec.ofNat 32 s.val) = if s.val ≤ a.val then 1#1 else 0#1 := by
  decide +kernel

/-- A choice by a mask that is one exactly when `p` holds. -/
theorem select_if (p : Prop) [Decidable p] (a b : EReal) :
    Scalar.select (if p then 1#1 else 0#1) a b = if p then a else b := by
  by_cases h : p <;> simp [Scalar.select, h]

/-! ## The arrays of one tile -/

/-- `v` holds tile `q` of the array `f`. -/
def Holds (q : Fin 8) (v : S512x1024.Idx → EReal) (f : Tok) : Prop := ∀ (r : Fin 512) (d : Fin 1024), v (ix2 r d) = f (row q r) d

/-- `v` holds tile `q` of the array of pairs `f`. -/
def HoldsPair (q : Fin 8) (v : S512x2048.Idx → EReal) (f : Pair) : Prop := ∀ (r : Fin 512) (j : Fin 2048), v (ix2 r j) = f (row q r) j

/-- The blocks that a grid point reads are tile `q` of the layer's arrays. -/
structure Reads (q : Fin 8) (L : Inputs) (b0 : Vec Ideal S512x1024 .f32) (b1 : Vec Ideal S1x8x1024 .f32) (b2 : Vec Ideal S1x1024x2048 .bf16)
    (b3 : Vec Ideal S8x128x128 .f32) (b4 : Vec Ideal S128x8 .f32) (b5 : Vec Ideal S1x1024 .f32) (b6 : Vec Ideal S1x1024x1024 .bf16) : Prop where
  x : Holds q b0 L.x
  shift : ∀ d, b1 (ix3 0 0 d) = L.shift d
  scale : ∀ d, b1 (ix3 0 1 d) = L.scale d
  gate : ∀ d, b1 (ix3 0 2 d) = L.gate d
  norm : ∀ d, b1 (ix3 0 6 d) = L.norm d
  wi : ∀ a j, b2 (ix3 0 a j) = L.wi a j
  ws : ∀ k a s, b3 (ix3 k a s) = L.ws k a s
  bias : ∀ k a, b4 (ix2 a k) = L.bias k a
  vgain : ∀ d, b5 (ix2 0 d) = L.vgain d
  wo : ∀ a b, b6 (ix3 0 a b) = L.wo a b

variable {q : Fin 8} {L : Inputs} {b0 : Vec Ideal S512x1024 .f32} {b1 : Vec Ideal S1x8x1024 .f32} {b2 : Vec Ideal S1x1024x2048 .bf16}
  {b3 : Vec Ideal S8x128x128 .f32} {b4 : Vec Ideal S128x8 .f32} {b5 : Vec Ideal S1x1024 .f32} {b6 : Vec Ideal S1x1024x1024 .bf16}

theorem h_at (R : Reads q L b0 b1 b2 b3 b4 b5 b6) : Holds q (k0_pay4 b0 b1) L.h := fun r d => by
  pointwise [k0_pay4, k0_pay3]
  simp only [R.x r, R.shift d, R.scale d, R.norm d]
  rfl

theorem uv_at (R : Reads q L b0 b1 b2 b3 b4 b5 b6) : HoldsPair q (k0_pay5 b0 b1 b2) L.uv := fun r j => by
  pointwise [k0_pay5]
  exact Finset.sum_congr rfl fun k _ => by rw [h_at R r k, R.wi]

theorem v_at (R : Reads q L b0 b1 b2 b3 b4 b5 b6) : Holds q (k0_pay6 b0 b1 b2) L.v := fun r d => by
  have U := uv_at R r
  unfold k0_pay6
  generalize k0_pay5 b0 b1 b2 = w at *
  pointwise
  rw [U]
  rfl

/-- The norm that the chunks are taken from. -/
def norm9 (b0 : Vec Ideal S512x1024 .f32) (b1 : Vec Ideal S1x8x1024 .f32) (b2 : Vec Ideal S1x1024x2048 .bf16) (b5 : Vec Ideal S1x1024 .f32) :
    FVec Ideal S512x1024 .bf16 := k0_pay9 (k0_pay6 b0 b1 b2) (k0_pay7 b0 b1 b2) (k0_pay8 (F := Ideal)) b5

theorem vn_at (R : Reads q L b0 b1 b2 b3 b4 b5 b6) : Holds q (norm9 b0 b1 b2 b5) L.vn := fun r d => by
  have V := v_at R r
  unfold norm9 k0_pay7
  generalize k0_pay6 b0 b1 b2 = w at *
  pointwise [k0_pay9, k0_pay8]
  simp only [V, R.vgain]
  rfl

/-! ## One head's square against one chunk -/

/-- A chunk's rows combined with the weights of row `a` of head `k`'s square. -/
theorem mix_piece {y : S512x1024.Idx → EReal} (V : Holds q y L.vn) (k : Fin 8) (ck : ℕ) (a b : Fin 128) (i : Fin 512) (j : Fin 1024)
    (hi : i.val = ck * 128 + a.val) (hj : j.val = k.val * 128 + b.val) (z : S128x128.Idx → EReal) (W : ∀ s, z (ix2 a s) = tri (L.ws k) a s)
    (c : EReal) (hc : c = L.bias k a) (ρ : Fin 128 → Fin 512) (j' : Fin 1024) (hρ : ∀ s, (ρ s).val = ck * 128 + s.val) (hj' : j'.val = j.val) :
    ∑ s, z (ix2 a s) * y (ix2 (ρ s) j') + c = L.vm (row q i) j := by
  have e0 : j' = j := Fin.ext hj'
  have e1 : head j = k := Fin.ext (by show j.val / 128 = k.val; omega)
  have e2 : place (row q i) = a := Fin.ext (by show (q.val * 512 + i.val) % 128 = a.val; omega)
  have e3 : ∀ s : Fin 128, chunk (row q i) s = row q (ρ s) := fun s =>
    Fin.ext (by have := hρ s; show (q.val * 512 + i.val) / 128 * 128 + s.val = q.val * 512 + (ρ s).val; omega)
  rw [hc]
  unfold Inputs.vm mix
  simp only [e0, e1, e2, e3, W, V (ρ _) j]

/-- `v` holds the part of the combined chunks for head `k` and chunk `ck` of tile `q`. -/
def Piece (q : Fin 8) (L : Inputs) (k : Fin 8) (ck : ℕ) (v : S128x128.Idx → EReal) : Prop :=
  ∀ (a b : Fin 128) (i : Fin 512) (j : Fin 1024), i.val = ck * 128 + a.val → j.val = k.val * 128 + b.val → v (ix2 a b) = L.vm (row q i) j

variable {vn : FVec Ideal S512x1024 .bf16} {bt : FVec Ideal S128x8 .f32} {w : Vec Ideal S1x128x128 .f32}

/-- What one piece is made from: the norm's tile, the bias, and head `k`'s square. -/
structure Parts (q : Fin 8) (L : Inputs) (k : Fin 8) (vn : FVec Ideal S512x1024 .bf16) (bt : FVec Ideal S128x8 .f32) (w : Vec Ideal S1x128x128 .f32) : Prop where
  vn : Holds q vn L.vn
  bias : ∀ k a, bt (ix2 a k) = L.bias k a
  ws : ∀ a s, w (ix3 0 a s) = L.ws k a s

/-- A head's square with zeros above its diagonal. -/
theorem square_at (k : Fin 8) (w : Vec Ideal S1x128x128 .f32) (W : ∀ a s, w (ix3 0 a s) = L.ws k a s) (a s : Fin 128) :
    k0_pay12 (F := Ideal) w (ix2 a s) = tri (L.ws k) a s := by
  pointwise [k0_pay12, k0_pay10]
  rw [ge, select_if, W]
  rfl

theorem piece_0_0 {v30 : FVec Ideal S512x1024 .f32} {v35 v36 : FVec Ideal S512x1 .f32} (P : Parts q L 0 (k0_pay9 v30 v35 v36 b5) (k0_pay11 b4) w) :
    Piece q L 0 0 (k0_pay13 v30 v35 v36 b5 b4 w) := fun a b i j hi hj => by
  have V := P.vn
  have B := P.bias
  have W := square_at 0 w P.ws a
  unfold k0_pay13
  generalize k0_pay9 v30 v35 v36 b5 = y at *
  generalize k0_pay11 b4 = bt at *
  generalize k0_pay12 (F := Ideal) w = z at *
  pointwise
  exact mix_piece V 0 0 a b i j hi hj z W (bt (ix2 a 0)) (B 0 a) (fun s => ⟨s.val, by omega⟩) ⟨b.val, by omega⟩ (fun s => by simp) (by simp [hj])

theorem piece_0_1 {v30 : FVec Ideal S512x1024 .f32} {v35 v36 : FVec Ideal S512x1 .f32} (P : Parts q L 0 (k0_pay9 v30 v35 v36 b5) (k0_pay11 b4) w) :
    Piece q L 0 1 (k0_pay14 v30 v35 v36 b5 b4 w) := fun a b i j hi hj => by
  have V := P.vn
  have B := P.bias
  have W := square_at 0 w P.ws a
  unfold k0_pay14
  generalize k0_pay9 v30 v35 v36 b5 = y at *
  generalize k0_pay11 b4 = bt at *
  generalize k0_pay12 (F := Ideal) w = z at *
  pointwise
  exact mix_piece V 0 1 a b i j hi hj z W (bt (ix2 a 0)) (B 0 a) (fun s => ⟨128 + s.val, by omega⟩) ⟨b.val, by omega⟩ (fun s => by simp) (by simp [hj])

theorem piece_0_2 {v30 : FVec Ideal S512x1024 .f32} {v35 v36 : FVec Ideal S512x1 .f32} (P : Parts q L 0 (k0_pay9 v30 v35 v36 b5) (k0_pay11 b4) w) :
    Piece q L 0 2 (k0_pay15 v30 v35 v36 b5 b4 w) := fun a b i j hi hj => by
  have V := P.vn
  have B := P.bias
  have W := square_at 0 w P.ws a
  unfold k0_pay15
  generalize k0_pay9 v30 v35 v36 b5 = y at *
  generalize k0_pay11 b4 = bt at *
  generalize k0_pay12 (F := Ideal) w = z at *
  pointwise
  exact mix_piece V 0 2 a b i j hi hj z W (bt (ix2 a 0)) (B 0 a) (fun s => ⟨256 + s.val, by omega⟩) ⟨b.val, by omega⟩ (fun s => by simp) (by simp [hj])

theorem piece_0_3 {v30 : FVec Ideal S512x1024 .f32} {v35 v36 : FVec Ideal S512x1 .f32} (P : Parts q L 0 (k0_pay9 v30 v35 v36 b5) (k0_pay11 b4) w) :
    Piece q L 0 3 (k0_pay17 (k0_pay11 b4) (k0_pay16 v30 v35 v36 b5 w)) := fun a b i j hi hj => by
  have V := P.vn
  have B := P.bias
  have W := square_at 0 w P.ws a
  unfold k0_pay16 k0_pay17
  generalize k0_pay9 v30 v35 v36 b5 = y at *
  generalize k0_pay11 b4 = bt at *
  generalize k0_pay12 (F := Ideal) w = z at *
  pointwise
  exact mix_piece V 0 3 a b i j hi hj z W (bt (ix2 a 0)) (B 0 a) (fun s => ⟨384 + s.val, by omega⟩) ⟨b.val, by omega⟩ (fun s => by simp) (by simp [hj])

theorem piece_1_0 (P : Parts q L 1 vn bt w) :
    Piece q L 1 0 (k0_pay19 vn (k0_pay10) bt w) := fun a b i j hi hj => by
  have V := P.vn
  have B := P.bias
  have W : ∀ s, k0_pay18 (F := Ideal) k0_pay10 w (ix2 a s) = _ := square_at 1 w P.ws a
  unfold k0_pay19
  generalize k0_pay18 (F := Ideal) k0_pay10 w = z at *
  pointwise
  exact mix_piece V 1 0 a b i j hi hj z W (bt (ix2 a 1)) (B 1 a) (fun s => ⟨s.val, by omega⟩) ⟨128 + b.val, by omega⟩ (fun s => by simp) (by simp [hj])

theorem piece_1_1 (P : Parts q L 1 vn bt w) :
    Piece q L 1 1 (k0_pay20 vn (k0_pay10) bt w) := fun a b i j hi hj => by
  have V := P.vn
  have B := P.bias
  have W : ∀ s, k0_pay18 (F := Ideal) k0_pay10 w (ix2 a s) = _ := square_at 1 w P.ws a
  unfold k0_pay20
  generalize k0_pay18 (F := Ideal) k0_pay10 w = z at *
  pointwise
  exact mix_piece V 1 1 a b i j hi hj z W (bt (ix2 a 1)) (B 1 a) (fun s => ⟨128 + s.val, by omega⟩) ⟨128 + b.val, by omega⟩ (fun s => by simp) (by simp [hj])

theorem piece_1_2 (P : Parts q L 1 vn bt w) :
    Piece q L 1 2 (k0_pay21 vn (k0_pay10) bt w) := fun a b i j hi hj => by
  have V := P.vn
  have B := P.bias
  have W : ∀ s, k0_pay18 (F := Ideal) k0_pay10 w (ix2 a s) = _ := square_at 1 w P.ws a
  unfold k0_pay21
  generalize k0_pay18 (F := Ideal) k0_pay10 w = z at *
  pointwise
  exact mix_piece V 1 2 a b i j hi hj z W (bt (ix2 a 1)) (B 1 a) (fun s => ⟨256 + s.val, by omega⟩) ⟨128 + b.val, by omega⟩ (fun s => by simp) (by simp [hj])

theorem piece_1_3 (P : Parts q L 1 vn bt w) :
    Piece q L 1 3 (k0_pay22 vn (k0_pay10) bt w) := fun a b i j hi hj => by
  have V := P.vn
  have B := P.bias
  have W : ∀ s, k0_pay18 (F := Ideal) k0_pay10 w (ix2 a s) = _ := square_at 1 w P.ws a
  unfold k0_pay22
  generalize k0_pay18 (F := Ideal) k0_pay10 w = z at *
  pointwise
  exact mix_piece V 1 3 a b i j hi hj z W (bt (ix2 a 1)) (B 1 a) (fun s => ⟨384 + s.val, by omega⟩) ⟨128 + b.val, by omega⟩ (fun s => by simp) (by simp [hj])

theorem piece_2_0 (P : Parts q L 2 vn bt w) :
    Piece q L 2 0 (k0_pay24 vn (k0_pay10) bt w) := fun a b i j hi hj => by
  have V := P.vn
  have B := P.bias
  have W : ∀ s, k0_pay23 (F := Ideal) k0_pay10 w (ix2 a s) = _ := square_at 2 w P.ws a
  unfold k0_pay24
  generalize k0_pay23 (F := Ideal) k0_pay10 w = z at *
  pointwise
  exact mix_piece V 2 0 a b i j hi hj z W (bt (ix2 a 2)) (B 2 a) (fun s => ⟨s.val, by omega⟩) ⟨256 + b.val, by omega⟩ (fun s => by simp) (by simp [hj])

theorem piece_2_1 (P : Parts q L 2 vn bt w) :
    Piece q L 2 1 (k0_pay25 vn (k0_pay10) bt w) := fun a b i j hi hj => by
  have V := P.vn
  have B := P.bias
  have W : ∀ s, k0_pay23 (F := Ideal) k0_pay10 w (ix2 a s) = _ := square_at 2 w P.ws a
  unfold k0_pay25
  generalize k0_pay23 (F := Ideal) k0_pay10 w = z at *
  pointwise
  exact mix_piece V 2 1 a b i j hi hj z W (bt (ix2 a 2)) (B 2 a) (fun s => ⟨128 + s.val, by omega⟩) ⟨256 + b.val, by omega⟩ (fun s => by simp) (by simp [hj])

theorem piece_2_2 (P : Parts q L 2 vn bt w) :
    Piece q L 2 2 (k0_pay26 vn (k0_pay10) bt w) := fun a b i j hi hj => by
  have V := P.vn
  have B := P.bias
  have W : ∀ s, k0_pay23 (F := Ideal) k0_pay10 w (ix2 a s) = _ := square_at 2 w P.ws a
  unfold k0_pay26
  generalize k0_pay23 (F := Ideal) k0_pay10 w = z at *
  pointwise
  exact mix_piece V 2 2 a b i j hi hj z W (bt (ix2 a 2)) (B 2 a) (fun s => ⟨256 + s.val, by omega⟩) ⟨256 + b.val, by omega⟩ (fun s => by simp) (by simp [hj])

theorem piece_2_3 (P : Parts q L 2 vn bt w) :
    Piece q L 2 3 (k0_pay27 vn (k0_pay10) bt w) := fun a b i j hi hj => by
  have V := P.vn
  have B := P.bias
  have W : ∀ s, k0_pay23 (F := Ideal) k0_pay10 w (ix2 a s) = _ := square_at 2 w P.ws a
  unfold k0_pay27
  generalize k0_pay23 (F := Ideal) k0_pay10 w = z at *
  pointwise
  exact mix_piece V 2 3 a b i j hi hj z W (bt (ix2 a 2)) (B 2 a) (fun s => ⟨384 + s.val, by omega⟩) ⟨256 + b.val, by omega⟩ (fun s => by simp) (by simp [hj])

theorem piece_3_0 (P : Parts q L 3 vn bt w) :
    Piece q L 3 0 (k0_pay29 vn (k0_pay10) bt w) := fun a b i j hi hj => by
  have V := P.vn
  have B := P.bias
  have W : ∀ s, k0_pay28 (F := Ideal) k0_pay10 w (ix2 a s) = _ := square_at 3 w P.ws a
  unfold k0_pay29
  generalize k0_pay28 (F := Ideal) k0_pay10 w = z at *
  pointwise
  exact mix_piece V 3 0 a b i j hi hj z W (bt (ix2 a 3)) (B 3 a) (fun s => ⟨s.val, by omega⟩) ⟨384 + b.val, by omega⟩ (fun s => by simp) (by simp [hj])

theorem piece_3_1 (P : Parts q L 3 vn bt w) :
    Piece q L 3 1 (k0_pay30 vn bt (k0_pay28 (k0_pay10) w)) := fun a b i j hi hj => by
  have V := P.vn
  have B := P.bias
  have W : ∀ s, k0_pay28 (F := Ideal) k0_pay10 w (ix2 a s) = _ := square_at 3 w P.ws a
  generalize k0_pay28 (F := Ideal) k0_pay10 w = z at *
  pointwise [k0_pay30]
  exact mix_piece V 3 1 a b i j hi hj z W (bt (ix2 a 3)) (B 3 a) (fun s => ⟨128 + s.val, by omega⟩) ⟨384 + b.val, by omega⟩ (fun s => by simp) (by simp [hj])

theorem piece_3_2 (P : Parts q L 3 vn bt w) :
    Piece q L 3 2 (k0_pay31 vn bt (k0_pay28 (k0_pay10) w)) := fun a b i j hi hj => by
  have V := P.vn
  have B := P.bias
  have W : ∀ s, k0_pay28 (F := Ideal) k0_pay10 w (ix2 a s) = _ := square_at 3 w P.ws a
  generalize k0_pay28 (F := Ideal) k0_pay10 w = z at *
  pointwise [k0_pay31]
  exact mix_piece V 3 2 a b i j hi hj z W (bt (ix2 a 3)) (B 3 a) (fun s => ⟨256 + s.val, by omega⟩) ⟨384 + b.val, by omega⟩ (fun s => by simp) (by simp [hj])

theorem piece_3_3 (P : Parts q L 3 vn bt w) :
    Piece q L 3 3 (k0_pay32 vn bt (k0_pay28 (k0_pay10) w)) := fun a b i j hi hj => by
  have V := P.vn
  have B := P.bias
  have W : ∀ s, k0_pay28 (F := Ideal) k0_pay10 w (ix2 a s) = _ := square_at 3 w P.ws a
  generalize k0_pay28 (F := Ideal) k0_pay10 w = z at *
  pointwise [k0_pay32]
  exact mix_piece V 3 3 a b i j hi hj z W (bt (ix2 a 3)) (B 3 a) (fun s => ⟨384 + s.val, by omega⟩) ⟨384 + b.val, by omega⟩ (fun s => by simp) (by simp [hj])

theorem piece_4_0 (P : Parts q L 4 vn bt w) :
    Piece q L 4 0 (k0_pay34 vn (k0_pay10) bt w) := fun a b i j hi hj => by
  have V := P.vn
  have B := P.bias
  have W : ∀ s, k0_pay33 (F := Ideal) k0_pay10 w (ix2 a s) = _ := square_at 4 w P.ws a
  unfold k0_pay34
  generalize k0_pay33 (F := Ideal) k0_pay10 w = z at *
  pointwise
  exact mix_piece V 4 0 a b i j hi hj z W (bt (ix2 a 4)) (B 4 a) (fun s => ⟨s.val, by omega⟩) ⟨512 + b.val, by omega⟩ (fun s => by simp) (by simp [hj])

theorem piece_4_1 (P : Parts q L 4 vn bt w) :
    Piece q L 4 1 (k0_pay35 vn (k0_pay10) bt w) := fun a b i j hi hj => by
  have V := P.vn
  have B := P.bias
  have W : ∀ s, k0_pay33 (F := Ideal) k0_pay10 w (ix2 a s) = _ := square_at 4 w P.ws a
  unfold k0_pay35
  generalize k0_pay33 (F := Ideal) k0_pay10 w = z at *
  pointwise
  exact mix_piece V 4 1 a b i j hi hj z W (bt (ix2 a 4)) (B 4 a) (fun s => ⟨128 + s.val, by omega⟩) ⟨512 + b.val, by omega⟩ (fun s => by simp) (by simp [hj])

theorem piece_4_2 (P : Parts q L 4 vn bt w) :
    Piece q L 4 2 (k0_pay36 vn bt (k0_pay33 (k0_pay10) w)) := fun a b i j hi hj => by
  have V := P.vn
  have B := P.bias
  have W : ∀ s, k0_pay33 (F := Ideal) k0_pay10 w (ix2 a s) = _ := square_at 4 w P.ws a
  generalize k0_pay33 (F := Ideal) k0_pay10 w = z at *
  pointwise [k0_pay36]
  exact mix_piece V 4 2 a b i j hi hj z W (bt (ix2 a 4)) (B 4 a) (fun s => ⟨256 + s.val, by omega⟩) ⟨512 + b.val, by omega⟩ (fun s => by simp) (by simp [hj])

theorem piece_4_3 (P : Parts q L 4 vn bt w) :
    Piece q L 4 3 (k0_pay37 vn bt (k0_pay33 (k0_pay10) w)) := fun a b i j hi hj => by
  have V := P.vn
  have B := P.bias
  have W : ∀ s, k0_pay33 (F := Ideal) k0_pay10 w (ix2 a s) = _ := square_at 4 w P.ws a
  generalize k0_pay33 (F := Ideal) k0_pay10 w = z at *
  pointwise [k0_pay37]
  exact mix_piece V 4 3 a b i j hi hj z W (bt (ix2 a 4)) (B 4 a) (fun s => ⟨384 + s.val, by omega⟩) ⟨512 + b.val, by omega⟩ (fun s => by simp) (by simp [hj])

theorem piece_5_0 (P : Parts q L 5 vn bt w) :
    Piece q L 5 0 (k0_pay39 vn (k0_pay10) bt w) := fun a b i j hi hj => by
  have V := P.vn
  have B := P.bias
  have W : ∀ s, k0_pay38 (F := Ideal) k0_pay10 w (ix2 a s) = _ := square_at 5 w P.ws a
  unfold k0_pay39
  generalize k0_pay38 (F := Ideal) k0_pay10 w = z at *
  pointwise
  exact mix_piece V 5 0 a b i j hi hj z W (bt (ix2 a 5)) (B 5 a) (fun s => ⟨s.val, by omega⟩) ⟨640 + b.val, by omega⟩ (fun s => by simp) (by simp [hj])

theorem piece_5_1 (P : Parts q L 5 vn bt w) :
    Piece q L 5 1 (k0_pay40 vn (k0_pay10) bt w) := fun a b i j hi hj => by
  have V := P.vn
  have B := P.bias
  have W : ∀ s, k0_pay38 (F := Ideal) k0_pay10 w (ix2 a s) = _ := square_at 5 w P.ws a
  unfold k0_pay40
  generalize k0_pay38 (F := Ideal) k0_pay10 w = z at *
  pointwise
  exact mix_piece V 5 1 a b i j hi hj z W (bt (ix2 a 5)) (B 5 a) (fun s => ⟨128 + s.val, by omega⟩) ⟨640 + b.val, by omega⟩ (fun s => by simp) (by simp [hj])

theorem piece_5_2 (P : Parts q L 5 vn bt w) :
    Piece q L 5 2 (k0_pay41 vn (k0_pay10) bt w) := fun a b i j hi hj => by
  have V := P.vn
  have B := P.bias
  have W : ∀ s, k0_pay38 (F := Ideal) k0_pay10 w (ix2 a s) = _ := square_at 5 w P.ws a
  unfold k0_pay41
  generalize k0_pay38 (F := Ideal) k0_pay10 w = z at *
  pointwise
  exact mix_piece V 5 2 a b i j hi hj z W (bt (ix2 a 5)) (B 5 a) (fun s => ⟨256 + s.val, by omega⟩) ⟨640 + b.val, by omega⟩ (fun s => by simp) (by simp [hj])

theorem piece_5_3 (P : Parts q L 5 vn bt w) :
    Piece q L 5 3 (k0_pay42 vn bt (k0_pay38 (k0_pay10) w)) := fun a b i j hi hj => by
  have V := P.vn
  have B := P.bias
  have W : ∀ s, k0_pay38 (F := Ideal) k0_pay10 w (ix2 a s) = _ := square_at 5 w P.ws a
  generalize k0_pay38 (F := Ideal) k0_pay10 w = z at *
  pointwise [k0_pay42]
  exact mix_piece V 5 3 a b i j hi hj z W (bt (ix2 a 5)) (B 5 a) (fun s => ⟨384 + s.val, by omega⟩) ⟨640 + b.val, by omega⟩ (fun s => by simp) (by simp [hj])

theorem piece_6_0 (P : Parts q L 6 vn bt w) :
    Piece q L 6 0 (k0_pay44 vn (k0_pay10) bt w) := fun a b i j hi hj => by
  have V := P.vn
  have B := P.bias
  have W : ∀ s, k0_pay43 (F := Ideal) k0_pay10 w (ix2 a s) = _ := square_at 6 w P.ws a
  unfold k0_pay44
  generalize k0_pay43 (F := Ideal) k0_pay10 w = z at *
  pointwise
  exact mix_piece V 6 0 a b i j hi hj z W (bt (ix2 a 6)) (B 6 a) (fun s => ⟨s.val, by omega⟩) ⟨768 + b.val, by omega⟩ (fun s => by simp) (by simp [hj])

theorem piece_6_1 (P : Parts q L 6 vn bt w) :
    Piece q L 6 1 (k0_pay45 vn (k0_pay10) bt w) := fun a b i j hi hj => by
  have V := P.vn
  have B := P.bias
  have W : ∀ s, k0_pay43 (F := Ideal) k0_pay10 w (ix2 a s) = _ := square_at 6 w P.ws a
  unfold k0_pay45
  generalize k0_pay43 (F := Ideal) k0_pay10 w = z at *
  pointwise
  exact mix_piece V 6 1 a b i j hi hj z W (bt (ix2 a 6)) (B 6 a) (fun s => ⟨128 + s.val, by omega⟩) ⟨768 + b.val, by omega⟩ (fun s => by simp) (by simp [hj])

theorem piece_6_2 (P : Parts q L 6 vn bt w) :
    Piece q L 6 2 (k0_pay46 vn (k0_pay10) bt w) := fun a b i j hi hj => by
  have V := P.vn
  have B := P.bias
  have W : ∀ s, k0_pay43 (F := Ideal) k0_pay10 w (ix2 a s) = _ := square_at 6 w P.ws a
  unfold k0_pay46
  generalize k0_pay43 (F := Ideal) k0_pay10 w = z at *
  pointwise
  exact mix_piece V 6 2 a b i j hi hj z W (bt (ix2 a 6)) (B 6 a) (fun s => ⟨256 + s.val, by omega⟩) ⟨768 + b.val, by omega⟩ (fun s => by simp) (by simp [hj])

theorem piece_6_3 (P : Parts q L 6 vn bt w) :
    Piece q L 6 3 (k0_pay47 vn (k0_pay10) bt w) := fun a b i j hi hj => by
  have V := P.vn
  have B := P.bias
  have W : ∀ s, k0_pay43 (F := Ideal) k0_pay10 w (ix2 a s) = _ := square_at 6 w P.ws a
  unfold k0_pay47
  generalize k0_pay43 (F := Ideal) k0_pay10 w = z at *
  pointwise
  exact mix_piece V 6 3 a b i j hi hj z W (bt (ix2 a 6)) (B 6 a) (fun s => ⟨384 + s.val, by omega⟩) ⟨768 + b.val, by omega⟩ (fun s => by simp) (by simp [hj])

theorem piece_7_0 (P : Parts q L 7 vn bt w) :
    Piece q L 7 0 (k0_pay49 vn (k0_pay10) bt w) := fun a b i j hi hj => by
  have V := P.vn
  have B := P.bias
  have W : ∀ s, k0_pay48 (F := Ideal) k0_pay10 w (ix2 a s) = _ := square_at 7 w P.ws a
  unfold k0_pay49
  generalize k0_pay48 (F := Ideal) k0_pay10 w = z at *
  pointwise
  exact mix_piece V 7 0 a b i j hi hj z W (bt (ix2 a 7)) (B 7 a) (fun s => ⟨s.val, by omega⟩) ⟨896 + b.val, by omega⟩ (fun s => by simp) (by simp [hj])

theorem piece_7_1 (P : Parts q L 7 vn bt w) :
    Piece q L 7 1 (k0_pay50 vn (k0_pay10) bt w) := fun a b i j hi hj => by
  have V := P.vn
  have B := P.bias
  have W : ∀ s, k0_pay48 (F := Ideal) k0_pay10 w (ix2 a s) = _ := square_at 7 w P.ws a
  unfold k0_pay50
  generalize k0_pay48 (F := Ideal) k0_pay10 w = z at *
  pointwise
  exact mix_piece V 7 1 a b i j hi hj z W (bt (ix2 a 7)) (B 7 a) (fun s => ⟨128 + s.val, by omega⟩) ⟨896 + b.val, by omega⟩ (fun s => by simp) (by simp [hj])

theorem piece_7_2 (P : Parts q L 7 vn bt w) :
    Piece q L 7 2 (k0_pay51 vn (k0_pay10) bt w) := fun a b i j hi hj => by
  have V := P.vn
  have B := P.bias
  have W : ∀ s, k0_pay48 (F := Ideal) k0_pay10 w (ix2 a s) = _ := square_at 7 w P.ws a
  unfold k0_pay51
  generalize k0_pay48 (F := Ideal) k0_pay10 w = z at *
  pointwise
  exact mix_piece V 7 2 a b i j hi hj z W (bt (ix2 a 7)) (B 7 a) (fun s => ⟨256 + s.val, by omega⟩) ⟨896 + b.val, by omega⟩ (fun s => by simp) (by simp [hj])

theorem piece_7_3 (P : Parts q L 7 vn bt w) :
    Piece q L 7 3 (k0_pay52 vn (k0_pay10) bt w) := fun a b i j hi hj => by
  have V := P.vn
  have B := P.bias
  have W : ∀ s, k0_pay48 (F := Ideal) k0_pay10 w (ix2 a s) = _ := square_at 7 w P.ws a
  unfold k0_pay52
  generalize k0_pay48 (F := Ideal) k0_pay10 w = z at *
  pointwise
  exact mix_piece V 7 3 a b i j hi hj z W (bt (ix2 a 7)) (B 7 a) (fun s => ⟨384 + s.val, by omega⟩) ⟨896 + b.val, by omega⟩ (fun s => by simp) (by simp [hj])

/-! ## The gated array and what comes of it -/

theorem q_at (R : Reads q L b0 b1 b2 b3 b4 b5 b6) (vm : Vec Ideal S512x1024 .f32) (M : Holds q vm L.vm) :
    Holds q (k0_pay53 (k0_pay5 b0 b1 b2) vm) L.q := fun r d => by
  have U := uv_at R
  generalize k0_pay5 b0 b1 b2 = w at *
  pointwise [k0_pay53]
  rw [U, M]
  rfl

theorem y_at (R : Reads q L b0 b1 b2 b3 b4 b5 b6) (vm : Vec Ideal S512x1024 .f32) (M : Holds q vm L.vm) :
    Holds q (k0_pay1 (k0_pay53 (k0_pay5 b0 b1 b2) vm) b6) L.y := fun r d => by
  have Q := q_at R vm M r
  generalize k0_pay53 (k0_pay5 b0 b1 b2) vm = v at *
  pointwise [k0_pay1]
  exact Finset.sum_congr rfl fun k _ => by rw [Q, R.wo]

theorem out_at (R : Reads q L b0 b1 b2 b3 b4 b5 b6) (vm : Vec Ideal S512x1024 .f32) (M : Holds q vm L.vm) :
    Holds q (k0_pay2 b0 (k0_pay3 b1) (k0_pay53 (k0_pay5 b0 b1 b2) vm) b6) L.out := fun r d => by
  have Y := y_at R vm M r d
  generalize k0_pay53 (k0_pay5 b0 b1 b2) vm = v at *
  pointwise [k0_pay2, k0_pay3]
  rw [R.x r d, R.gate d, Y]
  rfl

end Cert.GatingIdeal.Tile

end
-- ==== Proof.GatingPoint.lean ====
/- What a grid point of the spatial gating's forward call reads, and the parameters that the host packs. -/
module

public import proofs.«01_k».proof.Defs
public import proofs.«01_k».proof.Proof.Gen.GatingIdeal.Value
public import Idealize.ShloMosaic.Lib.Pipeline.ValueKit
public import Idealize.ShloMosaic.Lib.Pointwise
public import Idealize.ShloMosaic.Lib.Claim
public import proofs.«01_k».proof.Proof.GatingTile

@[expose] public section

set_option maxRecDepth 16384
noncomputable section
open Idealize.ShloMosaic Idealize.ShloMosaic.TcCoe Idealize.SL.Sem
open Idealize.ShloMosaic.Pipeline (Dat)
namespace Cert.GatingIdeal.Value
open Cert.GatingIdeal Cert.GatingIdeal.Gen Cert.GatingIdeal.Tile Cert.GatingSpec Cert
variable (m : (ℓ : Loc nD τ sig) → Buf (Elt Ideal) ℓ) (c : Dev nD) (t : Fin cfg0.N)

/-- The tile that grid point `t` works on. -/
def tile (t : Fin cfg0.N) : Fin 8 := ⟨t.val, lt_of_lt_of_eq t.isLt N_0⟩

theorem idx : ∀ t : Fin cfg0.N, win0_0.index t = ![t.val, 0] ∧ win0_1.index t = ![2, 0, 0] ∧ win0_2.index t = ![0, 0, 0]
    ∧ win0_3.index t = ![0, 0, 0] ∧ win0_4.index t = ![0, 0] ∧ win0_5.index t = ![0, 0] ∧ win0_6.index t = ![0, 0, 0] :=
  (by decide +kernel : ∀ t : Fin grid0.N, _)

/-- The layer's arrays as the call finds them. -/
def layer (c : Dev nD) : Inputs where
  x := fun n d => V m c main_arg0 (ix2 n d)
  shift := fun d => V m c main_v2 (ix3 2 0 d)
  scale := fun d => V m c main_v2 (ix3 2 1 d)
  gate := fun d => V m c main_v2 (ix3 2 2 d)
  norm := fun d => V m c main_v2 (ix3 2 6 d)
  wi := fun a j => V m c main_v4 (ix3 0 a j)
  vgain := fun d => V m c main_v6 (ix2 0 d)
  ws := fun k a s => V m c main_arg6 (ix3 k a s)
  bias := fun k a => V m c main_v5 (ix2 a k)
  wo := fun a b => V m c main_v8 (ix3 0 a b)

theorem blk0 (r : Fin 512) (d : Fin 1024) : iblk m c 0 t (ix2 r d) = V m c main_arg0 (ix2 (row (tile t) r) d) := by
  unfold tile row
  blk_point [iblk, idx t]

theorem blk1 (s : Fin 8) (d : Fin 1024) : iblk m c 1 t (ix3 0 s d) = V m c main_v2 (ix3 2 s d) := by
  blk_point [iblk, idx t]

theorem blk2 (a : Fin 1024) (j : Fin 2048) : iblk m c 2 t (ix3 0 a j) = V m c main_v4 (ix3 0 a j) := by
  blk_point [iblk, idx t]

theorem blk3 (k : Fin 8) (a s : Fin 128) : iblk m c 3 t (ix3 k a s) = V m c main_arg6 (ix3 k a s) := by
  blk_point [iblk, idx t]

theorem blk4 (a : Fin 128) (k : Fin 8) : iblk m c 4 t (ix2 a k) = V m c main_v5 (ix2 a k) := by
  blk_point [iblk, idx t]

theorem blk5 (d : Fin 1024) : iblk m c 5 t (ix2 0 d) = V m c main_v6 (ix2 0 d) := by
  blk_point [iblk, idx t]

theorem blk6 (a b : Fin 1024) : iblk m c 6 t (ix3 0 a b) = V m c main_v8 (ix3 0 a b) := by
  blk_point [iblk, idx t]

theorem reads : Reads (tile t) (layer m c) (iblk m c 0 t) (iblk m c 1 t) (iblk m c 2 t) (iblk m c 3 t) (iblk m c 4 t) (iblk m c 5 t) (iblk m c 6 t) where
  x := blk0 m c t
  shift := blk1 m c t 0
  scale := blk1 m c t 1
  gate := blk1 m c t 2
  norm := blk1 m c t 6
  wi := blk2 m c t
  ws := blk3 m c t
  bias := fun k a => blk4 m c t a k
  vgain := blk5 m c t
  wo := blk6 m c t

/-! ## The parameters that the host packs -/

theorem pv_eq (U : Valuation τ sig (Elt Ideal)) :
    StableHlo.after (hostOps0 (F := Ideal)) U (Proc.devRef .tc main_v2) = concatenate S4x8x1024 1 [⟨S4x6x1024, U (Proc.devRef .tc main_arg1)⟩,
    ⟨S4x1x1024, broadcastInDim S4x1x1024 ![0, 2] Gen.bcast_S4x1024_S4x1x1024_0_2 (U (Proc.devRef .tc main_arg2))⟩,
    ⟨S4x1x1024, broadcastInDim S4x1x1024 ![0, 2] Gen.bcast_S4x1024_S4x1x1024_0_2 (U (Proc.devRef .tc main_arg3))⟩]
    Gen.concatenates_S4x6x1024_S4x1x1024_S4x1x1024_S4x8x1024_d1 := by
  unfold hostOps0
  after_results_simp
  try dsimp only [Matrix.cons_val]
  try after_results_simp
  try rfl

theorem pv_rows (k : Fin 8) (hk : k.val < 6) (d : Fin 1024) :
    V m c main_v2 (ix3 2 k d) = m (c, Proc.devRef .tc main_arg1) (ix3 2 ⟨k.val, hk⟩ d) := by
  refine (congrFun (pv_eq _) _).trans ?_
  generalize (fun b => m (c, b)) = U
  pointwise
  rw [dif_pos hk]

theorem pv_norm (k : Fin 8) (hk : k.val = 6) (d : Fin 1024) :
    V m c main_v2 (ix3 2 k d) = m (c, Proc.devRef .tc main_arg2) (ix2 2 d) := by
  refine (congrFun (pv_eq _) _).trans ?_
  generalize (fun b => m (c, b)) = U
  pointwise
  rw [dif_neg (by omega), dif_pos (by omega)]

theorem wi_eq (U : Valuation τ sig (Elt Ideal)) (a : Fin 1024) (j : Fin 2048) :
    StableHlo.after (hostOps0 (F := Ideal)) U (Proc.devRef .tc main_v4) (ix3 0 a j) = U (Proc.devRef .tc main_arg4) (ix2 a j) := by
  unfold hostOps0
  after_results_simp
  pointwise

theorem wi_at (a : Fin 1024) (j : Fin 2048) : V m c main_v4 (ix3 0 a j) = m (c, Proc.devRef .tc main_arg4) (ix2 a j) :=
  wi_eq (fun b => m (c, b)) a j

theorem bias_eq (U : Valuation τ sig (Elt Ideal)) (a : Fin 128) (k : Fin 8) :
    StableHlo.after (hostOps0 (F := Ideal)) U (Proc.devRef .tc main_v5) (ix2 a k) = U (Proc.devRef .tc main_arg7) (ix2 k a) := by
  unfold hostOps0
  after_results_simp
  pointwise

theorem bias_at (a : Fin 128) (k : Fin 8) : V m c main_v5 (ix2 a k) = m (c, Proc.devRef .tc main_arg7) (ix2 k a) :=
  bias_eq (fun b => m (c, b)) a k

theorem vgain_eq (U : Valuation τ sig (Elt Ideal)) (d : Fin 1024) :
    StableHlo.after (hostOps0 (F := Ideal)) U (Proc.devRef .tc main_v6) (ix2 0 d) = U (Proc.devRef .tc main_arg5) (ix1 d) := by
  unfold hostOps0
  after_results_simp
  pointwise

theorem vgain_at (d : Fin 1024) : V m c main_v6 (ix2 0 d) = m (c, Proc.devRef .tc main_arg5) (ix1 d) :=
  vgain_eq (fun b => m (c, b)) d

theorem wo_eq (U : Valuation τ sig (Elt Ideal)) (a b : Fin 1024) :
    StableHlo.after (hostOps0 (F := Ideal)) U (Proc.devRef .tc main_v8) (ix3 0 a b) = U (Proc.devRef .tc main_arg8) (ix2 a b) := by
  unfold hostOps0
  after_results_simp
  pointwise

theorem wo_at (a b : Fin 1024) : V m c main_v8 (ix3 0 a b) = m (c, Proc.devRef .tc main_arg8) (ix2 a b) :=
  wo_eq (fun b => m (c, b)) a b

end Cert.GatingIdeal.Value

end
-- ==== Proof.GatingCall.lean ====
/- What the spatial gating's forward call leaves in its six arrays. -/
module

public import proofs.«01_k».proof.Defs
public import proofs.«01_k».proof.Proof.GatingPoint

@[expose] public section

set_option maxRecDepth 16384
noncomputable section
open Idealize.ShloMosaic Idealize.ShloMosaic.TcCoe Idealize.SL.Sem
open Idealize.ShloMosaic.Pipeline (Dat)
namespace Cert.GatingIdeal.Value
open Cert.GatingIdeal Cert.GatingIdeal.Gen Cert.GatingIdeal.Tile Cert.GatingSpec Cert
variable (m : (ℓ : Loc nD τ sig) → Buf (Elt Ideal) ℓ) (c : Dev nD) (t : Fin cfg0.N)

/-- The normalised and modulated input. -/
theorem out8 : Holds (tile t) (outsAt0 m c t).2.1 (layer m c).h := fun r d => by
  unfold outsAt0
  frame_out
  exact h_at (reads m c t) r d

/-- The projected input. -/
theorem out9 : HoldsPair (tile t) (outsAt0 m c t).2.2.1 (layer m c).uv := fun r d => by
  unfold outsAt0
  frame_out
  exact uv_at (reads m c t) r d

/-- What a piece is made from, at a grid point. -/
theorem parts (k : Fin 8) (w : Vec Ideal S1x128x128 .f32) (hw : ∀ a s, w (ix3 0 a s) = iblk m c 3 t (ix3 k a s)) :
    Parts (tile t) (layer m c) k (k0_pay9 (k0_pay6 (iblk m c 0 t) (iblk m c 1 t) (iblk m c 2 t)) (k0_pay7 (iblk m c 0 t) (iblk m c 1 t) (iblk m c 2 t)) (k0_pay8 (F := Ideal)) (iblk m c 5 t))
      (k0_pay11 (iblk m c 4 t)) w where
  vn := vn_at (reads m c t)
  bias := fun k a => by
    have B := (reads m c t).bias k a
    generalize iblk m c 4 t = b at *
    pointwise [k0_pay11]
    exact B
  ws := fun a s => (hw a s).trans ((reads m c t).ws k a s)

/-! A slab of the mixing squares, read entry by entry. -/

theorem rect0 (v : Vec Ideal S8x128x128 .f32) (a s : Fin 128) :
    View.ld v (Rect.unit ![0, 0, 0] ![1, 128, 128] inb_S8x128x128_S1x128x128_0_0_0) (ix3 0 a s) = v (ix3 0 a s) := by
  pointwise

theorem rect1 (v : Vec Ideal S8x128x128 .f32) (a s : Fin 128) :
    View.ld v (Rect.unit ![1, 0, 0] ![1, 128, 128] inb_S8x128x128_S1x128x128_1_0_0) (ix3 0 a s) = v (ix3 1 a s) := by
  pointwise

theorem rect2 (v : Vec Ideal S8x128x128 .f32) (a s : Fin 128) :
    View.ld v (Rect.unit ![2, 0, 0] ![1, 128, 128] inb_S8x128x128_S1x128x128_2_0_0) (ix3 0 a s) = v (ix3 2 a s) := by
  pointwise

theorem rect3 (v : Vec Ideal S8x128x128 .f32) (a s : Fin 128) :
    View.ld v (Rect.unit ![3, 0, 0] ![1, 128, 128] inb_S8x128x128_S1x128x128_3_0_0) (ix3 0 a s) = v (ix3 3 a s) := by
  pointwise

theorem rect4 (v : Vec Ideal S8x128x128 .f32) (a s : Fin 128) :
    View.ld v (Rect.unit ![4, 0, 0] ![1, 128, 128] inb_S8x128x128_S1x128x128_4_0_0) (ix3 0 a s) = v (ix3 4 a s) := by
  pointwise

theorem rect5 (v : Vec Ideal S8x128x128 .f32) (a s : Fin 128) :
    View.ld v (Rect.unit ![5, 0, 0] ![1, 128, 128] inb_S8x128x128_S1x128x128_5_0_0) (ix3 0 a s) = v (ix3 5 a s) := by
  pointwise

theorem rect6 (v : Vec Ideal S8x128x128 .f32) (a s : Fin 128) :
    View.ld v (Rect.unit ![6, 0, 0] ![1, 128, 128] inb_S8x128x128_S1x128x128_6_0_0) (ix3 0 a s) = v (ix3 6 a s) := by
  pointwise

theorem rect7 (v : Vec Ideal S8x128x128 .f32) (a s : Fin 128) :
    View.ld v (Rect.unit ![7, 0, 0] ![1, 128, 128] inb_S8x128x128_S1x128x128_7_0_0) (ix3 0 a s) = v (ix3 7 a s) := by
  pointwise

/-- The gate: 32 stored pieces, each with its own part of it. -/
theorem vm_at (y : S512x1024.Idx) : (outsAt0 m c t).2.2.2.1 y = (layer m c).vm (row (tile t) (y 0)) (y 1) := by
  unfold outsAt0
  frame_out
  canon_tiles x h
  case piece0 => exact (congrArg _ (eq_ix2 x)).trans (piece_7_3 (parts m c t 7 _ (rect7 _)) (x 0) (x 1) (y 0) (y 1) (by omega) (by show _ = 7 * 128 + _; omega))
  case piece1 => exact (congrArg _ (eq_ix2 x)).trans (piece_7_2 (parts m c t 7 _ (rect7 _)) (x 0) (x 1) (y 0) (y 1) (by omega) (by show _ = 7 * 128 + _; omega))
  case piece2 => exact (congrArg _ (eq_ix2 x)).trans (piece_7_1 (parts m c t 7 _ (rect7 _)) (x 0) (x 1) (y 0) (y 1) (by omega) (by show _ = 7 * 128 + _; omega))
  case piece3 => exact (congrArg _ (eq_ix2 x)).trans (piece_7_0 (parts m c t 7 _ (rect7 _)) (x 0) (x 1) (y 0) (y 1) (by omega) (by show _ = 7 * 128 + _; omega))
  case piece4 => exact (congrArg _ (eq_ix2 x)).trans (piece_6_3 (parts m c t 6 _ (rect6 _)) (x 0) (x 1) (y 0) (y 1) (by omega) (by show _ = 6 * 128 + _; omega))
  case piece5 => exact (congrArg _ (eq_ix2 x)).trans (piece_6_2 (parts m c t 6 _ (rect6 _)) (x 0) (x 1) (y 0) (y 1) (by omega) (by show _ = 6 * 128 + _; omega))
  case piece6 => exact (congrArg _ (eq_ix2 x)).trans (piece_6_1 (parts m c t 6 _ (rect6 _)) (x 0) (x 1) (y 0) (y 1) (by omega) (by show _ = 6 * 128 + _; omega))
  case piece7 => exact (congrArg _ (eq_ix2 x)).trans (piece_6_0 (parts m c t 6 _ (rect6 _)) (x 0) (x 1) (y 0) (y 1) (by omega) (by show _ = 6 * 128 + _; omega))
  case piece8 => exact (congrArg _ (eq_ix2 x)).trans (piece_5_3 (parts m c t 5 _ (rect5 _)) (x 0) (x 1) (y 0) (y 1) (by omega) (by show _ = 5 * 128 + _; omega))
  case piece9 => exact (congrArg _ (eq_ix2 x)).trans (piece_5_2 (parts m c t 5 _ (rect5 _)) (x 0) (x 1) (y 0) (y 1) (by omega) (by show _ = 5 * 128 + _; omega))
  case piece10 => exact (congrArg _ (eq_ix2 x)).trans (piece_5_1 (parts m c t 5 _ (rect5 _)) (x 0) (x 1) (y 0) (y 1) (by omega) (by show _ = 5 * 128 + _; omega))
  case piece11 => exact (congrArg _ (eq_ix2 x)).trans (piece_5_0 (parts m c t 5 _ (rect5 _)) (x 0) (x 1) (y 0) (y 1) (by omega) (by show _ = 5 * 128 + _; omega))
  case piece12 => exact (congrArg _ (eq_ix2 x)).trans (piece_4_3 (parts m c t 4 _ (rect4 _)) (x 0) (x 1) (y 0) (y 1) (by omega) (by show _ = 4 * 128 + _; omega))
  case piece13 => exact (congrArg _ (eq_ix2 x)).trans (piece_4_2 (parts m c t 4 _ (rect4 _)) (x 0) (x 1) (y 0) (y 1) (by omega) (by show _ = 4 * 128 + _; omega))
  case piece14 => exact (congrArg _ (eq_ix2 x)).trans (piece_4_1 (parts m c t 4 _ (rect4 _)) (x 0) (x 1) (y 0) (y 1) (by omega) (by show _ = 4 * 128 + _; omega))
  case piece15 => exact (congrArg _ (eq_ix2 x)).trans (piece_4_0 (parts m c t 4 _ (rect4 _)) (x 0) (x 1) (y 0) (y 1) (by omega) (by show _ = 4 * 128 + _; omega))
  case piece16 => exact (congrArg _ (eq_ix2 x)).trans (piece_3_3 (parts m c t 3 _ (rect3 _)) (x 0) (x 1) (y 0) (y 1) (by omega) (by show _ = 3 * 128 + _; omega))
  case piece17 => exact (congrArg _ (eq_ix2 x)).trans (piece_3_2 (parts m c t 3 _ (rect3 _)) (x 0) (x 1) (y 0) (y 1) (by omega) (by show _ = 3 * 128 + _; omega))
  case piece18 => exact (congrArg _ (eq_ix2 x)).trans (piece_3_1 (parts m c t 3 _ (rect3 _)) (x 0) (x 1) (y 0) (y 1) (by omega) (by show _ = 3 * 128 + _; omega))
  case piece19 => exact (congrArg _ (eq_ix2 x)).trans (piece_3_0 (parts m c t 3 _ (rect3 _)) (x 0) (x 1) (y 0) (y 1) (by omega) (by show _ = 3 * 128 + _; omega))
  case piece20 => exact (congrArg _ (eq_ix2 x)).trans (piece_2_3 (parts m c t 2 _ (rect2 _)) (x 0) (x 1) (y 0) (y 1) (by omega) (by show _ = 2 * 128 + _; omega))
  case piece21 => exact (congrArg _ (eq_ix2 x)).trans (piece_2_2 (parts m c t 2 _ (rect2 _)) (x 0) (x 1) (y 0) (y 1) (by omega) (by show _ = 2 * 128 + _; omega))
  case piece22 => exact (congrArg _ (eq_ix2 x)).trans (piece_2_1 (parts m c t 2 _ (rect2 _)) (x 0) (x 1) (y 0) (y 1) (by omega) (by show _ = 2 * 128 + _; omega))
  case piece23 => exact (congrArg _ (eq_ix2 x)).trans (piece_2_0 (parts m c t 2 _ (rect2 _)) (x 0) (x 1) (y 0) (y 1) (by omega) (by show _ = 2 * 128 + _; omega))
  case piece24 => exact (congrArg _ (eq_ix2 x)).trans (piece_1_3 (parts m c t 1 _ (rect1 _)) (x 0) (x 1) (y 0) (y 1) (by omega) (by show _ = 1 * 128 + _; omega))
  case piece25 => exact (congrArg _ (eq_ix2 x)).trans (piece_1_2 (parts m c t 1 _ (rect1 _)) (x 0) (x 1) (y 0) (y 1) (by omega) (by show _ = 1 * 128 + _; omega))
  case piece26 => exact (congrArg _ (eq_ix2 x)).trans (piece_1_1 (parts m c t 1 _ (rect1 _)) (x 0) (x 1) (y 0) (y 1) (by omega) (by show _ = 1 * 128 + _; omega))
  case piece27 => exact (congrArg _ (eq_ix2 x)).trans (piece_1_0 (parts m c t 1 _ (rect1 _)) (x 0) (x 1) (y 0) (y 1) (by omega) (by show _ = 1 * 128 + _; omega))
  case piece28 => exact (congrArg _ (eq_ix2 x)).trans (piece_0_3 (parts m c t 0 _ (rect0 _)) (x 0) (x 1) (y 0) (y 1) (by omega) (by show _ = 0 * 128 + _; omega))
  case piece29 => exact (congrArg _ (eq_ix2 x)).trans (piece_0_2 (parts m c t 0 _ (rect0 _)) (x 0) (x 1) (y 0) (y 1) (by omega) (by show _ = 0 * 128 + _; omega))
  case piece30 => exact (congrArg _ (eq_ix2 x)).trans (piece_0_1 (parts m c t 0 _ (rect0 _)) (x 0) (x 1) (y 0) (y 1) (by omega) (by show _ = 0 * 128 + _; omega))
  case piece31 => exact (congrArg _ (eq_ix2 x)).trans (piece_0_0 (parts m c t 0 _ (rect0 _)) (x 0) (x 1) (y 0) (y 1) (by omega) (by show _ = 0 * 128 + _; omega))

/-- The gate. -/
theorem out10 : Holds (tile t) (outsAt0 m c t).2.2.2.1 (layer m c).vm := fun r d => vm_at m c t (ix2 r d)

/-- A read of a whole tile reads each entry where it lies. -/
theorem whole_idx (inb) (r : Fin 512) (d : Fin 1024) :
    (Rect.unit (s := S512x1024) ![0, 0] ![512, 1024] inb).toLoadRect.idx (ix2 r d) = ix2 r d := by
  funext a
  fin_cases a <;> exact Fin.ext (by simp [Rect.unit])

/-- The gated array: it reads the gate back. -/
theorem out11 : Holds (tile t) (outsAt0 m c t).2.2.2.2.1 (layer m c).q := fun r d => by
  unfold outsAt0
  frame_out
  refine q_at (reads m c t) _ (fun r d => ?_) r d
  rw [View.readCov_eq_canon']
  refine (congrArg (View.canon _) (whole_idx _ r d)).trans (Eq.trans (Eq.symm ?_) (out10 m c t r d))
  unfold outsAt0
  frame_out

/-- The layer's result before its gate. -/
theorem out12 : Holds (tile t) (outsAt0 m c t).2.2.2.2.2 (layer m c).y := fun r d => by
  unfold outsAt0
  frame_out
  refine y_at (reads m c t) _ (fun r d => ?_) r d
  rw [View.readCov_eq_canon']
  refine (congrArg (View.canon _) (whole_idx _ r d)).trans (Eq.trans (Eq.symm ?_) (out10 m c t r d))
  unfold outsAt0
  frame_out

/-- The layer's output. -/
theorem out7 : Holds (tile t) (outsAt0 m c t).1 (layer m c).out := fun r d => by
  unfold outsAt0
  frame_out
  refine out_at (reads m c t) _ (fun r d => ?_) r d
  rw [View.readCov_eq_canon']
  refine (congrArg (View.canon _) (whole_idx _ r d)).trans (Eq.trans (Eq.symm ?_) (out10 m c t r d))
  unfold outsAt0
  frame_out

/-! ## The arrays after the call -/

theorem idxOut : ∀ t : Fin cfg0.N, win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

theorem emb7 (y : S512x1024.Idx) : ((View.whole main_v9_0).slice (win0_7.rect t)).emb y = ix2 (row (tile t) (y 0)) (y 1) := by
  unfold row tile
  blk_ext [idxOut t]

/-- The layer's output. -/
theorem array7 : (dats m 0 c).arrAt 7 (cfgs 0).N = (fun i => (layer m c).out (i 0) (i 1) : S4096x1024.Idx → EReal) := by
  refine (dats m 0 c).arrAt_eq_of_covers 7 _ (by decide +kernel) fun t _ y => ?_
  blk_simp
  rw [after0_7, emb7 t y]
  exact (congrArg _ (eq_ix2 y)).trans (out7 m c t (y 0) (y 1))

theorem emb8 (y : S512x1024.Idx) : ((View.whole main_v9_1).slice (win0_8.rect t)).emb y = ix2 (row (tile t) (y 0)) (y 1) := by
  unfold row tile
  blk_ext [idxOut t]

/-- The normalised and modulated input. -/
theorem array8 : (dats m 0 c).arrAt 8 (cfgs 0).N = (fun i => (layer m c).h (i 0) (i 1) : S4096x1024.Idx → EReal) := by
  refine (dats m 0 c).arrAt_eq_of_covers 8 _ (by decide +kernel) fun t _ y => ?_
  blk_simp
  rw [after0_8, emb8 t y]
  exact (congrArg _ (eq_ix2 y)).trans (out8 m c t (y 0) (y 1))

theorem emb9 (y : S512x2048.Idx) : ((View.whole main_v9_2).slice (win0_9.rect t)).emb y = ix2 (row (tile t) (y 0)) (y 1) := by
  unfold row tile
  blk_ext [idxOut t]

/-- The projected input. -/
theorem array9 : (dats m 0 c).arrAt 9 (cfgs 0).N = (fun i => (layer m c).uv (i 0) (i 1) : S4096x2048.Idx → EReal) := by
  refine (dats m 0 c).arrAt_eq_of_covers 9 _ (by decide +kernel) fun t _ y => ?_
  blk_simp
  rw [after0_9, emb9 t y]
  exact (congrArg _ (eq_ix2 y)).trans (out9 m c t (y 0) (y 1))

theorem emb10 (y : S512x1024.Idx) : ((View.whole main_v9_3).slice (win0_10.rect t)).emb y = ix2 (row (tile t) (y 0)) (y 1) := by
  unfold row tile
  blk_ext [idxOut t]

/-- The gate. -/
theorem array10 : (dats m 0 c).arrAt 10 (cfgs 0).N = (fun i => (layer m c).vm (i 0) (i 1) : S4096x1024.Idx → EReal) := by
  refine (dats m 0 c).arrAt_eq_of_covers 10 _ (by decide +kernel) fun t _ y => ?_
  blk_simp
  rw [after0_10, emb10 t y]
  exact (congrArg _ (eq_ix2 y)).trans (out10 m c t (y 0) (y 1))

theorem emb11 (y : S512x1024.Idx) : ((View.whole main_v9_4).slice (win0_11.rect t)).emb y = ix2 (row (tile t) (y 0)) (y 1) := by
  unfold row tile
  blk_ext [idxOut t]

/-- The gated array. -/
theorem array11 : (dats m 0 c).arrAt 11 (cfgs 0).N = (fun i => (layer m c).q (i 0) (i 1) : S4096x1024.Idx → EReal) := by
  refine (dats m 0 c).arrAt_eq_of_covers 11 _ (by decide +kernel) fun t _ y => ?_
  blk_simp
  rw [after0_11, emb11 t y]
  exact (congrArg _ (eq_ix2 y)).trans (out11 m c t (y 0) (y 1))

theorem emb12 (y : S512x1024.Idx) : ((View.whole main_v9_5).slice (win0_12.rect t)).emb y = ix2 (row (tile t) (y 0)) (y 1) := by
  unfold row tile
  blk_ext [idxOut t]

/-- The layer's result before its gate. -/
theorem array12 : (dats m 0 c).arrAt 12 (cfgs 0).N = (fun i => (layer m c).y (i 0) (i 1) : S4096x1024.Idx → EReal) := by
  refine (dats m 0 c).arrAt_eq_of_covers 12 _ (by decide +kernel) fun t _ y => ?_
  blk_simp
  rw [after0_12, emb12 t y]
  exact (congrArg _ (eq_ix2 y)).trans (out12 m c t (y 0) (y 1))

end Cert.GatingIdeal.Value

end
-- ==== Proof.GatingRef.lean ====
/- The reference's forward values of the spatial gating, and their equality with the call's. -/
module

public import proofs.«01_k».proof.Defs
public import proofs.«01_k».proof.Proof.Gen.GatingRefIdeal.Run
public import proofs.«01_k».proof.Proof.GatingCall

@[expose] public section

set_option maxRecDepth 16384
noncomputable section
open Idealize.ShloMosaic Idealize.ShloMosaic.TcCoe Idealize.SL.Sem
namespace Cert.GatingRefIdeal.Spec
open Cert.GatingRefIdeal Cert.GatingRefIdeal.Gen Cert.GatingRefIdeal.Value Cert.GatingSpec Cert

variable (m : (ℓ : Loc nD τ sig) → Buf (Elt Ideal) ℓ) (c : Dev nD)

/-! ## The arrays that the reference computes -/

/-- An argument as the reference finds it. -/
abbrev arg0 : FVec Ideal S4096x1024 .f32 := m ((c.tc : Thread nD τ).loc main_arg0)
abbrev arg1 : FVec Ideal S4x6x1024 .f32 := m ((c.tc : Thread nD τ).loc main_arg1)
abbrev arg2 : FVec Ideal S4x1024 .f32 := m ((c.tc : Thread nD τ).loc main_arg2)
abbrev arg4 : FVec Ideal S1024x2048 .f32 := m ((c.tc : Thread nD τ).loc main_arg4)
abbrev arg5 : FVec Ideal S1024 .f32 := m ((c.tc : Thread nD τ).loc main_arg5)
abbrev arg6 : FVec Ideal S8x128x128 .f32 := m ((c.tc : Thread nD τ).loc main_arg6)
abbrev arg7 : FVec Ideal S8x128 .f32 := m ((c.tc : Thread nD τ).loc main_arg7)
abbrev arg8 : FVec Ideal S1024x1024 .f32 := m ((c.tc : Thread nD τ).loc main_arg8)

/-- The normalised and modulated input. -/
def hArr : FVec Ideal S4096x1024 .f32 :=
  addf (mulf (mulf (mulf (arg0 m c) (broadcastInDim S4096x1024 ![0, 1] bcast_S4096x1_S4096x1024_0_1 (Host.rsqrt (addf (Host.divf (broadcastInDim S4096x1 ![0] bcast_S4096_S4096x1_0 (Host.reduceAdd (mulf (arg0 m c) (arg0 m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ (extractStridedSlice S1x1024 ![2, 0] (arg2 m c) slices_S4x1024_S1x1024_2_0) shapeCasts_S1x1024_S1024)))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) (shapeCast _ (extractStridedSlice S1x1x1024 ![2, 1, 0] (arg1 m c) slices_S4x6x1024_S1x1x1024_2_1_0) shapeCasts_S1x1x1024_S1024))))) (broadcastInDim S4096x1024 ![0, 1] bcast_S1x1024_S4096x1024_0_1 (broadcastInDim S1x1024 ![1] bcast_S1024_S1x1024_1 (shapeCast _ (extractStridedSlice S1x1x1024 ![2, 0, 0] (arg1 m c) slices_S4x6x1024_S1x1x1024_2_0_0) shapeCasts_S1x1x1024_S1024)))

/-- The projected input. -/
def uvArr : FVec Ideal S4096x2048 .f32 :=
  Host.dotGeneral dot_S4096x1024_S1024x2048_S4096x2048_1_0_0_1_n_n none (hArr m c) (arg4 m c)

/-- What the gate is made from. -/
def vArr : FVec Ideal S4096x1024 .f32 :=
  extractStridedSlice S4096x1024 ![0, 1024] (uvArr m c) slices_S4096x2048_S4096x1024_0_1024

/-- Its norm. -/
def vnArr : FVec Ideal S4096x1024 .f32 :=
  mulf (mulf (vArr m c) (broadcastInDim S4096x1024 ![0, 1] bcast_S4096x1_S4096x1024_0_1 (Host.rsqrt (addf (Host.divf (broadcastInDim S4096x1 ![0] bcast_S4096_S4096x1_0 (Host.reduceAdd (mulf (vArr m c) (vArr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (arg5 m c)))

/-- The squares with zeros above their diagonals. -/
def triArr : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (arg6 m c) (broadcastInDim S8x128x128 ![] bcast_S_S8x128x128 (constant S_ .f32 0x00000000#32))

/-- Each chunk's rows combined by each head's square. -/
def mixArr : FVec Ideal S8x32x128x128 .f32 :=
  Host.dotGeneral dot_S32x128x8x128_S8x128x128_S8x32x128x128_1_2_03_1_2_0 none (shapeCast _ (vnArr m c) shapeCasts_S4096x1024_S32x128x8x128) (triArr m c)

/-- The gate. -/
def vmArr : FVec Ideal S4096x1024 .f32 :=
  shapeCast _ (addf (transpose S32x128x8x128 [1, 3, 0, 2] (mixArr m c) transposes_S8x32x128x128_S32x128x8x128_1_3_0_2) (broadcastInDim S32x128x8x128 ![0, 1, 2, 3] bcast_S1x128x8x1_S32x128x8x128_0_1_2_3 (broadcastInDim S1x128x8x1 ![1, 2, 3] bcast_S128x8x1_S1x128x8x1_1_2_3 (broadcastInDim S128x8x1 ![0, 1] bcast_S128x8_S128x8x1_0_1 (transpose S128x8 [1, 0] (arg7 m c) transposes_S8x128_S128x8_1_0))))) shapeCasts_S32x128x8x128_S4096x1024

/-- The gated array. -/
def qArr : FVec Ideal S4096x1024 .f32 :=
  mulf (extractStridedSlice S4096x1024 ![0, 0] (uvArr m c) slices_S4096x2048_S4096x1024_0_0) (vmArr m c)

/-- The layer's result before its gate. -/
def yArr : FVec Ideal S4096x1024 .f32 :=
  Host.dotGeneral dot_S4096x1024_S1024x1024_S4096x1024_1_0_0_1_n_n none (qArr m c) (arg8 m c)

/-- The layer's output. -/
def outArr : FVec Ideal S4096x1024 .f32 :=
  addf (arg0 m c) (mulf (broadcastInDim S4096x1024 ![0, 1] bcast_S1x1024_S4096x1024_0_1 (broadcastInDim S1x1024 ![1] bcast_S1024_S1x1024_1 (shapeCast _ (extractStridedSlice S1x1x1024 ![2, 2, 0] (arg1 m c) slices_S4x6x1024_S1x1x1024_2_2_0) shapeCasts_S1x1x1024_S1024))) (yArr m c))

/-! ## Their entries -/

/-- The arrays of the layer, from the arguments. -/
def layer : Inputs where
  x := fun n d => arg0 m c (ix2 n d)
  shift := fun d => arg1 m c (ix3 2 0 d)
  scale := fun d => arg1 m c (ix3 2 1 d)
  gate := fun d => arg1 m c (ix3 2 2 d)
  norm := fun d => arg2 m c (ix2 2 d)
  wi := fun a j => arg4 m c (ix2 a j)
  vgain := fun d => arg5 m c (ix1 d)
  ws := fun k a s => arg6 m c (ix3 k a s)
  bias := fun k a => arg7 m c (ix2 k a)
  wo := fun a b => arg8 m c (ix2 a b)

theorem h_at (n : Fin 4096) (d : Fin 1024) : hArr m c (ix2 n d) = (layer m c).h n d := by
  pointwise [hArr]
  rfl

theorem uv_at (n : Fin 4096) (j : Fin 2048) : uvArr m c (ix2 n j) = (layer m c).uv n j := by
  pointwise [uvArr]
  simp only [h_at]
  rfl

theorem v_at (n : Fin 4096) (d : Fin 1024) : vArr m c (ix2 n d) = (layer m c).v n d := by
  pointwise [vArr]
  rw [uv_at]
  rfl

theorem vn_at (n : Fin 4096) (d : Fin 1024) : vnArr m c (ix2 n d) = (layer m c).vn n d := by
  pointwise [vnArr]
  simp only [v_at]
  rfl

/-- The mask of a square's lower triangle. -/
theorem mask : ∀ a s : Fin 128, Scalar.select (IntOp.cmpi .sge (IntOp.addi (BitVec.ofNat 32 a.val) 0#32) (BitVec.ofNat 32 s.val)) (1#1) (0#1)
    = if s.val ≤ a.val then 1#1 else 0#1 := by
  decide +kernel

theorem tri_at (k : Fin 8) (a s : Fin 128) : triArr m c (ix3 k a s) = tri ((layer m c).ws k) a s := by
  pointwise [triArr]
  rw [mask, Cert.GatingIdeal.Tile.select_if]
  rfl

/-- Row `a` of chunk `i`, in the columns of head `k`. -/
theorem mix_at (k : Fin 8) (i : Fin 32) (b a : Fin 128) :
    mixArr m c (ix4 k i b a) = ∑ s : Fin 128, vnArr m c (ix2 ⟨i.val * 128 + s.val, by omega⟩ ⟨k.val * 128 + b.val, by omega⟩) * triArr m c (ix3 k a s) := by
  unfold mixArr
  generalize vnArr m c = v at *
  generalize triArr m c = z at *
  pointwise

/-- The chunks combined, from the sum over one chunk's tokens. -/
theorem mix_eq (L : Inputs) (f z : Fin 128 → EReal) (b : EReal) (n : Fin 4096) (d : Fin 1024) (hf : ∀ s, f s = L.vn (chunk n s) d)
    (hz : ∀ s, z s = tri (L.ws (head d)) (place n) s) (hb : b = L.bias (head d) (place n)) : ∑ s, f s * z s + b = L.vm n d := by
  unfold Inputs.vm mix
  rw [hb]
  refine congrArg (· + _) (Finset.sum_congr rfl fun s _ => ?_)
  rw [hf, hz, mul_comm]

/-- The entry of the combined chunks that column `d` of token `n` reads. -/
theorem mix_read (n : Fin 4096) (d : Fin 1024) :
    mixArr m c (ix4 (head d) ⟨n.val / 128, by omega⟩ ⟨d.val % 128, by omega⟩ (place n))
      = ∑ s, (layer m c).vn (chunk n s) d * tri ((layer m c).ws (head d)) (place n) s := by
  refine (mix_at m c _ _ _ _).trans (Finset.sum_congr rfl fun s _ => ?_)
  rw [tri_at, vn_at]
  congr 2
  exact Fin.ext (by show d.val / 128 * 128 + d.val % 128 = d.val; omega)

theorem vm_at (n : Fin 4096) (d : Fin 1024) : vmArr m c (ix2 n d) = (layer m c).vm n d := by
  have M := mix_read m c n d
  have B : ∀ k a, arg7 m c (ix2 k a) = (layer m c).bias k a := fun _ _ => rfl
  have E := mix_eq (layer m c) _ _ _ n d (fun _ => rfl) (fun _ => rfl) (B (head d) (place n))
  rw [← E, ← M]
  unfold vmArr
  generalize mixArr m c = w at *
  generalize arg7 m c = b at *
  pointwise
  try rfl

theorem q_at (n : Fin 4096) (d : Fin 1024) : qArr m c (ix2 n d) = (layer m c).q n d := by
  have C := vm_at m c n d
  have B := uv_at m c n
  unfold qArr
  generalize vmArr m c = v at *
  generalize uvArr m c = w at *
  pointwise
  rw [C, B]
  rfl

theorem y_at (n : Fin 4096) (d : Fin 1024) : yArr m c (ix2 n d) = (layer m c).y n d := by
  pointwise [yArr]
  simp only [q_at]
  rfl

theorem out_at (n : Fin 4096) (d : Fin 1024) : outArr m c (ix2 n d) = (layer m c).out n d := by
  pointwise [outArr]
  rw [y_at]
  rfl

end Cert.GatingRefIdeal.Spec

namespace Cert.GatingIdeal.Value
open Cert.GatingIdeal Cert.GatingIdeal.Gen Cert.GatingSpec
variable (m : (ℓ : Loc nD τ sig) → Buf (Elt Ideal) ℓ) (c : Dev nD)
  (W : (ℓ : Loc Cert.GatingRefIdeal.nD Cert.GatingRefIdeal.τ Cert.GatingRefIdeal.sig) → Buf (Elt Ideal) ℓ)
  (c' : Dev Cert.GatingRefIdeal.nD)

/-- The reference starts from the kernel's arguments. -/
structure SameArgs : Prop where
  a0 : W ((c'.tc : Thread Cert.GatingRefIdeal.nD Cert.GatingRefIdeal.τ).loc Cert.GatingRefIdeal.main_arg0) = m ((c.tc : Thread nD τ).loc main_arg0)
  a1 : W ((c'.tc : Thread Cert.GatingRefIdeal.nD Cert.GatingRefIdeal.τ).loc Cert.GatingRefIdeal.main_arg1) = m ((c.tc : Thread nD τ).loc main_arg1)
  a2 : W ((c'.tc : Thread Cert.GatingRefIdeal.nD Cert.GatingRefIdeal.τ).loc Cert.GatingRefIdeal.main_arg2) = m ((c.tc : Thread nD τ).loc main_arg2)
  a4 : W ((c'.tc : Thread Cert.GatingRefIdeal.nD Cert.GatingRefIdeal.τ).loc Cert.GatingRefIdeal.main_arg4) = m ((c.tc : Thread nD τ).loc main_arg4)
  a5 : W ((c'.tc : Thread Cert.GatingRefIdeal.nD Cert.GatingRefIdeal.τ).loc Cert.GatingRefIdeal.main_arg5) = m ((c.tc : Thread nD τ).loc main_arg5)
  a6 : W ((c'.tc : Thread Cert.GatingRefIdeal.nD Cert.GatingRefIdeal.τ).loc Cert.GatingRefIdeal.main_arg6) = m ((c.tc : Thread nD τ).loc main_arg6)
  a7 : W ((c'.tc : Thread Cert.GatingRefIdeal.nD Cert.GatingRefIdeal.τ).loc Cert.GatingRefIdeal.main_arg7) = m ((c.tc : Thread nD τ).loc main_arg7)
  a8 : W ((c'.tc : Thread Cert.GatingRefIdeal.nD Cert.GatingRefIdeal.τ).loc Cert.GatingRefIdeal.main_arg8) = m ((c.tc : Thread nD τ).loc main_arg8)

variable {m c W c'}

/-- The kernel's layer is the reference's. -/
theorem same_layer (s : SameArgs m c W c') : layer m c = Cert.GatingRefIdeal.Spec.layer W c' :=
  inputs_eq _ _ (fun n d => (congrFun (V_main_arg0 m c) (ix2 n d)).trans (congrFun s.a0 (ix2 n d)).symm)
    (fun d => (pv_norm m c 6 rfl d).trans (congrFun s.a2 (ix2 2 d)).symm)
    (fun d => (pv_rows m c 1 (by decide) d).trans (congrFun s.a1 (ix3 2 1 d)).symm)
    (fun d => (pv_rows m c 0 (by decide) d).trans (congrFun s.a1 (ix3 2 0 d)).symm)
    (fun d => (pv_rows m c 2 (by decide) d).trans (congrFun s.a1 (ix3 2 2 d)).symm)
    (fun a j => (wi_at m c a j).trans (congrFun s.a4 (ix2 a j)).symm)
    (fun d => (vgain_at m c d).trans (congrFun s.a5 (ix1 d)).symm)
    (fun k a b => (congrFun (V_main_arg6 m c) (ix3 k a b)).trans (congrFun s.a6 (ix3 k a b)).symm)
    (fun k a => (bias_at m c a k).trans (congrFun s.a7 (ix2 k a)).symm)
    (fun a b => (wo_at m c a b).trans (congrFun s.a8 (ix2 a b)).symm)

end Cert.GatingIdeal.Value

namespace Cert.Proof

/-- The reference's host operations leave its arguments unchanged, and it declares no semaphore. -/
theorem frame_reference_Gating : Cert.quiescent_GatingRefIdeal := fun m ρ _ =>
  (θ_run Cert.GatingRefIdeal.defs _ _).mono
    (fun r h => ⟨fun c => (h c).2.2.2.2.2.2, sem_eq_zero_of_no_sems (by decide) r.2⟩)
    (Cert.GatingRefIdeal.Value.run (F := Ideal) m ρ)

/-- From the same arguments the kernel and the reference end with the same six results. -/
theorem algebraic_Gating : Cert.algebraic_GatingIdeal_GatingRefIdeal := by
  intro m g m' g' _ he
  have hs : ∀ c, Cert.GatingIdeal.Value.SameArgs m c m' c := fun c =>
    ⟨(he c).1, (he c).2.1, (he c).2.2.1, (he c).2.2.2.2.1, (he c).2.2.2.2.2.1, (he c).2.2.2.2.2.2.1, (he c).2.2.2.2.2.2.2.1, (he c).2.2.2.2.2.2.2.2⟩
  refine ⟨fun c i => (Cert.GatingIdeal.Value.layer m c).out (i 0) (i 1), fun c i => (Cert.GatingIdeal.Value.layer m c).h (i 0) (i 1), fun c i => (Cert.GatingIdeal.Value.layer m c).uv (i 0) (i 1), fun c i => (Cert.GatingIdeal.Value.layer m c).vm (i 0) (i 1), fun c i => (Cert.GatingIdeal.Value.layer m c).q (i 0) (i 1), fun c i => (Cert.GatingIdeal.Value.layer m c).y (i 0) (i 1), ?_, ?_⟩
  · refine (θ_run Cert.GatingIdeal.defs _ _).mono (fun r h c => ?_) (Cert.GatingIdeal.Value.run_blocks (F := Ideal) m g)
    obtain ⟨h0, h1, h2, h3, h4, h5, ha⟩ := h c
    exact ⟨h0.trans (Cert.GatingIdeal.Value.array7 m c), h1.trans (Cert.GatingIdeal.Value.array8 m c), h2.trans (Cert.GatingIdeal.Value.array9 m c), h3.trans (Cert.GatingIdeal.Value.array10 m c), h4.trans (Cert.GatingIdeal.Value.array11 m c), h5.trans (Cert.GatingIdeal.Value.array12 m c), ha⟩
  · refine (θ_run Cert.GatingRefIdeal.defs _ _).mono (fun r h c => ?_) (Cert.GatingRefIdeal.Value.run (F := Ideal) m' g')
    obtain ⟨h0, h1, h2, h3, h4, h5, ha⟩ := h c
    have e := Cert.GatingIdeal.Value.same_layer (hs c)
    refine ⟨h0.trans (funext fun i => ?_), h1.trans (funext fun i => ?_), h2.trans (funext fun i => ?_), h3.trans (funext fun i => ?_), h4.trans (funext fun i => ?_), h5.trans (funext fun i => ?_), ha⟩
    · exact (congrArg (Cert.GatingRefIdeal.Spec.outArr m' c) (eq_ix2 i)).trans ((Cert.GatingRefIdeal.Spec.out_at m' c (i 0) (i 1)).trans (congrArg (fun L => Cert.GatingSpec.Inputs.out L (i 0) (i 1)) e.symm))
    · exact (congrArg (Cert.GatingRefIdeal.Spec.hArr m' c) (eq_ix2 i)).trans ((Cert.GatingRefIdeal.Spec.h_at m' c (i 0) (i 1)).trans (congrArg (fun L => Cert.GatingSpec.Inputs.h L (i 0) (i 1)) e.symm))
    · exact (congrArg (Cert.GatingRefIdeal.Spec.uvArr m' c) (eq_ix2 i)).trans ((Cert.GatingRefIdeal.Spec.uv_at m' c (i 0) (i 1)).trans (congrArg (fun L => Cert.GatingSpec.Inputs.uv L (i 0) (i 1)) e.symm))
    · exact (congrArg (Cert.GatingRefIdeal.Spec.vmArr m' c) (eq_ix2 i)).trans ((Cert.GatingRefIdeal.Spec.vm_at m' c (i 0) (i 1)).trans (congrArg (fun L => Cert.GatingSpec.Inputs.vm L (i 0) (i 1)) e.symm))
    · exact (congrArg (Cert.GatingRefIdeal.Spec.qArr m' c) (eq_ix2 i)).trans ((Cert.GatingRefIdeal.Spec.q_at m' c (i 0) (i 1)).trans (congrArg (fun L => Cert.GatingSpec.Inputs.q L (i 0) (i 1)) e.symm))
    · exact (congrArg (Cert.GatingRefIdeal.Spec.yArr m' c) (eq_ix2 i)).trans ((Cert.GatingRefIdeal.Spec.y_at m' c (i 0) (i 1)).trans (congrArg (fun L => Cert.GatingSpec.Inputs.y L (i 0) (i 1)) e.symm))

end Cert.Proof

end
-- ==== Proof.lean ====
/- The backward calls of the short convolution and of the feed-forward blocks, the forward calls of the feed-forward blocks and
   the weight-gradient products compute what the references state. -/
module

public import proofs.«01_k».proof.Defs
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.GateIn.Frame
public import proofs.«01_k».proof.Proof.Gen.GateInIdeal.Frame
public import proofs.«01_k».proof.Proof.Gen.GateInIdeal.Value
public import proofs.«01_k».proof.Proof.Gen.GateInRefIdeal
public import proofs.«01_k».proof.Proof.Gen.GateInRefIdeal.Run
public import proofs.«01_k».proof.Proof.Gen.Square.Frame
public import proofs.«01_k».proof.Proof.Gen.SquareIdeal.Frame
public import proofs.«01_k».proof.Proof.Gen.SquareIdeal.Value
public import proofs.«01_k».proof.Proof.Gen.SquareRefIdeal
public import proofs.«01_k».proof.Proof.Gen.SquareRefIdeal.Run
public import proofs.«01_k».proof.Proof.Gen.Ffn0.Frame
public import proofs.«01_k».proof.Proof.Gen.Ffn0Ideal.Frame
public import proofs.«01_k».proof.Proof.Gen.Ffn0Ideal.Value
public import proofs.«01_k».proof.Proof.Gen.Ffn0RefIdeal
public import proofs.«01_k».proof.Proof.Gen.Ffn0RefIdeal.Run
public import proofs.«01_k».proof.Proof.Gen.Ffn1.Frame
public import proofs.«01_k».proof.Proof.Gen.Ffn1Ideal.Frame
public import proofs.«01_k».proof.Proof.Gen.Ffn1Ideal.Value
public import proofs.«01_k».proof.Proof.Gen.Ffn1RefIdeal
public import proofs.«01_k».proof.Proof.Gen.Ffn1RefIdeal.Run
public import proofs.«01_k».proof.Proof.Gen.Ffn2.Frame
public import proofs.«01_k».proof.Proof.Gen.Ffn2Ideal.Frame
public import proofs.«01_k».proof.Proof.Gen.Ffn2Ideal.Value
public import proofs.«01_k».proof.Proof.Gen.Ffn2RefIdeal
public import proofs.«01_k».proof.Proof.Gen.Ffn2RefIdeal.Run
public import proofs.«01_k».proof.Proof.Gen.Ffn3.Frame
public import proofs.«01_k».proof.Proof.Gen.Ffn3Ideal.Frame
public import proofs.«01_k».proof.Proof.Gen.Ffn3Ideal.Value
public import proofs.«01_k».proof.Proof.Gen.Ffn3RefIdeal
public import proofs.«01_k».proof.Proof.Gen.Ffn3RefIdeal.Run
public import proofs.«01_k».proof.Proof.Gen.Fwd0.Frame
public import proofs.«01_k».proof.Proof.Gen.Fwd0Ideal.Frame
public import proofs.«01_k».proof.Proof.Gen.Fwd0Ideal.Value
public import proofs.«01_k».proof.Proof.Gen.Fwd0RefIdeal
public import proofs.«01_k».proof.Proof.Gen.Fwd0RefIdeal.Run
public import proofs.«01_k».proof.Proof.Gen.Fwd1.Frame
public import proofs.«01_k».proof.Proof.Gen.Fwd1Ideal.Frame
public import proofs.«01_k».proof.Proof.Gen.Fwd1Ideal.Value
public import proofs.«01_k».proof.Proof.Gen.Fwd1RefIdeal
public import proofs.«01_k».proof.Proof.Gen.Fwd1RefIdeal.Run
public import proofs.«01_k».proof.Proof.Gen.Fwd2.Frame
public import proofs.«01_k».proof.Proof.Gen.Fwd2Ideal.Frame
public import proofs.«01_k».proof.Proof.Gen.Fwd2Ideal.Value
public import proofs.«01_k».proof.Proof.Gen.Fwd2RefIdeal
public import proofs.«01_k».proof.Proof.Gen.Fwd2RefIdeal.Run
public import proofs.«01_k».proof.Proof.Gen.Fwd3.Frame
public import proofs.«01_k».proof.Proof.Gen.Fwd3Ideal.Frame
public import proofs.«01_k».proof.Proof.Gen.Fwd3Ideal.Value
public import proofs.«01_k».proof.Proof.Gen.Fwd3RefIdeal
public import proofs.«01_k».proof.Proof.Gen.Fwd3RefIdeal.Run
public import proofs.«01_k».proof.Proof.Gen.Conv0.Frame
public import proofs.«01_k».proof.Proof.Gen.Conv0Ideal.Frame
public import proofs.«01_k».proof.Proof.Gen.Conv0Ideal.Value
public import proofs.«01_k».proof.Proof.Gen.Conv0RefIdeal
public import proofs.«01_k».proof.Proof.Gen.Conv0RefIdeal.Run
public import proofs.«01_k».proof.Proof.Gen.Mix0.Frame
public import proofs.«01_k».proof.Proof.Gen.Mix0Ideal.Frame
public import proofs.«01_k».proof.Proof.Gen.Mix0Ideal.Value
public import proofs.«01_k».proof.Proof.Gen.Mix0RefIdeal
public import proofs.«01_k».proof.Proof.Gen.Mix0RefIdeal.Run
public import proofs.«01_k».proof.Proof.Gen.Mix3.Frame
public import proofs.«01_k».proof.Proof.Gen.Mix3Ideal.Frame
public import proofs.«01_k».proof.Proof.Gen.Mix3Ideal.Value
public import proofs.«01_k».proof.Proof.Gen.Mix3RefIdeal
public import proofs.«01_k».proof.Proof.Gen.Mix3RefIdeal.Run
public import proofs.«01_k».proof.Proof.Gen.Gating.Frame
public import proofs.«01_k».proof.Proof.Gen.GatingIdeal.Frame
public import proofs.«01_k».proof.Proof.Gen.GatingIdeal.Value
public import proofs.«01_k».proof.Proof.Gen.GatingRefIdeal
public import proofs.«01_k».proof.Proof.Gen.GatingRefIdeal.Run
public import Idealize.ShloMosaic.Adequacy
public import Idealize.ShloMosaic.Init
public import Idealize.ShloMosaic.Lib.Claim
public import proofs.«01_k».proof.Proof.ConvHost
public import proofs.«01_k».proof.Proof.ConvOut
public import proofs.«01_k».proof.Proof.WeightUp
public import proofs.«01_k».proof.Proof.WeightDown
public import proofs.«01_k».proof.Proof.WeightConvIn
public import proofs.«01_k».proof.Proof.WeightGateIn
public import proofs.«01_k».proof.Proof.WeightSquare
public import proofs.«01_k».proof.Proof.Ffn0Host
public import proofs.«01_k».proof.Proof.Ffn1Host
public import proofs.«01_k».proof.Proof.Ffn2Host
public import proofs.«01_k».proof.Proof.Ffn3Host
public import proofs.«01_k».proof.Proof.Fwd0Ref
public import proofs.«01_k».proof.Proof.Fwd1Ref
public import proofs.«01_k».proof.Proof.Fwd2Ref
public import proofs.«01_k».proof.Proof.Fwd3Ref
public import proofs.«01_k».proof.Proof.Conv0Claim
public import proofs.«01_k».proof.Proof.Mix0Ref
public import proofs.«01_k».proof.Proof.Mix3Ref
public import proofs.«01_k».proof.Proof.GatingRef

@[expose] public section

noncomputable section

namespace Cert.Proof

open Idealize.ShloMosaic Idealize.SL.Sem

/-- The reference's host operations leave its arguments unchanged, and it declares no semaphore. -/
theorem frame_reference : Cert.quiescent_ConvRefIdeal := fun m ρ _ =>
  (θ_run Cert.ConvRefIdeal.defs _ _).mono
    (fun r h => ⟨fun c => (h c).2.2.2.2, sem_eq_zero_of_no_sems (by decide) r.2⟩)
    (Cert.ConvRefIdeal.Value.run (F := Ideal) m ρ)

/-- From the same arguments the kernel and the reference end with the same four results. -/
theorem algebraic : Cert.algebraic_ConvIdeal_ConvRefIdeal := by
  intro m g m' g' _ he
  have hs : ∀ c, Cert.ConvIdeal.Value.SameArgs m c (StableHlo.launchContents m' c) := fun c =>
    ⟨(he c).1, (he c).2.1, (he c).2.2.1, (he c).2.2.2.1, (he c).2.2.2.2.2.1, (he c).2.2.2.2.2.2.1, (he c).2.2.2.2.2.2.2.1, (he c).2.2.2.2.2.2.2.2⟩
  refine ⟨fun c i => (Cert.ConvIdeal.Value.layer m c).dx (i 0) (i 1), fun c i => (Cert.ConvIdeal.Value.layer m c).dbcx (i 0) (i 1),
    fun c i => (Cert.ConvIdeal.Value.layer m c).dy (i 0) (i 1), fun c i => (Cert.ConvIdeal.Value.layer m c).rows (i 0) (i 1), ?_, ?_⟩
  · refine (θ_run Cert.ConvIdeal.defs _ _).mono (fun r h c => ?_) (Cert.ConvIdeal.Value.run_blocks (F := Ideal) m g)
    obtain ⟨h0, h1, h2, h3, ha⟩ := h c
    exact ⟨h0.trans (Cert.ConvIdeal.Value.final10 m c), h1.trans (Cert.ConvIdeal.Value.final11 m c),
      h2.trans (Cert.ConvIdeal.Value.final12 m c), h3.trans (Cert.ConvIdeal.Value.final13 m c), ha⟩
  · refine (θ_run Cert.ConvRefIdeal.defs _ _).mono (fun r h c => ?_) (Cert.ConvRefIdeal.Value.run (F := Ideal) m' g')
    obtain ⟨h0, h1, h2, h3, ha⟩ := h c
    have e := Cert.ConvIdeal.Value.same_layer (hs c)
    refine ⟨h0.trans (funext fun i => ?_), h1.trans (funext fun i => ?_), h2.trans (funext fun i => ?_), h3.trans (funext fun i => ?_), ha⟩
    · exact (congrArg _ (eq_ix2 i)).trans ((Cert.ConvRefIdeal.Spec.dx_at _ _ (i 0) (i 1)).trans (congrArg (fun L => Cert.ConvSpec.Layer.dx L (i 0) (i 1)) e.symm))
    · exact (congrArg _ (eq_ix2 i)).trans ((Cert.ConvRefIdeal.Spec.dbcx_at _ (i 0) (i 1)).trans (congrArg (fun L => Cert.ConvSpec.Layer.dbcx L (i 0) (i 1)) e.symm))
    · exact (congrArg _ (eq_ix2 i)).trans ((Cert.ConvRefIdeal.Spec.dy_at _ (i 0) (i 1)).trans (congrArg (fun L => Cert.ConvSpec.Layer.dy L (i 0) (i 1)) e.symm))
    · exact (congrArg _ (eq_ix2 i)).trans ((Cert.ConvRefIdeal.Spec.rows_at _ (i 0) (i 1)).trans (congrArg (fun L => Cert.ConvSpec.Layer.rows L (i 0) (i 1)) e.symm))

/-- Each kernel at both readings and its reference run to the end and leave their arguments unchanged; the idealized
    kernels rewrite nothing; and each kernel's results are its reference's. -/
theorem claim : Cert.Claim :=
  ⟨Cert.Conv.Gen.facts, Cert.ConvIdeal.Gen.facts, Cert.ConvRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.ConvIn.Gen.facts, Cert.ConvInIdeal.Gen.facts, Cert.ConvInRefIdeal.Gen.facts,
    Cert.GateIn.Gen.facts, Cert.GateInIdeal.Gen.facts, Cert.GateInRefIdeal.Gen.facts,
    Cert.Square.Gen.facts, Cert.SquareIdeal.Gen.facts, Cert.SquareRefIdeal.Gen.facts,
    Cert.Ffn0.Gen.facts, Cert.Ffn0Ideal.Gen.facts, Cert.Ffn0RefIdeal.Gen.facts,
    Cert.Ffn1.Gen.facts, Cert.Ffn1Ideal.Gen.facts, Cert.Ffn1RefIdeal.Gen.facts,
    Cert.Ffn2.Gen.facts, Cert.Ffn2Ideal.Gen.facts, Cert.Ffn2RefIdeal.Gen.facts,
    Cert.Ffn3.Gen.facts, Cert.Ffn3Ideal.Gen.facts, Cert.Ffn3RefIdeal.Gen.facts,
    Cert.Fwd0.Gen.facts, Cert.Fwd0Ideal.Gen.facts, Cert.Fwd0RefIdeal.Gen.facts,
    Cert.Fwd1.Gen.facts, Cert.Fwd1Ideal.Gen.facts, Cert.Fwd1RefIdeal.Gen.facts,
    Cert.Fwd2.Gen.facts, Cert.Fwd2Ideal.Gen.facts, Cert.Fwd2RefIdeal.Gen.facts,
    Cert.Fwd3.Gen.facts, Cert.Fwd3Ideal.Gen.facts, Cert.Fwd3RefIdeal.Gen.facts,
    Cert.Conv0.Gen.facts, Cert.Conv0Ideal.Gen.facts, Cert.Conv0RefIdeal.Gen.facts,
    Cert.Mix0.Gen.facts, Cert.Mix0Ideal.Gen.facts, Cert.Mix0RefIdeal.Gen.facts,
    Cert.Mix3.Gen.facts, Cert.Mix3Ideal.Gen.facts, Cert.Mix3RefIdeal.Gen.facts,
    Cert.Gating.Gen.facts, Cert.GatingIdeal.Gen.facts, Cert.GatingRefIdeal.Gen.facts,
    fun m ρ _ => Cert.Conv.Gen.frame m ρ, fun m ρ _ => Cert.ConvIdeal.Gen.frame m ρ, frame_reference,
    fun m ρ _ => Cert.Up.Gen.frame m ρ, fun m ρ _ => Cert.UpIdeal.Gen.frame m ρ, frame_reference_Up,
    fun m ρ _ => Cert.Down.Gen.frame m ρ, fun m ρ _ => Cert.DownIdeal.Gen.frame m ρ, frame_reference_Down,
    fun m ρ _ => Cert.ConvIn.Gen.frame m ρ, fun m ρ _ => Cert.ConvInIdeal.Gen.frame m ρ, frame_reference_ConvIn,
    fun m ρ _ => Cert.GateIn.Gen.frame m ρ, fun m ρ _ => Cert.GateInIdeal.Gen.frame m ρ, frame_reference_GateIn,
    fun m ρ _ => Cert.Square.Gen.frame m ρ, fun m ρ _ => Cert.SquareIdeal.Gen.frame m ρ, frame_reference_Square,
    fun m ρ _ => Cert.Ffn0.Gen.frame m ρ, fun m ρ _ => Cert.Ffn0Ideal.Gen.frame m ρ, frame_reference_Ffn0,
    fun m ρ _ => Cert.Ffn1.Gen.frame m ρ, fun m ρ _ => Cert.Ffn1Ideal.Gen.frame m ρ, frame_reference_Ffn1,
    fun m ρ _ => Cert.Ffn2.Gen.frame m ρ, fun m ρ _ => Cert.Ffn2Ideal.Gen.frame m ρ, frame_reference_Ffn2,
    fun m ρ _ => Cert.Ffn3.Gen.frame m ρ, fun m ρ _ => Cert.Ffn3Ideal.Gen.frame m ρ, frame_reference_Ffn3,
    fun m ρ _ => Cert.Fwd0.Gen.frame m ρ, fun m ρ _ => Cert.Fwd0Ideal.Gen.frame m ρ, frame_reference_Fwd0,
    fun m ρ _ => Cert.Fwd1.Gen.frame m ρ, fun m ρ _ => Cert.Fwd1Ideal.Gen.frame m ρ, frame_reference_Fwd1,
    fun m ρ _ => Cert.Fwd2.Gen.frame m ρ, fun m ρ _ => Cert.Fwd2Ideal.Gen.frame m ρ, frame_reference_Fwd2,
    fun m ρ _ => Cert.Fwd3.Gen.frame m ρ, fun m ρ _ => Cert.Fwd3Ideal.Gen.frame m ρ, frame_reference_Fwd3,
    fun m ρ _ => Cert.Conv0.Gen.frame m ρ, fun m ρ _ => Cert.Conv0Ideal.Gen.frame m ρ, frame_reference_Conv0,
    fun m ρ _ => Cert.Mix0.Gen.frame m ρ, fun m ρ _ => Cert.Mix0Ideal.Gen.frame m ρ, frame_reference_Mix0,
    fun m ρ _ => Cert.Mix3.Gen.frame m ρ, fun m ρ _ => Cert.Mix3Ideal.Gen.frame m ρ, frame_reference_Mix3,
    fun m ρ _ => Cert.Gating.Gen.frame m ρ, fun m ρ _ => Cert.GatingIdeal.Gen.frame m ρ, frame_reference_Gating,
    trivial, algebraic,
    trivial, algebraic_Up,
    trivial, algebraic_Down,
    trivial, algebraic_ConvIn,
    trivial, algebraic_GateIn,
    trivial, algebraic_Square,
    trivial, algebraic_Ffn0,
    trivial, algebraic_Ffn1,
    trivial, algebraic_Ffn2,
    trivial, algebraic_Ffn3,
    trivial, algebraic_Fwd0,
    trivial, algebraic_Fwd1,
    trivial, algebraic_Fwd2,
    trivial, algebraic_Fwd3,
    trivial, algebraic_Conv0,
    trivial, algebraic_Mix0,
    trivial, algebraic_Mix3,
    trivial, algebraic_Gating⟩

end Cert.Proof

end
